-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S32x32x512 : Shape := ⟨3, ![32, 32, 512]⟩
abbrev S32x2 : Shape := ⟨2, ![32, 2]⟩
abbrev S_ : Shape := ⟨0, ![]⟩
abbrev S1x1 : Shape := ⟨2, ![1, 1]⟩
abbrev S1x16x512 : Shape := ⟨3, ![1, 16, 512]⟩
abbrev S16x512 : Shape := ⟨2, ![16, 512]⟩
abbrev S32x16x512 : Shape := ⟨3, ![32, 16, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S32x32x512, .bf16⟩
  | .local _ .vmem, ⟨4, _⟩ => ⟨S1024x512, .bf16⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 258 → Bool
  | ⟨i, _⟩ => dmaSemScopedAt i

abbrev sig : RefSig :=
  (ofTc nBuf bufTy 3 258 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c1_i32_651 : BitVec 32 := 1#32
  let v1234 : BitVec 32 := Scalar.muli v60 c1_i32_651
  let v1235 : BitVec 32 := Scalar.addi c0_i32_652 v1234
  v1235.toNat
def k0_dev2 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32 : BitVec 32 := 2#32
  let v61 : BitVec 32 := Scalar.addi v30 c2_i32
  let c4_i32_26 : BitVec 32 := 4#32
  let c0_i32_27 : BitVec 32 := 0#32
  let v62 : BitVec 1 := Scalar.cmpi .eq c4_i32_26 c0_i32_27
  let c1_i32_28 : BitVec 32 := 1#32
  let v63 : BitVec 32 := Scalar.select v62 c1_i32_28 c4_i32_26
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.addi v20 v71
  let c1_i32_654 : BitVec 32 := 1#32
  let v1236 : BitVec 32 := Scalar.muli v72 c1_i32_654
  let v1237 : BitVec 32 := Scalar.addi c0_i32_655 v1236
  v1237.toNat
def k0_dev3 (d0 : Dev nD) : Nat :=
  let c0_i32_658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32 : BitVec 32 := 3#32
  let v73 : BitVec 32 := Scalar.addi v30 c3_i32
  let c4_i32_32 : BitVec 32 := 4#32
  let c0_i32_33 : BitVec 32 := 0#32
  let v74 : BitVec 1 := Scalar.cmpi .eq c4_i32_32 c0_i32_33
  let c1_i32_34 : BitVec 32 := 1#32
  let v75 : BitVec 32 := Scalar.select v74 c1_i32_34 c4_i32_32
  let v76 : BitVec 32 := Scalar.remsi v73 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.addi v20 v83
  let c1_i32_657 : BitVec 32 := 1#32
  let v1238 : BitVec 32 := Scalar.muli v84 c1_i32_657
  let v1239 : BitVec 32 := Scalar.addi c0_i32_658 v1238
  v1239.toNat
def k0_off1 (d0 : Dev nD) (c1_i32_19 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c0_i32_666 : BitVec 32 := 0#32
  ![v60.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_665 : BitVec 32 := 0#32
  ![v2.toNat, 0]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_669 : BitVec 32 := 0#32
  let c0_i32_670 : BitVec 32 := 0#32
  ![v2.toNat, 0, 0]
def k0_off4 (d0 : Dev nD) (c1_i32_19 : BitVec 32) (c0_i32_664 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c32_i32_663 : BitVec 32 := 32#32
  let v1246 : BitVec 32 := Scalar.muli v60 c32_i32_663
  let v1247 : BitVec 32 := Scalar.addi v1246 c0_i32_664
  let c0_i32_671 : BitVec 32 := 0#32
  ![v1247.toNat, 0]
def k0_dev4 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c1_i32_667 : BitVec 32 := 1#32
  let v1248 : BitVec 32 := Scalar.muli v60 c1_i32_667
  let v1249 : BitVec 32 := Scalar.addi c0_i32_668 v1248
  v1249.toNat
def k0_dev5 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32 : BitVec 32 := 2#32
  let v61 : BitVec 32 := Scalar.addi v30 c2_i32
  let c4_i32_26 : BitVec 32 := 4#32
  let c0_i32_27 : BitVec 32 := 0#32
  let v62 : BitVec 1 := Scalar.cmpi .eq c4_i32_26 c0_i32_27
  let c1_i32_28 : BitVec 32 := 1#32
  let v63 : BitVec 32 := Scalar.select v62 c1_i32_28 c4_i32_26
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.addi v20 v71
  let c1_i32_676 : BitVec 32 := 1#32
  let v1259 : BitVec 32 := Scalar.muli v72 c1_i32_676
  let v1260 : BitVec 32 := Scalar.addi c0_i32_677 v1259
  v1260.toNat
def k0_dev6 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32 : BitVec 32 := 3#32
  let v73 : BitVec 32 := Scalar.addi v30 c3_i32
  let c4_i32_32 : BitVec 32 := 4#32
  let c0_i32_33 : BitVec 32 := 0#32
  let v74 : BitVec 1 := Scalar.cmpi .eq c4_i32_32 c0_i32_33
  let c1_i32_34 : BitVec 32 := 1#32
  let v75 : BitVec 32 := Scalar.select v74 c1_i32_34 c4_i32_32
  let v76 : BitVec 32 := Scalar.remsi v73 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.addi v20 v83
  let c1_i32_685 : BitVec 32 := 1#32
  let v1270 : BitVec 32 := Scalar.muli v84 c1_i32_685
  let v1271 : BitVec 32 := Scalar.addi c0_i32_686 v1270
  v1271.toNat
def k0_off5 (d0 : Dev nD) (c1_i32_19 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c1_i32_693 : BitVec 32 := 1#32
  ![v60.toNat, 1]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_692 : BitVec 32 := 1#32
  ![v2.toNat, 1]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_696 : BitVec 32 := 16#32
  let c0_i32_697 : BitVec 32 := 0#32
  ![v2.toNat, 16, 0]
def k0_dev7 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c1_i32_694 : BitVec 32 := 1#32
  let v1281 : BitVec 32 := Scalar.muli v60 c1_i32_694
  let v1282 : BitVec 32 := Scalar.addi c0_i32_695 v1281
  v1282.toNat
def k0_dev8 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32 : BitVec 32 := 2#32
  let v61 : BitVec 32 := Scalar.addi v30 c2_i32
  let c4_i32_26 : BitVec 32 := 4#32
  let c0_i32_27 : BitVec 32 := 0#32
  let v62 : BitVec 1 := Scalar.cmpi .eq c4_i32_26 c0_i32_27
  let c1_i32_28 : BitVec 32 := 1#32
  let v63 : BitVec 32 := Scalar.select v62 c1_i32_28 c4_i32_26
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.addi v20 v71
  let c1_i32_703 : BitVec 32 := 1#32
  let v1292 : BitVec 32 := Scalar.muli v72 c1_i32_703
  let v1293 : BitVec 32 := Scalar.addi c0_i32_704 v1292
  v1293.toNat
def k0_dev9 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32 : BitVec 32 := 3#32
  let v73 : BitVec 32 := Scalar.addi v30 c3_i32
  let c4_i32_32 : BitVec 32 := 4#32
  let c0_i32_33 : BitVec 32 := 0#32
  let v74 : BitVec 1 := Scalar.cmpi .eq c4_i32_32 c0_i32_33
  let c1_i32_34 : BitVec 32 := 1#32
  let v75 : BitVec 32 := Scalar.select v74 c1_i32_34 c4_i32_32
  let v76 : BitVec 32 := Scalar.remsi v73 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.addi v20 v83
  let c1_i32_712 : BitVec 32 := 1#32
  let v1303 : BitVec 32 := Scalar.muli v84 c1_i32_712
  let v1304 : BitVec 32 := Scalar.addi c0_i32_713 v1303
  v1304.toNat
def k0_dev10 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_12 : BitVec 32 := 0#32
  let v32 : BitVec 1 := Scalar.cmpi .sgt v2 c0_i32_12
  let v33 : BitVec 32 := Scalar.extui v32
  let c0_i32_13 : BitVec 32 := 0#32
  let v34 : BitVec 1 := Scalar.cmpi .slt v2 c0_i32_13
  let v35 : BitVec 32 := Scalar.extui v34
  let v36 : BitVec 32 := Scalar.subi v33 v35
  let c16_i32 : BitVec 32 := 16#32
  let c0_i32_14 : BitVec 32 := 0#32
  let v37 : BitVec 1 := Scalar.cmpi .sgt c16_i32 c0_i32_14
  let v38 : BitVec 32 := Scalar.extui v37
  let c0_i32_15 : BitVec 32 := 0#32
  let v39 : BitVec 1 := Scalar.cmpi .slt c16_i32 c0_i32_15
  let v40 : BitVec 32 := Scalar.extui v39
  let v41 : BitVec 32 := Scalar.subi v38 v40
  let v42 : BitVec 1 := Scalar.cmpi .ne v36 v41
  let v43 : BitVec 32 := Scalar.remsi v2 c16_i32
  let c0_i32_16 : BitVec 32 := 0#32
  let v44 : BitVec 1 := Scalar.cmpi .ne v43 c0_i32_16
  let v45 : BitVec 1 := Scalar.andi v42 v44
  let v31 : BitVec 32 := Scalar.divsi v2 c16_i32
  let c1_i32_17 : BitVec 32 := 1#32
  let v46 : BitVec 32 := Scalar.subi v31 c1_i32_17
  let v47 : BitVec 32 := Scalar.select v45 v46 v31
  let c16_i32_18 : BitVec 32 := 16#32
  let v48 : BitVec 32 := Scalar.muli v47 c16_i32_18
  let c4_i32_717 : BitVec 32 := 4#32
  let v1312 : BitVec 32 := Scalar.addi v2 c4_i32_717
  let c16_i32_718 : BitVec 32 := 16#32
  let c0_i32_719 : BitVec 32 := 0#32
  let v1313 : BitVec 1 := Scalar.cmpi .eq c16_i32_718 c0_i32_719
  let c1_i32_720 : BitVec 32 := 1#32
  let v1314 : BitVec 32 := Scalar.select v1313 c1_i32_720 c16_i32_718
  let v1315 : BitVec 32 := Scalar.remsi v1312 v1314
  let c0_i32_722 : BitVec 32 := 0#32
  let v1317 : BitVec 1 := Scalar.cmpi .slt v1315 c0_i32_722
  let c0_i32_723 : BitVec 32 := 0#32
  let v1318 : BitVec 1 := Scalar.cmpi .slt v1314 c0_i32_723
  let v1319 : BitVec 1 := Scalar.xori v1317 v1318
  let c0_i32_721 : BitVec 32 := 0#32
  let v1316 : BitVec 1 := Scalar.cmpi .ne v1315 c0_i32_721
  let v1320 : BitVec 1 := Scalar.andi v1319 v1316
  let v1321 : BitVec 32 := Scalar.addi v1315 v1314
  let v1322 : BitVec 32 := Scalar.select v1320 v1321 v1315
  let v1323 : BitVec 32 := Scalar.addi v48 v1322
  let c1_i32_725 : BitVec 32 := 1#32
  let v1324 : BitVec 32 := Scalar.muli v1323 c1_i32_725
  let v1325 : BitVec 32 := Scalar.addi c0_i32_726 v1324
  v1325.toNat
def k0_dev11 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_12 : BitVec 32 := 0#32
  let v32 : BitVec 1 := Scalar.cmpi .sgt v2 c0_i32_12
  let v33 : BitVec 32 := Scalar.extui v32
  let c0_i32_13 : BitVec 32 := 0#32
  let v34 : BitVec 1 := Scalar.cmpi .slt v2 c0_i32_13
  let v35 : BitVec 32 := Scalar.extui v34
  let v36 : BitVec 32 := Scalar.subi v33 v35
  let c16_i32 : BitVec 32 := 16#32
  let c0_i32_14 : BitVec 32 := 0#32
  let v37 : BitVec 1 := Scalar.cmpi .sgt c16_i32 c0_i32_14
  let v38 : BitVec 32 := Scalar.extui v37
  let c0_i32_15 : BitVec 32 := 0#32
  let v39 : BitVec 1 := Scalar.cmpi .slt c16_i32 c0_i32_15
  let v40 : BitVec 32 := Scalar.extui v39
  let v41 : BitVec 32 := Scalar.subi v38 v40
  let v42 : BitVec 1 := Scalar.cmpi .ne v36 v41
  let v43 : BitVec 32 := Scalar.remsi v2 c16_i32
  let c0_i32_16 : BitVec 32 := 0#32
  let v44 : BitVec 1 := Scalar.cmpi .ne v43 c0_i32_16
  let v45 : BitVec 1 := Scalar.andi v42 v44
  let v31 : BitVec 32 := Scalar.divsi v2 c16_i32
  let c1_i32_17 : BitVec 32 := 1#32
  let v46 : BitVec 32 := Scalar.subi v31 c1_i32_17
  let v47 : BitVec 32 := Scalar.select v45 v46 v31
  let c16_i32_18 : BitVec 32 := 16#32
  let v48 : BitVec 32 := Scalar.muli v47 c16_i32_18
  let c8_i32_727 : BitVec 32 := 8#32
  let v1326 : BitVec 32 := Scalar.addi v2 c8_i32_727
  let c16_i32_728 : BitVec 32 := 16#32
  let c0_i32_729 : BitVec 32 := 0#32
  let v1327 : BitVec 1 := Scalar.cmpi .eq c16_i32_728 c0_i32_729
  let c1_i32_730 : BitVec 32 := 1#32
  let v1328 : BitVec 32 := Scalar.select v1327 c1_i32_730 c16_i32_728
  let v1329 : BitVec 32 := Scalar.remsi v1326 v1328
  let c0_i32_732 : BitVec 32 := 0#32
  let v1331 : BitVec 1 := Scalar.cmpi .slt v1329 c0_i32_732
  let c0_i32_733 : BitVec 32 := 0#32
  let v1332 : BitVec 1 := Scalar.cmpi .slt v1328 c0_i32_733
  let v1333 : BitVec 1 := Scalar.xori v1331 v1332
  let c0_i32_731 : BitVec 32 := 0#32
  let v1330 : BitVec 1 := Scalar.cmpi .ne v1329 c0_i32_731
  let v1334 : BitVec 1 := Scalar.andi v1333 v1330
  let v1335 : BitVec 32 := Scalar.addi v1329 v1328
  let v1336 : BitVec 32 := Scalar.select v1334 v1335 v1329
  let v1337 : BitVec 32 := Scalar.addi v48 v1336
  let c1_i32_735 : BitVec 32 := 1#32
  let v1338 : BitVec 32 := Scalar.muli v1337 c1_i32_735
  let v1339 : BitVec 32 := Scalar.addi c0_i32_736 v1338
  v1339.toNat
def k0_dev12 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_12 : BitVec 32 := 0#32
  let v32 : BitVec 1 := Scalar.cmpi .sgt v2 c0_i32_12
  let v33 : BitVec 32 := Scalar.extui v32
  let c0_i32_13 : BitVec 32 := 0#32
  let v34 : BitVec 1 := Scalar.cmpi .slt v2 c0_i32_13
  let v35 : BitVec 32 := Scalar.extui v34
  let v36 : BitVec 32 := Scalar.subi v33 v35
  let c16_i32 : BitVec 32 := 16#32
  let c0_i32_14 : BitVec 32 := 0#32
  let v37 : BitVec 1 := Scalar.cmpi .sgt c16_i32 c0_i32_14
  let v38 : BitVec 32 := Scalar.extui v37
  let c0_i32_15 : BitVec 32 := 0#32
  let v39 : BitVec 1 := Scalar.cmpi .slt c16_i32 c0_i32_15
  let v40 : BitVec 32 := Scalar.extui v39
  let v41 : BitVec 32 := Scalar.subi v38 v40
  let v42 : BitVec 1 := Scalar.cmpi .ne v36 v41
  let v43 : BitVec 32 := Scalar.remsi v2 c16_i32
  let c0_i32_16 : BitVec 32 := 0#32
  let v44 : BitVec 1 := Scalar.cmpi .ne v43 c0_i32_16
  let v45 : BitVec 1 := Scalar.andi v42 v44
  let v31 : BitVec 32 := Scalar.divsi v2 c16_i32
  let c1_i32_17 : BitVec 32 := 1#32
  let v46 : BitVec 32 := Scalar.subi v31 c1_i32_17
  let v47 : BitVec 32 := Scalar.select v45 v46 v31
  let c16_i32_18 : BitVec 32 := 16#32
  let v48 : BitVec 32 := Scalar.muli v47 c16_i32_18
  let c12_i32 : BitVec 32 := 12#32
  let v1340 : BitVec 32 := Scalar.addi v2 c12_i32
  let c16_i32_737 : BitVec 32 := 16#32
  let c0_i32_738 : BitVec 32 := 0#32
  let v1341 : BitVec 1 := Scalar.cmpi .eq c16_i32_737 c0_i32_738
  let c1_i32_739 : BitVec 32 := 1#32
  let v1342 : BitVec 32 := Scalar.select v1341 c1_i32_739 c16_i32_737
  let v1343 : BitVec 32 := Scalar.remsi v1340 v1342
  let c0_i32_741 : BitVec 32 := 0#32
  let v1345 : BitVec 1 := Scalar.cmpi .slt v1343 c0_i32_741
  let c0_i32_742 : BitVec 32 := 0#32
  let v1346 : BitVec 1 := Scalar.cmpi .slt v1342 c0_i32_742
  let v1347 : BitVec 1 := Scalar.xori v1345 v1346
  let c0_i32_740 : BitVec 32 := 0#32
  let v1344 : BitVec 1 := Scalar.cmpi .ne v1343 c0_i32_740
  let v1348 : BitVec 1 := Scalar.andi v1347 v1344
  let v1349 : BitVec 32 := Scalar.addi v1343 v1342
  let v1350 : BitVec 32 := Scalar.select v1348 v1349 v1343
  let v1351 : BitVec 32 := Scalar.addi v48 v1350
  let c1_i32_744 : BitVec 32 := 1#32
  let v1352 : BitVec 32 := Scalar.muli v1351 c1_i32_744
  let v1353 : BitVec 32 := Scalar.addi c0_i32_745 v1352
  v1353.toNat
def k0_dev13 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_748 : BitVec 32 := 16#32
  let v1354 : BitVec 32 := Scalar.addi v2 c16_i32_748
  let c32_i32_749 : BitVec 32 := 32#32
  let c0_i32_750 : BitVec 32 := 0#32
  let v1355 : BitVec 1 := Scalar.cmpi .eq c32_i32_749 c0_i32_750
  let c1_i32_751 : BitVec 32 := 1#32
  let v1356 : BitVec 32 := Scalar.select v1355 c1_i32_751 c32_i32_749
  let v1357 : BitVec 32 := Scalar.remsi v1354 v1356
  let c0_i32_753 : BitVec 32 := 0#32
  let v1359 : BitVec 1 := Scalar.cmpi .slt v1357 c0_i32_753
  let c0_i32_754 : BitVec 32 := 0#32
  let v1360 : BitVec 1 := Scalar.cmpi .slt v1356 c0_i32_754
  let v1361 : BitVec 1 := Scalar.xori v1359 v1360
  let c0_i32_752 : BitVec 32 := 0#32
  let v1358 : BitVec 1 := Scalar.cmpi .ne v1357 c0_i32_752
  let v1362 : BitVec 1 := Scalar.andi v1361 v1358
  let v1363 : BitVec 32 := Scalar.addi v1357 v1356
  let v1364 : BitVec 32 := Scalar.select v1362 v1363 v1357
  let c1_i32_756 : BitVec 32 := 1#32
  let v1365 : BitVec 32 := Scalar.muli v1364 c1_i32_756
  let v1366 : BitVec 32 := Scalar.addi c0_i32_757 v1365
  v1366.toNat
def k0_off8 (d0 : Dev nD) (c1_i32_45 : BitVec 32) (c0_i32_52 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v86 : BitVec 1 := Scalar.cmpi .sgt v2 c0_i32_39
  let v87 : BitVec 32 := Scalar.extui v86
  let c0_i32_40 : BitVec 32 := 0#32
  let v88 : BitVec 1 := Scalar.cmpi .slt v2 c0_i32_40
  let v89 : BitVec 32 := Scalar.extui v88
  let v90 : BitVec 32 := Scalar.subi v87 v89
  let c4_i32_38 : BitVec 32 := 4#32
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v2 c4_i32_38
  let c0_i32_43 : BitVec 32 := 0#32
  let v98 : BitVec 1 := Scalar.cmpi .ne v97 c0_i32_43
  let v99 : BitVec 1 := Scalar.andi v96 v98
  let v85 : BitVec 32 := Scalar.divsi v2 c4_i32_38
  let c1_i32_44 : BitVec 32 := 1#32
  let v100 : BitVec 32 := Scalar.subi v85 c1_i32_44
  let v101 : BitVec 32 := Scalar.select v99 v100 v85
  let v102 : BitVec 32 := Scalar.addi v101 c1_i32_45
  let c8_i32 : BitVec 32 := 8#32
  let c0_i32_46 : BitVec 32 := 0#32
  let v103 : BitVec 1 := Scalar.cmpi .eq c8_i32 c0_i32_46
  let c1_i32_47 : BitVec 32 := 1#32
  let v104 : BitVec 32 := Scalar.select v103 c1_i32_47 c8_i32
  let v105 : BitVec 32 := Scalar.remsi v102 v104
  let c0_i32_49 : BitVec 32 := 0#32
  let v107 : BitVec 1 := Scalar.cmpi .slt v105 c0_i32_49
  let c0_i32_50 : BitVec 32 := 0#32
  let v108 : BitVec 1 := Scalar.cmpi .slt v104 c0_i32_50
  let v109 : BitVec 1 := Scalar.xori v107 v108
  let c0_i32_48 : BitVec 32 := 0#32
  let v106 : BitVec 1 := Scalar.cmpi .ne v105 c0_i32_48
  let v110 : BitVec 1 := Scalar.andi v109 v106
  let v111 : BitVec 32 := Scalar.addi v105 v104
  let v112 : BitVec 32 := Scalar.select v110 v111 v105
  let c4_i32_51 : BitVec 32 := 4#32
  let v113 : BitVec 32 := Scalar.muli v112 c4_i32_51
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v114 : BitVec 32 := Scalar.addi v30 c0_i32_52
  let c4_i32_53 : BitVec 32 := 4#32
  let c0_i32_54 : BitVec 32 := 0#32
  let v115 : BitVec 1 := Scalar.cmpi .eq c4_i32_53 c0_i32_54
  let c1_i32_55 : BitVec 32 := 1#32
  let v116 : BitVec 32 := Scalar.select v115 c1_i32_55 c4_i32_53
  let v117 : BitVec 32 := Scalar.remsi v114 v116
  let c0_i32_57 : BitVec 32 := 0#32
  let v119 : BitVec 1 := Scalar.cmpi .slt v117 c0_i32_57
  let c0_i32_58 : BitVec 32 := 0#32
  let v120 : BitVec 1 := Scalar.cmpi .slt v116 c0_i32_58
  let v121 : BitVec 1 := Scalar.xori v119 v120
  let c0_i32_56 : BitVec 32 := 0#32
  let v118 : BitVec 1 := Scalar.cmpi .ne v117 c0_i32_56
  let v122 : BitVec 1 := Scalar.andi v121 v118
  let v123 : BitVec 32 := Scalar.addi v117 v116
  let v124 : BitVec 32 := Scalar.select v122 v123 v117
  let v125 : BitVec 32 := Scalar.addi v113 v124
  let c0_i32_763 : BitVec 32 := 0#32
  ![v125.toNat, 0]
def k0_off9 (d0 : Dev nD) (c1_i32_45 : BitVec 32) (c0_i32_52 : BitVec 32) (c0_i32_761 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v86 : BitVec 1 := Scalar.cmpi .sgt v2 c0_i32_39
  let v87 : BitVec 32 := Scalar.extui v86
  let c0_i32_40 : BitVec 32 := 0#32
  let v88 : BitVec 1 := Scalar.cmpi .slt v2 c0_i32_40
  let v89 : BitVec 32 := Scalar.extui v88
  let v90 : BitVec 32 := Scalar.subi v87 v89
  let c4_i32_38 : BitVec 32 := 4#32
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v2 c4_i32_38
  let c0_i32_43 : BitVec 32 := 0#32
  let v98 : BitVec 1 := Scalar.cmpi .ne v97 c0_i32_43
  let v99 : BitVec 1 := Scalar.andi v96 v98
  let v85 : BitVec 32 := Scalar.divsi v2 c4_i32_38
  let c1_i32_44 : BitVec 32 := 1#32
  let v100 : BitVec 32 := Scalar.subi v85 c1_i32_44
  let v101 : BitVec 32 := Scalar.select v99 v100 v85
  let v102 : BitVec 32 := Scalar.addi v101 c1_i32_45
  let c8_i32 : BitVec 32 := 8#32
  let c0_i32_46 : BitVec 32 := 0#32
  let v103 : BitVec 1 := Scalar.cmpi .eq c8_i32 c0_i32_46
  let c1_i32_47 : BitVec 32 := 1#32
  let v104 : BitVec 32 := Scalar.select v103 c1_i32_47 c8_i32
  let v105 : BitVec 32 := Scalar.remsi v102 v104
  let c0_i32_49 : BitVec 32 := 0#32
  let v107 : BitVec 1 := Scalar.cmpi .slt v105 c0_i32_49
  let c0_i32_50 : BitVec 32 := 0#32
  let v108 : BitVec 1 := Scalar.cmpi .slt v104 c0_i32_50
  let v109 : BitVec 1 := Scalar.xori v107 v108
  let c0_i32_48 : BitVec 32 := 0#32
  let v106 : BitVec 1 := Scalar.cmpi .ne v105 c0_i32_48
  let v110 : BitVec 1 := Scalar.andi v109 v106
  let v111 : BitVec 32 := Scalar.addi v105 v104
  let v112 : BitVec 32 := Scalar.select v110 v111 v105
  let c4_i32_51 : BitVec 32 := 4#32
  let v113 : BitVec 32 := Scalar.muli v112 c4_i32_51
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v114 : BitVec 32 := Scalar.addi v30 c0_i32_52
  let c4_i32_53 : BitVec 32 := 4#32
  let c0_i32_54 : BitVec 32 := 0#32
  let v115 : BitVec 1 := Scalar.cmpi .eq c4_i32_53 c0_i32_54
  let c1_i32_55 : BitVec 32 := 1#32
  let v116 : BitVec 32 := Scalar.select v115 c1_i32_55 c4_i32_53
  let v117 : BitVec 32 := Scalar.remsi v114 v116
  let c0_i32_57 : BitVec 32 := 0#32
  let v119 : BitVec 1 := Scalar.cmpi .slt v117 c0_i32_57
  let c0_i32_58 : BitVec 32 := 0#32
  let v120 : BitVec 1 := Scalar.cmpi .slt v116 c0_i32_58
  let v121 : BitVec 1 := Scalar.xori v119 v120
  let c0_i32_56 : BitVec 32 := 0#32
  let v118 : BitVec 1 := Scalar.cmpi .ne v117 c0_i32_56
  let v122 : BitVec 1 := Scalar.andi v121 v118
  let v123 : BitVec 32 := Scalar.addi v117 v116
  let v124 : BitVec 32 := Scalar.select v122 v123 v117
  let v125 : BitVec 32 := Scalar.addi v113 v124
  let c32_i32_760 : BitVec 32 := 32#32
  let v1367 : BitVec 32 := Scalar.muli v125 c32_i32_760
  let v1368 : BitVec 32 := Scalar.addi v1367 c0_i32_761
  let c0_i32_768 : BitVec 32 := 0#32
  ![v1368.toNat, 0]
def k0_dev14 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v86 : BitVec 1 := Scalar.cmpi .sgt v2 c0_i32_39
  let v87 : BitVec 32 := Scalar.extui v86
  let c0_i32_40 : BitVec 32 := 0#32
  let v88 : BitVec 1 := Scalar.cmpi .slt v2 c0_i32_40
  let v89 : BitVec 32 := Scalar.extui v88
  let v90 : BitVec 32 := Scalar.subi v87 v89
  let c4_i32_38 : BitVec 32 := 4#32
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v2 c4_i32_38
  let c0_i32_43 : BitVec 32 := 0#32
  let v98 : BitVec 1 := Scalar.cmpi .ne v97 c0_i32_43
  let v99 : BitVec 1 := Scalar.andi v96 v98
  let v85 : BitVec 32 := Scalar.divsi v2 c4_i32_38
  let c1_i32_44 : BitVec 32 := 1#32
  let v100 : BitVec 32 := Scalar.subi v85 c1_i32_44
  let v101 : BitVec 32 := Scalar.select v99 v100 v85
  let c1_i32_45 : BitVec 32 := 1#32
  let v102 : BitVec 32 := Scalar.addi v101 c1_i32_45
  let c8_i32 : BitVec 32 := 8#32
  let c0_i32_46 : BitVec 32 := 0#32
  let v103 : BitVec 1 := Scalar.cmpi .eq c8_i32 c0_i32_46
  let c1_i32_47 : BitVec 32 := 1#32
  let v104 : BitVec 32 := Scalar.select v103 c1_i32_47 c8_i32
  let v105 : BitVec 32 := Scalar.remsi v102 v104
  let c0_i32_49 : BitVec 32 := 0#32
  let v107 : BitVec 1 := Scalar.cmpi .slt v105 c0_i32_49
  let c0_i32_50 : BitVec 32 := 0#32
  let v108 : BitVec 1 := Scalar.cmpi .slt v104 c0_i32_50
  let v109 : BitVec 1 := Scalar.xori v107 v108
  let c0_i32_48 : BitVec 32 := 0#32
  let v106 : BitVec 1 := Scalar.cmpi .ne v105 c0_i32_48
  let v110 : BitVec 1 := Scalar.andi v109 v106
  let v111 : BitVec 32 := Scalar.addi v105 v104
  let v112 : BitVec 32 := Scalar.select v110 v111 v105
  let c4_i32_51 : BitVec 32 := 4#32
  let v113 : BitVec 32 := Scalar.muli v112 c4_i32_51
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_52 : BitVec 32 := 0#32
  let v114 : BitVec 32 := Scalar.addi v30 c0_i32_52
  let c4_i32_53 : BitVec 32 := 4#32
  let c0_i32_54 : BitVec 32 := 0#32
  let v115 : BitVec 1 := Scalar.cmpi .eq c4_i32_53 c0_i32_54
  let c1_i32_55 : BitVec 32 := 1#32
  let v116 : BitVec 32 := Scalar.select v115 c1_i32_55 c4_i32_53
  let v117 : BitVec 32 := Scalar.remsi v114 v116
  let c0_i32_57 : BitVec 32 := 0#32
  let v119 : BitVec 1 := Scalar.cmpi .slt v117 c0_i32_57
  let c0_i32_58 : BitVec 32 := 0#32
  let v120 : BitVec 1 := Scalar.cmpi .slt v116 c0_i32_58
  let v121 : BitVec 1 := Scalar.xori v119 v120
  let c0_i32_56 : BitVec 32 := 0#32
  let v118 : BitVec 1 := Scalar.cmpi .ne v117 c0_i32_56
  let v122 : BitVec 1 := Scalar.andi v121 v118
  let v123 : BitVec 32 := Scalar.addi v117 v116
  let v124 : BitVec 32 := Scalar.select v122 v123 v117
  let v125 : BitVec 32 := Scalar.addi v113 v124
  let c1_i32_764 : BitVec 32 := 1#32
  let v1369 : BitVec 32 := Scalar.muli v125 c1_i32_764
  let v1370 : BitVec 32 := Scalar.addi c0_i32_765 v1369
  v1370.toNat
def k0_dev15 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_60 : BitVec 32 := 0#32
  let v127 : BitVec 1 := Scalar.cmpi .sgt v2 c0_i32_60
  let v128 : BitVec 32 := Scalar.extui v127
  let c0_i32_61 : BitVec 32 := 0#32
  let v129 : BitVec 1 := Scalar.cmpi .slt v2 c0_i32_61
  let v130 : BitVec 32 := Scalar.extui v129
  let v131 : BitVec 32 := Scalar.subi v128 v130
  let c4_i32_59 : BitVec 32 := 4#32
  let c0_i32_62 : BitVec 32 := 0#32
  let v132 : BitVec 1 := Scalar.cmpi .sgt c4_i32_59 c0_i32_62
  let v133 : BitVec 32 := Scalar.extui v132
  let c0_i32_63 : BitVec 32 := 0#32
  let v134 : BitVec 1 := Scalar.cmpi .slt c4_i32_59 c0_i32_63
  let v135 : BitVec 32 := Scalar.extui v134
  let v136 : BitVec 32 := Scalar.subi v133 v135
  let v137 : BitVec 1 := Scalar.cmpi .ne v131 v136
  let v138 : BitVec 32 := Scalar.remsi v2 c4_i32_59
  let c0_i32_64 : BitVec 32 := 0#32
  let v139 : BitVec 1 := Scalar.cmpi .ne v138 c0_i32_64
  let v140 : BitVec 1 := Scalar.andi v137 v139
  let v126 : BitVec 32 := Scalar.divsi v2 c4_i32_59
  let c1_i32_65 : BitVec 32 := 1#32
  let v141 : BitVec 32 := Scalar.subi v126 c1_i32_65
  let v142 : BitVec 32 := Scalar.select v140 v141 v126
  let c1_i32_66 : BitVec 32 := 1#32
  let v143 : BitVec 32 := Scalar.addi v142 c1_i32_66
  let c8_i32_67 : BitVec 32 := 8#32
  let c0_i32_68 : BitVec 32 := 0#32
  let v144 : BitVec 1 := Scalar.cmpi .eq c8_i32_67 c0_i32_68
  let c1_i32_69 : BitVec 32 := 1#32
  let v145 : BitVec 32 := Scalar.select v144 c1_i32_69 c8_i32_67
  let v146 : BitVec 32 := Scalar.remsi v143 v145
  let c0_i32_71 : BitVec 32 := 0#32
  let v148 : BitVec 1 := Scalar.cmpi .slt v146 c0_i32_71
  let c0_i32_72 : BitVec 32 := 0#32
  let v149 : BitVec 1 := Scalar.cmpi .slt v145 c0_i32_72
  let v150 : BitVec 1 := Scalar.xori v148 v149
  let c0_i32_70 : BitVec 32 := 0#32
  let v147 : BitVec 1 := Scalar.cmpi .ne v146 c0_i32_70
  let v151 : BitVec 1 := Scalar.andi v150 v147
  let v152 : BitVec 32 := Scalar.addi v146 v145
  let v153 : BitVec 32 := Scalar.select v151 v152 v146
  let c4_i32_73 : BitVec 32 := 4#32
  let v154 : BitVec 32 := Scalar.muli v153 c4_i32_73
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_74 : BitVec 32 := 1#32
  let v155 : BitVec 32 := Scalar.addi v30 c1_i32_74
  let c4_i32_75 : BitVec 32 := 4#32
  let c0_i32_76 : BitVec 32 := 0#32
  let v156 : BitVec 1 := Scalar.cmpi .eq c4_i32_75 c0_i32_76
  let c1_i32_77 : BitVec 32 := 1#32
  let v157 : BitVec 32 := Scalar.select v156 c1_i32_77 c4_i32_75
  let v158 : BitVec 32 := Scalar.remsi v155 v157
  let c0_i32_79 : BitVec 32 := 0#32
  let v160 : BitVec 1 := Scalar.cmpi .slt v158 c0_i32_79
  let c0_i32_80 : BitVec 32 := 0#32
  let v161 : BitVec 1 := Scalar.cmpi .slt v157 c0_i32_80
  let v162 : BitVec 1 := Scalar.xori v160 v161
  let c0_i32_78 : BitVec 32 := 0#32
  let v159 : BitVec 1 := Scalar.cmpi .ne v158 c0_i32_78
  let v163 : BitVec 1 := Scalar.andi v162 v159
  let v164 : BitVec 32 := Scalar.addi v158 v157
  let v165 : BitVec 32 := Scalar.select v163 v164 v158
  let v166 : BitVec 32 := Scalar.addi v154 v165
  let c1_i32_773 : BitVec 32 := 1#32
  let v1380 : BitVec 32 := Scalar.muli v166 c1_i32_773
  let v1381 : BitVec 32 := Scalar.addi c0_i32_774 v1380
  v1381.toNat
def k0_dev16 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_82 : BitVec 32 := 0#32
  let v168 : BitVec 1 := Scalar.cmpi .sgt v2 c0_i32_82
  let v169 : BitVec 32 := Scalar.extui v168
  let c0_i32_83 : BitVec 32 := 0#32
  let v170 : BitVec 1 := Scalar.cmpi .slt v2 c0_i32_83
  let v171 : BitVec 32 := Scalar.extui v170
  let v172 : BitVec 32 := Scalar.subi v169 v171
  let c4_i32_81 : BitVec 32 := 4#32
  let c0_i32_84 : BitVec 32 := 0#32
  let v173 : BitVec 1 := Scalar.cmpi .sgt c4_i32_81 c0_i32_84
  let v174 : BitVec 32 := Scalar.extui v173
  let c0_i32_85 : BitVec 32 := 0#32
  let v175 : BitVec 1 := Scalar.cmpi .slt c4_i32_81 c0_i32_85
  let v176 : BitVec 32 := Scalar.extui v175
  let v177 : BitVec 32 := Scalar.subi v174 v176
  let v178 : BitVec 1 := Scalar.cmpi .ne v172 v177
  let v179 : BitVec 32 := Scalar.remsi v2 c4_i32_81
  let c0_i32_86 : BitVec 32 := 0#32
  let v180 : BitVec 1 := Scalar.cmpi .ne v179 c0_i32_86
  let v181 : BitVec 1 := Scalar.andi v178 v180
  let v167 : BitVec 32 := Scalar.divsi v2 c4_i32_81
  let c1_i32_87 : BitVec 32 := 1#32
  let v182 : BitVec 32 := Scalar.subi v167 c1_i32_87
  let v183 : BitVec 32 := Scalar.select v181 v182 v167
  let c1_i32_88 : BitVec 32 := 1#32
  let v184 : BitVec 32 := Scalar.addi v183 c1_i32_88
  let c8_i32_89 : BitVec 32 := 8#32
  let c0_i32_90 : BitVec 32 := 0#32
  let v185 : BitVec 1 := Scalar.cmpi .eq c8_i32_89 c0_i32_90
  let c1_i32_91 : BitVec 32 := 1#32
  let v186 : BitVec 32 := Scalar.select v185 c1_i32_91 c8_i32_89
  let v187 : BitVec 32 := Scalar.remsi v184 v186
  let c0_i32_93 : BitVec 32 := 0#32
  let v189 : BitVec 1 := Scalar.cmpi .slt v187 c0_i32_93
  let c0_i32_94 : BitVec 32 := 0#32
  let v190 : BitVec 1 := Scalar.cmpi .slt v186 c0_i32_94
  let v191 : BitVec 1 := Scalar.xori v189 v190
  let c0_i32_92 : BitVec 32 := 0#32
  let v188 : BitVec 1 := Scalar.cmpi .ne v187 c0_i32_92
  let v192 : BitVec 1 := Scalar.andi v191 v188
  let v193 : BitVec 32 := Scalar.addi v187 v186
  let v194 : BitVec 32 := Scalar.select v192 v193 v187
  let c4_i32_95 : BitVec 32 := 4#32
  let v195 : BitVec 32 := Scalar.muli v194 c4_i32_95
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_96 : BitVec 32 := 2#32
  let v196 : BitVec 32 := Scalar.addi v30 c2_i32_96
  let c4_i32_97 : BitVec 32 := 4#32
  let c0_i32_98 : BitVec 32 := 0#32
  let v197 : BitVec 1 := Scalar.cmpi .eq c4_i32_97 c0_i32_98
  let c1_i32_99 : BitVec 32 := 1#32
  let v198 : BitVec 32 := Scalar.select v197 c1_i32_99 c4_i32_97
  let v199 : BitVec 32 := Scalar.remsi v196 v198
  let c0_i32_101 : BitVec 32 := 0#32
  let v201 : BitVec 1 := Scalar.cmpi .slt v199 c0_i32_101
  let c0_i32_102 : BitVec 32 := 0#32
  let v202 : BitVec 1 := Scalar.cmpi .slt v198 c0_i32_102
  let v203 : BitVec 1 := Scalar.xori v201 v202
  let c0_i32_100 : BitVec 32 := 0#32
  let v200 : BitVec 1 := Scalar.cmpi .ne v199 c0_i32_100
  let v204 : BitVec 1 := Scalar.andi v203 v200
  let v205 : BitVec 32 := Scalar.addi v199 v198
  let v206 : BitVec 32 := Scalar.select v204 v205 v199
  let v207 : BitVec 32 := Scalar.addi v195 v206
  let c1_i32_782 : BitVec 32 := 1#32
  let v1391 : BitVec 32 := Scalar.muli v207 c1_i32_782
  let v1392 : BitVec 32 := Scalar.addi c0_i32_783 v1391
  v1392.toNat
def k0_dev17 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_104 : BitVec 32 := 0#32
  let v209 : BitVec 1 := Scalar.cmpi .sgt v2 c0_i32_104
  let v210 : BitVec 32 := Scalar.extui v209
  let c0_i32_105 : BitVec 32 := 0#32
  let v211 : BitVec 1 := Scalar.cmpi .slt v2 c0_i32_105
  let v212 : BitVec 32 := Scalar.extui v211
  let v213 : BitVec 32 := Scalar.subi v210 v212
  let c4_i32_103 : BitVec 32 := 4#32
  let c0_i32_106 : BitVec 32 := 0#32
  let v214 : BitVec 1 := Scalar.cmpi .sgt c4_i32_103 c0_i32_106
  let v215 : BitVec 32 := Scalar.extui v214
  let c0_i32_107 : BitVec 32 := 0#32
  let v216 : BitVec 1 := Scalar.cmpi .slt c4_i32_103 c0_i32_107
  let v217 : BitVec 32 := Scalar.extui v216
  let v218 : BitVec 32 := Scalar.subi v215 v217
  let v219 : BitVec 1 := Scalar.cmpi .ne v213 v218
  let v220 : BitVec 32 := Scalar.remsi v2 c4_i32_103
  let c0_i32_108 : BitVec 32 := 0#32
  let v221 : BitVec 1 := Scalar.cmpi .ne v220 c0_i32_108
  let v222 : BitVec 1 := Scalar.andi v219 v221
  let v208 : BitVec 32 := Scalar.divsi v2 c4_i32_103
  let c1_i32_109 : BitVec 32 := 1#32
  let v223 : BitVec 32 := Scalar.subi v208 c1_i32_109
  let v224 : BitVec 32 := Scalar.select v222 v223 v208
  let c1_i32_110 : BitVec 32 := 1#32
  let v225 : BitVec 32 := Scalar.addi v224 c1_i32_110
  let c8_i32_111 : BitVec 32 := 8#32
  let c0_i32_112 : BitVec 32 := 0#32
  let v226 : BitVec 1 := Scalar.cmpi .eq c8_i32_111 c0_i32_112
  let c1_i32_113 : BitVec 32 := 1#32
  let v227 : BitVec 32 := Scalar.select v226 c1_i32_113 c8_i32_111
  let v228 : BitVec 32 := Scalar.remsi v225 v227
  let c0_i32_115 : BitVec 32 := 0#32
  let v230 : BitVec 1 := Scalar.cmpi .slt v228 c0_i32_115
  let c0_i32_116 : BitVec 32 := 0#32
  let v231 : BitVec 1 := Scalar.cmpi .slt v227 c0_i32_116
  let v232 : BitVec 1 := Scalar.xori v230 v231
  let c0_i32_114 : BitVec 32 := 0#32
  let v229 : BitVec 1 := Scalar.cmpi .ne v228 c0_i32_114
  let v233 : BitVec 1 := Scalar.andi v232 v229
  let v234 : BitVec 32 := Scalar.addi v228 v227
  let v235 : BitVec 32 := Scalar.select v233 v234 v228
  let c4_i32_117 : BitVec 32 := 4#32
  let v236 : BitVec 32 := Scalar.muli v235 c4_i32_117
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_118 : BitVec 32 := 3#32
  let v237 : BitVec 32 := Scalar.addi v30 c3_i32_118
  let c4_i32_119 : BitVec 32 := 4#32
  let c0_i32_120 : BitVec 32 := 0#32
  let v238 : BitVec 1 := Scalar.cmpi .eq c4_i32_119 c0_i32_120
  let c1_i32_121 : BitVec 32 := 1#32
  let v239 : BitVec 32 := Scalar.select v238 c1_i32_121 c4_i32_119
  let v240 : BitVec 32 := Scalar.remsi v237 v239
  let c0_i32_123 : BitVec 32 := 0#32
  let v242 : BitVec 1 := Scalar.cmpi .slt v240 c0_i32_123
  let c0_i32_124 : BitVec 32 := 0#32
  let v243 : BitVec 1 := Scalar.cmpi .slt v239 c0_i32_124
  let v244 : BitVec 1 := Scalar.xori v242 v243
  let c0_i32_122 : BitVec 32 := 0#32
  let v241 : BitVec 1 := Scalar.cmpi .ne v240 c0_i32_122
  let v245 : BitVec 1 := Scalar.andi v244 v241
  let v246 : BitVec 32 := Scalar.addi v240 v239
  let v247 : BitVec 32 := Scalar.select v245 v246 v240
  let v248 : BitVec 32 := Scalar.addi v236 v247
  let c1_i32_791 : BitVec 32 := 1#32
  let v1402 : BitVec 32 := Scalar.muli v248 c1_i32_791
  let v1403 : BitVec 32 := Scalar.addi c0_i32_792 v1402
  v1403.toNat
def k0_dev18 (d0 : Dev nD) : Nat :=
  let c0_i32_801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_126 : BitVec 32 := 0#32
  let v250 : BitVec 1 := Scalar.cmpi .sgt v2 c0_i32_126
  let v251 : BitVec 32 := Scalar.extui v250
  let c0_i32_127 : BitVec 32 := 0#32
  let v252 : BitVec 1 := Scalar.cmpi .slt v2 c0_i32_127
  let v253 : BitVec 32 := Scalar.extui v252
  let v254 : BitVec 32 := Scalar.subi v251 v253
  let c4_i32_125 : BitVec 32 := 4#32
  let c0_i32_128 : BitVec 32 := 0#32
  let v255 : BitVec 1 := Scalar.cmpi .sgt c4_i32_125 c0_i32_128
  let v256 : BitVec 32 := Scalar.extui v255
  let c0_i32_129 : BitVec 32 := 0#32
  let v257 : BitVec 1 := Scalar.cmpi .slt c4_i32_125 c0_i32_129
  let v258 : BitVec 32 := Scalar.extui v257
  let v259 : BitVec 32 := Scalar.subi v256 v258
  let v260 : BitVec 1 := Scalar.cmpi .ne v254 v259
  let v261 : BitVec 32 := Scalar.remsi v2 c4_i32_125
  let c0_i32_130 : BitVec 32 := 0#32
  let v262 : BitVec 1 := Scalar.cmpi .ne v261 c0_i32_130
  let v263 : BitVec 1 := Scalar.andi v260 v262
  let v249 : BitVec 32 := Scalar.divsi v2 c4_i32_125
  let c1_i32_131 : BitVec 32 := 1#32
  let v264 : BitVec 32 := Scalar.subi v249 c1_i32_131
  let v265 : BitVec 32 := Scalar.select v263 v264 v249
  let c2_i32_132 : BitVec 32 := 2#32
  let v266 : BitVec 32 := Scalar.addi v265 c2_i32_132
  let c8_i32_133 : BitVec 32 := 8#32
  let c0_i32_134 : BitVec 32 := 0#32
  let v267 : BitVec 1 := Scalar.cmpi .eq c8_i32_133 c0_i32_134
  let c1_i32_135 : BitVec 32 := 1#32
  let v268 : BitVec 32 := Scalar.select v267 c1_i32_135 c8_i32_133
  let v269 : BitVec 32 := Scalar.remsi v266 v268
  let c0_i32_137 : BitVec 32 := 0#32
  let v271 : BitVec 1 := Scalar.cmpi .slt v269 c0_i32_137
  let c0_i32_138 : BitVec 32 := 0#32
  let v272 : BitVec 1 := Scalar.cmpi .slt v268 c0_i32_138
  let v273 : BitVec 1 := Scalar.xori v271 v272
  let c0_i32_136 : BitVec 32 := 0#32
  let v270 : BitVec 1 := Scalar.cmpi .ne v269 c0_i32_136
  let v274 : BitVec 1 := Scalar.andi v273 v270
  let v275 : BitVec 32 := Scalar.addi v269 v268
  let v276 : BitVec 32 := Scalar.select v274 v275 v269
  let c4_i32_139 : BitVec 32 := 4#32
  let v277 : BitVec 32 := Scalar.muli v276 c4_i32_139
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_140 : BitVec 32 := 0#32
  let v278 : BitVec 32 := Scalar.addi v30 c0_i32_140
  let c4_i32_141 : BitVec 32 := 4#32
  let c0_i32_142 : BitVec 32 := 0#32
  let v279 : BitVec 1 := Scalar.cmpi .eq c4_i32_141 c0_i32_142
  let c1_i32_143 : BitVec 32 := 1#32
  let v280 : BitVec 32 := Scalar.select v279 c1_i32_143 c4_i32_141
  let v281 : BitVec 32 := Scalar.remsi v278 v280
  let c0_i32_145 : BitVec 32 := 0#32
  let v283 : BitVec 1 := Scalar.cmpi .slt v281 c0_i32_145
  let c0_i32_146 : BitVec 32 := 0#32
  let v284 : BitVec 1 := Scalar.cmpi .slt v280 c0_i32_146
  let v285 : BitVec 1 := Scalar.xori v283 v284
  let c0_i32_144 : BitVec 32 := 0#32
  let v282 : BitVec 1 := Scalar.cmpi .ne v281 c0_i32_144
  let v286 : BitVec 1 := Scalar.andi v285 v282
  let v287 : BitVec 32 := Scalar.addi v281 v280
  let v288 : BitVec 32 := Scalar.select v286 v287 v281
  let v289 : BitVec 32 := Scalar.addi v277 v288
  let c1_i32_800 : BitVec 32 := 1#32
  let v1413 : BitVec 32 := Scalar.muli v289 c1_i32_800
  let v1414 : BitVec 32 := Scalar.addi c0_i32_801 v1413
  v1414.toNat
def k0_dev19 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v291 : BitVec 1 := Scalar.cmpi .sgt v2 c0_i32_148
  let v292 : BitVec 32 := Scalar.extui v291
  let c0_i32_149 : BitVec 32 := 0#32
  let v293 : BitVec 1 := Scalar.cmpi .slt v2 c0_i32_149
  let v294 : BitVec 32 := Scalar.extui v293
  let v295 : BitVec 32 := Scalar.subi v292 v294
  let c4_i32_147 : BitVec 32 := 4#32
  let c0_i32_150 : BitVec 32 := 0#32
  let v296 : BitVec 1 := Scalar.cmpi .sgt c4_i32_147 c0_i32_150
  let v297 : BitVec 32 := Scalar.extui v296
  let c0_i32_151 : BitVec 32 := 0#32
  let v298 : BitVec 1 := Scalar.cmpi .slt c4_i32_147 c0_i32_151
  let v299 : BitVec 32 := Scalar.extui v298
  let v300 : BitVec 32 := Scalar.subi v297 v299
  let v301 : BitVec 1 := Scalar.cmpi .ne v295 v300
  let v302 : BitVec 32 := Scalar.remsi v2 c4_i32_147
  let c0_i32_152 : BitVec 32 := 0#32
  let v303 : BitVec 1 := Scalar.cmpi .ne v302 c0_i32_152
  let v304 : BitVec 1 := Scalar.andi v301 v303
  let v290 : BitVec 32 := Scalar.divsi v2 c4_i32_147
  let c1_i32_153 : BitVec 32 := 1#32
  let v305 : BitVec 32 := Scalar.subi v290 c1_i32_153
  let v306 : BitVec 32 := Scalar.select v304 v305 v290
  let c2_i32_154 : BitVec 32 := 2#32
  let v307 : BitVec 32 := Scalar.addi v306 c2_i32_154
  let c8_i32_155 : BitVec 32 := 8#32
  let c0_i32_156 : BitVec 32 := 0#32
  let v308 : BitVec 1 := Scalar.cmpi .eq c8_i32_155 c0_i32_156
  let c1_i32_157 : BitVec 32 := 1#32
  let v309 : BitVec 32 := Scalar.select v308 c1_i32_157 c8_i32_155
  let v310 : BitVec 32 := Scalar.remsi v307 v309
  let c0_i32_159 : BitVec 32 := 0#32
  let v312 : BitVec 1 := Scalar.cmpi .slt v310 c0_i32_159
  let c0_i32_160 : BitVec 32 := 0#32
  let v313 : BitVec 1 := Scalar.cmpi .slt v309 c0_i32_160
  let v314 : BitVec 1 := Scalar.xori v312 v313
  let c0_i32_158 : BitVec 32 := 0#32
  let v311 : BitVec 1 := Scalar.cmpi .ne v310 c0_i32_158
  let v315 : BitVec 1 := Scalar.andi v314 v311
  let v316 : BitVec 32 := Scalar.addi v310 v309
  let v317 : BitVec 32 := Scalar.select v315 v316 v310
  let c4_i32_161 : BitVec 32 := 4#32
  let v318 : BitVec 32 := Scalar.muli v317 c4_i32_161
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_162 : BitVec 32 := 1#32
  let v319 : BitVec 32 := Scalar.addi v30 c1_i32_162
  let c4_i32_163 : BitVec 32 := 4#32
  let c0_i32_164 : BitVec 32 := 0#32
  let v320 : BitVec 1 := Scalar.cmpi .eq c4_i32_163 c0_i32_164
  let c1_i32_165 : BitVec 32 := 1#32
  let v321 : BitVec 32 := Scalar.select v320 c1_i32_165 c4_i32_163
  let v322 : BitVec 32 := Scalar.remsi v319 v321
  let c0_i32_167 : BitVec 32 := 0#32
  let v324 : BitVec 1 := Scalar.cmpi .slt v322 c0_i32_167
  let c0_i32_168 : BitVec 32 := 0#32
  let v325 : BitVec 1 := Scalar.cmpi .slt v321 c0_i32_168
  let v326 : BitVec 1 := Scalar.xori v324 v325
  let c0_i32_166 : BitVec 32 := 0#32
  let v323 : BitVec 1 := Scalar.cmpi .ne v322 c0_i32_166
  let v327 : BitVec 1 := Scalar.andi v326 v323
  let v328 : BitVec 32 := Scalar.addi v322 v321
  let v329 : BitVec 32 := Scalar.select v327 v328 v322
  let v330 : BitVec 32 := Scalar.addi v318 v329
  let c1_i32_809 : BitVec 32 := 1#32
  let v1424 : BitVec 32 := Scalar.muli v330 c1_i32_809
  let v1425 : BitVec 32 := Scalar.addi c0_i32_810 v1424
  v1425.toNat
def k0_dev20 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_170 : BitVec 32 := 0#32
  let v332 : BitVec 1 := Scalar.cmpi .sgt v2 c0_i32_170
  let v333 : BitVec 32 := Scalar.extui v332
  let c0_i32_171 : BitVec 32 := 0#32
  let v334 : BitVec 1 := Scalar.cmpi .slt v2 c0_i32_171
  let v335 : BitVec 32 := Scalar.extui v334
  let v336 : BitVec 32 := Scalar.subi v333 v335
  let c4_i32_169 : BitVec 32 := 4#32
  let c0_i32_172 : BitVec 32 := 0#32
  let v337 : BitVec 1 := Scalar.cmpi .sgt c4_i32_169 c0_i32_172
  let v338 : BitVec 32 := Scalar.extui v337
  let c0_i32_173 : BitVec 32 := 0#32
  let v339 : BitVec 1 := Scalar.cmpi .slt c4_i32_169 c0_i32_173
  let v340 : BitVec 32 := Scalar.extui v339
  let v341 : BitVec 32 := Scalar.subi v338 v340
  let v342 : BitVec 1 := Scalar.cmpi .ne v336 v341
  let v343 : BitVec 32 := Scalar.remsi v2 c4_i32_169
  let c0_i32_174 : BitVec 32 := 0#32
  let v344 : BitVec 1 := Scalar.cmpi .ne v343 c0_i32_174
  let v345 : BitVec 1 := Scalar.andi v342 v344
  let v331 : BitVec 32 := Scalar.divsi v2 c4_i32_169
  let c1_i32_175 : BitVec 32 := 1#32
  let v346 : BitVec 32 := Scalar.subi v331 c1_i32_175
  let v347 : BitVec 32 := Scalar.select v345 v346 v331
  let c2_i32_176 : BitVec 32 := 2#32
  let v348 : BitVec 32 := Scalar.addi v347 c2_i32_176
  let c8_i32_177 : BitVec 32 := 8#32
  let c0_i32_178 : BitVec 32 := 0#32
  let v349 : BitVec 1 := Scalar.cmpi .eq c8_i32_177 c0_i32_178
  let c1_i32_179 : BitVec 32 := 1#32
  let v350 : BitVec 32 := Scalar.select v349 c1_i32_179 c8_i32_177
  let v351 : BitVec 32 := Scalar.remsi v348 v350
  let c0_i32_181 : BitVec 32 := 0#32
  let v353 : BitVec 1 := Scalar.cmpi .slt v351 c0_i32_181
  let c0_i32_182 : BitVec 32 := 0#32
  let v354 : BitVec 1 := Scalar.cmpi .slt v350 c0_i32_182
  let v355 : BitVec 1 := Scalar.xori v353 v354
  let c0_i32_180 : BitVec 32 := 0#32
  let v352 : BitVec 1 := Scalar.cmpi .ne v351 c0_i32_180
  let v356 : BitVec 1 := Scalar.andi v355 v352
  let v357 : BitVec 32 := Scalar.addi v351 v350
  let v358 : BitVec 32 := Scalar.select v356 v357 v351
  let c4_i32_183 : BitVec 32 := 4#32
  let v359 : BitVec 32 := Scalar.muli v358 c4_i32_183
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_184 : BitVec 32 := 2#32
  let v360 : BitVec 32 := Scalar.addi v30 c2_i32_184
  let c4_i32_185 : BitVec 32 := 4#32
  let c0_i32_186 : BitVec 32 := 0#32
  let v361 : BitVec 1 := Scalar.cmpi .eq c4_i32_185 c0_i32_186
  let c1_i32_187 : BitVec 32 := 1#32
  let v362 : BitVec 32 := Scalar.select v361 c1_i32_187 c4_i32_185
  let v363 : BitVec 32 := Scalar.remsi v360 v362
  let c0_i32_189 : BitVec 32 := 0#32
  let v365 : BitVec 1 := Scalar.cmpi .slt v363 c0_i32_189
  let c0_i32_190 : BitVec 32 := 0#32
  let v366 : BitVec 1 := Scalar.cmpi .slt v362 c0_i32_190
  let v367 : BitVec 1 := Scalar.xori v365 v366
  let c0_i32_188 : BitVec 32 := 0#32
  let v364 : BitVec 1 := Scalar.cmpi .ne v363 c0_i32_188
  let v368 : BitVec 1 := Scalar.andi v367 v364
  let v369 : BitVec 32 := Scalar.addi v363 v362
  let v370 : BitVec 32 := Scalar.select v368 v369 v363
  let v371 : BitVec 32 := Scalar.addi v359 v370
  let c1_i32_818 : BitVec 32 := 1#32
  let v1435 : BitVec 32 := Scalar.muli v371 c1_i32_818
  let v1436 : BitVec 32 := Scalar.addi c0_i32_819 v1435
  v1436.toNat
def k0_dev21 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_192 : BitVec 32 := 0#32
  let v373 : BitVec 1 := Scalar.cmpi .sgt v2 c0_i32_192
  let v374 : BitVec 32 := Scalar.extui v373
  let c0_i32_193 : BitVec 32 := 0#32
  let v375 : BitVec 1 := Scalar.cmpi .slt v2 c0_i32_193
  let v376 : BitVec 32 := Scalar.extui v375
  let v377 : BitVec 32 := Scalar.subi v374 v376
  let c4_i32_191 : BitVec 32 := 4#32
  let c0_i32_194 : BitVec 32 := 0#32
  let v378 : BitVec 1 := Scalar.cmpi .sgt c4_i32_191 c0_i32_194
  let v379 : BitVec 32 := Scalar.extui v378
  let c0_i32_195 : BitVec 32 := 0#32
  let v380 : BitVec 1 := Scalar.cmpi .slt c4_i32_191 c0_i32_195
  let v381 : BitVec 32 := Scalar.extui v380
  let v382 : BitVec 32 := Scalar.subi v379 v381
  let v383 : BitVec 1 := Scalar.cmpi .ne v377 v382
  let v384 : BitVec 32 := Scalar.remsi v2 c4_i32_191
  let c0_i32_196 : BitVec 32 := 0#32
  let v385 : BitVec 1 := Scalar.cmpi .ne v384 c0_i32_196
  let v386 : BitVec 1 := Scalar.andi v383 v385
  let v372 : BitVec 32 := Scalar.divsi v2 c4_i32_191
  let c1_i32_197 : BitVec 32 := 1#32
  let v387 : BitVec 32 := Scalar.subi v372 c1_i32_197
  let v388 : BitVec 32 := Scalar.select v386 v387 v372
  let c2_i32_198 : BitVec 32 := 2#32
  let v389 : BitVec 32 := Scalar.addi v388 c2_i32_198
  let c8_i32_199 : BitVec 32 := 8#32
  let c0_i32_200 : BitVec 32 := 0#32
  let v390 : BitVec 1 := Scalar.cmpi .eq c8_i32_199 c0_i32_200
  let c1_i32_201 : BitVec 32 := 1#32
  let v391 : BitVec 32 := Scalar.select v390 c1_i32_201 c8_i32_199
  let v392 : BitVec 32 := Scalar.remsi v389 v391
  let c0_i32_203 : BitVec 32 := 0#32
  let v394 : BitVec 1 := Scalar.cmpi .slt v392 c0_i32_203
  let c0_i32_204 : BitVec 32 := 0#32
  let v395 : BitVec 1 := Scalar.cmpi .slt v391 c0_i32_204
  let v396 : BitVec 1 := Scalar.xori v394 v395
  let c0_i32_202 : BitVec 32 := 0#32
  let v393 : BitVec 1 := Scalar.cmpi .ne v392 c0_i32_202
  let v397 : BitVec 1 := Scalar.andi v396 v393
  let v398 : BitVec 32 := Scalar.addi v392 v391
  let v399 : BitVec 32 := Scalar.select v397 v398 v392
  let c4_i32_205 : BitVec 32 := 4#32
  let v400 : BitVec 32 := Scalar.muli v399 c4_i32_205
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_206 : BitVec 32 := 3#32
  let v401 : BitVec 32 := Scalar.addi v30 c3_i32_206
  let c4_i32_207 : BitVec 32 := 4#32
  let c0_i32_208 : BitVec 32 := 0#32
  let v402 : BitVec 1 := Scalar.cmpi .eq c4_i32_207 c0_i32_208
  let c1_i32_209 : BitVec 32 := 1#32
  let v403 : BitVec 32 := Scalar.select v402 c1_i32_209 c4_i32_207
  let v404 : BitVec 32 := Scalar.remsi v401 v403
  let c0_i32_211 : BitVec 32 := 0#32
  let v406 : BitVec 1 := Scalar.cmpi .slt v404 c0_i32_211
  let c0_i32_212 : BitVec 32 := 0#32
  let v407 : BitVec 1 := Scalar.cmpi .slt v403 c0_i32_212
  let v408 : BitVec 1 := Scalar.xori v406 v407
  let c0_i32_210 : BitVec 32 := 0#32
  let v405 : BitVec 1 := Scalar.cmpi .ne v404 c0_i32_210
  let v409 : BitVec 1 := Scalar.andi v408 v405
  let v410 : BitVec 32 := Scalar.addi v404 v403
  let v411 : BitVec 32 := Scalar.select v409 v410 v404
  let v412 : BitVec 32 := Scalar.addi v400 v411
  let c1_i32_827 : BitVec 32 := 1#32
  let v1446 : BitVec 32 := Scalar.muli v412 c1_i32_827
  let v1447 : BitVec 32 := Scalar.addi c0_i32_828 v1446
  v1447.toNat
def k0_dev22 (d0 : Dev nD) : Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_214 : BitVec 32 := 0#32
  let v414 : BitVec 1 := Scalar.cmpi .sgt v2 c0_i32_214
  let v415 : BitVec 32 := Scalar.extui v414
  let c0_i32_215 : BitVec 32 := 0#32
  let v416 : BitVec 1 := Scalar.cmpi .slt v2 c0_i32_215
  let v417 : BitVec 32 := Scalar.extui v416
  let v418 : BitVec 32 := Scalar.subi v415 v417
  let c4_i32_213 : BitVec 32 := 4#32
  let c0_i32_216 : BitVec 32 := 0#32
  let v419 : BitVec 1 := Scalar.cmpi .sgt c4_i32_213 c0_i32_216
  let v420 : BitVec 32 := Scalar.extui v419
  let c0_i32_217 : BitVec 32 := 0#32
  let v421 : BitVec 1 := Scalar.cmpi .slt c4_i32_213 c0_i32_217
  let v422 : BitVec 32 := Scalar.extui v421
  let v423 : BitVec 32 := Scalar.subi v420 v422
  let v424 : BitVec 1 := Scalar.cmpi .ne v418 v423
  let v425 : BitVec 32 := Scalar.remsi v2 c4_i32_213
  let c0_i32_218 : BitVec 32 := 0#32
  let v426 : BitVec 1 := Scalar.cmpi .ne v425 c0_i32_218
  let v427 : BitVec 1 := Scalar.andi v424 v426
  let v413 : BitVec 32 := Scalar.divsi v2 c4_i32_213
  let c1_i32_219 : BitVec 32 := 1#32
  let v428 : BitVec 32 := Scalar.subi v413 c1_i32_219
  let v429 : BitVec 32 := Scalar.select v427 v428 v413
  let c3_i32_220 : BitVec 32 := 3#32
  let v430 : BitVec 32 := Scalar.addi v429 c3_i32_220
  let c8_i32_221 : BitVec 32 := 8#32
  let c0_i32_222 : BitVec 32 := 0#32
  let v431 : BitVec 1 := Scalar.cmpi .eq c8_i32_221 c0_i32_222
  let c1_i32_223 : BitVec 32 := 1#32
  let v432 : BitVec 32 := Scalar.select v431 c1_i32_223 c8_i32_221
  let v433 : BitVec 32 := Scalar.remsi v430 v432
  let c0_i32_225 : BitVec 32 := 0#32
  let v435 : BitVec 1 := Scalar.cmpi .slt v433 c0_i32_225
  let c0_i32_226 : BitVec 32 := 0#32
  let v436 : BitVec 1 := Scalar.cmpi .slt v432 c0_i32_226
  let v437 : BitVec 1 := Scalar.xori v435 v436
  let c0_i32_224 : BitVec 32 := 0#32
  let v434 : BitVec 1 := Scalar.cmpi .ne v433 c0_i32_224
  let v438 : BitVec 1 := Scalar.andi v437 v434
  let v439 : BitVec 32 := Scalar.addi v433 v432
  let v440 : BitVec 32 := Scalar.select v438 v439 v433
  let c4_i32_227 : BitVec 32 := 4#32
  let v441 : BitVec 32 := Scalar.muli v440 c4_i32_227
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_228 : BitVec 32 := 0#32
  let v442 : BitVec 32 := Scalar.addi v30 c0_i32_228
  let c4_i32_229 : BitVec 32 := 4#32
  let c0_i32_230 : BitVec 32 := 0#32
  let v443 : BitVec 1 := Scalar.cmpi .eq c4_i32_229 c0_i32_230
  let c1_i32_231 : BitVec 32 := 1#32
  let v444 : BitVec 32 := Scalar.select v443 c1_i32_231 c4_i32_229
  let v445 : BitVec 32 := Scalar.remsi v442 v444
  let c0_i32_233 : BitVec 32 := 0#32
  let v447 : BitVec 1 := Scalar.cmpi .slt v445 c0_i32_233
  let c0_i32_234 : BitVec 32 := 0#32
  let v448 : BitVec 1 := Scalar.cmpi .slt v444 c0_i32_234
  let v449 : BitVec 1 := Scalar.xori v447 v448
  let c0_i32_232 : BitVec 32 := 0#32
  let v446 : BitVec 1 := Scalar.cmpi .ne v445 c0_i32_232
  let v450 : BitVec 1 := Scalar.andi v449 v446
  let v451 : BitVec 32 := Scalar.addi v445 v444
  let v452 : BitVec 32 := Scalar.select v450 v451 v445
  let v453 : BitVec 32 := Scalar.addi v441 v452
  let c1_i32_836 : BitVec 32 := 1#32
  let v1457 : BitVec 32 := Scalar.muli v453 c1_i32_836
  let v1458 : BitVec 32 := Scalar.addi c0_i32_837 v1457
  v1458.toNat
def k0_dev23 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_236 : BitVec 32 := 0#32
  let v455 : BitVec 1 := Scalar.cmpi .sgt v2 c0_i32_236
  let v456 : BitVec 32 := Scalar.extui v455
  let c0_i32_237 : BitVec 32 := 0#32
  let v457 : BitVec 1 := Scalar.cmpi .slt v2 c0_i32_237
  let v458 : BitVec 32 := Scalar.extui v457
  let v459 : BitVec 32 := Scalar.subi v456 v458
  let c4_i32_235 : BitVec 32 := 4#32
  let c0_i32_238 : BitVec 32 := 0#32
  let v460 : BitVec 1 := Scalar.cmpi .sgt c4_i32_235 c0_i32_238
  let v461 : BitVec 32 := Scalar.extui v460
  let c0_i32_239 : BitVec 32 := 0#32
  let v462 : BitVec 1 := Scalar.cmpi .slt c4_i32_235 c0_i32_239
  let v463 : BitVec 32 := Scalar.extui v462
  let v464 : BitVec 32 := Scalar.subi v461 v463
  let v465 : BitVec 1 := Scalar.cmpi .ne v459 v464
  let v466 : BitVec 32 := Scalar.remsi v2 c4_i32_235
  let c0_i32_240 : BitVec 32 := 0#32
  let v467 : BitVec 1 := Scalar.cmpi .ne v466 c0_i32_240
  let v468 : BitVec 1 := Scalar.andi v465 v467
  let v454 : BitVec 32 := Scalar.divsi v2 c4_i32_235
  let c1_i32_241 : BitVec 32 := 1#32
  let v469 : BitVec 32 := Scalar.subi v454 c1_i32_241
  let v470 : BitVec 32 := Scalar.select v468 v469 v454
  let c3_i32_242 : BitVec 32 := 3#32
  let v471 : BitVec 32 := Scalar.addi v470 c3_i32_242
  let c8_i32_243 : BitVec 32 := 8#32
  let c0_i32_244 : BitVec 32 := 0#32
  let v472 : BitVec 1 := Scalar.cmpi .eq c8_i32_243 c0_i32_244
  let c1_i32_245 : BitVec 32 := 1#32
  let v473 : BitVec 32 := Scalar.select v472 c1_i32_245 c8_i32_243
  let v474 : BitVec 32 := Scalar.remsi v471 v473
  let c0_i32_247 : BitVec 32 := 0#32
  let v476 : BitVec 1 := Scalar.cmpi .slt v474 c0_i32_247
  let c0_i32_248 : BitVec 32 := 0#32
  let v477 : BitVec 1 := Scalar.cmpi .slt v473 c0_i32_248
  let v478 : BitVec 1 := Scalar.xori v476 v477
  let c0_i32_246 : BitVec 32 := 0#32
  let v475 : BitVec 1 := Scalar.cmpi .ne v474 c0_i32_246
  let v479 : BitVec 1 := Scalar.andi v478 v475
  let v480 : BitVec 32 := Scalar.addi v474 v473
  let v481 : BitVec 32 := Scalar.select v479 v480 v474
  let c4_i32_249 : BitVec 32 := 4#32
  let v482 : BitVec 32 := Scalar.muli v481 c4_i32_249
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_250 : BitVec 32 := 1#32
  let v483 : BitVec 32 := Scalar.addi v30 c1_i32_250
  let c4_i32_251 : BitVec 32 := 4#32
  let c0_i32_252 : BitVec 32 := 0#32
  let v484 : BitVec 1 := Scalar.cmpi .eq c4_i32_251 c0_i32_252
  let c1_i32_253 : BitVec 32 := 1#32
  let v485 : BitVec 32 := Scalar.select v484 c1_i32_253 c4_i32_251
  let v486 : BitVec 32 := Scalar.remsi v483 v485
  let c0_i32_255 : BitVec 32 := 0#32
  let v488 : BitVec 1 := Scalar.cmpi .slt v486 c0_i32_255
  let c0_i32_256 : BitVec 32 := 0#32
  let v489 : BitVec 1 := Scalar.cmpi .slt v485 c0_i32_256
  let v490 : BitVec 1 := Scalar.xori v488 v489
  let c0_i32_254 : BitVec 32 := 0#32
  let v487 : BitVec 1 := Scalar.cmpi .ne v486 c0_i32_254
  let v491 : BitVec 1 := Scalar.andi v490 v487
  let v492 : BitVec 32 := Scalar.addi v486 v485
  let v493 : BitVec 32 := Scalar.select v491 v492 v486
  let v494 : BitVec 32 := Scalar.addi v482 v493
  let c1_i32_845 : BitVec 32 := 1#32
  let v1468 : BitVec 32 := Scalar.muli v494 c1_i32_845
  let v1469 : BitVec 32 := Scalar.addi c0_i32_846 v1468
  v1469.toNat
def k0_dev24 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_258 : BitVec 32 := 0#32
  let v496 : BitVec 1 := Scalar.cmpi .sgt v2 c0_i32_258
  let v497 : BitVec 32 := Scalar.extui v496
  let c0_i32_259 : BitVec 32 := 0#32
  let v498 : BitVec 1 := Scalar.cmpi .slt v2 c0_i32_259
  let v499 : BitVec 32 := Scalar.extui v498
  let v500 : BitVec 32 := Scalar.subi v497 v499
  let c4_i32_257 : BitVec 32 := 4#32
  let c0_i32_260 : BitVec 32 := 0#32
  let v501 : BitVec 1 := Scalar.cmpi .sgt c4_i32_257 c0_i32_260
  let v502 : BitVec 32 := Scalar.extui v501
  let c0_i32_261 : BitVec 32 := 0#32
  let v503 : BitVec 1 := Scalar.cmpi .slt c4_i32_257 c0_i32_261
  let v504 : BitVec 32 := Scalar.extui v503
  let v505 : BitVec 32 := Scalar.subi v502 v504
  let v506 : BitVec 1 := Scalar.cmpi .ne v500 v505
  let v507 : BitVec 32 := Scalar.remsi v2 c4_i32_257
  let c0_i32_262 : BitVec 32 := 0#32
  let v508 : BitVec 1 := Scalar.cmpi .ne v507 c0_i32_262
  let v509 : BitVec 1 := Scalar.andi v506 v508
  let v495 : BitVec 32 := Scalar.divsi v2 c4_i32_257
  let c1_i32_263 : BitVec 32 := 1#32
  let v510 : BitVec 32 := Scalar.subi v495 c1_i32_263
  let v511 : BitVec 32 := Scalar.select v509 v510 v495
  let c3_i32_264 : BitVec 32 := 3#32
  let v512 : BitVec 32 := Scalar.addi v511 c3_i32_264
  let c8_i32_265 : BitVec 32 := 8#32
  let c0_i32_266 : BitVec 32 := 0#32
  let v513 : BitVec 1 := Scalar.cmpi .eq c8_i32_265 c0_i32_266
  let c1_i32_267 : BitVec 32 := 1#32
  let v514 : BitVec 32 := Scalar.select v513 c1_i32_267 c8_i32_265
  let v515 : BitVec 32 := Scalar.remsi v512 v514
  let c0_i32_269 : BitVec 32 := 0#32
  let v517 : BitVec 1 := Scalar.cmpi .slt v515 c0_i32_269
  let c0_i32_270 : BitVec 32 := 0#32
  let v518 : BitVec 1 := Scalar.cmpi .slt v514 c0_i32_270
  let v519 : BitVec 1 := Scalar.xori v517 v518
  let c0_i32_268 : BitVec 32 := 0#32
  let v516 : BitVec 1 := Scalar.cmpi .ne v515 c0_i32_268
  let v520 : BitVec 1 := Scalar.andi v519 v516
  let v521 : BitVec 32 := Scalar.addi v515 v514
  let v522 : BitVec 32 := Scalar.select v520 v521 v515
  let c4_i32_271 : BitVec 32 := 4#32
  let v523 : BitVec 32 := Scalar.muli v522 c4_i32_271
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_272 : BitVec 32 := 2#32
  let v524 : BitVec 32 := Scalar.addi v30 c2_i32_272
  let c4_i32_273 : BitVec 32 := 4#32
  let c0_i32_274 : BitVec 32 := 0#32
  let v525 : BitVec 1 := Scalar.cmpi .eq c4_i32_273 c0_i32_274
  let c1_i32_275 : BitVec 32 := 1#32
  let v526 : BitVec 32 := Scalar.select v525 c1_i32_275 c4_i32_273
  let v527 : BitVec 32 := Scalar.remsi v524 v526
  let c0_i32_277 : BitVec 32 := 0#32
  let v529 : BitVec 1 := Scalar.cmpi .slt v527 c0_i32_277
  let c0_i32_278 : BitVec 32 := 0#32
  let v530 : BitVec 1 := Scalar.cmpi .slt v526 c0_i32_278
  let v531 : BitVec 1 := Scalar.xori v529 v530
  let c0_i32_276 : BitVec 32 := 0#32
  let v528 : BitVec 1 := Scalar.cmpi .ne v527 c0_i32_276
  let v532 : BitVec 1 := Scalar.andi v531 v528
  let v533 : BitVec 32 := Scalar.addi v527 v526
  let v534 : BitVec 32 := Scalar.select v532 v533 v527
  let v535 : BitVec 32 := Scalar.addi v523 v534
  let c1_i32_854 : BitVec 32 := 1#32
  let v1479 : BitVec 32 := Scalar.muli v535 c1_i32_854
  let v1480 : BitVec 32 := Scalar.addi c0_i32_855 v1479
  v1480.toNat
def k0_dev25 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_280 : BitVec 32 := 0#32
  let v537 : BitVec 1 := Scalar.cmpi .sgt v2 c0_i32_280
  let v538 : BitVec 32 := Scalar.extui v537
  let c0_i32_281 : BitVec 32 := 0#32
  let v539 : BitVec 1 := Scalar.cmpi .slt v2 c0_i32_281
  let v540 : BitVec 32 := Scalar.extui v539
  let v541 : BitVec 32 := Scalar.subi v538 v540
  let c4_i32_279 : BitVec 32 := 4#32
  let c0_i32_282 : BitVec 32 := 0#32
  let v542 : BitVec 1 := Scalar.cmpi .sgt c4_i32_279 c0_i32_282
  let v543 : BitVec 32 := Scalar.extui v542
  let c0_i32_283 : BitVec 32 := 0#32
  let v544 : BitVec 1 := Scalar.cmpi .slt c4_i32_279 c0_i32_283
  let v545 : BitVec 32 := Scalar.extui v544
  let v546 : BitVec 32 := Scalar.subi v543 v545
  let v547 : BitVec 1 := Scalar.cmpi .ne v541 v546
  let v548 : BitVec 32 := Scalar.remsi v2 c4_i32_279
  let c0_i32_284 : BitVec 32 := 0#32
  let v549 : BitVec 1 := Scalar.cmpi .ne v548 c0_i32_284
  let v550 : BitVec 1 := Scalar.andi v547 v549
  let v536 : BitVec 32 := Scalar.divsi v2 c4_i32_279
  let c1_i32_285 : BitVec 32 := 1#32
  let v551 : BitVec 32 := Scalar.subi v536 c1_i32_285
  let v552 : BitVec 32 := Scalar.select v550 v551 v536
  let c3_i32_286 : BitVec 32 := 3#32
  let v553 : BitVec 32 := Scalar.addi v552 c3_i32_286
  let c8_i32_287 : BitVec 32 := 8#32
  let c0_i32_288 : BitVec 32 := 0#32
  let v554 : BitVec 1 := Scalar.cmpi .eq c8_i32_287 c0_i32_288
  let c1_i32_289 : BitVec 32 := 1#32
  let v555 : BitVec 32 := Scalar.select v554 c1_i32_289 c8_i32_287
  let v556 : BitVec 32 := Scalar.remsi v553 v555
  let c0_i32_291 : BitVec 32 := 0#32
  let v558 : BitVec 1 := Scalar.cmpi .slt v556 c0_i32_291
  let c0_i32_292 : BitVec 32 := 0#32
  let v559 : BitVec 1 := Scalar.cmpi .slt v555 c0_i32_292
  let v560 : BitVec 1 := Scalar.xori v558 v559
  let c0_i32_290 : BitVec 32 := 0#32
  let v557 : BitVec 1 := Scalar.cmpi .ne v556 c0_i32_290
  let v561 : BitVec 1 := Scalar.andi v560 v557
  let v562 : BitVec 32 := Scalar.addi v556 v555
  let v563 : BitVec 32 := Scalar.select v561 v562 v556
  let c4_i32_293 : BitVec 32 := 4#32
  let v564 : BitVec 32 := Scalar.muli v563 c4_i32_293
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_294 : BitVec 32 := 3#32
  let v565 : BitVec 32 := Scalar.addi v30 c3_i32_294
  let c4_i32_295 : BitVec 32 := 4#32
  let c0_i32_296 : BitVec 32 := 0#32
  let v566 : BitVec 1 := Scalar.cmpi .eq c4_i32_295 c0_i32_296
  let c1_i32_297 : BitVec 32 := 1#32
  let v567 : BitVec 32 := Scalar.select v566 c1_i32_297 c4_i32_295
  let v568 : BitVec 32 := Scalar.remsi v565 v567
  let c0_i32_299 : BitVec 32 := 0#32
  let v570 : BitVec 1 := Scalar.cmpi .slt v568 c0_i32_299
  let c0_i32_300 : BitVec 32 := 0#32
  let v571 : BitVec 1 := Scalar.cmpi .slt v567 c0_i32_300
  let v572 : BitVec 1 := Scalar.xori v570 v571
  let c0_i32_298 : BitVec 32 := 0#32
  let v569 : BitVec 1 := Scalar.cmpi .ne v568 c0_i32_298
  let v573 : BitVec 1 := Scalar.andi v572 v569
  let v574 : BitVec 32 := Scalar.addi v568 v567
  let v575 : BitVec 32 := Scalar.select v573 v574 v568
  let v576 : BitVec 32 := Scalar.addi v564 v575
  let c1_i32_863 : BitVec 32 := 1#32
  let v1490 : BitVec 32 := Scalar.muli v576 c1_i32_863
  let v1491 : BitVec 32 := Scalar.addi c0_i32_864 v1490
  v1491.toNat
def k0_dev26 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_302 : BitVec 32 := 0#32
  let v578 : BitVec 1 := Scalar.cmpi .sgt v2 c0_i32_302
  let v579 : BitVec 32 := Scalar.extui v578
  let c0_i32_303 : BitVec 32 := 0#32
  let v580 : BitVec 1 := Scalar.cmpi .slt v2 c0_i32_303
  let v581 : BitVec 32 := Scalar.extui v580
  let v582 : BitVec 32 := Scalar.subi v579 v581
  let c4_i32_301 : BitVec 32 := 4#32
  let c0_i32_304 : BitVec 32 := 0#32
  let v583 : BitVec 1 := Scalar.cmpi .sgt c4_i32_301 c0_i32_304
  let v584 : BitVec 32 := Scalar.extui v583
  let c0_i32_305 : BitVec 32 := 0#32
  let v585 : BitVec 1 := Scalar.cmpi .slt c4_i32_301 c0_i32_305
  let v586 : BitVec 32 := Scalar.extui v585
  let v587 : BitVec 32 := Scalar.subi v584 v586
  let v588 : BitVec 1 := Scalar.cmpi .ne v582 v587
  let v589 : BitVec 32 := Scalar.remsi v2 c4_i32_301
  let c0_i32_306 : BitVec 32 := 0#32
  let v590 : BitVec 1 := Scalar.cmpi .ne v589 c0_i32_306
  let v591 : BitVec 1 := Scalar.andi v588 v590
  let v577 : BitVec 32 := Scalar.divsi v2 c4_i32_301
  let c1_i32_307 : BitVec 32 := 1#32
  let v592 : BitVec 32 := Scalar.subi v577 c1_i32_307
  let v593 : BitVec 32 := Scalar.select v591 v592 v577
  let c4_i32_308 : BitVec 32 := 4#32
  let v594 : BitVec 32 := Scalar.addi v593 c4_i32_308
  let c8_i32_309 : BitVec 32 := 8#32
  let c0_i32_310 : BitVec 32 := 0#32
  let v595 : BitVec 1 := Scalar.cmpi .eq c8_i32_309 c0_i32_310
  let c1_i32_311 : BitVec 32 := 1#32
  let v596 : BitVec 32 := Scalar.select v595 c1_i32_311 c8_i32_309
  let v597 : BitVec 32 := Scalar.remsi v594 v596
  let c0_i32_313 : BitVec 32 := 0#32
  let v599 : BitVec 1 := Scalar.cmpi .slt v597 c0_i32_313
  let c0_i32_314 : BitVec 32 := 0#32
  let v600 : BitVec 1 := Scalar.cmpi .slt v596 c0_i32_314
  let v601 : BitVec 1 := Scalar.xori v599 v600
  let c0_i32_312 : BitVec 32 := 0#32
  let v598 : BitVec 1 := Scalar.cmpi .ne v597 c0_i32_312
  let v602 : BitVec 1 := Scalar.andi v601 v598
  let v603 : BitVec 32 := Scalar.addi v597 v596
  let v604 : BitVec 32 := Scalar.select v602 v603 v597
  let c4_i32_315 : BitVec 32 := 4#32
  let v605 : BitVec 32 := Scalar.muli v604 c4_i32_315
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_316 : BitVec 32 := 0#32
  let v606 : BitVec 32 := Scalar.addi v30 c0_i32_316
  let c4_i32_317 : BitVec 32 := 4#32
  let c0_i32_318 : BitVec 32 := 0#32
  let v607 : BitVec 1 := Scalar.cmpi .eq c4_i32_317 c0_i32_318
  let c1_i32_319 : BitVec 32 := 1#32
  let v608 : BitVec 32 := Scalar.select v607 c1_i32_319 c4_i32_317
  let v609 : BitVec 32 := Scalar.remsi v606 v608
  let c0_i32_321 : BitVec 32 := 0#32
  let v611 : BitVec 1 := Scalar.cmpi .slt v609 c0_i32_321
  let c0_i32_322 : BitVec 32 := 0#32
  let v612 : BitVec 1 := Scalar.cmpi .slt v608 c0_i32_322
  let v613 : BitVec 1 := Scalar.xori v611 v612
  let c0_i32_320 : BitVec 32 := 0#32
  let v610 : BitVec 1 := Scalar.cmpi .ne v609 c0_i32_320
  let v614 : BitVec 1 := Scalar.andi v613 v610
  let v615 : BitVec 32 := Scalar.addi v609 v608
  let v616 : BitVec 32 := Scalar.select v614 v615 v609
  let v617 : BitVec 32 := Scalar.addi v605 v616
  let c1_i32_872 : BitVec 32 := 1#32
  let v1501 : BitVec 32 := Scalar.muli v617 c1_i32_872
  let v1502 : BitVec 32 := Scalar.addi c0_i32_873 v1501
  v1502.toNat
def k0_dev27 (d0 : Dev nD) : Nat :=
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_324 : BitVec 32 := 0#32
  let v619 : BitVec 1 := Scalar.cmpi .sgt v2 c0_i32_324
  let v620 : BitVec 32 := Scalar.extui v619
  let c0_i32_325 : BitVec 32 := 0#32
  let v621 : BitVec 1 := Scalar.cmpi .slt v2 c0_i32_325
  let v622 : BitVec 32 := Scalar.extui v621
  let v623 : BitVec 32 := Scalar.subi v620 v622
  let c4_i32_323 : BitVec 32 := 4#32
  let c0_i32_326 : BitVec 32 := 0#32
  let v624 : BitVec 1 := Scalar.cmpi .sgt c4_i32_323 c0_i32_326
  let v625 : BitVec 32 := Scalar.extui v624
  let c0_i32_327 : BitVec 32 := 0#32
  let v626 : BitVec 1 := Scalar.cmpi .slt c4_i32_323 c0_i32_327
  let v627 : BitVec 32 := Scalar.extui v626
  let v628 : BitVec 32 := Scalar.subi v625 v627
  let v629 : BitVec 1 := Scalar.cmpi .ne v623 v628
  let v630 : BitVec 32 := Scalar.remsi v2 c4_i32_323
  let c0_i32_328 : BitVec 32 := 0#32
  let v631 : BitVec 1 := Scalar.cmpi .ne v630 c0_i32_328
  let v632 : BitVec 1 := Scalar.andi v629 v631
  let v618 : BitVec 32 := Scalar.divsi v2 c4_i32_323
  let c1_i32_329 : BitVec 32 := 1#32
  let v633 : BitVec 32 := Scalar.subi v618 c1_i32_329
  let v634 : BitVec 32 := Scalar.select v632 v633 v618
  let c4_i32_330 : BitVec 32 := 4#32
  let v635 : BitVec 32 := Scalar.addi v634 c4_i32_330
  let c8_i32_331 : BitVec 32 := 8#32
  let c0_i32_332 : BitVec 32 := 0#32
  let v636 : BitVec 1 := Scalar.cmpi .eq c8_i32_331 c0_i32_332
  let c1_i32_333 : BitVec 32 := 1#32
  let v637 : BitVec 32 := Scalar.select v636 c1_i32_333 c8_i32_331
  let v638 : BitVec 32 := Scalar.remsi v635 v637
  let c0_i32_335 : BitVec 32 := 0#32
  let v640 : BitVec 1 := Scalar.cmpi .slt v638 c0_i32_335
  let c0_i32_336 : BitVec 32 := 0#32
  let v641 : BitVec 1 := Scalar.cmpi .slt v637 c0_i32_336
  let v642 : BitVec 1 := Scalar.xori v640 v641
  let c0_i32_334 : BitVec 32 := 0#32
  let v639 : BitVec 1 := Scalar.cmpi .ne v638 c0_i32_334
  let v643 : BitVec 1 := Scalar.andi v642 v639
  let v644 : BitVec 32 := Scalar.addi v638 v637
  let v645 : BitVec 32 := Scalar.select v643 v644 v638
  let c4_i32_337 : BitVec 32 := 4#32
  let v646 : BitVec 32 := Scalar.muli v645 c4_i32_337
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_338 : BitVec 32 := 1#32
  let v647 : BitVec 32 := Scalar.addi v30 c1_i32_338
  let c4_i32_339 : BitVec 32 := 4#32
  let c0_i32_340 : BitVec 32 := 0#32
  let v648 : BitVec 1 := Scalar.cmpi .eq c4_i32_339 c0_i32_340
  let c1_i32_341 : BitVec 32 := 1#32
  let v649 : BitVec 32 := Scalar.select v648 c1_i32_341 c4_i32_339
  let v650 : BitVec 32 := Scalar.remsi v647 v649
  let c0_i32_343 : BitVec 32 := 0#32
  let v652 : BitVec 1 := Scalar.cmpi .slt v650 c0_i32_343
  let c0_i32_344 : BitVec 32 := 0#32
  let v653 : BitVec 1 := Scalar.cmpi .slt v649 c0_i32_344
  let v654 : BitVec 1 := Scalar.xori v652 v653
  let c0_i32_342 : BitVec 32 := 0#32
  let v651 : BitVec 1 := Scalar.cmpi .ne v650 c0_i32_342
  let v655 : BitVec 1 := Scalar.andi v654 v651
  let v656 : BitVec 32 := Scalar.addi v650 v649
  let v657 : BitVec 32 := Scalar.select v655 v656 v650
  let v658 : BitVec 32 := Scalar.addi v646 v657
  let c1_i32_881 : BitVec 32 := 1#32
  let v1512 : BitVec 32 := Scalar.muli v658 c1_i32_881
  let v1513 : BitVec 32 := Scalar.addi c0_i32_882 v1512
  v1513.toNat
def k0_dev28 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_346 : BitVec 32 := 0#32
  let v660 : BitVec 1 := Scalar.cmpi .sgt v2 c0_i32_346
  let v661 : BitVec 32 := Scalar.extui v660
  let c0_i32_347 : BitVec 32 := 0#32
  let v662 : BitVec 1 := Scalar.cmpi .slt v2 c0_i32_347
  let v663 : BitVec 32 := Scalar.extui v662
  let v664 : BitVec 32 := Scalar.subi v661 v663
  let c4_i32_345 : BitVec 32 := 4#32
  let c0_i32_348 : BitVec 32 := 0#32
  let v665 : BitVec 1 := Scalar.cmpi .sgt c4_i32_345 c0_i32_348
  let v666 : BitVec 32 := Scalar.extui v665
  let c0_i32_349 : BitVec 32 := 0#32
  let v667 : BitVec 1 := Scalar.cmpi .slt c4_i32_345 c0_i32_349
  let v668 : BitVec 32 := Scalar.extui v667
  let v669 : BitVec 32 := Scalar.subi v666 v668
  let v670 : BitVec 1 := Scalar.cmpi .ne v664 v669
  let v671 : BitVec 32 := Scalar.remsi v2 c4_i32_345
  let c0_i32_350 : BitVec 32 := 0#32
  let v672 : BitVec 1 := Scalar.cmpi .ne v671 c0_i32_350
  let v673 : BitVec 1 := Scalar.andi v670 v672
  let v659 : BitVec 32 := Scalar.divsi v2 c4_i32_345
  let c1_i32_351 : BitVec 32 := 1#32
  let v674 : BitVec 32 := Scalar.subi v659 c1_i32_351
  let v675 : BitVec 32 := Scalar.select v673 v674 v659
  let c4_i32_352 : BitVec 32 := 4#32
  let v676 : BitVec 32 := Scalar.addi v675 c4_i32_352
  let c8_i32_353 : BitVec 32 := 8#32
  let c0_i32_354 : BitVec 32 := 0#32
  let v677 : BitVec 1 := Scalar.cmpi .eq c8_i32_353 c0_i32_354
  let c1_i32_355 : BitVec 32 := 1#32
  let v678 : BitVec 32 := Scalar.select v677 c1_i32_355 c8_i32_353
  let v679 : BitVec 32 := Scalar.remsi v676 v678
  let c0_i32_357 : BitVec 32 := 0#32
  let v681 : BitVec 1 := Scalar.cmpi .slt v679 c0_i32_357
  let c0_i32_358 : BitVec 32 := 0#32
  let v682 : BitVec 1 := Scalar.cmpi .slt v678 c0_i32_358
  let v683 : BitVec 1 := Scalar.xori v681 v682
  let c0_i32_356 : BitVec 32 := 0#32
  let v680 : BitVec 1 := Scalar.cmpi .ne v679 c0_i32_356
  let v684 : BitVec 1 := Scalar.andi v683 v680
  let v685 : BitVec 32 := Scalar.addi v679 v678
  let v686 : BitVec 32 := Scalar.select v684 v685 v679
  let c4_i32_359 : BitVec 32 := 4#32
  let v687 : BitVec 32 := Scalar.muli v686 c4_i32_359
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_360 : BitVec 32 := 2#32
  let v688 : BitVec 32 := Scalar.addi v30 c2_i32_360
  let c4_i32_361 : BitVec 32 := 4#32
  let c0_i32_362 : BitVec 32 := 0#32
  let v689 : BitVec 1 := Scalar.cmpi .eq c4_i32_361 c0_i32_362
  let c1_i32_363 : BitVec 32 := 1#32
  let v690 : BitVec 32 := Scalar.select v689 c1_i32_363 c4_i32_361
  let v691 : BitVec 32 := Scalar.remsi v688 v690
  let c0_i32_365 : BitVec 32 := 0#32
  let v693 : BitVec 1 := Scalar.cmpi .slt v691 c0_i32_365
  let c0_i32_366 : BitVec 32 := 0#32
  let v694 : BitVec 1 := Scalar.cmpi .slt v690 c0_i32_366
  let v695 : BitVec 1 := Scalar.xori v693 v694
  let c0_i32_364 : BitVec 32 := 0#32
  let v692 : BitVec 1 := Scalar.cmpi .ne v691 c0_i32_364
  let v696 : BitVec 1 := Scalar.andi v695 v692
  let v697 : BitVec 32 := Scalar.addi v691 v690
  let v698 : BitVec 32 := Scalar.select v696 v697 v691
  let v699 : BitVec 32 := Scalar.addi v687 v698
  let c1_i32_890 : BitVec 32 := 1#32
  let v1523 : BitVec 32 := Scalar.muli v699 c1_i32_890
  let v1524 : BitVec 32 := Scalar.addi c0_i32_891 v1523
  v1524.toNat
def k0_dev29 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_368 : BitVec 32 := 0#32
  let v701 : BitVec 1 := Scalar.cmpi .sgt v2 c0_i32_368
  let v702 : BitVec 32 := Scalar.extui v701
  let c0_i32_369 : BitVec 32 := 0#32
  let v703 : BitVec 1 := Scalar.cmpi .slt v2 c0_i32_369
  let v704 : BitVec 32 := Scalar.extui v703
  let v705 : BitVec 32 := Scalar.subi v702 v704
  let c4_i32_367 : BitVec 32 := 4#32
  let c0_i32_370 : BitVec 32 := 0#32
  let v706 : BitVec 1 := Scalar.cmpi .sgt c4_i32_367 c0_i32_370
  let v707 : BitVec 32 := Scalar.extui v706
  let c0_i32_371 : BitVec 32 := 0#32
  let v708 : BitVec 1 := Scalar.cmpi .slt c4_i32_367 c0_i32_371
  let v709 : BitVec 32 := Scalar.extui v708
  let v710 : BitVec 32 := Scalar.subi v707 v709
  let v711 : BitVec 1 := Scalar.cmpi .ne v705 v710
  let v712 : BitVec 32 := Scalar.remsi v2 c4_i32_367
  let c0_i32_372 : BitVec 32 := 0#32
  let v713 : BitVec 1 := Scalar.cmpi .ne v712 c0_i32_372
  let v714 : BitVec 1 := Scalar.andi v711 v713
  let v700 : BitVec 32 := Scalar.divsi v2 c4_i32_367
  let c1_i32_373 : BitVec 32 := 1#32
  let v715 : BitVec 32 := Scalar.subi v700 c1_i32_373
  let v716 : BitVec 32 := Scalar.select v714 v715 v700
  let c4_i32_374 : BitVec 32 := 4#32
  let v717 : BitVec 32 := Scalar.addi v716 c4_i32_374
  let c8_i32_375 : BitVec 32 := 8#32
  let c0_i32_376 : BitVec 32 := 0#32
  let v718 : BitVec 1 := Scalar.cmpi .eq c8_i32_375 c0_i32_376
  let c1_i32_377 : BitVec 32 := 1#32
  let v719 : BitVec 32 := Scalar.select v718 c1_i32_377 c8_i32_375
  let v720 : BitVec 32 := Scalar.remsi v717 v719
  let c0_i32_379 : BitVec 32 := 0#32
  let v722 : BitVec 1 := Scalar.cmpi .slt v720 c0_i32_379
  let c0_i32_380 : BitVec 32 := 0#32
  let v723 : BitVec 1 := Scalar.cmpi .slt v719 c0_i32_380
  let v724 : BitVec 1 := Scalar.xori v722 v723
  let c0_i32_378 : BitVec 32 := 0#32
  let v721 : BitVec 1 := Scalar.cmpi .ne v720 c0_i32_378
  let v725 : BitVec 1 := Scalar.andi v724 v721
  let v726 : BitVec 32 := Scalar.addi v720 v719
  let v727 : BitVec 32 := Scalar.select v725 v726 v720
  let c4_i32_381 : BitVec 32 := 4#32
  let v728 : BitVec 32 := Scalar.muli v727 c4_i32_381
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_382 : BitVec 32 := 3#32
  let v729 : BitVec 32 := Scalar.addi v30 c3_i32_382
  let c4_i32_383 : BitVec 32 := 4#32
  let c0_i32_384 : BitVec 32 := 0#32
  let v730 : BitVec 1 := Scalar.cmpi .eq c4_i32_383 c0_i32_384
  let c1_i32_385 : BitVec 32 := 1#32
  let v731 : BitVec 32 := Scalar.select v730 c1_i32_385 c4_i32_383
  let v732 : BitVec 32 := Scalar.remsi v729 v731
  let c0_i32_387 : BitVec 32 := 0#32
  let v734 : BitVec 1 := Scalar.cmpi .slt v732 c0_i32_387
  let c0_i32_388 : BitVec 32 := 0#32
  let v735 : BitVec 1 := Scalar.cmpi .slt v731 c0_i32_388
  let v736 : BitVec 1 := Scalar.xori v734 v735
  let c0_i32_386 : BitVec 32 := 0#32
  let v733 : BitVec 1 := Scalar.cmpi .ne v732 c0_i32_386
  let v737 : BitVec 1 := Scalar.andi v736 v733
  let v738 : BitVec 32 := Scalar.addi v732 v731
  let v739 : BitVec 32 := Scalar.select v737 v738 v732
  let v740 : BitVec 32 := Scalar.addi v728 v739
  let c1_i32_899 : BitVec 32 := 1#32
  let v1534 : BitVec 32 := Scalar.muli v740 c1_i32_899
  let v1535 : BitVec 32 := Scalar.addi c0_i32_900 v1534
  v1535.toNat
def k0_dev30 (d0 : Dev nD) : Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_390 : BitVec 32 := 0#32
  let v742 : BitVec 1 := Scalar.cmpi .sgt v2 c0_i32_390
  let v743 : BitVec 32 := Scalar.extui v742
  let c0_i32_391 : BitVec 32 := 0#32
  let v744 : BitVec 1 := Scalar.cmpi .slt v2 c0_i32_391
  let v745 : BitVec 32 := Scalar.extui v744
  let v746 : BitVec 32 := Scalar.subi v743 v745
  let c4_i32_389 : BitVec 32 := 4#32
  let c0_i32_392 : BitVec 32 := 0#32
  let v747 : BitVec 1 := Scalar.cmpi .sgt c4_i32_389 c0_i32_392
  let v748 : BitVec 32 := Scalar.extui v747
  let c0_i32_393 : BitVec 32 := 0#32
  let v749 : BitVec 1 := Scalar.cmpi .slt c4_i32_389 c0_i32_393
  let v750 : BitVec 32 := Scalar.extui v749
  let v751 : BitVec 32 := Scalar.subi v748 v750
  let v752 : BitVec 1 := Scalar.cmpi .ne v746 v751
  let v753 : BitVec 32 := Scalar.remsi v2 c4_i32_389
  let c0_i32_394 : BitVec 32 := 0#32
  let v754 : BitVec 1 := Scalar.cmpi .ne v753 c0_i32_394
  let v755 : BitVec 1 := Scalar.andi v752 v754
  let v741 : BitVec 32 := Scalar.divsi v2 c4_i32_389
  let c1_i32_395 : BitVec 32 := 1#32
  let v756 : BitVec 32 := Scalar.subi v741 c1_i32_395
  let v757 : BitVec 32 := Scalar.select v755 v756 v741
  let c5_i32 : BitVec 32 := 5#32
  let v758 : BitVec 32 := Scalar.addi v757 c5_i32
  let c8_i32_396 : BitVec 32 := 8#32
  let c0_i32_397 : BitVec 32 := 0#32
  let v759 : BitVec 1 := Scalar.cmpi .eq c8_i32_396 c0_i32_397
  let c1_i32_398 : BitVec 32 := 1#32
  let v760 : BitVec 32 := Scalar.select v759 c1_i32_398 c8_i32_396
  let v761 : BitVec 32 := Scalar.remsi v758 v760
  let c0_i32_400 : BitVec 32 := 0#32
  let v763 : BitVec 1 := Scalar.cmpi .slt v761 c0_i32_400
  let c0_i32_401 : BitVec 32 := 0#32
  let v764 : BitVec 1 := Scalar.cmpi .slt v760 c0_i32_401
  let v765 : BitVec 1 := Scalar.xori v763 v764
  let c0_i32_399 : BitVec 32 := 0#32
  let v762 : BitVec 1 := Scalar.cmpi .ne v761 c0_i32_399
  let v766 : BitVec 1 := Scalar.andi v765 v762
  let v767 : BitVec 32 := Scalar.addi v761 v760
  let v768 : BitVec 32 := Scalar.select v766 v767 v761
  let c4_i32_402 : BitVec 32 := 4#32
  let v769 : BitVec 32 := Scalar.muli v768 c4_i32_402
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_403 : BitVec 32 := 0#32
  let v770 : BitVec 32 := Scalar.addi v30 c0_i32_403
  let c4_i32_404 : BitVec 32 := 4#32
  let c0_i32_405 : BitVec 32 := 0#32
  let v771 : BitVec 1 := Scalar.cmpi .eq c4_i32_404 c0_i32_405
  let c1_i32_406 : BitVec 32 := 1#32
  let v772 : BitVec 32 := Scalar.select v771 c1_i32_406 c4_i32_404
  let v773 : BitVec 32 := Scalar.remsi v770 v772
  let c0_i32_408 : BitVec 32 := 0#32
  let v775 : BitVec 1 := Scalar.cmpi .slt v773 c0_i32_408
  let c0_i32_409 : BitVec 32 := 0#32
  let v776 : BitVec 1 := Scalar.cmpi .slt v772 c0_i32_409
  let v777 : BitVec 1 := Scalar.xori v775 v776
  let c0_i32_407 : BitVec 32 := 0#32
  let v774 : BitVec 1 := Scalar.cmpi .ne v773 c0_i32_407
  let v778 : BitVec 1 := Scalar.andi v777 v774
  let v779 : BitVec 32 := Scalar.addi v773 v772
  let v780 : BitVec 32 := Scalar.select v778 v779 v773
  let v781 : BitVec 32 := Scalar.addi v769 v780
  let c1_i32_908 : BitVec 32 := 1#32
  let v1545 : BitVec 32 := Scalar.muli v781 c1_i32_908
  let v1546 : BitVec 32 := Scalar.addi c0_i32_909 v1545
  v1546.toNat
def k0_dev31 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_411 : BitVec 32 := 0#32
  let v783 : BitVec 1 := Scalar.cmpi .sgt v2 c0_i32_411
  let v784 : BitVec 32 := Scalar.extui v783
  let c0_i32_412 : BitVec 32 := 0#32
  let v785 : BitVec 1 := Scalar.cmpi .slt v2 c0_i32_412
  let v786 : BitVec 32 := Scalar.extui v785
  let v787 : BitVec 32 := Scalar.subi v784 v786
  let c4_i32_410 : BitVec 32 := 4#32
  let c0_i32_413 : BitVec 32 := 0#32
  let v788 : BitVec 1 := Scalar.cmpi .sgt c4_i32_410 c0_i32_413
  let v789 : BitVec 32 := Scalar.extui v788
  let c0_i32_414 : BitVec 32 := 0#32
  let v790 : BitVec 1 := Scalar.cmpi .slt c4_i32_410 c0_i32_414
  let v791 : BitVec 32 := Scalar.extui v790
  let v792 : BitVec 32 := Scalar.subi v789 v791
  let v793 : BitVec 1 := Scalar.cmpi .ne v787 v792
  let v794 : BitVec 32 := Scalar.remsi v2 c4_i32_410
  let c0_i32_415 : BitVec 32 := 0#32
  let v795 : BitVec 1 := Scalar.cmpi .ne v794 c0_i32_415
  let v796 : BitVec 1 := Scalar.andi v793 v795
  let v782 : BitVec 32 := Scalar.divsi v2 c4_i32_410
  let c1_i32_416 : BitVec 32 := 1#32
  let v797 : BitVec 32 := Scalar.subi v782 c1_i32_416
  let v798 : BitVec 32 := Scalar.select v796 v797 v782
  let c5_i32_417 : BitVec 32 := 5#32
  let v799 : BitVec 32 := Scalar.addi v798 c5_i32_417
  let c8_i32_418 : BitVec 32 := 8#32
  let c0_i32_419 : BitVec 32 := 0#32
  let v800 : BitVec 1 := Scalar.cmpi .eq c8_i32_418 c0_i32_419
  let c1_i32_420 : BitVec 32 := 1#32
  let v801 : BitVec 32 := Scalar.select v800 c1_i32_420 c8_i32_418
  let v802 : BitVec 32 := Scalar.remsi v799 v801
  let c0_i32_422 : BitVec 32 := 0#32
  let v804 : BitVec 1 := Scalar.cmpi .slt v802 c0_i32_422
  let c0_i32_423 : BitVec 32 := 0#32
  let v805 : BitVec 1 := Scalar.cmpi .slt v801 c0_i32_423
  let v806 : BitVec 1 := Scalar.xori v804 v805
  let c0_i32_421 : BitVec 32 := 0#32
  let v803 : BitVec 1 := Scalar.cmpi .ne v802 c0_i32_421
  let v807 : BitVec 1 := Scalar.andi v806 v803
  let v808 : BitVec 32 := Scalar.addi v802 v801
  let v809 : BitVec 32 := Scalar.select v807 v808 v802
  let c4_i32_424 : BitVec 32 := 4#32
  let v810 : BitVec 32 := Scalar.muli v809 c4_i32_424
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_425 : BitVec 32 := 1#32
  let v811 : BitVec 32 := Scalar.addi v30 c1_i32_425
  let c4_i32_426 : BitVec 32 := 4#32
  let c0_i32_427 : BitVec 32 := 0#32
  let v812 : BitVec 1 := Scalar.cmpi .eq c4_i32_426 c0_i32_427
  let c1_i32_428 : BitVec 32 := 1#32
  let v813 : BitVec 32 := Scalar.select v812 c1_i32_428 c4_i32_426
  let v814 : BitVec 32 := Scalar.remsi v811 v813
  let c0_i32_430 : BitVec 32 := 0#32
  let v816 : BitVec 1 := Scalar.cmpi .slt v814 c0_i32_430
  let c0_i32_431 : BitVec 32 := 0#32
  let v817 : BitVec 1 := Scalar.cmpi .slt v813 c0_i32_431
  let v818 : BitVec 1 := Scalar.xori v816 v817
  let c0_i32_429 : BitVec 32 := 0#32
  let v815 : BitVec 1 := Scalar.cmpi .ne v814 c0_i32_429
  let v819 : BitVec 1 := Scalar.andi v818 v815
  let v820 : BitVec 32 := Scalar.addi v814 v813
  let v821 : BitVec 32 := Scalar.select v819 v820 v814
  let v822 : BitVec 32 := Scalar.addi v810 v821
  let c1_i32_917 : BitVec 32 := 1#32
  let v1556 : BitVec 32 := Scalar.muli v822 c1_i32_917
  let v1557 : BitVec 32 := Scalar.addi c0_i32_918 v1556
  v1557.toNat
def k0_dev32 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let v824 : BitVec 1 := Scalar.cmpi .sgt v2 c0_i32_433
  let v825 : BitVec 32 := Scalar.extui v824
  let c0_i32_434 : BitVec 32 := 0#32
  let v826 : BitVec 1 := Scalar.cmpi .slt v2 c0_i32_434
  let v827 : BitVec 32 := Scalar.extui v826
  let v828 : BitVec 32 := Scalar.subi v825 v827
  let c4_i32_432 : BitVec 32 := 4#32
  let c0_i32_435 : BitVec 32 := 0#32
  let v829 : BitVec 1 := Scalar.cmpi .sgt c4_i32_432 c0_i32_435
  let v830 : BitVec 32 := Scalar.extui v829
  let c0_i32_436 : BitVec 32 := 0#32
  let v831 : BitVec 1 := Scalar.cmpi .slt c4_i32_432 c0_i32_436
  let v832 : BitVec 32 := Scalar.extui v831
  let v833 : BitVec 32 := Scalar.subi v830 v832
  let v834 : BitVec 1 := Scalar.cmpi .ne v828 v833
  let v835 : BitVec 32 := Scalar.remsi v2 c4_i32_432
  let c0_i32_437 : BitVec 32 := 0#32
  let v836 : BitVec 1 := Scalar.cmpi .ne v835 c0_i32_437
  let v837 : BitVec 1 := Scalar.andi v834 v836
  let v823 : BitVec 32 := Scalar.divsi v2 c4_i32_432
  let c1_i32_438 : BitVec 32 := 1#32
  let v838 : BitVec 32 := Scalar.subi v823 c1_i32_438
  let v839 : BitVec 32 := Scalar.select v837 v838 v823
  let c5_i32_439 : BitVec 32 := 5#32
  let v840 : BitVec 32 := Scalar.addi v839 c5_i32_439
  let c8_i32_440 : BitVec 32 := 8#32
  let c0_i32_441 : BitVec 32 := 0#32
  let v841 : BitVec 1 := Scalar.cmpi .eq c8_i32_440 c0_i32_441
  let c1_i32_442 : BitVec 32 := 1#32
  let v842 : BitVec 32 := Scalar.select v841 c1_i32_442 c8_i32_440
  let v843 : BitVec 32 := Scalar.remsi v840 v842
  let c0_i32_444 : BitVec 32 := 0#32
  let v845 : BitVec 1 := Scalar.cmpi .slt v843 c0_i32_444
  let c0_i32_445 : BitVec 32 := 0#32
  let v846 : BitVec 1 := Scalar.cmpi .slt v842 c0_i32_445
  let v847 : BitVec 1 := Scalar.xori v845 v846
  let c0_i32_443 : BitVec 32 := 0#32
  let v844 : BitVec 1 := Scalar.cmpi .ne v843 c0_i32_443
  let v848 : BitVec 1 := Scalar.andi v847 v844
  let v849 : BitVec 32 := Scalar.addi v843 v842
  let v850 : BitVec 32 := Scalar.select v848 v849 v843
  let c4_i32_446 : BitVec 32 := 4#32
  let v851 : BitVec 32 := Scalar.muli v850 c4_i32_446
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_447 : BitVec 32 := 2#32
  let v852 : BitVec 32 := Scalar.addi v30 c2_i32_447
  let c4_i32_448 : BitVec 32 := 4#32
  let c0_i32_449 : BitVec 32 := 0#32
  let v853 : BitVec 1 := Scalar.cmpi .eq c4_i32_448 c0_i32_449
  let c1_i32_450 : BitVec 32 := 1#32
  let v854 : BitVec 32 := Scalar.select v853 c1_i32_450 c4_i32_448
  let v855 : BitVec 32 := Scalar.remsi v852 v854
  let c0_i32_452 : BitVec 32 := 0#32
  let v857 : BitVec 1 := Scalar.cmpi .slt v855 c0_i32_452
  let c0_i32_453 : BitVec 32 := 0#32
  let v858 : BitVec 1 := Scalar.cmpi .slt v854 c0_i32_453
  let v859 : BitVec 1 := Scalar.xori v857 v858
  let c0_i32_451 : BitVec 32 := 0#32
  let v856 : BitVec 1 := Scalar.cmpi .ne v855 c0_i32_451
  let v860 : BitVec 1 := Scalar.andi v859 v856
  let v861 : BitVec 32 := Scalar.addi v855 v854
  let v862 : BitVec 32 := Scalar.select v860 v861 v855
  let v863 : BitVec 32 := Scalar.addi v851 v862
  let c1_i32_926 : BitVec 32 := 1#32
  let v1567 : BitVec 32 := Scalar.muli v863 c1_i32_926
  let v1568 : BitVec 32 := Scalar.addi c0_i32_927 v1567
  v1568.toNat
def k0_dev33 (d0 : Dev nD) : Nat :=
  let c0_i32_936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_455 : BitVec 32 := 0#32
  let v865 : BitVec 1 := Scalar.cmpi .sgt v2 c0_i32_455
  let v866 : BitVec 32 := Scalar.extui v865
  let c0_i32_456 : BitVec 32 := 0#32
  let v867 : BitVec 1 := Scalar.cmpi .slt v2 c0_i32_456
  let v868 : BitVec 32 := Scalar.extui v867
  let v869 : BitVec 32 := Scalar.subi v866 v868
  let c4_i32_454 : BitVec 32 := 4#32
  let c0_i32_457 : BitVec 32 := 0#32
  let v870 : BitVec 1 := Scalar.cmpi .sgt c4_i32_454 c0_i32_457
  let v871 : BitVec 32 := Scalar.extui v870
  let c0_i32_458 : BitVec 32 := 0#32
  let v872 : BitVec 1 := Scalar.cmpi .slt c4_i32_454 c0_i32_458
  let v873 : BitVec 32 := Scalar.extui v872
  let v874 : BitVec 32 := Scalar.subi v871 v873
  let v875 : BitVec 1 := Scalar.cmpi .ne v869 v874
  let v876 : BitVec 32 := Scalar.remsi v2 c4_i32_454
  let c0_i32_459 : BitVec 32 := 0#32
  let v877 : BitVec 1 := Scalar.cmpi .ne v876 c0_i32_459
  let v878 : BitVec 1 := Scalar.andi v875 v877
  let v864 : BitVec 32 := Scalar.divsi v2 c4_i32_454
  let c1_i32_460 : BitVec 32 := 1#32
  let v879 : BitVec 32 := Scalar.subi v864 c1_i32_460
  let v880 : BitVec 32 := Scalar.select v878 v879 v864
  let c5_i32_461 : BitVec 32 := 5#32
  let v881 : BitVec 32 := Scalar.addi v880 c5_i32_461
  let c8_i32_462 : BitVec 32 := 8#32
  let c0_i32_463 : BitVec 32 := 0#32
  let v882 : BitVec 1 := Scalar.cmpi .eq c8_i32_462 c0_i32_463
  let c1_i32_464 : BitVec 32 := 1#32
  let v883 : BitVec 32 := Scalar.select v882 c1_i32_464 c8_i32_462
  let v884 : BitVec 32 := Scalar.remsi v881 v883
  let c0_i32_466 : BitVec 32 := 0#32
  let v886 : BitVec 1 := Scalar.cmpi .slt v884 c0_i32_466
  let c0_i32_467 : BitVec 32 := 0#32
  let v887 : BitVec 1 := Scalar.cmpi .slt v883 c0_i32_467
  let v888 : BitVec 1 := Scalar.xori v886 v887
  let c0_i32_465 : BitVec 32 := 0#32
  let v885 : BitVec 1 := Scalar.cmpi .ne v884 c0_i32_465
  let v889 : BitVec 1 := Scalar.andi v888 v885
  let v890 : BitVec 32 := Scalar.addi v884 v883
  let v891 : BitVec 32 := Scalar.select v889 v890 v884
  let c4_i32_468 : BitVec 32 := 4#32
  let v892 : BitVec 32 := Scalar.muli v891 c4_i32_468
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_469 : BitVec 32 := 3#32
  let v893 : BitVec 32 := Scalar.addi v30 c3_i32_469
  let c4_i32_470 : BitVec 32 := 4#32
  let c0_i32_471 : BitVec 32 := 0#32
  let v894 : BitVec 1 := Scalar.cmpi .eq c4_i32_470 c0_i32_471
  let c1_i32_472 : BitVec 32 := 1#32
  let v895 : BitVec 32 := Scalar.select v894 c1_i32_472 c4_i32_470
  let v896 : BitVec 32 := Scalar.remsi v893 v895
  let c0_i32_474 : BitVec 32 := 0#32
  let v898 : BitVec 1 := Scalar.cmpi .slt v896 c0_i32_474
  let c0_i32_475 : BitVec 32 := 0#32
  let v899 : BitVec 1 := Scalar.cmpi .slt v895 c0_i32_475
  let v900 : BitVec 1 := Scalar.xori v898 v899
  let c0_i32_473 : BitVec 32 := 0#32
  let v897 : BitVec 1 := Scalar.cmpi .ne v896 c0_i32_473
  let v901 : BitVec 1 := Scalar.andi v900 v897
  let v902 : BitVec 32 := Scalar.addi v896 v895
  let v903 : BitVec 32 := Scalar.select v901 v902 v896
  let v904 : BitVec 32 := Scalar.addi v892 v903
  let c1_i32_935 : BitVec 32 := 1#32
  let v1578 : BitVec 32 := Scalar.muli v904 c1_i32_935
  let v1579 : BitVec 32 := Scalar.addi c0_i32_936 v1578
  v1579.toNat
def k0_dev34 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let v906 : BitVec 1 := Scalar.cmpi .sgt v2 c0_i32_477
  let v907 : BitVec 32 := Scalar.extui v906
  let c0_i32_478 : BitVec 32 := 0#32
  let v908 : BitVec 1 := Scalar.cmpi .slt v2 c0_i32_478
  let v909 : BitVec 32 := Scalar.extui v908
  let v910 : BitVec 32 := Scalar.subi v907 v909
  let c4_i32_476 : BitVec 32 := 4#32
  let c0_i32_479 : BitVec 32 := 0#32
  let v911 : BitVec 1 := Scalar.cmpi .sgt c4_i32_476 c0_i32_479
  let v912 : BitVec 32 := Scalar.extui v911
  let c0_i32_480 : BitVec 32 := 0#32
  let v913 : BitVec 1 := Scalar.cmpi .slt c4_i32_476 c0_i32_480
  let v914 : BitVec 32 := Scalar.extui v913
  let v915 : BitVec 32 := Scalar.subi v912 v914
  let v916 : BitVec 1 := Scalar.cmpi .ne v910 v915
  let v917 : BitVec 32 := Scalar.remsi v2 c4_i32_476
  let c0_i32_481 : BitVec 32 := 0#32
  let v918 : BitVec 1 := Scalar.cmpi .ne v917 c0_i32_481
  let v919 : BitVec 1 := Scalar.andi v916 v918
  let v905 : BitVec 32 := Scalar.divsi v2 c4_i32_476
  let c1_i32_482 : BitVec 32 := 1#32
  let v920 : BitVec 32 := Scalar.subi v905 c1_i32_482
  let v921 : BitVec 32 := Scalar.select v919 v920 v905
  let c6_i32 : BitVec 32 := 6#32
  let v922 : BitVec 32 := Scalar.addi v921 c6_i32
  let c8_i32_483 : BitVec 32 := 8#32
  let c0_i32_484 : BitVec 32 := 0#32
  let v923 : BitVec 1 := Scalar.cmpi .eq c8_i32_483 c0_i32_484
  let c1_i32_485 : BitVec 32 := 1#32
  let v924 : BitVec 32 := Scalar.select v923 c1_i32_485 c8_i32_483
  let v925 : BitVec 32 := Scalar.remsi v922 v924
  let c0_i32_487 : BitVec 32 := 0#32
  let v927 : BitVec 1 := Scalar.cmpi .slt v925 c0_i32_487
  let c0_i32_488 : BitVec 32 := 0#32
  let v928 : BitVec 1 := Scalar.cmpi .slt v924 c0_i32_488
  let v929 : BitVec 1 := Scalar.xori v927 v928
  let c0_i32_486 : BitVec 32 := 0#32
  let v926 : BitVec 1 := Scalar.cmpi .ne v925 c0_i32_486
  let v930 : BitVec 1 := Scalar.andi v929 v926
  let v931 : BitVec 32 := Scalar.addi v925 v924
  let v932 : BitVec 32 := Scalar.select v930 v931 v925
  let c4_i32_489 : BitVec 32 := 4#32
  let v933 : BitVec 32 := Scalar.muli v932 c4_i32_489
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_490 : BitVec 32 := 0#32
  let v934 : BitVec 32 := Scalar.addi v30 c0_i32_490
  let c4_i32_491 : BitVec 32 := 4#32
  let c0_i32_492 : BitVec 32 := 0#32
  let v935 : BitVec 1 := Scalar.cmpi .eq c4_i32_491 c0_i32_492
  let c1_i32_493 : BitVec 32 := 1#32
  let v936 : BitVec 32 := Scalar.select v935 c1_i32_493 c4_i32_491
  let v937 : BitVec 32 := Scalar.remsi v934 v936
  let c0_i32_495 : BitVec 32 := 0#32
  let v939 : BitVec 1 := Scalar.cmpi .slt v937 c0_i32_495
  let c0_i32_496 : BitVec 32 := 0#32
  let v940 : BitVec 1 := Scalar.cmpi .slt v936 c0_i32_496
  let v941 : BitVec 1 := Scalar.xori v939 v940
  let c0_i32_494 : BitVec 32 := 0#32
  let v938 : BitVec 1 := Scalar.cmpi .ne v937 c0_i32_494
  let v942 : BitVec 1 := Scalar.andi v941 v938
  let v943 : BitVec 32 := Scalar.addi v937 v936
  let v944 : BitVec 32 := Scalar.select v942 v943 v937
  let v945 : BitVec 32 := Scalar.addi v933 v944
  let c1_i32_944 : BitVec 32 := 1#32
  let v1589 : BitVec 32 := Scalar.muli v945 c1_i32_944
  let v1590 : BitVec 32 := Scalar.addi c0_i32_945 v1589
  v1590.toNat
def k0_dev35 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_498 : BitVec 32 := 0#32
  let v947 : BitVec 1 := Scalar.cmpi .sgt v2 c0_i32_498
  let v948 : BitVec 32 := Scalar.extui v947
  let c0_i32_499 : BitVec 32 := 0#32
  let v949 : BitVec 1 := Scalar.cmpi .slt v2 c0_i32_499
  let v950 : BitVec 32 := Scalar.extui v949
  let v951 : BitVec 32 := Scalar.subi v948 v950
  let c4_i32_497 : BitVec 32 := 4#32
  let c0_i32_500 : BitVec 32 := 0#32
  let v952 : BitVec 1 := Scalar.cmpi .sgt c4_i32_497 c0_i32_500
  let v953 : BitVec 32 := Scalar.extui v952
  let c0_i32_501 : BitVec 32 := 0#32
  let v954 : BitVec 1 := Scalar.cmpi .slt c4_i32_497 c0_i32_501
  let v955 : BitVec 32 := Scalar.extui v954
  let v956 : BitVec 32 := Scalar.subi v953 v955
  let v957 : BitVec 1 := Scalar.cmpi .ne v951 v956
  let v958 : BitVec 32 := Scalar.remsi v2 c4_i32_497
  let c0_i32_502 : BitVec 32 := 0#32
  let v959 : BitVec 1 := Scalar.cmpi .ne v958 c0_i32_502
  let v960 : BitVec 1 := Scalar.andi v957 v959
  let v946 : BitVec 32 := Scalar.divsi v2 c4_i32_497
  let c1_i32_503 : BitVec 32 := 1#32
  let v961 : BitVec 32 := Scalar.subi v946 c1_i32_503
  let v962 : BitVec 32 := Scalar.select v960 v961 v946
  let c6_i32_504 : BitVec 32 := 6#32
  let v963 : BitVec 32 := Scalar.addi v962 c6_i32_504
  let c8_i32_505 : BitVec 32 := 8#32
  let c0_i32_506 : BitVec 32 := 0#32
  let v964 : BitVec 1 := Scalar.cmpi .eq c8_i32_505 c0_i32_506
  let c1_i32_507 : BitVec 32 := 1#32
  let v965 : BitVec 32 := Scalar.select v964 c1_i32_507 c8_i32_505
  let v966 : BitVec 32 := Scalar.remsi v963 v965
  let c0_i32_509 : BitVec 32 := 0#32
  let v968 : BitVec 1 := Scalar.cmpi .slt v966 c0_i32_509
  let c0_i32_510 : BitVec 32 := 0#32
  let v969 : BitVec 1 := Scalar.cmpi .slt v965 c0_i32_510
  let v970 : BitVec 1 := Scalar.xori v968 v969
  let c0_i32_508 : BitVec 32 := 0#32
  let v967 : BitVec 1 := Scalar.cmpi .ne v966 c0_i32_508
  let v971 : BitVec 1 := Scalar.andi v970 v967
  let v972 : BitVec 32 := Scalar.addi v966 v965
  let v973 : BitVec 32 := Scalar.select v971 v972 v966
  let c4_i32_511 : BitVec 32 := 4#32
  let v974 : BitVec 32 := Scalar.muli v973 c4_i32_511
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_512 : BitVec 32 := 1#32
  let v975 : BitVec 32 := Scalar.addi v30 c1_i32_512
  let c4_i32_513 : BitVec 32 := 4#32
  let c0_i32_514 : BitVec 32 := 0#32
  let v976 : BitVec 1 := Scalar.cmpi .eq c4_i32_513 c0_i32_514
  let c1_i32_515 : BitVec 32 := 1#32
  let v977 : BitVec 32 := Scalar.select v976 c1_i32_515 c4_i32_513
  let v978 : BitVec 32 := Scalar.remsi v975 v977
  let c0_i32_517 : BitVec 32 := 0#32
  let v980 : BitVec 1 := Scalar.cmpi .slt v978 c0_i32_517
  let c0_i32_518 : BitVec 32 := 0#32
  let v981 : BitVec 1 := Scalar.cmpi .slt v977 c0_i32_518
  let v982 : BitVec 1 := Scalar.xori v980 v981
  let c0_i32_516 : BitVec 32 := 0#32
  let v979 : BitVec 1 := Scalar.cmpi .ne v978 c0_i32_516
  let v983 : BitVec 1 := Scalar.andi v982 v979
  let v984 : BitVec 32 := Scalar.addi v978 v977
  let v985 : BitVec 32 := Scalar.select v983 v984 v978
  let v986 : BitVec 32 := Scalar.addi v974 v985
  let c1_i32_953 : BitVec 32 := 1#32
  let v1600 : BitVec 32 := Scalar.muli v986 c1_i32_953
  let v1601 : BitVec 32 := Scalar.addi c0_i32_954 v1600
  v1601.toNat
def k0_dev36 (d0 : Dev nD) : Nat :=
  let c0_i32_963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_520 : BitVec 32 := 0#32
  let v988 : BitVec 1 := Scalar.cmpi .sgt v2 c0_i32_520
  let v989 : BitVec 32 := Scalar.extui v988
  let c0_i32_521 : BitVec 32 := 0#32
  let v990 : BitVec 1 := Scalar.cmpi .slt v2 c0_i32_521
  let v991 : BitVec 32 := Scalar.extui v990
  let v992 : BitVec 32 := Scalar.subi v989 v991
  let c4_i32_519 : BitVec 32 := 4#32
  let c0_i32_522 : BitVec 32 := 0#32
  let v993 : BitVec 1 := Scalar.cmpi .sgt c4_i32_519 c0_i32_522
  let v994 : BitVec 32 := Scalar.extui v993
  let c0_i32_523 : BitVec 32 := 0#32
  let v995 : BitVec 1 := Scalar.cmpi .slt c4_i32_519 c0_i32_523
  let v996 : BitVec 32 := Scalar.extui v995
  let v997 : BitVec 32 := Scalar.subi v994 v996
  let v998 : BitVec 1 := Scalar.cmpi .ne v992 v997
  let v999 : BitVec 32 := Scalar.remsi v2 c4_i32_519
  let c0_i32_524 : BitVec 32 := 0#32
  let v1000 : BitVec 1 := Scalar.cmpi .ne v999 c0_i32_524
  let v1001 : BitVec 1 := Scalar.andi v998 v1000
  let v987 : BitVec 32 := Scalar.divsi v2 c4_i32_519
  let c1_i32_525 : BitVec 32 := 1#32
  let v1002 : BitVec 32 := Scalar.subi v987 c1_i32_525
  let v1003 : BitVec 32 := Scalar.select v1001 v1002 v987
  let c6_i32_526 : BitVec 32 := 6#32
  let v1004 : BitVec 32 := Scalar.addi v1003 c6_i32_526
  let c8_i32_527 : BitVec 32 := 8#32
  let c0_i32_528 : BitVec 32 := 0#32
  let v1005 : BitVec 1 := Scalar.cmpi .eq c8_i32_527 c0_i32_528
  let c1_i32_529 : BitVec 32 := 1#32
  let v1006 : BitVec 32 := Scalar.select v1005 c1_i32_529 c8_i32_527
  let v1007 : BitVec 32 := Scalar.remsi v1004 v1006
  let c0_i32_531 : BitVec 32 := 0#32
  let v1009 : BitVec 1 := Scalar.cmpi .slt v1007 c0_i32_531
  let c0_i32_532 : BitVec 32 := 0#32
  let v1010 : BitVec 1 := Scalar.cmpi .slt v1006 c0_i32_532
  let v1011 : BitVec 1 := Scalar.xori v1009 v1010
  let c0_i32_530 : BitVec 32 := 0#32
  let v1008 : BitVec 1 := Scalar.cmpi .ne v1007 c0_i32_530
  let v1012 : BitVec 1 := Scalar.andi v1011 v1008
  let v1013 : BitVec 32 := Scalar.addi v1007 v1006
  let v1014 : BitVec 32 := Scalar.select v1012 v1013 v1007
  let c4_i32_533 : BitVec 32 := 4#32
  let v1015 : BitVec 32 := Scalar.muli v1014 c4_i32_533
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_534 : BitVec 32 := 2#32
  let v1016 : BitVec 32 := Scalar.addi v30 c2_i32_534
  let c4_i32_535 : BitVec 32 := 4#32
  let c0_i32_536 : BitVec 32 := 0#32
  let v1017 : BitVec 1 := Scalar.cmpi .eq c4_i32_535 c0_i32_536
  let c1_i32_537 : BitVec 32 := 1#32
  let v1018 : BitVec 32 := Scalar.select v1017 c1_i32_537 c4_i32_535
  let v1019 : BitVec 32 := Scalar.remsi v1016 v1018
  let c0_i32_539 : BitVec 32 := 0#32
  let v1021 : BitVec 1 := Scalar.cmpi .slt v1019 c0_i32_539
  let c0_i32_540 : BitVec 32 := 0#32
  let v1022 : BitVec 1 := Scalar.cmpi .slt v1018 c0_i32_540
  let v1023 : BitVec 1 := Scalar.xori v1021 v1022
  let c0_i32_538 : BitVec 32 := 0#32
  let v1020 : BitVec 1 := Scalar.cmpi .ne v1019 c0_i32_538
  let v1024 : BitVec 1 := Scalar.andi v1023 v1020
  let v1025 : BitVec 32 := Scalar.addi v1019 v1018
  let v1026 : BitVec 32 := Scalar.select v1024 v1025 v1019
  let v1027 : BitVec 32 := Scalar.addi v1015 v1026
  let c1_i32_962 : BitVec 32 := 1#32
  let v1611 : BitVec 32 := Scalar.muli v1027 c1_i32_962
  let v1612 : BitVec 32 := Scalar.addi c0_i32_963 v1611
  v1612.toNat
def k0_dev37 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_542 : BitVec 32 := 0#32
  let v1029 : BitVec 1 := Scalar.cmpi .sgt v2 c0_i32_542
  let v1030 : BitVec 32 := Scalar.extui v1029
  let c0_i32_543 : BitVec 32 := 0#32
  let v1031 : BitVec 1 := Scalar.cmpi .slt v2 c0_i32_543
  let v1032 : BitVec 32 := Scalar.extui v1031
  let v1033 : BitVec 32 := Scalar.subi v1030 v1032
  let c4_i32_541 : BitVec 32 := 4#32
  let c0_i32_544 : BitVec 32 := 0#32
  let v1034 : BitVec 1 := Scalar.cmpi .sgt c4_i32_541 c0_i32_544
  let v1035 : BitVec 32 := Scalar.extui v1034
  let c0_i32_545 : BitVec 32 := 0#32
  let v1036 : BitVec 1 := Scalar.cmpi .slt c4_i32_541 c0_i32_545
  let v1037 : BitVec 32 := Scalar.extui v1036
  let v1038 : BitVec 32 := Scalar.subi v1035 v1037
  let v1039 : BitVec 1 := Scalar.cmpi .ne v1033 v1038
  let v1040 : BitVec 32 := Scalar.remsi v2 c4_i32_541
  let c0_i32_546 : BitVec 32 := 0#32
  let v1041 : BitVec 1 := Scalar.cmpi .ne v1040 c0_i32_546
  let v1042 : BitVec 1 := Scalar.andi v1039 v1041
  let v1028 : BitVec 32 := Scalar.divsi v2 c4_i32_541
  let c1_i32_547 : BitVec 32 := 1#32
  let v1043 : BitVec 32 := Scalar.subi v1028 c1_i32_547
  let v1044 : BitVec 32 := Scalar.select v1042 v1043 v1028
  let c6_i32_548 : BitVec 32 := 6#32
  let v1045 : BitVec 32 := Scalar.addi v1044 c6_i32_548
  let c8_i32_549 : BitVec 32 := 8#32
  let c0_i32_550 : BitVec 32 := 0#32
  let v1046 : BitVec 1 := Scalar.cmpi .eq c8_i32_549 c0_i32_550
  let c1_i32_551 : BitVec 32 := 1#32
  let v1047 : BitVec 32 := Scalar.select v1046 c1_i32_551 c8_i32_549
  let v1048 : BitVec 32 := Scalar.remsi v1045 v1047
  let c0_i32_553 : BitVec 32 := 0#32
  let v1050 : BitVec 1 := Scalar.cmpi .slt v1048 c0_i32_553
  let c0_i32_554 : BitVec 32 := 0#32
  let v1051 : BitVec 1 := Scalar.cmpi .slt v1047 c0_i32_554
  let v1052 : BitVec 1 := Scalar.xori v1050 v1051
  let c0_i32_552 : BitVec 32 := 0#32
  let v1049 : BitVec 1 := Scalar.cmpi .ne v1048 c0_i32_552
  let v1053 : BitVec 1 := Scalar.andi v1052 v1049
  let v1054 : BitVec 32 := Scalar.addi v1048 v1047
  let v1055 : BitVec 32 := Scalar.select v1053 v1054 v1048
  let c4_i32_555 : BitVec 32 := 4#32
  let v1056 : BitVec 32 := Scalar.muli v1055 c4_i32_555
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_556 : BitVec 32 := 3#32
  let v1057 : BitVec 32 := Scalar.addi v30 c3_i32_556
  let c4_i32_557 : BitVec 32 := 4#32
  let c0_i32_558 : BitVec 32 := 0#32
  let v1058 : BitVec 1 := Scalar.cmpi .eq c4_i32_557 c0_i32_558
  let c1_i32_559 : BitVec 32 := 1#32
  let v1059 : BitVec 32 := Scalar.select v1058 c1_i32_559 c4_i32_557
  let v1060 : BitVec 32 := Scalar.remsi v1057 v1059
  let c0_i32_561 : BitVec 32 := 0#32
  let v1062 : BitVec 1 := Scalar.cmpi .slt v1060 c0_i32_561
  let c0_i32_562 : BitVec 32 := 0#32
  let v1063 : BitVec 1 := Scalar.cmpi .slt v1059 c0_i32_562
  let v1064 : BitVec 1 := Scalar.xori v1062 v1063
  let c0_i32_560 : BitVec 32 := 0#32
  let v1061 : BitVec 1 := Scalar.cmpi .ne v1060 c0_i32_560
  let v1065 : BitVec 1 := Scalar.andi v1064 v1061
  let v1066 : BitVec 32 := Scalar.addi v1060 v1059
  let v1067 : BitVec 32 := Scalar.select v1065 v1066 v1060
  let v1068 : BitVec 32 := Scalar.addi v1056 v1067
  let c1_i32_971 : BitVec 32 := 1#32
  let v1622 : BitVec 32 := Scalar.muli v1068 c1_i32_971
  let v1623 : BitVec 32 := Scalar.addi c0_i32_972 v1622
  v1623.toNat
def k0_dev38 (d0 : Dev nD) : Nat :=
  let c0_i32_981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_564 : BitVec 32 := 0#32
  let v1070 : BitVec 1 := Scalar.cmpi .sgt v2 c0_i32_564
  let v1071 : BitVec 32 := Scalar.extui v1070
  let c0_i32_565 : BitVec 32 := 0#32
  let v1072 : BitVec 1 := Scalar.cmpi .slt v2 c0_i32_565
  let v1073 : BitVec 32 := Scalar.extui v1072
  let v1074 : BitVec 32 := Scalar.subi v1071 v1073
  let c4_i32_563 : BitVec 32 := 4#32
  let c0_i32_566 : BitVec 32 := 0#32
  let v1075 : BitVec 1 := Scalar.cmpi .sgt c4_i32_563 c0_i32_566
  let v1076 : BitVec 32 := Scalar.extui v1075
  let c0_i32_567 : BitVec 32 := 0#32
  let v1077 : BitVec 1 := Scalar.cmpi .slt c4_i32_563 c0_i32_567
  let v1078 : BitVec 32 := Scalar.extui v1077
  let v1079 : BitVec 32 := Scalar.subi v1076 v1078
  let v1080 : BitVec 1 := Scalar.cmpi .ne v1074 v1079
  let v1081 : BitVec 32 := Scalar.remsi v2 c4_i32_563
  let c0_i32_568 : BitVec 32 := 0#32
  let v1082 : BitVec 1 := Scalar.cmpi .ne v1081 c0_i32_568
  let v1083 : BitVec 1 := Scalar.andi v1080 v1082
  let v1069 : BitVec 32 := Scalar.divsi v2 c4_i32_563
  let c1_i32_569 : BitVec 32 := 1#32
  let v1084 : BitVec 32 := Scalar.subi v1069 c1_i32_569
  let v1085 : BitVec 32 := Scalar.select v1083 v1084 v1069
  let c7_i32 : BitVec 32 := 7#32
  let v1086 : BitVec 32 := Scalar.addi v1085 c7_i32
  let c8_i32_570 : BitVec 32 := 8#32
  let c0_i32_571 : BitVec 32 := 0#32
  let v1087 : BitVec 1 := Scalar.cmpi .eq c8_i32_570 c0_i32_571
  let c1_i32_572 : BitVec 32 := 1#32
  let v1088 : BitVec 32 := Scalar.select v1087 c1_i32_572 c8_i32_570
  let v1089 : BitVec 32 := Scalar.remsi v1086 v1088
  let c0_i32_574 : BitVec 32 := 0#32
  let v1091 : BitVec 1 := Scalar.cmpi .slt v1089 c0_i32_574
  let c0_i32_575 : BitVec 32 := 0#32
  let v1092 : BitVec 1 := Scalar.cmpi .slt v1088 c0_i32_575
  let v1093 : BitVec 1 := Scalar.xori v1091 v1092
  let c0_i32_573 : BitVec 32 := 0#32
  let v1090 : BitVec 1 := Scalar.cmpi .ne v1089 c0_i32_573
  let v1094 : BitVec 1 := Scalar.andi v1093 v1090
  let v1095 : BitVec 32 := Scalar.addi v1089 v1088
  let v1096 : BitVec 32 := Scalar.select v1094 v1095 v1089
  let c4_i32_576 : BitVec 32 := 4#32
  let v1097 : BitVec 32 := Scalar.muli v1096 c4_i32_576
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_577 : BitVec 32 := 0#32
  let v1098 : BitVec 32 := Scalar.addi v30 c0_i32_577
  let c4_i32_578 : BitVec 32 := 4#32
  let c0_i32_579 : BitVec 32 := 0#32
  let v1099 : BitVec 1 := Scalar.cmpi .eq c4_i32_578 c0_i32_579
  let c1_i32_580 : BitVec 32 := 1#32
  let v1100 : BitVec 32 := Scalar.select v1099 c1_i32_580 c4_i32_578
  let v1101 : BitVec 32 := Scalar.remsi v1098 v1100
  let c0_i32_582 : BitVec 32 := 0#32
  let v1103 : BitVec 1 := Scalar.cmpi .slt v1101 c0_i32_582
  let c0_i32_583 : BitVec 32 := 0#32
  let v1104 : BitVec 1 := Scalar.cmpi .slt v1100 c0_i32_583
  let v1105 : BitVec 1 := Scalar.xori v1103 v1104
  let c0_i32_581 : BitVec 32 := 0#32
  let v1102 : BitVec 1 := Scalar.cmpi .ne v1101 c0_i32_581
  let v1106 : BitVec 1 := Scalar.andi v1105 v1102
  let v1107 : BitVec 32 := Scalar.addi v1101 v1100
  let v1108 : BitVec 32 := Scalar.select v1106 v1107 v1101
  let v1109 : BitVec 32 := Scalar.addi v1097 v1108
  let c1_i32_980 : BitVec 32 := 1#32
  let v1633 : BitVec 32 := Scalar.muli v1109 c1_i32_980
  let v1634 : BitVec 32 := Scalar.addi c0_i32_981 v1633
  v1634.toNat
def k0_dev39 (d0 : Dev nD) : Nat :=
  let c0_i32_990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_585 : BitVec 32 := 0#32
  let v1111 : BitVec 1 := Scalar.cmpi .sgt v2 c0_i32_585
  let v1112 : BitVec 32 := Scalar.extui v1111
  let c0_i32_586 : BitVec 32 := 0#32
  let v1113 : BitVec 1 := Scalar.cmpi .slt v2 c0_i32_586
  let v1114 : BitVec 32 := Scalar.extui v1113
  let v1115 : BitVec 32 := Scalar.subi v1112 v1114
  let c4_i32_584 : BitVec 32 := 4#32
  let c0_i32_587 : BitVec 32 := 0#32
  let v1116 : BitVec 1 := Scalar.cmpi .sgt c4_i32_584 c0_i32_587
  let v1117 : BitVec 32 := Scalar.extui v1116
  let c0_i32_588 : BitVec 32 := 0#32
  let v1118 : BitVec 1 := Scalar.cmpi .slt c4_i32_584 c0_i32_588
  let v1119 : BitVec 32 := Scalar.extui v1118
  let v1120 : BitVec 32 := Scalar.subi v1117 v1119
  let v1121 : BitVec 1 := Scalar.cmpi .ne v1115 v1120
  let v1122 : BitVec 32 := Scalar.remsi v2 c4_i32_584
  let c0_i32_589 : BitVec 32 := 0#32
  let v1123 : BitVec 1 := Scalar.cmpi .ne v1122 c0_i32_589
  let v1124 : BitVec 1 := Scalar.andi v1121 v1123
  let v1110 : BitVec 32 := Scalar.divsi v2 c4_i32_584
  let c1_i32_590 : BitVec 32 := 1#32
  let v1125 : BitVec 32 := Scalar.subi v1110 c1_i32_590
  let v1126 : BitVec 32 := Scalar.select v1124 v1125 v1110
  let c7_i32_591 : BitVec 32 := 7#32
  let v1127 : BitVec 32 := Scalar.addi v1126 c7_i32_591
  let c8_i32_592 : BitVec 32 := 8#32
  let c0_i32_593 : BitVec 32 := 0#32
  let v1128 : BitVec 1 := Scalar.cmpi .eq c8_i32_592 c0_i32_593
  let c1_i32_594 : BitVec 32 := 1#32
  let v1129 : BitVec 32 := Scalar.select v1128 c1_i32_594 c8_i32_592
  let v1130 : BitVec 32 := Scalar.remsi v1127 v1129
  let c0_i32_596 : BitVec 32 := 0#32
  let v1132 : BitVec 1 := Scalar.cmpi .slt v1130 c0_i32_596
  let c0_i32_597 : BitVec 32 := 0#32
  let v1133 : BitVec 1 := Scalar.cmpi .slt v1129 c0_i32_597
  let v1134 : BitVec 1 := Scalar.xori v1132 v1133
  let c0_i32_595 : BitVec 32 := 0#32
  let v1131 : BitVec 1 := Scalar.cmpi .ne v1130 c0_i32_595
  let v1135 : BitVec 1 := Scalar.andi v1134 v1131
  let v1136 : BitVec 32 := Scalar.addi v1130 v1129
  let v1137 : BitVec 32 := Scalar.select v1135 v1136 v1130
  let c4_i32_598 : BitVec 32 := 4#32
  let v1138 : BitVec 32 := Scalar.muli v1137 c4_i32_598
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_599 : BitVec 32 := 1#32
  let v1139 : BitVec 32 := Scalar.addi v30 c1_i32_599
  let c4_i32_600 : BitVec 32 := 4#32
  let c0_i32_601 : BitVec 32 := 0#32
  let v1140 : BitVec 1 := Scalar.cmpi .eq c4_i32_600 c0_i32_601
  let c1_i32_602 : BitVec 32 := 1#32
  let v1141 : BitVec 32 := Scalar.select v1140 c1_i32_602 c4_i32_600
  let v1142 : BitVec 32 := Scalar.remsi v1139 v1141
  let c0_i32_604 : BitVec 32 := 0#32
  let v1144 : BitVec 1 := Scalar.cmpi .slt v1142 c0_i32_604
  let c0_i32_605 : BitVec 32 := 0#32
  let v1145 : BitVec 1 := Scalar.cmpi .slt v1141 c0_i32_605
  let v1146 : BitVec 1 := Scalar.xori v1144 v1145
  let c0_i32_603 : BitVec 32 := 0#32
  let v1143 : BitVec 1 := Scalar.cmpi .ne v1142 c0_i32_603
  let v1147 : BitVec 1 := Scalar.andi v1146 v1143
  let v1148 : BitVec 32 := Scalar.addi v1142 v1141
  let v1149 : BitVec 32 := Scalar.select v1147 v1148 v1142
  let v1150 : BitVec 32 := Scalar.addi v1138 v1149
  let c1_i32_989 : BitVec 32 := 1#32
  let v1644 : BitVec 32 := Scalar.muli v1150 c1_i32_989
  let v1645 : BitVec 32 := Scalar.addi c0_i32_990 v1644
  v1645.toNat
def k0_dev40 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_607 : BitVec 32 := 0#32
  let v1152 : BitVec 1 := Scalar.cmpi .sgt v2 c0_i32_607
  let v1153 : BitVec 32 := Scalar.extui v1152
  let c0_i32_608 : BitVec 32 := 0#32
  let v1154 : BitVec 1 := Scalar.cmpi .slt v2 c0_i32_608
  let v1155 : BitVec 32 := Scalar.extui v1154
  let v1156 : BitVec 32 := Scalar.subi v1153 v1155
  let c4_i32_606 : BitVec 32 := 4#32
  let c0_i32_609 : BitVec 32 := 0#32
  let v1157 : BitVec 1 := Scalar.cmpi .sgt c4_i32_606 c0_i32_609
  let v1158 : BitVec 32 := Scalar.extui v1157
  let c0_i32_610 : BitVec 32 := 0#32
  let v1159 : BitVec 1 := Scalar.cmpi .slt c4_i32_606 c0_i32_610
  let v1160 : BitVec 32 := Scalar.extui v1159
  let v1161 : BitVec 32 := Scalar.subi v1158 v1160
  let v1162 : BitVec 1 := Scalar.cmpi .ne v1156 v1161
  let v1163 : BitVec 32 := Scalar.remsi v2 c4_i32_606
  let c0_i32_611 : BitVec 32 := 0#32
  let v1164 : BitVec 1 := Scalar.cmpi .ne v1163 c0_i32_611
  let v1165 : BitVec 1 := Scalar.andi v1162 v1164
  let v1151 : BitVec 32 := Scalar.divsi v2 c4_i32_606
  let c1_i32_612 : BitVec 32 := 1#32
  let v1166 : BitVec 32 := Scalar.subi v1151 c1_i32_612
  let v1167 : BitVec 32 := Scalar.select v1165 v1166 v1151
  let c7_i32_613 : BitVec 32 := 7#32
  let v1168 : BitVec 32 := Scalar.addi v1167 c7_i32_613
  let c8_i32_614 : BitVec 32 := 8#32
  let c0_i32_615 : BitVec 32 := 0#32
  let v1169 : BitVec 1 := Scalar.cmpi .eq c8_i32_614 c0_i32_615
  let c1_i32_616 : BitVec 32 := 1#32
  let v1170 : BitVec 32 := Scalar.select v1169 c1_i32_616 c8_i32_614
  let v1171 : BitVec 32 := Scalar.remsi v1168 v1170
  let c0_i32_618 : BitVec 32 := 0#32
  let v1173 : BitVec 1 := Scalar.cmpi .slt v1171 c0_i32_618
  let c0_i32_619 : BitVec 32 := 0#32
  let v1174 : BitVec 1 := Scalar.cmpi .slt v1170 c0_i32_619
  let v1175 : BitVec 1 := Scalar.xori v1173 v1174
  let c0_i32_617 : BitVec 32 := 0#32
  let v1172 : BitVec 1 := Scalar.cmpi .ne v1171 c0_i32_617
  let v1176 : BitVec 1 := Scalar.andi v1175 v1172
  let v1177 : BitVec 32 := Scalar.addi v1171 v1170
  let v1178 : BitVec 32 := Scalar.select v1176 v1177 v1171
  let c4_i32_620 : BitVec 32 := 4#32
  let v1179 : BitVec 32 := Scalar.muli v1178 c4_i32_620
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_621 : BitVec 32 := 2#32
  let v1180 : BitVec 32 := Scalar.addi v30 c2_i32_621
  let c4_i32_622 : BitVec 32 := 4#32
  let c0_i32_623 : BitVec 32 := 0#32
  let v1181 : BitVec 1 := Scalar.cmpi .eq c4_i32_622 c0_i32_623
  let c1_i32_624 : BitVec 32 := 1#32
  let v1182 : BitVec 32 := Scalar.select v1181 c1_i32_624 c4_i32_622
  let v1183 : BitVec 32 := Scalar.remsi v1180 v1182
  let c0_i32_626 : BitVec 32 := 0#32
  let v1185 : BitVec 1 := Scalar.cmpi .slt v1183 c0_i32_626
  let c0_i32_627 : BitVec 32 := 0#32
  let v1186 : BitVec 1 := Scalar.cmpi .slt v1182 c0_i32_627
  let v1187 : BitVec 1 := Scalar.xori v1185 v1186
  let c0_i32_625 : BitVec 32 := 0#32
  let v1184 : BitVec 1 := Scalar.cmpi .ne v1183 c0_i32_625
  let v1188 : BitVec 1 := Scalar.andi v1187 v1184
  let v1189 : BitVec 32 := Scalar.addi v1183 v1182
  let v1190 : BitVec 32 := Scalar.select v1188 v1189 v1183
  let v1191 : BitVec 32 := Scalar.addi v1179 v1190
  let c1_i32_998 : BitVec 32 := 1#32
  let v1655 : BitVec 32 := Scalar.muli v1191 c1_i32_998
  let v1656 : BitVec 32 := Scalar.addi c0_i32_999 v1655
  v1656.toNat
def k0_dev41 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_629 : BitVec 32 := 0#32
  let v1193 : BitVec 1 := Scalar.cmpi .sgt v2 c0_i32_629
  let v1194 : BitVec 32 := Scalar.extui v1193
  let c0_i32_630 : BitVec 32 := 0#32
  let v1195 : BitVec 1 := Scalar.cmpi .slt v2 c0_i32_630
  let v1196 : BitVec 32 := Scalar.extui v1195
  let v1197 : BitVec 32 := Scalar.subi v1194 v1196
  let c4_i32_628 : BitVec 32 := 4#32
  let c0_i32_631 : BitVec 32 := 0#32
  let v1198 : BitVec 1 := Scalar.cmpi .sgt c4_i32_628 c0_i32_631
  let v1199 : BitVec 32 := Scalar.extui v1198
  let c0_i32_632 : BitVec 32 := 0#32
  let v1200 : BitVec 1 := Scalar.cmpi .slt c4_i32_628 c0_i32_632
  let v1201 : BitVec 32 := Scalar.extui v1200
  let v1202 : BitVec 32 := Scalar.subi v1199 v1201
  let v1203 : BitVec 1 := Scalar.cmpi .ne v1197 v1202
  let v1204 : BitVec 32 := Scalar.remsi v2 c4_i32_628
  let c0_i32_633 : BitVec 32 := 0#32
  let v1205 : BitVec 1 := Scalar.cmpi .ne v1204 c0_i32_633
  let v1206 : BitVec 1 := Scalar.andi v1203 v1205
  let v1192 : BitVec 32 := Scalar.divsi v2 c4_i32_628
  let c1_i32_634 : BitVec 32 := 1#32
  let v1207 : BitVec 32 := Scalar.subi v1192 c1_i32_634
  let v1208 : BitVec 32 := Scalar.select v1206 v1207 v1192
  let c7_i32_635 : BitVec 32 := 7#32
  let v1209 : BitVec 32 := Scalar.addi v1208 c7_i32_635
  let c8_i32_636 : BitVec 32 := 8#32
  let c0_i32_637 : BitVec 32 := 0#32
  let v1210 : BitVec 1 := Scalar.cmpi .eq c8_i32_636 c0_i32_637
  let c1_i32_638 : BitVec 32 := 1#32
  let v1211 : BitVec 32 := Scalar.select v1210 c1_i32_638 c8_i32_636
  let v1212 : BitVec 32 := Scalar.remsi v1209 v1211
  let c0_i32_640 : BitVec 32 := 0#32
  let v1214 : BitVec 1 := Scalar.cmpi .slt v1212 c0_i32_640
  let c0_i32_641 : BitVec 32 := 0#32
  let v1215 : BitVec 1 := Scalar.cmpi .slt v1211 c0_i32_641
  let v1216 : BitVec 1 := Scalar.xori v1214 v1215
  let c0_i32_639 : BitVec 32 := 0#32
  let v1213 : BitVec 1 := Scalar.cmpi .ne v1212 c0_i32_639
  let v1217 : BitVec 1 := Scalar.andi v1216 v1213
  let v1218 : BitVec 32 := Scalar.addi v1212 v1211
  let v1219 : BitVec 32 := Scalar.select v1217 v1218 v1212
  let c4_i32_642 : BitVec 32 := 4#32
  let v1220 : BitVec 32 := Scalar.muli v1219 c4_i32_642
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_643 : BitVec 32 := 3#32
  let v1221 : BitVec 32 := Scalar.addi v30 c3_i32_643
  let c4_i32_644 : BitVec 32 := 4#32
  let c0_i32_645 : BitVec 32 := 0#32
  let v1222 : BitVec 1 := Scalar.cmpi .eq c4_i32_644 c0_i32_645
  let c1_i32_646 : BitVec 32 := 1#32
  let v1223 : BitVec 32 := Scalar.select v1222 c1_i32_646 c4_i32_644
  let v1224 : BitVec 32 := Scalar.remsi v1221 v1223
  let c0_i32_648 : BitVec 32 := 0#32
  let v1226 : BitVec 1 := Scalar.cmpi .slt v1224 c0_i32_648
  let c0_i32_649 : BitVec 32 := 0#32
  let v1227 : BitVec 1 := Scalar.cmpi .slt v1223 c0_i32_649
  let v1228 : BitVec 1 := Scalar.xori v1226 v1227
  let c0_i32_647 : BitVec 32 := 0#32
  let v1225 : BitVec 1 := Scalar.cmpi .ne v1224 c0_i32_647
  let v1229 : BitVec 1 := Scalar.andi v1228 v1225
  let v1230 : BitVec 32 := Scalar.addi v1224 v1223
  let v1231 : BitVec 32 := Scalar.select v1229 v1230 v1224
  let v1232 : BitVec 32 := Scalar.addi v1220 v1231
  let c1_i32_1007 : BitVec 32 := 1#32
  let v1666 : BitVec 32 := Scalar.muli v1232 c1_i32_1007
  let v1667 : BitVec 32 := Scalar.addi c0_i32_1008 v1666
  v1667.toNat
def k0_off10 (d0 : Dev nD) (c1_i32_45 : BitVec 32) (c0_i32_52 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v86 : BitVec 1 := Scalar.cmpi .sgt v2 c0_i32_39
  let v87 : BitVec 32 := Scalar.extui v86
  let c0_i32_40 : BitVec 32 := 0#32
  let v88 : BitVec 1 := Scalar.cmpi .slt v2 c0_i32_40
  let v89 : BitVec 32 := Scalar.extui v88
  let v90 : BitVec 32 := Scalar.subi v87 v89
  let c4_i32_38 : BitVec 32 := 4#32
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v2 c4_i32_38
  let c0_i32_43 : BitVec 32 := 0#32
  let v98 : BitVec 1 := Scalar.cmpi .ne v97 c0_i32_43
  let v99 : BitVec 1 := Scalar.andi v96 v98
  let v85 : BitVec 32 := Scalar.divsi v2 c4_i32_38
  let c1_i32_44 : BitVec 32 := 1#32
  let v100 : BitVec 32 := Scalar.subi v85 c1_i32_44
  let v101 : BitVec 32 := Scalar.select v99 v100 v85
  let v102 : BitVec 32 := Scalar.addi v101 c1_i32_45
  let c8_i32 : BitVec 32 := 8#32
  let c0_i32_46 : BitVec 32 := 0#32
  let v103 : BitVec 1 := Scalar.cmpi .eq c8_i32 c0_i32_46
  let c1_i32_47 : BitVec 32 := 1#32
  let v104 : BitVec 32 := Scalar.select v103 c1_i32_47 c8_i32
  let v105 : BitVec 32 := Scalar.remsi v102 v104
  let c0_i32_49 : BitVec 32 := 0#32
  let v107 : BitVec 1 := Scalar.cmpi .slt v105 c0_i32_49
  let c0_i32_50 : BitVec 32 := 0#32
  let v108 : BitVec 1 := Scalar.cmpi .slt v104 c0_i32_50
  let v109 : BitVec 1 := Scalar.xori v107 v108
  let c0_i32_48 : BitVec 32 := 0#32
  let v106 : BitVec 1 := Scalar.cmpi .ne v105 c0_i32_48
  let v110 : BitVec 1 := Scalar.andi v109 v106
  let v111 : BitVec 32 := Scalar.addi v105 v104
  let v112 : BitVec 32 := Scalar.select v110 v111 v105
  let c4_i32_51 : BitVec 32 := 4#32
  let v113 : BitVec 32 := Scalar.muli v112 c4_i32_51
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v114 : BitVec 32 := Scalar.addi v30 c0_i32_52
  let c4_i32_53 : BitVec 32 := 4#32
  let c0_i32_54 : BitVec 32 := 0#32
  let v115 : BitVec 1 := Scalar.cmpi .eq c4_i32_53 c0_i32_54
  let c1_i32_55 : BitVec 32 := 1#32
  let v116 : BitVec 32 := Scalar.select v115 c1_i32_55 c4_i32_53
  let v117 : BitVec 32 := Scalar.remsi v114 v116
  let c0_i32_57 : BitVec 32 := 0#32
  let v119 : BitVec 1 := Scalar.cmpi .slt v117 c0_i32_57
  let c0_i32_58 : BitVec 32 := 0#32
  let v120 : BitVec 1 := Scalar.cmpi .slt v116 c0_i32_58
  let v121 : BitVec 1 := Scalar.xori v119 v120
  let c0_i32_56 : BitVec 32 := 0#32
  let v118 : BitVec 1 := Scalar.cmpi .ne v117 c0_i32_56
  let v122 : BitVec 1 := Scalar.andi v121 v118
  let v123 : BitVec 32 := Scalar.addi v117 v116
  let v124 : BitVec 32 := Scalar.select v122 v123 v117
  let v125 : BitVec 32 := Scalar.addi v113 v124
  let c1_i32_1015 : BitVec 32 := 1#32
  ![v125.toNat, 1]
def k0_dev42 (d0 : Dev nD) : Nat :=
  let c0_i32_1017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v86 : BitVec 1 := Scalar.cmpi .sgt v2 c0_i32_39
  let v87 : BitVec 32 := Scalar.extui v86
  let c0_i32_40 : BitVec 32 := 0#32
  let v88 : BitVec 1 := Scalar.cmpi .slt v2 c0_i32_40
  let v89 : BitVec 32 := Scalar.extui v88
  let v90 : BitVec 32 := Scalar.subi v87 v89
  let c4_i32_38 : BitVec 32 := 4#32
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v2 c4_i32_38
  let c0_i32_43 : BitVec 32 := 0#32
  let v98 : BitVec 1 := Scalar.cmpi .ne v97 c0_i32_43
  let v99 : BitVec 1 := Scalar.andi v96 v98
  let v85 : BitVec 32 := Scalar.divsi v2 c4_i32_38
  let c1_i32_44 : BitVec 32 := 1#32
  let v100 : BitVec 32 := Scalar.subi v85 c1_i32_44
  let v101 : BitVec 32 := Scalar.select v99 v100 v85
  let c1_i32_45 : BitVec 32 := 1#32
  let v102 : BitVec 32 := Scalar.addi v101 c1_i32_45
  let c8_i32 : BitVec 32 := 8#32
  let c0_i32_46 : BitVec 32 := 0#32
  let v103 : BitVec 1 := Scalar.cmpi .eq c8_i32 c0_i32_46
  let c1_i32_47 : BitVec 32 := 1#32
  let v104 : BitVec 32 := Scalar.select v103 c1_i32_47 c8_i32
  let v105 : BitVec 32 := Scalar.remsi v102 v104
  let c0_i32_49 : BitVec 32 := 0#32
  let v107 : BitVec 1 := Scalar.cmpi .slt v105 c0_i32_49
  let c0_i32_50 : BitVec 32 := 0#32
  let v108 : BitVec 1 := Scalar.cmpi .slt v104 c0_i32_50
  let v109 : BitVec 1 := Scalar.xori v107 v108
  let c0_i32_48 : BitVec 32 := 0#32
  let v106 : BitVec 1 := Scalar.cmpi .ne v105 c0_i32_48
  let v110 : BitVec 1 := Scalar.andi v109 v106
  let v111 : BitVec 32 := Scalar.addi v105 v104
  let v112 : BitVec 32 := Scalar.select v110 v111 v105
  let c4_i32_51 : BitVec 32 := 4#32
  let v113 : BitVec 32 := Scalar.muli v112 c4_i32_51
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_52 : BitVec 32 := 0#32
  let v114 : BitVec 32 := Scalar.addi v30 c0_i32_52
  let c4_i32_53 : BitVec 32 := 4#32
  let c0_i32_54 : BitVec 32 := 0#32
  let v115 : BitVec 1 := Scalar.cmpi .eq c4_i32_53 c0_i32_54
  let c1_i32_55 : BitVec 32 := 1#32
  let v116 : BitVec 32 := Scalar.select v115 c1_i32_55 c4_i32_53
  let v117 : BitVec 32 := Scalar.remsi v114 v116
  let c0_i32_57 : BitVec 32 := 0#32
  let v119 : BitVec 1 := Scalar.cmpi .slt v117 c0_i32_57
  let c0_i32_58 : BitVec 32 := 0#32
  let v120 : BitVec 1 := Scalar.cmpi .slt v116 c0_i32_58
  let v121 : BitVec 1 := Scalar.xori v119 v120
  let c0_i32_56 : BitVec 32 := 0#32
  let v118 : BitVec 1 := Scalar.cmpi .ne v117 c0_i32_56
  let v122 : BitVec 1 := Scalar.andi v121 v118
  let v123 : BitVec 32 := Scalar.addi v117 v116
  let v124 : BitVec 32 := Scalar.select v122 v123 v117
  let v125 : BitVec 32 := Scalar.addi v113 v124
  let c1_i32_1016 : BitVec 32 := 1#32
  let v1677 : BitVec 32 := Scalar.muli v125 c1_i32_1016
  let v1678 : BitVec 32 := Scalar.addi c0_i32_1017 v1677
  v1678.toNat
def k0_dev43 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_60 : BitVec 32 := 0#32
  let v127 : BitVec 1 := Scalar.cmpi .sgt v2 c0_i32_60
  let v128 : BitVec 32 := Scalar.extui v127
  let c0_i32_61 : BitVec 32 := 0#32
  let v129 : BitVec 1 := Scalar.cmpi .slt v2 c0_i32_61
  let v130 : BitVec 32 := Scalar.extui v129
  let v131 : BitVec 32 := Scalar.subi v128 v130
  let c4_i32_59 : BitVec 32 := 4#32
  let c0_i32_62 : BitVec 32 := 0#32
  let v132 : BitVec 1 := Scalar.cmpi .sgt c4_i32_59 c0_i32_62
  let v133 : BitVec 32 := Scalar.extui v132
  let c0_i32_63 : BitVec 32 := 0#32
  let v134 : BitVec 1 := Scalar.cmpi .slt c4_i32_59 c0_i32_63
  let v135 : BitVec 32 := Scalar.extui v134
  let v136 : BitVec 32 := Scalar.subi v133 v135
  let v137 : BitVec 1 := Scalar.cmpi .ne v131 v136
  let v138 : BitVec 32 := Scalar.remsi v2 c4_i32_59
  let c0_i32_64 : BitVec 32 := 0#32
  let v139 : BitVec 1 := Scalar.cmpi .ne v138 c0_i32_64
  let v140 : BitVec 1 := Scalar.andi v137 v139
  let v126 : BitVec 32 := Scalar.divsi v2 c4_i32_59
  let c1_i32_65 : BitVec 32 := 1#32
  let v141 : BitVec 32 := Scalar.subi v126 c1_i32_65
  let v142 : BitVec 32 := Scalar.select v140 v141 v126
  let c1_i32_66 : BitVec 32 := 1#32
  let v143 : BitVec 32 := Scalar.addi v142 c1_i32_66
  let c8_i32_67 : BitVec 32 := 8#32
  let c0_i32_68 : BitVec 32 := 0#32
  let v144 : BitVec 1 := Scalar.cmpi .eq c8_i32_67 c0_i32_68
  let c1_i32_69 : BitVec 32 := 1#32
  let v145 : BitVec 32 := Scalar.select v144 c1_i32_69 c8_i32_67
  let v146 : BitVec 32 := Scalar.remsi v143 v145
  let c0_i32_71 : BitVec 32 := 0#32
  let v148 : BitVec 1 := Scalar.cmpi .slt v146 c0_i32_71
  let c0_i32_72 : BitVec 32 := 0#32
  let v149 : BitVec 1 := Scalar.cmpi .slt v145 c0_i32_72
  let v150 : BitVec 1 := Scalar.xori v148 v149
  let c0_i32_70 : BitVec 32 := 0#32
  let v147 : BitVec 1 := Scalar.cmpi .ne v146 c0_i32_70
  let v151 : BitVec 1 := Scalar.andi v150 v147
  let v152 : BitVec 32 := Scalar.addi v146 v145
  let v153 : BitVec 32 := Scalar.select v151 v152 v146
  let c4_i32_73 : BitVec 32 := 4#32
  let v154 : BitVec 32 := Scalar.muli v153 c4_i32_73
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_74 : BitVec 32 := 1#32
  let v155 : BitVec 32 := Scalar.addi v30 c1_i32_74
  let c4_i32_75 : BitVec 32 := 4#32
  let c0_i32_76 : BitVec 32 := 0#32
  let v156 : BitVec 1 := Scalar.cmpi .eq c4_i32_75 c0_i32_76
  let c1_i32_77 : BitVec 32 := 1#32
  let v157 : BitVec 32 := Scalar.select v156 c1_i32_77 c4_i32_75
  let v158 : BitVec 32 := Scalar.remsi v155 v157
  let c0_i32_79 : BitVec 32 := 0#32
  let v160 : BitVec 1 := Scalar.cmpi .slt v158 c0_i32_79
  let c0_i32_80 : BitVec 32 := 0#32
  let v161 : BitVec 1 := Scalar.cmpi .slt v157 c0_i32_80
  let v162 : BitVec 1 := Scalar.xori v160 v161
  let c0_i32_78 : BitVec 32 := 0#32
  let v159 : BitVec 1 := Scalar.cmpi .ne v158 c0_i32_78
  let v163 : BitVec 1 := Scalar.andi v162 v159
  let v164 : BitVec 32 := Scalar.addi v158 v157
  let v165 : BitVec 32 := Scalar.select v163 v164 v158
  let v166 : BitVec 32 := Scalar.addi v154 v165
  let c1_i32_1025 : BitVec 32 := 1#32
  let v1688 : BitVec 32 := Scalar.muli v166 c1_i32_1025
  let v1689 : BitVec 32 := Scalar.addi c0_i32_1026 v1688
  v1689.toNat
def k0_dev44 (d0 : Dev nD) : Nat :=
  let c0_i32_1035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_82 : BitVec 32 := 0#32
  let v168 : BitVec 1 := Scalar.cmpi .sgt v2 c0_i32_82
  let v169 : BitVec 32 := Scalar.extui v168
  let c0_i32_83 : BitVec 32 := 0#32
  let v170 : BitVec 1 := Scalar.cmpi .slt v2 c0_i32_83
  let v171 : BitVec 32 := Scalar.extui v170
  let v172 : BitVec 32 := Scalar.subi v169 v171
  let c4_i32_81 : BitVec 32 := 4#32
  let c0_i32_84 : BitVec 32 := 0#32
  let v173 : BitVec 1 := Scalar.cmpi .sgt c4_i32_81 c0_i32_84
  let v174 : BitVec 32 := Scalar.extui v173
  let c0_i32_85 : BitVec 32 := 0#32
  let v175 : BitVec 1 := Scalar.cmpi .slt c4_i32_81 c0_i32_85
  let v176 : BitVec 32 := Scalar.extui v175
  let v177 : BitVec 32 := Scalar.subi v174 v176
  let v178 : BitVec 1 := Scalar.cmpi .ne v172 v177
  let v179 : BitVec 32 := Scalar.remsi v2 c4_i32_81
  let c0_i32_86 : BitVec 32 := 0#32
  let v180 : BitVec 1 := Scalar.cmpi .ne v179 c0_i32_86
  let v181 : BitVec 1 := Scalar.andi v178 v180
  let v167 : BitVec 32 := Scalar.divsi v2 c4_i32_81
  let c1_i32_87 : BitVec 32 := 1#32
  let v182 : BitVec 32 := Scalar.subi v167 c1_i32_87
  let v183 : BitVec 32 := Scalar.select v181 v182 v167
  let c1_i32_88 : BitVec 32 := 1#32
  let v184 : BitVec 32 := Scalar.addi v183 c1_i32_88
  let c8_i32_89 : BitVec 32 := 8#32
  let c0_i32_90 : BitVec 32 := 0#32
  let v185 : BitVec 1 := Scalar.cmpi .eq c8_i32_89 c0_i32_90
  let c1_i32_91 : BitVec 32 := 1#32
  let v186 : BitVec 32 := Scalar.select v185 c1_i32_91 c8_i32_89
  let v187 : BitVec 32 := Scalar.remsi v184 v186
  let c0_i32_93 : BitVec 32 := 0#32
  let v189 : BitVec 1 := Scalar.cmpi .slt v187 c0_i32_93
  let c0_i32_94 : BitVec 32 := 0#32
  let v190 : BitVec 1 := Scalar.cmpi .slt v186 c0_i32_94
  let v191 : BitVec 1 := Scalar.xori v189 v190
  let c0_i32_92 : BitVec 32 := 0#32
  let v188 : BitVec 1 := Scalar.cmpi .ne v187 c0_i32_92
  let v192 : BitVec 1 := Scalar.andi v191 v188
  let v193 : BitVec 32 := Scalar.addi v187 v186
  let v194 : BitVec 32 := Scalar.select v192 v193 v187
  let c4_i32_95 : BitVec 32 := 4#32
  let v195 : BitVec 32 := Scalar.muli v194 c4_i32_95
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_96 : BitVec 32 := 2#32
  let v196 : BitVec 32 := Scalar.addi v30 c2_i32_96
  let c4_i32_97 : BitVec 32 := 4#32
  let c0_i32_98 : BitVec 32 := 0#32
  let v197 : BitVec 1 := Scalar.cmpi .eq c4_i32_97 c0_i32_98
  let c1_i32_99 : BitVec 32 := 1#32
  let v198 : BitVec 32 := Scalar.select v197 c1_i32_99 c4_i32_97
  let v199 : BitVec 32 := Scalar.remsi v196 v198
  let c0_i32_101 : BitVec 32 := 0#32
  let v201 : BitVec 1 := Scalar.cmpi .slt v199 c0_i32_101
  let c0_i32_102 : BitVec 32 := 0#32
  let v202 : BitVec 1 := Scalar.cmpi .slt v198 c0_i32_102
  let v203 : BitVec 1 := Scalar.xori v201 v202
  let c0_i32_100 : BitVec 32 := 0#32
  let v200 : BitVec 1 := Scalar.cmpi .ne v199 c0_i32_100
  let v204 : BitVec 1 := Scalar.andi v203 v200
  let v205 : BitVec 32 := Scalar.addi v199 v198
  let v206 : BitVec 32 := Scalar.select v204 v205 v199
  let v207 : BitVec 32 := Scalar.addi v195 v206
  let c1_i32_1034 : BitVec 32 := 1#32
  let v1699 : BitVec 32 := Scalar.muli v207 c1_i32_1034
  let v1700 : BitVec 32 := Scalar.addi c0_i32_1035 v1699
  v1700.toNat
def k0_dev45 (d0 : Dev nD) : Nat :=
  let c0_i32_1044 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_104 : BitVec 32 := 0#32
  let v209 : BitVec 1 := Scalar.cmpi .sgt v2 c0_i32_104
  let v210 : BitVec 32 := Scalar.extui v209
  let c0_i32_105 : BitVec 32 := 0#32
  let v211 : BitVec 1 := Scalar.cmpi .slt v2 c0_i32_105
  let v212 : BitVec 32 := Scalar.extui v211
  let v213 : BitVec 32 := Scalar.subi v210 v212
  let c4_i32_103 : BitVec 32 := 4#32
  let c0_i32_106 : BitVec 32 := 0#32
  let v214 : BitVec 1 := Scalar.cmpi .sgt c4_i32_103 c0_i32_106
  let v215 : BitVec 32 := Scalar.extui v214
  let c0_i32_107 : BitVec 32 := 0#32
  let v216 : BitVec 1 := Scalar.cmpi .slt c4_i32_103 c0_i32_107
  let v217 : BitVec 32 := Scalar.extui v216
  let v218 : BitVec 32 := Scalar.subi v215 v217
  let v219 : BitVec 1 := Scalar.cmpi .ne v213 v218
  let v220 : BitVec 32 := Scalar.remsi v2 c4_i32_103
  let c0_i32_108 : BitVec 32 := 0#32
  let v221 : BitVec 1 := Scalar.cmpi .ne v220 c0_i32_108
  let v222 : BitVec 1 := Scalar.andi v219 v221
  let v208 : BitVec 32 := Scalar.divsi v2 c4_i32_103
  let c1_i32_109 : BitVec 32 := 1#32
  let v223 : BitVec 32 := Scalar.subi v208 c1_i32_109
  let v224 : BitVec 32 := Scalar.select v222 v223 v208
  let c1_i32_110 : BitVec 32 := 1#32
  let v225 : BitVec 32 := Scalar.addi v224 c1_i32_110
  let c8_i32_111 : BitVec 32 := 8#32
  let c0_i32_112 : BitVec 32 := 0#32
  let v226 : BitVec 1 := Scalar.cmpi .eq c8_i32_111 c0_i32_112
  let c1_i32_113 : BitVec 32 := 1#32
  let v227 : BitVec 32 := Scalar.select v226 c1_i32_113 c8_i32_111
  let v228 : BitVec 32 := Scalar.remsi v225 v227
  let c0_i32_115 : BitVec 32 := 0#32
  let v230 : BitVec 1 := Scalar.cmpi .slt v228 c0_i32_115
  let c0_i32_116 : BitVec 32 := 0#32
  let v231 : BitVec 1 := Scalar.cmpi .slt v227 c0_i32_116
  let v232 : BitVec 1 := Scalar.xori v230 v231
  let c0_i32_114 : BitVec 32 := 0#32
  let v229 : BitVec 1 := Scalar.cmpi .ne v228 c0_i32_114
  let v233 : BitVec 1 := Scalar.andi v232 v229
  let v234 : BitVec 32 := Scalar.addi v228 v227
  let v235 : BitVec 32 := Scalar.select v233 v234 v228
  let c4_i32_117 : BitVec 32 := 4#32
  let v236 : BitVec 32 := Scalar.muli v235 c4_i32_117
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_118 : BitVec 32 := 3#32
  let v237 : BitVec 32 := Scalar.addi v30 c3_i32_118
  let c4_i32_119 : BitVec 32 := 4#32
  let c0_i32_120 : BitVec 32 := 0#32
  let v238 : BitVec 1 := Scalar.cmpi .eq c4_i32_119 c0_i32_120
  let c1_i32_121 : BitVec 32 := 1#32
  let v239 : BitVec 32 := Scalar.select v238 c1_i32_121 c4_i32_119
  let v240 : BitVec 32 := Scalar.remsi v237 v239
  let c0_i32_123 : BitVec 32 := 0#32
  let v242 : BitVec 1 := Scalar.cmpi .slt v240 c0_i32_123
  let c0_i32_124 : BitVec 32 := 0#32
  let v243 : BitVec 1 := Scalar.cmpi .slt v239 c0_i32_124
  let v244 : BitVec 1 := Scalar.xori v242 v243
  let c0_i32_122 : BitVec 32 := 0#32
  let v241 : BitVec 1 := Scalar.cmpi .ne v240 c0_i32_122
  let v245 : BitVec 1 := Scalar.andi v244 v241
  let v246 : BitVec 32 := Scalar.addi v240 v239
  let v247 : BitVec 32 := Scalar.select v245 v246 v240
  let v248 : BitVec 32 := Scalar.addi v236 v247
  let c1_i32_1043 : BitVec 32 := 1#32
  let v1710 : BitVec 32 := Scalar.muli v248 c1_i32_1043
  let v1711 : BitVec 32 := Scalar.addi c0_i32_1044 v1710
  v1711.toNat
def k0_dev46 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_126 : BitVec 32 := 0#32
  let v250 : BitVec 1 := Scalar.cmpi .sgt v2 c0_i32_126
  let v251 : BitVec 32 := Scalar.extui v250
  let c0_i32_127 : BitVec 32 := 0#32
  let v252 : BitVec 1 := Scalar.cmpi .slt v2 c0_i32_127
  let v253 : BitVec 32 := Scalar.extui v252
  let v254 : BitVec 32 := Scalar.subi v251 v253
  let c4_i32_125 : BitVec 32 := 4#32
  let c0_i32_128 : BitVec 32 := 0#32
  let v255 : BitVec 1 := Scalar.cmpi .sgt c4_i32_125 c0_i32_128
  let v256 : BitVec 32 := Scalar.extui v255
  let c0_i32_129 : BitVec 32 := 0#32
  let v257 : BitVec 1 := Scalar.cmpi .slt c4_i32_125 c0_i32_129
  let v258 : BitVec 32 := Scalar.extui v257
  let v259 : BitVec 32 := Scalar.subi v256 v258
  let v260 : BitVec 1 := Scalar.cmpi .ne v254 v259
  let v261 : BitVec 32 := Scalar.remsi v2 c4_i32_125
  let c0_i32_130 : BitVec 32 := 0#32
  let v262 : BitVec 1 := Scalar.cmpi .ne v261 c0_i32_130
  let v263 : BitVec 1 := Scalar.andi v260 v262
  let v249 : BitVec 32 := Scalar.divsi v2 c4_i32_125
  let c1_i32_131 : BitVec 32 := 1#32
  let v264 : BitVec 32 := Scalar.subi v249 c1_i32_131
  let v265 : BitVec 32 := Scalar.select v263 v264 v249
  let c2_i32_132 : BitVec 32 := 2#32
  let v266 : BitVec 32 := Scalar.addi v265 c2_i32_132
  let c8_i32_133 : BitVec 32 := 8#32
  let c0_i32_134 : BitVec 32 := 0#32
  let v267 : BitVec 1 := Scalar.cmpi .eq c8_i32_133 c0_i32_134
  let c1_i32_135 : BitVec 32 := 1#32
  let v268 : BitVec 32 := Scalar.select v267 c1_i32_135 c8_i32_133
  let v269 : BitVec 32 := Scalar.remsi v266 v268
  let c0_i32_137 : BitVec 32 := 0#32
  let v271 : BitVec 1 := Scalar.cmpi .slt v269 c0_i32_137
  let c0_i32_138 : BitVec 32 := 0#32
  let v272 : BitVec 1 := Scalar.cmpi .slt v268 c0_i32_138
  let v273 : BitVec 1 := Scalar.xori v271 v272
  let c0_i32_136 : BitVec 32 := 0#32
  let v270 : BitVec 1 := Scalar.cmpi .ne v269 c0_i32_136
  let v274 : BitVec 1 := Scalar.andi v273 v270
  let v275 : BitVec 32 := Scalar.addi v269 v268
  let v276 : BitVec 32 := Scalar.select v274 v275 v269
  let c4_i32_139 : BitVec 32 := 4#32
  let v277 : BitVec 32 := Scalar.muli v276 c4_i32_139
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_140 : BitVec 32 := 0#32
  let v278 : BitVec 32 := Scalar.addi v30 c0_i32_140
  let c4_i32_141 : BitVec 32 := 4#32
  let c0_i32_142 : BitVec 32 := 0#32
  let v279 : BitVec 1 := Scalar.cmpi .eq c4_i32_141 c0_i32_142
  let c1_i32_143 : BitVec 32 := 1#32
  let v280 : BitVec 32 := Scalar.select v279 c1_i32_143 c4_i32_141
  let v281 : BitVec 32 := Scalar.remsi v278 v280
  let c0_i32_145 : BitVec 32 := 0#32
  let v283 : BitVec 1 := Scalar.cmpi .slt v281 c0_i32_145
  let c0_i32_146 : BitVec 32 := 0#32
  let v284 : BitVec 1 := Scalar.cmpi .slt v280 c0_i32_146
  let v285 : BitVec 1 := Scalar.xori v283 v284
  let c0_i32_144 : BitVec 32 := 0#32
  let v282 : BitVec 1 := Scalar.cmpi .ne v281 c0_i32_144
  let v286 : BitVec 1 := Scalar.andi v285 v282
  let v287 : BitVec 32 := Scalar.addi v281 v280
  let v288 : BitVec 32 := Scalar.select v286 v287 v281
  let v289 : BitVec 32 := Scalar.addi v277 v288
  let c1_i32_1052 : BitVec 32 := 1#32
  let v1721 : BitVec 32 := Scalar.muli v289 c1_i32_1052
  let v1722 : BitVec 32 := Scalar.addi c0_i32_1053 v1721
  v1722.toNat
def k0_dev47 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v291 : BitVec 1 := Scalar.cmpi .sgt v2 c0_i32_148
  let v292 : BitVec 32 := Scalar.extui v291
  let c0_i32_149 : BitVec 32 := 0#32
  let v293 : BitVec 1 := Scalar.cmpi .slt v2 c0_i32_149
  let v294 : BitVec 32 := Scalar.extui v293
  let v295 : BitVec 32 := Scalar.subi v292 v294
  let c4_i32_147 : BitVec 32 := 4#32
  let c0_i32_150 : BitVec 32 := 0#32
  let v296 : BitVec 1 := Scalar.cmpi .sgt c4_i32_147 c0_i32_150
  let v297 : BitVec 32 := Scalar.extui v296
  let c0_i32_151 : BitVec 32 := 0#32
  let v298 : BitVec 1 := Scalar.cmpi .slt c4_i32_147 c0_i32_151
  let v299 : BitVec 32 := Scalar.extui v298
  let v300 : BitVec 32 := Scalar.subi v297 v299
  let v301 : BitVec 1 := Scalar.cmpi .ne v295 v300
  let v302 : BitVec 32 := Scalar.remsi v2 c4_i32_147
  let c0_i32_152 : BitVec 32 := 0#32
  let v303 : BitVec 1 := Scalar.cmpi .ne v302 c0_i32_152
  let v304 : BitVec 1 := Scalar.andi v301 v303
  let v290 : BitVec 32 := Scalar.divsi v2 c4_i32_147
  let c1_i32_153 : BitVec 32 := 1#32
  let v305 : BitVec 32 := Scalar.subi v290 c1_i32_153
  let v306 : BitVec 32 := Scalar.select v304 v305 v290
  let c2_i32_154 : BitVec 32 := 2#32
  let v307 : BitVec 32 := Scalar.addi v306 c2_i32_154
  let c8_i32_155 : BitVec 32 := 8#32
  let c0_i32_156 : BitVec 32 := 0#32
  let v308 : BitVec 1 := Scalar.cmpi .eq c8_i32_155 c0_i32_156
  let c1_i32_157 : BitVec 32 := 1#32
  let v309 : BitVec 32 := Scalar.select v308 c1_i32_157 c8_i32_155
  let v310 : BitVec 32 := Scalar.remsi v307 v309
  let c0_i32_159 : BitVec 32 := 0#32
  let v312 : BitVec 1 := Scalar.cmpi .slt v310 c0_i32_159
  let c0_i32_160 : BitVec 32 := 0#32
  let v313 : BitVec 1 := Scalar.cmpi .slt v309 c0_i32_160
  let v314 : BitVec 1 := Scalar.xori v312 v313
  let c0_i32_158 : BitVec 32 := 0#32
  let v311 : BitVec 1 := Scalar.cmpi .ne v310 c0_i32_158
  let v315 : BitVec 1 := Scalar.andi v314 v311
  let v316 : BitVec 32 := Scalar.addi v310 v309
  let v317 : BitVec 32 := Scalar.select v315 v316 v310
  let c4_i32_161 : BitVec 32 := 4#32
  let v318 : BitVec 32 := Scalar.muli v317 c4_i32_161
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_162 : BitVec 32 := 1#32
  let v319 : BitVec 32 := Scalar.addi v30 c1_i32_162
  let c4_i32_163 : BitVec 32 := 4#32
  let c0_i32_164 : BitVec 32 := 0#32
  let v320 : BitVec 1 := Scalar.cmpi .eq c4_i32_163 c0_i32_164
  let c1_i32_165 : BitVec 32 := 1#32
  let v321 : BitVec 32 := Scalar.select v320 c1_i32_165 c4_i32_163
  let v322 : BitVec 32 := Scalar.remsi v319 v321
  let c0_i32_167 : BitVec 32 := 0#32
  let v324 : BitVec 1 := Scalar.cmpi .slt v322 c0_i32_167
  let c0_i32_168 : BitVec 32 := 0#32
  let v325 : BitVec 1 := Scalar.cmpi .slt v321 c0_i32_168
  let v326 : BitVec 1 := Scalar.xori v324 v325
  let c0_i32_166 : BitVec 32 := 0#32
  let v323 : BitVec 1 := Scalar.cmpi .ne v322 c0_i32_166
  let v327 : BitVec 1 := Scalar.andi v326 v323
  let v328 : BitVec 32 := Scalar.addi v322 v321
  let v329 : BitVec 32 := Scalar.select v327 v328 v322
  let v330 : BitVec 32 := Scalar.addi v318 v329
  let c1_i32_1061 : BitVec 32 := 1#32
  let v1732 : BitVec 32 := Scalar.muli v330 c1_i32_1061
  let v1733 : BitVec 32 := Scalar.addi c0_i32_1062 v1732
  v1733.toNat
def k0_dev48 (d0 : Dev nD) : Nat :=
  let c0_i32_1071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_170 : BitVec 32 := 0#32
  let v332 : BitVec 1 := Scalar.cmpi .sgt v2 c0_i32_170
  let v333 : BitVec 32 := Scalar.extui v332
  let c0_i32_171 : BitVec 32 := 0#32
  let v334 : BitVec 1 := Scalar.cmpi .slt v2 c0_i32_171
  let v335 : BitVec 32 := Scalar.extui v334
  let v336 : BitVec 32 := Scalar.subi v333 v335
  let c4_i32_169 : BitVec 32 := 4#32
  let c0_i32_172 : BitVec 32 := 0#32
  let v337 : BitVec 1 := Scalar.cmpi .sgt c4_i32_169 c0_i32_172
  let v338 : BitVec 32 := Scalar.extui v337
  let c0_i32_173 : BitVec 32 := 0#32
  let v339 : BitVec 1 := Scalar.cmpi .slt c4_i32_169 c0_i32_173
  let v340 : BitVec 32 := Scalar.extui v339
  let v341 : BitVec 32 := Scalar.subi v338 v340
  let v342 : BitVec 1 := Scalar.cmpi .ne v336 v341
  let v343 : BitVec 32 := Scalar.remsi v2 c4_i32_169
  let c0_i32_174 : BitVec 32 := 0#32
  let v344 : BitVec 1 := Scalar.cmpi .ne v343 c0_i32_174
  let v345 : BitVec 1 := Scalar.andi v342 v344
  let v331 : BitVec 32 := Scalar.divsi v2 c4_i32_169
  let c1_i32_175 : BitVec 32 := 1#32
  let v346 : BitVec 32 := Scalar.subi v331 c1_i32_175
  let v347 : BitVec 32 := Scalar.select v345 v346 v331
  let c2_i32_176 : BitVec 32 := 2#32
  let v348 : BitVec 32 := Scalar.addi v347 c2_i32_176
  let c8_i32_177 : BitVec 32 := 8#32
  let c0_i32_178 : BitVec 32 := 0#32
  let v349 : BitVec 1 := Scalar.cmpi .eq c8_i32_177 c0_i32_178
  let c1_i32_179 : BitVec 32 := 1#32
  let v350 : BitVec 32 := Scalar.select v349 c1_i32_179 c8_i32_177
  let v351 : BitVec 32 := Scalar.remsi v348 v350
  let c0_i32_181 : BitVec 32 := 0#32
  let v353 : BitVec 1 := Scalar.cmpi .slt v351 c0_i32_181
  let c0_i32_182 : BitVec 32 := 0#32
  let v354 : BitVec 1 := Scalar.cmpi .slt v350 c0_i32_182
  let v355 : BitVec 1 := Scalar.xori v353 v354
  let c0_i32_180 : BitVec 32 := 0#32
  let v352 : BitVec 1 := Scalar.cmpi .ne v351 c0_i32_180
  let v356 : BitVec 1 := Scalar.andi v355 v352
  let v357 : BitVec 32 := Scalar.addi v351 v350
  let v358 : BitVec 32 := Scalar.select v356 v357 v351
  let c4_i32_183 : BitVec 32 := 4#32
  let v359 : BitVec 32 := Scalar.muli v358 c4_i32_183
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_184 : BitVec 32 := 2#32
  let v360 : BitVec 32 := Scalar.addi v30 c2_i32_184
  let c4_i32_185 : BitVec 32 := 4#32
  let c0_i32_186 : BitVec 32 := 0#32
  let v361 : BitVec 1 := Scalar.cmpi .eq c4_i32_185 c0_i32_186
  let c1_i32_187 : BitVec 32 := 1#32
  let v362 : BitVec 32 := Scalar.select v361 c1_i32_187 c4_i32_185
  let v363 : BitVec 32 := Scalar.remsi v360 v362
  let c0_i32_189 : BitVec 32 := 0#32
  let v365 : BitVec 1 := Scalar.cmpi .slt v363 c0_i32_189
  let c0_i32_190 : BitVec 32 := 0#32
  let v366 : BitVec 1 := Scalar.cmpi .slt v362 c0_i32_190
  let v367 : BitVec 1 := Scalar.xori v365 v366
  let c0_i32_188 : BitVec 32 := 0#32
  let v364 : BitVec 1 := Scalar.cmpi .ne v363 c0_i32_188
  let v368 : BitVec 1 := Scalar.andi v367 v364
  let v369 : BitVec 32 := Scalar.addi v363 v362
  let v370 : BitVec 32 := Scalar.select v368 v369 v363
  let v371 : BitVec 32 := Scalar.addi v359 v370
  let c1_i32_1070 : BitVec 32 := 1#32
  let v1743 : BitVec 32 := Scalar.muli v371 c1_i32_1070
  let v1744 : BitVec 32 := Scalar.addi c0_i32_1071 v1743
  v1744.toNat
def k0_dev49 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_192 : BitVec 32 := 0#32
  let v373 : BitVec 1 := Scalar.cmpi .sgt v2 c0_i32_192
  let v374 : BitVec 32 := Scalar.extui v373
  let c0_i32_193 : BitVec 32 := 0#32
  let v375 : BitVec 1 := Scalar.cmpi .slt v2 c0_i32_193
  let v376 : BitVec 32 := Scalar.extui v375
  let v377 : BitVec 32 := Scalar.subi v374 v376
  let c4_i32_191 : BitVec 32 := 4#32
  let c0_i32_194 : BitVec 32 := 0#32
  let v378 : BitVec 1 := Scalar.cmpi .sgt c4_i32_191 c0_i32_194
  let v379 : BitVec 32 := Scalar.extui v378
  let c0_i32_195 : BitVec 32 := 0#32
  let v380 : BitVec 1 := Scalar.cmpi .slt c4_i32_191 c0_i32_195
  let v381 : BitVec 32 := Scalar.extui v380
  let v382 : BitVec 32 := Scalar.subi v379 v381
  let v383 : BitVec 1 := Scalar.cmpi .ne v377 v382
  let v384 : BitVec 32 := Scalar.remsi v2 c4_i32_191
  let c0_i32_196 : BitVec 32 := 0#32
  let v385 : BitVec 1 := Scalar.cmpi .ne v384 c0_i32_196
  let v386 : BitVec 1 := Scalar.andi v383 v385
  let v372 : BitVec 32 := Scalar.divsi v2 c4_i32_191
  let c1_i32_197 : BitVec 32 := 1#32
  let v387 : BitVec 32 := Scalar.subi v372 c1_i32_197
  let v388 : BitVec 32 := Scalar.select v386 v387 v372
  let c2_i32_198 : BitVec 32 := 2#32
  let v389 : BitVec 32 := Scalar.addi v388 c2_i32_198
  let c8_i32_199 : BitVec 32 := 8#32
  let c0_i32_200 : BitVec 32 := 0#32
  let v390 : BitVec 1 := Scalar.cmpi .eq c8_i32_199 c0_i32_200
  let c1_i32_201 : BitVec 32 := 1#32
  let v391 : BitVec 32 := Scalar.select v390 c1_i32_201 c8_i32_199
  let v392 : BitVec 32 := Scalar.remsi v389 v391
  let c0_i32_203 : BitVec 32 := 0#32
  let v394 : BitVec 1 := Scalar.cmpi .slt v392 c0_i32_203
  let c0_i32_204 : BitVec 32 := 0#32
  let v395 : BitVec 1 := Scalar.cmpi .slt v391 c0_i32_204
  let v396 : BitVec 1 := Scalar.xori v394 v395
  let c0_i32_202 : BitVec 32 := 0#32
  let v393 : BitVec 1 := Scalar.cmpi .ne v392 c0_i32_202
  let v397 : BitVec 1 := Scalar.andi v396 v393
  let v398 : BitVec 32 := Scalar.addi v392 v391
  let v399 : BitVec 32 := Scalar.select v397 v398 v392
  let c4_i32_205 : BitVec 32 := 4#32
  let v400 : BitVec 32 := Scalar.muli v399 c4_i32_205
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_206 : BitVec 32 := 3#32
  let v401 : BitVec 32 := Scalar.addi v30 c3_i32_206
  let c4_i32_207 : BitVec 32 := 4#32
  let c0_i32_208 : BitVec 32 := 0#32
  let v402 : BitVec 1 := Scalar.cmpi .eq c4_i32_207 c0_i32_208
  let c1_i32_209 : BitVec 32 := 1#32
  let v403 : BitVec 32 := Scalar.select v402 c1_i32_209 c4_i32_207
  let v404 : BitVec 32 := Scalar.remsi v401 v403
  let c0_i32_211 : BitVec 32 := 0#32
  let v406 : BitVec 1 := Scalar.cmpi .slt v404 c0_i32_211
  let c0_i32_212 : BitVec 32 := 0#32
  let v407 : BitVec 1 := Scalar.cmpi .slt v403 c0_i32_212
  let v408 : BitVec 1 := Scalar.xori v406 v407
  let c0_i32_210 : BitVec 32 := 0#32
  let v405 : BitVec 1 := Scalar.cmpi .ne v404 c0_i32_210
  let v409 : BitVec 1 := Scalar.andi v408 v405
  let v410 : BitVec 32 := Scalar.addi v404 v403
  let v411 : BitVec 32 := Scalar.select v409 v410 v404
  let v412 : BitVec 32 := Scalar.addi v400 v411
  let c1_i32_1079 : BitVec 32 := 1#32
  let v1754 : BitVec 32 := Scalar.muli v412 c1_i32_1079
  let v1755 : BitVec 32 := Scalar.addi c0_i32_1080 v1754
  v1755.toNat
def k0_dev50 (d0 : Dev nD) : Nat :=
  let c0_i32_1089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_214 : BitVec 32 := 0#32
  let v414 : BitVec 1 := Scalar.cmpi .sgt v2 c0_i32_214
  let v415 : BitVec 32 := Scalar.extui v414
  let c0_i32_215 : BitVec 32 := 0#32
  let v416 : BitVec 1 := Scalar.cmpi .slt v2 c0_i32_215
  let v417 : BitVec 32 := Scalar.extui v416
  let v418 : BitVec 32 := Scalar.subi v415 v417
  let c4_i32_213 : BitVec 32 := 4#32
  let c0_i32_216 : BitVec 32 := 0#32
  let v419 : BitVec 1 := Scalar.cmpi .sgt c4_i32_213 c0_i32_216
  let v420 : BitVec 32 := Scalar.extui v419
  let c0_i32_217 : BitVec 32 := 0#32
  let v421 : BitVec 1 := Scalar.cmpi .slt c4_i32_213 c0_i32_217
  let v422 : BitVec 32 := Scalar.extui v421
  let v423 : BitVec 32 := Scalar.subi v420 v422
  let v424 : BitVec 1 := Scalar.cmpi .ne v418 v423
  let v425 : BitVec 32 := Scalar.remsi v2 c4_i32_213
  let c0_i32_218 : BitVec 32 := 0#32
  let v426 : BitVec 1 := Scalar.cmpi .ne v425 c0_i32_218
  let v427 : BitVec 1 := Scalar.andi v424 v426
  let v413 : BitVec 32 := Scalar.divsi v2 c4_i32_213
  let c1_i32_219 : BitVec 32 := 1#32
  let v428 : BitVec 32 := Scalar.subi v413 c1_i32_219
  let v429 : BitVec 32 := Scalar.select v427 v428 v413
  let c3_i32_220 : BitVec 32 := 3#32
  let v430 : BitVec 32 := Scalar.addi v429 c3_i32_220
  let c8_i32_221 : BitVec 32 := 8#32
  let c0_i32_222 : BitVec 32 := 0#32
  let v431 : BitVec 1 := Scalar.cmpi .eq c8_i32_221 c0_i32_222
  let c1_i32_223 : BitVec 32 := 1#32
  let v432 : BitVec 32 := Scalar.select v431 c1_i32_223 c8_i32_221
  let v433 : BitVec 32 := Scalar.remsi v430 v432
  let c0_i32_225 : BitVec 32 := 0#32
  let v435 : BitVec 1 := Scalar.cmpi .slt v433 c0_i32_225
  let c0_i32_226 : BitVec 32 := 0#32
  let v436 : BitVec 1 := Scalar.cmpi .slt v432 c0_i32_226
  let v437 : BitVec 1 := Scalar.xori v435 v436
  let c0_i32_224 : BitVec 32 := 0#32
  let v434 : BitVec 1 := Scalar.cmpi .ne v433 c0_i32_224
  let v438 : BitVec 1 := Scalar.andi v437 v434
  let v439 : BitVec 32 := Scalar.addi v433 v432
  let v440 : BitVec 32 := Scalar.select v438 v439 v433
  let c4_i32_227 : BitVec 32 := 4#32
  let v441 : BitVec 32 := Scalar.muli v440 c4_i32_227
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_228 : BitVec 32 := 0#32
  let v442 : BitVec 32 := Scalar.addi v30 c0_i32_228
  let c4_i32_229 : BitVec 32 := 4#32
  let c0_i32_230 : BitVec 32 := 0#32
  let v443 : BitVec 1 := Scalar.cmpi .eq c4_i32_229 c0_i32_230
  let c1_i32_231 : BitVec 32 := 1#32
  let v444 : BitVec 32 := Scalar.select v443 c1_i32_231 c4_i32_229
  let v445 : BitVec 32 := Scalar.remsi v442 v444
  let c0_i32_233 : BitVec 32 := 0#32
  let v447 : BitVec 1 := Scalar.cmpi .slt v445 c0_i32_233
  let c0_i32_234 : BitVec 32 := 0#32
  let v448 : BitVec 1 := Scalar.cmpi .slt v444 c0_i32_234
  let v449 : BitVec 1 := Scalar.xori v447 v448
  let c0_i32_232 : BitVec 32 := 0#32
  let v446 : BitVec 1 := Scalar.cmpi .ne v445 c0_i32_232
  let v450 : BitVec 1 := Scalar.andi v449 v446
  let v451 : BitVec 32 := Scalar.addi v445 v444
  let v452 : BitVec 32 := Scalar.select v450 v451 v445
  let v453 : BitVec 32 := Scalar.addi v441 v452
  let c1_i32_1088 : BitVec 32 := 1#32
  let v1765 : BitVec 32 := Scalar.muli v453 c1_i32_1088
  let v1766 : BitVec 32 := Scalar.addi c0_i32_1089 v1765
  v1766.toNat
def k0_dev51 (d0 : Dev nD) : Nat :=
  let c0_i32_1098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_236 : BitVec 32 := 0#32
  let v455 : BitVec 1 := Scalar.cmpi .sgt v2 c0_i32_236
  let v456 : BitVec 32 := Scalar.extui v455
  let c0_i32_237 : BitVec 32 := 0#32
  let v457 : BitVec 1 := Scalar.cmpi .slt v2 c0_i32_237
  let v458 : BitVec 32 := Scalar.extui v457
  let v459 : BitVec 32 := Scalar.subi v456 v458
  let c4_i32_235 : BitVec 32 := 4#32
  let c0_i32_238 : BitVec 32 := 0#32
  let v460 : BitVec 1 := Scalar.cmpi .sgt c4_i32_235 c0_i32_238
  let v461 : BitVec 32 := Scalar.extui v460
  let c0_i32_239 : BitVec 32 := 0#32
  let v462 : BitVec 1 := Scalar.cmpi .slt c4_i32_235 c0_i32_239
  let v463 : BitVec 32 := Scalar.extui v462
  let v464 : BitVec 32 := Scalar.subi v461 v463
  let v465 : BitVec 1 := Scalar.cmpi .ne v459 v464
  let v466 : BitVec 32 := Scalar.remsi v2 c4_i32_235
  let c0_i32_240 : BitVec 32 := 0#32
  let v467 : BitVec 1 := Scalar.cmpi .ne v466 c0_i32_240
  let v468 : BitVec 1 := Scalar.andi v465 v467
  let v454 : BitVec 32 := Scalar.divsi v2 c4_i32_235
  let c1_i32_241 : BitVec 32 := 1#32
  let v469 : BitVec 32 := Scalar.subi v454 c1_i32_241
  let v470 : BitVec 32 := Scalar.select v468 v469 v454
  let c3_i32_242 : BitVec 32 := 3#32
  let v471 : BitVec 32 := Scalar.addi v470 c3_i32_242
  let c8_i32_243 : BitVec 32 := 8#32
  let c0_i32_244 : BitVec 32 := 0#32
  let v472 : BitVec 1 := Scalar.cmpi .eq c8_i32_243 c0_i32_244
  let c1_i32_245 : BitVec 32 := 1#32
  let v473 : BitVec 32 := Scalar.select v472 c1_i32_245 c8_i32_243
  let v474 : BitVec 32 := Scalar.remsi v471 v473
  let c0_i32_247 : BitVec 32 := 0#32
  let v476 : BitVec 1 := Scalar.cmpi .slt v474 c0_i32_247
  let c0_i32_248 : BitVec 32 := 0#32
  let v477 : BitVec 1 := Scalar.cmpi .slt v473 c0_i32_248
  let v478 : BitVec 1 := Scalar.xori v476 v477
  let c0_i32_246 : BitVec 32 := 0#32
  let v475 : BitVec 1 := Scalar.cmpi .ne v474 c0_i32_246
  let v479 : BitVec 1 := Scalar.andi v478 v475
  let v480 : BitVec 32 := Scalar.addi v474 v473
  let v481 : BitVec 32 := Scalar.select v479 v480 v474
  let c4_i32_249 : BitVec 32 := 4#32
  let v482 : BitVec 32 := Scalar.muli v481 c4_i32_249
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_250 : BitVec 32 := 1#32
  let v483 : BitVec 32 := Scalar.addi v30 c1_i32_250
  let c4_i32_251 : BitVec 32 := 4#32
  let c0_i32_252 : BitVec 32 := 0#32
  let v484 : BitVec 1 := Scalar.cmpi .eq c4_i32_251 c0_i32_252
  let c1_i32_253 : BitVec 32 := 1#32
  let v485 : BitVec 32 := Scalar.select v484 c1_i32_253 c4_i32_251
  let v486 : BitVec 32 := Scalar.remsi v483 v485
  let c0_i32_255 : BitVec 32 := 0#32
  let v488 : BitVec 1 := Scalar.cmpi .slt v486 c0_i32_255
  let c0_i32_256 : BitVec 32 := 0#32
  let v489 : BitVec 1 := Scalar.cmpi .slt v485 c0_i32_256
  let v490 : BitVec 1 := Scalar.xori v488 v489
  let c0_i32_254 : BitVec 32 := 0#32
  let v487 : BitVec 1 := Scalar.cmpi .ne v486 c0_i32_254
  let v491 : BitVec 1 := Scalar.andi v490 v487
  let v492 : BitVec 32 := Scalar.addi v486 v485
  let v493 : BitVec 32 := Scalar.select v491 v492 v486
  let v494 : BitVec 32 := Scalar.addi v482 v493
  let c1_i32_1097 : BitVec 32 := 1#32
  let v1776 : BitVec 32 := Scalar.muli v494 c1_i32_1097
  let v1777 : BitVec 32 := Scalar.addi c0_i32_1098 v1776
  v1777.toNat
def k0_dev52 (d0 : Dev nD) : Nat :=
  let c0_i32_1107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_258 : BitVec 32 := 0#32
  let v496 : BitVec 1 := Scalar.cmpi .sgt v2 c0_i32_258
  let v497 : BitVec 32 := Scalar.extui v496
  let c0_i32_259 : BitVec 32 := 0#32
  let v498 : BitVec 1 := Scalar.cmpi .slt v2 c0_i32_259
  let v499 : BitVec 32 := Scalar.extui v498
  let v500 : BitVec 32 := Scalar.subi v497 v499
  let c4_i32_257 : BitVec 32 := 4#32
  let c0_i32_260 : BitVec 32 := 0#32
  let v501 : BitVec 1 := Scalar.cmpi .sgt c4_i32_257 c0_i32_260
  let v502 : BitVec 32 := Scalar.extui v501
  let c0_i32_261 : BitVec 32 := 0#32
  let v503 : BitVec 1 := Scalar.cmpi .slt c4_i32_257 c0_i32_261
  let v504 : BitVec 32 := Scalar.extui v503
  let v505 : BitVec 32 := Scalar.subi v502 v504
  let v506 : BitVec 1 := Scalar.cmpi .ne v500 v505
  let v507 : BitVec 32 := Scalar.remsi v2 c4_i32_257
  let c0_i32_262 : BitVec 32 := 0#32
  let v508 : BitVec 1 := Scalar.cmpi .ne v507 c0_i32_262
  let v509 : BitVec 1 := Scalar.andi v506 v508
  let v495 : BitVec 32 := Scalar.divsi v2 c4_i32_257
  let c1_i32_263 : BitVec 32 := 1#32
  let v510 : BitVec 32 := Scalar.subi v495 c1_i32_263
  let v511 : BitVec 32 := Scalar.select v509 v510 v495
  let c3_i32_264 : BitVec 32 := 3#32
  let v512 : BitVec 32 := Scalar.addi v511 c3_i32_264
  let c8_i32_265 : BitVec 32 := 8#32
  let c0_i32_266 : BitVec 32 := 0#32
  let v513 : BitVec 1 := Scalar.cmpi .eq c8_i32_265 c0_i32_266
  let c1_i32_267 : BitVec 32 := 1#32
  let v514 : BitVec 32 := Scalar.select v513 c1_i32_267 c8_i32_265
  let v515 : BitVec 32 := Scalar.remsi v512 v514
  let c0_i32_269 : BitVec 32 := 0#32
  let v517 : BitVec 1 := Scalar.cmpi .slt v515 c0_i32_269
  let c0_i32_270 : BitVec 32 := 0#32
  let v518 : BitVec 1 := Scalar.cmpi .slt v514 c0_i32_270
  let v519 : BitVec 1 := Scalar.xori v517 v518
  let c0_i32_268 : BitVec 32 := 0#32
  let v516 : BitVec 1 := Scalar.cmpi .ne v515 c0_i32_268
  let v520 : BitVec 1 := Scalar.andi v519 v516
  let v521 : BitVec 32 := Scalar.addi v515 v514
  let v522 : BitVec 32 := Scalar.select v520 v521 v515
  let c4_i32_271 : BitVec 32 := 4#32
  let v523 : BitVec 32 := Scalar.muli v522 c4_i32_271
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_272 : BitVec 32 := 2#32
  let v524 : BitVec 32 := Scalar.addi v30 c2_i32_272
  let c4_i32_273 : BitVec 32 := 4#32
  let c0_i32_274 : BitVec 32 := 0#32
  let v525 : BitVec 1 := Scalar.cmpi .eq c4_i32_273 c0_i32_274
  let c1_i32_275 : BitVec 32 := 1#32
  let v526 : BitVec 32 := Scalar.select v525 c1_i32_275 c4_i32_273
  let v527 : BitVec 32 := Scalar.remsi v524 v526
  let c0_i32_277 : BitVec 32 := 0#32
  let v529 : BitVec 1 := Scalar.cmpi .slt v527 c0_i32_277
  let c0_i32_278 : BitVec 32 := 0#32
  let v530 : BitVec 1 := Scalar.cmpi .slt v526 c0_i32_278
  let v531 : BitVec 1 := Scalar.xori v529 v530
  let c0_i32_276 : BitVec 32 := 0#32
  let v528 : BitVec 1 := Scalar.cmpi .ne v527 c0_i32_276
  let v532 : BitVec 1 := Scalar.andi v531 v528
  let v533 : BitVec 32 := Scalar.addi v527 v526
  let v534 : BitVec 32 := Scalar.select v532 v533 v527
  let v535 : BitVec 32 := Scalar.addi v523 v534
  let c1_i32_1106 : BitVec 32 := 1#32
  let v1787 : BitVec 32 := Scalar.muli v535 c1_i32_1106
  let v1788 : BitVec 32 := Scalar.addi c0_i32_1107 v1787
  v1788.toNat
def k0_dev53 (d0 : Dev nD) : Nat :=
  let c0_i32_1116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_280 : BitVec 32 := 0#32
  let v537 : BitVec 1 := Scalar.cmpi .sgt v2 c0_i32_280
  let v538 : BitVec 32 := Scalar.extui v537
  let c0_i32_281 : BitVec 32 := 0#32
  let v539 : BitVec 1 := Scalar.cmpi .slt v2 c0_i32_281
  let v540 : BitVec 32 := Scalar.extui v539
  let v541 : BitVec 32 := Scalar.subi v538 v540
  let c4_i32_279 : BitVec 32 := 4#32
  let c0_i32_282 : BitVec 32 := 0#32
  let v542 : BitVec 1 := Scalar.cmpi .sgt c4_i32_279 c0_i32_282
  let v543 : BitVec 32 := Scalar.extui v542
  let c0_i32_283 : BitVec 32 := 0#32
  let v544 : BitVec 1 := Scalar.cmpi .slt c4_i32_279 c0_i32_283
  let v545 : BitVec 32 := Scalar.extui v544
  let v546 : BitVec 32 := Scalar.subi v543 v545
  let v547 : BitVec 1 := Scalar.cmpi .ne v541 v546
  let v548 : BitVec 32 := Scalar.remsi v2 c4_i32_279
  let c0_i32_284 : BitVec 32 := 0#32
  let v549 : BitVec 1 := Scalar.cmpi .ne v548 c0_i32_284
  let v550 : BitVec 1 := Scalar.andi v547 v549
  let v536 : BitVec 32 := Scalar.divsi v2 c4_i32_279
  let c1_i32_285 : BitVec 32 := 1#32
  let v551 : BitVec 32 := Scalar.subi v536 c1_i32_285
  let v552 : BitVec 32 := Scalar.select v550 v551 v536
  let c3_i32_286 : BitVec 32 := 3#32
  let v553 : BitVec 32 := Scalar.addi v552 c3_i32_286
  let c8_i32_287 : BitVec 32 := 8#32
  let c0_i32_288 : BitVec 32 := 0#32
  let v554 : BitVec 1 := Scalar.cmpi .eq c8_i32_287 c0_i32_288
  let c1_i32_289 : BitVec 32 := 1#32
  let v555 : BitVec 32 := Scalar.select v554 c1_i32_289 c8_i32_287
  let v556 : BitVec 32 := Scalar.remsi v553 v555
  let c0_i32_291 : BitVec 32 := 0#32
  let v558 : BitVec 1 := Scalar.cmpi .slt v556 c0_i32_291
  let c0_i32_292 : BitVec 32 := 0#32
  let v559 : BitVec 1 := Scalar.cmpi .slt v555 c0_i32_292
  let v560 : BitVec 1 := Scalar.xori v558 v559
  let c0_i32_290 : BitVec 32 := 0#32
  let v557 : BitVec 1 := Scalar.cmpi .ne v556 c0_i32_290
  let v561 : BitVec 1 := Scalar.andi v560 v557
  let v562 : BitVec 32 := Scalar.addi v556 v555
  let v563 : BitVec 32 := Scalar.select v561 v562 v556
  let c4_i32_293 : BitVec 32 := 4#32
  let v564 : BitVec 32 := Scalar.muli v563 c4_i32_293
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_294 : BitVec 32 := 3#32
  let v565 : BitVec 32 := Scalar.addi v30 c3_i32_294
  let c4_i32_295 : BitVec 32 := 4#32
  let c0_i32_296 : BitVec 32 := 0#32
  let v566 : BitVec 1 := Scalar.cmpi .eq c4_i32_295 c0_i32_296
  let c1_i32_297 : BitVec 32 := 1#32
  let v567 : BitVec 32 := Scalar.select v566 c1_i32_297 c4_i32_295
  let v568 : BitVec 32 := Scalar.remsi v565 v567
  let c0_i32_299 : BitVec 32 := 0#32
  let v570 : BitVec 1 := Scalar.cmpi .slt v568 c0_i32_299
  let c0_i32_300 : BitVec 32 := 0#32
  let v571 : BitVec 1 := Scalar.cmpi .slt v567 c0_i32_300
  let v572 : BitVec 1 := Scalar.xori v570 v571
  let c0_i32_298 : BitVec 32 := 0#32
  let v569 : BitVec 1 := Scalar.cmpi .ne v568 c0_i32_298
  let v573 : BitVec 1 := Scalar.andi v572 v569
  let v574 : BitVec 32 := Scalar.addi v568 v567
  let v575 : BitVec 32 := Scalar.select v573 v574 v568
  let v576 : BitVec 32 := Scalar.addi v564 v575
  let c1_i32_1115 : BitVec 32 := 1#32
  let v1798 : BitVec 32 := Scalar.muli v576 c1_i32_1115
  let v1799 : BitVec 32 := Scalar.addi c0_i32_1116 v1798
  v1799.toNat
def k0_dev54 (d0 : Dev nD) : Nat :=
  let c0_i32_1125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_302 : BitVec 32 := 0#32
  let v578 : BitVec 1 := Scalar.cmpi .sgt v2 c0_i32_302
  let v579 : BitVec 32 := Scalar.extui v578
  let c0_i32_303 : BitVec 32 := 0#32
  let v580 : BitVec 1 := Scalar.cmpi .slt v2 c0_i32_303
  let v581 : BitVec 32 := Scalar.extui v580
  let v582 : BitVec 32 := Scalar.subi v579 v581
  let c4_i32_301 : BitVec 32 := 4#32
  let c0_i32_304 : BitVec 32 := 0#32
  let v583 : BitVec 1 := Scalar.cmpi .sgt c4_i32_301 c0_i32_304
  let v584 : BitVec 32 := Scalar.extui v583
  let c0_i32_305 : BitVec 32 := 0#32
  let v585 : BitVec 1 := Scalar.cmpi .slt c4_i32_301 c0_i32_305
  let v586 : BitVec 32 := Scalar.extui v585
  let v587 : BitVec 32 := Scalar.subi v584 v586
  let v588 : BitVec 1 := Scalar.cmpi .ne v582 v587
  let v589 : BitVec 32 := Scalar.remsi v2 c4_i32_301
  let c0_i32_306 : BitVec 32 := 0#32
  let v590 : BitVec 1 := Scalar.cmpi .ne v589 c0_i32_306
  let v591 : BitVec 1 := Scalar.andi v588 v590
  let v577 : BitVec 32 := Scalar.divsi v2 c4_i32_301
  let c1_i32_307 : BitVec 32 := 1#32
  let v592 : BitVec 32 := Scalar.subi v577 c1_i32_307
  let v593 : BitVec 32 := Scalar.select v591 v592 v577
  let c4_i32_308 : BitVec 32 := 4#32
  let v594 : BitVec 32 := Scalar.addi v593 c4_i32_308
  let c8_i32_309 : BitVec 32 := 8#32
  let c0_i32_310 : BitVec 32 := 0#32
  let v595 : BitVec 1 := Scalar.cmpi .eq c8_i32_309 c0_i32_310
  let c1_i32_311 : BitVec 32 := 1#32
  let v596 : BitVec 32 := Scalar.select v595 c1_i32_311 c8_i32_309
  let v597 : BitVec 32 := Scalar.remsi v594 v596
  let c0_i32_313 : BitVec 32 := 0#32
  let v599 : BitVec 1 := Scalar.cmpi .slt v597 c0_i32_313
  let c0_i32_314 : BitVec 32 := 0#32
  let v600 : BitVec 1 := Scalar.cmpi .slt v596 c0_i32_314
  let v601 : BitVec 1 := Scalar.xori v599 v600
  let c0_i32_312 : BitVec 32 := 0#32
  let v598 : BitVec 1 := Scalar.cmpi .ne v597 c0_i32_312
  let v602 : BitVec 1 := Scalar.andi v601 v598
  let v603 : BitVec 32 := Scalar.addi v597 v596
  let v604 : BitVec 32 := Scalar.select v602 v603 v597
  let c4_i32_315 : BitVec 32 := 4#32
  let v605 : BitVec 32 := Scalar.muli v604 c4_i32_315
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_316 : BitVec 32 := 0#32
  let v606 : BitVec 32 := Scalar.addi v30 c0_i32_316
  let c4_i32_317 : BitVec 32 := 4#32
  let c0_i32_318 : BitVec 32 := 0#32
  let v607 : BitVec 1 := Scalar.cmpi .eq c4_i32_317 c0_i32_318
  let c1_i32_319 : BitVec 32 := 1#32
  let v608 : BitVec 32 := Scalar.select v607 c1_i32_319 c4_i32_317
  let v609 : BitVec 32 := Scalar.remsi v606 v608
  let c0_i32_321 : BitVec 32 := 0#32
  let v611 : BitVec 1 := Scalar.cmpi .slt v609 c0_i32_321
  let c0_i32_322 : BitVec 32 := 0#32
  let v612 : BitVec 1 := Scalar.cmpi .slt v608 c0_i32_322
  let v613 : BitVec 1 := Scalar.xori v611 v612
  let c0_i32_320 : BitVec 32 := 0#32
  let v610 : BitVec 1 := Scalar.cmpi .ne v609 c0_i32_320
  let v614 : BitVec 1 := Scalar.andi v613 v610
  let v615 : BitVec 32 := Scalar.addi v609 v608
  let v616 : BitVec 32 := Scalar.select v614 v615 v609
  let v617 : BitVec 32 := Scalar.addi v605 v616
  let c1_i32_1124 : BitVec 32 := 1#32
  let v1809 : BitVec 32 := Scalar.muli v617 c1_i32_1124
  let v1810 : BitVec 32 := Scalar.addi c0_i32_1125 v1809
  v1810.toNat
def k0_dev55 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_324 : BitVec 32 := 0#32
  let v619 : BitVec 1 := Scalar.cmpi .sgt v2 c0_i32_324
  let v620 : BitVec 32 := Scalar.extui v619
  let c0_i32_325 : BitVec 32 := 0#32
  let v621 : BitVec 1 := Scalar.cmpi .slt v2 c0_i32_325
  let v622 : BitVec 32 := Scalar.extui v621
  let v623 : BitVec 32 := Scalar.subi v620 v622
  let c4_i32_323 : BitVec 32 := 4#32
  let c0_i32_326 : BitVec 32 := 0#32
  let v624 : BitVec 1 := Scalar.cmpi .sgt c4_i32_323 c0_i32_326
  let v625 : BitVec 32 := Scalar.extui v624
  let c0_i32_327 : BitVec 32 := 0#32
  let v626 : BitVec 1 := Scalar.cmpi .slt c4_i32_323 c0_i32_327
  let v627 : BitVec 32 := Scalar.extui v626
  let v628 : BitVec 32 := Scalar.subi v625 v627
  let v629 : BitVec 1 := Scalar.cmpi .ne v623 v628
  let v630 : BitVec 32 := Scalar.remsi v2 c4_i32_323
  let c0_i32_328 : BitVec 32 := 0#32
  let v631 : BitVec 1 := Scalar.cmpi .ne v630 c0_i32_328
  let v632 : BitVec 1 := Scalar.andi v629 v631
  let v618 : BitVec 32 := Scalar.divsi v2 c4_i32_323
  let c1_i32_329 : BitVec 32 := 1#32
  let v633 : BitVec 32 := Scalar.subi v618 c1_i32_329
  let v634 : BitVec 32 := Scalar.select v632 v633 v618
  let c4_i32_330 : BitVec 32 := 4#32
  let v635 : BitVec 32 := Scalar.addi v634 c4_i32_330
  let c8_i32_331 : BitVec 32 := 8#32
  let c0_i32_332 : BitVec 32 := 0#32
  let v636 : BitVec 1 := Scalar.cmpi .eq c8_i32_331 c0_i32_332
  let c1_i32_333 : BitVec 32 := 1#32
  let v637 : BitVec 32 := Scalar.select v636 c1_i32_333 c8_i32_331
  let v638 : BitVec 32 := Scalar.remsi v635 v637
  let c0_i32_335 : BitVec 32 := 0#32
  let v640 : BitVec 1 := Scalar.cmpi .slt v638 c0_i32_335
  let c0_i32_336 : BitVec 32 := 0#32
  let v641 : BitVec 1 := Scalar.cmpi .slt v637 c0_i32_336
  let v642 : BitVec 1 := Scalar.xori v640 v641
  let c0_i32_334 : BitVec 32 := 0#32
  let v639 : BitVec 1 := Scalar.cmpi .ne v638 c0_i32_334
  let v643 : BitVec 1 := Scalar.andi v642 v639
  let v644 : BitVec 32 := Scalar.addi v638 v637
  let v645 : BitVec 32 := Scalar.select v643 v644 v638
  let c4_i32_337 : BitVec 32 := 4#32
  let v646 : BitVec 32 := Scalar.muli v645 c4_i32_337
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_338 : BitVec 32 := 1#32
  let v647 : BitVec 32 := Scalar.addi v30 c1_i32_338
  let c4_i32_339 : BitVec 32 := 4#32
  let c0_i32_340 : BitVec 32 := 0#32
  let v648 : BitVec 1 := Scalar.cmpi .eq c4_i32_339 c0_i32_340
  let c1_i32_341 : BitVec 32 := 1#32
  let v649 : BitVec 32 := Scalar.select v648 c1_i32_341 c4_i32_339
  let v650 : BitVec 32 := Scalar.remsi v647 v649
  let c0_i32_343 : BitVec 32 := 0#32
  let v652 : BitVec 1 := Scalar.cmpi .slt v650 c0_i32_343
  let c0_i32_344 : BitVec 32 := 0#32
  let v653 : BitVec 1 := Scalar.cmpi .slt v649 c0_i32_344
  let v654 : BitVec 1 := Scalar.xori v652 v653
  let c0_i32_342 : BitVec 32 := 0#32
  let v651 : BitVec 1 := Scalar.cmpi .ne v650 c0_i32_342
  let v655 : BitVec 1 := Scalar.andi v654 v651
  let v656 : BitVec 32 := Scalar.addi v650 v649
  let v657 : BitVec 32 := Scalar.select v655 v656 v650
  let v658 : BitVec 32 := Scalar.addi v646 v657
  let c1_i32_1133 : BitVec 32 := 1#32
  let v1820 : BitVec 32 := Scalar.muli v658 c1_i32_1133
  let v1821 : BitVec 32 := Scalar.addi c0_i32_1134 v1820
  v1821.toNat
def k0_dev56 (d0 : Dev nD) : Nat :=
  let c0_i32_1143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_346 : BitVec 32 := 0#32
  let v660 : BitVec 1 := Scalar.cmpi .sgt v2 c0_i32_346
  let v661 : BitVec 32 := Scalar.extui v660
  let c0_i32_347 : BitVec 32 := 0#32
  let v662 : BitVec 1 := Scalar.cmpi .slt v2 c0_i32_347
  let v663 : BitVec 32 := Scalar.extui v662
  let v664 : BitVec 32 := Scalar.subi v661 v663
  let c4_i32_345 : BitVec 32 := 4#32
  let c0_i32_348 : BitVec 32 := 0#32
  let v665 : BitVec 1 := Scalar.cmpi .sgt c4_i32_345 c0_i32_348
  let v666 : BitVec 32 := Scalar.extui v665
  let c0_i32_349 : BitVec 32 := 0#32
  let v667 : BitVec 1 := Scalar.cmpi .slt c4_i32_345 c0_i32_349
  let v668 : BitVec 32 := Scalar.extui v667
  let v669 : BitVec 32 := Scalar.subi v666 v668
  let v670 : BitVec 1 := Scalar.cmpi .ne v664 v669
  let v671 : BitVec 32 := Scalar.remsi v2 c4_i32_345
  let c0_i32_350 : BitVec 32 := 0#32
  let v672 : BitVec 1 := Scalar.cmpi .ne v671 c0_i32_350
  let v673 : BitVec 1 := Scalar.andi v670 v672
  let v659 : BitVec 32 := Scalar.divsi v2 c4_i32_345
  let c1_i32_351 : BitVec 32 := 1#32
  let v674 : BitVec 32 := Scalar.subi v659 c1_i32_351
  let v675 : BitVec 32 := Scalar.select v673 v674 v659
  let c4_i32_352 : BitVec 32 := 4#32
  let v676 : BitVec 32 := Scalar.addi v675 c4_i32_352
  let c8_i32_353 : BitVec 32 := 8#32
  let c0_i32_354 : BitVec 32 := 0#32
  let v677 : BitVec 1 := Scalar.cmpi .eq c8_i32_353 c0_i32_354
  let c1_i32_355 : BitVec 32 := 1#32
  let v678 : BitVec 32 := Scalar.select v677 c1_i32_355 c8_i32_353
  let v679 : BitVec 32 := Scalar.remsi v676 v678
  let c0_i32_357 : BitVec 32 := 0#32
  let v681 : BitVec 1 := Scalar.cmpi .slt v679 c0_i32_357
  let c0_i32_358 : BitVec 32 := 0#32
  let v682 : BitVec 1 := Scalar.cmpi .slt v678 c0_i32_358
  let v683 : BitVec 1 := Scalar.xori v681 v682
  let c0_i32_356 : BitVec 32 := 0#32
  let v680 : BitVec 1 := Scalar.cmpi .ne v679 c0_i32_356
  let v684 : BitVec 1 := Scalar.andi v683 v680
  let v685 : BitVec 32 := Scalar.addi v679 v678
  let v686 : BitVec 32 := Scalar.select v684 v685 v679
  let c4_i32_359 : BitVec 32 := 4#32
  let v687 : BitVec 32 := Scalar.muli v686 c4_i32_359
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_360 : BitVec 32 := 2#32
  let v688 : BitVec 32 := Scalar.addi v30 c2_i32_360
  let c4_i32_361 : BitVec 32 := 4#32
  let c0_i32_362 : BitVec 32 := 0#32
  let v689 : BitVec 1 := Scalar.cmpi .eq c4_i32_361 c0_i32_362
  let c1_i32_363 : BitVec 32 := 1#32
  let v690 : BitVec 32 := Scalar.select v689 c1_i32_363 c4_i32_361
  let v691 : BitVec 32 := Scalar.remsi v688 v690
  let c0_i32_365 : BitVec 32 := 0#32
  let v693 : BitVec 1 := Scalar.cmpi .slt v691 c0_i32_365
  let c0_i32_366 : BitVec 32 := 0#32
  let v694 : BitVec 1 := Scalar.cmpi .slt v690 c0_i32_366
  let v695 : BitVec 1 := Scalar.xori v693 v694
  let c0_i32_364 : BitVec 32 := 0#32
  let v692 : BitVec 1 := Scalar.cmpi .ne v691 c0_i32_364
  let v696 : BitVec 1 := Scalar.andi v695 v692
  let v697 : BitVec 32 := Scalar.addi v691 v690
  let v698 : BitVec 32 := Scalar.select v696 v697 v691
  let v699 : BitVec 32 := Scalar.addi v687 v698
  let c1_i32_1142 : BitVec 32 := 1#32
  let v1831 : BitVec 32 := Scalar.muli v699 c1_i32_1142
  let v1832 : BitVec 32 := Scalar.addi c0_i32_1143 v1831
  v1832.toNat
def k0_dev57 (d0 : Dev nD) : Nat :=
  let c0_i32_1152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_368 : BitVec 32 := 0#32
  let v701 : BitVec 1 := Scalar.cmpi .sgt v2 c0_i32_368
  let v702 : BitVec 32 := Scalar.extui v701
  let c0_i32_369 : BitVec 32 := 0#32
  let v703 : BitVec 1 := Scalar.cmpi .slt v2 c0_i32_369
  let v704 : BitVec 32 := Scalar.extui v703
  let v705 : BitVec 32 := Scalar.subi v702 v704
  let c4_i32_367 : BitVec 32 := 4#32
  let c0_i32_370 : BitVec 32 := 0#32
  let v706 : BitVec 1 := Scalar.cmpi .sgt c4_i32_367 c0_i32_370
  let v707 : BitVec 32 := Scalar.extui v706
  let c0_i32_371 : BitVec 32 := 0#32
  let v708 : BitVec 1 := Scalar.cmpi .slt c4_i32_367 c0_i32_371
  let v709 : BitVec 32 := Scalar.extui v708
  let v710 : BitVec 32 := Scalar.subi v707 v709
  let v711 : BitVec 1 := Scalar.cmpi .ne v705 v710
  let v712 : BitVec 32 := Scalar.remsi v2 c4_i32_367
  let c0_i32_372 : BitVec 32 := 0#32
  let v713 : BitVec 1 := Scalar.cmpi .ne v712 c0_i32_372
  let v714 : BitVec 1 := Scalar.andi v711 v713
  let v700 : BitVec 32 := Scalar.divsi v2 c4_i32_367
  let c1_i32_373 : BitVec 32 := 1#32
  let v715 : BitVec 32 := Scalar.subi v700 c1_i32_373
  let v716 : BitVec 32 := Scalar.select v714 v715 v700
  let c4_i32_374 : BitVec 32 := 4#32
  let v717 : BitVec 32 := Scalar.addi v716 c4_i32_374
  let c8_i32_375 : BitVec 32 := 8#32
  let c0_i32_376 : BitVec 32 := 0#32
  let v718 : BitVec 1 := Scalar.cmpi .eq c8_i32_375 c0_i32_376
  let c1_i32_377 : BitVec 32 := 1#32
  let v719 : BitVec 32 := Scalar.select v718 c1_i32_377 c8_i32_375
  let v720 : BitVec 32 := Scalar.remsi v717 v719
  let c0_i32_379 : BitVec 32 := 0#32
  let v722 : BitVec 1 := Scalar.cmpi .slt v720 c0_i32_379
  let c0_i32_380 : BitVec 32 := 0#32
  let v723 : BitVec 1 := Scalar.cmpi .slt v719 c0_i32_380
  let v724 : BitVec 1 := Scalar.xori v722 v723
  let c0_i32_378 : BitVec 32 := 0#32
  let v721 : BitVec 1 := Scalar.cmpi .ne v720 c0_i32_378
  let v725 : BitVec 1 := Scalar.andi v724 v721
  let v726 : BitVec 32 := Scalar.addi v720 v719
  let v727 : BitVec 32 := Scalar.select v725 v726 v720
  let c4_i32_381 : BitVec 32 := 4#32
  let v728 : BitVec 32 := Scalar.muli v727 c4_i32_381
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_382 : BitVec 32 := 3#32
  let v729 : BitVec 32 := Scalar.addi v30 c3_i32_382
  let c4_i32_383 : BitVec 32 := 4#32
  let c0_i32_384 : BitVec 32 := 0#32
  let v730 : BitVec 1 := Scalar.cmpi .eq c4_i32_383 c0_i32_384
  let c1_i32_385 : BitVec 32 := 1#32
  let v731 : BitVec 32 := Scalar.select v730 c1_i32_385 c4_i32_383
  let v732 : BitVec 32 := Scalar.remsi v729 v731
  let c0_i32_387 : BitVec 32 := 0#32
  let v734 : BitVec 1 := Scalar.cmpi .slt v732 c0_i32_387
  let c0_i32_388 : BitVec 32 := 0#32
  let v735 : BitVec 1 := Scalar.cmpi .slt v731 c0_i32_388
  let v736 : BitVec 1 := Scalar.xori v734 v735
  let c0_i32_386 : BitVec 32 := 0#32
  let v733 : BitVec 1 := Scalar.cmpi .ne v732 c0_i32_386
  let v737 : BitVec 1 := Scalar.andi v736 v733
  let v738 : BitVec 32 := Scalar.addi v732 v731
  let v739 : BitVec 32 := Scalar.select v737 v738 v732
  let v740 : BitVec 32 := Scalar.addi v728 v739
  let c1_i32_1151 : BitVec 32 := 1#32
  let v1842 : BitVec 32 := Scalar.muli v740 c1_i32_1151
  let v1843 : BitVec 32 := Scalar.addi c0_i32_1152 v1842
  v1843.toNat
def k0_dev58 (d0 : Dev nD) : Nat :=
  let c0_i32_1161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_390 : BitVec 32 := 0#32
  let v742 : BitVec 1 := Scalar.cmpi .sgt v2 c0_i32_390
  let v743 : BitVec 32 := Scalar.extui v742
  let c0_i32_391 : BitVec 32 := 0#32
  let v744 : BitVec 1 := Scalar.cmpi .slt v2 c0_i32_391
  let v745 : BitVec 32 := Scalar.extui v744
  let v746 : BitVec 32 := Scalar.subi v743 v745
  let c4_i32_389 : BitVec 32 := 4#32
  let c0_i32_392 : BitVec 32 := 0#32
  let v747 : BitVec 1 := Scalar.cmpi .sgt c4_i32_389 c0_i32_392
  let v748 : BitVec 32 := Scalar.extui v747
  let c0_i32_393 : BitVec 32 := 0#32
  let v749 : BitVec 1 := Scalar.cmpi .slt c4_i32_389 c0_i32_393
  let v750 : BitVec 32 := Scalar.extui v749
  let v751 : BitVec 32 := Scalar.subi v748 v750
  let v752 : BitVec 1 := Scalar.cmpi .ne v746 v751
  let v753 : BitVec 32 := Scalar.remsi v2 c4_i32_389
  let c0_i32_394 : BitVec 32 := 0#32
  let v754 : BitVec 1 := Scalar.cmpi .ne v753 c0_i32_394
  let v755 : BitVec 1 := Scalar.andi v752 v754
  let v741 : BitVec 32 := Scalar.divsi v2 c4_i32_389
  let c1_i32_395 : BitVec 32 := 1#32
  let v756 : BitVec 32 := Scalar.subi v741 c1_i32_395
  let v757 : BitVec 32 := Scalar.select v755 v756 v741
  let c5_i32 : BitVec 32 := 5#32
  let v758 : BitVec 32 := Scalar.addi v757 c5_i32
  let c8_i32_396 : BitVec 32 := 8#32
  let c0_i32_397 : BitVec 32 := 0#32
  let v759 : BitVec 1 := Scalar.cmpi .eq c8_i32_396 c0_i32_397
  let c1_i32_398 : BitVec 32 := 1#32
  let v760 : BitVec 32 := Scalar.select v759 c1_i32_398 c8_i32_396
  let v761 : BitVec 32 := Scalar.remsi v758 v760
  let c0_i32_400 : BitVec 32 := 0#32
  let v763 : BitVec 1 := Scalar.cmpi .slt v761 c0_i32_400
  let c0_i32_401 : BitVec 32 := 0#32
  let v764 : BitVec 1 := Scalar.cmpi .slt v760 c0_i32_401
  let v765 : BitVec 1 := Scalar.xori v763 v764
  let c0_i32_399 : BitVec 32 := 0#32
  let v762 : BitVec 1 := Scalar.cmpi .ne v761 c0_i32_399
  let v766 : BitVec 1 := Scalar.andi v765 v762
  let v767 : BitVec 32 := Scalar.addi v761 v760
  let v768 : BitVec 32 := Scalar.select v766 v767 v761
  let c4_i32_402 : BitVec 32 := 4#32
  let v769 : BitVec 32 := Scalar.muli v768 c4_i32_402
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_403 : BitVec 32 := 0#32
  let v770 : BitVec 32 := Scalar.addi v30 c0_i32_403
  let c4_i32_404 : BitVec 32 := 4#32
  let c0_i32_405 : BitVec 32 := 0#32
  let v771 : BitVec 1 := Scalar.cmpi .eq c4_i32_404 c0_i32_405
  let c1_i32_406 : BitVec 32 := 1#32
  let v772 : BitVec 32 := Scalar.select v771 c1_i32_406 c4_i32_404
  let v773 : BitVec 32 := Scalar.remsi v770 v772
  let c0_i32_408 : BitVec 32 := 0#32
  let v775 : BitVec 1 := Scalar.cmpi .slt v773 c0_i32_408
  let c0_i32_409 : BitVec 32 := 0#32
  let v776 : BitVec 1 := Scalar.cmpi .slt v772 c0_i32_409
  let v777 : BitVec 1 := Scalar.xori v775 v776
  let c0_i32_407 : BitVec 32 := 0#32
  let v774 : BitVec 1 := Scalar.cmpi .ne v773 c0_i32_407
  let v778 : BitVec 1 := Scalar.andi v777 v774
  let v779 : BitVec 32 := Scalar.addi v773 v772
  let v780 : BitVec 32 := Scalar.select v778 v779 v773
  let v781 : BitVec 32 := Scalar.addi v769 v780
  let c1_i32_1160 : BitVec 32 := 1#32
  let v1853 : BitVec 32 := Scalar.muli v781 c1_i32_1160
  let v1854 : BitVec 32 := Scalar.addi c0_i32_1161 v1853
  v1854.toNat
def k0_dev59 (d0 : Dev nD) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_411 : BitVec 32 := 0#32
  let v783 : BitVec 1 := Scalar.cmpi .sgt v2 c0_i32_411
  let v784 : BitVec 32 := Scalar.extui v783
  let c0_i32_412 : BitVec 32 := 0#32
  let v785 : BitVec 1 := Scalar.cmpi .slt v2 c0_i32_412
  let v786 : BitVec 32 := Scalar.extui v785
  let v787 : BitVec 32 := Scalar.subi v784 v786
  let c4_i32_410 : BitVec 32 := 4#32
  let c0_i32_413 : BitVec 32 := 0#32
  let v788 : BitVec 1 := Scalar.cmpi .sgt c4_i32_410 c0_i32_413
  let v789 : BitVec 32 := Scalar.extui v788
  let c0_i32_414 : BitVec 32 := 0#32
  let v790 : BitVec 1 := Scalar.cmpi .slt c4_i32_410 c0_i32_414
  let v791 : BitVec 32 := Scalar.extui v790
  let v792 : BitVec 32 := Scalar.subi v789 v791
  let v793 : BitVec 1 := Scalar.cmpi .ne v787 v792
  let v794 : BitVec 32 := Scalar.remsi v2 c4_i32_410
  let c0_i32_415 : BitVec 32 := 0#32
  let v795 : BitVec 1 := Scalar.cmpi .ne v794 c0_i32_415
  let v796 : BitVec 1 := Scalar.andi v793 v795
  let v782 : BitVec 32 := Scalar.divsi v2 c4_i32_410
  let c1_i32_416 : BitVec 32 := 1#32
  let v797 : BitVec 32 := Scalar.subi v782 c1_i32_416
  let v798 : BitVec 32 := Scalar.select v796 v797 v782
  let c5_i32_417 : BitVec 32 := 5#32
  let v799 : BitVec 32 := Scalar.addi v798 c5_i32_417
  let c8_i32_418 : BitVec 32 := 8#32
  let c0_i32_419 : BitVec 32 := 0#32
  let v800 : BitVec 1 := Scalar.cmpi .eq c8_i32_418 c0_i32_419
  let c1_i32_420 : BitVec 32 := 1#32
  let v801 : BitVec 32 := Scalar.select v800 c1_i32_420 c8_i32_418
  let v802 : BitVec 32 := Scalar.remsi v799 v801
  let c0_i32_422 : BitVec 32 := 0#32
  let v804 : BitVec 1 := Scalar.cmpi .slt v802 c0_i32_422
  let c0_i32_423 : BitVec 32 := 0#32
  let v805 : BitVec 1 := Scalar.cmpi .slt v801 c0_i32_423
  let v806 : BitVec 1 := Scalar.xori v804 v805
  let c0_i32_421 : BitVec 32 := 0#32
  let v803 : BitVec 1 := Scalar.cmpi .ne v802 c0_i32_421
  let v807 : BitVec 1 := Scalar.andi v806 v803
  let v808 : BitVec 32 := Scalar.addi v802 v801
  let v809 : BitVec 32 := Scalar.select v807 v808 v802
  let c4_i32_424 : BitVec 32 := 4#32
  let v810 : BitVec 32 := Scalar.muli v809 c4_i32_424
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_425 : BitVec 32 := 1#32
  let v811 : BitVec 32 := Scalar.addi v30 c1_i32_425
  let c4_i32_426 : BitVec 32 := 4#32
  let c0_i32_427 : BitVec 32 := 0#32
  let v812 : BitVec 1 := Scalar.cmpi .eq c4_i32_426 c0_i32_427
  let c1_i32_428 : BitVec 32 := 1#32
  let v813 : BitVec 32 := Scalar.select v812 c1_i32_428 c4_i32_426
  let v814 : BitVec 32 := Scalar.remsi v811 v813
  let c0_i32_430 : BitVec 32 := 0#32
  let v816 : BitVec 1 := Scalar.cmpi .slt v814 c0_i32_430
  let c0_i32_431 : BitVec 32 := 0#32
  let v817 : BitVec 1 := Scalar.cmpi .slt v813 c0_i32_431
  let v818 : BitVec 1 := Scalar.xori v816 v817
  let c0_i32_429 : BitVec 32 := 0#32
  let v815 : BitVec 1 := Scalar.cmpi .ne v814 c0_i32_429
  let v819 : BitVec 1 := Scalar.andi v818 v815
  let v820 : BitVec 32 := Scalar.addi v814 v813
  let v821 : BitVec 32 := Scalar.select v819 v820 v814
  let v822 : BitVec 32 := Scalar.addi v810 v821
  let c1_i32_1169 : BitVec 32 := 1#32
  let v1864 : BitVec 32 := Scalar.muli v822 c1_i32_1169
  let v1865 : BitVec 32 := Scalar.addi c0_i32_1170 v1864
  v1865.toNat
def k0_dev60 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let v824 : BitVec 1 := Scalar.cmpi .sgt v2 c0_i32_433
  let v825 : BitVec 32 := Scalar.extui v824
  let c0_i32_434 : BitVec 32 := 0#32
  let v826 : BitVec 1 := Scalar.cmpi .slt v2 c0_i32_434
  let v827 : BitVec 32 := Scalar.extui v826
  let v828 : BitVec 32 := Scalar.subi v825 v827
  let c4_i32_432 : BitVec 32 := 4#32
  let c0_i32_435 : BitVec 32 := 0#32
  let v829 : BitVec 1 := Scalar.cmpi .sgt c4_i32_432 c0_i32_435
  let v830 : BitVec 32 := Scalar.extui v829
  let c0_i32_436 : BitVec 32 := 0#32
  let v831 : BitVec 1 := Scalar.cmpi .slt c4_i32_432 c0_i32_436
  let v832 : BitVec 32 := Scalar.extui v831
  let v833 : BitVec 32 := Scalar.subi v830 v832
  let v834 : BitVec 1 := Scalar.cmpi .ne v828 v833
  let v835 : BitVec 32 := Scalar.remsi v2 c4_i32_432
  let c0_i32_437 : BitVec 32 := 0#32
  let v836 : BitVec 1 := Scalar.cmpi .ne v835 c0_i32_437
  let v837 : BitVec 1 := Scalar.andi v834 v836
  let v823 : BitVec 32 := Scalar.divsi v2 c4_i32_432
  let c1_i32_438 : BitVec 32 := 1#32
  let v838 : BitVec 32 := Scalar.subi v823 c1_i32_438
  let v839 : BitVec 32 := Scalar.select v837 v838 v823
  let c5_i32_439 : BitVec 32 := 5#32
  let v840 : BitVec 32 := Scalar.addi v839 c5_i32_439
  let c8_i32_440 : BitVec 32 := 8#32
  let c0_i32_441 : BitVec 32 := 0#32
  let v841 : BitVec 1 := Scalar.cmpi .eq c8_i32_440 c0_i32_441
  let c1_i32_442 : BitVec 32 := 1#32
  let v842 : BitVec 32 := Scalar.select v841 c1_i32_442 c8_i32_440
  let v843 : BitVec 32 := Scalar.remsi v840 v842
  let c0_i32_444 : BitVec 32 := 0#32
  let v845 : BitVec 1 := Scalar.cmpi .slt v843 c0_i32_444
  let c0_i32_445 : BitVec 32 := 0#32
  let v846 : BitVec 1 := Scalar.cmpi .slt v842 c0_i32_445
  let v847 : BitVec 1 := Scalar.xori v845 v846
  let c0_i32_443 : BitVec 32 := 0#32
  let v844 : BitVec 1 := Scalar.cmpi .ne v843 c0_i32_443
  let v848 : BitVec 1 := Scalar.andi v847 v844
  let v849 : BitVec 32 := Scalar.addi v843 v842
  let v850 : BitVec 32 := Scalar.select v848 v849 v843
  let c4_i32_446 : BitVec 32 := 4#32
  let v851 : BitVec 32 := Scalar.muli v850 c4_i32_446
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_447 : BitVec 32 := 2#32
  let v852 : BitVec 32 := Scalar.addi v30 c2_i32_447
  let c4_i32_448 : BitVec 32 := 4#32
  let c0_i32_449 : BitVec 32 := 0#32
  let v853 : BitVec 1 := Scalar.cmpi .eq c4_i32_448 c0_i32_449
  let c1_i32_450 : BitVec 32 := 1#32
  let v854 : BitVec 32 := Scalar.select v853 c1_i32_450 c4_i32_448
  let v855 : BitVec 32 := Scalar.remsi v852 v854
  let c0_i32_452 : BitVec 32 := 0#32
  let v857 : BitVec 1 := Scalar.cmpi .slt v855 c0_i32_452
  let c0_i32_453 : BitVec 32 := 0#32
  let v858 : BitVec 1 := Scalar.cmpi .slt v854 c0_i32_453
  let v859 : BitVec 1 := Scalar.xori v857 v858
  let c0_i32_451 : BitVec 32 := 0#32
  let v856 : BitVec 1 := Scalar.cmpi .ne v855 c0_i32_451
  let v860 : BitVec 1 := Scalar.andi v859 v856
  let v861 : BitVec 32 := Scalar.addi v855 v854
  let v862 : BitVec 32 := Scalar.select v860 v861 v855
  let v863 : BitVec 32 := Scalar.addi v851 v862
  let c1_i32_1178 : BitVec 32 := 1#32
  let v1875 : BitVec 32 := Scalar.muli v863 c1_i32_1178
  let v1876 : BitVec 32 := Scalar.addi c0_i32_1179 v1875
  v1876.toNat
def k0_dev61 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_455 : BitVec 32 := 0#32
  let v865 : BitVec 1 := Scalar.cmpi .sgt v2 c0_i32_455
  let v866 : BitVec 32 := Scalar.extui v865
  let c0_i32_456 : BitVec 32 := 0#32
  let v867 : BitVec 1 := Scalar.cmpi .slt v2 c0_i32_456
  let v868 : BitVec 32 := Scalar.extui v867
  let v869 : BitVec 32 := Scalar.subi v866 v868
  let c4_i32_454 : BitVec 32 := 4#32
  let c0_i32_457 : BitVec 32 := 0#32
  let v870 : BitVec 1 := Scalar.cmpi .sgt c4_i32_454 c0_i32_457
  let v871 : BitVec 32 := Scalar.extui v870
  let c0_i32_458 : BitVec 32 := 0#32
  let v872 : BitVec 1 := Scalar.cmpi .slt c4_i32_454 c0_i32_458
  let v873 : BitVec 32 := Scalar.extui v872
  let v874 : BitVec 32 := Scalar.subi v871 v873
  let v875 : BitVec 1 := Scalar.cmpi .ne v869 v874
  let v876 : BitVec 32 := Scalar.remsi v2 c4_i32_454
  let c0_i32_459 : BitVec 32 := 0#32
  let v877 : BitVec 1 := Scalar.cmpi .ne v876 c0_i32_459
  let v878 : BitVec 1 := Scalar.andi v875 v877
  let v864 : BitVec 32 := Scalar.divsi v2 c4_i32_454
  let c1_i32_460 : BitVec 32 := 1#32
  let v879 : BitVec 32 := Scalar.subi v864 c1_i32_460
  let v880 : BitVec 32 := Scalar.select v878 v879 v864
  let c5_i32_461 : BitVec 32 := 5#32
  let v881 : BitVec 32 := Scalar.addi v880 c5_i32_461
  let c8_i32_462 : BitVec 32 := 8#32
  let c0_i32_463 : BitVec 32 := 0#32
  let v882 : BitVec 1 := Scalar.cmpi .eq c8_i32_462 c0_i32_463
  let c1_i32_464 : BitVec 32 := 1#32
  let v883 : BitVec 32 := Scalar.select v882 c1_i32_464 c8_i32_462
  let v884 : BitVec 32 := Scalar.remsi v881 v883
  let c0_i32_466 : BitVec 32 := 0#32
  let v886 : BitVec 1 := Scalar.cmpi .slt v884 c0_i32_466
  let c0_i32_467 : BitVec 32 := 0#32
  let v887 : BitVec 1 := Scalar.cmpi .slt v883 c0_i32_467
  let v888 : BitVec 1 := Scalar.xori v886 v887
  let c0_i32_465 : BitVec 32 := 0#32
  let v885 : BitVec 1 := Scalar.cmpi .ne v884 c0_i32_465
  let v889 : BitVec 1 := Scalar.andi v888 v885
  let v890 : BitVec 32 := Scalar.addi v884 v883
  let v891 : BitVec 32 := Scalar.select v889 v890 v884
  let c4_i32_468 : BitVec 32 := 4#32
  let v892 : BitVec 32 := Scalar.muli v891 c4_i32_468
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_469 : BitVec 32 := 3#32
  let v893 : BitVec 32 := Scalar.addi v30 c3_i32_469
  let c4_i32_470 : BitVec 32 := 4#32
  let c0_i32_471 : BitVec 32 := 0#32
  let v894 : BitVec 1 := Scalar.cmpi .eq c4_i32_470 c0_i32_471
  let c1_i32_472 : BitVec 32 := 1#32
  let v895 : BitVec 32 := Scalar.select v894 c1_i32_472 c4_i32_470
  let v896 : BitVec 32 := Scalar.remsi v893 v895
  let c0_i32_474 : BitVec 32 := 0#32
  let v898 : BitVec 1 := Scalar.cmpi .slt v896 c0_i32_474
  let c0_i32_475 : BitVec 32 := 0#32
  let v899 : BitVec 1 := Scalar.cmpi .slt v895 c0_i32_475
  let v900 : BitVec 1 := Scalar.xori v898 v899
  let c0_i32_473 : BitVec 32 := 0#32
  let v897 : BitVec 1 := Scalar.cmpi .ne v896 c0_i32_473
  let v901 : BitVec 1 := Scalar.andi v900 v897
  let v902 : BitVec 32 := Scalar.addi v896 v895
  let v903 : BitVec 32 := Scalar.select v901 v902 v896
  let v904 : BitVec 32 := Scalar.addi v892 v903
  let c1_i32_1187 : BitVec 32 := 1#32
  let v1886 : BitVec 32 := Scalar.muli v904 c1_i32_1187
  let v1887 : BitVec 32 := Scalar.addi c0_i32_1188 v1886
  v1887.toNat
def k0_dev62 (d0 : Dev nD) : Nat :=
  let c0_i32_1197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let v906 : BitVec 1 := Scalar.cmpi .sgt v2 c0_i32_477
  let v907 : BitVec 32 := Scalar.extui v906
  let c0_i32_478 : BitVec 32 := 0#32
  let v908 : BitVec 1 := Scalar.cmpi .slt v2 c0_i32_478
  let v909 : BitVec 32 := Scalar.extui v908
  let v910 : BitVec 32 := Scalar.subi v907 v909
  let c4_i32_476 : BitVec 32 := 4#32
  let c0_i32_479 : BitVec 32 := 0#32
  let v911 : BitVec 1 := Scalar.cmpi .sgt c4_i32_476 c0_i32_479
  let v912 : BitVec 32 := Scalar.extui v911
  let c0_i32_480 : BitVec 32 := 0#32
  let v913 : BitVec 1 := Scalar.cmpi .slt c4_i32_476 c0_i32_480
  let v914 : BitVec 32 := Scalar.extui v913
  let v915 : BitVec 32 := Scalar.subi v912 v914
  let v916 : BitVec 1 := Scalar.cmpi .ne v910 v915
  let v917 : BitVec 32 := Scalar.remsi v2 c4_i32_476
  let c0_i32_481 : BitVec 32 := 0#32
  let v918 : BitVec 1 := Scalar.cmpi .ne v917 c0_i32_481
  let v919 : BitVec 1 := Scalar.andi v916 v918
  let v905 : BitVec 32 := Scalar.divsi v2 c4_i32_476
  let c1_i32_482 : BitVec 32 := 1#32
  let v920 : BitVec 32 := Scalar.subi v905 c1_i32_482
  let v921 : BitVec 32 := Scalar.select v919 v920 v905
  let c6_i32 : BitVec 32 := 6#32
  let v922 : BitVec 32 := Scalar.addi v921 c6_i32
  let c8_i32_483 : BitVec 32 := 8#32
  let c0_i32_484 : BitVec 32 := 0#32
  let v923 : BitVec 1 := Scalar.cmpi .eq c8_i32_483 c0_i32_484
  let c1_i32_485 : BitVec 32 := 1#32
  let v924 : BitVec 32 := Scalar.select v923 c1_i32_485 c8_i32_483
  let v925 : BitVec 32 := Scalar.remsi v922 v924
  let c0_i32_487 : BitVec 32 := 0#32
  let v927 : BitVec 1 := Scalar.cmpi .slt v925 c0_i32_487
  let c0_i32_488 : BitVec 32 := 0#32
  let v928 : BitVec 1 := Scalar.cmpi .slt v924 c0_i32_488
  let v929 : BitVec 1 := Scalar.xori v927 v928
  let c0_i32_486 : BitVec 32 := 0#32
  let v926 : BitVec 1 := Scalar.cmpi .ne v925 c0_i32_486
  let v930 : BitVec 1 := Scalar.andi v929 v926
  let v931 : BitVec 32 := Scalar.addi v925 v924
  let v932 : BitVec 32 := Scalar.select v930 v931 v925
  let c4_i32_489 : BitVec 32 := 4#32
  let v933 : BitVec 32 := Scalar.muli v932 c4_i32_489
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_490 : BitVec 32 := 0#32
  let v934 : BitVec 32 := Scalar.addi v30 c0_i32_490
  let c4_i32_491 : BitVec 32 := 4#32
  let c0_i32_492 : BitVec 32 := 0#32
  let v935 : BitVec 1 := Scalar.cmpi .eq c4_i32_491 c0_i32_492
  let c1_i32_493 : BitVec 32 := 1#32
  let v936 : BitVec 32 := Scalar.select v935 c1_i32_493 c4_i32_491
  let v937 : BitVec 32 := Scalar.remsi v934 v936
  let c0_i32_495 : BitVec 32 := 0#32
  let v939 : BitVec 1 := Scalar.cmpi .slt v937 c0_i32_495
  let c0_i32_496 : BitVec 32 := 0#32
  let v940 : BitVec 1 := Scalar.cmpi .slt v936 c0_i32_496
  let v941 : BitVec 1 := Scalar.xori v939 v940
  let c0_i32_494 : BitVec 32 := 0#32
  let v938 : BitVec 1 := Scalar.cmpi .ne v937 c0_i32_494
  let v942 : BitVec 1 := Scalar.andi v941 v938
  let v943 : BitVec 32 := Scalar.addi v937 v936
  let v944 : BitVec 32 := Scalar.select v942 v943 v937
  let v945 : BitVec 32 := Scalar.addi v933 v944
  let c1_i32_1196 : BitVec 32 := 1#32
  let v1897 : BitVec 32 := Scalar.muli v945 c1_i32_1196
  let v1898 : BitVec 32 := Scalar.addi c0_i32_1197 v1897
  v1898.toNat
def k0_dev63 (d0 : Dev nD) : Nat :=
  let c0_i32_1206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_498 : BitVec 32 := 0#32
  let v947 : BitVec 1 := Scalar.cmpi .sgt v2 c0_i32_498
  let v948 : BitVec 32 := Scalar.extui v947
  let c0_i32_499 : BitVec 32 := 0#32
  let v949 : BitVec 1 := Scalar.cmpi .slt v2 c0_i32_499
  let v950 : BitVec 32 := Scalar.extui v949
  let v951 : BitVec 32 := Scalar.subi v948 v950
  let c4_i32_497 : BitVec 32 := 4#32
  let c0_i32_500 : BitVec 32 := 0#32
  let v952 : BitVec 1 := Scalar.cmpi .sgt c4_i32_497 c0_i32_500
  let v953 : BitVec 32 := Scalar.extui v952
  let c0_i32_501 : BitVec 32 := 0#32
  let v954 : BitVec 1 := Scalar.cmpi .slt c4_i32_497 c0_i32_501
  let v955 : BitVec 32 := Scalar.extui v954
  let v956 : BitVec 32 := Scalar.subi v953 v955
  let v957 : BitVec 1 := Scalar.cmpi .ne v951 v956
  let v958 : BitVec 32 := Scalar.remsi v2 c4_i32_497
  let c0_i32_502 : BitVec 32 := 0#32
  let v959 : BitVec 1 := Scalar.cmpi .ne v958 c0_i32_502
  let v960 : BitVec 1 := Scalar.andi v957 v959
  let v946 : BitVec 32 := Scalar.divsi v2 c4_i32_497
  let c1_i32_503 : BitVec 32 := 1#32
  let v961 : BitVec 32 := Scalar.subi v946 c1_i32_503
  let v962 : BitVec 32 := Scalar.select v960 v961 v946
  let c6_i32_504 : BitVec 32 := 6#32
  let v963 : BitVec 32 := Scalar.addi v962 c6_i32_504
  let c8_i32_505 : BitVec 32 := 8#32
  let c0_i32_506 : BitVec 32 := 0#32
  let v964 : BitVec 1 := Scalar.cmpi .eq c8_i32_505 c0_i32_506
  let c1_i32_507 : BitVec 32 := 1#32
  let v965 : BitVec 32 := Scalar.select v964 c1_i32_507 c8_i32_505
  let v966 : BitVec 32 := Scalar.remsi v963 v965
  let c0_i32_509 : BitVec 32 := 0#32
  let v968 : BitVec 1 := Scalar.cmpi .slt v966 c0_i32_509
  let c0_i32_510 : BitVec 32 := 0#32
  let v969 : BitVec 1 := Scalar.cmpi .slt v965 c0_i32_510
  let v970 : BitVec 1 := Scalar.xori v968 v969
  let c0_i32_508 : BitVec 32 := 0#32
  let v967 : BitVec 1 := Scalar.cmpi .ne v966 c0_i32_508
  let v971 : BitVec 1 := Scalar.andi v970 v967
  let v972 : BitVec 32 := Scalar.addi v966 v965
  let v973 : BitVec 32 := Scalar.select v971 v972 v966
  let c4_i32_511 : BitVec 32 := 4#32
  let v974 : BitVec 32 := Scalar.muli v973 c4_i32_511
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_512 : BitVec 32 := 1#32
  let v975 : BitVec 32 := Scalar.addi v30 c1_i32_512
  let c4_i32_513 : BitVec 32 := 4#32
  let c0_i32_514 : BitVec 32 := 0#32
  let v976 : BitVec 1 := Scalar.cmpi .eq c4_i32_513 c0_i32_514
  let c1_i32_515 : BitVec 32 := 1#32
  let v977 : BitVec 32 := Scalar.select v976 c1_i32_515 c4_i32_513
  let v978 : BitVec 32 := Scalar.remsi v975 v977
  let c0_i32_517 : BitVec 32 := 0#32
  let v980 : BitVec 1 := Scalar.cmpi .slt v978 c0_i32_517
  let c0_i32_518 : BitVec 32 := 0#32
  let v981 : BitVec 1 := Scalar.cmpi .slt v977 c0_i32_518
  let v982 : BitVec 1 := Scalar.xori v980 v981
  let c0_i32_516 : BitVec 32 := 0#32
  let v979 : BitVec 1 := Scalar.cmpi .ne v978 c0_i32_516
  let v983 : BitVec 1 := Scalar.andi v982 v979
  let v984 : BitVec 32 := Scalar.addi v978 v977
  let v985 : BitVec 32 := Scalar.select v983 v984 v978
  let v986 : BitVec 32 := Scalar.addi v974 v985
  let c1_i32_1205 : BitVec 32 := 1#32
  let v1908 : BitVec 32 := Scalar.muli v986 c1_i32_1205
  let v1909 : BitVec 32 := Scalar.addi c0_i32_1206 v1908
  v1909.toNat
def k0_dev64 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_520 : BitVec 32 := 0#32
  let v988 : BitVec 1 := Scalar.cmpi .sgt v2 c0_i32_520
  let v989 : BitVec 32 := Scalar.extui v988
  let c0_i32_521 : BitVec 32 := 0#32
  let v990 : BitVec 1 := Scalar.cmpi .slt v2 c0_i32_521
  let v991 : BitVec 32 := Scalar.extui v990
  let v992 : BitVec 32 := Scalar.subi v989 v991
  let c4_i32_519 : BitVec 32 := 4#32
  let c0_i32_522 : BitVec 32 := 0#32
  let v993 : BitVec 1 := Scalar.cmpi .sgt c4_i32_519 c0_i32_522
  let v994 : BitVec 32 := Scalar.extui v993
  let c0_i32_523 : BitVec 32 := 0#32
  let v995 : BitVec 1 := Scalar.cmpi .slt c4_i32_519 c0_i32_523
  let v996 : BitVec 32 := Scalar.extui v995
  let v997 : BitVec 32 := Scalar.subi v994 v996
  let v998 : BitVec 1 := Scalar.cmpi .ne v992 v997
  let v999 : BitVec 32 := Scalar.remsi v2 c4_i32_519
  let c0_i32_524 : BitVec 32 := 0#32
  let v1000 : BitVec 1 := Scalar.cmpi .ne v999 c0_i32_524
  let v1001 : BitVec 1 := Scalar.andi v998 v1000
  let v987 : BitVec 32 := Scalar.divsi v2 c4_i32_519
  let c1_i32_525 : BitVec 32 := 1#32
  let v1002 : BitVec 32 := Scalar.subi v987 c1_i32_525
  let v1003 : BitVec 32 := Scalar.select v1001 v1002 v987
  let c6_i32_526 : BitVec 32 := 6#32
  let v1004 : BitVec 32 := Scalar.addi v1003 c6_i32_526
  let c8_i32_527 : BitVec 32 := 8#32
  let c0_i32_528 : BitVec 32 := 0#32
  let v1005 : BitVec 1 := Scalar.cmpi .eq c8_i32_527 c0_i32_528
  let c1_i32_529 : BitVec 32 := 1#32
  let v1006 : BitVec 32 := Scalar.select v1005 c1_i32_529 c8_i32_527
  let v1007 : BitVec 32 := Scalar.remsi v1004 v1006
  let c0_i32_531 : BitVec 32 := 0#32
  let v1009 : BitVec 1 := Scalar.cmpi .slt v1007 c0_i32_531
  let c0_i32_532 : BitVec 32 := 0#32
  let v1010 : BitVec 1 := Scalar.cmpi .slt v1006 c0_i32_532
  let v1011 : BitVec 1 := Scalar.xori v1009 v1010
  let c0_i32_530 : BitVec 32 := 0#32
  let v1008 : BitVec 1 := Scalar.cmpi .ne v1007 c0_i32_530
  let v1012 : BitVec 1 := Scalar.andi v1011 v1008
  let v1013 : BitVec 32 := Scalar.addi v1007 v1006
  let v1014 : BitVec 32 := Scalar.select v1012 v1013 v1007
  let c4_i32_533 : BitVec 32 := 4#32
  let v1015 : BitVec 32 := Scalar.muli v1014 c4_i32_533
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_534 : BitVec 32 := 2#32
  let v1016 : BitVec 32 := Scalar.addi v30 c2_i32_534
  let c4_i32_535 : BitVec 32 := 4#32
  let c0_i32_536 : BitVec 32 := 0#32
  let v1017 : BitVec 1 := Scalar.cmpi .eq c4_i32_535 c0_i32_536
  let c1_i32_537 : BitVec 32 := 1#32
  let v1018 : BitVec 32 := Scalar.select v1017 c1_i32_537 c4_i32_535
  let v1019 : BitVec 32 := Scalar.remsi v1016 v1018
  let c0_i32_539 : BitVec 32 := 0#32
  let v1021 : BitVec 1 := Scalar.cmpi .slt v1019 c0_i32_539
  let c0_i32_540 : BitVec 32 := 0#32
  let v1022 : BitVec 1 := Scalar.cmpi .slt v1018 c0_i32_540
  let v1023 : BitVec 1 := Scalar.xori v1021 v1022
  let c0_i32_538 : BitVec 32 := 0#32
  let v1020 : BitVec 1 := Scalar.cmpi .ne v1019 c0_i32_538
  let v1024 : BitVec 1 := Scalar.andi v1023 v1020
  let v1025 : BitVec 32 := Scalar.addi v1019 v1018
  let v1026 : BitVec 32 := Scalar.select v1024 v1025 v1019
  let v1027 : BitVec 32 := Scalar.addi v1015 v1026
  let c1_i32_1214 : BitVec 32 := 1#32
  let v1919 : BitVec 32 := Scalar.muli v1027 c1_i32_1214
  let v1920 : BitVec 32 := Scalar.addi c0_i32_1215 v1919
  v1920.toNat
def k0_dev65 (d0 : Dev nD) : Nat :=
  let c0_i32_1224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_542 : BitVec 32 := 0#32
  let v1029 : BitVec 1 := Scalar.cmpi .sgt v2 c0_i32_542
  let v1030 : BitVec 32 := Scalar.extui v1029
  let c0_i32_543 : BitVec 32 := 0#32
  let v1031 : BitVec 1 := Scalar.cmpi .slt v2 c0_i32_543
  let v1032 : BitVec 32 := Scalar.extui v1031
  let v1033 : BitVec 32 := Scalar.subi v1030 v1032
  let c4_i32_541 : BitVec 32 := 4#32
  let c0_i32_544 : BitVec 32 := 0#32
  let v1034 : BitVec 1 := Scalar.cmpi .sgt c4_i32_541 c0_i32_544
  let v1035 : BitVec 32 := Scalar.extui v1034
  let c0_i32_545 : BitVec 32 := 0#32
  let v1036 : BitVec 1 := Scalar.cmpi .slt c4_i32_541 c0_i32_545
  let v1037 : BitVec 32 := Scalar.extui v1036
  let v1038 : BitVec 32 := Scalar.subi v1035 v1037
  let v1039 : BitVec 1 := Scalar.cmpi .ne v1033 v1038
  let v1040 : BitVec 32 := Scalar.remsi v2 c4_i32_541
  let c0_i32_546 : BitVec 32 := 0#32
  let v1041 : BitVec 1 := Scalar.cmpi .ne v1040 c0_i32_546
  let v1042 : BitVec 1 := Scalar.andi v1039 v1041
  let v1028 : BitVec 32 := Scalar.divsi v2 c4_i32_541
  let c1_i32_547 : BitVec 32 := 1#32
  let v1043 : BitVec 32 := Scalar.subi v1028 c1_i32_547
  let v1044 : BitVec 32 := Scalar.select v1042 v1043 v1028
  let c6_i32_548 : BitVec 32 := 6#32
  let v1045 : BitVec 32 := Scalar.addi v1044 c6_i32_548
  let c8_i32_549 : BitVec 32 := 8#32
  let c0_i32_550 : BitVec 32 := 0#32
  let v1046 : BitVec 1 := Scalar.cmpi .eq c8_i32_549 c0_i32_550
  let c1_i32_551 : BitVec 32 := 1#32
  let v1047 : BitVec 32 := Scalar.select v1046 c1_i32_551 c8_i32_549
  let v1048 : BitVec 32 := Scalar.remsi v1045 v1047
  let c0_i32_553 : BitVec 32 := 0#32
  let v1050 : BitVec 1 := Scalar.cmpi .slt v1048 c0_i32_553
  let c0_i32_554 : BitVec 32 := 0#32
  let v1051 : BitVec 1 := Scalar.cmpi .slt v1047 c0_i32_554
  let v1052 : BitVec 1 := Scalar.xori v1050 v1051
  let c0_i32_552 : BitVec 32 := 0#32
  let v1049 : BitVec 1 := Scalar.cmpi .ne v1048 c0_i32_552
  let v1053 : BitVec 1 := Scalar.andi v1052 v1049
  let v1054 : BitVec 32 := Scalar.addi v1048 v1047
  let v1055 : BitVec 32 := Scalar.select v1053 v1054 v1048
  let c4_i32_555 : BitVec 32 := 4#32
  let v1056 : BitVec 32 := Scalar.muli v1055 c4_i32_555
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_556 : BitVec 32 := 3#32
  let v1057 : BitVec 32 := Scalar.addi v30 c3_i32_556
  let c4_i32_557 : BitVec 32 := 4#32
  let c0_i32_558 : BitVec 32 := 0#32
  let v1058 : BitVec 1 := Scalar.cmpi .eq c4_i32_557 c0_i32_558
  let c1_i32_559 : BitVec 32 := 1#32
  let v1059 : BitVec 32 := Scalar.select v1058 c1_i32_559 c4_i32_557
  let v1060 : BitVec 32 := Scalar.remsi v1057 v1059
  let c0_i32_561 : BitVec 32 := 0#32
  let v1062 : BitVec 1 := Scalar.cmpi .slt v1060 c0_i32_561
  let c0_i32_562 : BitVec 32 := 0#32
  let v1063 : BitVec 1 := Scalar.cmpi .slt v1059 c0_i32_562
  let v1064 : BitVec 1 := Scalar.xori v1062 v1063
  let c0_i32_560 : BitVec 32 := 0#32
  let v1061 : BitVec 1 := Scalar.cmpi .ne v1060 c0_i32_560
  let v1065 : BitVec 1 := Scalar.andi v1064 v1061
  let v1066 : BitVec 32 := Scalar.addi v1060 v1059
  let v1067 : BitVec 32 := Scalar.select v1065 v1066 v1060
  let v1068 : BitVec 32 := Scalar.addi v1056 v1067
  let c1_i32_1223 : BitVec 32 := 1#32
  let v1930 : BitVec 32 := Scalar.muli v1068 c1_i32_1223
  let v1931 : BitVec 32 := Scalar.addi c0_i32_1224 v1930
  v1931.toNat
def k0_dev66 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_564 : BitVec 32 := 0#32
  let v1070 : BitVec 1 := Scalar.cmpi .sgt v2 c0_i32_564
  let v1071 : BitVec 32 := Scalar.extui v1070
  let c0_i32_565 : BitVec 32 := 0#32
  let v1072 : BitVec 1 := Scalar.cmpi .slt v2 c0_i32_565
  let v1073 : BitVec 32 := Scalar.extui v1072
  let v1074 : BitVec 32 := Scalar.subi v1071 v1073
  let c4_i32_563 : BitVec 32 := 4#32
  let c0_i32_566 : BitVec 32 := 0#32
  let v1075 : BitVec 1 := Scalar.cmpi .sgt c4_i32_563 c0_i32_566
  let v1076 : BitVec 32 := Scalar.extui v1075
  let c0_i32_567 : BitVec 32 := 0#32
  let v1077 : BitVec 1 := Scalar.cmpi .slt c4_i32_563 c0_i32_567
  let v1078 : BitVec 32 := Scalar.extui v1077
  let v1079 : BitVec 32 := Scalar.subi v1076 v1078
  let v1080 : BitVec 1 := Scalar.cmpi .ne v1074 v1079
  let v1081 : BitVec 32 := Scalar.remsi v2 c4_i32_563
  let c0_i32_568 : BitVec 32 := 0#32
  let v1082 : BitVec 1 := Scalar.cmpi .ne v1081 c0_i32_568
  let v1083 : BitVec 1 := Scalar.andi v1080 v1082
  let v1069 : BitVec 32 := Scalar.divsi v2 c4_i32_563
  let c1_i32_569 : BitVec 32 := 1#32
  let v1084 : BitVec 32 := Scalar.subi v1069 c1_i32_569
  let v1085 : BitVec 32 := Scalar.select v1083 v1084 v1069
  let c7_i32 : BitVec 32 := 7#32
  let v1086 : BitVec 32 := Scalar.addi v1085 c7_i32
  let c8_i32_570 : BitVec 32 := 8#32
  let c0_i32_571 : BitVec 32 := 0#32
  let v1087 : BitVec 1 := Scalar.cmpi .eq c8_i32_570 c0_i32_571
  let c1_i32_572 : BitVec 32 := 1#32
  let v1088 : BitVec 32 := Scalar.select v1087 c1_i32_572 c8_i32_570
  let v1089 : BitVec 32 := Scalar.remsi v1086 v1088
  let c0_i32_574 : BitVec 32 := 0#32
  let v1091 : BitVec 1 := Scalar.cmpi .slt v1089 c0_i32_574
  let c0_i32_575 : BitVec 32 := 0#32
  let v1092 : BitVec 1 := Scalar.cmpi .slt v1088 c0_i32_575
  let v1093 : BitVec 1 := Scalar.xori v1091 v1092
  let c0_i32_573 : BitVec 32 := 0#32
  let v1090 : BitVec 1 := Scalar.cmpi .ne v1089 c0_i32_573
  let v1094 : BitVec 1 := Scalar.andi v1093 v1090
  let v1095 : BitVec 32 := Scalar.addi v1089 v1088
  let v1096 : BitVec 32 := Scalar.select v1094 v1095 v1089
  let c4_i32_576 : BitVec 32 := 4#32
  let v1097 : BitVec 32 := Scalar.muli v1096 c4_i32_576
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_577 : BitVec 32 := 0#32
  let v1098 : BitVec 32 := Scalar.addi v30 c0_i32_577
  let c4_i32_578 : BitVec 32 := 4#32
  let c0_i32_579 : BitVec 32 := 0#32
  let v1099 : BitVec 1 := Scalar.cmpi .eq c4_i32_578 c0_i32_579
  let c1_i32_580 : BitVec 32 := 1#32
  let v1100 : BitVec 32 := Scalar.select v1099 c1_i32_580 c4_i32_578
  let v1101 : BitVec 32 := Scalar.remsi v1098 v1100
  let c0_i32_582 : BitVec 32 := 0#32
  let v1103 : BitVec 1 := Scalar.cmpi .slt v1101 c0_i32_582
  let c0_i32_583 : BitVec 32 := 0#32
  let v1104 : BitVec 1 := Scalar.cmpi .slt v1100 c0_i32_583
  let v1105 : BitVec 1 := Scalar.xori v1103 v1104
  let c0_i32_581 : BitVec 32 := 0#32
  let v1102 : BitVec 1 := Scalar.cmpi .ne v1101 c0_i32_581
  let v1106 : BitVec 1 := Scalar.andi v1105 v1102
  let v1107 : BitVec 32 := Scalar.addi v1101 v1100
  let v1108 : BitVec 32 := Scalar.select v1106 v1107 v1101
  let v1109 : BitVec 32 := Scalar.addi v1097 v1108
  let c1_i32_1232 : BitVec 32 := 1#32
  let v1941 : BitVec 32 := Scalar.muli v1109 c1_i32_1232
  let v1942 : BitVec 32 := Scalar.addi c0_i32_1233 v1941
  v1942.toNat
def k0_dev67 (d0 : Dev nD) : Nat :=
  let c0_i32_1242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_585 : BitVec 32 := 0#32
  let v1111 : BitVec 1 := Scalar.cmpi .sgt v2 c0_i32_585
  let v1112 : BitVec 32 := Scalar.extui v1111
  let c0_i32_586 : BitVec 32 := 0#32
  let v1113 : BitVec 1 := Scalar.cmpi .slt v2 c0_i32_586
  let v1114 : BitVec 32 := Scalar.extui v1113
  let v1115 : BitVec 32 := Scalar.subi v1112 v1114
  let c4_i32_584 : BitVec 32 := 4#32
  let c0_i32_587 : BitVec 32 := 0#32
  let v1116 : BitVec 1 := Scalar.cmpi .sgt c4_i32_584 c0_i32_587
  let v1117 : BitVec 32 := Scalar.extui v1116
  let c0_i32_588 : BitVec 32 := 0#32
  let v1118 : BitVec 1 := Scalar.cmpi .slt c4_i32_584 c0_i32_588
  let v1119 : BitVec 32 := Scalar.extui v1118
  let v1120 : BitVec 32 := Scalar.subi v1117 v1119
  let v1121 : BitVec 1 := Scalar.cmpi .ne v1115 v1120
  let v1122 : BitVec 32 := Scalar.remsi v2 c4_i32_584
  let c0_i32_589 : BitVec 32 := 0#32
  let v1123 : BitVec 1 := Scalar.cmpi .ne v1122 c0_i32_589
  let v1124 : BitVec 1 := Scalar.andi v1121 v1123
  let v1110 : BitVec 32 := Scalar.divsi v2 c4_i32_584
  let c1_i32_590 : BitVec 32 := 1#32
  let v1125 : BitVec 32 := Scalar.subi v1110 c1_i32_590
  let v1126 : BitVec 32 := Scalar.select v1124 v1125 v1110
  let c7_i32_591 : BitVec 32 := 7#32
  let v1127 : BitVec 32 := Scalar.addi v1126 c7_i32_591
  let c8_i32_592 : BitVec 32 := 8#32
  let c0_i32_593 : BitVec 32 := 0#32
  let v1128 : BitVec 1 := Scalar.cmpi .eq c8_i32_592 c0_i32_593
  let c1_i32_594 : BitVec 32 := 1#32
  let v1129 : BitVec 32 := Scalar.select v1128 c1_i32_594 c8_i32_592
  let v1130 : BitVec 32 := Scalar.remsi v1127 v1129
  let c0_i32_596 : BitVec 32 := 0#32
  let v1132 : BitVec 1 := Scalar.cmpi .slt v1130 c0_i32_596
  let c0_i32_597 : BitVec 32 := 0#32
  let v1133 : BitVec 1 := Scalar.cmpi .slt v1129 c0_i32_597
  let v1134 : BitVec 1 := Scalar.xori v1132 v1133
  let c0_i32_595 : BitVec 32 := 0#32
  let v1131 : BitVec 1 := Scalar.cmpi .ne v1130 c0_i32_595
  let v1135 : BitVec 1 := Scalar.andi v1134 v1131
  let v1136 : BitVec 32 := Scalar.addi v1130 v1129
  let v1137 : BitVec 32 := Scalar.select v1135 v1136 v1130
  let c4_i32_598 : BitVec 32 := 4#32
  let v1138 : BitVec 32 := Scalar.muli v1137 c4_i32_598
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_599 : BitVec 32 := 1#32
  let v1139 : BitVec 32 := Scalar.addi v30 c1_i32_599
  let c4_i32_600 : BitVec 32 := 4#32
  let c0_i32_601 : BitVec 32 := 0#32
  let v1140 : BitVec 1 := Scalar.cmpi .eq c4_i32_600 c0_i32_601
  let c1_i32_602 : BitVec 32 := 1#32
  let v1141 : BitVec 32 := Scalar.select v1140 c1_i32_602 c4_i32_600
  let v1142 : BitVec 32 := Scalar.remsi v1139 v1141
  let c0_i32_604 : BitVec 32 := 0#32
  let v1144 : BitVec 1 := Scalar.cmpi .slt v1142 c0_i32_604
  let c0_i32_605 : BitVec 32 := 0#32
  let v1145 : BitVec 1 := Scalar.cmpi .slt v1141 c0_i32_605
  let v1146 : BitVec 1 := Scalar.xori v1144 v1145
  let c0_i32_603 : BitVec 32 := 0#32
  let v1143 : BitVec 1 := Scalar.cmpi .ne v1142 c0_i32_603
  let v1147 : BitVec 1 := Scalar.andi v1146 v1143
  let v1148 : BitVec 32 := Scalar.addi v1142 v1141
  let v1149 : BitVec 32 := Scalar.select v1147 v1148 v1142
  let v1150 : BitVec 32 := Scalar.addi v1138 v1149
  let c1_i32_1241 : BitVec 32 := 1#32
  let v1952 : BitVec 32 := Scalar.muli v1150 c1_i32_1241
  let v1953 : BitVec 32 := Scalar.addi c0_i32_1242 v1952
  v1953.toNat
def k0_dev68 (d0 : Dev nD) : Nat :=
  let c0_i32_1251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_607 : BitVec 32 := 0#32
  let v1152 : BitVec 1 := Scalar.cmpi .sgt v2 c0_i32_607
  let v1153 : BitVec 32 := Scalar.extui v1152
  let c0_i32_608 : BitVec 32 := 0#32
  let v1154 : BitVec 1 := Scalar.cmpi .slt v2 c0_i32_608
  let v1155 : BitVec 32 := Scalar.extui v1154
  let v1156 : BitVec 32 := Scalar.subi v1153 v1155
  let c4_i32_606 : BitVec 32 := 4#32
  let c0_i32_609 : BitVec 32 := 0#32
  let v1157 : BitVec 1 := Scalar.cmpi .sgt c4_i32_606 c0_i32_609
  let v1158 : BitVec 32 := Scalar.extui v1157
  let c0_i32_610 : BitVec 32 := 0#32
  let v1159 : BitVec 1 := Scalar.cmpi .slt c4_i32_606 c0_i32_610
  let v1160 : BitVec 32 := Scalar.extui v1159
  let v1161 : BitVec 32 := Scalar.subi v1158 v1160
  let v1162 : BitVec 1 := Scalar.cmpi .ne v1156 v1161
  let v1163 : BitVec 32 := Scalar.remsi v2 c4_i32_606
  let c0_i32_611 : BitVec 32 := 0#32
  let v1164 : BitVec 1 := Scalar.cmpi .ne v1163 c0_i32_611
  let v1165 : BitVec 1 := Scalar.andi v1162 v1164
  let v1151 : BitVec 32 := Scalar.divsi v2 c4_i32_606
  let c1_i32_612 : BitVec 32 := 1#32
  let v1166 : BitVec 32 := Scalar.subi v1151 c1_i32_612
  let v1167 : BitVec 32 := Scalar.select v1165 v1166 v1151
  let c7_i32_613 : BitVec 32 := 7#32
  let v1168 : BitVec 32 := Scalar.addi v1167 c7_i32_613
  let c8_i32_614 : BitVec 32 := 8#32
  let c0_i32_615 : BitVec 32 := 0#32
  let v1169 : BitVec 1 := Scalar.cmpi .eq c8_i32_614 c0_i32_615
  let c1_i32_616 : BitVec 32 := 1#32
  let v1170 : BitVec 32 := Scalar.select v1169 c1_i32_616 c8_i32_614
  let v1171 : BitVec 32 := Scalar.remsi v1168 v1170
  let c0_i32_618 : BitVec 32 := 0#32
  let v1173 : BitVec 1 := Scalar.cmpi .slt v1171 c0_i32_618
  let c0_i32_619 : BitVec 32 := 0#32
  let v1174 : BitVec 1 := Scalar.cmpi .slt v1170 c0_i32_619
  let v1175 : BitVec 1 := Scalar.xori v1173 v1174
  let c0_i32_617 : BitVec 32 := 0#32
  let v1172 : BitVec 1 := Scalar.cmpi .ne v1171 c0_i32_617
  let v1176 : BitVec 1 := Scalar.andi v1175 v1172
  let v1177 : BitVec 32 := Scalar.addi v1171 v1170
  let v1178 : BitVec 32 := Scalar.select v1176 v1177 v1171
  let c4_i32_620 : BitVec 32 := 4#32
  let v1179 : BitVec 32 := Scalar.muli v1178 c4_i32_620
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_621 : BitVec 32 := 2#32
  let v1180 : BitVec 32 := Scalar.addi v30 c2_i32_621
  let c4_i32_622 : BitVec 32 := 4#32
  let c0_i32_623 : BitVec 32 := 0#32
  let v1181 : BitVec 1 := Scalar.cmpi .eq c4_i32_622 c0_i32_623
  let c1_i32_624 : BitVec 32 := 1#32
  let v1182 : BitVec 32 := Scalar.select v1181 c1_i32_624 c4_i32_622
  let v1183 : BitVec 32 := Scalar.remsi v1180 v1182
  let c0_i32_626 : BitVec 32 := 0#32
  let v1185 : BitVec 1 := Scalar.cmpi .slt v1183 c0_i32_626
  let c0_i32_627 : BitVec 32 := 0#32
  let v1186 : BitVec 1 := Scalar.cmpi .slt v1182 c0_i32_627
  let v1187 : BitVec 1 := Scalar.xori v1185 v1186
  let c0_i32_625 : BitVec 32 := 0#32
  let v1184 : BitVec 1 := Scalar.cmpi .ne v1183 c0_i32_625
  let v1188 : BitVec 1 := Scalar.andi v1187 v1184
  let v1189 : BitVec 32 := Scalar.addi v1183 v1182
  let v1190 : BitVec 32 := Scalar.select v1188 v1189 v1183
  let v1191 : BitVec 32 := Scalar.addi v1179 v1190
  let c1_i32_1250 : BitVec 32 := 1#32
  let v1963 : BitVec 32 := Scalar.muli v1191 c1_i32_1250
  let v1964 : BitVec 32 := Scalar.addi c0_i32_1251 v1963
  v1964.toNat
def k0_dev69 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_629 : BitVec 32 := 0#32
  let v1193 : BitVec 1 := Scalar.cmpi .sgt v2 c0_i32_629
  let v1194 : BitVec 32 := Scalar.extui v1193
  let c0_i32_630 : BitVec 32 := 0#32
  let v1195 : BitVec 1 := Scalar.cmpi .slt v2 c0_i32_630
  let v1196 : BitVec 32 := Scalar.extui v1195
  let v1197 : BitVec 32 := Scalar.subi v1194 v1196
  let c4_i32_628 : BitVec 32 := 4#32
  let c0_i32_631 : BitVec 32 := 0#32
  let v1198 : BitVec 1 := Scalar.cmpi .sgt c4_i32_628 c0_i32_631
  let v1199 : BitVec 32 := Scalar.extui v1198
  let c0_i32_632 : BitVec 32 := 0#32
  let v1200 : BitVec 1 := Scalar.cmpi .slt c4_i32_628 c0_i32_632
  let v1201 : BitVec 32 := Scalar.extui v1200
  let v1202 : BitVec 32 := Scalar.subi v1199 v1201
  let v1203 : BitVec 1 := Scalar.cmpi .ne v1197 v1202
  let v1204 : BitVec 32 := Scalar.remsi v2 c4_i32_628
  let c0_i32_633 : BitVec 32 := 0#32
  let v1205 : BitVec 1 := Scalar.cmpi .ne v1204 c0_i32_633
  let v1206 : BitVec 1 := Scalar.andi v1203 v1205
  let v1192 : BitVec 32 := Scalar.divsi v2 c4_i32_628
  let c1_i32_634 : BitVec 32 := 1#32
  let v1207 : BitVec 32 := Scalar.subi v1192 c1_i32_634
  let v1208 : BitVec 32 := Scalar.select v1206 v1207 v1192
  let c7_i32_635 : BitVec 32 := 7#32
  let v1209 : BitVec 32 := Scalar.addi v1208 c7_i32_635
  let c8_i32_636 : BitVec 32 := 8#32
  let c0_i32_637 : BitVec 32 := 0#32
  let v1210 : BitVec 1 := Scalar.cmpi .eq c8_i32_636 c0_i32_637
  let c1_i32_638 : BitVec 32 := 1#32
  let v1211 : BitVec 32 := Scalar.select v1210 c1_i32_638 c8_i32_636
  let v1212 : BitVec 32 := Scalar.remsi v1209 v1211
  let c0_i32_640 : BitVec 32 := 0#32
  let v1214 : BitVec 1 := Scalar.cmpi .slt v1212 c0_i32_640
  let c0_i32_641 : BitVec 32 := 0#32
  let v1215 : BitVec 1 := Scalar.cmpi .slt v1211 c0_i32_641
  let v1216 : BitVec 1 := Scalar.xori v1214 v1215
  let c0_i32_639 : BitVec 32 := 0#32
  let v1213 : BitVec 1 := Scalar.cmpi .ne v1212 c0_i32_639
  let v1217 : BitVec 1 := Scalar.andi v1216 v1213
  let v1218 : BitVec 32 := Scalar.addi v1212 v1211
  let v1219 : BitVec 32 := Scalar.select v1217 v1218 v1212
  let c4_i32_642 : BitVec 32 := 4#32
  let v1220 : BitVec 32 := Scalar.muli v1219 c4_i32_642
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_643 : BitVec 32 := 3#32
  let v1221 : BitVec 32 := Scalar.addi v30 c3_i32_643
  let c4_i32_644 : BitVec 32 := 4#32
  let c0_i32_645 : BitVec 32 := 0#32
  let v1222 : BitVec 1 := Scalar.cmpi .eq c4_i32_644 c0_i32_645
  let c1_i32_646 : BitVec 32 := 1#32
  let v1223 : BitVec 32 := Scalar.select v1222 c1_i32_646 c4_i32_644
  let v1224 : BitVec 32 := Scalar.remsi v1221 v1223
  let c0_i32_648 : BitVec 32 := 0#32
  let v1226 : BitVec 1 := Scalar.cmpi .slt v1224 c0_i32_648
  let c0_i32_649 : BitVec 32 := 0#32
  let v1227 : BitVec 1 := Scalar.cmpi .slt v1223 c0_i32_649
  let v1228 : BitVec 1 := Scalar.xori v1226 v1227
  let c0_i32_647 : BitVec 32 := 0#32
  let v1225 : BitVec 1 := Scalar.cmpi .ne v1224 c0_i32_647
  let v1229 : BitVec 1 := Scalar.andi v1228 v1225
  let v1230 : BitVec 32 := Scalar.addi v1224 v1223
  let v1231 : BitVec 32 := Scalar.select v1229 v1230 v1224
  let v1232 : BitVec 32 := Scalar.addi v1220 v1231
  let c1_i32_1259 : BitVec 32 := 1#32
  let v1974 : BitVec 32 := Scalar.muli v1232 c1_i32_1259
  let v1975 : BitVec 32 := Scalar.addi c0_i32_1260 v1974
  v1975.toNat
def k0_off11 (d0 : Dev nD) (c1_i32_19 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c0_i32_1270 : BitVec 32 := 0#32
  let c0_i32_1271 : BitVec 32 := 0#32
  ![v60.toNat, 0, 0]
def k0_off12 (d0 : Dev nD) (c1_i32_45 : BitVec 32) (c0_i32_52 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v86 : BitVec 1 := Scalar.cmpi .sgt v2 c0_i32_39
  let v87 : BitVec 32 := Scalar.extui v86
  let c0_i32_40 : BitVec 32 := 0#32
  let v88 : BitVec 1 := Scalar.cmpi .slt v2 c0_i32_40
  let v89 : BitVec 32 := Scalar.extui v88
  let v90 : BitVec 32 := Scalar.subi v87 v89
  let c4_i32_38 : BitVec 32 := 4#32
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v2 c4_i32_38
  let c0_i32_43 : BitVec 32 := 0#32
  let v98 : BitVec 1 := Scalar.cmpi .ne v97 c0_i32_43
  let v99 : BitVec 1 := Scalar.andi v96 v98
  let v85 : BitVec 32 := Scalar.divsi v2 c4_i32_38
  let c1_i32_44 : BitVec 32 := 1#32
  let v100 : BitVec 32 := Scalar.subi v85 c1_i32_44
  let v101 : BitVec 32 := Scalar.select v99 v100 v85
  let v102 : BitVec 32 := Scalar.addi v101 c1_i32_45
  let c8_i32 : BitVec 32 := 8#32
  let c0_i32_46 : BitVec 32 := 0#32
  let v103 : BitVec 1 := Scalar.cmpi .eq c8_i32 c0_i32_46
  let c1_i32_47 : BitVec 32 := 1#32
  let v104 : BitVec 32 := Scalar.select v103 c1_i32_47 c8_i32
  let v105 : BitVec 32 := Scalar.remsi v102 v104
  let c0_i32_49 : BitVec 32 := 0#32
  let v107 : BitVec 1 := Scalar.cmpi .slt v105 c0_i32_49
  let c0_i32_50 : BitVec 32 := 0#32
  let v108 : BitVec 1 := Scalar.cmpi .slt v104 c0_i32_50
  let v109 : BitVec 1 := Scalar.xori v107 v108
  let c0_i32_48 : BitVec 32 := 0#32
  let v106 : BitVec 1 := Scalar.cmpi .ne v105 c0_i32_48
  let v110 : BitVec 1 := Scalar.andi v109 v106
  let v111 : BitVec 32 := Scalar.addi v105 v104
  let v112 : BitVec 32 := Scalar.select v110 v111 v105
  let c4_i32_51 : BitVec 32 := 4#32
  let v113 : BitVec 32 := Scalar.muli v112 c4_i32_51
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v114 : BitVec 32 := Scalar.addi v30 c0_i32_52
  let c4_i32_53 : BitVec 32 := 4#32
  let c0_i32_54 : BitVec 32 := 0#32
  let v115 : BitVec 1 := Scalar.cmpi .eq c4_i32_53 c0_i32_54
  let c1_i32_55 : BitVec 32 := 1#32
  let v116 : BitVec 32 := Scalar.select v115 c1_i32_55 c4_i32_53
  let v117 : BitVec 32 := Scalar.remsi v114 v116
  let c0_i32_57 : BitVec 32 := 0#32
  let v119 : BitVec 1 := Scalar.cmpi .slt v117 c0_i32_57
  let c0_i32_58 : BitVec 32 := 0#32
  let v120 : BitVec 1 := Scalar.cmpi .slt v116 c0_i32_58
  let v121 : BitVec 1 := Scalar.xori v119 v120
  let c0_i32_56 : BitVec 32 := 0#32
  let v118 : BitVec 1 := Scalar.cmpi .ne v117 c0_i32_56
  let v122 : BitVec 1 := Scalar.andi v121 v118
  let v123 : BitVec 32 := Scalar.addi v117 v116
  let v124 : BitVec 32 := Scalar.select v122 v123 v117
  let v125 : BitVec 32 := Scalar.addi v113 v124
  let c0_i32_1321 : BitVec 32 := 0#32
  let c0_i32_1322 : BitVec 32 := 0#32
  ![v125.toNat, 0, 0]
def k0_off13 (d0 : Dev nD) (c0_i32_1795 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1794 : BitVec 32 := 32#32
  let v2482 : BitVec 32 := Scalar.muli v2 c32_i32_1794
  let v2483 : BitVec 32 := Scalar.addi v2482 c0_i32_1795
  let v2484 : Index := Scalar.indexCast v2483
  let c0_1796 : Index := 0#32
  ![v2484.toNat, 0]
def k0_off14 (d0 : Dev nD) (c0_i32_1804 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1803 : BitVec 32 := 32#32
  let v2502 : BitVec 32 := Scalar.muli v2 c32_i32_1803
  let v2503 : BitVec 32 := Scalar.addi v2502 c0_i32_1804
  let c0_i32_1809 : BitVec 32 := 0#32
  ![v2503.toNat, 0]
def k0_dev70 (d0 : Dev nD) : Nat :=
  let c0_i32_1808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c1_i32_1807 : BitVec 32 := 1#32
  let v2504 : BitVec 32 := Scalar.muli v60 c1_i32_1807
  let v2505 : BitVec 32 := Scalar.addi c0_i32_1808 v2504
  v2505.toNat
def k0_dev71 (d0 : Dev nD) : Nat :=
  let c0_i32_1818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32 : BitVec 32 := 2#32
  let v61 : BitVec 32 := Scalar.addi v30 c2_i32
  let c4_i32_26 : BitVec 32 := 4#32
  let c0_i32_27 : BitVec 32 := 0#32
  let v62 : BitVec 1 := Scalar.cmpi .eq c4_i32_26 c0_i32_27
  let c1_i32_28 : BitVec 32 := 1#32
  let v63 : BitVec 32 := Scalar.select v62 c1_i32_28 c4_i32_26
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.addi v20 v71
  let c1_i32_1817 : BitVec 32 := 1#32
  let v2516 : BitVec 32 := Scalar.muli v72 c1_i32_1817
  let v2517 : BitVec 32 := Scalar.addi c0_i32_1818 v2516
  v2517.toNat
def k0_dev72 (d0 : Dev nD) : Nat :=
  let c0_i32_1828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32 : BitVec 32 := 3#32
  let v73 : BitVec 32 := Scalar.addi v30 c3_i32
  let c4_i32_32 : BitVec 32 := 4#32
  let c0_i32_33 : BitVec 32 := 0#32
  let v74 : BitVec 1 := Scalar.cmpi .eq c4_i32_32 c0_i32_33
  let c1_i32_34 : BitVec 32 := 1#32
  let v75 : BitVec 32 := Scalar.select v74 c1_i32_34 c4_i32_32
  let v76 : BitVec 32 := Scalar.remsi v73 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.addi v20 v83
  let c1_i32_1827 : BitVec 32 := 1#32
  let v2528 : BitVec 32 := Scalar.muli v84 c1_i32_1827
  let v2529 : BitVec 32 := Scalar.addi c0_i32_1828 v2528
  v2529.toNat
def k0_dev73 (d0 : Dev nD) : Nat :=
  let c0_i32_1838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v86 : BitVec 1 := Scalar.cmpi .sgt v2 c0_i32_39
  let v87 : BitVec 32 := Scalar.extui v86
  let c0_i32_40 : BitVec 32 := 0#32
  let v88 : BitVec 1 := Scalar.cmpi .slt v2 c0_i32_40
  let v89 : BitVec 32 := Scalar.extui v88
  let v90 : BitVec 32 := Scalar.subi v87 v89
  let c4_i32_38 : BitVec 32 := 4#32
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v2 c4_i32_38
  let c0_i32_43 : BitVec 32 := 0#32
  let v98 : BitVec 1 := Scalar.cmpi .ne v97 c0_i32_43
  let v99 : BitVec 1 := Scalar.andi v96 v98
  let v85 : BitVec 32 := Scalar.divsi v2 c4_i32_38
  let c1_i32_44 : BitVec 32 := 1#32
  let v100 : BitVec 32 := Scalar.subi v85 c1_i32_44
  let v101 : BitVec 32 := Scalar.select v99 v100 v85
  let c1_i32_45 : BitVec 32 := 1#32
  let v102 : BitVec 32 := Scalar.addi v101 c1_i32_45
  let c8_i32 : BitVec 32 := 8#32
  let c0_i32_46 : BitVec 32 := 0#32
  let v103 : BitVec 1 := Scalar.cmpi .eq c8_i32 c0_i32_46
  let c1_i32_47 : BitVec 32 := 1#32
  let v104 : BitVec 32 := Scalar.select v103 c1_i32_47 c8_i32
  let v105 : BitVec 32 := Scalar.remsi v102 v104
  let c0_i32_49 : BitVec 32 := 0#32
  let v107 : BitVec 1 := Scalar.cmpi .slt v105 c0_i32_49
  let c0_i32_50 : BitVec 32 := 0#32
  let v108 : BitVec 1 := Scalar.cmpi .slt v104 c0_i32_50
  let v109 : BitVec 1 := Scalar.xori v107 v108
  let c0_i32_48 : BitVec 32 := 0#32
  let v106 : BitVec 1 := Scalar.cmpi .ne v105 c0_i32_48
  let v110 : BitVec 1 := Scalar.andi v109 v106
  let v111 : BitVec 32 := Scalar.addi v105 v104
  let v112 : BitVec 32 := Scalar.select v110 v111 v105
  let c4_i32_51 : BitVec 32 := 4#32
  let v113 : BitVec 32 := Scalar.muli v112 c4_i32_51
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_52 : BitVec 32 := 0#32
  let v114 : BitVec 32 := Scalar.addi v30 c0_i32_52
  let c4_i32_53 : BitVec 32 := 4#32
  let c0_i32_54 : BitVec 32 := 0#32
  let v115 : BitVec 1 := Scalar.cmpi .eq c4_i32_53 c0_i32_54
  let c1_i32_55 : BitVec 32 := 1#32
  let v116 : BitVec 32 := Scalar.select v115 c1_i32_55 c4_i32_53
  let v117 : BitVec 32 := Scalar.remsi v114 v116
  let c0_i32_57 : BitVec 32 := 0#32
  let v119 : BitVec 1 := Scalar.cmpi .slt v117 c0_i32_57
  let c0_i32_58 : BitVec 32 := 0#32
  let v120 : BitVec 1 := Scalar.cmpi .slt v116 c0_i32_58
  let v121 : BitVec 1 := Scalar.xori v119 v120
  let c0_i32_56 : BitVec 32 := 0#32
  let v118 : BitVec 1 := Scalar.cmpi .ne v117 c0_i32_56
  let v122 : BitVec 1 := Scalar.andi v121 v118
  let v123 : BitVec 32 := Scalar.addi v117 v116
  let v124 : BitVec 32 := Scalar.select v122 v123 v117
  let v125 : BitVec 32 := Scalar.addi v113 v124
  let c1_i32_1837 : BitVec 32 := 1#32
  let v2540 : BitVec 32 := Scalar.muli v125 c1_i32_1837
  let v2541 : BitVec 32 := Scalar.addi c0_i32_1838 v2540
  v2541.toNat
def k0_dev74 (d0 : Dev nD) : Nat :=
  let c0_i32_1848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_60 : BitVec 32 := 0#32
  let v127 : BitVec 1 := Scalar.cmpi .sgt v2 c0_i32_60
  let v128 : BitVec 32 := Scalar.extui v127
  let c0_i32_61 : BitVec 32 := 0#32
  let v129 : BitVec 1 := Scalar.cmpi .slt v2 c0_i32_61
  let v130 : BitVec 32 := Scalar.extui v129
  let v131 : BitVec 32 := Scalar.subi v128 v130
  let c4_i32_59 : BitVec 32 := 4#32
  let c0_i32_62 : BitVec 32 := 0#32
  let v132 : BitVec 1 := Scalar.cmpi .sgt c4_i32_59 c0_i32_62
  let v133 : BitVec 32 := Scalar.extui v132
  let c0_i32_63 : BitVec 32 := 0#32
  let v134 : BitVec 1 := Scalar.cmpi .slt c4_i32_59 c0_i32_63
  let v135 : BitVec 32 := Scalar.extui v134
  let v136 : BitVec 32 := Scalar.subi v133 v135
  let v137 : BitVec 1 := Scalar.cmpi .ne v131 v136
  let v138 : BitVec 32 := Scalar.remsi v2 c4_i32_59
  let c0_i32_64 : BitVec 32 := 0#32
  let v139 : BitVec 1 := Scalar.cmpi .ne v138 c0_i32_64
  let v140 : BitVec 1 := Scalar.andi v137 v139
  let v126 : BitVec 32 := Scalar.divsi v2 c4_i32_59
  let c1_i32_65 : BitVec 32 := 1#32
  let v141 : BitVec 32 := Scalar.subi v126 c1_i32_65
  let v142 : BitVec 32 := Scalar.select v140 v141 v126
  let c1_i32_66 : BitVec 32 := 1#32
  let v143 : BitVec 32 := Scalar.addi v142 c1_i32_66
  let c8_i32_67 : BitVec 32 := 8#32
  let c0_i32_68 : BitVec 32 := 0#32
  let v144 : BitVec 1 := Scalar.cmpi .eq c8_i32_67 c0_i32_68
  let c1_i32_69 : BitVec 32 := 1#32
  let v145 : BitVec 32 := Scalar.select v144 c1_i32_69 c8_i32_67
  let v146 : BitVec 32 := Scalar.remsi v143 v145
  let c0_i32_71 : BitVec 32 := 0#32
  let v148 : BitVec 1 := Scalar.cmpi .slt v146 c0_i32_71
  let c0_i32_72 : BitVec 32 := 0#32
  let v149 : BitVec 1 := Scalar.cmpi .slt v145 c0_i32_72
  let v150 : BitVec 1 := Scalar.xori v148 v149
  let c0_i32_70 : BitVec 32 := 0#32
  let v147 : BitVec 1 := Scalar.cmpi .ne v146 c0_i32_70
  let v151 : BitVec 1 := Scalar.andi v150 v147
  let v152 : BitVec 32 := Scalar.addi v146 v145
  let v153 : BitVec 32 := Scalar.select v151 v152 v146
  let c4_i32_73 : BitVec 32 := 4#32
  let v154 : BitVec 32 := Scalar.muli v153 c4_i32_73
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_74 : BitVec 32 := 1#32
  let v155 : BitVec 32 := Scalar.addi v30 c1_i32_74
  let c4_i32_75 : BitVec 32 := 4#32
  let c0_i32_76 : BitVec 32 := 0#32
  let v156 : BitVec 1 := Scalar.cmpi .eq c4_i32_75 c0_i32_76
  let c1_i32_77 : BitVec 32 := 1#32
  let v157 : BitVec 32 := Scalar.select v156 c1_i32_77 c4_i32_75
  let v158 : BitVec 32 := Scalar.remsi v155 v157
  let c0_i32_79 : BitVec 32 := 0#32
  let v160 : BitVec 1 := Scalar.cmpi .slt v158 c0_i32_79
  let c0_i32_80 : BitVec 32 := 0#32
  let v161 : BitVec 1 := Scalar.cmpi .slt v157 c0_i32_80
  let v162 : BitVec 1 := Scalar.xori v160 v161
  let c0_i32_78 : BitVec 32 := 0#32
  let v159 : BitVec 1 := Scalar.cmpi .ne v158 c0_i32_78
  let v163 : BitVec 1 := Scalar.andi v162 v159
  let v164 : BitVec 32 := Scalar.addi v158 v157
  let v165 : BitVec 32 := Scalar.select v163 v164 v158
  let v166 : BitVec 32 := Scalar.addi v154 v165
  let c1_i32_1847 : BitVec 32 := 1#32
  let v2552 : BitVec 32 := Scalar.muli v166 c1_i32_1847
  let v2553 : BitVec 32 := Scalar.addi c0_i32_1848 v2552
  v2553.toNat
def k0_dev75 (d0 : Dev nD) : Nat :=
  let c0_i32_1858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_82 : BitVec 32 := 0#32
  let v168 : BitVec 1 := Scalar.cmpi .sgt v2 c0_i32_82
  let v169 : BitVec 32 := Scalar.extui v168
  let c0_i32_83 : BitVec 32 := 0#32
  let v170 : BitVec 1 := Scalar.cmpi .slt v2 c0_i32_83
  let v171 : BitVec 32 := Scalar.extui v170
  let v172 : BitVec 32 := Scalar.subi v169 v171
  let c4_i32_81 : BitVec 32 := 4#32
  let c0_i32_84 : BitVec 32 := 0#32
  let v173 : BitVec 1 := Scalar.cmpi .sgt c4_i32_81 c0_i32_84
  let v174 : BitVec 32 := Scalar.extui v173
  let c0_i32_85 : BitVec 32 := 0#32
  let v175 : BitVec 1 := Scalar.cmpi .slt c4_i32_81 c0_i32_85
  let v176 : BitVec 32 := Scalar.extui v175
  let v177 : BitVec 32 := Scalar.subi v174 v176
  let v178 : BitVec 1 := Scalar.cmpi .ne v172 v177
  let v179 : BitVec 32 := Scalar.remsi v2 c4_i32_81
  let c0_i32_86 : BitVec 32 := 0#32
  let v180 : BitVec 1 := Scalar.cmpi .ne v179 c0_i32_86
  let v181 : BitVec 1 := Scalar.andi v178 v180
  let v167 : BitVec 32 := Scalar.divsi v2 c4_i32_81
  let c1_i32_87 : BitVec 32 := 1#32
  let v182 : BitVec 32 := Scalar.subi v167 c1_i32_87
  let v183 : BitVec 32 := Scalar.select v181 v182 v167
  let c1_i32_88 : BitVec 32 := 1#32
  let v184 : BitVec 32 := Scalar.addi v183 c1_i32_88
  let c8_i32_89 : BitVec 32 := 8#32
  let c0_i32_90 : BitVec 32 := 0#32
  let v185 : BitVec 1 := Scalar.cmpi .eq c8_i32_89 c0_i32_90
  let c1_i32_91 : BitVec 32 := 1#32
  let v186 : BitVec 32 := Scalar.select v185 c1_i32_91 c8_i32_89
  let v187 : BitVec 32 := Scalar.remsi v184 v186
  let c0_i32_93 : BitVec 32 := 0#32
  let v189 : BitVec 1 := Scalar.cmpi .slt v187 c0_i32_93
  let c0_i32_94 : BitVec 32 := 0#32
  let v190 : BitVec 1 := Scalar.cmpi .slt v186 c0_i32_94
  let v191 : BitVec 1 := Scalar.xori v189 v190
  let c0_i32_92 : BitVec 32 := 0#32
  let v188 : BitVec 1 := Scalar.cmpi .ne v187 c0_i32_92
  let v192 : BitVec 1 := Scalar.andi v191 v188
  let v193 : BitVec 32 := Scalar.addi v187 v186
  let v194 : BitVec 32 := Scalar.select v192 v193 v187
  let c4_i32_95 : BitVec 32 := 4#32
  let v195 : BitVec 32 := Scalar.muli v194 c4_i32_95
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_96 : BitVec 32 := 2#32
  let v196 : BitVec 32 := Scalar.addi v30 c2_i32_96
  let c4_i32_97 : BitVec 32 := 4#32
  let c0_i32_98 : BitVec 32 := 0#32
  let v197 : BitVec 1 := Scalar.cmpi .eq c4_i32_97 c0_i32_98
  let c1_i32_99 : BitVec 32 := 1#32
  let v198 : BitVec 32 := Scalar.select v197 c1_i32_99 c4_i32_97
  let v199 : BitVec 32 := Scalar.remsi v196 v198
  let c0_i32_101 : BitVec 32 := 0#32
  let v201 : BitVec 1 := Scalar.cmpi .slt v199 c0_i32_101
  let c0_i32_102 : BitVec 32 := 0#32
  let v202 : BitVec 1 := Scalar.cmpi .slt v198 c0_i32_102
  let v203 : BitVec 1 := Scalar.xori v201 v202
  let c0_i32_100 : BitVec 32 := 0#32
  let v200 : BitVec 1 := Scalar.cmpi .ne v199 c0_i32_100
  let v204 : BitVec 1 := Scalar.andi v203 v200
  let v205 : BitVec 32 := Scalar.addi v199 v198
  let v206 : BitVec 32 := Scalar.select v204 v205 v199
  let v207 : BitVec 32 := Scalar.addi v195 v206
  let c1_i32_1857 : BitVec 32 := 1#32
  let v2564 : BitVec 32 := Scalar.muli v207 c1_i32_1857
  let v2565 : BitVec 32 := Scalar.addi c0_i32_1858 v2564
  v2565.toNat
def k0_dev76 (d0 : Dev nD) : Nat :=
  let c0_i32_1868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_104 : BitVec 32 := 0#32
  let v209 : BitVec 1 := Scalar.cmpi .sgt v2 c0_i32_104
  let v210 : BitVec 32 := Scalar.extui v209
  let c0_i32_105 : BitVec 32 := 0#32
  let v211 : BitVec 1 := Scalar.cmpi .slt v2 c0_i32_105
  let v212 : BitVec 32 := Scalar.extui v211
  let v213 : BitVec 32 := Scalar.subi v210 v212
  let c4_i32_103 : BitVec 32 := 4#32
  let c0_i32_106 : BitVec 32 := 0#32
  let v214 : BitVec 1 := Scalar.cmpi .sgt c4_i32_103 c0_i32_106
  let v215 : BitVec 32 := Scalar.extui v214
  let c0_i32_107 : BitVec 32 := 0#32
  let v216 : BitVec 1 := Scalar.cmpi .slt c4_i32_103 c0_i32_107
  let v217 : BitVec 32 := Scalar.extui v216
  let v218 : BitVec 32 := Scalar.subi v215 v217
  let v219 : BitVec 1 := Scalar.cmpi .ne v213 v218
  let v220 : BitVec 32 := Scalar.remsi v2 c4_i32_103
  let c0_i32_108 : BitVec 32 := 0#32
  let v221 : BitVec 1 := Scalar.cmpi .ne v220 c0_i32_108
  let v222 : BitVec 1 := Scalar.andi v219 v221
  let v208 : BitVec 32 := Scalar.divsi v2 c4_i32_103
  let c1_i32_109 : BitVec 32 := 1#32
  let v223 : BitVec 32 := Scalar.subi v208 c1_i32_109
  let v224 : BitVec 32 := Scalar.select v222 v223 v208
  let c1_i32_110 : BitVec 32 := 1#32
  let v225 : BitVec 32 := Scalar.addi v224 c1_i32_110
  let c8_i32_111 : BitVec 32 := 8#32
  let c0_i32_112 : BitVec 32 := 0#32
  let v226 : BitVec 1 := Scalar.cmpi .eq c8_i32_111 c0_i32_112
  let c1_i32_113 : BitVec 32 := 1#32
  let v227 : BitVec 32 := Scalar.select v226 c1_i32_113 c8_i32_111
  let v228 : BitVec 32 := Scalar.remsi v225 v227
  let c0_i32_115 : BitVec 32 := 0#32
  let v230 : BitVec 1 := Scalar.cmpi .slt v228 c0_i32_115
  let c0_i32_116 : BitVec 32 := 0#32
  let v231 : BitVec 1 := Scalar.cmpi .slt v227 c0_i32_116
  let v232 : BitVec 1 := Scalar.xori v230 v231
  let c0_i32_114 : BitVec 32 := 0#32
  let v229 : BitVec 1 := Scalar.cmpi .ne v228 c0_i32_114
  let v233 : BitVec 1 := Scalar.andi v232 v229
  let v234 : BitVec 32 := Scalar.addi v228 v227
  let v235 : BitVec 32 := Scalar.select v233 v234 v228
  let c4_i32_117 : BitVec 32 := 4#32
  let v236 : BitVec 32 := Scalar.muli v235 c4_i32_117
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_118 : BitVec 32 := 3#32
  let v237 : BitVec 32 := Scalar.addi v30 c3_i32_118
  let c4_i32_119 : BitVec 32 := 4#32
  let c0_i32_120 : BitVec 32 := 0#32
  let v238 : BitVec 1 := Scalar.cmpi .eq c4_i32_119 c0_i32_120
  let c1_i32_121 : BitVec 32 := 1#32
  let v239 : BitVec 32 := Scalar.select v238 c1_i32_121 c4_i32_119
  let v240 : BitVec 32 := Scalar.remsi v237 v239
  let c0_i32_123 : BitVec 32 := 0#32
  let v242 : BitVec 1 := Scalar.cmpi .slt v240 c0_i32_123
  let c0_i32_124 : BitVec 32 := 0#32
  let v243 : BitVec 1 := Scalar.cmpi .slt v239 c0_i32_124
  let v244 : BitVec 1 := Scalar.xori v242 v243
  let c0_i32_122 : BitVec 32 := 0#32
  let v241 : BitVec 1 := Scalar.cmpi .ne v240 c0_i32_122
  let v245 : BitVec 1 := Scalar.andi v244 v241
  let v246 : BitVec 32 := Scalar.addi v240 v239
  let v247 : BitVec 32 := Scalar.select v245 v246 v240
  let v248 : BitVec 32 := Scalar.addi v236 v247
  let c1_i32_1867 : BitVec 32 := 1#32
  let v2576 : BitVec 32 := Scalar.muli v248 c1_i32_1867
  let v2577 : BitVec 32 := Scalar.addi c0_i32_1868 v2576
  v2577.toNat
def k0_dev77 (d0 : Dev nD) : Nat :=
  let c0_i32_1878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_126 : BitVec 32 := 0#32
  let v250 : BitVec 1 := Scalar.cmpi .sgt v2 c0_i32_126
  let v251 : BitVec 32 := Scalar.extui v250
  let c0_i32_127 : BitVec 32 := 0#32
  let v252 : BitVec 1 := Scalar.cmpi .slt v2 c0_i32_127
  let v253 : BitVec 32 := Scalar.extui v252
  let v254 : BitVec 32 := Scalar.subi v251 v253
  let c4_i32_125 : BitVec 32 := 4#32
  let c0_i32_128 : BitVec 32 := 0#32
  let v255 : BitVec 1 := Scalar.cmpi .sgt c4_i32_125 c0_i32_128
  let v256 : BitVec 32 := Scalar.extui v255
  let c0_i32_129 : BitVec 32 := 0#32
  let v257 : BitVec 1 := Scalar.cmpi .slt c4_i32_125 c0_i32_129
  let v258 : BitVec 32 := Scalar.extui v257
  let v259 : BitVec 32 := Scalar.subi v256 v258
  let v260 : BitVec 1 := Scalar.cmpi .ne v254 v259
  let v261 : BitVec 32 := Scalar.remsi v2 c4_i32_125
  let c0_i32_130 : BitVec 32 := 0#32
  let v262 : BitVec 1 := Scalar.cmpi .ne v261 c0_i32_130
  let v263 : BitVec 1 := Scalar.andi v260 v262
  let v249 : BitVec 32 := Scalar.divsi v2 c4_i32_125
  let c1_i32_131 : BitVec 32 := 1#32
  let v264 : BitVec 32 := Scalar.subi v249 c1_i32_131
  let v265 : BitVec 32 := Scalar.select v263 v264 v249
  let c2_i32_132 : BitVec 32 := 2#32
  let v266 : BitVec 32 := Scalar.addi v265 c2_i32_132
  let c8_i32_133 : BitVec 32 := 8#32
  let c0_i32_134 : BitVec 32 := 0#32
  let v267 : BitVec 1 := Scalar.cmpi .eq c8_i32_133 c0_i32_134
  let c1_i32_135 : BitVec 32 := 1#32
  let v268 : BitVec 32 := Scalar.select v267 c1_i32_135 c8_i32_133
  let v269 : BitVec 32 := Scalar.remsi v266 v268
  let c0_i32_137 : BitVec 32 := 0#32
  let v271 : BitVec 1 := Scalar.cmpi .slt v269 c0_i32_137
  let c0_i32_138 : BitVec 32 := 0#32
  let v272 : BitVec 1 := Scalar.cmpi .slt v268 c0_i32_138
  let v273 : BitVec 1 := Scalar.xori v271 v272
  let c0_i32_136 : BitVec 32 := 0#32
  let v270 : BitVec 1 := Scalar.cmpi .ne v269 c0_i32_136
  let v274 : BitVec 1 := Scalar.andi v273 v270
  let v275 : BitVec 32 := Scalar.addi v269 v268
  let v276 : BitVec 32 := Scalar.select v274 v275 v269
  let c4_i32_139 : BitVec 32 := 4#32
  let v277 : BitVec 32 := Scalar.muli v276 c4_i32_139
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_140 : BitVec 32 := 0#32
  let v278 : BitVec 32 := Scalar.addi v30 c0_i32_140
  let c4_i32_141 : BitVec 32 := 4#32
  let c0_i32_142 : BitVec 32 := 0#32
  let v279 : BitVec 1 := Scalar.cmpi .eq c4_i32_141 c0_i32_142
  let c1_i32_143 : BitVec 32 := 1#32
  let v280 : BitVec 32 := Scalar.select v279 c1_i32_143 c4_i32_141
  let v281 : BitVec 32 := Scalar.remsi v278 v280
  let c0_i32_145 : BitVec 32 := 0#32
  let v283 : BitVec 1 := Scalar.cmpi .slt v281 c0_i32_145
  let c0_i32_146 : BitVec 32 := 0#32
  let v284 : BitVec 1 := Scalar.cmpi .slt v280 c0_i32_146
  let v285 : BitVec 1 := Scalar.xori v283 v284
  let c0_i32_144 : BitVec 32 := 0#32
  let v282 : BitVec 1 := Scalar.cmpi .ne v281 c0_i32_144
  let v286 : BitVec 1 := Scalar.andi v285 v282
  let v287 : BitVec 32 := Scalar.addi v281 v280
  let v288 : BitVec 32 := Scalar.select v286 v287 v281
  let v289 : BitVec 32 := Scalar.addi v277 v288
  let c1_i32_1877 : BitVec 32 := 1#32
  let v2588 : BitVec 32 := Scalar.muli v289 c1_i32_1877
  let v2589 : BitVec 32 := Scalar.addi c0_i32_1878 v2588
  v2589.toNat
def k0_dev78 (d0 : Dev nD) : Nat :=
  let c0_i32_1888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v291 : BitVec 1 := Scalar.cmpi .sgt v2 c0_i32_148
  let v292 : BitVec 32 := Scalar.extui v291
  let c0_i32_149 : BitVec 32 := 0#32
  let v293 : BitVec 1 := Scalar.cmpi .slt v2 c0_i32_149
  let v294 : BitVec 32 := Scalar.extui v293
  let v295 : BitVec 32 := Scalar.subi v292 v294
  let c4_i32_147 : BitVec 32 := 4#32
  let c0_i32_150 : BitVec 32 := 0#32
  let v296 : BitVec 1 := Scalar.cmpi .sgt c4_i32_147 c0_i32_150
  let v297 : BitVec 32 := Scalar.extui v296
  let c0_i32_151 : BitVec 32 := 0#32
  let v298 : BitVec 1 := Scalar.cmpi .slt c4_i32_147 c0_i32_151
  let v299 : BitVec 32 := Scalar.extui v298
  let v300 : BitVec 32 := Scalar.subi v297 v299
  let v301 : BitVec 1 := Scalar.cmpi .ne v295 v300
  let v302 : BitVec 32 := Scalar.remsi v2 c4_i32_147
  let c0_i32_152 : BitVec 32 := 0#32
  let v303 : BitVec 1 := Scalar.cmpi .ne v302 c0_i32_152
  let v304 : BitVec 1 := Scalar.andi v301 v303
  let v290 : BitVec 32 := Scalar.divsi v2 c4_i32_147
  let c1_i32_153 : BitVec 32 := 1#32
  let v305 : BitVec 32 := Scalar.subi v290 c1_i32_153
  let v306 : BitVec 32 := Scalar.select v304 v305 v290
  let c2_i32_154 : BitVec 32 := 2#32
  let v307 : BitVec 32 := Scalar.addi v306 c2_i32_154
  let c8_i32_155 : BitVec 32 := 8#32
  let c0_i32_156 : BitVec 32 := 0#32
  let v308 : BitVec 1 := Scalar.cmpi .eq c8_i32_155 c0_i32_156
  let c1_i32_157 : BitVec 32 := 1#32
  let v309 : BitVec 32 := Scalar.select v308 c1_i32_157 c8_i32_155
  let v310 : BitVec 32 := Scalar.remsi v307 v309
  let c0_i32_159 : BitVec 32 := 0#32
  let v312 : BitVec 1 := Scalar.cmpi .slt v310 c0_i32_159
  let c0_i32_160 : BitVec 32 := 0#32
  let v313 : BitVec 1 := Scalar.cmpi .slt v309 c0_i32_160
  let v314 : BitVec 1 := Scalar.xori v312 v313
  let c0_i32_158 : BitVec 32 := 0#32
  let v311 : BitVec 1 := Scalar.cmpi .ne v310 c0_i32_158
  let v315 : BitVec 1 := Scalar.andi v314 v311
  let v316 : BitVec 32 := Scalar.addi v310 v309
  let v317 : BitVec 32 := Scalar.select v315 v316 v310
  let c4_i32_161 : BitVec 32 := 4#32
  let v318 : BitVec 32 := Scalar.muli v317 c4_i32_161
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_162 : BitVec 32 := 1#32
  let v319 : BitVec 32 := Scalar.addi v30 c1_i32_162
  let c4_i32_163 : BitVec 32 := 4#32
  let c0_i32_164 : BitVec 32 := 0#32
  let v320 : BitVec 1 := Scalar.cmpi .eq c4_i32_163 c0_i32_164
  let c1_i32_165 : BitVec 32 := 1#32
  let v321 : BitVec 32 := Scalar.select v320 c1_i32_165 c4_i32_163
  let v322 : BitVec 32 := Scalar.remsi v319 v321
  let c0_i32_167 : BitVec 32 := 0#32
  let v324 : BitVec 1 := Scalar.cmpi .slt v322 c0_i32_167
  let c0_i32_168 : BitVec 32 := 0#32
  let v325 : BitVec 1 := Scalar.cmpi .slt v321 c0_i32_168
  let v326 : BitVec 1 := Scalar.xori v324 v325
  let c0_i32_166 : BitVec 32 := 0#32
  let v323 : BitVec 1 := Scalar.cmpi .ne v322 c0_i32_166
  let v327 : BitVec 1 := Scalar.andi v326 v323
  let v328 : BitVec 32 := Scalar.addi v322 v321
  let v329 : BitVec 32 := Scalar.select v327 v328 v322
  let v330 : BitVec 32 := Scalar.addi v318 v329
  let c1_i32_1887 : BitVec 32 := 1#32
  let v2600 : BitVec 32 := Scalar.muli v330 c1_i32_1887
  let v2601 : BitVec 32 := Scalar.addi c0_i32_1888 v2600
  v2601.toNat
def k0_dev79 (d0 : Dev nD) : Nat :=
  let c0_i32_1898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_170 : BitVec 32 := 0#32
  let v332 : BitVec 1 := Scalar.cmpi .sgt v2 c0_i32_170
  let v333 : BitVec 32 := Scalar.extui v332
  let c0_i32_171 : BitVec 32 := 0#32
  let v334 : BitVec 1 := Scalar.cmpi .slt v2 c0_i32_171
  let v335 : BitVec 32 := Scalar.extui v334
  let v336 : BitVec 32 := Scalar.subi v333 v335
  let c4_i32_169 : BitVec 32 := 4#32
  let c0_i32_172 : BitVec 32 := 0#32
  let v337 : BitVec 1 := Scalar.cmpi .sgt c4_i32_169 c0_i32_172
  let v338 : BitVec 32 := Scalar.extui v337
  let c0_i32_173 : BitVec 32 := 0#32
  let v339 : BitVec 1 := Scalar.cmpi .slt c4_i32_169 c0_i32_173
  let v340 : BitVec 32 := Scalar.extui v339
  let v341 : BitVec 32 := Scalar.subi v338 v340
  let v342 : BitVec 1 := Scalar.cmpi .ne v336 v341
  let v343 : BitVec 32 := Scalar.remsi v2 c4_i32_169
  let c0_i32_174 : BitVec 32 := 0#32
  let v344 : BitVec 1 := Scalar.cmpi .ne v343 c0_i32_174
  let v345 : BitVec 1 := Scalar.andi v342 v344
  let v331 : BitVec 32 := Scalar.divsi v2 c4_i32_169
  let c1_i32_175 : BitVec 32 := 1#32
  let v346 : BitVec 32 := Scalar.subi v331 c1_i32_175
  let v347 : BitVec 32 := Scalar.select v345 v346 v331
  let c2_i32_176 : BitVec 32 := 2#32
  let v348 : BitVec 32 := Scalar.addi v347 c2_i32_176
  let c8_i32_177 : BitVec 32 := 8#32
  let c0_i32_178 : BitVec 32 := 0#32
  let v349 : BitVec 1 := Scalar.cmpi .eq c8_i32_177 c0_i32_178
  let c1_i32_179 : BitVec 32 := 1#32
  let v350 : BitVec 32 := Scalar.select v349 c1_i32_179 c8_i32_177
  let v351 : BitVec 32 := Scalar.remsi v348 v350
  let c0_i32_181 : BitVec 32 := 0#32
  let v353 : BitVec 1 := Scalar.cmpi .slt v351 c0_i32_181
  let c0_i32_182 : BitVec 32 := 0#32
  let v354 : BitVec 1 := Scalar.cmpi .slt v350 c0_i32_182
  let v355 : BitVec 1 := Scalar.xori v353 v354
  let c0_i32_180 : BitVec 32 := 0#32
  let v352 : BitVec 1 := Scalar.cmpi .ne v351 c0_i32_180
  let v356 : BitVec 1 := Scalar.andi v355 v352
  let v357 : BitVec 32 := Scalar.addi v351 v350
  let v358 : BitVec 32 := Scalar.select v356 v357 v351
  let c4_i32_183 : BitVec 32 := 4#32
  let v359 : BitVec 32 := Scalar.muli v358 c4_i32_183
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_184 : BitVec 32 := 2#32
  let v360 : BitVec 32 := Scalar.addi v30 c2_i32_184
  let c4_i32_185 : BitVec 32 := 4#32
  let c0_i32_186 : BitVec 32 := 0#32
  let v361 : BitVec 1 := Scalar.cmpi .eq c4_i32_185 c0_i32_186
  let c1_i32_187 : BitVec 32 := 1#32
  let v362 : BitVec 32 := Scalar.select v361 c1_i32_187 c4_i32_185
  let v363 : BitVec 32 := Scalar.remsi v360 v362
  let c0_i32_189 : BitVec 32 := 0#32
  let v365 : BitVec 1 := Scalar.cmpi .slt v363 c0_i32_189
  let c0_i32_190 : BitVec 32 := 0#32
  let v366 : BitVec 1 := Scalar.cmpi .slt v362 c0_i32_190
  let v367 : BitVec 1 := Scalar.xori v365 v366
  let c0_i32_188 : BitVec 32 := 0#32
  let v364 : BitVec 1 := Scalar.cmpi .ne v363 c0_i32_188
  let v368 : BitVec 1 := Scalar.andi v367 v364
  let v369 : BitVec 32 := Scalar.addi v363 v362
  let v370 : BitVec 32 := Scalar.select v368 v369 v363
  let v371 : BitVec 32 := Scalar.addi v359 v370
  let c1_i32_1897 : BitVec 32 := 1#32
  let v2612 : BitVec 32 := Scalar.muli v371 c1_i32_1897
  let v2613 : BitVec 32 := Scalar.addi c0_i32_1898 v2612
  v2613.toNat
def k0_dev80 (d0 : Dev nD) : Nat :=
  let c0_i32_1908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_192 : BitVec 32 := 0#32
  let v373 : BitVec 1 := Scalar.cmpi .sgt v2 c0_i32_192
  let v374 : BitVec 32 := Scalar.extui v373
  let c0_i32_193 : BitVec 32 := 0#32
  let v375 : BitVec 1 := Scalar.cmpi .slt v2 c0_i32_193
  let v376 : BitVec 32 := Scalar.extui v375
  let v377 : BitVec 32 := Scalar.subi v374 v376
  let c4_i32_191 : BitVec 32 := 4#32
  let c0_i32_194 : BitVec 32 := 0#32
  let v378 : BitVec 1 := Scalar.cmpi .sgt c4_i32_191 c0_i32_194
  let v379 : BitVec 32 := Scalar.extui v378
  let c0_i32_195 : BitVec 32 := 0#32
  let v380 : BitVec 1 := Scalar.cmpi .slt c4_i32_191 c0_i32_195
  let v381 : BitVec 32 := Scalar.extui v380
  let v382 : BitVec 32 := Scalar.subi v379 v381
  let v383 : BitVec 1 := Scalar.cmpi .ne v377 v382
  let v384 : BitVec 32 := Scalar.remsi v2 c4_i32_191
  let c0_i32_196 : BitVec 32 := 0#32
  let v385 : BitVec 1 := Scalar.cmpi .ne v384 c0_i32_196
  let v386 : BitVec 1 := Scalar.andi v383 v385
  let v372 : BitVec 32 := Scalar.divsi v2 c4_i32_191
  let c1_i32_197 : BitVec 32 := 1#32
  let v387 : BitVec 32 := Scalar.subi v372 c1_i32_197
  let v388 : BitVec 32 := Scalar.select v386 v387 v372
  let c2_i32_198 : BitVec 32 := 2#32
  let v389 : BitVec 32 := Scalar.addi v388 c2_i32_198
  let c8_i32_199 : BitVec 32 := 8#32
  let c0_i32_200 : BitVec 32 := 0#32
  let v390 : BitVec 1 := Scalar.cmpi .eq c8_i32_199 c0_i32_200
  let c1_i32_201 : BitVec 32 := 1#32
  let v391 : BitVec 32 := Scalar.select v390 c1_i32_201 c8_i32_199
  let v392 : BitVec 32 := Scalar.remsi v389 v391
  let c0_i32_203 : BitVec 32 := 0#32
  let v394 : BitVec 1 := Scalar.cmpi .slt v392 c0_i32_203
  let c0_i32_204 : BitVec 32 := 0#32
  let v395 : BitVec 1 := Scalar.cmpi .slt v391 c0_i32_204
  let v396 : BitVec 1 := Scalar.xori v394 v395
  let c0_i32_202 : BitVec 32 := 0#32
  let v393 : BitVec 1 := Scalar.cmpi .ne v392 c0_i32_202
  let v397 : BitVec 1 := Scalar.andi v396 v393
  let v398 : BitVec 32 := Scalar.addi v392 v391
  let v399 : BitVec 32 := Scalar.select v397 v398 v392
  let c4_i32_205 : BitVec 32 := 4#32
  let v400 : BitVec 32 := Scalar.muli v399 c4_i32_205
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_206 : BitVec 32 := 3#32
  let v401 : BitVec 32 := Scalar.addi v30 c3_i32_206
  let c4_i32_207 : BitVec 32 := 4#32
  let c0_i32_208 : BitVec 32 := 0#32
  let v402 : BitVec 1 := Scalar.cmpi .eq c4_i32_207 c0_i32_208
  let c1_i32_209 : BitVec 32 := 1#32
  let v403 : BitVec 32 := Scalar.select v402 c1_i32_209 c4_i32_207
  let v404 : BitVec 32 := Scalar.remsi v401 v403
  let c0_i32_211 : BitVec 32 := 0#32
  let v406 : BitVec 1 := Scalar.cmpi .slt v404 c0_i32_211
  let c0_i32_212 : BitVec 32 := 0#32
  let v407 : BitVec 1 := Scalar.cmpi .slt v403 c0_i32_212
  let v408 : BitVec 1 := Scalar.xori v406 v407
  let c0_i32_210 : BitVec 32 := 0#32
  let v405 : BitVec 1 := Scalar.cmpi .ne v404 c0_i32_210
  let v409 : BitVec 1 := Scalar.andi v408 v405
  let v410 : BitVec 32 := Scalar.addi v404 v403
  let v411 : BitVec 32 := Scalar.select v409 v410 v404
  let v412 : BitVec 32 := Scalar.addi v400 v411
  let c1_i32_1907 : BitVec 32 := 1#32
  let v2624 : BitVec 32 := Scalar.muli v412 c1_i32_1907
  let v2625 : BitVec 32 := Scalar.addi c0_i32_1908 v2624
  v2625.toNat
def k0_dev81 (d0 : Dev nD) : Nat :=
  let c0_i32_1918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_214 : BitVec 32 := 0#32
  let v414 : BitVec 1 := Scalar.cmpi .sgt v2 c0_i32_214
  let v415 : BitVec 32 := Scalar.extui v414
  let c0_i32_215 : BitVec 32 := 0#32
  let v416 : BitVec 1 := Scalar.cmpi .slt v2 c0_i32_215
  let v417 : BitVec 32 := Scalar.extui v416
  let v418 : BitVec 32 := Scalar.subi v415 v417
  let c4_i32_213 : BitVec 32 := 4#32
  let c0_i32_216 : BitVec 32 := 0#32
  let v419 : BitVec 1 := Scalar.cmpi .sgt c4_i32_213 c0_i32_216
  let v420 : BitVec 32 := Scalar.extui v419
  let c0_i32_217 : BitVec 32 := 0#32
  let v421 : BitVec 1 := Scalar.cmpi .slt c4_i32_213 c0_i32_217
  let v422 : BitVec 32 := Scalar.extui v421
  let v423 : BitVec 32 := Scalar.subi v420 v422
  let v424 : BitVec 1 := Scalar.cmpi .ne v418 v423
  let v425 : BitVec 32 := Scalar.remsi v2 c4_i32_213
  let c0_i32_218 : BitVec 32 := 0#32
  let v426 : BitVec 1 := Scalar.cmpi .ne v425 c0_i32_218
  let v427 : BitVec 1 := Scalar.andi v424 v426
  let v413 : BitVec 32 := Scalar.divsi v2 c4_i32_213
  let c1_i32_219 : BitVec 32 := 1#32
  let v428 : BitVec 32 := Scalar.subi v413 c1_i32_219
  let v429 : BitVec 32 := Scalar.select v427 v428 v413
  let c3_i32_220 : BitVec 32 := 3#32
  let v430 : BitVec 32 := Scalar.addi v429 c3_i32_220
  let c8_i32_221 : BitVec 32 := 8#32
  let c0_i32_222 : BitVec 32 := 0#32
  let v431 : BitVec 1 := Scalar.cmpi .eq c8_i32_221 c0_i32_222
  let c1_i32_223 : BitVec 32 := 1#32
  let v432 : BitVec 32 := Scalar.select v431 c1_i32_223 c8_i32_221
  let v433 : BitVec 32 := Scalar.remsi v430 v432
  let c0_i32_225 : BitVec 32 := 0#32
  let v435 : BitVec 1 := Scalar.cmpi .slt v433 c0_i32_225
  let c0_i32_226 : BitVec 32 := 0#32
  let v436 : BitVec 1 := Scalar.cmpi .slt v432 c0_i32_226
  let v437 : BitVec 1 := Scalar.xori v435 v436
  let c0_i32_224 : BitVec 32 := 0#32
  let v434 : BitVec 1 := Scalar.cmpi .ne v433 c0_i32_224
  let v438 : BitVec 1 := Scalar.andi v437 v434
  let v439 : BitVec 32 := Scalar.addi v433 v432
  let v440 : BitVec 32 := Scalar.select v438 v439 v433
  let c4_i32_227 : BitVec 32 := 4#32
  let v441 : BitVec 32 := Scalar.muli v440 c4_i32_227
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_228 : BitVec 32 := 0#32
  let v442 : BitVec 32 := Scalar.addi v30 c0_i32_228
  let c4_i32_229 : BitVec 32 := 4#32
  let c0_i32_230 : BitVec 32 := 0#32
  let v443 : BitVec 1 := Scalar.cmpi .eq c4_i32_229 c0_i32_230
  let c1_i32_231 : BitVec 32 := 1#32
  let v444 : BitVec 32 := Scalar.select v443 c1_i32_231 c4_i32_229
  let v445 : BitVec 32 := Scalar.remsi v442 v444
  let c0_i32_233 : BitVec 32 := 0#32
  let v447 : BitVec 1 := Scalar.cmpi .slt v445 c0_i32_233
  let c0_i32_234 : BitVec 32 := 0#32
  let v448 : BitVec 1 := Scalar.cmpi .slt v444 c0_i32_234
  let v449 : BitVec 1 := Scalar.xori v447 v448
  let c0_i32_232 : BitVec 32 := 0#32
  let v446 : BitVec 1 := Scalar.cmpi .ne v445 c0_i32_232
  let v450 : BitVec 1 := Scalar.andi v449 v446
  let v451 : BitVec 32 := Scalar.addi v445 v444
  let v452 : BitVec 32 := Scalar.select v450 v451 v445
  let v453 : BitVec 32 := Scalar.addi v441 v452
  let c1_i32_1917 : BitVec 32 := 1#32
  let v2636 : BitVec 32 := Scalar.muli v453 c1_i32_1917
  let v2637 : BitVec 32 := Scalar.addi c0_i32_1918 v2636
  v2637.toNat
def k0_dev82 (d0 : Dev nD) : Nat :=
  let c0_i32_1928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_236 : BitVec 32 := 0#32
  let v455 : BitVec 1 := Scalar.cmpi .sgt v2 c0_i32_236
  let v456 : BitVec 32 := Scalar.extui v455
  let c0_i32_237 : BitVec 32 := 0#32
  let v457 : BitVec 1 := Scalar.cmpi .slt v2 c0_i32_237
  let v458 : BitVec 32 := Scalar.extui v457
  let v459 : BitVec 32 := Scalar.subi v456 v458
  let c4_i32_235 : BitVec 32 := 4#32
  let c0_i32_238 : BitVec 32 := 0#32
  let v460 : BitVec 1 := Scalar.cmpi .sgt c4_i32_235 c0_i32_238
  let v461 : BitVec 32 := Scalar.extui v460
  let c0_i32_239 : BitVec 32 := 0#32
  let v462 : BitVec 1 := Scalar.cmpi .slt c4_i32_235 c0_i32_239
  let v463 : BitVec 32 := Scalar.extui v462
  let v464 : BitVec 32 := Scalar.subi v461 v463
  let v465 : BitVec 1 := Scalar.cmpi .ne v459 v464
  let v466 : BitVec 32 := Scalar.remsi v2 c4_i32_235
  let c0_i32_240 : BitVec 32 := 0#32
  let v467 : BitVec 1 := Scalar.cmpi .ne v466 c0_i32_240
  let v468 : BitVec 1 := Scalar.andi v465 v467
  let v454 : BitVec 32 := Scalar.divsi v2 c4_i32_235
  let c1_i32_241 : BitVec 32 := 1#32
  let v469 : BitVec 32 := Scalar.subi v454 c1_i32_241
  let v470 : BitVec 32 := Scalar.select v468 v469 v454
  let c3_i32_242 : BitVec 32 := 3#32
  let v471 : BitVec 32 := Scalar.addi v470 c3_i32_242
  let c8_i32_243 : BitVec 32 := 8#32
  let c0_i32_244 : BitVec 32 := 0#32
  let v472 : BitVec 1 := Scalar.cmpi .eq c8_i32_243 c0_i32_244
  let c1_i32_245 : BitVec 32 := 1#32
  let v473 : BitVec 32 := Scalar.select v472 c1_i32_245 c8_i32_243
  let v474 : BitVec 32 := Scalar.remsi v471 v473
  let c0_i32_247 : BitVec 32 := 0#32
  let v476 : BitVec 1 := Scalar.cmpi .slt v474 c0_i32_247
  let c0_i32_248 : BitVec 32 := 0#32
  let v477 : BitVec 1 := Scalar.cmpi .slt v473 c0_i32_248
  let v478 : BitVec 1 := Scalar.xori v476 v477
  let c0_i32_246 : BitVec 32 := 0#32
  let v475 : BitVec 1 := Scalar.cmpi .ne v474 c0_i32_246
  let v479 : BitVec 1 := Scalar.andi v478 v475
  let v480 : BitVec 32 := Scalar.addi v474 v473
  let v481 : BitVec 32 := Scalar.select v479 v480 v474
  let c4_i32_249 : BitVec 32 := 4#32
  let v482 : BitVec 32 := Scalar.muli v481 c4_i32_249
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_250 : BitVec 32 := 1#32
  let v483 : BitVec 32 := Scalar.addi v30 c1_i32_250
  let c4_i32_251 : BitVec 32 := 4#32
  let c0_i32_252 : BitVec 32 := 0#32
  let v484 : BitVec 1 := Scalar.cmpi .eq c4_i32_251 c0_i32_252
  let c1_i32_253 : BitVec 32 := 1#32
  let v485 : BitVec 32 := Scalar.select v484 c1_i32_253 c4_i32_251
  let v486 : BitVec 32 := Scalar.remsi v483 v485
  let c0_i32_255 : BitVec 32 := 0#32
  let v488 : BitVec 1 := Scalar.cmpi .slt v486 c0_i32_255
  let c0_i32_256 : BitVec 32 := 0#32
  let v489 : BitVec 1 := Scalar.cmpi .slt v485 c0_i32_256
  let v490 : BitVec 1 := Scalar.xori v488 v489
  let c0_i32_254 : BitVec 32 := 0#32
  let v487 : BitVec 1 := Scalar.cmpi .ne v486 c0_i32_254
  let v491 : BitVec 1 := Scalar.andi v490 v487
  let v492 : BitVec 32 := Scalar.addi v486 v485
  let v493 : BitVec 32 := Scalar.select v491 v492 v486
  let v494 : BitVec 32 := Scalar.addi v482 v493
  let c1_i32_1927 : BitVec 32 := 1#32
  let v2648 : BitVec 32 := Scalar.muli v494 c1_i32_1927
  let v2649 : BitVec 32 := Scalar.addi c0_i32_1928 v2648
  v2649.toNat
def k0_dev83 (d0 : Dev nD) : Nat :=
  let c0_i32_1938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_258 : BitVec 32 := 0#32
  let v496 : BitVec 1 := Scalar.cmpi .sgt v2 c0_i32_258
  let v497 : BitVec 32 := Scalar.extui v496
  let c0_i32_259 : BitVec 32 := 0#32
  let v498 : BitVec 1 := Scalar.cmpi .slt v2 c0_i32_259
  let v499 : BitVec 32 := Scalar.extui v498
  let v500 : BitVec 32 := Scalar.subi v497 v499
  let c4_i32_257 : BitVec 32 := 4#32
  let c0_i32_260 : BitVec 32 := 0#32
  let v501 : BitVec 1 := Scalar.cmpi .sgt c4_i32_257 c0_i32_260
  let v502 : BitVec 32 := Scalar.extui v501
  let c0_i32_261 : BitVec 32 := 0#32
  let v503 : BitVec 1 := Scalar.cmpi .slt c4_i32_257 c0_i32_261
  let v504 : BitVec 32 := Scalar.extui v503
  let v505 : BitVec 32 := Scalar.subi v502 v504
  let v506 : BitVec 1 := Scalar.cmpi .ne v500 v505
  let v507 : BitVec 32 := Scalar.remsi v2 c4_i32_257
  let c0_i32_262 : BitVec 32 := 0#32
  let v508 : BitVec 1 := Scalar.cmpi .ne v507 c0_i32_262
  let v509 : BitVec 1 := Scalar.andi v506 v508
  let v495 : BitVec 32 := Scalar.divsi v2 c4_i32_257
  let c1_i32_263 : BitVec 32 := 1#32
  let v510 : BitVec 32 := Scalar.subi v495 c1_i32_263
  let v511 : BitVec 32 := Scalar.select v509 v510 v495
  let c3_i32_264 : BitVec 32 := 3#32
  let v512 : BitVec 32 := Scalar.addi v511 c3_i32_264
  let c8_i32_265 : BitVec 32 := 8#32
  let c0_i32_266 : BitVec 32 := 0#32
  let v513 : BitVec 1 := Scalar.cmpi .eq c8_i32_265 c0_i32_266
  let c1_i32_267 : BitVec 32 := 1#32
  let v514 : BitVec 32 := Scalar.select v513 c1_i32_267 c8_i32_265
  let v515 : BitVec 32 := Scalar.remsi v512 v514
  let c0_i32_269 : BitVec 32 := 0#32
  let v517 : BitVec 1 := Scalar.cmpi .slt v515 c0_i32_269
  let c0_i32_270 : BitVec 32 := 0#32
  let v518 : BitVec 1 := Scalar.cmpi .slt v514 c0_i32_270
  let v519 : BitVec 1 := Scalar.xori v517 v518
  let c0_i32_268 : BitVec 32 := 0#32
  let v516 : BitVec 1 := Scalar.cmpi .ne v515 c0_i32_268
  let v520 : BitVec 1 := Scalar.andi v519 v516
  let v521 : BitVec 32 := Scalar.addi v515 v514
  let v522 : BitVec 32 := Scalar.select v520 v521 v515
  let c4_i32_271 : BitVec 32 := 4#32
  let v523 : BitVec 32 := Scalar.muli v522 c4_i32_271
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_272 : BitVec 32 := 2#32
  let v524 : BitVec 32 := Scalar.addi v30 c2_i32_272
  let c4_i32_273 : BitVec 32 := 4#32
  let c0_i32_274 : BitVec 32 := 0#32
  let v525 : BitVec 1 := Scalar.cmpi .eq c4_i32_273 c0_i32_274
  let c1_i32_275 : BitVec 32 := 1#32
  let v526 : BitVec 32 := Scalar.select v525 c1_i32_275 c4_i32_273
  let v527 : BitVec 32 := Scalar.remsi v524 v526
  let c0_i32_277 : BitVec 32 := 0#32
  let v529 : BitVec 1 := Scalar.cmpi .slt v527 c0_i32_277
  let c0_i32_278 : BitVec 32 := 0#32
  let v530 : BitVec 1 := Scalar.cmpi .slt v526 c0_i32_278
  let v531 : BitVec 1 := Scalar.xori v529 v530
  let c0_i32_276 : BitVec 32 := 0#32
  let v528 : BitVec 1 := Scalar.cmpi .ne v527 c0_i32_276
  let v532 : BitVec 1 := Scalar.andi v531 v528
  let v533 : BitVec 32 := Scalar.addi v527 v526
  let v534 : BitVec 32 := Scalar.select v532 v533 v527
  let v535 : BitVec 32 := Scalar.addi v523 v534
  let c1_i32_1937 : BitVec 32 := 1#32
  let v2660 : BitVec 32 := Scalar.muli v535 c1_i32_1937
  let v2661 : BitVec 32 := Scalar.addi c0_i32_1938 v2660
  v2661.toNat
def k0_dev84 (d0 : Dev nD) : Nat :=
  let c0_i32_1948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_280 : BitVec 32 := 0#32
  let v537 : BitVec 1 := Scalar.cmpi .sgt v2 c0_i32_280
  let v538 : BitVec 32 := Scalar.extui v537
  let c0_i32_281 : BitVec 32 := 0#32
  let v539 : BitVec 1 := Scalar.cmpi .slt v2 c0_i32_281
  let v540 : BitVec 32 := Scalar.extui v539
  let v541 : BitVec 32 := Scalar.subi v538 v540
  let c4_i32_279 : BitVec 32 := 4#32
  let c0_i32_282 : BitVec 32 := 0#32
  let v542 : BitVec 1 := Scalar.cmpi .sgt c4_i32_279 c0_i32_282
  let v543 : BitVec 32 := Scalar.extui v542
  let c0_i32_283 : BitVec 32 := 0#32
  let v544 : BitVec 1 := Scalar.cmpi .slt c4_i32_279 c0_i32_283
  let v545 : BitVec 32 := Scalar.extui v544
  let v546 : BitVec 32 := Scalar.subi v543 v545
  let v547 : BitVec 1 := Scalar.cmpi .ne v541 v546
  let v548 : BitVec 32 := Scalar.remsi v2 c4_i32_279
  let c0_i32_284 : BitVec 32 := 0#32
  let v549 : BitVec 1 := Scalar.cmpi .ne v548 c0_i32_284
  let v550 : BitVec 1 := Scalar.andi v547 v549
  let v536 : BitVec 32 := Scalar.divsi v2 c4_i32_279
  let c1_i32_285 : BitVec 32 := 1#32
  let v551 : BitVec 32 := Scalar.subi v536 c1_i32_285
  let v552 : BitVec 32 := Scalar.select v550 v551 v536
  let c3_i32_286 : BitVec 32 := 3#32
  let v553 : BitVec 32 := Scalar.addi v552 c3_i32_286
  let c8_i32_287 : BitVec 32 := 8#32
  let c0_i32_288 : BitVec 32 := 0#32
  let v554 : BitVec 1 := Scalar.cmpi .eq c8_i32_287 c0_i32_288
  let c1_i32_289 : BitVec 32 := 1#32
  let v555 : BitVec 32 := Scalar.select v554 c1_i32_289 c8_i32_287
  let v556 : BitVec 32 := Scalar.remsi v553 v555
  let c0_i32_291 : BitVec 32 := 0#32
  let v558 : BitVec 1 := Scalar.cmpi .slt v556 c0_i32_291
  let c0_i32_292 : BitVec 32 := 0#32
  let v559 : BitVec 1 := Scalar.cmpi .slt v555 c0_i32_292
  let v560 : BitVec 1 := Scalar.xori v558 v559
  let c0_i32_290 : BitVec 32 := 0#32
  let v557 : BitVec 1 := Scalar.cmpi .ne v556 c0_i32_290
  let v561 : BitVec 1 := Scalar.andi v560 v557
  let v562 : BitVec 32 := Scalar.addi v556 v555
  let v563 : BitVec 32 := Scalar.select v561 v562 v556
  let c4_i32_293 : BitVec 32 := 4#32
  let v564 : BitVec 32 := Scalar.muli v563 c4_i32_293
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_294 : BitVec 32 := 3#32
  let v565 : BitVec 32 := Scalar.addi v30 c3_i32_294
  let c4_i32_295 : BitVec 32 := 4#32
  let c0_i32_296 : BitVec 32 := 0#32
  let v566 : BitVec 1 := Scalar.cmpi .eq c4_i32_295 c0_i32_296
  let c1_i32_297 : BitVec 32 := 1#32
  let v567 : BitVec 32 := Scalar.select v566 c1_i32_297 c4_i32_295
  let v568 : BitVec 32 := Scalar.remsi v565 v567
  let c0_i32_299 : BitVec 32 := 0#32
  let v570 : BitVec 1 := Scalar.cmpi .slt v568 c0_i32_299
  let c0_i32_300 : BitVec 32 := 0#32
  let v571 : BitVec 1 := Scalar.cmpi .slt v567 c0_i32_300
  let v572 : BitVec 1 := Scalar.xori v570 v571
  let c0_i32_298 : BitVec 32 := 0#32
  let v569 : BitVec 1 := Scalar.cmpi .ne v568 c0_i32_298
  let v573 : BitVec 1 := Scalar.andi v572 v569
  let v574 : BitVec 32 := Scalar.addi v568 v567
  let v575 : BitVec 32 := Scalar.select v573 v574 v568
  let v576 : BitVec 32 := Scalar.addi v564 v575
  let c1_i32_1947 : BitVec 32 := 1#32
  let v2672 : BitVec 32 := Scalar.muli v576 c1_i32_1947
  let v2673 : BitVec 32 := Scalar.addi c0_i32_1948 v2672
  v2673.toNat
def k0_dev85 (d0 : Dev nD) : Nat :=
  let c0_i32_1958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_302 : BitVec 32 := 0#32
  let v578 : BitVec 1 := Scalar.cmpi .sgt v2 c0_i32_302
  let v579 : BitVec 32 := Scalar.extui v578
  let c0_i32_303 : BitVec 32 := 0#32
  let v580 : BitVec 1 := Scalar.cmpi .slt v2 c0_i32_303
  let v581 : BitVec 32 := Scalar.extui v580
  let v582 : BitVec 32 := Scalar.subi v579 v581
  let c4_i32_301 : BitVec 32 := 4#32
  let c0_i32_304 : BitVec 32 := 0#32
  let v583 : BitVec 1 := Scalar.cmpi .sgt c4_i32_301 c0_i32_304
  let v584 : BitVec 32 := Scalar.extui v583
  let c0_i32_305 : BitVec 32 := 0#32
  let v585 : BitVec 1 := Scalar.cmpi .slt c4_i32_301 c0_i32_305
  let v586 : BitVec 32 := Scalar.extui v585
  let v587 : BitVec 32 := Scalar.subi v584 v586
  let v588 : BitVec 1 := Scalar.cmpi .ne v582 v587
  let v589 : BitVec 32 := Scalar.remsi v2 c4_i32_301
  let c0_i32_306 : BitVec 32 := 0#32
  let v590 : BitVec 1 := Scalar.cmpi .ne v589 c0_i32_306
  let v591 : BitVec 1 := Scalar.andi v588 v590
  let v577 : BitVec 32 := Scalar.divsi v2 c4_i32_301
  let c1_i32_307 : BitVec 32 := 1#32
  let v592 : BitVec 32 := Scalar.subi v577 c1_i32_307
  let v593 : BitVec 32 := Scalar.select v591 v592 v577
  let c4_i32_308 : BitVec 32 := 4#32
  let v594 : BitVec 32 := Scalar.addi v593 c4_i32_308
  let c8_i32_309 : BitVec 32 := 8#32
  let c0_i32_310 : BitVec 32 := 0#32
  let v595 : BitVec 1 := Scalar.cmpi .eq c8_i32_309 c0_i32_310
  let c1_i32_311 : BitVec 32 := 1#32
  let v596 : BitVec 32 := Scalar.select v595 c1_i32_311 c8_i32_309
  let v597 : BitVec 32 := Scalar.remsi v594 v596
  let c0_i32_313 : BitVec 32 := 0#32
  let v599 : BitVec 1 := Scalar.cmpi .slt v597 c0_i32_313
  let c0_i32_314 : BitVec 32 := 0#32
  let v600 : BitVec 1 := Scalar.cmpi .slt v596 c0_i32_314
  let v601 : BitVec 1 := Scalar.xori v599 v600
  let c0_i32_312 : BitVec 32 := 0#32
  let v598 : BitVec 1 := Scalar.cmpi .ne v597 c0_i32_312
  let v602 : BitVec 1 := Scalar.andi v601 v598
  let v603 : BitVec 32 := Scalar.addi v597 v596
  let v604 : BitVec 32 := Scalar.select v602 v603 v597
  let c4_i32_315 : BitVec 32 := 4#32
  let v605 : BitVec 32 := Scalar.muli v604 c4_i32_315
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_316 : BitVec 32 := 0#32
  let v606 : BitVec 32 := Scalar.addi v30 c0_i32_316
  let c4_i32_317 : BitVec 32 := 4#32
  let c0_i32_318 : BitVec 32 := 0#32
  let v607 : BitVec 1 := Scalar.cmpi .eq c4_i32_317 c0_i32_318
  let c1_i32_319 : BitVec 32 := 1#32
  let v608 : BitVec 32 := Scalar.select v607 c1_i32_319 c4_i32_317
  let v609 : BitVec 32 := Scalar.remsi v606 v608
  let c0_i32_321 : BitVec 32 := 0#32
  let v611 : BitVec 1 := Scalar.cmpi .slt v609 c0_i32_321
  let c0_i32_322 : BitVec 32 := 0#32
  let v612 : BitVec 1 := Scalar.cmpi .slt v608 c0_i32_322
  let v613 : BitVec 1 := Scalar.xori v611 v612
  let c0_i32_320 : BitVec 32 := 0#32
  let v610 : BitVec 1 := Scalar.cmpi .ne v609 c0_i32_320
  let v614 : BitVec 1 := Scalar.andi v613 v610
  let v615 : BitVec 32 := Scalar.addi v609 v608
  let v616 : BitVec 32 := Scalar.select v614 v615 v609
  let v617 : BitVec 32 := Scalar.addi v605 v616
  let c1_i32_1957 : BitVec 32 := 1#32
  let v2684 : BitVec 32 := Scalar.muli v617 c1_i32_1957
  let v2685 : BitVec 32 := Scalar.addi c0_i32_1958 v2684
  v2685.toNat
def k0_dev86 (d0 : Dev nD) : Nat :=
  let c0_i32_1968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_324 : BitVec 32 := 0#32
  let v619 : BitVec 1 := Scalar.cmpi .sgt v2 c0_i32_324
  let v620 : BitVec 32 := Scalar.extui v619
  let c0_i32_325 : BitVec 32 := 0#32
  let v621 : BitVec 1 := Scalar.cmpi .slt v2 c0_i32_325
  let v622 : BitVec 32 := Scalar.extui v621
  let v623 : BitVec 32 := Scalar.subi v620 v622
  let c4_i32_323 : BitVec 32 := 4#32
  let c0_i32_326 : BitVec 32 := 0#32
  let v624 : BitVec 1 := Scalar.cmpi .sgt c4_i32_323 c0_i32_326
  let v625 : BitVec 32 := Scalar.extui v624
  let c0_i32_327 : BitVec 32 := 0#32
  let v626 : BitVec 1 := Scalar.cmpi .slt c4_i32_323 c0_i32_327
  let v627 : BitVec 32 := Scalar.extui v626
  let v628 : BitVec 32 := Scalar.subi v625 v627
  let v629 : BitVec 1 := Scalar.cmpi .ne v623 v628
  let v630 : BitVec 32 := Scalar.remsi v2 c4_i32_323
  let c0_i32_328 : BitVec 32 := 0#32
  let v631 : BitVec 1 := Scalar.cmpi .ne v630 c0_i32_328
  let v632 : BitVec 1 := Scalar.andi v629 v631
  let v618 : BitVec 32 := Scalar.divsi v2 c4_i32_323
  let c1_i32_329 : BitVec 32 := 1#32
  let v633 : BitVec 32 := Scalar.subi v618 c1_i32_329
  let v634 : BitVec 32 := Scalar.select v632 v633 v618
  let c4_i32_330 : BitVec 32 := 4#32
  let v635 : BitVec 32 := Scalar.addi v634 c4_i32_330
  let c8_i32_331 : BitVec 32 := 8#32
  let c0_i32_332 : BitVec 32 := 0#32
  let v636 : BitVec 1 := Scalar.cmpi .eq c8_i32_331 c0_i32_332
  let c1_i32_333 : BitVec 32 := 1#32
  let v637 : BitVec 32 := Scalar.select v636 c1_i32_333 c8_i32_331
  let v638 : BitVec 32 := Scalar.remsi v635 v637
  let c0_i32_335 : BitVec 32 := 0#32
  let v640 : BitVec 1 := Scalar.cmpi .slt v638 c0_i32_335
  let c0_i32_336 : BitVec 32 := 0#32
  let v641 : BitVec 1 := Scalar.cmpi .slt v637 c0_i32_336
  let v642 : BitVec 1 := Scalar.xori v640 v641
  let c0_i32_334 : BitVec 32 := 0#32
  let v639 : BitVec 1 := Scalar.cmpi .ne v638 c0_i32_334
  let v643 : BitVec 1 := Scalar.andi v642 v639
  let v644 : BitVec 32 := Scalar.addi v638 v637
  let v645 : BitVec 32 := Scalar.select v643 v644 v638
  let c4_i32_337 : BitVec 32 := 4#32
  let v646 : BitVec 32 := Scalar.muli v645 c4_i32_337
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_338 : BitVec 32 := 1#32
  let v647 : BitVec 32 := Scalar.addi v30 c1_i32_338
  let c4_i32_339 : BitVec 32 := 4#32
  let c0_i32_340 : BitVec 32 := 0#32
  let v648 : BitVec 1 := Scalar.cmpi .eq c4_i32_339 c0_i32_340
  let c1_i32_341 : BitVec 32 := 1#32
  let v649 : BitVec 32 := Scalar.select v648 c1_i32_341 c4_i32_339
  let v650 : BitVec 32 := Scalar.remsi v647 v649
  let c0_i32_343 : BitVec 32 := 0#32
  let v652 : BitVec 1 := Scalar.cmpi .slt v650 c0_i32_343
  let c0_i32_344 : BitVec 32 := 0#32
  let v653 : BitVec 1 := Scalar.cmpi .slt v649 c0_i32_344
  let v654 : BitVec 1 := Scalar.xori v652 v653
  let c0_i32_342 : BitVec 32 := 0#32
  let v651 : BitVec 1 := Scalar.cmpi .ne v650 c0_i32_342
  let v655 : BitVec 1 := Scalar.andi v654 v651
  let v656 : BitVec 32 := Scalar.addi v650 v649
  let v657 : BitVec 32 := Scalar.select v655 v656 v650
  let v658 : BitVec 32 := Scalar.addi v646 v657
  let c1_i32_1967 : BitVec 32 := 1#32
  let v2696 : BitVec 32 := Scalar.muli v658 c1_i32_1967
  let v2697 : BitVec 32 := Scalar.addi c0_i32_1968 v2696
  v2697.toNat
def k0_dev87 (d0 : Dev nD) : Nat :=
  let c0_i32_1978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_346 : BitVec 32 := 0#32
  let v660 : BitVec 1 := Scalar.cmpi .sgt v2 c0_i32_346
  let v661 : BitVec 32 := Scalar.extui v660
  let c0_i32_347 : BitVec 32 := 0#32
  let v662 : BitVec 1 := Scalar.cmpi .slt v2 c0_i32_347
  let v663 : BitVec 32 := Scalar.extui v662
  let v664 : BitVec 32 := Scalar.subi v661 v663
  let c4_i32_345 : BitVec 32 := 4#32
  let c0_i32_348 : BitVec 32 := 0#32
  let v665 : BitVec 1 := Scalar.cmpi .sgt c4_i32_345 c0_i32_348
  let v666 : BitVec 32 := Scalar.extui v665
  let c0_i32_349 : BitVec 32 := 0#32
  let v667 : BitVec 1 := Scalar.cmpi .slt c4_i32_345 c0_i32_349
  let v668 : BitVec 32 := Scalar.extui v667
  let v669 : BitVec 32 := Scalar.subi v666 v668
  let v670 : BitVec 1 := Scalar.cmpi .ne v664 v669
  let v671 : BitVec 32 := Scalar.remsi v2 c4_i32_345
  let c0_i32_350 : BitVec 32 := 0#32
  let v672 : BitVec 1 := Scalar.cmpi .ne v671 c0_i32_350
  let v673 : BitVec 1 := Scalar.andi v670 v672
  let v659 : BitVec 32 := Scalar.divsi v2 c4_i32_345
  let c1_i32_351 : BitVec 32 := 1#32
  let v674 : BitVec 32 := Scalar.subi v659 c1_i32_351
  let v675 : BitVec 32 := Scalar.select v673 v674 v659
  let c4_i32_352 : BitVec 32 := 4#32
  let v676 : BitVec 32 := Scalar.addi v675 c4_i32_352
  let c8_i32_353 : BitVec 32 := 8#32
  let c0_i32_354 : BitVec 32 := 0#32
  let v677 : BitVec 1 := Scalar.cmpi .eq c8_i32_353 c0_i32_354
  let c1_i32_355 : BitVec 32 := 1#32
  let v678 : BitVec 32 := Scalar.select v677 c1_i32_355 c8_i32_353
  let v679 : BitVec 32 := Scalar.remsi v676 v678
  let c0_i32_357 : BitVec 32 := 0#32
  let v681 : BitVec 1 := Scalar.cmpi .slt v679 c0_i32_357
  let c0_i32_358 : BitVec 32 := 0#32
  let v682 : BitVec 1 := Scalar.cmpi .slt v678 c0_i32_358
  let v683 : BitVec 1 := Scalar.xori v681 v682
  let c0_i32_356 : BitVec 32 := 0#32
  let v680 : BitVec 1 := Scalar.cmpi .ne v679 c0_i32_356
  let v684 : BitVec 1 := Scalar.andi v683 v680
  let v685 : BitVec 32 := Scalar.addi v679 v678
  let v686 : BitVec 32 := Scalar.select v684 v685 v679
  let c4_i32_359 : BitVec 32 := 4#32
  let v687 : BitVec 32 := Scalar.muli v686 c4_i32_359
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_360 : BitVec 32 := 2#32
  let v688 : BitVec 32 := Scalar.addi v30 c2_i32_360
  let c4_i32_361 : BitVec 32 := 4#32
  let c0_i32_362 : BitVec 32 := 0#32
  let v689 : BitVec 1 := Scalar.cmpi .eq c4_i32_361 c0_i32_362
  let c1_i32_363 : BitVec 32 := 1#32
  let v690 : BitVec 32 := Scalar.select v689 c1_i32_363 c4_i32_361
  let v691 : BitVec 32 := Scalar.remsi v688 v690
  let c0_i32_365 : BitVec 32 := 0#32
  let v693 : BitVec 1 := Scalar.cmpi .slt v691 c0_i32_365
  let c0_i32_366 : BitVec 32 := 0#32
  let v694 : BitVec 1 := Scalar.cmpi .slt v690 c0_i32_366
  let v695 : BitVec 1 := Scalar.xori v693 v694
  let c0_i32_364 : BitVec 32 := 0#32
  let v692 : BitVec 1 := Scalar.cmpi .ne v691 c0_i32_364
  let v696 : BitVec 1 := Scalar.andi v695 v692
  let v697 : BitVec 32 := Scalar.addi v691 v690
  let v698 : BitVec 32 := Scalar.select v696 v697 v691
  let v699 : BitVec 32 := Scalar.addi v687 v698
  let c1_i32_1977 : BitVec 32 := 1#32
  let v2708 : BitVec 32 := Scalar.muli v699 c1_i32_1977
  let v2709 : BitVec 32 := Scalar.addi c0_i32_1978 v2708
  v2709.toNat
def k0_dev88 (d0 : Dev nD) : Nat :=
  let c0_i32_1988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_368 : BitVec 32 := 0#32
  let v701 : BitVec 1 := Scalar.cmpi .sgt v2 c0_i32_368
  let v702 : BitVec 32 := Scalar.extui v701
  let c0_i32_369 : BitVec 32 := 0#32
  let v703 : BitVec 1 := Scalar.cmpi .slt v2 c0_i32_369
  let v704 : BitVec 32 := Scalar.extui v703
  let v705 : BitVec 32 := Scalar.subi v702 v704
  let c4_i32_367 : BitVec 32 := 4#32
  let c0_i32_370 : BitVec 32 := 0#32
  let v706 : BitVec 1 := Scalar.cmpi .sgt c4_i32_367 c0_i32_370
  let v707 : BitVec 32 := Scalar.extui v706
  let c0_i32_371 : BitVec 32 := 0#32
  let v708 : BitVec 1 := Scalar.cmpi .slt c4_i32_367 c0_i32_371
  let v709 : BitVec 32 := Scalar.extui v708
  let v710 : BitVec 32 := Scalar.subi v707 v709
  let v711 : BitVec 1 := Scalar.cmpi .ne v705 v710
  let v712 : BitVec 32 := Scalar.remsi v2 c4_i32_367
  let c0_i32_372 : BitVec 32 := 0#32
  let v713 : BitVec 1 := Scalar.cmpi .ne v712 c0_i32_372
  let v714 : BitVec 1 := Scalar.andi v711 v713
  let v700 : BitVec 32 := Scalar.divsi v2 c4_i32_367
  let c1_i32_373 : BitVec 32 := 1#32
  let v715 : BitVec 32 := Scalar.subi v700 c1_i32_373
  let v716 : BitVec 32 := Scalar.select v714 v715 v700
  let c4_i32_374 : BitVec 32 := 4#32
  let v717 : BitVec 32 := Scalar.addi v716 c4_i32_374
  let c8_i32_375 : BitVec 32 := 8#32
  let c0_i32_376 : BitVec 32 := 0#32
  let v718 : BitVec 1 := Scalar.cmpi .eq c8_i32_375 c0_i32_376
  let c1_i32_377 : BitVec 32 := 1#32
  let v719 : BitVec 32 := Scalar.select v718 c1_i32_377 c8_i32_375
  let v720 : BitVec 32 := Scalar.remsi v717 v719
  let c0_i32_379 : BitVec 32 := 0#32
  let v722 : BitVec 1 := Scalar.cmpi .slt v720 c0_i32_379
  let c0_i32_380 : BitVec 32 := 0#32
  let v723 : BitVec 1 := Scalar.cmpi .slt v719 c0_i32_380
  let v724 : BitVec 1 := Scalar.xori v722 v723
  let c0_i32_378 : BitVec 32 := 0#32
  let v721 : BitVec 1 := Scalar.cmpi .ne v720 c0_i32_378
  let v725 : BitVec 1 := Scalar.andi v724 v721
  let v726 : BitVec 32 := Scalar.addi v720 v719
  let v727 : BitVec 32 := Scalar.select v725 v726 v720
  let c4_i32_381 : BitVec 32 := 4#32
  let v728 : BitVec 32 := Scalar.muli v727 c4_i32_381
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_382 : BitVec 32 := 3#32
  let v729 : BitVec 32 := Scalar.addi v30 c3_i32_382
  let c4_i32_383 : BitVec 32 := 4#32
  let c0_i32_384 : BitVec 32 := 0#32
  let v730 : BitVec 1 := Scalar.cmpi .eq c4_i32_383 c0_i32_384
  let c1_i32_385 : BitVec 32 := 1#32
  let v731 : BitVec 32 := Scalar.select v730 c1_i32_385 c4_i32_383
  let v732 : BitVec 32 := Scalar.remsi v729 v731
  let c0_i32_387 : BitVec 32 := 0#32
  let v734 : BitVec 1 := Scalar.cmpi .slt v732 c0_i32_387
  let c0_i32_388 : BitVec 32 := 0#32
  let v735 : BitVec 1 := Scalar.cmpi .slt v731 c0_i32_388
  let v736 : BitVec 1 := Scalar.xori v734 v735
  let c0_i32_386 : BitVec 32 := 0#32
  let v733 : BitVec 1 := Scalar.cmpi .ne v732 c0_i32_386
  let v737 : BitVec 1 := Scalar.andi v736 v733
  let v738 : BitVec 32 := Scalar.addi v732 v731
  let v739 : BitVec 32 := Scalar.select v737 v738 v732
  let v740 : BitVec 32 := Scalar.addi v728 v739
  let c1_i32_1987 : BitVec 32 := 1#32
  let v2720 : BitVec 32 := Scalar.muli v740 c1_i32_1987
  let v2721 : BitVec 32 := Scalar.addi c0_i32_1988 v2720
  v2721.toNat
def k0_dev89 (d0 : Dev nD) : Nat :=
  let c0_i32_1998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_390 : BitVec 32 := 0#32
  let v742 : BitVec 1 := Scalar.cmpi .sgt v2 c0_i32_390
  let v743 : BitVec 32 := Scalar.extui v742
  let c0_i32_391 : BitVec 32 := 0#32
  let v744 : BitVec 1 := Scalar.cmpi .slt v2 c0_i32_391
  let v745 : BitVec 32 := Scalar.extui v744
  let v746 : BitVec 32 := Scalar.subi v743 v745
  let c4_i32_389 : BitVec 32 := 4#32
  let c0_i32_392 : BitVec 32 := 0#32
  let v747 : BitVec 1 := Scalar.cmpi .sgt c4_i32_389 c0_i32_392
  let v748 : BitVec 32 := Scalar.extui v747
  let c0_i32_393 : BitVec 32 := 0#32
  let v749 : BitVec 1 := Scalar.cmpi .slt c4_i32_389 c0_i32_393
  let v750 : BitVec 32 := Scalar.extui v749
  let v751 : BitVec 32 := Scalar.subi v748 v750
  let v752 : BitVec 1 := Scalar.cmpi .ne v746 v751
  let v753 : BitVec 32 := Scalar.remsi v2 c4_i32_389
  let c0_i32_394 : BitVec 32 := 0#32
  let v754 : BitVec 1 := Scalar.cmpi .ne v753 c0_i32_394
  let v755 : BitVec 1 := Scalar.andi v752 v754
  let v741 : BitVec 32 := Scalar.divsi v2 c4_i32_389
  let c1_i32_395 : BitVec 32 := 1#32
  let v756 : BitVec 32 := Scalar.subi v741 c1_i32_395
  let v757 : BitVec 32 := Scalar.select v755 v756 v741
  let c5_i32 : BitVec 32 := 5#32
  let v758 : BitVec 32 := Scalar.addi v757 c5_i32
  let c8_i32_396 : BitVec 32 := 8#32
  let c0_i32_397 : BitVec 32 := 0#32
  let v759 : BitVec 1 := Scalar.cmpi .eq c8_i32_396 c0_i32_397
  let c1_i32_398 : BitVec 32 := 1#32
  let v760 : BitVec 32 := Scalar.select v759 c1_i32_398 c8_i32_396
  let v761 : BitVec 32 := Scalar.remsi v758 v760
  let c0_i32_400 : BitVec 32 := 0#32
  let v763 : BitVec 1 := Scalar.cmpi .slt v761 c0_i32_400
  let c0_i32_401 : BitVec 32 := 0#32
  let v764 : BitVec 1 := Scalar.cmpi .slt v760 c0_i32_401
  let v765 : BitVec 1 := Scalar.xori v763 v764
  let c0_i32_399 : BitVec 32 := 0#32
  let v762 : BitVec 1 := Scalar.cmpi .ne v761 c0_i32_399
  let v766 : BitVec 1 := Scalar.andi v765 v762
  let v767 : BitVec 32 := Scalar.addi v761 v760
  let v768 : BitVec 32 := Scalar.select v766 v767 v761
  let c4_i32_402 : BitVec 32 := 4#32
  let v769 : BitVec 32 := Scalar.muli v768 c4_i32_402
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_403 : BitVec 32 := 0#32
  let v770 : BitVec 32 := Scalar.addi v30 c0_i32_403
  let c4_i32_404 : BitVec 32 := 4#32
  let c0_i32_405 : BitVec 32 := 0#32
  let v771 : BitVec 1 := Scalar.cmpi .eq c4_i32_404 c0_i32_405
  let c1_i32_406 : BitVec 32 := 1#32
  let v772 : BitVec 32 := Scalar.select v771 c1_i32_406 c4_i32_404
  let v773 : BitVec 32 := Scalar.remsi v770 v772
  let c0_i32_408 : BitVec 32 := 0#32
  let v775 : BitVec 1 := Scalar.cmpi .slt v773 c0_i32_408
  let c0_i32_409 : BitVec 32 := 0#32
  let v776 : BitVec 1 := Scalar.cmpi .slt v772 c0_i32_409
  let v777 : BitVec 1 := Scalar.xori v775 v776
  let c0_i32_407 : BitVec 32 := 0#32
  let v774 : BitVec 1 := Scalar.cmpi .ne v773 c0_i32_407
  let v778 : BitVec 1 := Scalar.andi v777 v774
  let v779 : BitVec 32 := Scalar.addi v773 v772
  let v780 : BitVec 32 := Scalar.select v778 v779 v773
  let v781 : BitVec 32 := Scalar.addi v769 v780
  let c1_i32_1997 : BitVec 32 := 1#32
  let v2732 : BitVec 32 := Scalar.muli v781 c1_i32_1997
  let v2733 : BitVec 32 := Scalar.addi c0_i32_1998 v2732
  v2733.toNat
def k0_dev90 (d0 : Dev nD) : Nat :=
  let c0_i32_2008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_411 : BitVec 32 := 0#32
  let v783 : BitVec 1 := Scalar.cmpi .sgt v2 c0_i32_411
  let v784 : BitVec 32 := Scalar.extui v783
  let c0_i32_412 : BitVec 32 := 0#32
  let v785 : BitVec 1 := Scalar.cmpi .slt v2 c0_i32_412
  let v786 : BitVec 32 := Scalar.extui v785
  let v787 : BitVec 32 := Scalar.subi v784 v786
  let c4_i32_410 : BitVec 32 := 4#32
  let c0_i32_413 : BitVec 32 := 0#32
  let v788 : BitVec 1 := Scalar.cmpi .sgt c4_i32_410 c0_i32_413
  let v789 : BitVec 32 := Scalar.extui v788
  let c0_i32_414 : BitVec 32 := 0#32
  let v790 : BitVec 1 := Scalar.cmpi .slt c4_i32_410 c0_i32_414
  let v791 : BitVec 32 := Scalar.extui v790
  let v792 : BitVec 32 := Scalar.subi v789 v791
  let v793 : BitVec 1 := Scalar.cmpi .ne v787 v792
  let v794 : BitVec 32 := Scalar.remsi v2 c4_i32_410
  let c0_i32_415 : BitVec 32 := 0#32
  let v795 : BitVec 1 := Scalar.cmpi .ne v794 c0_i32_415
  let v796 : BitVec 1 := Scalar.andi v793 v795
  let v782 : BitVec 32 := Scalar.divsi v2 c4_i32_410
  let c1_i32_416 : BitVec 32 := 1#32
  let v797 : BitVec 32 := Scalar.subi v782 c1_i32_416
  let v798 : BitVec 32 := Scalar.select v796 v797 v782
  let c5_i32_417 : BitVec 32 := 5#32
  let v799 : BitVec 32 := Scalar.addi v798 c5_i32_417
  let c8_i32_418 : BitVec 32 := 8#32
  let c0_i32_419 : BitVec 32 := 0#32
  let v800 : BitVec 1 := Scalar.cmpi .eq c8_i32_418 c0_i32_419
  let c1_i32_420 : BitVec 32 := 1#32
  let v801 : BitVec 32 := Scalar.select v800 c1_i32_420 c8_i32_418
  let v802 : BitVec 32 := Scalar.remsi v799 v801
  let c0_i32_422 : BitVec 32 := 0#32
  let v804 : BitVec 1 := Scalar.cmpi .slt v802 c0_i32_422
  let c0_i32_423 : BitVec 32 := 0#32
  let v805 : BitVec 1 := Scalar.cmpi .slt v801 c0_i32_423
  let v806 : BitVec 1 := Scalar.xori v804 v805
  let c0_i32_421 : BitVec 32 := 0#32
  let v803 : BitVec 1 := Scalar.cmpi .ne v802 c0_i32_421
  let v807 : BitVec 1 := Scalar.andi v806 v803
  let v808 : BitVec 32 := Scalar.addi v802 v801
  let v809 : BitVec 32 := Scalar.select v807 v808 v802
  let c4_i32_424 : BitVec 32 := 4#32
  let v810 : BitVec 32 := Scalar.muli v809 c4_i32_424
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_425 : BitVec 32 := 1#32
  let v811 : BitVec 32 := Scalar.addi v30 c1_i32_425
  let c4_i32_426 : BitVec 32 := 4#32
  let c0_i32_427 : BitVec 32 := 0#32
  let v812 : BitVec 1 := Scalar.cmpi .eq c4_i32_426 c0_i32_427
  let c1_i32_428 : BitVec 32 := 1#32
  let v813 : BitVec 32 := Scalar.select v812 c1_i32_428 c4_i32_426
  let v814 : BitVec 32 := Scalar.remsi v811 v813
  let c0_i32_430 : BitVec 32 := 0#32
  let v816 : BitVec 1 := Scalar.cmpi .slt v814 c0_i32_430
  let c0_i32_431 : BitVec 32 := 0#32
  let v817 : BitVec 1 := Scalar.cmpi .slt v813 c0_i32_431
  let v818 : BitVec 1 := Scalar.xori v816 v817
  let c0_i32_429 : BitVec 32 := 0#32
  let v815 : BitVec 1 := Scalar.cmpi .ne v814 c0_i32_429
  let v819 : BitVec 1 := Scalar.andi v818 v815
  let v820 : BitVec 32 := Scalar.addi v814 v813
  let v821 : BitVec 32 := Scalar.select v819 v820 v814
  let v822 : BitVec 32 := Scalar.addi v810 v821
  let c1_i32_2007 : BitVec 32 := 1#32
  let v2744 : BitVec 32 := Scalar.muli v822 c1_i32_2007
  let v2745 : BitVec 32 := Scalar.addi c0_i32_2008 v2744
  v2745.toNat
def k0_dev91 (d0 : Dev nD) : Nat :=
  let c0_i32_2018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let v824 : BitVec 1 := Scalar.cmpi .sgt v2 c0_i32_433
  let v825 : BitVec 32 := Scalar.extui v824
  let c0_i32_434 : BitVec 32 := 0#32
  let v826 : BitVec 1 := Scalar.cmpi .slt v2 c0_i32_434
  let v827 : BitVec 32 := Scalar.extui v826
  let v828 : BitVec 32 := Scalar.subi v825 v827
  let c4_i32_432 : BitVec 32 := 4#32
  let c0_i32_435 : BitVec 32 := 0#32
  let v829 : BitVec 1 := Scalar.cmpi .sgt c4_i32_432 c0_i32_435
  let v830 : BitVec 32 := Scalar.extui v829
  let c0_i32_436 : BitVec 32 := 0#32
  let v831 : BitVec 1 := Scalar.cmpi .slt c4_i32_432 c0_i32_436
  let v832 : BitVec 32 := Scalar.extui v831
  let v833 : BitVec 32 := Scalar.subi v830 v832
  let v834 : BitVec 1 := Scalar.cmpi .ne v828 v833
  let v835 : BitVec 32 := Scalar.remsi v2 c4_i32_432
  let c0_i32_437 : BitVec 32 := 0#32
  let v836 : BitVec 1 := Scalar.cmpi .ne v835 c0_i32_437
  let v837 : BitVec 1 := Scalar.andi v834 v836
  let v823 : BitVec 32 := Scalar.divsi v2 c4_i32_432
  let c1_i32_438 : BitVec 32 := 1#32
  let v838 : BitVec 32 := Scalar.subi v823 c1_i32_438
  let v839 : BitVec 32 := Scalar.select v837 v838 v823
  let c5_i32_439 : BitVec 32 := 5#32
  let v840 : BitVec 32 := Scalar.addi v839 c5_i32_439
  let c8_i32_440 : BitVec 32 := 8#32
  let c0_i32_441 : BitVec 32 := 0#32
  let v841 : BitVec 1 := Scalar.cmpi .eq c8_i32_440 c0_i32_441
  let c1_i32_442 : BitVec 32 := 1#32
  let v842 : BitVec 32 := Scalar.select v841 c1_i32_442 c8_i32_440
  let v843 : BitVec 32 := Scalar.remsi v840 v842
  let c0_i32_444 : BitVec 32 := 0#32
  let v845 : BitVec 1 := Scalar.cmpi .slt v843 c0_i32_444
  let c0_i32_445 : BitVec 32 := 0#32
  let v846 : BitVec 1 := Scalar.cmpi .slt v842 c0_i32_445
  let v847 : BitVec 1 := Scalar.xori v845 v846
  let c0_i32_443 : BitVec 32 := 0#32
  let v844 : BitVec 1 := Scalar.cmpi .ne v843 c0_i32_443
  let v848 : BitVec 1 := Scalar.andi v847 v844
  let v849 : BitVec 32 := Scalar.addi v843 v842
  let v850 : BitVec 32 := Scalar.select v848 v849 v843
  let c4_i32_446 : BitVec 32 := 4#32
  let v851 : BitVec 32 := Scalar.muli v850 c4_i32_446
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_447 : BitVec 32 := 2#32
  let v852 : BitVec 32 := Scalar.addi v30 c2_i32_447
  let c4_i32_448 : BitVec 32 := 4#32
  let c0_i32_449 : BitVec 32 := 0#32
  let v853 : BitVec 1 := Scalar.cmpi .eq c4_i32_448 c0_i32_449
  let c1_i32_450 : BitVec 32 := 1#32
  let v854 : BitVec 32 := Scalar.select v853 c1_i32_450 c4_i32_448
  let v855 : BitVec 32 := Scalar.remsi v852 v854
  let c0_i32_452 : BitVec 32 := 0#32
  let v857 : BitVec 1 := Scalar.cmpi .slt v855 c0_i32_452
  let c0_i32_453 : BitVec 32 := 0#32
  let v858 : BitVec 1 := Scalar.cmpi .slt v854 c0_i32_453
  let v859 : BitVec 1 := Scalar.xori v857 v858
  let c0_i32_451 : BitVec 32 := 0#32
  let v856 : BitVec 1 := Scalar.cmpi .ne v855 c0_i32_451
  let v860 : BitVec 1 := Scalar.andi v859 v856
  let v861 : BitVec 32 := Scalar.addi v855 v854
  let v862 : BitVec 32 := Scalar.select v860 v861 v855
  let v863 : BitVec 32 := Scalar.addi v851 v862
  let c1_i32_2017 : BitVec 32 := 1#32
  let v2756 : BitVec 32 := Scalar.muli v863 c1_i32_2017
  let v2757 : BitVec 32 := Scalar.addi c0_i32_2018 v2756
  v2757.toNat
def k0_dev92 (d0 : Dev nD) : Nat :=
  let c0_i32_2028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_455 : BitVec 32 := 0#32
  let v865 : BitVec 1 := Scalar.cmpi .sgt v2 c0_i32_455
  let v866 : BitVec 32 := Scalar.extui v865
  let c0_i32_456 : BitVec 32 := 0#32
  let v867 : BitVec 1 := Scalar.cmpi .slt v2 c0_i32_456
  let v868 : BitVec 32 := Scalar.extui v867
  let v869 : BitVec 32 := Scalar.subi v866 v868
  let c4_i32_454 : BitVec 32 := 4#32
  let c0_i32_457 : BitVec 32 := 0#32
  let v870 : BitVec 1 := Scalar.cmpi .sgt c4_i32_454 c0_i32_457
  let v871 : BitVec 32 := Scalar.extui v870
  let c0_i32_458 : BitVec 32 := 0#32
  let v872 : BitVec 1 := Scalar.cmpi .slt c4_i32_454 c0_i32_458
  let v873 : BitVec 32 := Scalar.extui v872
  let v874 : BitVec 32 := Scalar.subi v871 v873
  let v875 : BitVec 1 := Scalar.cmpi .ne v869 v874
  let v876 : BitVec 32 := Scalar.remsi v2 c4_i32_454
  let c0_i32_459 : BitVec 32 := 0#32
  let v877 : BitVec 1 := Scalar.cmpi .ne v876 c0_i32_459
  let v878 : BitVec 1 := Scalar.andi v875 v877
  let v864 : BitVec 32 := Scalar.divsi v2 c4_i32_454
  let c1_i32_460 : BitVec 32 := 1#32
  let v879 : BitVec 32 := Scalar.subi v864 c1_i32_460
  let v880 : BitVec 32 := Scalar.select v878 v879 v864
  let c5_i32_461 : BitVec 32 := 5#32
  let v881 : BitVec 32 := Scalar.addi v880 c5_i32_461
  let c8_i32_462 : BitVec 32 := 8#32
  let c0_i32_463 : BitVec 32 := 0#32
  let v882 : BitVec 1 := Scalar.cmpi .eq c8_i32_462 c0_i32_463
  let c1_i32_464 : BitVec 32 := 1#32
  let v883 : BitVec 32 := Scalar.select v882 c1_i32_464 c8_i32_462
  let v884 : BitVec 32 := Scalar.remsi v881 v883
  let c0_i32_466 : BitVec 32 := 0#32
  let v886 : BitVec 1 := Scalar.cmpi .slt v884 c0_i32_466
  let c0_i32_467 : BitVec 32 := 0#32
  let v887 : BitVec 1 := Scalar.cmpi .slt v883 c0_i32_467
  let v888 : BitVec 1 := Scalar.xori v886 v887
  let c0_i32_465 : BitVec 32 := 0#32
  let v885 : BitVec 1 := Scalar.cmpi .ne v884 c0_i32_465
  let v889 : BitVec 1 := Scalar.andi v888 v885
  let v890 : BitVec 32 := Scalar.addi v884 v883
  let v891 : BitVec 32 := Scalar.select v889 v890 v884
  let c4_i32_468 : BitVec 32 := 4#32
  let v892 : BitVec 32 := Scalar.muli v891 c4_i32_468
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_469 : BitVec 32 := 3#32
  let v893 : BitVec 32 := Scalar.addi v30 c3_i32_469
  let c4_i32_470 : BitVec 32 := 4#32
  let c0_i32_471 : BitVec 32 := 0#32
  let v894 : BitVec 1 := Scalar.cmpi .eq c4_i32_470 c0_i32_471
  let c1_i32_472 : BitVec 32 := 1#32
  let v895 : BitVec 32 := Scalar.select v894 c1_i32_472 c4_i32_470
  let v896 : BitVec 32 := Scalar.remsi v893 v895
  let c0_i32_474 : BitVec 32 := 0#32
  let v898 : BitVec 1 := Scalar.cmpi .slt v896 c0_i32_474
  let c0_i32_475 : BitVec 32 := 0#32
  let v899 : BitVec 1 := Scalar.cmpi .slt v895 c0_i32_475
  let v900 : BitVec 1 := Scalar.xori v898 v899
  let c0_i32_473 : BitVec 32 := 0#32
  let v897 : BitVec 1 := Scalar.cmpi .ne v896 c0_i32_473
  let v901 : BitVec 1 := Scalar.andi v900 v897
  let v902 : BitVec 32 := Scalar.addi v896 v895
  let v903 : BitVec 32 := Scalar.select v901 v902 v896
  let v904 : BitVec 32 := Scalar.addi v892 v903
  let c1_i32_2027 : BitVec 32 := 1#32
  let v2768 : BitVec 32 := Scalar.muli v904 c1_i32_2027
  let v2769 : BitVec 32 := Scalar.addi c0_i32_2028 v2768
  v2769.toNat
def k0_dev93 (d0 : Dev nD) : Nat :=
  let c0_i32_2038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let v906 : BitVec 1 := Scalar.cmpi .sgt v2 c0_i32_477
  let v907 : BitVec 32 := Scalar.extui v906
  let c0_i32_478 : BitVec 32 := 0#32
  let v908 : BitVec 1 := Scalar.cmpi .slt v2 c0_i32_478
  let v909 : BitVec 32 := Scalar.extui v908
  let v910 : BitVec 32 := Scalar.subi v907 v909
  let c4_i32_476 : BitVec 32 := 4#32
  let c0_i32_479 : BitVec 32 := 0#32
  let v911 : BitVec 1 := Scalar.cmpi .sgt c4_i32_476 c0_i32_479
  let v912 : BitVec 32 := Scalar.extui v911
  let c0_i32_480 : BitVec 32 := 0#32
  let v913 : BitVec 1 := Scalar.cmpi .slt c4_i32_476 c0_i32_480
  let v914 : BitVec 32 := Scalar.extui v913
  let v915 : BitVec 32 := Scalar.subi v912 v914
  let v916 : BitVec 1 := Scalar.cmpi .ne v910 v915
  let v917 : BitVec 32 := Scalar.remsi v2 c4_i32_476
  let c0_i32_481 : BitVec 32 := 0#32
  let v918 : BitVec 1 := Scalar.cmpi .ne v917 c0_i32_481
  let v919 : BitVec 1 := Scalar.andi v916 v918
  let v905 : BitVec 32 := Scalar.divsi v2 c4_i32_476
  let c1_i32_482 : BitVec 32 := 1#32
  let v920 : BitVec 32 := Scalar.subi v905 c1_i32_482
  let v921 : BitVec 32 := Scalar.select v919 v920 v905
  let c6_i32 : BitVec 32 := 6#32
  let v922 : BitVec 32 := Scalar.addi v921 c6_i32
  let c8_i32_483 : BitVec 32 := 8#32
  let c0_i32_484 : BitVec 32 := 0#32
  let v923 : BitVec 1 := Scalar.cmpi .eq c8_i32_483 c0_i32_484
  let c1_i32_485 : BitVec 32 := 1#32
  let v924 : BitVec 32 := Scalar.select v923 c1_i32_485 c8_i32_483
  let v925 : BitVec 32 := Scalar.remsi v922 v924
  let c0_i32_487 : BitVec 32 := 0#32
  let v927 : BitVec 1 := Scalar.cmpi .slt v925 c0_i32_487
  let c0_i32_488 : BitVec 32 := 0#32
  let v928 : BitVec 1 := Scalar.cmpi .slt v924 c0_i32_488
  let v929 : BitVec 1 := Scalar.xori v927 v928
  let c0_i32_486 : BitVec 32 := 0#32
  let v926 : BitVec 1 := Scalar.cmpi .ne v925 c0_i32_486
  let v930 : BitVec 1 := Scalar.andi v929 v926
  let v931 : BitVec 32 := Scalar.addi v925 v924
  let v932 : BitVec 32 := Scalar.select v930 v931 v925
  let c4_i32_489 : BitVec 32 := 4#32
  let v933 : BitVec 32 := Scalar.muli v932 c4_i32_489
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_490 : BitVec 32 := 0#32
  let v934 : BitVec 32 := Scalar.addi v30 c0_i32_490
  let c4_i32_491 : BitVec 32 := 4#32
  let c0_i32_492 : BitVec 32 := 0#32
  let v935 : BitVec 1 := Scalar.cmpi .eq c4_i32_491 c0_i32_492
  let c1_i32_493 : BitVec 32 := 1#32
  let v936 : BitVec 32 := Scalar.select v935 c1_i32_493 c4_i32_491
  let v937 : BitVec 32 := Scalar.remsi v934 v936
  let c0_i32_495 : BitVec 32 := 0#32
  let v939 : BitVec 1 := Scalar.cmpi .slt v937 c0_i32_495
  let c0_i32_496 : BitVec 32 := 0#32
  let v940 : BitVec 1 := Scalar.cmpi .slt v936 c0_i32_496
  let v941 : BitVec 1 := Scalar.xori v939 v940
  let c0_i32_494 : BitVec 32 := 0#32
  let v938 : BitVec 1 := Scalar.cmpi .ne v937 c0_i32_494
  let v942 : BitVec 1 := Scalar.andi v941 v938
  let v943 : BitVec 32 := Scalar.addi v937 v936
  let v944 : BitVec 32 := Scalar.select v942 v943 v937
  let v945 : BitVec 32 := Scalar.addi v933 v944
  let c1_i32_2037 : BitVec 32 := 1#32
  let v2780 : BitVec 32 := Scalar.muli v945 c1_i32_2037
  let v2781 : BitVec 32 := Scalar.addi c0_i32_2038 v2780
  v2781.toNat
def k0_dev94 (d0 : Dev nD) : Nat :=
  let c0_i32_2048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_498 : BitVec 32 := 0#32
  let v947 : BitVec 1 := Scalar.cmpi .sgt v2 c0_i32_498
  let v948 : BitVec 32 := Scalar.extui v947
  let c0_i32_499 : BitVec 32 := 0#32
  let v949 : BitVec 1 := Scalar.cmpi .slt v2 c0_i32_499
  let v950 : BitVec 32 := Scalar.extui v949
  let v951 : BitVec 32 := Scalar.subi v948 v950
  let c4_i32_497 : BitVec 32 := 4#32
  let c0_i32_500 : BitVec 32 := 0#32
  let v952 : BitVec 1 := Scalar.cmpi .sgt c4_i32_497 c0_i32_500
  let v953 : BitVec 32 := Scalar.extui v952
  let c0_i32_501 : BitVec 32 := 0#32
  let v954 : BitVec 1 := Scalar.cmpi .slt c4_i32_497 c0_i32_501
  let v955 : BitVec 32 := Scalar.extui v954
  let v956 : BitVec 32 := Scalar.subi v953 v955
  let v957 : BitVec 1 := Scalar.cmpi .ne v951 v956
  let v958 : BitVec 32 := Scalar.remsi v2 c4_i32_497
  let c0_i32_502 : BitVec 32 := 0#32
  let v959 : BitVec 1 := Scalar.cmpi .ne v958 c0_i32_502
  let v960 : BitVec 1 := Scalar.andi v957 v959
  let v946 : BitVec 32 := Scalar.divsi v2 c4_i32_497
  let c1_i32_503 : BitVec 32 := 1#32
  let v961 : BitVec 32 := Scalar.subi v946 c1_i32_503
  let v962 : BitVec 32 := Scalar.select v960 v961 v946
  let c6_i32_504 : BitVec 32 := 6#32
  let v963 : BitVec 32 := Scalar.addi v962 c6_i32_504
  let c8_i32_505 : BitVec 32 := 8#32
  let c0_i32_506 : BitVec 32 := 0#32
  let v964 : BitVec 1 := Scalar.cmpi .eq c8_i32_505 c0_i32_506
  let c1_i32_507 : BitVec 32 := 1#32
  let v965 : BitVec 32 := Scalar.select v964 c1_i32_507 c8_i32_505
  let v966 : BitVec 32 := Scalar.remsi v963 v965
  let c0_i32_509 : BitVec 32 := 0#32
  let v968 : BitVec 1 := Scalar.cmpi .slt v966 c0_i32_509
  let c0_i32_510 : BitVec 32 := 0#32
  let v969 : BitVec 1 := Scalar.cmpi .slt v965 c0_i32_510
  let v970 : BitVec 1 := Scalar.xori v968 v969
  let c0_i32_508 : BitVec 32 := 0#32
  let v967 : BitVec 1 := Scalar.cmpi .ne v966 c0_i32_508
  let v971 : BitVec 1 := Scalar.andi v970 v967
  let v972 : BitVec 32 := Scalar.addi v966 v965
  let v973 : BitVec 32 := Scalar.select v971 v972 v966
  let c4_i32_511 : BitVec 32 := 4#32
  let v974 : BitVec 32 := Scalar.muli v973 c4_i32_511
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_512 : BitVec 32 := 1#32
  let v975 : BitVec 32 := Scalar.addi v30 c1_i32_512
  let c4_i32_513 : BitVec 32 := 4#32
  let c0_i32_514 : BitVec 32 := 0#32
  let v976 : BitVec 1 := Scalar.cmpi .eq c4_i32_513 c0_i32_514
  let c1_i32_515 : BitVec 32 := 1#32
  let v977 : BitVec 32 := Scalar.select v976 c1_i32_515 c4_i32_513
  let v978 : BitVec 32 := Scalar.remsi v975 v977
  let c0_i32_517 : BitVec 32 := 0#32
  let v980 : BitVec 1 := Scalar.cmpi .slt v978 c0_i32_517
  let c0_i32_518 : BitVec 32 := 0#32
  let v981 : BitVec 1 := Scalar.cmpi .slt v977 c0_i32_518
  let v982 : BitVec 1 := Scalar.xori v980 v981
  let c0_i32_516 : BitVec 32 := 0#32
  let v979 : BitVec 1 := Scalar.cmpi .ne v978 c0_i32_516
  let v983 : BitVec 1 := Scalar.andi v982 v979
  let v984 : BitVec 32 := Scalar.addi v978 v977
  let v985 : BitVec 32 := Scalar.select v983 v984 v978
  let v986 : BitVec 32 := Scalar.addi v974 v985
  let c1_i32_2047 : BitVec 32 := 1#32
  let v2792 : BitVec 32 := Scalar.muli v986 c1_i32_2047
  let v2793 : BitVec 32 := Scalar.addi c0_i32_2048 v2792
  v2793.toNat
def k0_dev95 (d0 : Dev nD) : Nat :=
  let c0_i32_2058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_520 : BitVec 32 := 0#32
  let v988 : BitVec 1 := Scalar.cmpi .sgt v2 c0_i32_520
  let v989 : BitVec 32 := Scalar.extui v988
  let c0_i32_521 : BitVec 32 := 0#32
  let v990 : BitVec 1 := Scalar.cmpi .slt v2 c0_i32_521
  let v991 : BitVec 32 := Scalar.extui v990
  let v992 : BitVec 32 := Scalar.subi v989 v991
  let c4_i32_519 : BitVec 32 := 4#32
  let c0_i32_522 : BitVec 32 := 0#32
  let v993 : BitVec 1 := Scalar.cmpi .sgt c4_i32_519 c0_i32_522
  let v994 : BitVec 32 := Scalar.extui v993
  let c0_i32_523 : BitVec 32 := 0#32
  let v995 : BitVec 1 := Scalar.cmpi .slt c4_i32_519 c0_i32_523
  let v996 : BitVec 32 := Scalar.extui v995
  let v997 : BitVec 32 := Scalar.subi v994 v996
  let v998 : BitVec 1 := Scalar.cmpi .ne v992 v997
  let v999 : BitVec 32 := Scalar.remsi v2 c4_i32_519
  let c0_i32_524 : BitVec 32 := 0#32
  let v1000 : BitVec 1 := Scalar.cmpi .ne v999 c0_i32_524
  let v1001 : BitVec 1 := Scalar.andi v998 v1000
  let v987 : BitVec 32 := Scalar.divsi v2 c4_i32_519
  let c1_i32_525 : BitVec 32 := 1#32
  let v1002 : BitVec 32 := Scalar.subi v987 c1_i32_525
  let v1003 : BitVec 32 := Scalar.select v1001 v1002 v987
  let c6_i32_526 : BitVec 32 := 6#32
  let v1004 : BitVec 32 := Scalar.addi v1003 c6_i32_526
  let c8_i32_527 : BitVec 32 := 8#32
  let c0_i32_528 : BitVec 32 := 0#32
  let v1005 : BitVec 1 := Scalar.cmpi .eq c8_i32_527 c0_i32_528
  let c1_i32_529 : BitVec 32 := 1#32
  let v1006 : BitVec 32 := Scalar.select v1005 c1_i32_529 c8_i32_527
  let v1007 : BitVec 32 := Scalar.remsi v1004 v1006
  let c0_i32_531 : BitVec 32 := 0#32
  let v1009 : BitVec 1 := Scalar.cmpi .slt v1007 c0_i32_531
  let c0_i32_532 : BitVec 32 := 0#32
  let v1010 : BitVec 1 := Scalar.cmpi .slt v1006 c0_i32_532
  let v1011 : BitVec 1 := Scalar.xori v1009 v1010
  let c0_i32_530 : BitVec 32 := 0#32
  let v1008 : BitVec 1 := Scalar.cmpi .ne v1007 c0_i32_530
  let v1012 : BitVec 1 := Scalar.andi v1011 v1008
  let v1013 : BitVec 32 := Scalar.addi v1007 v1006
  let v1014 : BitVec 32 := Scalar.select v1012 v1013 v1007
  let c4_i32_533 : BitVec 32 := 4#32
  let v1015 : BitVec 32 := Scalar.muli v1014 c4_i32_533
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_534 : BitVec 32 := 2#32
  let v1016 : BitVec 32 := Scalar.addi v30 c2_i32_534
  let c4_i32_535 : BitVec 32 := 4#32
  let c0_i32_536 : BitVec 32 := 0#32
  let v1017 : BitVec 1 := Scalar.cmpi .eq c4_i32_535 c0_i32_536
  let c1_i32_537 : BitVec 32 := 1#32
  let v1018 : BitVec 32 := Scalar.select v1017 c1_i32_537 c4_i32_535
  let v1019 : BitVec 32 := Scalar.remsi v1016 v1018
  let c0_i32_539 : BitVec 32 := 0#32
  let v1021 : BitVec 1 := Scalar.cmpi .slt v1019 c0_i32_539
  let c0_i32_540 : BitVec 32 := 0#32
  let v1022 : BitVec 1 := Scalar.cmpi .slt v1018 c0_i32_540
  let v1023 : BitVec 1 := Scalar.xori v1021 v1022
  let c0_i32_538 : BitVec 32 := 0#32
  let v1020 : BitVec 1 := Scalar.cmpi .ne v1019 c0_i32_538
  let v1024 : BitVec 1 := Scalar.andi v1023 v1020
  let v1025 : BitVec 32 := Scalar.addi v1019 v1018
  let v1026 : BitVec 32 := Scalar.select v1024 v1025 v1019
  let v1027 : BitVec 32 := Scalar.addi v1015 v1026
  let c1_i32_2057 : BitVec 32 := 1#32
  let v2804 : BitVec 32 := Scalar.muli v1027 c1_i32_2057
  let v2805 : BitVec 32 := Scalar.addi c0_i32_2058 v2804
  v2805.toNat
def k0_dev96 (d0 : Dev nD) : Nat :=
  let c0_i32_2068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_542 : BitVec 32 := 0#32
  let v1029 : BitVec 1 := Scalar.cmpi .sgt v2 c0_i32_542
  let v1030 : BitVec 32 := Scalar.extui v1029
  let c0_i32_543 : BitVec 32 := 0#32
  let v1031 : BitVec 1 := Scalar.cmpi .slt v2 c0_i32_543
  let v1032 : BitVec 32 := Scalar.extui v1031
  let v1033 : BitVec 32 := Scalar.subi v1030 v1032
  let c4_i32_541 : BitVec 32 := 4#32
  let c0_i32_544 : BitVec 32 := 0#32
  let v1034 : BitVec 1 := Scalar.cmpi .sgt c4_i32_541 c0_i32_544
  let v1035 : BitVec 32 := Scalar.extui v1034
  let c0_i32_545 : BitVec 32 := 0#32
  let v1036 : BitVec 1 := Scalar.cmpi .slt c4_i32_541 c0_i32_545
  let v1037 : BitVec 32 := Scalar.extui v1036
  let v1038 : BitVec 32 := Scalar.subi v1035 v1037
  let v1039 : BitVec 1 := Scalar.cmpi .ne v1033 v1038
  let v1040 : BitVec 32 := Scalar.remsi v2 c4_i32_541
  let c0_i32_546 : BitVec 32 := 0#32
  let v1041 : BitVec 1 := Scalar.cmpi .ne v1040 c0_i32_546
  let v1042 : BitVec 1 := Scalar.andi v1039 v1041
  let v1028 : BitVec 32 := Scalar.divsi v2 c4_i32_541
  let c1_i32_547 : BitVec 32 := 1#32
  let v1043 : BitVec 32 := Scalar.subi v1028 c1_i32_547
  let v1044 : BitVec 32 := Scalar.select v1042 v1043 v1028
  let c6_i32_548 : BitVec 32 := 6#32
  let v1045 : BitVec 32 := Scalar.addi v1044 c6_i32_548
  let c8_i32_549 : BitVec 32 := 8#32
  let c0_i32_550 : BitVec 32 := 0#32
  let v1046 : BitVec 1 := Scalar.cmpi .eq c8_i32_549 c0_i32_550
  let c1_i32_551 : BitVec 32 := 1#32
  let v1047 : BitVec 32 := Scalar.select v1046 c1_i32_551 c8_i32_549
  let v1048 : BitVec 32 := Scalar.remsi v1045 v1047
  let c0_i32_553 : BitVec 32 := 0#32
  let v1050 : BitVec 1 := Scalar.cmpi .slt v1048 c0_i32_553
  let c0_i32_554 : BitVec 32 := 0#32
  let v1051 : BitVec 1 := Scalar.cmpi .slt v1047 c0_i32_554
  let v1052 : BitVec 1 := Scalar.xori v1050 v1051
  let c0_i32_552 : BitVec 32 := 0#32
  let v1049 : BitVec 1 := Scalar.cmpi .ne v1048 c0_i32_552
  let v1053 : BitVec 1 := Scalar.andi v1052 v1049
  let v1054 : BitVec 32 := Scalar.addi v1048 v1047
  let v1055 : BitVec 32 := Scalar.select v1053 v1054 v1048
  let c4_i32_555 : BitVec 32 := 4#32
  let v1056 : BitVec 32 := Scalar.muli v1055 c4_i32_555
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_556 : BitVec 32 := 3#32
  let v1057 : BitVec 32 := Scalar.addi v30 c3_i32_556
  let c4_i32_557 : BitVec 32 := 4#32
  let c0_i32_558 : BitVec 32 := 0#32
  let v1058 : BitVec 1 := Scalar.cmpi .eq c4_i32_557 c0_i32_558
  let c1_i32_559 : BitVec 32 := 1#32
  let v1059 : BitVec 32 := Scalar.select v1058 c1_i32_559 c4_i32_557
  let v1060 : BitVec 32 := Scalar.remsi v1057 v1059
  let c0_i32_561 : BitVec 32 := 0#32
  let v1062 : BitVec 1 := Scalar.cmpi .slt v1060 c0_i32_561
  let c0_i32_562 : BitVec 32 := 0#32
  let v1063 : BitVec 1 := Scalar.cmpi .slt v1059 c0_i32_562
  let v1064 : BitVec 1 := Scalar.xori v1062 v1063
  let c0_i32_560 : BitVec 32 := 0#32
  let v1061 : BitVec 1 := Scalar.cmpi .ne v1060 c0_i32_560
  let v1065 : BitVec 1 := Scalar.andi v1064 v1061
  let v1066 : BitVec 32 := Scalar.addi v1060 v1059
  let v1067 : BitVec 32 := Scalar.select v1065 v1066 v1060
  let v1068 : BitVec 32 := Scalar.addi v1056 v1067
  let c1_i32_2067 : BitVec 32 := 1#32
  let v2816 : BitVec 32 := Scalar.muli v1068 c1_i32_2067
  let v2817 : BitVec 32 := Scalar.addi c0_i32_2068 v2816
  v2817.toNat
def k0_dev97 (d0 : Dev nD) : Nat :=
  let c0_i32_2078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_564 : BitVec 32 := 0#32
  let v1070 : BitVec 1 := Scalar.cmpi .sgt v2 c0_i32_564
  let v1071 : BitVec 32 := Scalar.extui v1070
  let c0_i32_565 : BitVec 32 := 0#32
  let v1072 : BitVec 1 := Scalar.cmpi .slt v2 c0_i32_565
  let v1073 : BitVec 32 := Scalar.extui v1072
  let v1074 : BitVec 32 := Scalar.subi v1071 v1073
  let c4_i32_563 : BitVec 32 := 4#32
  let c0_i32_566 : BitVec 32 := 0#32
  let v1075 : BitVec 1 := Scalar.cmpi .sgt c4_i32_563 c0_i32_566
  let v1076 : BitVec 32 := Scalar.extui v1075
  let c0_i32_567 : BitVec 32 := 0#32
  let v1077 : BitVec 1 := Scalar.cmpi .slt c4_i32_563 c0_i32_567
  let v1078 : BitVec 32 := Scalar.extui v1077
  let v1079 : BitVec 32 := Scalar.subi v1076 v1078
  let v1080 : BitVec 1 := Scalar.cmpi .ne v1074 v1079
  let v1081 : BitVec 32 := Scalar.remsi v2 c4_i32_563
  let c0_i32_568 : BitVec 32 := 0#32
  let v1082 : BitVec 1 := Scalar.cmpi .ne v1081 c0_i32_568
  let v1083 : BitVec 1 := Scalar.andi v1080 v1082
  let v1069 : BitVec 32 := Scalar.divsi v2 c4_i32_563
  let c1_i32_569 : BitVec 32 := 1#32
  let v1084 : BitVec 32 := Scalar.subi v1069 c1_i32_569
  let v1085 : BitVec 32 := Scalar.select v1083 v1084 v1069
  let c7_i32 : BitVec 32 := 7#32
  let v1086 : BitVec 32 := Scalar.addi v1085 c7_i32
  let c8_i32_570 : BitVec 32 := 8#32
  let c0_i32_571 : BitVec 32 := 0#32
  let v1087 : BitVec 1 := Scalar.cmpi .eq c8_i32_570 c0_i32_571
  let c1_i32_572 : BitVec 32 := 1#32
  let v1088 : BitVec 32 := Scalar.select v1087 c1_i32_572 c8_i32_570
  let v1089 : BitVec 32 := Scalar.remsi v1086 v1088
  let c0_i32_574 : BitVec 32 := 0#32
  let v1091 : BitVec 1 := Scalar.cmpi .slt v1089 c0_i32_574
  let c0_i32_575 : BitVec 32 := 0#32
  let v1092 : BitVec 1 := Scalar.cmpi .slt v1088 c0_i32_575
  let v1093 : BitVec 1 := Scalar.xori v1091 v1092
  let c0_i32_573 : BitVec 32 := 0#32
  let v1090 : BitVec 1 := Scalar.cmpi .ne v1089 c0_i32_573
  let v1094 : BitVec 1 := Scalar.andi v1093 v1090
  let v1095 : BitVec 32 := Scalar.addi v1089 v1088
  let v1096 : BitVec 32 := Scalar.select v1094 v1095 v1089
  let c4_i32_576 : BitVec 32 := 4#32
  let v1097 : BitVec 32 := Scalar.muli v1096 c4_i32_576
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_577 : BitVec 32 := 0#32
  let v1098 : BitVec 32 := Scalar.addi v30 c0_i32_577
  let c4_i32_578 : BitVec 32 := 4#32
  let c0_i32_579 : BitVec 32 := 0#32
  let v1099 : BitVec 1 := Scalar.cmpi .eq c4_i32_578 c0_i32_579
  let c1_i32_580 : BitVec 32 := 1#32
  let v1100 : BitVec 32 := Scalar.select v1099 c1_i32_580 c4_i32_578
  let v1101 : BitVec 32 := Scalar.remsi v1098 v1100
  let c0_i32_582 : BitVec 32 := 0#32
  let v1103 : BitVec 1 := Scalar.cmpi .slt v1101 c0_i32_582
  let c0_i32_583 : BitVec 32 := 0#32
  let v1104 : BitVec 1 := Scalar.cmpi .slt v1100 c0_i32_583
  let v1105 : BitVec 1 := Scalar.xori v1103 v1104
  let c0_i32_581 : BitVec 32 := 0#32
  let v1102 : BitVec 1 := Scalar.cmpi .ne v1101 c0_i32_581
  let v1106 : BitVec 1 := Scalar.andi v1105 v1102
  let v1107 : BitVec 32 := Scalar.addi v1101 v1100
  let v1108 : BitVec 32 := Scalar.select v1106 v1107 v1101
  let v1109 : BitVec 32 := Scalar.addi v1097 v1108
  let c1_i32_2077 : BitVec 32 := 1#32
  let v2828 : BitVec 32 := Scalar.muli v1109 c1_i32_2077
  let v2829 : BitVec 32 := Scalar.addi c0_i32_2078 v2828
  v2829.toNat
def k0_dev98 (d0 : Dev nD) : Nat :=
  let c0_i32_2088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_585 : BitVec 32 := 0#32
  let v1111 : BitVec 1 := Scalar.cmpi .sgt v2 c0_i32_585
  let v1112 : BitVec 32 := Scalar.extui v1111
  let c0_i32_586 : BitVec 32 := 0#32
  let v1113 : BitVec 1 := Scalar.cmpi .slt v2 c0_i32_586
  let v1114 : BitVec 32 := Scalar.extui v1113
  let v1115 : BitVec 32 := Scalar.subi v1112 v1114
  let c4_i32_584 : BitVec 32 := 4#32
  let c0_i32_587 : BitVec 32 := 0#32
  let v1116 : BitVec 1 := Scalar.cmpi .sgt c4_i32_584 c0_i32_587
  let v1117 : BitVec 32 := Scalar.extui v1116
  let c0_i32_588 : BitVec 32 := 0#32
  let v1118 : BitVec 1 := Scalar.cmpi .slt c4_i32_584 c0_i32_588
  let v1119 : BitVec 32 := Scalar.extui v1118
  let v1120 : BitVec 32 := Scalar.subi v1117 v1119
  let v1121 : BitVec 1 := Scalar.cmpi .ne v1115 v1120
  let v1122 : BitVec 32 := Scalar.remsi v2 c4_i32_584
  let c0_i32_589 : BitVec 32 := 0#32
  let v1123 : BitVec 1 := Scalar.cmpi .ne v1122 c0_i32_589
  let v1124 : BitVec 1 := Scalar.andi v1121 v1123
  let v1110 : BitVec 32 := Scalar.divsi v2 c4_i32_584
  let c1_i32_590 : BitVec 32 := 1#32
  let v1125 : BitVec 32 := Scalar.subi v1110 c1_i32_590
  let v1126 : BitVec 32 := Scalar.select v1124 v1125 v1110
  let c7_i32_591 : BitVec 32 := 7#32
  let v1127 : BitVec 32 := Scalar.addi v1126 c7_i32_591
  let c8_i32_592 : BitVec 32 := 8#32
  let c0_i32_593 : BitVec 32 := 0#32
  let v1128 : BitVec 1 := Scalar.cmpi .eq c8_i32_592 c0_i32_593
  let c1_i32_594 : BitVec 32 := 1#32
  let v1129 : BitVec 32 := Scalar.select v1128 c1_i32_594 c8_i32_592
  let v1130 : BitVec 32 := Scalar.remsi v1127 v1129
  let c0_i32_596 : BitVec 32 := 0#32
  let v1132 : BitVec 1 := Scalar.cmpi .slt v1130 c0_i32_596
  let c0_i32_597 : BitVec 32 := 0#32
  let v1133 : BitVec 1 := Scalar.cmpi .slt v1129 c0_i32_597
  let v1134 : BitVec 1 := Scalar.xori v1132 v1133
  let c0_i32_595 : BitVec 32 := 0#32
  let v1131 : BitVec 1 := Scalar.cmpi .ne v1130 c0_i32_595
  let v1135 : BitVec 1 := Scalar.andi v1134 v1131
  let v1136 : BitVec 32 := Scalar.addi v1130 v1129
  let v1137 : BitVec 32 := Scalar.select v1135 v1136 v1130
  let c4_i32_598 : BitVec 32 := 4#32
  let v1138 : BitVec 32 := Scalar.muli v1137 c4_i32_598
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_599 : BitVec 32 := 1#32
  let v1139 : BitVec 32 := Scalar.addi v30 c1_i32_599
  let c4_i32_600 : BitVec 32 := 4#32
  let c0_i32_601 : BitVec 32 := 0#32
  let v1140 : BitVec 1 := Scalar.cmpi .eq c4_i32_600 c0_i32_601
  let c1_i32_602 : BitVec 32 := 1#32
  let v1141 : BitVec 32 := Scalar.select v1140 c1_i32_602 c4_i32_600
  let v1142 : BitVec 32 := Scalar.remsi v1139 v1141
  let c0_i32_604 : BitVec 32 := 0#32
  let v1144 : BitVec 1 := Scalar.cmpi .slt v1142 c0_i32_604
  let c0_i32_605 : BitVec 32 := 0#32
  let v1145 : BitVec 1 := Scalar.cmpi .slt v1141 c0_i32_605
  let v1146 : BitVec 1 := Scalar.xori v1144 v1145
  let c0_i32_603 : BitVec 32 := 0#32
  let v1143 : BitVec 1 := Scalar.cmpi .ne v1142 c0_i32_603
  let v1147 : BitVec 1 := Scalar.andi v1146 v1143
  let v1148 : BitVec 32 := Scalar.addi v1142 v1141
  let v1149 : BitVec 32 := Scalar.select v1147 v1148 v1142
  let v1150 : BitVec 32 := Scalar.addi v1138 v1149
  let c1_i32_2087 : BitVec 32 := 1#32
  let v2840 : BitVec 32 := Scalar.muli v1150 c1_i32_2087
  let v2841 : BitVec 32 := Scalar.addi c0_i32_2088 v2840
  v2841.toNat
def k0_dev99 (d0 : Dev nD) : Nat :=
  let c0_i32_2098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_607 : BitVec 32 := 0#32
  let v1152 : BitVec 1 := Scalar.cmpi .sgt v2 c0_i32_607
  let v1153 : BitVec 32 := Scalar.extui v1152
  let c0_i32_608 : BitVec 32 := 0#32
  let v1154 : BitVec 1 := Scalar.cmpi .slt v2 c0_i32_608
  let v1155 : BitVec 32 := Scalar.extui v1154
  let v1156 : BitVec 32 := Scalar.subi v1153 v1155
  let c4_i32_606 : BitVec 32 := 4#32
  let c0_i32_609 : BitVec 32 := 0#32
  let v1157 : BitVec 1 := Scalar.cmpi .sgt c4_i32_606 c0_i32_609
  let v1158 : BitVec 32 := Scalar.extui v1157
  let c0_i32_610 : BitVec 32 := 0#32
  let v1159 : BitVec 1 := Scalar.cmpi .slt c4_i32_606 c0_i32_610
  let v1160 : BitVec 32 := Scalar.extui v1159
  let v1161 : BitVec 32 := Scalar.subi v1158 v1160
  let v1162 : BitVec 1 := Scalar.cmpi .ne v1156 v1161
  let v1163 : BitVec 32 := Scalar.remsi v2 c4_i32_606
  let c0_i32_611 : BitVec 32 := 0#32
  let v1164 : BitVec 1 := Scalar.cmpi .ne v1163 c0_i32_611
  let v1165 : BitVec 1 := Scalar.andi v1162 v1164
  let v1151 : BitVec 32 := Scalar.divsi v2 c4_i32_606
  let c1_i32_612 : BitVec 32 := 1#32
  let v1166 : BitVec 32 := Scalar.subi v1151 c1_i32_612
  let v1167 : BitVec 32 := Scalar.select v1165 v1166 v1151
  let c7_i32_613 : BitVec 32 := 7#32
  let v1168 : BitVec 32 := Scalar.addi v1167 c7_i32_613
  let c8_i32_614 : BitVec 32 := 8#32
  let c0_i32_615 : BitVec 32 := 0#32
  let v1169 : BitVec 1 := Scalar.cmpi .eq c8_i32_614 c0_i32_615
  let c1_i32_616 : BitVec 32 := 1#32
  let v1170 : BitVec 32 := Scalar.select v1169 c1_i32_616 c8_i32_614
  let v1171 : BitVec 32 := Scalar.remsi v1168 v1170
  let c0_i32_618 : BitVec 32 := 0#32
  let v1173 : BitVec 1 := Scalar.cmpi .slt v1171 c0_i32_618
  let c0_i32_619 : BitVec 32 := 0#32
  let v1174 : BitVec 1 := Scalar.cmpi .slt v1170 c0_i32_619
  let v1175 : BitVec 1 := Scalar.xori v1173 v1174
  let c0_i32_617 : BitVec 32 := 0#32
  let v1172 : BitVec 1 := Scalar.cmpi .ne v1171 c0_i32_617
  let v1176 : BitVec 1 := Scalar.andi v1175 v1172
  let v1177 : BitVec 32 := Scalar.addi v1171 v1170
  let v1178 : BitVec 32 := Scalar.select v1176 v1177 v1171
  let c4_i32_620 : BitVec 32 := 4#32
  let v1179 : BitVec 32 := Scalar.muli v1178 c4_i32_620
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_621 : BitVec 32 := 2#32
  let v1180 : BitVec 32 := Scalar.addi v30 c2_i32_621
  let c4_i32_622 : BitVec 32 := 4#32
  let c0_i32_623 : BitVec 32 := 0#32
  let v1181 : BitVec 1 := Scalar.cmpi .eq c4_i32_622 c0_i32_623
  let c1_i32_624 : BitVec 32 := 1#32
  let v1182 : BitVec 32 := Scalar.select v1181 c1_i32_624 c4_i32_622
  let v1183 : BitVec 32 := Scalar.remsi v1180 v1182
  let c0_i32_626 : BitVec 32 := 0#32
  let v1185 : BitVec 1 := Scalar.cmpi .slt v1183 c0_i32_626
  let c0_i32_627 : BitVec 32 := 0#32
  let v1186 : BitVec 1 := Scalar.cmpi .slt v1182 c0_i32_627
  let v1187 : BitVec 1 := Scalar.xori v1185 v1186
  let c0_i32_625 : BitVec 32 := 0#32
  let v1184 : BitVec 1 := Scalar.cmpi .ne v1183 c0_i32_625
  let v1188 : BitVec 1 := Scalar.andi v1187 v1184
  let v1189 : BitVec 32 := Scalar.addi v1183 v1182
  let v1190 : BitVec 32 := Scalar.select v1188 v1189 v1183
  let v1191 : BitVec 32 := Scalar.addi v1179 v1190
  let c1_i32_2097 : BitVec 32 := 1#32
  let v2852 : BitVec 32 := Scalar.muli v1191 c1_i32_2097
  let v2853 : BitVec 32 := Scalar.addi c0_i32_2098 v2852
  v2853.toNat
def k0_dev100 (d0 : Dev nD) : Nat :=
  let c0_i32_2108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_629 : BitVec 32 := 0#32
  let v1193 : BitVec 1 := Scalar.cmpi .sgt v2 c0_i32_629
  let v1194 : BitVec 32 := Scalar.extui v1193
  let c0_i32_630 : BitVec 32 := 0#32
  let v1195 : BitVec 1 := Scalar.cmpi .slt v2 c0_i32_630
  let v1196 : BitVec 32 := Scalar.extui v1195
  let v1197 : BitVec 32 := Scalar.subi v1194 v1196
  let c4_i32_628 : BitVec 32 := 4#32
  let c0_i32_631 : BitVec 32 := 0#32
  let v1198 : BitVec 1 := Scalar.cmpi .sgt c4_i32_628 c0_i32_631
  let v1199 : BitVec 32 := Scalar.extui v1198
  let c0_i32_632 : BitVec 32 := 0#32
  let v1200 : BitVec 1 := Scalar.cmpi .slt c4_i32_628 c0_i32_632
  let v1201 : BitVec 32 := Scalar.extui v1200
  let v1202 : BitVec 32 := Scalar.subi v1199 v1201
  let v1203 : BitVec 1 := Scalar.cmpi .ne v1197 v1202
  let v1204 : BitVec 32 := Scalar.remsi v2 c4_i32_628
  let c0_i32_633 : BitVec 32 := 0#32
  let v1205 : BitVec 1 := Scalar.cmpi .ne v1204 c0_i32_633
  let v1206 : BitVec 1 := Scalar.andi v1203 v1205
  let v1192 : BitVec 32 := Scalar.divsi v2 c4_i32_628
  let c1_i32_634 : BitVec 32 := 1#32
  let v1207 : BitVec 32 := Scalar.subi v1192 c1_i32_634
  let v1208 : BitVec 32 := Scalar.select v1206 v1207 v1192
  let c7_i32_635 : BitVec 32 := 7#32
  let v1209 : BitVec 32 := Scalar.addi v1208 c7_i32_635
  let c8_i32_636 : BitVec 32 := 8#32
  let c0_i32_637 : BitVec 32 := 0#32
  let v1210 : BitVec 1 := Scalar.cmpi .eq c8_i32_636 c0_i32_637
  let c1_i32_638 : BitVec 32 := 1#32
  let v1211 : BitVec 32 := Scalar.select v1210 c1_i32_638 c8_i32_636
  let v1212 : BitVec 32 := Scalar.remsi v1209 v1211
  let c0_i32_640 : BitVec 32 := 0#32
  let v1214 : BitVec 1 := Scalar.cmpi .slt v1212 c0_i32_640
  let c0_i32_641 : BitVec 32 := 0#32
  let v1215 : BitVec 1 := Scalar.cmpi .slt v1211 c0_i32_641
  let v1216 : BitVec 1 := Scalar.xori v1214 v1215
  let c0_i32_639 : BitVec 32 := 0#32
  let v1213 : BitVec 1 := Scalar.cmpi .ne v1212 c0_i32_639
  let v1217 : BitVec 1 := Scalar.andi v1216 v1213
  let v1218 : BitVec 32 := Scalar.addi v1212 v1211
  let v1219 : BitVec 32 := Scalar.select v1217 v1218 v1212
  let c4_i32_642 : BitVec 32 := 4#32
  let v1220 : BitVec 32 := Scalar.muli v1219 c4_i32_642
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_643 : BitVec 32 := 3#32
  let v1221 : BitVec 32 := Scalar.addi v30 c3_i32_643
  let c4_i32_644 : BitVec 32 := 4#32
  let c0_i32_645 : BitVec 32 := 0#32
  let v1222 : BitVec 1 := Scalar.cmpi .eq c4_i32_644 c0_i32_645
  let c1_i32_646 : BitVec 32 := 1#32
  let v1223 : BitVec 32 := Scalar.select v1222 c1_i32_646 c4_i32_644
  let v1224 : BitVec 32 := Scalar.remsi v1221 v1223
  let c0_i32_648 : BitVec 32 := 0#32
  let v1226 : BitVec 1 := Scalar.cmpi .slt v1224 c0_i32_648
  let c0_i32_649 : BitVec 32 := 0#32
  let v1227 : BitVec 1 := Scalar.cmpi .slt v1223 c0_i32_649
  let v1228 : BitVec 1 := Scalar.xori v1226 v1227
  let c0_i32_647 : BitVec 32 := 0#32
  let v1225 : BitVec 1 := Scalar.cmpi .ne v1224 c0_i32_647
  let v1229 : BitVec 1 := Scalar.andi v1228 v1225
  let v1230 : BitVec 32 := Scalar.addi v1224 v1223
  let v1231 : BitVec 32 := Scalar.select v1229 v1230 v1224
  let v1232 : BitVec 32 := Scalar.addi v1220 v1231
  let c1_i32_2107 : BitVec 32 := 1#32
  let v2864 : BitVec 32 := Scalar.muli v1232 c1_i32_2107
  let v2865 : BitVec 32 := Scalar.addi c0_i32_2108 v2864
  v2865.toNat
def k0_off15 (d0 : Dev nD) (c1_i32_19 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c16_i32_2117 : BitVec 32 := 16#32
  let c0_i32_2118 : BitVec 32 := 0#32
  ![v60.toNat, 16, 0]
def k0_off16 (d0 : Dev nD) (c1_i32_45 : BitVec 32) (c0_i32_52 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v86 : BitVec 1 := Scalar.cmpi .sgt v2 c0_i32_39
  let v87 : BitVec 32 := Scalar.extui v86
  let c0_i32_40 : BitVec 32 := 0#32
  let v88 : BitVec 1 := Scalar.cmpi .slt v2 c0_i32_40
  let v89 : BitVec 32 := Scalar.extui v88
  let v90 : BitVec 32 := Scalar.subi v87 v89
  let c4_i32_38 : BitVec 32 := 4#32
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v2 c4_i32_38
  let c0_i32_43 : BitVec 32 := 0#32
  let v98 : BitVec 1 := Scalar.cmpi .ne v97 c0_i32_43
  let v99 : BitVec 1 := Scalar.andi v96 v98
  let v85 : BitVec 32 := Scalar.divsi v2 c4_i32_38
  let c1_i32_44 : BitVec 32 := 1#32
  let v100 : BitVec 32 := Scalar.subi v85 c1_i32_44
  let v101 : BitVec 32 := Scalar.select v99 v100 v85
  let v102 : BitVec 32 := Scalar.addi v101 c1_i32_45
  let c8_i32 : BitVec 32 := 8#32
  let c0_i32_46 : BitVec 32 := 0#32
  let v103 : BitVec 1 := Scalar.cmpi .eq c8_i32 c0_i32_46
  let c1_i32_47 : BitVec 32 := 1#32
  let v104 : BitVec 32 := Scalar.select v103 c1_i32_47 c8_i32
  let v105 : BitVec 32 := Scalar.remsi v102 v104
  let c0_i32_49 : BitVec 32 := 0#32
  let v107 : BitVec 1 := Scalar.cmpi .slt v105 c0_i32_49
  let c0_i32_50 : BitVec 32 := 0#32
  let v108 : BitVec 1 := Scalar.cmpi .slt v104 c0_i32_50
  let v109 : BitVec 1 := Scalar.xori v107 v108
  let c0_i32_48 : BitVec 32 := 0#32
  let v106 : BitVec 1 := Scalar.cmpi .ne v105 c0_i32_48
  let v110 : BitVec 1 := Scalar.andi v109 v106
  let v111 : BitVec 32 := Scalar.addi v105 v104
  let v112 : BitVec 32 := Scalar.select v110 v111 v105
  let c4_i32_51 : BitVec 32 := 4#32
  let v113 : BitVec 32 := Scalar.muli v112 c4_i32_51
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v114 : BitVec 32 := Scalar.addi v30 c0_i32_52
  let c4_i32_53 : BitVec 32 := 4#32
  let c0_i32_54 : BitVec 32 := 0#32
  let v115 : BitVec 1 := Scalar.cmpi .eq c4_i32_53 c0_i32_54
  let c1_i32_55 : BitVec 32 := 1#32
  let v116 : BitVec 32 := Scalar.select v115 c1_i32_55 c4_i32_53
  let v117 : BitVec 32 := Scalar.remsi v114 v116
  let c0_i32_57 : BitVec 32 := 0#32
  let v119 : BitVec 1 := Scalar.cmpi .slt v117 c0_i32_57
  let c0_i32_58 : BitVec 32 := 0#32
  let v120 : BitVec 1 := Scalar.cmpi .slt v116 c0_i32_58
  let v121 : BitVec 1 := Scalar.xori v119 v120
  let c0_i32_56 : BitVec 32 := 0#32
  let v118 : BitVec 1 := Scalar.cmpi .ne v117 c0_i32_56
  let v122 : BitVec 1 := Scalar.andi v121 v118
  let v123 : BitVec 32 := Scalar.addi v117 v116
  let v124 : BitVec 32 := Scalar.select v122 v123 v117
  let v125 : BitVec 32 := Scalar.addi v113 v124
  let c16_i32_2168 : BitVec 32 := 16#32
  let c0_i32_2169 : BitVec 32 := 0#32
  ![v125.toNat, 16, 0]
def k0_dev101 (d0 : Dev nD) : Nat :=
  let c0_i32_2655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_19 : BitVec 32 := 1#32
  let v49 : BitVec 32 := Scalar.addi v30 c1_i32_19
  let c4_i32_20 : BitVec 32 := 4#32
  let c0_i32_21 : BitVec 32 := 0#32
  let v50 : BitVec 1 := Scalar.cmpi .eq c4_i32_20 c0_i32_21
  let c1_i32_22 : BitVec 32 := 1#32
  let v51 : BitVec 32 := Scalar.select v50 c1_i32_22 c4_i32_20
  let v52 : BitVec 32 := Scalar.remsi v49 v51
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let c0_i32_23 : BitVec 32 := 0#32
  let v53 : BitVec 1 := Scalar.cmpi .ne v52 c0_i32_23
  let v57 : BitVec 1 := Scalar.andi v56 v53
  let v58 : BitVec 32 := Scalar.addi v52 v51
  let v59 : BitVec 32 := Scalar.select v57 v58 v52
  let v60 : BitVec 32 := Scalar.addi v20 v59
  let c1_i32_2654 : BitVec 32 := 1#32
  let v3393 : BitVec 32 := Scalar.muli v60 c1_i32_2654
  let v3394 : BitVec 32 := Scalar.addi c0_i32_2655 v3393
  v3394.toNat
def k0_dev102 (d0 : Dev nD) : Nat :=
  let c0_i32_2665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32 : BitVec 32 := 2#32
  let v61 : BitVec 32 := Scalar.addi v30 c2_i32
  let c4_i32_26 : BitVec 32 := 4#32
  let c0_i32_27 : BitVec 32 := 0#32
  let v62 : BitVec 1 := Scalar.cmpi .eq c4_i32_26 c0_i32_27
  let c1_i32_28 : BitVec 32 := 1#32
  let v63 : BitVec 32 := Scalar.select v62 c1_i32_28 c4_i32_26
  let v64 : BitVec 32 := Scalar.remsi v61 v63
  let c0_i32_30 : BitVec 32 := 0#32
  let v66 : BitVec 1 := Scalar.cmpi .slt v64 c0_i32_30
  let c0_i32_31 : BitVec 32 := 0#32
  let v67 : BitVec 1 := Scalar.cmpi .slt v63 c0_i32_31
  let v68 : BitVec 1 := Scalar.xori v66 v67
  let c0_i32_29 : BitVec 32 := 0#32
  let v65 : BitVec 1 := Scalar.cmpi .ne v64 c0_i32_29
  let v69 : BitVec 1 := Scalar.andi v68 v65
  let v70 : BitVec 32 := Scalar.addi v64 v63
  let v71 : BitVec 32 := Scalar.select v69 v70 v64
  let v72 : BitVec 32 := Scalar.addi v20 v71
  let c1_i32_2664 : BitVec 32 := 1#32
  let v3405 : BitVec 32 := Scalar.muli v72 c1_i32_2664
  let v3406 : BitVec 32 := Scalar.addi c0_i32_2665 v3405
  v3406.toNat
def k0_dev103 (d0 : Dev nD) : Nat :=
  let c0_i32_2675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32 : BitVec 32 := 3#32
  let v73 : BitVec 32 := Scalar.addi v30 c3_i32
  let c4_i32_32 : BitVec 32 := 4#32
  let c0_i32_33 : BitVec 32 := 0#32
  let v74 : BitVec 1 := Scalar.cmpi .eq c4_i32_32 c0_i32_33
  let c1_i32_34 : BitVec 32 := 1#32
  let v75 : BitVec 32 := Scalar.select v74 c1_i32_34 c4_i32_32
  let v76 : BitVec 32 := Scalar.remsi v73 v75
  let c0_i32_36 : BitVec 32 := 0#32
  let v78 : BitVec 1 := Scalar.cmpi .slt v76 c0_i32_36
  let c0_i32_37 : BitVec 32 := 0#32
  let v79 : BitVec 1 := Scalar.cmpi .slt v75 c0_i32_37
  let v80 : BitVec 1 := Scalar.xori v78 v79
  let c0_i32_35 : BitVec 32 := 0#32
  let v77 : BitVec 1 := Scalar.cmpi .ne v76 c0_i32_35
  let v81 : BitVec 1 := Scalar.andi v80 v77
  let v82 : BitVec 32 := Scalar.addi v76 v75
  let v83 : BitVec 32 := Scalar.select v81 v82 v76
  let v84 : BitVec 32 := Scalar.addi v20 v83
  let c1_i32_2674 : BitVec 32 := 1#32
  let v3417 : BitVec 32 := Scalar.muli v84 c1_i32_2674
  let v3418 : BitVec 32 := Scalar.addi c0_i32_2675 v3417
  v3418.toNat
def k0_dev104 (d0 : Dev nD) : Nat :=
  let c0_i32_2685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_39 : BitVec 32 := 0#32
  let v86 : BitVec 1 := Scalar.cmpi .sgt v2 c0_i32_39
  let v87 : BitVec 32 := Scalar.extui v86
  let c0_i32_40 : BitVec 32 := 0#32
  let v88 : BitVec 1 := Scalar.cmpi .slt v2 c0_i32_40
  let v89 : BitVec 32 := Scalar.extui v88
  let v90 : BitVec 32 := Scalar.subi v87 v89
  let c4_i32_38 : BitVec 32 := 4#32
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v2 c4_i32_38
  let c0_i32_43 : BitVec 32 := 0#32
  let v98 : BitVec 1 := Scalar.cmpi .ne v97 c0_i32_43
  let v99 : BitVec 1 := Scalar.andi v96 v98
  let v85 : BitVec 32 := Scalar.divsi v2 c4_i32_38
  let c1_i32_44 : BitVec 32 := 1#32
  let v100 : BitVec 32 := Scalar.subi v85 c1_i32_44
  let v101 : BitVec 32 := Scalar.select v99 v100 v85
  let c1_i32_45 : BitVec 32 := 1#32
  let v102 : BitVec 32 := Scalar.addi v101 c1_i32_45
  let c8_i32 : BitVec 32 := 8#32
  let c0_i32_46 : BitVec 32 := 0#32
  let v103 : BitVec 1 := Scalar.cmpi .eq c8_i32 c0_i32_46
  let c1_i32_47 : BitVec 32 := 1#32
  let v104 : BitVec 32 := Scalar.select v103 c1_i32_47 c8_i32
  let v105 : BitVec 32 := Scalar.remsi v102 v104
  let c0_i32_49 : BitVec 32 := 0#32
  let v107 : BitVec 1 := Scalar.cmpi .slt v105 c0_i32_49
  let c0_i32_50 : BitVec 32 := 0#32
  let v108 : BitVec 1 := Scalar.cmpi .slt v104 c0_i32_50
  let v109 : BitVec 1 := Scalar.xori v107 v108
  let c0_i32_48 : BitVec 32 := 0#32
  let v106 : BitVec 1 := Scalar.cmpi .ne v105 c0_i32_48
  let v110 : BitVec 1 := Scalar.andi v109 v106
  let v111 : BitVec 32 := Scalar.addi v105 v104
  let v112 : BitVec 32 := Scalar.select v110 v111 v105
  let c4_i32_51 : BitVec 32 := 4#32
  let v113 : BitVec 32 := Scalar.muli v112 c4_i32_51
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_52 : BitVec 32 := 0#32
  let v114 : BitVec 32 := Scalar.addi v30 c0_i32_52
  let c4_i32_53 : BitVec 32 := 4#32
  let c0_i32_54 : BitVec 32 := 0#32
  let v115 : BitVec 1 := Scalar.cmpi .eq c4_i32_53 c0_i32_54
  let c1_i32_55 : BitVec 32 := 1#32
  let v116 : BitVec 32 := Scalar.select v115 c1_i32_55 c4_i32_53
  let v117 : BitVec 32 := Scalar.remsi v114 v116
  let c0_i32_57 : BitVec 32 := 0#32
  let v119 : BitVec 1 := Scalar.cmpi .slt v117 c0_i32_57
  let c0_i32_58 : BitVec 32 := 0#32
  let v120 : BitVec 1 := Scalar.cmpi .slt v116 c0_i32_58
  let v121 : BitVec 1 := Scalar.xori v119 v120
  let c0_i32_56 : BitVec 32 := 0#32
  let v118 : BitVec 1 := Scalar.cmpi .ne v117 c0_i32_56
  let v122 : BitVec 1 := Scalar.andi v121 v118
  let v123 : BitVec 32 := Scalar.addi v117 v116
  let v124 : BitVec 32 := Scalar.select v122 v123 v117
  let v125 : BitVec 32 := Scalar.addi v113 v124
  let c1_i32_2684 : BitVec 32 := 1#32
  let v3429 : BitVec 32 := Scalar.muli v125 c1_i32_2684
  let v3430 : BitVec 32 := Scalar.addi c0_i32_2685 v3429
  v3430.toNat
def k0_dev105 (d0 : Dev nD) : Nat :=
  let c0_i32_2695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_60 : BitVec 32 := 0#32
  let v127 : BitVec 1 := Scalar.cmpi .sgt v2 c0_i32_60
  let v128 : BitVec 32 := Scalar.extui v127
  let c0_i32_61 : BitVec 32 := 0#32
  let v129 : BitVec 1 := Scalar.cmpi .slt v2 c0_i32_61
  let v130 : BitVec 32 := Scalar.extui v129
  let v131 : BitVec 32 := Scalar.subi v128 v130
  let c4_i32_59 : BitVec 32 := 4#32
  let c0_i32_62 : BitVec 32 := 0#32
  let v132 : BitVec 1 := Scalar.cmpi .sgt c4_i32_59 c0_i32_62
  let v133 : BitVec 32 := Scalar.extui v132
  let c0_i32_63 : BitVec 32 := 0#32
  let v134 : BitVec 1 := Scalar.cmpi .slt c4_i32_59 c0_i32_63
  let v135 : BitVec 32 := Scalar.extui v134
  let v136 : BitVec 32 := Scalar.subi v133 v135
  let v137 : BitVec 1 := Scalar.cmpi .ne v131 v136
  let v138 : BitVec 32 := Scalar.remsi v2 c4_i32_59
  let c0_i32_64 : BitVec 32 := 0#32
  let v139 : BitVec 1 := Scalar.cmpi .ne v138 c0_i32_64
  let v140 : BitVec 1 := Scalar.andi v137 v139
  let v126 : BitVec 32 := Scalar.divsi v2 c4_i32_59
  let c1_i32_65 : BitVec 32 := 1#32
  let v141 : BitVec 32 := Scalar.subi v126 c1_i32_65
  let v142 : BitVec 32 := Scalar.select v140 v141 v126
  let c1_i32_66 : BitVec 32 := 1#32
  let v143 : BitVec 32 := Scalar.addi v142 c1_i32_66
  let c8_i32_67 : BitVec 32 := 8#32
  let c0_i32_68 : BitVec 32 := 0#32
  let v144 : BitVec 1 := Scalar.cmpi .eq c8_i32_67 c0_i32_68
  let c1_i32_69 : BitVec 32 := 1#32
  let v145 : BitVec 32 := Scalar.select v144 c1_i32_69 c8_i32_67
  let v146 : BitVec 32 := Scalar.remsi v143 v145
  let c0_i32_71 : BitVec 32 := 0#32
  let v148 : BitVec 1 := Scalar.cmpi .slt v146 c0_i32_71
  let c0_i32_72 : BitVec 32 := 0#32
  let v149 : BitVec 1 := Scalar.cmpi .slt v145 c0_i32_72
  let v150 : BitVec 1 := Scalar.xori v148 v149
  let c0_i32_70 : BitVec 32 := 0#32
  let v147 : BitVec 1 := Scalar.cmpi .ne v146 c0_i32_70
  let v151 : BitVec 1 := Scalar.andi v150 v147
  let v152 : BitVec 32 := Scalar.addi v146 v145
  let v153 : BitVec 32 := Scalar.select v151 v152 v146
  let c4_i32_73 : BitVec 32 := 4#32
  let v154 : BitVec 32 := Scalar.muli v153 c4_i32_73
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_74 : BitVec 32 := 1#32
  let v155 : BitVec 32 := Scalar.addi v30 c1_i32_74
  let c4_i32_75 : BitVec 32 := 4#32
  let c0_i32_76 : BitVec 32 := 0#32
  let v156 : BitVec 1 := Scalar.cmpi .eq c4_i32_75 c0_i32_76
  let c1_i32_77 : BitVec 32 := 1#32
  let v157 : BitVec 32 := Scalar.select v156 c1_i32_77 c4_i32_75
  let v158 : BitVec 32 := Scalar.remsi v155 v157
  let c0_i32_79 : BitVec 32 := 0#32
  let v160 : BitVec 1 := Scalar.cmpi .slt v158 c0_i32_79
  let c0_i32_80 : BitVec 32 := 0#32
  let v161 : BitVec 1 := Scalar.cmpi .slt v157 c0_i32_80
  let v162 : BitVec 1 := Scalar.xori v160 v161
  let c0_i32_78 : BitVec 32 := 0#32
  let v159 : BitVec 1 := Scalar.cmpi .ne v158 c0_i32_78
  let v163 : BitVec 1 := Scalar.andi v162 v159
  let v164 : BitVec 32 := Scalar.addi v158 v157
  let v165 : BitVec 32 := Scalar.select v163 v164 v158
  let v166 : BitVec 32 := Scalar.addi v154 v165
  let c1_i32_2694 : BitVec 32 := 1#32
  let v3441 : BitVec 32 := Scalar.muli v166 c1_i32_2694
  let v3442 : BitVec 32 := Scalar.addi c0_i32_2695 v3441
  v3442.toNat
def k0_dev106 (d0 : Dev nD) : Nat :=
  let c0_i32_2705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_82 : BitVec 32 := 0#32
  let v168 : BitVec 1 := Scalar.cmpi .sgt v2 c0_i32_82
  let v169 : BitVec 32 := Scalar.extui v168
  let c0_i32_83 : BitVec 32 := 0#32
  let v170 : BitVec 1 := Scalar.cmpi .slt v2 c0_i32_83
  let v171 : BitVec 32 := Scalar.extui v170
  let v172 : BitVec 32 := Scalar.subi v169 v171
  let c4_i32_81 : BitVec 32 := 4#32
  let c0_i32_84 : BitVec 32 := 0#32
  let v173 : BitVec 1 := Scalar.cmpi .sgt c4_i32_81 c0_i32_84
  let v174 : BitVec 32 := Scalar.extui v173
  let c0_i32_85 : BitVec 32 := 0#32
  let v175 : BitVec 1 := Scalar.cmpi .slt c4_i32_81 c0_i32_85
  let v176 : BitVec 32 := Scalar.extui v175
  let v177 : BitVec 32 := Scalar.subi v174 v176
  let v178 : BitVec 1 := Scalar.cmpi .ne v172 v177
  let v179 : BitVec 32 := Scalar.remsi v2 c4_i32_81
  let c0_i32_86 : BitVec 32 := 0#32
  let v180 : BitVec 1 := Scalar.cmpi .ne v179 c0_i32_86
  let v181 : BitVec 1 := Scalar.andi v178 v180
  let v167 : BitVec 32 := Scalar.divsi v2 c4_i32_81
  let c1_i32_87 : BitVec 32 := 1#32
  let v182 : BitVec 32 := Scalar.subi v167 c1_i32_87
  let v183 : BitVec 32 := Scalar.select v181 v182 v167
  let c1_i32_88 : BitVec 32 := 1#32
  let v184 : BitVec 32 := Scalar.addi v183 c1_i32_88
  let c8_i32_89 : BitVec 32 := 8#32
  let c0_i32_90 : BitVec 32 := 0#32
  let v185 : BitVec 1 := Scalar.cmpi .eq c8_i32_89 c0_i32_90
  let c1_i32_91 : BitVec 32 := 1#32
  let v186 : BitVec 32 := Scalar.select v185 c1_i32_91 c8_i32_89
  let v187 : BitVec 32 := Scalar.remsi v184 v186
  let c0_i32_93 : BitVec 32 := 0#32
  let v189 : BitVec 1 := Scalar.cmpi .slt v187 c0_i32_93
  let c0_i32_94 : BitVec 32 := 0#32
  let v190 : BitVec 1 := Scalar.cmpi .slt v186 c0_i32_94
  let v191 : BitVec 1 := Scalar.xori v189 v190
  let c0_i32_92 : BitVec 32 := 0#32
  let v188 : BitVec 1 := Scalar.cmpi .ne v187 c0_i32_92
  let v192 : BitVec 1 := Scalar.andi v191 v188
  let v193 : BitVec 32 := Scalar.addi v187 v186
  let v194 : BitVec 32 := Scalar.select v192 v193 v187
  let c4_i32_95 : BitVec 32 := 4#32
  let v195 : BitVec 32 := Scalar.muli v194 c4_i32_95
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_96 : BitVec 32 := 2#32
  let v196 : BitVec 32 := Scalar.addi v30 c2_i32_96
  let c4_i32_97 : BitVec 32 := 4#32
  let c0_i32_98 : BitVec 32 := 0#32
  let v197 : BitVec 1 := Scalar.cmpi .eq c4_i32_97 c0_i32_98
  let c1_i32_99 : BitVec 32 := 1#32
  let v198 : BitVec 32 := Scalar.select v197 c1_i32_99 c4_i32_97
  let v199 : BitVec 32 := Scalar.remsi v196 v198
  let c0_i32_101 : BitVec 32 := 0#32
  let v201 : BitVec 1 := Scalar.cmpi .slt v199 c0_i32_101
  let c0_i32_102 : BitVec 32 := 0#32
  let v202 : BitVec 1 := Scalar.cmpi .slt v198 c0_i32_102
  let v203 : BitVec 1 := Scalar.xori v201 v202
  let c0_i32_100 : BitVec 32 := 0#32
  let v200 : BitVec 1 := Scalar.cmpi .ne v199 c0_i32_100
  let v204 : BitVec 1 := Scalar.andi v203 v200
  let v205 : BitVec 32 := Scalar.addi v199 v198
  let v206 : BitVec 32 := Scalar.select v204 v205 v199
  let v207 : BitVec 32 := Scalar.addi v195 v206
  let c1_i32_2704 : BitVec 32 := 1#32
  let v3453 : BitVec 32 := Scalar.muli v207 c1_i32_2704
  let v3454 : BitVec 32 := Scalar.addi c0_i32_2705 v3453
  v3454.toNat
def k0_dev107 (d0 : Dev nD) : Nat :=
  let c0_i32_2715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_104 : BitVec 32 := 0#32
  let v209 : BitVec 1 := Scalar.cmpi .sgt v2 c0_i32_104
  let v210 : BitVec 32 := Scalar.extui v209
  let c0_i32_105 : BitVec 32 := 0#32
  let v211 : BitVec 1 := Scalar.cmpi .slt v2 c0_i32_105
  let v212 : BitVec 32 := Scalar.extui v211
  let v213 : BitVec 32 := Scalar.subi v210 v212
  let c4_i32_103 : BitVec 32 := 4#32
  let c0_i32_106 : BitVec 32 := 0#32
  let v214 : BitVec 1 := Scalar.cmpi .sgt c4_i32_103 c0_i32_106
  let v215 : BitVec 32 := Scalar.extui v214
  let c0_i32_107 : BitVec 32 := 0#32
  let v216 : BitVec 1 := Scalar.cmpi .slt c4_i32_103 c0_i32_107
  let v217 : BitVec 32 := Scalar.extui v216
  let v218 : BitVec 32 := Scalar.subi v215 v217
  let v219 : BitVec 1 := Scalar.cmpi .ne v213 v218
  let v220 : BitVec 32 := Scalar.remsi v2 c4_i32_103
  let c0_i32_108 : BitVec 32 := 0#32
  let v221 : BitVec 1 := Scalar.cmpi .ne v220 c0_i32_108
  let v222 : BitVec 1 := Scalar.andi v219 v221
  let v208 : BitVec 32 := Scalar.divsi v2 c4_i32_103
  let c1_i32_109 : BitVec 32 := 1#32
  let v223 : BitVec 32 := Scalar.subi v208 c1_i32_109
  let v224 : BitVec 32 := Scalar.select v222 v223 v208
  let c1_i32_110 : BitVec 32 := 1#32
  let v225 : BitVec 32 := Scalar.addi v224 c1_i32_110
  let c8_i32_111 : BitVec 32 := 8#32
  let c0_i32_112 : BitVec 32 := 0#32
  let v226 : BitVec 1 := Scalar.cmpi .eq c8_i32_111 c0_i32_112
  let c1_i32_113 : BitVec 32 := 1#32
  let v227 : BitVec 32 := Scalar.select v226 c1_i32_113 c8_i32_111
  let v228 : BitVec 32 := Scalar.remsi v225 v227
  let c0_i32_115 : BitVec 32 := 0#32
  let v230 : BitVec 1 := Scalar.cmpi .slt v228 c0_i32_115
  let c0_i32_116 : BitVec 32 := 0#32
  let v231 : BitVec 1 := Scalar.cmpi .slt v227 c0_i32_116
  let v232 : BitVec 1 := Scalar.xori v230 v231
  let c0_i32_114 : BitVec 32 := 0#32
  let v229 : BitVec 1 := Scalar.cmpi .ne v228 c0_i32_114
  let v233 : BitVec 1 := Scalar.andi v232 v229
  let v234 : BitVec 32 := Scalar.addi v228 v227
  let v235 : BitVec 32 := Scalar.select v233 v234 v228
  let c4_i32_117 : BitVec 32 := 4#32
  let v236 : BitVec 32 := Scalar.muli v235 c4_i32_117
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_118 : BitVec 32 := 3#32
  let v237 : BitVec 32 := Scalar.addi v30 c3_i32_118
  let c4_i32_119 : BitVec 32 := 4#32
  let c0_i32_120 : BitVec 32 := 0#32
  let v238 : BitVec 1 := Scalar.cmpi .eq c4_i32_119 c0_i32_120
  let c1_i32_121 : BitVec 32 := 1#32
  let v239 : BitVec 32 := Scalar.select v238 c1_i32_121 c4_i32_119
  let v240 : BitVec 32 := Scalar.remsi v237 v239
  let c0_i32_123 : BitVec 32 := 0#32
  let v242 : BitVec 1 := Scalar.cmpi .slt v240 c0_i32_123
  let c0_i32_124 : BitVec 32 := 0#32
  let v243 : BitVec 1 := Scalar.cmpi .slt v239 c0_i32_124
  let v244 : BitVec 1 := Scalar.xori v242 v243
  let c0_i32_122 : BitVec 32 := 0#32
  let v241 : BitVec 1 := Scalar.cmpi .ne v240 c0_i32_122
  let v245 : BitVec 1 := Scalar.andi v244 v241
  let v246 : BitVec 32 := Scalar.addi v240 v239
  let v247 : BitVec 32 := Scalar.select v245 v246 v240
  let v248 : BitVec 32 := Scalar.addi v236 v247
  let c1_i32_2714 : BitVec 32 := 1#32
  let v3465 : BitVec 32 := Scalar.muli v248 c1_i32_2714
  let v3466 : BitVec 32 := Scalar.addi c0_i32_2715 v3465
  v3466.toNat
def k0_dev108 (d0 : Dev nD) : Nat :=
  let c0_i32_2725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_126 : BitVec 32 := 0#32
  let v250 : BitVec 1 := Scalar.cmpi .sgt v2 c0_i32_126
  let v251 : BitVec 32 := Scalar.extui v250
  let c0_i32_127 : BitVec 32 := 0#32
  let v252 : BitVec 1 := Scalar.cmpi .slt v2 c0_i32_127
  let v253 : BitVec 32 := Scalar.extui v252
  let v254 : BitVec 32 := Scalar.subi v251 v253
  let c4_i32_125 : BitVec 32 := 4#32
  let c0_i32_128 : BitVec 32 := 0#32
  let v255 : BitVec 1 := Scalar.cmpi .sgt c4_i32_125 c0_i32_128
  let v256 : BitVec 32 := Scalar.extui v255
  let c0_i32_129 : BitVec 32 := 0#32
  let v257 : BitVec 1 := Scalar.cmpi .slt c4_i32_125 c0_i32_129
  let v258 : BitVec 32 := Scalar.extui v257
  let v259 : BitVec 32 := Scalar.subi v256 v258
  let v260 : BitVec 1 := Scalar.cmpi .ne v254 v259
  let v261 : BitVec 32 := Scalar.remsi v2 c4_i32_125
  let c0_i32_130 : BitVec 32 := 0#32
  let v262 : BitVec 1 := Scalar.cmpi .ne v261 c0_i32_130
  let v263 : BitVec 1 := Scalar.andi v260 v262
  let v249 : BitVec 32 := Scalar.divsi v2 c4_i32_125
  let c1_i32_131 : BitVec 32 := 1#32
  let v264 : BitVec 32 := Scalar.subi v249 c1_i32_131
  let v265 : BitVec 32 := Scalar.select v263 v264 v249
  let c2_i32_132 : BitVec 32 := 2#32
  let v266 : BitVec 32 := Scalar.addi v265 c2_i32_132
  let c8_i32_133 : BitVec 32 := 8#32
  let c0_i32_134 : BitVec 32 := 0#32
  let v267 : BitVec 1 := Scalar.cmpi .eq c8_i32_133 c0_i32_134
  let c1_i32_135 : BitVec 32 := 1#32
  let v268 : BitVec 32 := Scalar.select v267 c1_i32_135 c8_i32_133
  let v269 : BitVec 32 := Scalar.remsi v266 v268
  let c0_i32_137 : BitVec 32 := 0#32
  let v271 : BitVec 1 := Scalar.cmpi .slt v269 c0_i32_137
  let c0_i32_138 : BitVec 32 := 0#32
  let v272 : BitVec 1 := Scalar.cmpi .slt v268 c0_i32_138
  let v273 : BitVec 1 := Scalar.xori v271 v272
  let c0_i32_136 : BitVec 32 := 0#32
  let v270 : BitVec 1 := Scalar.cmpi .ne v269 c0_i32_136
  let v274 : BitVec 1 := Scalar.andi v273 v270
  let v275 : BitVec 32 := Scalar.addi v269 v268
  let v276 : BitVec 32 := Scalar.select v274 v275 v269
  let c4_i32_139 : BitVec 32 := 4#32
  let v277 : BitVec 32 := Scalar.muli v276 c4_i32_139
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_140 : BitVec 32 := 0#32
  let v278 : BitVec 32 := Scalar.addi v30 c0_i32_140
  let c4_i32_141 : BitVec 32 := 4#32
  let c0_i32_142 : BitVec 32 := 0#32
  let v279 : BitVec 1 := Scalar.cmpi .eq c4_i32_141 c0_i32_142
  let c1_i32_143 : BitVec 32 := 1#32
  let v280 : BitVec 32 := Scalar.select v279 c1_i32_143 c4_i32_141
  let v281 : BitVec 32 := Scalar.remsi v278 v280
  let c0_i32_145 : BitVec 32 := 0#32
  let v283 : BitVec 1 := Scalar.cmpi .slt v281 c0_i32_145
  let c0_i32_146 : BitVec 32 := 0#32
  let v284 : BitVec 1 := Scalar.cmpi .slt v280 c0_i32_146
  let v285 : BitVec 1 := Scalar.xori v283 v284
  let c0_i32_144 : BitVec 32 := 0#32
  let v282 : BitVec 1 := Scalar.cmpi .ne v281 c0_i32_144
  let v286 : BitVec 1 := Scalar.andi v285 v282
  let v287 : BitVec 32 := Scalar.addi v281 v280
  let v288 : BitVec 32 := Scalar.select v286 v287 v281
  let v289 : BitVec 32 := Scalar.addi v277 v288
  let c1_i32_2724 : BitVec 32 := 1#32
  let v3477 : BitVec 32 := Scalar.muli v289 c1_i32_2724
  let v3478 : BitVec 32 := Scalar.addi c0_i32_2725 v3477
  v3478.toNat
def k0_dev109 (d0 : Dev nD) : Nat :=
  let c0_i32_2735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v291 : BitVec 1 := Scalar.cmpi .sgt v2 c0_i32_148
  let v292 : BitVec 32 := Scalar.extui v291
  let c0_i32_149 : BitVec 32 := 0#32
  let v293 : BitVec 1 := Scalar.cmpi .slt v2 c0_i32_149
  let v294 : BitVec 32 := Scalar.extui v293
  let v295 : BitVec 32 := Scalar.subi v292 v294
  let c4_i32_147 : BitVec 32 := 4#32
  let c0_i32_150 : BitVec 32 := 0#32
  let v296 : BitVec 1 := Scalar.cmpi .sgt c4_i32_147 c0_i32_150
  let v297 : BitVec 32 := Scalar.extui v296
  let c0_i32_151 : BitVec 32 := 0#32
  let v298 : BitVec 1 := Scalar.cmpi .slt c4_i32_147 c0_i32_151
  let v299 : BitVec 32 := Scalar.extui v298
  let v300 : BitVec 32 := Scalar.subi v297 v299
  let v301 : BitVec 1 := Scalar.cmpi .ne v295 v300
  let v302 : BitVec 32 := Scalar.remsi v2 c4_i32_147
  let c0_i32_152 : BitVec 32 := 0#32
  let v303 : BitVec 1 := Scalar.cmpi .ne v302 c0_i32_152
  let v304 : BitVec 1 := Scalar.andi v301 v303
  let v290 : BitVec 32 := Scalar.divsi v2 c4_i32_147
  let c1_i32_153 : BitVec 32 := 1#32
  let v305 : BitVec 32 := Scalar.subi v290 c1_i32_153
  let v306 : BitVec 32 := Scalar.select v304 v305 v290
  let c2_i32_154 : BitVec 32 := 2#32
  let v307 : BitVec 32 := Scalar.addi v306 c2_i32_154
  let c8_i32_155 : BitVec 32 := 8#32
  let c0_i32_156 : BitVec 32 := 0#32
  let v308 : BitVec 1 := Scalar.cmpi .eq c8_i32_155 c0_i32_156
  let c1_i32_157 : BitVec 32 := 1#32
  let v309 : BitVec 32 := Scalar.select v308 c1_i32_157 c8_i32_155
  let v310 : BitVec 32 := Scalar.remsi v307 v309
  let c0_i32_159 : BitVec 32 := 0#32
  let v312 : BitVec 1 := Scalar.cmpi .slt v310 c0_i32_159
  let c0_i32_160 : BitVec 32 := 0#32
  let v313 : BitVec 1 := Scalar.cmpi .slt v309 c0_i32_160
  let v314 : BitVec 1 := Scalar.xori v312 v313
  let c0_i32_158 : BitVec 32 := 0#32
  let v311 : BitVec 1 := Scalar.cmpi .ne v310 c0_i32_158
  let v315 : BitVec 1 := Scalar.andi v314 v311
  let v316 : BitVec 32 := Scalar.addi v310 v309
  let v317 : BitVec 32 := Scalar.select v315 v316 v310
  let c4_i32_161 : BitVec 32 := 4#32
  let v318 : BitVec 32 := Scalar.muli v317 c4_i32_161
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_162 : BitVec 32 := 1#32
  let v319 : BitVec 32 := Scalar.addi v30 c1_i32_162
  let c4_i32_163 : BitVec 32 := 4#32
  let c0_i32_164 : BitVec 32 := 0#32
  let v320 : BitVec 1 := Scalar.cmpi .eq c4_i32_163 c0_i32_164
  let c1_i32_165 : BitVec 32 := 1#32
  let v321 : BitVec 32 := Scalar.select v320 c1_i32_165 c4_i32_163
  let v322 : BitVec 32 := Scalar.remsi v319 v321
  let c0_i32_167 : BitVec 32 := 0#32
  let v324 : BitVec 1 := Scalar.cmpi .slt v322 c0_i32_167
  let c0_i32_168 : BitVec 32 := 0#32
  let v325 : BitVec 1 := Scalar.cmpi .slt v321 c0_i32_168
  let v326 : BitVec 1 := Scalar.xori v324 v325
  let c0_i32_166 : BitVec 32 := 0#32
  let v323 : BitVec 1 := Scalar.cmpi .ne v322 c0_i32_166
  let v327 : BitVec 1 := Scalar.andi v326 v323
  let v328 : BitVec 32 := Scalar.addi v322 v321
  let v329 : BitVec 32 := Scalar.select v327 v328 v322
  let v330 : BitVec 32 := Scalar.addi v318 v329
  let c1_i32_2734 : BitVec 32 := 1#32
  let v3489 : BitVec 32 := Scalar.muli v330 c1_i32_2734
  let v3490 : BitVec 32 := Scalar.addi c0_i32_2735 v3489
  v3490.toNat
def k0_dev110 (d0 : Dev nD) : Nat :=
  let c0_i32_2745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_170 : BitVec 32 := 0#32
  let v332 : BitVec 1 := Scalar.cmpi .sgt v2 c0_i32_170
  let v333 : BitVec 32 := Scalar.extui v332
  let c0_i32_171 : BitVec 32 := 0#32
  let v334 : BitVec 1 := Scalar.cmpi .slt v2 c0_i32_171
  let v335 : BitVec 32 := Scalar.extui v334
  let v336 : BitVec 32 := Scalar.subi v333 v335
  let c4_i32_169 : BitVec 32 := 4#32
  let c0_i32_172 : BitVec 32 := 0#32
  let v337 : BitVec 1 := Scalar.cmpi .sgt c4_i32_169 c0_i32_172
  let v338 : BitVec 32 := Scalar.extui v337
  let c0_i32_173 : BitVec 32 := 0#32
  let v339 : BitVec 1 := Scalar.cmpi .slt c4_i32_169 c0_i32_173
  let v340 : BitVec 32 := Scalar.extui v339
  let v341 : BitVec 32 := Scalar.subi v338 v340
  let v342 : BitVec 1 := Scalar.cmpi .ne v336 v341
  let v343 : BitVec 32 := Scalar.remsi v2 c4_i32_169
  let c0_i32_174 : BitVec 32 := 0#32
  let v344 : BitVec 1 := Scalar.cmpi .ne v343 c0_i32_174
  let v345 : BitVec 1 := Scalar.andi v342 v344
  let v331 : BitVec 32 := Scalar.divsi v2 c4_i32_169
  let c1_i32_175 : BitVec 32 := 1#32
  let v346 : BitVec 32 := Scalar.subi v331 c1_i32_175
  let v347 : BitVec 32 := Scalar.select v345 v346 v331
  let c2_i32_176 : BitVec 32 := 2#32
  let v348 : BitVec 32 := Scalar.addi v347 c2_i32_176
  let c8_i32_177 : BitVec 32 := 8#32
  let c0_i32_178 : BitVec 32 := 0#32
  let v349 : BitVec 1 := Scalar.cmpi .eq c8_i32_177 c0_i32_178
  let c1_i32_179 : BitVec 32 := 1#32
  let v350 : BitVec 32 := Scalar.select v349 c1_i32_179 c8_i32_177
  let v351 : BitVec 32 := Scalar.remsi v348 v350
  let c0_i32_181 : BitVec 32 := 0#32
  let v353 : BitVec 1 := Scalar.cmpi .slt v351 c0_i32_181
  let c0_i32_182 : BitVec 32 := 0#32
  let v354 : BitVec 1 := Scalar.cmpi .slt v350 c0_i32_182
  let v355 : BitVec 1 := Scalar.xori v353 v354
  let c0_i32_180 : BitVec 32 := 0#32
  let v352 : BitVec 1 := Scalar.cmpi .ne v351 c0_i32_180
  let v356 : BitVec 1 := Scalar.andi v355 v352
  let v357 : BitVec 32 := Scalar.addi v351 v350
  let v358 : BitVec 32 := Scalar.select v356 v357 v351
  let c4_i32_183 : BitVec 32 := 4#32
  let v359 : BitVec 32 := Scalar.muli v358 c4_i32_183
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_184 : BitVec 32 := 2#32
  let v360 : BitVec 32 := Scalar.addi v30 c2_i32_184
  let c4_i32_185 : BitVec 32 := 4#32
  let c0_i32_186 : BitVec 32 := 0#32
  let v361 : BitVec 1 := Scalar.cmpi .eq c4_i32_185 c0_i32_186
  let c1_i32_187 : BitVec 32 := 1#32
  let v362 : BitVec 32 := Scalar.select v361 c1_i32_187 c4_i32_185
  let v363 : BitVec 32 := Scalar.remsi v360 v362
  let c0_i32_189 : BitVec 32 := 0#32
  let v365 : BitVec 1 := Scalar.cmpi .slt v363 c0_i32_189
  let c0_i32_190 : BitVec 32 := 0#32
  let v366 : BitVec 1 := Scalar.cmpi .slt v362 c0_i32_190
  let v367 : BitVec 1 := Scalar.xori v365 v366
  let c0_i32_188 : BitVec 32 := 0#32
  let v364 : BitVec 1 := Scalar.cmpi .ne v363 c0_i32_188
  let v368 : BitVec 1 := Scalar.andi v367 v364
  let v369 : BitVec 32 := Scalar.addi v363 v362
  let v370 : BitVec 32 := Scalar.select v368 v369 v363
  let v371 : BitVec 32 := Scalar.addi v359 v370
  let c1_i32_2744 : BitVec 32 := 1#32
  let v3501 : BitVec 32 := Scalar.muli v371 c1_i32_2744
  let v3502 : BitVec 32 := Scalar.addi c0_i32_2745 v3501
  v3502.toNat
def k0_dev111 (d0 : Dev nD) : Nat :=
  let c0_i32_2755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_192 : BitVec 32 := 0#32
  let v373 : BitVec 1 := Scalar.cmpi .sgt v2 c0_i32_192
  let v374 : BitVec 32 := Scalar.extui v373
  let c0_i32_193 : BitVec 32 := 0#32
  let v375 : BitVec 1 := Scalar.cmpi .slt v2 c0_i32_193
  let v376 : BitVec 32 := Scalar.extui v375
  let v377 : BitVec 32 := Scalar.subi v374 v376
  let c4_i32_191 : BitVec 32 := 4#32
  let c0_i32_194 : BitVec 32 := 0#32
  let v378 : BitVec 1 := Scalar.cmpi .sgt c4_i32_191 c0_i32_194
  let v379 : BitVec 32 := Scalar.extui v378
  let c0_i32_195 : BitVec 32 := 0#32
  let v380 : BitVec 1 := Scalar.cmpi .slt c4_i32_191 c0_i32_195
  let v381 : BitVec 32 := Scalar.extui v380
  let v382 : BitVec 32 := Scalar.subi v379 v381
  let v383 : BitVec 1 := Scalar.cmpi .ne v377 v382
  let v384 : BitVec 32 := Scalar.remsi v2 c4_i32_191
  let c0_i32_196 : BitVec 32 := 0#32
  let v385 : BitVec 1 := Scalar.cmpi .ne v384 c0_i32_196
  let v386 : BitVec 1 := Scalar.andi v383 v385
  let v372 : BitVec 32 := Scalar.divsi v2 c4_i32_191
  let c1_i32_197 : BitVec 32 := 1#32
  let v387 : BitVec 32 := Scalar.subi v372 c1_i32_197
  let v388 : BitVec 32 := Scalar.select v386 v387 v372
  let c2_i32_198 : BitVec 32 := 2#32
  let v389 : BitVec 32 := Scalar.addi v388 c2_i32_198
  let c8_i32_199 : BitVec 32 := 8#32
  let c0_i32_200 : BitVec 32 := 0#32
  let v390 : BitVec 1 := Scalar.cmpi .eq c8_i32_199 c0_i32_200
  let c1_i32_201 : BitVec 32 := 1#32
  let v391 : BitVec 32 := Scalar.select v390 c1_i32_201 c8_i32_199
  let v392 : BitVec 32 := Scalar.remsi v389 v391
  let c0_i32_203 : BitVec 32 := 0#32
  let v394 : BitVec 1 := Scalar.cmpi .slt v392 c0_i32_203
  let c0_i32_204 : BitVec 32 := 0#32
  let v395 : BitVec 1 := Scalar.cmpi .slt v391 c0_i32_204
  let v396 : BitVec 1 := Scalar.xori v394 v395
  let c0_i32_202 : BitVec 32 := 0#32
  let v393 : BitVec 1 := Scalar.cmpi .ne v392 c0_i32_202
  let v397 : BitVec 1 := Scalar.andi v396 v393
  let v398 : BitVec 32 := Scalar.addi v392 v391
  let v399 : BitVec 32 := Scalar.select v397 v398 v392
  let c4_i32_205 : BitVec 32 := 4#32
  let v400 : BitVec 32 := Scalar.muli v399 c4_i32_205
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_206 : BitVec 32 := 3#32
  let v401 : BitVec 32 := Scalar.addi v30 c3_i32_206
  let c4_i32_207 : BitVec 32 := 4#32
  let c0_i32_208 : BitVec 32 := 0#32
  let v402 : BitVec 1 := Scalar.cmpi .eq c4_i32_207 c0_i32_208
  let c1_i32_209 : BitVec 32 := 1#32
  let v403 : BitVec 32 := Scalar.select v402 c1_i32_209 c4_i32_207
  let v404 : BitVec 32 := Scalar.remsi v401 v403
  let c0_i32_211 : BitVec 32 := 0#32
  let v406 : BitVec 1 := Scalar.cmpi .slt v404 c0_i32_211
  let c0_i32_212 : BitVec 32 := 0#32
  let v407 : BitVec 1 := Scalar.cmpi .slt v403 c0_i32_212
  let v408 : BitVec 1 := Scalar.xori v406 v407
  let c0_i32_210 : BitVec 32 := 0#32
  let v405 : BitVec 1 := Scalar.cmpi .ne v404 c0_i32_210
  let v409 : BitVec 1 := Scalar.andi v408 v405
  let v410 : BitVec 32 := Scalar.addi v404 v403
  let v411 : BitVec 32 := Scalar.select v409 v410 v404
  let v412 : BitVec 32 := Scalar.addi v400 v411
  let c1_i32_2754 : BitVec 32 := 1#32
  let v3513 : BitVec 32 := Scalar.muli v412 c1_i32_2754
  let v3514 : BitVec 32 := Scalar.addi c0_i32_2755 v3513
  v3514.toNat
def k0_dev112 (d0 : Dev nD) : Nat :=
  let c0_i32_2765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_214 : BitVec 32 := 0#32
  let v414 : BitVec 1 := Scalar.cmpi .sgt v2 c0_i32_214
  let v415 : BitVec 32 := Scalar.extui v414
  let c0_i32_215 : BitVec 32 := 0#32
  let v416 : BitVec 1 := Scalar.cmpi .slt v2 c0_i32_215
  let v417 : BitVec 32 := Scalar.extui v416
  let v418 : BitVec 32 := Scalar.subi v415 v417
  let c4_i32_213 : BitVec 32 := 4#32
  let c0_i32_216 : BitVec 32 := 0#32
  let v419 : BitVec 1 := Scalar.cmpi .sgt c4_i32_213 c0_i32_216
  let v420 : BitVec 32 := Scalar.extui v419
  let c0_i32_217 : BitVec 32 := 0#32
  let v421 : BitVec 1 := Scalar.cmpi .slt c4_i32_213 c0_i32_217
  let v422 : BitVec 32 := Scalar.extui v421
  let v423 : BitVec 32 := Scalar.subi v420 v422
  let v424 : BitVec 1 := Scalar.cmpi .ne v418 v423
  let v425 : BitVec 32 := Scalar.remsi v2 c4_i32_213
  let c0_i32_218 : BitVec 32 := 0#32
  let v426 : BitVec 1 := Scalar.cmpi .ne v425 c0_i32_218
  let v427 : BitVec 1 := Scalar.andi v424 v426
  let v413 : BitVec 32 := Scalar.divsi v2 c4_i32_213
  let c1_i32_219 : BitVec 32 := 1#32
  let v428 : BitVec 32 := Scalar.subi v413 c1_i32_219
  let v429 : BitVec 32 := Scalar.select v427 v428 v413
  let c3_i32_220 : BitVec 32 := 3#32
  let v430 : BitVec 32 := Scalar.addi v429 c3_i32_220
  let c8_i32_221 : BitVec 32 := 8#32
  let c0_i32_222 : BitVec 32 := 0#32
  let v431 : BitVec 1 := Scalar.cmpi .eq c8_i32_221 c0_i32_222
  let c1_i32_223 : BitVec 32 := 1#32
  let v432 : BitVec 32 := Scalar.select v431 c1_i32_223 c8_i32_221
  let v433 : BitVec 32 := Scalar.remsi v430 v432
  let c0_i32_225 : BitVec 32 := 0#32
  let v435 : BitVec 1 := Scalar.cmpi .slt v433 c0_i32_225
  let c0_i32_226 : BitVec 32 := 0#32
  let v436 : BitVec 1 := Scalar.cmpi .slt v432 c0_i32_226
  let v437 : BitVec 1 := Scalar.xori v435 v436
  let c0_i32_224 : BitVec 32 := 0#32
  let v434 : BitVec 1 := Scalar.cmpi .ne v433 c0_i32_224
  let v438 : BitVec 1 := Scalar.andi v437 v434
  let v439 : BitVec 32 := Scalar.addi v433 v432
  let v440 : BitVec 32 := Scalar.select v438 v439 v433
  let c4_i32_227 : BitVec 32 := 4#32
  let v441 : BitVec 32 := Scalar.muli v440 c4_i32_227
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_228 : BitVec 32 := 0#32
  let v442 : BitVec 32 := Scalar.addi v30 c0_i32_228
  let c4_i32_229 : BitVec 32 := 4#32
  let c0_i32_230 : BitVec 32 := 0#32
  let v443 : BitVec 1 := Scalar.cmpi .eq c4_i32_229 c0_i32_230
  let c1_i32_231 : BitVec 32 := 1#32
  let v444 : BitVec 32 := Scalar.select v443 c1_i32_231 c4_i32_229
  let v445 : BitVec 32 := Scalar.remsi v442 v444
  let c0_i32_233 : BitVec 32 := 0#32
  let v447 : BitVec 1 := Scalar.cmpi .slt v445 c0_i32_233
  let c0_i32_234 : BitVec 32 := 0#32
  let v448 : BitVec 1 := Scalar.cmpi .slt v444 c0_i32_234
  let v449 : BitVec 1 := Scalar.xori v447 v448
  let c0_i32_232 : BitVec 32 := 0#32
  let v446 : BitVec 1 := Scalar.cmpi .ne v445 c0_i32_232
  let v450 : BitVec 1 := Scalar.andi v449 v446
  let v451 : BitVec 32 := Scalar.addi v445 v444
  let v452 : BitVec 32 := Scalar.select v450 v451 v445
  let v453 : BitVec 32 := Scalar.addi v441 v452
  let c1_i32_2764 : BitVec 32 := 1#32
  let v3525 : BitVec 32 := Scalar.muli v453 c1_i32_2764
  let v3526 : BitVec 32 := Scalar.addi c0_i32_2765 v3525
  v3526.toNat
def k0_dev113 (d0 : Dev nD) : Nat :=
  let c0_i32_2775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_236 : BitVec 32 := 0#32
  let v455 : BitVec 1 := Scalar.cmpi .sgt v2 c0_i32_236
  let v456 : BitVec 32 := Scalar.extui v455
  let c0_i32_237 : BitVec 32 := 0#32
  let v457 : BitVec 1 := Scalar.cmpi .slt v2 c0_i32_237
  let v458 : BitVec 32 := Scalar.extui v457
  let v459 : BitVec 32 := Scalar.subi v456 v458
  let c4_i32_235 : BitVec 32 := 4#32
  let c0_i32_238 : BitVec 32 := 0#32
  let v460 : BitVec 1 := Scalar.cmpi .sgt c4_i32_235 c0_i32_238
  let v461 : BitVec 32 := Scalar.extui v460
  let c0_i32_239 : BitVec 32 := 0#32
  let v462 : BitVec 1 := Scalar.cmpi .slt c4_i32_235 c0_i32_239
  let v463 : BitVec 32 := Scalar.extui v462
  let v464 : BitVec 32 := Scalar.subi v461 v463
  let v465 : BitVec 1 := Scalar.cmpi .ne v459 v464
  let v466 : BitVec 32 := Scalar.remsi v2 c4_i32_235
  let c0_i32_240 : BitVec 32 := 0#32
  let v467 : BitVec 1 := Scalar.cmpi .ne v466 c0_i32_240
  let v468 : BitVec 1 := Scalar.andi v465 v467
  let v454 : BitVec 32 := Scalar.divsi v2 c4_i32_235
  let c1_i32_241 : BitVec 32 := 1#32
  let v469 : BitVec 32 := Scalar.subi v454 c1_i32_241
  let v470 : BitVec 32 := Scalar.select v468 v469 v454
  let c3_i32_242 : BitVec 32 := 3#32
  let v471 : BitVec 32 := Scalar.addi v470 c3_i32_242
  let c8_i32_243 : BitVec 32 := 8#32
  let c0_i32_244 : BitVec 32 := 0#32
  let v472 : BitVec 1 := Scalar.cmpi .eq c8_i32_243 c0_i32_244
  let c1_i32_245 : BitVec 32 := 1#32
  let v473 : BitVec 32 := Scalar.select v472 c1_i32_245 c8_i32_243
  let v474 : BitVec 32 := Scalar.remsi v471 v473
  let c0_i32_247 : BitVec 32 := 0#32
  let v476 : BitVec 1 := Scalar.cmpi .slt v474 c0_i32_247
  let c0_i32_248 : BitVec 32 := 0#32
  let v477 : BitVec 1 := Scalar.cmpi .slt v473 c0_i32_248
  let v478 : BitVec 1 := Scalar.xori v476 v477
  let c0_i32_246 : BitVec 32 := 0#32
  let v475 : BitVec 1 := Scalar.cmpi .ne v474 c0_i32_246
  let v479 : BitVec 1 := Scalar.andi v478 v475
  let v480 : BitVec 32 := Scalar.addi v474 v473
  let v481 : BitVec 32 := Scalar.select v479 v480 v474
  let c4_i32_249 : BitVec 32 := 4#32
  let v482 : BitVec 32 := Scalar.muli v481 c4_i32_249
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_250 : BitVec 32 := 1#32
  let v483 : BitVec 32 := Scalar.addi v30 c1_i32_250
  let c4_i32_251 : BitVec 32 := 4#32
  let c0_i32_252 : BitVec 32 := 0#32
  let v484 : BitVec 1 := Scalar.cmpi .eq c4_i32_251 c0_i32_252
  let c1_i32_253 : BitVec 32 := 1#32
  let v485 : BitVec 32 := Scalar.select v484 c1_i32_253 c4_i32_251
  let v486 : BitVec 32 := Scalar.remsi v483 v485
  let c0_i32_255 : BitVec 32 := 0#32
  let v488 : BitVec 1 := Scalar.cmpi .slt v486 c0_i32_255
  let c0_i32_256 : BitVec 32 := 0#32
  let v489 : BitVec 1 := Scalar.cmpi .slt v485 c0_i32_256
  let v490 : BitVec 1 := Scalar.xori v488 v489
  let c0_i32_254 : BitVec 32 := 0#32
  let v487 : BitVec 1 := Scalar.cmpi .ne v486 c0_i32_254
  let v491 : BitVec 1 := Scalar.andi v490 v487
  let v492 : BitVec 32 := Scalar.addi v486 v485
  let v493 : BitVec 32 := Scalar.select v491 v492 v486
  let v494 : BitVec 32 := Scalar.addi v482 v493
  let c1_i32_2774 : BitVec 32 := 1#32
  let v3537 : BitVec 32 := Scalar.muli v494 c1_i32_2774
  let v3538 : BitVec 32 := Scalar.addi c0_i32_2775 v3537
  v3538.toNat
def k0_dev114 (d0 : Dev nD) : Nat :=
  let c0_i32_2785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_258 : BitVec 32 := 0#32
  let v496 : BitVec 1 := Scalar.cmpi .sgt v2 c0_i32_258
  let v497 : BitVec 32 := Scalar.extui v496
  let c0_i32_259 : BitVec 32 := 0#32
  let v498 : BitVec 1 := Scalar.cmpi .slt v2 c0_i32_259
  let v499 : BitVec 32 := Scalar.extui v498
  let v500 : BitVec 32 := Scalar.subi v497 v499
  let c4_i32_257 : BitVec 32 := 4#32
  let c0_i32_260 : BitVec 32 := 0#32
  let v501 : BitVec 1 := Scalar.cmpi .sgt c4_i32_257 c0_i32_260
  let v502 : BitVec 32 := Scalar.extui v501
  let c0_i32_261 : BitVec 32 := 0#32
  let v503 : BitVec 1 := Scalar.cmpi .slt c4_i32_257 c0_i32_261
  let v504 : BitVec 32 := Scalar.extui v503
  let v505 : BitVec 32 := Scalar.subi v502 v504
  let v506 : BitVec 1 := Scalar.cmpi .ne v500 v505
  let v507 : BitVec 32 := Scalar.remsi v2 c4_i32_257
  let c0_i32_262 : BitVec 32 := 0#32
  let v508 : BitVec 1 := Scalar.cmpi .ne v507 c0_i32_262
  let v509 : BitVec 1 := Scalar.andi v506 v508
  let v495 : BitVec 32 := Scalar.divsi v2 c4_i32_257
  let c1_i32_263 : BitVec 32 := 1#32
  let v510 : BitVec 32 := Scalar.subi v495 c1_i32_263
  let v511 : BitVec 32 := Scalar.select v509 v510 v495
  let c3_i32_264 : BitVec 32 := 3#32
  let v512 : BitVec 32 := Scalar.addi v511 c3_i32_264
  let c8_i32_265 : BitVec 32 := 8#32
  let c0_i32_266 : BitVec 32 := 0#32
  let v513 : BitVec 1 := Scalar.cmpi .eq c8_i32_265 c0_i32_266
  let c1_i32_267 : BitVec 32 := 1#32
  let v514 : BitVec 32 := Scalar.select v513 c1_i32_267 c8_i32_265
  let v515 : BitVec 32 := Scalar.remsi v512 v514
  let c0_i32_269 : BitVec 32 := 0#32
  let v517 : BitVec 1 := Scalar.cmpi .slt v515 c0_i32_269
  let c0_i32_270 : BitVec 32 := 0#32
  let v518 : BitVec 1 := Scalar.cmpi .slt v514 c0_i32_270
  let v519 : BitVec 1 := Scalar.xori v517 v518
  let c0_i32_268 : BitVec 32 := 0#32
  let v516 : BitVec 1 := Scalar.cmpi .ne v515 c0_i32_268
  let v520 : BitVec 1 := Scalar.andi v519 v516
  let v521 : BitVec 32 := Scalar.addi v515 v514
  let v522 : BitVec 32 := Scalar.select v520 v521 v515
  let c4_i32_271 : BitVec 32 := 4#32
  let v523 : BitVec 32 := Scalar.muli v522 c4_i32_271
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_272 : BitVec 32 := 2#32
  let v524 : BitVec 32 := Scalar.addi v30 c2_i32_272
  let c4_i32_273 : BitVec 32 := 4#32
  let c0_i32_274 : BitVec 32 := 0#32
  let v525 : BitVec 1 := Scalar.cmpi .eq c4_i32_273 c0_i32_274
  let c1_i32_275 : BitVec 32 := 1#32
  let v526 : BitVec 32 := Scalar.select v525 c1_i32_275 c4_i32_273
  let v527 : BitVec 32 := Scalar.remsi v524 v526
  let c0_i32_277 : BitVec 32 := 0#32
  let v529 : BitVec 1 := Scalar.cmpi .slt v527 c0_i32_277
  let c0_i32_278 : BitVec 32 := 0#32
  let v530 : BitVec 1 := Scalar.cmpi .slt v526 c0_i32_278
  let v531 : BitVec 1 := Scalar.xori v529 v530
  let c0_i32_276 : BitVec 32 := 0#32
  let v528 : BitVec 1 := Scalar.cmpi .ne v527 c0_i32_276
  let v532 : BitVec 1 := Scalar.andi v531 v528
  let v533 : BitVec 32 := Scalar.addi v527 v526
  let v534 : BitVec 32 := Scalar.select v532 v533 v527
  let v535 : BitVec 32 := Scalar.addi v523 v534
  let c1_i32_2784 : BitVec 32 := 1#32
  let v3549 : BitVec 32 := Scalar.muli v535 c1_i32_2784
  let v3550 : BitVec 32 := Scalar.addi c0_i32_2785 v3549
  v3550.toNat
def k0_dev115 (d0 : Dev nD) : Nat :=
  let c0_i32_2795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_280 : BitVec 32 := 0#32
  let v537 : BitVec 1 := Scalar.cmpi .sgt v2 c0_i32_280
  let v538 : BitVec 32 := Scalar.extui v537
  let c0_i32_281 : BitVec 32 := 0#32
  let v539 : BitVec 1 := Scalar.cmpi .slt v2 c0_i32_281
  let v540 : BitVec 32 := Scalar.extui v539
  let v541 : BitVec 32 := Scalar.subi v538 v540
  let c4_i32_279 : BitVec 32 := 4#32
  let c0_i32_282 : BitVec 32 := 0#32
  let v542 : BitVec 1 := Scalar.cmpi .sgt c4_i32_279 c0_i32_282
  let v543 : BitVec 32 := Scalar.extui v542
  let c0_i32_283 : BitVec 32 := 0#32
  let v544 : BitVec 1 := Scalar.cmpi .slt c4_i32_279 c0_i32_283
  let v545 : BitVec 32 := Scalar.extui v544
  let v546 : BitVec 32 := Scalar.subi v543 v545
  let v547 : BitVec 1 := Scalar.cmpi .ne v541 v546
  let v548 : BitVec 32 := Scalar.remsi v2 c4_i32_279
  let c0_i32_284 : BitVec 32 := 0#32
  let v549 : BitVec 1 := Scalar.cmpi .ne v548 c0_i32_284
  let v550 : BitVec 1 := Scalar.andi v547 v549
  let v536 : BitVec 32 := Scalar.divsi v2 c4_i32_279
  let c1_i32_285 : BitVec 32 := 1#32
  let v551 : BitVec 32 := Scalar.subi v536 c1_i32_285
  let v552 : BitVec 32 := Scalar.select v550 v551 v536
  let c3_i32_286 : BitVec 32 := 3#32
  let v553 : BitVec 32 := Scalar.addi v552 c3_i32_286
  let c8_i32_287 : BitVec 32 := 8#32
  let c0_i32_288 : BitVec 32 := 0#32
  let v554 : BitVec 1 := Scalar.cmpi .eq c8_i32_287 c0_i32_288
  let c1_i32_289 : BitVec 32 := 1#32
  let v555 : BitVec 32 := Scalar.select v554 c1_i32_289 c8_i32_287
  let v556 : BitVec 32 := Scalar.remsi v553 v555
  let c0_i32_291 : BitVec 32 := 0#32
  let v558 : BitVec 1 := Scalar.cmpi .slt v556 c0_i32_291
  let c0_i32_292 : BitVec 32 := 0#32
  let v559 : BitVec 1 := Scalar.cmpi .slt v555 c0_i32_292
  let v560 : BitVec 1 := Scalar.xori v558 v559
  let c0_i32_290 : BitVec 32 := 0#32
  let v557 : BitVec 1 := Scalar.cmpi .ne v556 c0_i32_290
  let v561 : BitVec 1 := Scalar.andi v560 v557
  let v562 : BitVec 32 := Scalar.addi v556 v555
  let v563 : BitVec 32 := Scalar.select v561 v562 v556
  let c4_i32_293 : BitVec 32 := 4#32
  let v564 : BitVec 32 := Scalar.muli v563 c4_i32_293
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_294 : BitVec 32 := 3#32
  let v565 : BitVec 32 := Scalar.addi v30 c3_i32_294
  let c4_i32_295 : BitVec 32 := 4#32
  let c0_i32_296 : BitVec 32 := 0#32
  let v566 : BitVec 1 := Scalar.cmpi .eq c4_i32_295 c0_i32_296
  let c1_i32_297 : BitVec 32 := 1#32
  let v567 : BitVec 32 := Scalar.select v566 c1_i32_297 c4_i32_295
  let v568 : BitVec 32 := Scalar.remsi v565 v567
  let c0_i32_299 : BitVec 32 := 0#32
  let v570 : BitVec 1 := Scalar.cmpi .slt v568 c0_i32_299
  let c0_i32_300 : BitVec 32 := 0#32
  let v571 : BitVec 1 := Scalar.cmpi .slt v567 c0_i32_300
  let v572 : BitVec 1 := Scalar.xori v570 v571
  let c0_i32_298 : BitVec 32 := 0#32
  let v569 : BitVec 1 := Scalar.cmpi .ne v568 c0_i32_298
  let v573 : BitVec 1 := Scalar.andi v572 v569
  let v574 : BitVec 32 := Scalar.addi v568 v567
  let v575 : BitVec 32 := Scalar.select v573 v574 v568
  let v576 : BitVec 32 := Scalar.addi v564 v575
  let c1_i32_2794 : BitVec 32 := 1#32
  let v3561 : BitVec 32 := Scalar.muli v576 c1_i32_2794
  let v3562 : BitVec 32 := Scalar.addi c0_i32_2795 v3561
  v3562.toNat
def k0_dev116 (d0 : Dev nD) : Nat :=
  let c0_i32_2805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_302 : BitVec 32 := 0#32
  let v578 : BitVec 1 := Scalar.cmpi .sgt v2 c0_i32_302
  let v579 : BitVec 32 := Scalar.extui v578
  let c0_i32_303 : BitVec 32 := 0#32
  let v580 : BitVec 1 := Scalar.cmpi .slt v2 c0_i32_303
  let v581 : BitVec 32 := Scalar.extui v580
  let v582 : BitVec 32 := Scalar.subi v579 v581
  let c4_i32_301 : BitVec 32 := 4#32
  let c0_i32_304 : BitVec 32 := 0#32
  let v583 : BitVec 1 := Scalar.cmpi .sgt c4_i32_301 c0_i32_304
  let v584 : BitVec 32 := Scalar.extui v583
  let c0_i32_305 : BitVec 32 := 0#32
  let v585 : BitVec 1 := Scalar.cmpi .slt c4_i32_301 c0_i32_305
  let v586 : BitVec 32 := Scalar.extui v585
  let v587 : BitVec 32 := Scalar.subi v584 v586
  let v588 : BitVec 1 := Scalar.cmpi .ne v582 v587
  let v589 : BitVec 32 := Scalar.remsi v2 c4_i32_301
  let c0_i32_306 : BitVec 32 := 0#32
  let v590 : BitVec 1 := Scalar.cmpi .ne v589 c0_i32_306
  let v591 : BitVec 1 := Scalar.andi v588 v590
  let v577 : BitVec 32 := Scalar.divsi v2 c4_i32_301
  let c1_i32_307 : BitVec 32 := 1#32
  let v592 : BitVec 32 := Scalar.subi v577 c1_i32_307
  let v593 : BitVec 32 := Scalar.select v591 v592 v577
  let c4_i32_308 : BitVec 32 := 4#32
  let v594 : BitVec 32 := Scalar.addi v593 c4_i32_308
  let c8_i32_309 : BitVec 32 := 8#32
  let c0_i32_310 : BitVec 32 := 0#32
  let v595 : BitVec 1 := Scalar.cmpi .eq c8_i32_309 c0_i32_310
  let c1_i32_311 : BitVec 32 := 1#32
  let v596 : BitVec 32 := Scalar.select v595 c1_i32_311 c8_i32_309
  let v597 : BitVec 32 := Scalar.remsi v594 v596
  let c0_i32_313 : BitVec 32 := 0#32
  let v599 : BitVec 1 := Scalar.cmpi .slt v597 c0_i32_313
  let c0_i32_314 : BitVec 32 := 0#32
  let v600 : BitVec 1 := Scalar.cmpi .slt v596 c0_i32_314
  let v601 : BitVec 1 := Scalar.xori v599 v600
  let c0_i32_312 : BitVec 32 := 0#32
  let v598 : BitVec 1 := Scalar.cmpi .ne v597 c0_i32_312
  let v602 : BitVec 1 := Scalar.andi v601 v598
  let v603 : BitVec 32 := Scalar.addi v597 v596
  let v604 : BitVec 32 := Scalar.select v602 v603 v597
  let c4_i32_315 : BitVec 32 := 4#32
  let v605 : BitVec 32 := Scalar.muli v604 c4_i32_315
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_316 : BitVec 32 := 0#32
  let v606 : BitVec 32 := Scalar.addi v30 c0_i32_316
  let c4_i32_317 : BitVec 32 := 4#32
  let c0_i32_318 : BitVec 32 := 0#32
  let v607 : BitVec 1 := Scalar.cmpi .eq c4_i32_317 c0_i32_318
  let c1_i32_319 : BitVec 32 := 1#32
  let v608 : BitVec 32 := Scalar.select v607 c1_i32_319 c4_i32_317
  let v609 : BitVec 32 := Scalar.remsi v606 v608
  let c0_i32_321 : BitVec 32 := 0#32
  let v611 : BitVec 1 := Scalar.cmpi .slt v609 c0_i32_321
  let c0_i32_322 : BitVec 32 := 0#32
  let v612 : BitVec 1 := Scalar.cmpi .slt v608 c0_i32_322
  let v613 : BitVec 1 := Scalar.xori v611 v612
  let c0_i32_320 : BitVec 32 := 0#32
  let v610 : BitVec 1 := Scalar.cmpi .ne v609 c0_i32_320
  let v614 : BitVec 1 := Scalar.andi v613 v610
  let v615 : BitVec 32 := Scalar.addi v609 v608
  let v616 : BitVec 32 := Scalar.select v614 v615 v609
  let v617 : BitVec 32 := Scalar.addi v605 v616
  let c1_i32_2804 : BitVec 32 := 1#32
  let v3573 : BitVec 32 := Scalar.muli v617 c1_i32_2804
  let v3574 : BitVec 32 := Scalar.addi c0_i32_2805 v3573
  v3574.toNat
def k0_dev117 (d0 : Dev nD) : Nat :=
  let c0_i32_2815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_324 : BitVec 32 := 0#32
  let v619 : BitVec 1 := Scalar.cmpi .sgt v2 c0_i32_324
  let v620 : BitVec 32 := Scalar.extui v619
  let c0_i32_325 : BitVec 32 := 0#32
  let v621 : BitVec 1 := Scalar.cmpi .slt v2 c0_i32_325
  let v622 : BitVec 32 := Scalar.extui v621
  let v623 : BitVec 32 := Scalar.subi v620 v622
  let c4_i32_323 : BitVec 32 := 4#32
  let c0_i32_326 : BitVec 32 := 0#32
  let v624 : BitVec 1 := Scalar.cmpi .sgt c4_i32_323 c0_i32_326
  let v625 : BitVec 32 := Scalar.extui v624
  let c0_i32_327 : BitVec 32 := 0#32
  let v626 : BitVec 1 := Scalar.cmpi .slt c4_i32_323 c0_i32_327
  let v627 : BitVec 32 := Scalar.extui v626
  let v628 : BitVec 32 := Scalar.subi v625 v627
  let v629 : BitVec 1 := Scalar.cmpi .ne v623 v628
  let v630 : BitVec 32 := Scalar.remsi v2 c4_i32_323
  let c0_i32_328 : BitVec 32 := 0#32
  let v631 : BitVec 1 := Scalar.cmpi .ne v630 c0_i32_328
  let v632 : BitVec 1 := Scalar.andi v629 v631
  let v618 : BitVec 32 := Scalar.divsi v2 c4_i32_323
  let c1_i32_329 : BitVec 32 := 1#32
  let v633 : BitVec 32 := Scalar.subi v618 c1_i32_329
  let v634 : BitVec 32 := Scalar.select v632 v633 v618
  let c4_i32_330 : BitVec 32 := 4#32
  let v635 : BitVec 32 := Scalar.addi v634 c4_i32_330
  let c8_i32_331 : BitVec 32 := 8#32
  let c0_i32_332 : BitVec 32 := 0#32
  let v636 : BitVec 1 := Scalar.cmpi .eq c8_i32_331 c0_i32_332
  let c1_i32_333 : BitVec 32 := 1#32
  let v637 : BitVec 32 := Scalar.select v636 c1_i32_333 c8_i32_331
  let v638 : BitVec 32 := Scalar.remsi v635 v637
  let c0_i32_335 : BitVec 32 := 0#32
  let v640 : BitVec 1 := Scalar.cmpi .slt v638 c0_i32_335
  let c0_i32_336 : BitVec 32 := 0#32
  let v641 : BitVec 1 := Scalar.cmpi .slt v637 c0_i32_336
  let v642 : BitVec 1 := Scalar.xori v640 v641
  let c0_i32_334 : BitVec 32 := 0#32
  let v639 : BitVec 1 := Scalar.cmpi .ne v638 c0_i32_334
  let v643 : BitVec 1 := Scalar.andi v642 v639
  let v644 : BitVec 32 := Scalar.addi v638 v637
  let v645 : BitVec 32 := Scalar.select v643 v644 v638
  let c4_i32_337 : BitVec 32 := 4#32
  let v646 : BitVec 32 := Scalar.muli v645 c4_i32_337
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_338 : BitVec 32 := 1#32
  let v647 : BitVec 32 := Scalar.addi v30 c1_i32_338
  let c4_i32_339 : BitVec 32 := 4#32
  let c0_i32_340 : BitVec 32 := 0#32
  let v648 : BitVec 1 := Scalar.cmpi .eq c4_i32_339 c0_i32_340
  let c1_i32_341 : BitVec 32 := 1#32
  let v649 : BitVec 32 := Scalar.select v648 c1_i32_341 c4_i32_339
  let v650 : BitVec 32 := Scalar.remsi v647 v649
  let c0_i32_343 : BitVec 32 := 0#32
  let v652 : BitVec 1 := Scalar.cmpi .slt v650 c0_i32_343
  let c0_i32_344 : BitVec 32 := 0#32
  let v653 : BitVec 1 := Scalar.cmpi .slt v649 c0_i32_344
  let v654 : BitVec 1 := Scalar.xori v652 v653
  let c0_i32_342 : BitVec 32 := 0#32
  let v651 : BitVec 1 := Scalar.cmpi .ne v650 c0_i32_342
  let v655 : BitVec 1 := Scalar.andi v654 v651
  let v656 : BitVec 32 := Scalar.addi v650 v649
  let v657 : BitVec 32 := Scalar.select v655 v656 v650
  let v658 : BitVec 32 := Scalar.addi v646 v657
  let c1_i32_2814 : BitVec 32 := 1#32
  let v3585 : BitVec 32 := Scalar.muli v658 c1_i32_2814
  let v3586 : BitVec 32 := Scalar.addi c0_i32_2815 v3585
  v3586.toNat
def k0_dev118 (d0 : Dev nD) : Nat :=
  let c0_i32_2825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_346 : BitVec 32 := 0#32
  let v660 : BitVec 1 := Scalar.cmpi .sgt v2 c0_i32_346
  let v661 : BitVec 32 := Scalar.extui v660
  let c0_i32_347 : BitVec 32 := 0#32
  let v662 : BitVec 1 := Scalar.cmpi .slt v2 c0_i32_347
  let v663 : BitVec 32 := Scalar.extui v662
  let v664 : BitVec 32 := Scalar.subi v661 v663
  let c4_i32_345 : BitVec 32 := 4#32
  let c0_i32_348 : BitVec 32 := 0#32
  let v665 : BitVec 1 := Scalar.cmpi .sgt c4_i32_345 c0_i32_348
  let v666 : BitVec 32 := Scalar.extui v665
  let c0_i32_349 : BitVec 32 := 0#32
  let v667 : BitVec 1 := Scalar.cmpi .slt c4_i32_345 c0_i32_349
  let v668 : BitVec 32 := Scalar.extui v667
  let v669 : BitVec 32 := Scalar.subi v666 v668
  let v670 : BitVec 1 := Scalar.cmpi .ne v664 v669
  let v671 : BitVec 32 := Scalar.remsi v2 c4_i32_345
  let c0_i32_350 : BitVec 32 := 0#32
  let v672 : BitVec 1 := Scalar.cmpi .ne v671 c0_i32_350
  let v673 : BitVec 1 := Scalar.andi v670 v672
  let v659 : BitVec 32 := Scalar.divsi v2 c4_i32_345
  let c1_i32_351 : BitVec 32 := 1#32
  let v674 : BitVec 32 := Scalar.subi v659 c1_i32_351
  let v675 : BitVec 32 := Scalar.select v673 v674 v659
  let c4_i32_352 : BitVec 32 := 4#32
  let v676 : BitVec 32 := Scalar.addi v675 c4_i32_352
  let c8_i32_353 : BitVec 32 := 8#32
  let c0_i32_354 : BitVec 32 := 0#32
  let v677 : BitVec 1 := Scalar.cmpi .eq c8_i32_353 c0_i32_354
  let c1_i32_355 : BitVec 32 := 1#32
  let v678 : BitVec 32 := Scalar.select v677 c1_i32_355 c8_i32_353
  let v679 : BitVec 32 := Scalar.remsi v676 v678
  let c0_i32_357 : BitVec 32 := 0#32
  let v681 : BitVec 1 := Scalar.cmpi .slt v679 c0_i32_357
  let c0_i32_358 : BitVec 32 := 0#32
  let v682 : BitVec 1 := Scalar.cmpi .slt v678 c0_i32_358
  let v683 : BitVec 1 := Scalar.xori v681 v682
  let c0_i32_356 : BitVec 32 := 0#32
  let v680 : BitVec 1 := Scalar.cmpi .ne v679 c0_i32_356
  let v684 : BitVec 1 := Scalar.andi v683 v680
  let v685 : BitVec 32 := Scalar.addi v679 v678
  let v686 : BitVec 32 := Scalar.select v684 v685 v679
  let c4_i32_359 : BitVec 32 := 4#32
  let v687 : BitVec 32 := Scalar.muli v686 c4_i32_359
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_360 : BitVec 32 := 2#32
  let v688 : BitVec 32 := Scalar.addi v30 c2_i32_360
  let c4_i32_361 : BitVec 32 := 4#32
  let c0_i32_362 : BitVec 32 := 0#32
  let v689 : BitVec 1 := Scalar.cmpi .eq c4_i32_361 c0_i32_362
  let c1_i32_363 : BitVec 32 := 1#32
  let v690 : BitVec 32 := Scalar.select v689 c1_i32_363 c4_i32_361
  let v691 : BitVec 32 := Scalar.remsi v688 v690
  let c0_i32_365 : BitVec 32 := 0#32
  let v693 : BitVec 1 := Scalar.cmpi .slt v691 c0_i32_365
  let c0_i32_366 : BitVec 32 := 0#32
  let v694 : BitVec 1 := Scalar.cmpi .slt v690 c0_i32_366
  let v695 : BitVec 1 := Scalar.xori v693 v694
  let c0_i32_364 : BitVec 32 := 0#32
  let v692 : BitVec 1 := Scalar.cmpi .ne v691 c0_i32_364
  let v696 : BitVec 1 := Scalar.andi v695 v692
  let v697 : BitVec 32 := Scalar.addi v691 v690
  let v698 : BitVec 32 := Scalar.select v696 v697 v691
  let v699 : BitVec 32 := Scalar.addi v687 v698
  let c1_i32_2824 : BitVec 32 := 1#32
  let v3597 : BitVec 32 := Scalar.muli v699 c1_i32_2824
  let v3598 : BitVec 32 := Scalar.addi c0_i32_2825 v3597
  v3598.toNat
def k0_dev119 (d0 : Dev nD) : Nat :=
  let c0_i32_2835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_368 : BitVec 32 := 0#32
  let v701 : BitVec 1 := Scalar.cmpi .sgt v2 c0_i32_368
  let v702 : BitVec 32 := Scalar.extui v701
  let c0_i32_369 : BitVec 32 := 0#32
  let v703 : BitVec 1 := Scalar.cmpi .slt v2 c0_i32_369
  let v704 : BitVec 32 := Scalar.extui v703
  let v705 : BitVec 32 := Scalar.subi v702 v704
  let c4_i32_367 : BitVec 32 := 4#32
  let c0_i32_370 : BitVec 32 := 0#32
  let v706 : BitVec 1 := Scalar.cmpi .sgt c4_i32_367 c0_i32_370
  let v707 : BitVec 32 := Scalar.extui v706
  let c0_i32_371 : BitVec 32 := 0#32
  let v708 : BitVec 1 := Scalar.cmpi .slt c4_i32_367 c0_i32_371
  let v709 : BitVec 32 := Scalar.extui v708
  let v710 : BitVec 32 := Scalar.subi v707 v709
  let v711 : BitVec 1 := Scalar.cmpi .ne v705 v710
  let v712 : BitVec 32 := Scalar.remsi v2 c4_i32_367
  let c0_i32_372 : BitVec 32 := 0#32
  let v713 : BitVec 1 := Scalar.cmpi .ne v712 c0_i32_372
  let v714 : BitVec 1 := Scalar.andi v711 v713
  let v700 : BitVec 32 := Scalar.divsi v2 c4_i32_367
  let c1_i32_373 : BitVec 32 := 1#32
  let v715 : BitVec 32 := Scalar.subi v700 c1_i32_373
  let v716 : BitVec 32 := Scalar.select v714 v715 v700
  let c4_i32_374 : BitVec 32 := 4#32
  let v717 : BitVec 32 := Scalar.addi v716 c4_i32_374
  let c8_i32_375 : BitVec 32 := 8#32
  let c0_i32_376 : BitVec 32 := 0#32
  let v718 : BitVec 1 := Scalar.cmpi .eq c8_i32_375 c0_i32_376
  let c1_i32_377 : BitVec 32 := 1#32
  let v719 : BitVec 32 := Scalar.select v718 c1_i32_377 c8_i32_375
  let v720 : BitVec 32 := Scalar.remsi v717 v719
  let c0_i32_379 : BitVec 32 := 0#32
  let v722 : BitVec 1 := Scalar.cmpi .slt v720 c0_i32_379
  let c0_i32_380 : BitVec 32 := 0#32
  let v723 : BitVec 1 := Scalar.cmpi .slt v719 c0_i32_380
  let v724 : BitVec 1 := Scalar.xori v722 v723
  let c0_i32_378 : BitVec 32 := 0#32
  let v721 : BitVec 1 := Scalar.cmpi .ne v720 c0_i32_378
  let v725 : BitVec 1 := Scalar.andi v724 v721
  let v726 : BitVec 32 := Scalar.addi v720 v719
  let v727 : BitVec 32 := Scalar.select v725 v726 v720
  let c4_i32_381 : BitVec 32 := 4#32
  let v728 : BitVec 32 := Scalar.muli v727 c4_i32_381
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_382 : BitVec 32 := 3#32
  let v729 : BitVec 32 := Scalar.addi v30 c3_i32_382
  let c4_i32_383 : BitVec 32 := 4#32
  let c0_i32_384 : BitVec 32 := 0#32
  let v730 : BitVec 1 := Scalar.cmpi .eq c4_i32_383 c0_i32_384
  let c1_i32_385 : BitVec 32 := 1#32
  let v731 : BitVec 32 := Scalar.select v730 c1_i32_385 c4_i32_383
  let v732 : BitVec 32 := Scalar.remsi v729 v731
  let c0_i32_387 : BitVec 32 := 0#32
  let v734 : BitVec 1 := Scalar.cmpi .slt v732 c0_i32_387
  let c0_i32_388 : BitVec 32 := 0#32
  let v735 : BitVec 1 := Scalar.cmpi .slt v731 c0_i32_388
  let v736 : BitVec 1 := Scalar.xori v734 v735
  let c0_i32_386 : BitVec 32 := 0#32
  let v733 : BitVec 1 := Scalar.cmpi .ne v732 c0_i32_386
  let v737 : BitVec 1 := Scalar.andi v736 v733
  let v738 : BitVec 32 := Scalar.addi v732 v731
  let v739 : BitVec 32 := Scalar.select v737 v738 v732
  let v740 : BitVec 32 := Scalar.addi v728 v739
  let c1_i32_2834 : BitVec 32 := 1#32
  let v3609 : BitVec 32 := Scalar.muli v740 c1_i32_2834
  let v3610 : BitVec 32 := Scalar.addi c0_i32_2835 v3609
  v3610.toNat
def k0_dev120 (d0 : Dev nD) : Nat :=
  let c0_i32_2845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_390 : BitVec 32 := 0#32
  let v742 : BitVec 1 := Scalar.cmpi .sgt v2 c0_i32_390
  let v743 : BitVec 32 := Scalar.extui v742
  let c0_i32_391 : BitVec 32 := 0#32
  let v744 : BitVec 1 := Scalar.cmpi .slt v2 c0_i32_391
  let v745 : BitVec 32 := Scalar.extui v744
  let v746 : BitVec 32 := Scalar.subi v743 v745
  let c4_i32_389 : BitVec 32 := 4#32
  let c0_i32_392 : BitVec 32 := 0#32
  let v747 : BitVec 1 := Scalar.cmpi .sgt c4_i32_389 c0_i32_392
  let v748 : BitVec 32 := Scalar.extui v747
  let c0_i32_393 : BitVec 32 := 0#32
  let v749 : BitVec 1 := Scalar.cmpi .slt c4_i32_389 c0_i32_393
  let v750 : BitVec 32 := Scalar.extui v749
  let v751 : BitVec 32 := Scalar.subi v748 v750
  let v752 : BitVec 1 := Scalar.cmpi .ne v746 v751
  let v753 : BitVec 32 := Scalar.remsi v2 c4_i32_389
  let c0_i32_394 : BitVec 32 := 0#32
  let v754 : BitVec 1 := Scalar.cmpi .ne v753 c0_i32_394
  let v755 : BitVec 1 := Scalar.andi v752 v754
  let v741 : BitVec 32 := Scalar.divsi v2 c4_i32_389
  let c1_i32_395 : BitVec 32 := 1#32
  let v756 : BitVec 32 := Scalar.subi v741 c1_i32_395
  let v757 : BitVec 32 := Scalar.select v755 v756 v741
  let c5_i32 : BitVec 32 := 5#32
  let v758 : BitVec 32 := Scalar.addi v757 c5_i32
  let c8_i32_396 : BitVec 32 := 8#32
  let c0_i32_397 : BitVec 32 := 0#32
  let v759 : BitVec 1 := Scalar.cmpi .eq c8_i32_396 c0_i32_397
  let c1_i32_398 : BitVec 32 := 1#32
  let v760 : BitVec 32 := Scalar.select v759 c1_i32_398 c8_i32_396
  let v761 : BitVec 32 := Scalar.remsi v758 v760
  let c0_i32_400 : BitVec 32 := 0#32
  let v763 : BitVec 1 := Scalar.cmpi .slt v761 c0_i32_400
  let c0_i32_401 : BitVec 32 := 0#32
  let v764 : BitVec 1 := Scalar.cmpi .slt v760 c0_i32_401
  let v765 : BitVec 1 := Scalar.xori v763 v764
  let c0_i32_399 : BitVec 32 := 0#32
  let v762 : BitVec 1 := Scalar.cmpi .ne v761 c0_i32_399
  let v766 : BitVec 1 := Scalar.andi v765 v762
  let v767 : BitVec 32 := Scalar.addi v761 v760
  let v768 : BitVec 32 := Scalar.select v766 v767 v761
  let c4_i32_402 : BitVec 32 := 4#32
  let v769 : BitVec 32 := Scalar.muli v768 c4_i32_402
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_403 : BitVec 32 := 0#32
  let v770 : BitVec 32 := Scalar.addi v30 c0_i32_403
  let c4_i32_404 : BitVec 32 := 4#32
  let c0_i32_405 : BitVec 32 := 0#32
  let v771 : BitVec 1 := Scalar.cmpi .eq c4_i32_404 c0_i32_405
  let c1_i32_406 : BitVec 32 := 1#32
  let v772 : BitVec 32 := Scalar.select v771 c1_i32_406 c4_i32_404
  let v773 : BitVec 32 := Scalar.remsi v770 v772
  let c0_i32_408 : BitVec 32 := 0#32
  let v775 : BitVec 1 := Scalar.cmpi .slt v773 c0_i32_408
  let c0_i32_409 : BitVec 32 := 0#32
  let v776 : BitVec 1 := Scalar.cmpi .slt v772 c0_i32_409
  let v777 : BitVec 1 := Scalar.xori v775 v776
  let c0_i32_407 : BitVec 32 := 0#32
  let v774 : BitVec 1 := Scalar.cmpi .ne v773 c0_i32_407
  let v778 : BitVec 1 := Scalar.andi v777 v774
  let v779 : BitVec 32 := Scalar.addi v773 v772
  let v780 : BitVec 32 := Scalar.select v778 v779 v773
  let v781 : BitVec 32 := Scalar.addi v769 v780
  let c1_i32_2844 : BitVec 32 := 1#32
  let v3621 : BitVec 32 := Scalar.muli v781 c1_i32_2844
  let v3622 : BitVec 32 := Scalar.addi c0_i32_2845 v3621
  v3622.toNat
def k0_dev121 (d0 : Dev nD) : Nat :=
  let c0_i32_2855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_411 : BitVec 32 := 0#32
  let v783 : BitVec 1 := Scalar.cmpi .sgt v2 c0_i32_411
  let v784 : BitVec 32 := Scalar.extui v783
  let c0_i32_412 : BitVec 32 := 0#32
  let v785 : BitVec 1 := Scalar.cmpi .slt v2 c0_i32_412
  let v786 : BitVec 32 := Scalar.extui v785
  let v787 : BitVec 32 := Scalar.subi v784 v786
  let c4_i32_410 : BitVec 32 := 4#32
  let c0_i32_413 : BitVec 32 := 0#32
  let v788 : BitVec 1 := Scalar.cmpi .sgt c4_i32_410 c0_i32_413
  let v789 : BitVec 32 := Scalar.extui v788
  let c0_i32_414 : BitVec 32 := 0#32
  let v790 : BitVec 1 := Scalar.cmpi .slt c4_i32_410 c0_i32_414
  let v791 : BitVec 32 := Scalar.extui v790
  let v792 : BitVec 32 := Scalar.subi v789 v791
  let v793 : BitVec 1 := Scalar.cmpi .ne v787 v792
  let v794 : BitVec 32 := Scalar.remsi v2 c4_i32_410
  let c0_i32_415 : BitVec 32 := 0#32
  let v795 : BitVec 1 := Scalar.cmpi .ne v794 c0_i32_415
  let v796 : BitVec 1 := Scalar.andi v793 v795
  let v782 : BitVec 32 := Scalar.divsi v2 c4_i32_410
  let c1_i32_416 : BitVec 32 := 1#32
  let v797 : BitVec 32 := Scalar.subi v782 c1_i32_416
  let v798 : BitVec 32 := Scalar.select v796 v797 v782
  let c5_i32_417 : BitVec 32 := 5#32
  let v799 : BitVec 32 := Scalar.addi v798 c5_i32_417
  let c8_i32_418 : BitVec 32 := 8#32
  let c0_i32_419 : BitVec 32 := 0#32
  let v800 : BitVec 1 := Scalar.cmpi .eq c8_i32_418 c0_i32_419
  let c1_i32_420 : BitVec 32 := 1#32
  let v801 : BitVec 32 := Scalar.select v800 c1_i32_420 c8_i32_418
  let v802 : BitVec 32 := Scalar.remsi v799 v801
  let c0_i32_422 : BitVec 32 := 0#32
  let v804 : BitVec 1 := Scalar.cmpi .slt v802 c0_i32_422
  let c0_i32_423 : BitVec 32 := 0#32
  let v805 : BitVec 1 := Scalar.cmpi .slt v801 c0_i32_423
  let v806 : BitVec 1 := Scalar.xori v804 v805
  let c0_i32_421 : BitVec 32 := 0#32
  let v803 : BitVec 1 := Scalar.cmpi .ne v802 c0_i32_421
  let v807 : BitVec 1 := Scalar.andi v806 v803
  let v808 : BitVec 32 := Scalar.addi v802 v801
  let v809 : BitVec 32 := Scalar.select v807 v808 v802
  let c4_i32_424 : BitVec 32 := 4#32
  let v810 : BitVec 32 := Scalar.muli v809 c4_i32_424
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_425 : BitVec 32 := 1#32
  let v811 : BitVec 32 := Scalar.addi v30 c1_i32_425
  let c4_i32_426 : BitVec 32 := 4#32
  let c0_i32_427 : BitVec 32 := 0#32
  let v812 : BitVec 1 := Scalar.cmpi .eq c4_i32_426 c0_i32_427
  let c1_i32_428 : BitVec 32 := 1#32
  let v813 : BitVec 32 := Scalar.select v812 c1_i32_428 c4_i32_426
  let v814 : BitVec 32 := Scalar.remsi v811 v813
  let c0_i32_430 : BitVec 32 := 0#32
  let v816 : BitVec 1 := Scalar.cmpi .slt v814 c0_i32_430
  let c0_i32_431 : BitVec 32 := 0#32
  let v817 : BitVec 1 := Scalar.cmpi .slt v813 c0_i32_431
  let v818 : BitVec 1 := Scalar.xori v816 v817
  let c0_i32_429 : BitVec 32 := 0#32
  let v815 : BitVec 1 := Scalar.cmpi .ne v814 c0_i32_429
  let v819 : BitVec 1 := Scalar.andi v818 v815
  let v820 : BitVec 32 := Scalar.addi v814 v813
  let v821 : BitVec 32 := Scalar.select v819 v820 v814
  let v822 : BitVec 32 := Scalar.addi v810 v821
  let c1_i32_2854 : BitVec 32 := 1#32
  let v3633 : BitVec 32 := Scalar.muli v822 c1_i32_2854
  let v3634 : BitVec 32 := Scalar.addi c0_i32_2855 v3633
  v3634.toNat
def k0_dev122 (d0 : Dev nD) : Nat :=
  let c0_i32_2865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_433 : BitVec 32 := 0#32
  let v824 : BitVec 1 := Scalar.cmpi .sgt v2 c0_i32_433
  let v825 : BitVec 32 := Scalar.extui v824
  let c0_i32_434 : BitVec 32 := 0#32
  let v826 : BitVec 1 := Scalar.cmpi .slt v2 c0_i32_434
  let v827 : BitVec 32 := Scalar.extui v826
  let v828 : BitVec 32 := Scalar.subi v825 v827
  let c4_i32_432 : BitVec 32 := 4#32
  let c0_i32_435 : BitVec 32 := 0#32
  let v829 : BitVec 1 := Scalar.cmpi .sgt c4_i32_432 c0_i32_435
  let v830 : BitVec 32 := Scalar.extui v829
  let c0_i32_436 : BitVec 32 := 0#32
  let v831 : BitVec 1 := Scalar.cmpi .slt c4_i32_432 c0_i32_436
  let v832 : BitVec 32 := Scalar.extui v831
  let v833 : BitVec 32 := Scalar.subi v830 v832
  let v834 : BitVec 1 := Scalar.cmpi .ne v828 v833
  let v835 : BitVec 32 := Scalar.remsi v2 c4_i32_432
  let c0_i32_437 : BitVec 32 := 0#32
  let v836 : BitVec 1 := Scalar.cmpi .ne v835 c0_i32_437
  let v837 : BitVec 1 := Scalar.andi v834 v836
  let v823 : BitVec 32 := Scalar.divsi v2 c4_i32_432
  let c1_i32_438 : BitVec 32 := 1#32
  let v838 : BitVec 32 := Scalar.subi v823 c1_i32_438
  let v839 : BitVec 32 := Scalar.select v837 v838 v823
  let c5_i32_439 : BitVec 32 := 5#32
  let v840 : BitVec 32 := Scalar.addi v839 c5_i32_439
  let c8_i32_440 : BitVec 32 := 8#32
  let c0_i32_441 : BitVec 32 := 0#32
  let v841 : BitVec 1 := Scalar.cmpi .eq c8_i32_440 c0_i32_441
  let c1_i32_442 : BitVec 32 := 1#32
  let v842 : BitVec 32 := Scalar.select v841 c1_i32_442 c8_i32_440
  let v843 : BitVec 32 := Scalar.remsi v840 v842
  let c0_i32_444 : BitVec 32 := 0#32
  let v845 : BitVec 1 := Scalar.cmpi .slt v843 c0_i32_444
  let c0_i32_445 : BitVec 32 := 0#32
  let v846 : BitVec 1 := Scalar.cmpi .slt v842 c0_i32_445
  let v847 : BitVec 1 := Scalar.xori v845 v846
  let c0_i32_443 : BitVec 32 := 0#32
  let v844 : BitVec 1 := Scalar.cmpi .ne v843 c0_i32_443
  let v848 : BitVec 1 := Scalar.andi v847 v844
  let v849 : BitVec 32 := Scalar.addi v843 v842
  let v850 : BitVec 32 := Scalar.select v848 v849 v843
  let c4_i32_446 : BitVec 32 := 4#32
  let v851 : BitVec 32 := Scalar.muli v850 c4_i32_446
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_447 : BitVec 32 := 2#32
  let v852 : BitVec 32 := Scalar.addi v30 c2_i32_447
  let c4_i32_448 : BitVec 32 := 4#32
  let c0_i32_449 : BitVec 32 := 0#32
  let v853 : BitVec 1 := Scalar.cmpi .eq c4_i32_448 c0_i32_449
  let c1_i32_450 : BitVec 32 := 1#32
  let v854 : BitVec 32 := Scalar.select v853 c1_i32_450 c4_i32_448
  let v855 : BitVec 32 := Scalar.remsi v852 v854
  let c0_i32_452 : BitVec 32 := 0#32
  let v857 : BitVec 1 := Scalar.cmpi .slt v855 c0_i32_452
  let c0_i32_453 : BitVec 32 := 0#32
  let v858 : BitVec 1 := Scalar.cmpi .slt v854 c0_i32_453
  let v859 : BitVec 1 := Scalar.xori v857 v858
  let c0_i32_451 : BitVec 32 := 0#32
  let v856 : BitVec 1 := Scalar.cmpi .ne v855 c0_i32_451
  let v860 : BitVec 1 := Scalar.andi v859 v856
  let v861 : BitVec 32 := Scalar.addi v855 v854
  let v862 : BitVec 32 := Scalar.select v860 v861 v855
  let v863 : BitVec 32 := Scalar.addi v851 v862
  let c1_i32_2864 : BitVec 32 := 1#32
  let v3645 : BitVec 32 := Scalar.muli v863 c1_i32_2864
  let v3646 : BitVec 32 := Scalar.addi c0_i32_2865 v3645
  v3646.toNat
def k0_dev123 (d0 : Dev nD) : Nat :=
  let c0_i32_2875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_455 : BitVec 32 := 0#32
  let v865 : BitVec 1 := Scalar.cmpi .sgt v2 c0_i32_455
  let v866 : BitVec 32 := Scalar.extui v865
  let c0_i32_456 : BitVec 32 := 0#32
  let v867 : BitVec 1 := Scalar.cmpi .slt v2 c0_i32_456
  let v868 : BitVec 32 := Scalar.extui v867
  let v869 : BitVec 32 := Scalar.subi v866 v868
  let c4_i32_454 : BitVec 32 := 4#32
  let c0_i32_457 : BitVec 32 := 0#32
  let v870 : BitVec 1 := Scalar.cmpi .sgt c4_i32_454 c0_i32_457
  let v871 : BitVec 32 := Scalar.extui v870
  let c0_i32_458 : BitVec 32 := 0#32
  let v872 : BitVec 1 := Scalar.cmpi .slt c4_i32_454 c0_i32_458
  let v873 : BitVec 32 := Scalar.extui v872
  let v874 : BitVec 32 := Scalar.subi v871 v873
  let v875 : BitVec 1 := Scalar.cmpi .ne v869 v874
  let v876 : BitVec 32 := Scalar.remsi v2 c4_i32_454
  let c0_i32_459 : BitVec 32 := 0#32
  let v877 : BitVec 1 := Scalar.cmpi .ne v876 c0_i32_459
  let v878 : BitVec 1 := Scalar.andi v875 v877
  let v864 : BitVec 32 := Scalar.divsi v2 c4_i32_454
  let c1_i32_460 : BitVec 32 := 1#32
  let v879 : BitVec 32 := Scalar.subi v864 c1_i32_460
  let v880 : BitVec 32 := Scalar.select v878 v879 v864
  let c5_i32_461 : BitVec 32 := 5#32
  let v881 : BitVec 32 := Scalar.addi v880 c5_i32_461
  let c8_i32_462 : BitVec 32 := 8#32
  let c0_i32_463 : BitVec 32 := 0#32
  let v882 : BitVec 1 := Scalar.cmpi .eq c8_i32_462 c0_i32_463
  let c1_i32_464 : BitVec 32 := 1#32
  let v883 : BitVec 32 := Scalar.select v882 c1_i32_464 c8_i32_462
  let v884 : BitVec 32 := Scalar.remsi v881 v883
  let c0_i32_466 : BitVec 32 := 0#32
  let v886 : BitVec 1 := Scalar.cmpi .slt v884 c0_i32_466
  let c0_i32_467 : BitVec 32 := 0#32
  let v887 : BitVec 1 := Scalar.cmpi .slt v883 c0_i32_467
  let v888 : BitVec 1 := Scalar.xori v886 v887
  let c0_i32_465 : BitVec 32 := 0#32
  let v885 : BitVec 1 := Scalar.cmpi .ne v884 c0_i32_465
  let v889 : BitVec 1 := Scalar.andi v888 v885
  let v890 : BitVec 32 := Scalar.addi v884 v883
  let v891 : BitVec 32 := Scalar.select v889 v890 v884
  let c4_i32_468 : BitVec 32 := 4#32
  let v892 : BitVec 32 := Scalar.muli v891 c4_i32_468
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_469 : BitVec 32 := 3#32
  let v893 : BitVec 32 := Scalar.addi v30 c3_i32_469
  let c4_i32_470 : BitVec 32 := 4#32
  let c0_i32_471 : BitVec 32 := 0#32
  let v894 : BitVec 1 := Scalar.cmpi .eq c4_i32_470 c0_i32_471
  let c1_i32_472 : BitVec 32 := 1#32
  let v895 : BitVec 32 := Scalar.select v894 c1_i32_472 c4_i32_470
  let v896 : BitVec 32 := Scalar.remsi v893 v895
  let c0_i32_474 : BitVec 32 := 0#32
  let v898 : BitVec 1 := Scalar.cmpi .slt v896 c0_i32_474
  let c0_i32_475 : BitVec 32 := 0#32
  let v899 : BitVec 1 := Scalar.cmpi .slt v895 c0_i32_475
  let v900 : BitVec 1 := Scalar.xori v898 v899
  let c0_i32_473 : BitVec 32 := 0#32
  let v897 : BitVec 1 := Scalar.cmpi .ne v896 c0_i32_473
  let v901 : BitVec 1 := Scalar.andi v900 v897
  let v902 : BitVec 32 := Scalar.addi v896 v895
  let v903 : BitVec 32 := Scalar.select v901 v902 v896
  let v904 : BitVec 32 := Scalar.addi v892 v903
  let c1_i32_2874 : BitVec 32 := 1#32
  let v3657 : BitVec 32 := Scalar.muli v904 c1_i32_2874
  let v3658 : BitVec 32 := Scalar.addi c0_i32_2875 v3657
  v3658.toNat
def k0_dev124 (d0 : Dev nD) : Nat :=
  let c0_i32_2885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_477 : BitVec 32 := 0#32
  let v906 : BitVec 1 := Scalar.cmpi .sgt v2 c0_i32_477
  let v907 : BitVec 32 := Scalar.extui v906
  let c0_i32_478 : BitVec 32 := 0#32
  let v908 : BitVec 1 := Scalar.cmpi .slt v2 c0_i32_478
  let v909 : BitVec 32 := Scalar.extui v908
  let v910 : BitVec 32 := Scalar.subi v907 v909
  let c4_i32_476 : BitVec 32 := 4#32
  let c0_i32_479 : BitVec 32 := 0#32
  let v911 : BitVec 1 := Scalar.cmpi .sgt c4_i32_476 c0_i32_479
  let v912 : BitVec 32 := Scalar.extui v911
  let c0_i32_480 : BitVec 32 := 0#32
  let v913 : BitVec 1 := Scalar.cmpi .slt c4_i32_476 c0_i32_480
  let v914 : BitVec 32 := Scalar.extui v913
  let v915 : BitVec 32 := Scalar.subi v912 v914
  let v916 : BitVec 1 := Scalar.cmpi .ne v910 v915
  let v917 : BitVec 32 := Scalar.remsi v2 c4_i32_476
  let c0_i32_481 : BitVec 32 := 0#32
  let v918 : BitVec 1 := Scalar.cmpi .ne v917 c0_i32_481
  let v919 : BitVec 1 := Scalar.andi v916 v918
  let v905 : BitVec 32 := Scalar.divsi v2 c4_i32_476
  let c1_i32_482 : BitVec 32 := 1#32
  let v920 : BitVec 32 := Scalar.subi v905 c1_i32_482
  let v921 : BitVec 32 := Scalar.select v919 v920 v905
  let c6_i32 : BitVec 32 := 6#32
  let v922 : BitVec 32 := Scalar.addi v921 c6_i32
  let c8_i32_483 : BitVec 32 := 8#32
  let c0_i32_484 : BitVec 32 := 0#32
  let v923 : BitVec 1 := Scalar.cmpi .eq c8_i32_483 c0_i32_484
  let c1_i32_485 : BitVec 32 := 1#32
  let v924 : BitVec 32 := Scalar.select v923 c1_i32_485 c8_i32_483
  let v925 : BitVec 32 := Scalar.remsi v922 v924
  let c0_i32_487 : BitVec 32 := 0#32
  let v927 : BitVec 1 := Scalar.cmpi .slt v925 c0_i32_487
  let c0_i32_488 : BitVec 32 := 0#32
  let v928 : BitVec 1 := Scalar.cmpi .slt v924 c0_i32_488
  let v929 : BitVec 1 := Scalar.xori v927 v928
  let c0_i32_486 : BitVec 32 := 0#32
  let v926 : BitVec 1 := Scalar.cmpi .ne v925 c0_i32_486
  let v930 : BitVec 1 := Scalar.andi v929 v926
  let v931 : BitVec 32 := Scalar.addi v925 v924
  let v932 : BitVec 32 := Scalar.select v930 v931 v925
  let c4_i32_489 : BitVec 32 := 4#32
  let v933 : BitVec 32 := Scalar.muli v932 c4_i32_489
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_490 : BitVec 32 := 0#32
  let v934 : BitVec 32 := Scalar.addi v30 c0_i32_490
  let c4_i32_491 : BitVec 32 := 4#32
  let c0_i32_492 : BitVec 32 := 0#32
  let v935 : BitVec 1 := Scalar.cmpi .eq c4_i32_491 c0_i32_492
  let c1_i32_493 : BitVec 32 := 1#32
  let v936 : BitVec 32 := Scalar.select v935 c1_i32_493 c4_i32_491
  let v937 : BitVec 32 := Scalar.remsi v934 v936
  let c0_i32_495 : BitVec 32 := 0#32
  let v939 : BitVec 1 := Scalar.cmpi .slt v937 c0_i32_495
  let c0_i32_496 : BitVec 32 := 0#32
  let v940 : BitVec 1 := Scalar.cmpi .slt v936 c0_i32_496
  let v941 : BitVec 1 := Scalar.xori v939 v940
  let c0_i32_494 : BitVec 32 := 0#32
  let v938 : BitVec 1 := Scalar.cmpi .ne v937 c0_i32_494
  let v942 : BitVec 1 := Scalar.andi v941 v938
  let v943 : BitVec 32 := Scalar.addi v937 v936
  let v944 : BitVec 32 := Scalar.select v942 v943 v937
  let v945 : BitVec 32 := Scalar.addi v933 v944
  let c1_i32_2884 : BitVec 32 := 1#32
  let v3669 : BitVec 32 := Scalar.muli v945 c1_i32_2884
  let v3670 : BitVec 32 := Scalar.addi c0_i32_2885 v3669
  v3670.toNat
def k0_dev125 (d0 : Dev nD) : Nat :=
  let c0_i32_2895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_498 : BitVec 32 := 0#32
  let v947 : BitVec 1 := Scalar.cmpi .sgt v2 c0_i32_498
  let v948 : BitVec 32 := Scalar.extui v947
  let c0_i32_499 : BitVec 32 := 0#32
  let v949 : BitVec 1 := Scalar.cmpi .slt v2 c0_i32_499
  let v950 : BitVec 32 := Scalar.extui v949
  let v951 : BitVec 32 := Scalar.subi v948 v950
  let c4_i32_497 : BitVec 32 := 4#32
  let c0_i32_500 : BitVec 32 := 0#32
  let v952 : BitVec 1 := Scalar.cmpi .sgt c4_i32_497 c0_i32_500
  let v953 : BitVec 32 := Scalar.extui v952
  let c0_i32_501 : BitVec 32 := 0#32
  let v954 : BitVec 1 := Scalar.cmpi .slt c4_i32_497 c0_i32_501
  let v955 : BitVec 32 := Scalar.extui v954
  let v956 : BitVec 32 := Scalar.subi v953 v955
  let v957 : BitVec 1 := Scalar.cmpi .ne v951 v956
  let v958 : BitVec 32 := Scalar.remsi v2 c4_i32_497
  let c0_i32_502 : BitVec 32 := 0#32
  let v959 : BitVec 1 := Scalar.cmpi .ne v958 c0_i32_502
  let v960 : BitVec 1 := Scalar.andi v957 v959
  let v946 : BitVec 32 := Scalar.divsi v2 c4_i32_497
  let c1_i32_503 : BitVec 32 := 1#32
  let v961 : BitVec 32 := Scalar.subi v946 c1_i32_503
  let v962 : BitVec 32 := Scalar.select v960 v961 v946
  let c6_i32_504 : BitVec 32 := 6#32
  let v963 : BitVec 32 := Scalar.addi v962 c6_i32_504
  let c8_i32_505 : BitVec 32 := 8#32
  let c0_i32_506 : BitVec 32 := 0#32
  let v964 : BitVec 1 := Scalar.cmpi .eq c8_i32_505 c0_i32_506
  let c1_i32_507 : BitVec 32 := 1#32
  let v965 : BitVec 32 := Scalar.select v964 c1_i32_507 c8_i32_505
  let v966 : BitVec 32 := Scalar.remsi v963 v965
  let c0_i32_509 : BitVec 32 := 0#32
  let v968 : BitVec 1 := Scalar.cmpi .slt v966 c0_i32_509
  let c0_i32_510 : BitVec 32 := 0#32
  let v969 : BitVec 1 := Scalar.cmpi .slt v965 c0_i32_510
  let v970 : BitVec 1 := Scalar.xori v968 v969
  let c0_i32_508 : BitVec 32 := 0#32
  let v967 : BitVec 1 := Scalar.cmpi .ne v966 c0_i32_508
  let v971 : BitVec 1 := Scalar.andi v970 v967
  let v972 : BitVec 32 := Scalar.addi v966 v965
  let v973 : BitVec 32 := Scalar.select v971 v972 v966
  let c4_i32_511 : BitVec 32 := 4#32
  let v974 : BitVec 32 := Scalar.muli v973 c4_i32_511
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_512 : BitVec 32 := 1#32
  let v975 : BitVec 32 := Scalar.addi v30 c1_i32_512
  let c4_i32_513 : BitVec 32 := 4#32
  let c0_i32_514 : BitVec 32 := 0#32
  let v976 : BitVec 1 := Scalar.cmpi .eq c4_i32_513 c0_i32_514
  let c1_i32_515 : BitVec 32 := 1#32
  let v977 : BitVec 32 := Scalar.select v976 c1_i32_515 c4_i32_513
  let v978 : BitVec 32 := Scalar.remsi v975 v977
  let c0_i32_517 : BitVec 32 := 0#32
  let v980 : BitVec 1 := Scalar.cmpi .slt v978 c0_i32_517
  let c0_i32_518 : BitVec 32 := 0#32
  let v981 : BitVec 1 := Scalar.cmpi .slt v977 c0_i32_518
  let v982 : BitVec 1 := Scalar.xori v980 v981
  let c0_i32_516 : BitVec 32 := 0#32
  let v979 : BitVec 1 := Scalar.cmpi .ne v978 c0_i32_516
  let v983 : BitVec 1 := Scalar.andi v982 v979
  let v984 : BitVec 32 := Scalar.addi v978 v977
  let v985 : BitVec 32 := Scalar.select v983 v984 v978
  let v986 : BitVec 32 := Scalar.addi v974 v985
  let c1_i32_2894 : BitVec 32 := 1#32
  let v3681 : BitVec 32 := Scalar.muli v986 c1_i32_2894
  let v3682 : BitVec 32 := Scalar.addi c0_i32_2895 v3681
  v3682.toNat
def k0_dev126 (d0 : Dev nD) : Nat :=
  let c0_i32_2905 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_520 : BitVec 32 := 0#32
  let v988 : BitVec 1 := Scalar.cmpi .sgt v2 c0_i32_520
  let v989 : BitVec 32 := Scalar.extui v988
  let c0_i32_521 : BitVec 32 := 0#32
  let v990 : BitVec 1 := Scalar.cmpi .slt v2 c0_i32_521
  let v991 : BitVec 32 := Scalar.extui v990
  let v992 : BitVec 32 := Scalar.subi v989 v991
  let c4_i32_519 : BitVec 32 := 4#32
  let c0_i32_522 : BitVec 32 := 0#32
  let v993 : BitVec 1 := Scalar.cmpi .sgt c4_i32_519 c0_i32_522
  let v994 : BitVec 32 := Scalar.extui v993
  let c0_i32_523 : BitVec 32 := 0#32
  let v995 : BitVec 1 := Scalar.cmpi .slt c4_i32_519 c0_i32_523
  let v996 : BitVec 32 := Scalar.extui v995
  let v997 : BitVec 32 := Scalar.subi v994 v996
  let v998 : BitVec 1 := Scalar.cmpi .ne v992 v997
  let v999 : BitVec 32 := Scalar.remsi v2 c4_i32_519
  let c0_i32_524 : BitVec 32 := 0#32
  let v1000 : BitVec 1 := Scalar.cmpi .ne v999 c0_i32_524
  let v1001 : BitVec 1 := Scalar.andi v998 v1000
  let v987 : BitVec 32 := Scalar.divsi v2 c4_i32_519
  let c1_i32_525 : BitVec 32 := 1#32
  let v1002 : BitVec 32 := Scalar.subi v987 c1_i32_525
  let v1003 : BitVec 32 := Scalar.select v1001 v1002 v987
  let c6_i32_526 : BitVec 32 := 6#32
  let v1004 : BitVec 32 := Scalar.addi v1003 c6_i32_526
  let c8_i32_527 : BitVec 32 := 8#32
  let c0_i32_528 : BitVec 32 := 0#32
  let v1005 : BitVec 1 := Scalar.cmpi .eq c8_i32_527 c0_i32_528
  let c1_i32_529 : BitVec 32 := 1#32
  let v1006 : BitVec 32 := Scalar.select v1005 c1_i32_529 c8_i32_527
  let v1007 : BitVec 32 := Scalar.remsi v1004 v1006
  let c0_i32_531 : BitVec 32 := 0#32
  let v1009 : BitVec 1 := Scalar.cmpi .slt v1007 c0_i32_531
  let c0_i32_532 : BitVec 32 := 0#32
  let v1010 : BitVec 1 := Scalar.cmpi .slt v1006 c0_i32_532
  let v1011 : BitVec 1 := Scalar.xori v1009 v1010
  let c0_i32_530 : BitVec 32 := 0#32
  let v1008 : BitVec 1 := Scalar.cmpi .ne v1007 c0_i32_530
  let v1012 : BitVec 1 := Scalar.andi v1011 v1008
  let v1013 : BitVec 32 := Scalar.addi v1007 v1006
  let v1014 : BitVec 32 := Scalar.select v1012 v1013 v1007
  let c4_i32_533 : BitVec 32 := 4#32
  let v1015 : BitVec 32 := Scalar.muli v1014 c4_i32_533
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_534 : BitVec 32 := 2#32
  let v1016 : BitVec 32 := Scalar.addi v30 c2_i32_534
  let c4_i32_535 : BitVec 32 := 4#32
  let c0_i32_536 : BitVec 32 := 0#32
  let v1017 : BitVec 1 := Scalar.cmpi .eq c4_i32_535 c0_i32_536
  let c1_i32_537 : BitVec 32 := 1#32
  let v1018 : BitVec 32 := Scalar.select v1017 c1_i32_537 c4_i32_535
  let v1019 : BitVec 32 := Scalar.remsi v1016 v1018
  let c0_i32_539 : BitVec 32 := 0#32
  let v1021 : BitVec 1 := Scalar.cmpi .slt v1019 c0_i32_539
  let c0_i32_540 : BitVec 32 := 0#32
  let v1022 : BitVec 1 := Scalar.cmpi .slt v1018 c0_i32_540
  let v1023 : BitVec 1 := Scalar.xori v1021 v1022
  let c0_i32_538 : BitVec 32 := 0#32
  let v1020 : BitVec 1 := Scalar.cmpi .ne v1019 c0_i32_538
  let v1024 : BitVec 1 := Scalar.andi v1023 v1020
  let v1025 : BitVec 32 := Scalar.addi v1019 v1018
  let v1026 : BitVec 32 := Scalar.select v1024 v1025 v1019
  let v1027 : BitVec 32 := Scalar.addi v1015 v1026
  let c1_i32_2904 : BitVec 32 := 1#32
  let v3693 : BitVec 32 := Scalar.muli v1027 c1_i32_2904
  let v3694 : BitVec 32 := Scalar.addi c0_i32_2905 v3693
  v3694.toNat
def k0_dev127 (d0 : Dev nD) : Nat :=
  let c0_i32_2915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_542 : BitVec 32 := 0#32
  let v1029 : BitVec 1 := Scalar.cmpi .sgt v2 c0_i32_542
  let v1030 : BitVec 32 := Scalar.extui v1029
  let c0_i32_543 : BitVec 32 := 0#32
  let v1031 : BitVec 1 := Scalar.cmpi .slt v2 c0_i32_543
  let v1032 : BitVec 32 := Scalar.extui v1031
  let v1033 : BitVec 32 := Scalar.subi v1030 v1032
  let c4_i32_541 : BitVec 32 := 4#32
  let c0_i32_544 : BitVec 32 := 0#32
  let v1034 : BitVec 1 := Scalar.cmpi .sgt c4_i32_541 c0_i32_544
  let v1035 : BitVec 32 := Scalar.extui v1034
  let c0_i32_545 : BitVec 32 := 0#32
  let v1036 : BitVec 1 := Scalar.cmpi .slt c4_i32_541 c0_i32_545
  let v1037 : BitVec 32 := Scalar.extui v1036
  let v1038 : BitVec 32 := Scalar.subi v1035 v1037
  let v1039 : BitVec 1 := Scalar.cmpi .ne v1033 v1038
  let v1040 : BitVec 32 := Scalar.remsi v2 c4_i32_541
  let c0_i32_546 : BitVec 32 := 0#32
  let v1041 : BitVec 1 := Scalar.cmpi .ne v1040 c0_i32_546
  let v1042 : BitVec 1 := Scalar.andi v1039 v1041
  let v1028 : BitVec 32 := Scalar.divsi v2 c4_i32_541
  let c1_i32_547 : BitVec 32 := 1#32
  let v1043 : BitVec 32 := Scalar.subi v1028 c1_i32_547
  let v1044 : BitVec 32 := Scalar.select v1042 v1043 v1028
  let c6_i32_548 : BitVec 32 := 6#32
  let v1045 : BitVec 32 := Scalar.addi v1044 c6_i32_548
  let c8_i32_549 : BitVec 32 := 8#32
  let c0_i32_550 : BitVec 32 := 0#32
  let v1046 : BitVec 1 := Scalar.cmpi .eq c8_i32_549 c0_i32_550
  let c1_i32_551 : BitVec 32 := 1#32
  let v1047 : BitVec 32 := Scalar.select v1046 c1_i32_551 c8_i32_549
  let v1048 : BitVec 32 := Scalar.remsi v1045 v1047
  let c0_i32_553 : BitVec 32 := 0#32
  let v1050 : BitVec 1 := Scalar.cmpi .slt v1048 c0_i32_553
  let c0_i32_554 : BitVec 32 := 0#32
  let v1051 : BitVec 1 := Scalar.cmpi .slt v1047 c0_i32_554
  let v1052 : BitVec 1 := Scalar.xori v1050 v1051
  let c0_i32_552 : BitVec 32 := 0#32
  let v1049 : BitVec 1 := Scalar.cmpi .ne v1048 c0_i32_552
  let v1053 : BitVec 1 := Scalar.andi v1052 v1049
  let v1054 : BitVec 32 := Scalar.addi v1048 v1047
  let v1055 : BitVec 32 := Scalar.select v1053 v1054 v1048
  let c4_i32_555 : BitVec 32 := 4#32
  let v1056 : BitVec 32 := Scalar.muli v1055 c4_i32_555
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_556 : BitVec 32 := 3#32
  let v1057 : BitVec 32 := Scalar.addi v30 c3_i32_556
  let c4_i32_557 : BitVec 32 := 4#32
  let c0_i32_558 : BitVec 32 := 0#32
  let v1058 : BitVec 1 := Scalar.cmpi .eq c4_i32_557 c0_i32_558
  let c1_i32_559 : BitVec 32 := 1#32
  let v1059 : BitVec 32 := Scalar.select v1058 c1_i32_559 c4_i32_557
  let v1060 : BitVec 32 := Scalar.remsi v1057 v1059
  let c0_i32_561 : BitVec 32 := 0#32
  let v1062 : BitVec 1 := Scalar.cmpi .slt v1060 c0_i32_561
  let c0_i32_562 : BitVec 32 := 0#32
  let v1063 : BitVec 1 := Scalar.cmpi .slt v1059 c0_i32_562
  let v1064 : BitVec 1 := Scalar.xori v1062 v1063
  let c0_i32_560 : BitVec 32 := 0#32
  let v1061 : BitVec 1 := Scalar.cmpi .ne v1060 c0_i32_560
  let v1065 : BitVec 1 := Scalar.andi v1064 v1061
  let v1066 : BitVec 32 := Scalar.addi v1060 v1059
  let v1067 : BitVec 32 := Scalar.select v1065 v1066 v1060
  let v1068 : BitVec 32 := Scalar.addi v1056 v1067
  let c1_i32_2914 : BitVec 32 := 1#32
  let v3705 : BitVec 32 := Scalar.muli v1068 c1_i32_2914
  let v3706 : BitVec 32 := Scalar.addi c0_i32_2915 v3705
  v3706.toNat
def k0_dev128 (d0 : Dev nD) : Nat :=
  let c0_i32_2925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_564 : BitVec 32 := 0#32
  let v1070 : BitVec 1 := Scalar.cmpi .sgt v2 c0_i32_564
  let v1071 : BitVec 32 := Scalar.extui v1070
  let c0_i32_565 : BitVec 32 := 0#32
  let v1072 : BitVec 1 := Scalar.cmpi .slt v2 c0_i32_565
  let v1073 : BitVec 32 := Scalar.extui v1072
  let v1074 : BitVec 32 := Scalar.subi v1071 v1073
  let c4_i32_563 : BitVec 32 := 4#32
  let c0_i32_566 : BitVec 32 := 0#32
  let v1075 : BitVec 1 := Scalar.cmpi .sgt c4_i32_563 c0_i32_566
  let v1076 : BitVec 32 := Scalar.extui v1075
  let c0_i32_567 : BitVec 32 := 0#32
  let v1077 : BitVec 1 := Scalar.cmpi .slt c4_i32_563 c0_i32_567
  let v1078 : BitVec 32 := Scalar.extui v1077
  let v1079 : BitVec 32 := Scalar.subi v1076 v1078
  let v1080 : BitVec 1 := Scalar.cmpi .ne v1074 v1079
  let v1081 : BitVec 32 := Scalar.remsi v2 c4_i32_563
  let c0_i32_568 : BitVec 32 := 0#32
  let v1082 : BitVec 1 := Scalar.cmpi .ne v1081 c0_i32_568
  let v1083 : BitVec 1 := Scalar.andi v1080 v1082
  let v1069 : BitVec 32 := Scalar.divsi v2 c4_i32_563
  let c1_i32_569 : BitVec 32 := 1#32
  let v1084 : BitVec 32 := Scalar.subi v1069 c1_i32_569
  let v1085 : BitVec 32 := Scalar.select v1083 v1084 v1069
  let c7_i32 : BitVec 32 := 7#32
  let v1086 : BitVec 32 := Scalar.addi v1085 c7_i32
  let c8_i32_570 : BitVec 32 := 8#32
  let c0_i32_571 : BitVec 32 := 0#32
  let v1087 : BitVec 1 := Scalar.cmpi .eq c8_i32_570 c0_i32_571
  let c1_i32_572 : BitVec 32 := 1#32
  let v1088 : BitVec 32 := Scalar.select v1087 c1_i32_572 c8_i32_570
  let v1089 : BitVec 32 := Scalar.remsi v1086 v1088
  let c0_i32_574 : BitVec 32 := 0#32
  let v1091 : BitVec 1 := Scalar.cmpi .slt v1089 c0_i32_574
  let c0_i32_575 : BitVec 32 := 0#32
  let v1092 : BitVec 1 := Scalar.cmpi .slt v1088 c0_i32_575
  let v1093 : BitVec 1 := Scalar.xori v1091 v1092
  let c0_i32_573 : BitVec 32 := 0#32
  let v1090 : BitVec 1 := Scalar.cmpi .ne v1089 c0_i32_573
  let v1094 : BitVec 1 := Scalar.andi v1093 v1090
  let v1095 : BitVec 32 := Scalar.addi v1089 v1088
  let v1096 : BitVec 32 := Scalar.select v1094 v1095 v1089
  let c4_i32_576 : BitVec 32 := 4#32
  let v1097 : BitVec 32 := Scalar.muli v1096 c4_i32_576
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c0_i32_577 : BitVec 32 := 0#32
  let v1098 : BitVec 32 := Scalar.addi v30 c0_i32_577
  let c4_i32_578 : BitVec 32 := 4#32
  let c0_i32_579 : BitVec 32 := 0#32
  let v1099 : BitVec 1 := Scalar.cmpi .eq c4_i32_578 c0_i32_579
  let c1_i32_580 : BitVec 32 := 1#32
  let v1100 : BitVec 32 := Scalar.select v1099 c1_i32_580 c4_i32_578
  let v1101 : BitVec 32 := Scalar.remsi v1098 v1100
  let c0_i32_582 : BitVec 32 := 0#32
  let v1103 : BitVec 1 := Scalar.cmpi .slt v1101 c0_i32_582
  let c0_i32_583 : BitVec 32 := 0#32
  let v1104 : BitVec 1 := Scalar.cmpi .slt v1100 c0_i32_583
  let v1105 : BitVec 1 := Scalar.xori v1103 v1104
  let c0_i32_581 : BitVec 32 := 0#32
  let v1102 : BitVec 1 := Scalar.cmpi .ne v1101 c0_i32_581
  let v1106 : BitVec 1 := Scalar.andi v1105 v1102
  let v1107 : BitVec 32 := Scalar.addi v1101 v1100
  let v1108 : BitVec 32 := Scalar.select v1106 v1107 v1101
  let v1109 : BitVec 32 := Scalar.addi v1097 v1108
  let c1_i32_2924 : BitVec 32 := 1#32
  let v3717 : BitVec 32 := Scalar.muli v1109 c1_i32_2924
  let v3718 : BitVec 32 := Scalar.addi c0_i32_2925 v3717
  v3718.toNat
def k0_dev129 (d0 : Dev nD) : Nat :=
  let c0_i32_2935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_585 : BitVec 32 := 0#32
  let v1111 : BitVec 1 := Scalar.cmpi .sgt v2 c0_i32_585
  let v1112 : BitVec 32 := Scalar.extui v1111
  let c0_i32_586 : BitVec 32 := 0#32
  let v1113 : BitVec 1 := Scalar.cmpi .slt v2 c0_i32_586
  let v1114 : BitVec 32 := Scalar.extui v1113
  let v1115 : BitVec 32 := Scalar.subi v1112 v1114
  let c4_i32_584 : BitVec 32 := 4#32
  let c0_i32_587 : BitVec 32 := 0#32
  let v1116 : BitVec 1 := Scalar.cmpi .sgt c4_i32_584 c0_i32_587
  let v1117 : BitVec 32 := Scalar.extui v1116
  let c0_i32_588 : BitVec 32 := 0#32
  let v1118 : BitVec 1 := Scalar.cmpi .slt c4_i32_584 c0_i32_588
  let v1119 : BitVec 32 := Scalar.extui v1118
  let v1120 : BitVec 32 := Scalar.subi v1117 v1119
  let v1121 : BitVec 1 := Scalar.cmpi .ne v1115 v1120
  let v1122 : BitVec 32 := Scalar.remsi v2 c4_i32_584
  let c0_i32_589 : BitVec 32 := 0#32
  let v1123 : BitVec 1 := Scalar.cmpi .ne v1122 c0_i32_589
  let v1124 : BitVec 1 := Scalar.andi v1121 v1123
  let v1110 : BitVec 32 := Scalar.divsi v2 c4_i32_584
  let c1_i32_590 : BitVec 32 := 1#32
  let v1125 : BitVec 32 := Scalar.subi v1110 c1_i32_590
  let v1126 : BitVec 32 := Scalar.select v1124 v1125 v1110
  let c7_i32_591 : BitVec 32 := 7#32
  let v1127 : BitVec 32 := Scalar.addi v1126 c7_i32_591
  let c8_i32_592 : BitVec 32 := 8#32
  let c0_i32_593 : BitVec 32 := 0#32
  let v1128 : BitVec 1 := Scalar.cmpi .eq c8_i32_592 c0_i32_593
  let c1_i32_594 : BitVec 32 := 1#32
  let v1129 : BitVec 32 := Scalar.select v1128 c1_i32_594 c8_i32_592
  let v1130 : BitVec 32 := Scalar.remsi v1127 v1129
  let c0_i32_596 : BitVec 32 := 0#32
  let v1132 : BitVec 1 := Scalar.cmpi .slt v1130 c0_i32_596
  let c0_i32_597 : BitVec 32 := 0#32
  let v1133 : BitVec 1 := Scalar.cmpi .slt v1129 c0_i32_597
  let v1134 : BitVec 1 := Scalar.xori v1132 v1133
  let c0_i32_595 : BitVec 32 := 0#32
  let v1131 : BitVec 1 := Scalar.cmpi .ne v1130 c0_i32_595
  let v1135 : BitVec 1 := Scalar.andi v1134 v1131
  let v1136 : BitVec 32 := Scalar.addi v1130 v1129
  let v1137 : BitVec 32 := Scalar.select v1135 v1136 v1130
  let c4_i32_598 : BitVec 32 := 4#32
  let v1138 : BitVec 32 := Scalar.muli v1137 c4_i32_598
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c1_i32_599 : BitVec 32 := 1#32
  let v1139 : BitVec 32 := Scalar.addi v30 c1_i32_599
  let c4_i32_600 : BitVec 32 := 4#32
  let c0_i32_601 : BitVec 32 := 0#32
  let v1140 : BitVec 1 := Scalar.cmpi .eq c4_i32_600 c0_i32_601
  let c1_i32_602 : BitVec 32 := 1#32
  let v1141 : BitVec 32 := Scalar.select v1140 c1_i32_602 c4_i32_600
  let v1142 : BitVec 32 := Scalar.remsi v1139 v1141
  let c0_i32_604 : BitVec 32 := 0#32
  let v1144 : BitVec 1 := Scalar.cmpi .slt v1142 c0_i32_604
  let c0_i32_605 : BitVec 32 := 0#32
  let v1145 : BitVec 1 := Scalar.cmpi .slt v1141 c0_i32_605
  let v1146 : BitVec 1 := Scalar.xori v1144 v1145
  let c0_i32_603 : BitVec 32 := 0#32
  let v1143 : BitVec 1 := Scalar.cmpi .ne v1142 c0_i32_603
  let v1147 : BitVec 1 := Scalar.andi v1146 v1143
  let v1148 : BitVec 32 := Scalar.addi v1142 v1141
  let v1149 : BitVec 32 := Scalar.select v1147 v1148 v1142
  let v1150 : BitVec 32 := Scalar.addi v1138 v1149
  let c1_i32_2934 : BitVec 32 := 1#32
  let v3729 : BitVec 32 := Scalar.muli v1150 c1_i32_2934
  let v3730 : BitVec 32 := Scalar.addi c0_i32_2935 v3729
  v3730.toNat
def k0_dev130 (d0 : Dev nD) : Nat :=
  let c0_i32_2945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_607 : BitVec 32 := 0#32
  let v1152 : BitVec 1 := Scalar.cmpi .sgt v2 c0_i32_607
  let v1153 : BitVec 32 := Scalar.extui v1152
  let c0_i32_608 : BitVec 32 := 0#32
  let v1154 : BitVec 1 := Scalar.cmpi .slt v2 c0_i32_608
  let v1155 : BitVec 32 := Scalar.extui v1154
  let v1156 : BitVec 32 := Scalar.subi v1153 v1155
  let c4_i32_606 : BitVec 32 := 4#32
  let c0_i32_609 : BitVec 32 := 0#32
  let v1157 : BitVec 1 := Scalar.cmpi .sgt c4_i32_606 c0_i32_609
  let v1158 : BitVec 32 := Scalar.extui v1157
  let c0_i32_610 : BitVec 32 := 0#32
  let v1159 : BitVec 1 := Scalar.cmpi .slt c4_i32_606 c0_i32_610
  let v1160 : BitVec 32 := Scalar.extui v1159
  let v1161 : BitVec 32 := Scalar.subi v1158 v1160
  let v1162 : BitVec 1 := Scalar.cmpi .ne v1156 v1161
  let v1163 : BitVec 32 := Scalar.remsi v2 c4_i32_606
  let c0_i32_611 : BitVec 32 := 0#32
  let v1164 : BitVec 1 := Scalar.cmpi .ne v1163 c0_i32_611
  let v1165 : BitVec 1 := Scalar.andi v1162 v1164
  let v1151 : BitVec 32 := Scalar.divsi v2 c4_i32_606
  let c1_i32_612 : BitVec 32 := 1#32
  let v1166 : BitVec 32 := Scalar.subi v1151 c1_i32_612
  let v1167 : BitVec 32 := Scalar.select v1165 v1166 v1151
  let c7_i32_613 : BitVec 32 := 7#32
  let v1168 : BitVec 32 := Scalar.addi v1167 c7_i32_613
  let c8_i32_614 : BitVec 32 := 8#32
  let c0_i32_615 : BitVec 32 := 0#32
  let v1169 : BitVec 1 := Scalar.cmpi .eq c8_i32_614 c0_i32_615
  let c1_i32_616 : BitVec 32 := 1#32
  let v1170 : BitVec 32 := Scalar.select v1169 c1_i32_616 c8_i32_614
  let v1171 : BitVec 32 := Scalar.remsi v1168 v1170
  let c0_i32_618 : BitVec 32 := 0#32
  let v1173 : BitVec 1 := Scalar.cmpi .slt v1171 c0_i32_618
  let c0_i32_619 : BitVec 32 := 0#32
  let v1174 : BitVec 1 := Scalar.cmpi .slt v1170 c0_i32_619
  let v1175 : BitVec 1 := Scalar.xori v1173 v1174
  let c0_i32_617 : BitVec 32 := 0#32
  let v1172 : BitVec 1 := Scalar.cmpi .ne v1171 c0_i32_617
  let v1176 : BitVec 1 := Scalar.andi v1175 v1172
  let v1177 : BitVec 32 := Scalar.addi v1171 v1170
  let v1178 : BitVec 32 := Scalar.select v1176 v1177 v1171
  let c4_i32_620 : BitVec 32 := 4#32
  let v1179 : BitVec 32 := Scalar.muli v1178 c4_i32_620
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c2_i32_621 : BitVec 32 := 2#32
  let v1180 : BitVec 32 := Scalar.addi v30 c2_i32_621
  let c4_i32_622 : BitVec 32 := 4#32
  let c0_i32_623 : BitVec 32 := 0#32
  let v1181 : BitVec 1 := Scalar.cmpi .eq c4_i32_622 c0_i32_623
  let c1_i32_624 : BitVec 32 := 1#32
  let v1182 : BitVec 32 := Scalar.select v1181 c1_i32_624 c4_i32_622
  let v1183 : BitVec 32 := Scalar.remsi v1180 v1182
  let c0_i32_626 : BitVec 32 := 0#32
  let v1185 : BitVec 1 := Scalar.cmpi .slt v1183 c0_i32_626
  let c0_i32_627 : BitVec 32 := 0#32
  let v1186 : BitVec 1 := Scalar.cmpi .slt v1182 c0_i32_627
  let v1187 : BitVec 1 := Scalar.xori v1185 v1186
  let c0_i32_625 : BitVec 32 := 0#32
  let v1184 : BitVec 1 := Scalar.cmpi .ne v1183 c0_i32_625
  let v1188 : BitVec 1 := Scalar.andi v1187 v1184
  let v1189 : BitVec 32 := Scalar.addi v1183 v1182
  let v1190 : BitVec 32 := Scalar.select v1188 v1189 v1183
  let v1191 : BitVec 32 := Scalar.addi v1179 v1190
  let c1_i32_2944 : BitVec 32 := 1#32
  let v3741 : BitVec 32 := Scalar.muli v1191 c1_i32_2944
  let v3742 : BitVec 32 := Scalar.addi c0_i32_2945 v3741
  v3742.toNat
def k0_dev131 (d0 : Dev nD) : Nat :=
  let c0_i32_2955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_629 : BitVec 32 := 0#32
  let v1193 : BitVec 1 := Scalar.cmpi .sgt v2 c0_i32_629
  let v1194 : BitVec 32 := Scalar.extui v1193
  let c0_i32_630 : BitVec 32 := 0#32
  let v1195 : BitVec 1 := Scalar.cmpi .slt v2 c0_i32_630
  let v1196 : BitVec 32 := Scalar.extui v1195
  let v1197 : BitVec 32 := Scalar.subi v1194 v1196
  let c4_i32_628 : BitVec 32 := 4#32
  let c0_i32_631 : BitVec 32 := 0#32
  let v1198 : BitVec 1 := Scalar.cmpi .sgt c4_i32_628 c0_i32_631
  let v1199 : BitVec 32 := Scalar.extui v1198
  let c0_i32_632 : BitVec 32 := 0#32
  let v1200 : BitVec 1 := Scalar.cmpi .slt c4_i32_628 c0_i32_632
  let v1201 : BitVec 32 := Scalar.extui v1200
  let v1202 : BitVec 32 := Scalar.subi v1199 v1201
  let v1203 : BitVec 1 := Scalar.cmpi .ne v1197 v1202
  let v1204 : BitVec 32 := Scalar.remsi v2 c4_i32_628
  let c0_i32_633 : BitVec 32 := 0#32
  let v1205 : BitVec 1 := Scalar.cmpi .ne v1204 c0_i32_633
  let v1206 : BitVec 1 := Scalar.andi v1203 v1205
  let v1192 : BitVec 32 := Scalar.divsi v2 c4_i32_628
  let c1_i32_634 : BitVec 32 := 1#32
  let v1207 : BitVec 32 := Scalar.subi v1192 c1_i32_634
  let v1208 : BitVec 32 := Scalar.select v1206 v1207 v1192
  let c7_i32_635 : BitVec 32 := 7#32
  let v1209 : BitVec 32 := Scalar.addi v1208 c7_i32_635
  let c8_i32_636 : BitVec 32 := 8#32
  let c0_i32_637 : BitVec 32 := 0#32
  let v1210 : BitVec 1 := Scalar.cmpi .eq c8_i32_636 c0_i32_637
  let c1_i32_638 : BitVec 32 := 1#32
  let v1211 : BitVec 32 := Scalar.select v1210 c1_i32_638 c8_i32_636
  let v1212 : BitVec 32 := Scalar.remsi v1209 v1211
  let c0_i32_640 : BitVec 32 := 0#32
  let v1214 : BitVec 1 := Scalar.cmpi .slt v1212 c0_i32_640
  let c0_i32_641 : BitVec 32 := 0#32
  let v1215 : BitVec 1 := Scalar.cmpi .slt v1211 c0_i32_641
  let v1216 : BitVec 1 := Scalar.xori v1214 v1215
  let c0_i32_639 : BitVec 32 := 0#32
  let v1213 : BitVec 1 := Scalar.cmpi .ne v1212 c0_i32_639
  let v1217 : BitVec 1 := Scalar.andi v1216 v1213
  let v1218 : BitVec 32 := Scalar.addi v1212 v1211
  let v1219 : BitVec 32 := Scalar.select v1217 v1218 v1212
  let c4_i32_642 : BitVec 32 := 4#32
  let v1220 : BitVec 32 := Scalar.muli v1219 c4_i32_642
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v2 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c3_i32_643 : BitVec 32 := 3#32
  let v1221 : BitVec 32 := Scalar.addi v30 c3_i32_643
  let c4_i32_644 : BitVec 32 := 4#32
  let c0_i32_645 : BitVec 32 := 0#32
  let v1222 : BitVec 1 := Scalar.cmpi .eq c4_i32_644 c0_i32_645
  let c1_i32_646 : BitVec 32 := 1#32
  let v1223 : BitVec 32 := Scalar.select v1222 c1_i32_646 c4_i32_644
  let v1224 : BitVec 32 := Scalar.remsi v1221 v1223
  let c0_i32_648 : BitVec 32 := 0#32
  let v1226 : BitVec 1 := Scalar.cmpi .slt v1224 c0_i32_648
  let c0_i32_649 : BitVec 32 := 0#32
  let v1227 : BitVec 1 := Scalar.cmpi .slt v1223 c0_i32_649
  let v1228 : BitVec 1 := Scalar.xori v1226 v1227
  let c0_i32_647 : BitVec 32 := 0#32
  let v1225 : BitVec 1 := Scalar.cmpi .ne v1224 c0_i32_647
  let v1229 : BitVec 1 := Scalar.andi v1228 v1225
  let v1230 : BitVec 32 := Scalar.addi v1224 v1223
  let v1231 : BitVec 32 := Scalar.select v1229 v1230 v1224
  let v1232 : BitVec 32 := Scalar.addi v1220 v1231
  let c1_i32_2954 : BitVec 32 := 1#32
  let v3753 : BitVec 32 := Scalar.muli v1232 c1_i32_2954
  let v3754 : BitVec 32 := Scalar.addi c0_i32_2955 v3753
  v3754.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S32x1024x512 : Shape := ⟨3, ![32, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32x1024x512, .f32⟩
  | .hbm, ⟨2, _⟩ => ⟨S_, .f32⟩
  | .hbm, ⟨3, _⟩ => ⟨S1024x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Rolled.lean ====
/-
# The kernel body as loops

The printed body is one straight sequence of some four hundred memory operations. Here the same sequence is
written as the loops of the Python source: a list of targets, and one step per target. `body_eq` states that
the printed body is this program.
-/
module

public import proofs.«01_k».proof.Proof.Gen.KernelIdeal
public import proofs.«01_k».proof.Proof.Gen.KernelIdeal.Skeleton
public import Idealize.ShloMosaic.Lib.Pipeline.Regions
public import Idealize.ShloMosaic.Lib.Tactic

@[expose] public section

set_option maxRecDepth 16384

noncomputable section

namespace Cert.AllReduce

open Cert.KernelIdeal Cert.KernelIdeal.Gen
open Idealize.ShloMosaic Idealize.ShloMosaic.TcCoe Idealize.SL.Sem
open Idealize.ShloMosaic.Pipeline (chain)

variable {F : FTy → Type} [FloatOps F]

/-- Programs over the body's effects. -/
abbrev TP (F : FTy → Type) (α : Type) : Type 1 := Prog (TpuEff nD τ sig (Elt F) Λ₀ .tc) α

/-- The place of a peer in the order a device visits its peers: one of the three others of its group of four, or
    group `1 + g` further on, member `j` further round. -/
abbrev Ix : Type := Fin 3 ⊕ (Fin 7 × Fin 4)

/-- The peers of the own group, and the others. -/
def grpL : List Ix := [.inl 0, .inl 1, .inl 2]
/-- The targets in the other groups, in the printed order. -/
def crossL : List Ix := ([0, 1, 2, 3, 4, 5, 6] : List (Fin 7)).flatMap fun g => [.inr (g, 0), .inr (g, 1), .inr (g, 2), .inr (g, 3)]
/-- All targets, in the printed order. -/
def allL : List Ix := grpL ++ crossL

/-! ## The printed offsets and devices, by wave and peer -/

/-- The semaphore a peer's entry is, in an array of one per peer and wave. -/
def semO (d0 : Dev nD) : Fin 2 → Ix → Fin 2 → Nat
  | 0, .inl r => k0_off1 d0 (BitVec.ofNat 32 (1 + r.val))
  | 1, .inl r => k0_off5 d0 (BitVec.ofNat 32 (1 + r.val))
  | 0, .inr (g, j) => k0_off8 d0 (BitVec.ofNat 32 (1 + g.val)) (BitVec.ofNat 32 j.val)
  | 1, .inr (g, j) => k0_off10 d0 (BitVec.ofNat 32 (1 + g.val)) (BitVec.ofNat 32 j.val)
theorem semO_inb (d0 : Dev nD) : ∀ w x a, semO d0 w x a + S1x1.size a ≤ S32x2.size a
  | 0, .inl r => k0_off1_inb d0 r
  | 1, .inl r => k0_off5_inb d0 r
  | 0, .inr (g, j) => k0_off8_inb d0 g j
  | 1, .inr (g, j) => k0_off10_inb d0 g j

/-- The own entry of such an array. -/
def mySemO (d0 : Dev nD) : Fin 2 → Fin 2 → Nat
  | 0 => k0_off2 d0
  | 1 => k0_off6 d0
theorem mySemO_inb (d0 : Dev nD) : ∀ w a, mySemO d0 w a + S1x1.size a ≤ S32x2.size a
  | 0 => k0_off2_inb d0
  | 1 => k0_off6_inb d0

/-- A peer's sixteen rows of a 1024-row buffer in a wave. -/
def rowO (d0 : Dev nD) (w : Fin 2) : Ix → Fin 2 → Nat
  | .inl r => k0_off4 d0 (BitVec.ofNat 32 (1 + r.val)) (BitVec.ofNat 32 (16 * w.val))
  | .inr (g, j) => k0_off9 d0 (BitVec.ofNat 32 (1 + g.val)) (BitVec.ofNat 32 j.val) (BitVec.ofNat 32 (16 * w.val))
theorem rowO_inb (d0 : Dev nD) (w : Fin 2) : ∀ x a, rowO d0 w x a + S16x512.size a ≤ S1024x512.size a
  | .inl r => k0_off4_inb d0 r w
  | .inr (g, j) => k0_off9_inb d0 g j w
theorem rowO_words (d0 : Dev nD) (w : Fin 2) : ∀ x, (Rect.unit (s := S1024x512) (rowO d0 w x) S16x512.size (rowO_inb d0 w x)).WholeWords (EltTy.packing .bf16)
  | .inl r => k0_off4_wordsbf16 d0 r w
  | .inr (g, j) => k0_off9_wordsbf16 d0 g j w

/-- The own slot of a peer's gather buffer in a wave. -/
def mySlotO (d0 : Dev nD) : Fin 2 → Fin 3 → Nat
  | 0 => k0_off3 d0
  | 1 => k0_off7 d0
theorem mySlotO_inb (d0 : Dev nD) : ∀ w a, mySlotO d0 w a + S1x16x512.size a ≤ S32x32x512.size a
  | 0 => k0_off3_inb d0
  | 1 => k0_off7_inb d0
theorem mySlotO_words (d0 : Dev nD) : ∀ w, (Rect.unit (s := S32x32x512) (mySlotO d0 w) S1x16x512.size (mySlotO_inb d0 w)).WholeWords (EltTy.packing .bf16)
  | 0 => k0_off3_wordsbf16 d0
  | 1 => k0_off7_wordsbf16 d0

/-- A peer's slot of the own gather buffer in a wave. -/
def slotO (d0 : Dev nD) : Fin 2 → Ix → Fin 3 → Nat
  | 0, .inl r => k0_off11 d0 (BitVec.ofNat 32 (1 + r.val))
  | 1, .inl r => k0_off15 d0 (BitVec.ofNat 32 (1 + r.val))
  | 0, .inr (g, j) => k0_off12 d0 (BitVec.ofNat 32 (1 + g.val)) (BitVec.ofNat 32 j.val)
  | 1, .inr (g, j) => k0_off16 d0 (BitVec.ofNat 32 (1 + g.val)) (BitVec.ofNat 32 j.val)
theorem slotO_inb (d0 : Dev nD) : ∀ w x a, slotO d0 w x a + S1x16x512.size a ≤ S32x32x512.size a
  | 0, .inl r => k0_off11_inb d0 r
  | 1, .inl r => k0_off15_inb d0 r
  | 0, .inr (g, j) => k0_off12_inb d0 g j
  | 1, .inr (g, j) => k0_off16_inb d0 g j
theorem slotO_words (d0 : Dev nD) : ∀ w x, (Rect.unit (s := S32x32x512) (slotO d0 w x) S1x16x512.size (slotO_inb d0 w x)).WholeWords (EltTy.packing .bf16)
  | 0, .inl r => k0_off11_wordsbf16 d0 r
  | 1, .inl r => k0_off15_wordsbf16 d0 r
  | 0, .inr (g, j) => k0_off12_wordsbf16 d0 g j
  | 1, .inr (g, j) => k0_off16_wordsbf16 d0 g j

/-- The device each signal and each remote copy names. -/
def barDev (d0 : Dev nD) : Fin 3 → Dev nD := ![⟨k0_dev1 d0, k0_dev1_lt d0⟩, ⟨k0_dev2 d0, k0_dev2_lt d0⟩, ⟨k0_dev3 d0, k0_dev3_lt d0⟩]
/-- The devices signalled at the second barrier. -/
def bar2Dev (d0 : Dev nD) : Fin 3 → Dev nD := ![⟨k0_dev10 d0, k0_dev10_lt d0⟩, ⟨k0_dev11 d0, k0_dev11_lt d0⟩, ⟨k0_dev12 d0, k0_dev12_lt d0⟩]
/-- The device signalled at the third barrier. -/
def bar3Dev (d0 : Dev nD) : Dev nD := ⟨k0_dev13 d0, k0_dev13_lt d0⟩
/-- The devices of the first exchange's copies. -/
def p1Dev (d0 : Dev nD) : Fin 2 → Ix → Dev nD
  | 0, .inl r => ![⟨k0_dev4 d0, k0_dev4_lt d0⟩, ⟨k0_dev5 d0, k0_dev5_lt d0⟩, ⟨k0_dev6 d0, k0_dev6_lt d0⟩] r
  | 1, .inl r => ![⟨k0_dev7 d0, k0_dev7_lt d0⟩, ⟨k0_dev8 d0, k0_dev8_lt d0⟩, ⟨k0_dev9 d0, k0_dev9_lt d0⟩] r
  | 0, .inr (g, j) => ![![⟨k0_dev14 d0, k0_dev14_lt d0⟩, ⟨k0_dev15 d0, k0_dev15_lt d0⟩, ⟨k0_dev16 d0, k0_dev16_lt d0⟩, ⟨k0_dev17 d0, k0_dev17_lt d0⟩], ![⟨k0_dev18 d0, k0_dev18_lt d0⟩, ⟨k0_dev19 d0, k0_dev19_lt d0⟩, ⟨k0_dev20 d0, k0_dev20_lt d0⟩, ⟨k0_dev21 d0, k0_dev21_lt d0⟩], ![⟨k0_dev22 d0, k0_dev22_lt d0⟩, ⟨k0_dev23 d0, k0_dev23_lt d0⟩, ⟨k0_dev24 d0, k0_dev24_lt d0⟩, ⟨k0_dev25 d0, k0_dev25_lt d0⟩], ![⟨k0_dev26 d0, k0_dev26_lt d0⟩, ⟨k0_dev27 d0, k0_dev27_lt d0⟩, ⟨k0_dev28 d0, k0_dev28_lt d0⟩, ⟨k0_dev29 d0, k0_dev29_lt d0⟩], ![⟨k0_dev30 d0, k0_dev30_lt d0⟩, ⟨k0_dev31 d0, k0_dev31_lt d0⟩, ⟨k0_dev32 d0, k0_dev32_lt d0⟩, ⟨k0_dev33 d0, k0_dev33_lt d0⟩], ![⟨k0_dev34 d0, k0_dev34_lt d0⟩, ⟨k0_dev35 d0, k0_dev35_lt d0⟩, ⟨k0_dev36 d0, k0_dev36_lt d0⟩, ⟨k0_dev37 d0, k0_dev37_lt d0⟩], ![⟨k0_dev38 d0, k0_dev38_lt d0⟩, ⟨k0_dev39 d0, k0_dev39_lt d0⟩, ⟨k0_dev40 d0, k0_dev40_lt d0⟩, ⟨k0_dev41 d0, k0_dev41_lt d0⟩]] g j
  | 1, .inr (g, j) => ![![⟨k0_dev42 d0, k0_dev42_lt d0⟩, ⟨k0_dev43 d0, k0_dev43_lt d0⟩, ⟨k0_dev44 d0, k0_dev44_lt d0⟩, ⟨k0_dev45 d0, k0_dev45_lt d0⟩], ![⟨k0_dev46 d0, k0_dev46_lt d0⟩, ⟨k0_dev47 d0, k0_dev47_lt d0⟩, ⟨k0_dev48 d0, k0_dev48_lt d0⟩, ⟨k0_dev49 d0, k0_dev49_lt d0⟩], ![⟨k0_dev50 d0, k0_dev50_lt d0⟩, ⟨k0_dev51 d0, k0_dev51_lt d0⟩, ⟨k0_dev52 d0, k0_dev52_lt d0⟩, ⟨k0_dev53 d0, k0_dev53_lt d0⟩], ![⟨k0_dev54 d0, k0_dev54_lt d0⟩, ⟨k0_dev55 d0, k0_dev55_lt d0⟩, ⟨k0_dev56 d0, k0_dev56_lt d0⟩, ⟨k0_dev57 d0, k0_dev57_lt d0⟩], ![⟨k0_dev58 d0, k0_dev58_lt d0⟩, ⟨k0_dev59 d0, k0_dev59_lt d0⟩, ⟨k0_dev60 d0, k0_dev60_lt d0⟩, ⟨k0_dev61 d0, k0_dev61_lt d0⟩], ![⟨k0_dev62 d0, k0_dev62_lt d0⟩, ⟨k0_dev63 d0, k0_dev63_lt d0⟩, ⟨k0_dev64 d0, k0_dev64_lt d0⟩, ⟨k0_dev65 d0, k0_dev65_lt d0⟩], ![⟨k0_dev66 d0, k0_dev66_lt d0⟩, ⟨k0_dev67 d0, k0_dev67_lt d0⟩, ⟨k0_dev68 d0, k0_dev68_lt d0⟩, ⟨k0_dev69 d0, k0_dev69_lt d0⟩]] g j
/-- The devices of the second exchange's copies. -/
def p2Dev (d0 : Dev nD) : Fin 2 → Ix → Dev nD
  | 0, .inl r => ![⟨k0_dev70 d0, k0_dev70_lt d0⟩, ⟨k0_dev71 d0, k0_dev71_lt d0⟩, ⟨k0_dev72 d0, k0_dev72_lt d0⟩] r
  | 1, .inl r => ![⟨k0_dev101 d0, k0_dev101_lt d0⟩, ⟨k0_dev102 d0, k0_dev102_lt d0⟩, ⟨k0_dev103 d0, k0_dev103_lt d0⟩] r
  | 0, .inr (g, j) => ![![⟨k0_dev73 d0, k0_dev73_lt d0⟩, ⟨k0_dev74 d0, k0_dev74_lt d0⟩, ⟨k0_dev75 d0, k0_dev75_lt d0⟩, ⟨k0_dev76 d0, k0_dev76_lt d0⟩], ![⟨k0_dev77 d0, k0_dev77_lt d0⟩, ⟨k0_dev78 d0, k0_dev78_lt d0⟩, ⟨k0_dev79 d0, k0_dev79_lt d0⟩, ⟨k0_dev80 d0, k0_dev80_lt d0⟩], ![⟨k0_dev81 d0, k0_dev81_lt d0⟩, ⟨k0_dev82 d0, k0_dev82_lt d0⟩, ⟨k0_dev83 d0, k0_dev83_lt d0⟩, ⟨k0_dev84 d0, k0_dev84_lt d0⟩], ![⟨k0_dev85 d0, k0_dev85_lt d0⟩, ⟨k0_dev86 d0, k0_dev86_lt d0⟩, ⟨k0_dev87 d0, k0_dev87_lt d0⟩, ⟨k0_dev88 d0, k0_dev88_lt d0⟩], ![⟨k0_dev89 d0, k0_dev89_lt d0⟩, ⟨k0_dev90 d0, k0_dev90_lt d0⟩, ⟨k0_dev91 d0, k0_dev91_lt d0⟩, ⟨k0_dev92 d0, k0_dev92_lt d0⟩], ![⟨k0_dev93 d0, k0_dev93_lt d0⟩, ⟨k0_dev94 d0, k0_dev94_lt d0⟩, ⟨k0_dev95 d0, k0_dev95_lt d0⟩, ⟨k0_dev96 d0, k0_dev96_lt d0⟩], ![⟨k0_dev97 d0, k0_dev97_lt d0⟩, ⟨k0_dev98 d0, k0_dev98_lt d0⟩, ⟨k0_dev99 d0, k0_dev99_lt d0⟩, ⟨k0_dev100 d0, k0_dev100_lt d0⟩]] g j
  | 1, .inr (g, j) => ![![⟨k0_dev104 d0, k0_dev104_lt d0⟩, ⟨k0_dev105 d0, k0_dev105_lt d0⟩, ⟨k0_dev106 d0, k0_dev106_lt d0⟩, ⟨k0_dev107 d0, k0_dev107_lt d0⟩], ![⟨k0_dev108 d0, k0_dev108_lt d0⟩, ⟨k0_dev109 d0, k0_dev109_lt d0⟩, ⟨k0_dev110 d0, k0_dev110_lt d0⟩, ⟨k0_dev111 d0, k0_dev111_lt d0⟩], ![⟨k0_dev112 d0, k0_dev112_lt d0⟩, ⟨k0_dev113 d0, k0_dev113_lt d0⟩, ⟨k0_dev114 d0, k0_dev114_lt d0⟩, ⟨k0_dev115 d0, k0_dev115_lt d0⟩], ![⟨k0_dev116 d0, k0_dev116_lt d0⟩, ⟨k0_dev117 d0, k0_dev117_lt d0⟩, ⟨k0_dev118 d0, k0_dev118_lt d0⟩, ⟨k0_dev119 d0, k0_dev119_lt d0⟩], ![⟨k0_dev120 d0, k0_dev120_lt d0⟩, ⟨k0_dev121 d0, k0_dev121_lt d0⟩, ⟨k0_dev122 d0, k0_dev122_lt d0⟩, ⟨k0_dev123 d0, k0_dev123_lt d0⟩], ![⟨k0_dev124 d0, k0_dev124_lt d0⟩, ⟨k0_dev125 d0, k0_dev125_lt d0⟩, ⟨k0_dev126 d0, k0_dev126_lt d0⟩, ⟨k0_dev127 d0, k0_dev127_lt d0⟩], ![⟨k0_dev128 d0, k0_dev128_lt d0⟩, ⟨k0_dev129 d0, k0_dev129_lt d0⟩, ⟨k0_dev130 d0, k0_dev130_lt d0⟩, ⟨k0_dev131 d0, k0_dev131_lt d0⟩]] g j

/-! ## The steps -/

section Steps

variable (arg0 : Memref sig .tc .vmem S1024x512 .f32) (arg1 : Memref sig .tc .vmem S1024x512 .f32)
  (arg2 : Memref sig .tc .vmem S1024x512 .bf16) (harg2 : arg2.IsWhole) (arg3 : Memref sig .tc .vmem S32x32x512 .bf16) (harg3 : arg3.IsWhole)
  (arg4 : Memref sig .tc .vmem S1024x512 .bf16) (harg4 : arg4.IsWhole)
  (arg5 arg6 arg7 arg8 : DmaSems sig S32x2) (arg9 arg10 : Sems sig S_)

/-- One entry of an array of semaphores; sixteen rows of a 1024-row buffer; sixteen rows of one slot of the gather
    buffer. -/
abbrev semAt (a : DmaSems sig S32x2) (o : Fin 2 → Nat) (h : ∀ i, o i + S1x1.size i ≤ S32x2.size i) : DmaSems sig S_ :=
  (a.slice (Rect.unit (s := S32x2) o S1x1.size h)).squeeze S_ squeezes_S1x1_S_
/-- Sixteen rows of a 1024-row buffer. -/
abbrev rowsAt (a : Memref sig .tc .vmem S1024x512 .bf16) (o : Fin 2 → Nat) (h : ∀ i, o i + S16x512.size i ≤ S1024x512.size i) : Memref sig .tc .vmem S16x512 .bf16 :=
  a.slice (Rect.unit (s := S1024x512) o S16x512.size h) (fun _ => rfl)
/-- Sixteen rows of a slot of the gather buffer. -/
abbrev slotAt (a : Memref sig .tc .vmem S32x32x512 .bf16) (o : Fin 3 → Nat) (h : ∀ i, o i + S1x16x512.size i ≤ S32x32x512.size i) : Memref sig .tc .vmem S16x512 .bf16 :=
  (a.slice (Rect.unit (s := S32x32x512) o S1x16x512.size h) (fun _ => rfl)).squeeze S16x512 squeezes_S1x16x512_S16x512

/-- Start the copy of one chunk of the own rows to slot `go` of device `t`'s gather buffer. -/
def p1Send (t : Dev nD) (so ro xo : Fin 2 → Nat) (go : Fin 3 → Nat) (hso : ∀ i, so i + S1x1.size i ≤ S32x2.size i) (hro : ∀ i, ro i + S1x1.size i ≤ S32x2.size i)
    (hxo : ∀ i, xo i + S16x512.size i ≤ S1024x512.size i) (hgo : ∀ i, go i + S1x16x512.size i ≤ S32x32x512.size i)
    (hxw : (Rect.unit (s := S1024x512) xo S16x512.size hxo).WholeWords (EltTy.packing .bf16))
    (hgw : (Rect.unit (s := S32x32x512) go S1x16x512.size hgo).WholeWords (EltTy.packing .bf16)) : TP F PUnit :=
  Prog.lift (.enqueueDma (rowsAt arg2 xo hxo) (.remote (Dev.tc t) (slotAt arg3 go hgo) (.dma (semAt arg5 so hso).sem)) (.dma (semAt arg6 ro hro).sem)
    (harg2.wordExact_slice rfl _ hxw) ((harg3.wordExact_slice rfl _ hgw).reshape _ _) ⟨⟨rfl, Or.inl rfl⟩, trivial⟩)

/-- Wait for the arrival of one chunk. -/
def p1WaitR (so xo : Fin 2 → Nat) (go : Fin 3 → Nat) (hso : ∀ i, so i + S1x1.size i ≤ S32x2.size i)
    (hxo : ∀ i, xo i + S16x512.size i ≤ S1024x512.size i) (hgo : ∀ i, go i + S1x16x512.size i ≤ S32x32x512.size i)
    (hxw : (Rect.unit (s := S1024x512) xo S16x512.size hxo).WholeWords (EltTy.packing .bf16))
    (hgw : (Rect.unit (s := S32x32x512) go S1x16x512.size hgo).WholeWords (EltTy.packing .bf16)) : TP F PUnit :=
  Prog.lift (.waitDma2 (semAt arg6 so hso).sem (rowsAt arg2 xo hxo) (slotAt arg3 go hgo)
    (harg2.wordExact_slice rfl _ hxw) ((harg3.wordExact_slice rfl _ hgw).reshape _ _))

/-- Wait until one chunk has been read out. -/
def p1WaitS (so xo : Fin 2 → Nat) (go : Fin 3 → Nat) (hso : ∀ i, so i + S1x1.size i ≤ S32x2.size i)
    (hxo : ∀ i, xo i + S16x512.size i ≤ S1024x512.size i) (hgo : ∀ i, go i + S1x16x512.size i ≤ S32x32x512.size i)
    (hxw : (Rect.unit (s := S1024x512) xo S16x512.size hxo).WholeWords (EltTy.packing .bf16))
    (hgw : (Rect.unit (s := S32x32x512) go S1x16x512.size hgo).WholeWords (EltTy.packing .bf16)) : TP F PUnit :=
  Prog.lift (.waitDma2 (semAt arg5 so hso).sem (slotAt arg3 go hgo) (rowsAt arg2 xo hxo)
    ((harg3.wordExact_slice rfl _ hgw).reshape _ _) (harg2.wordExact_slice rfl _ hxw))

/-- Start the copy of one reduced chunk to the same rows of device `t`. -/
def p2Send (t : Dev nD) (so ro xo : Fin 2 → Nat) (hso : ∀ i, so i + S1x1.size i ≤ S32x2.size i) (hro : ∀ i, ro i + S1x1.size i ≤ S32x2.size i)
    (hxo : ∀ i, xo i + S16x512.size i ≤ S1024x512.size i)
    (hxw : (Rect.unit (s := S1024x512) xo S16x512.size hxo).WholeWords (EltTy.packing .bf16)) : TP F PUnit :=
  Prog.lift (.enqueueDma (rowsAt arg4 xo hxo) (.remote (Dev.tc t) (rowsAt arg4 xo hxo) (.dma (semAt arg7 so hso).sem)) (.dma (semAt arg8 ro hro).sem)
    (harg4.wordExact_slice rfl _ hxw) (harg4.wordExact_slice rfl _ hxw) ⟨⟨rfl, Or.inl rfl⟩, trivial⟩)

/-- Wait on one semaphore of the second exchange. -/
def p2Wait (a : DmaSems sig S32x2) (so xo : Fin 2 → Nat) (hso : ∀ i, so i + S1x1.size i ≤ S32x2.size i)
    (hxo : ∀ i, xo i + S16x512.size i ≤ S1024x512.size i)
    (hxw : (Rect.unit (s := S1024x512) xo S16x512.size hxo).WholeWords (EltTy.packing .bf16)) : TP F PUnit :=
  Prog.lift (.waitDma2 (semAt a so hso).sem (rowsAt arg4 xo hxo) (rowsAt arg4 xo hxo)
    (harg4.wordExact_slice rfl _ hxw) (harg4.wordExact_slice rfl _ hxw))

/-- Start every copy of the first exchange to the peers `l` in wave `w`. -/
def p1Sends (d0 : Dev nD) (w : Fin 2) (l : List Ix) : TP F PUnit :=
  chain (l.map fun x => p1Send arg2 harg2 arg3 harg3 arg5 arg6 (p1Dev d0 w x) (semO d0 w x) (mySemO d0 w) (rowO d0 w x) (mySlotO d0 w)
    (semO_inb d0 w x) (mySemO_inb d0 w) (rowO_inb d0 w x) (mySlotO_inb d0 w) (rowO_words d0 w x) (mySlotO_words d0 w))

/-- Wait, peer by peer, for the arrival of its chunk and for the departure of the chunk sent to it. -/
def p1Waits (d0 : Dev nD) (w : Fin 2) (l : List Ix) : TP F PUnit :=
  chain (l.map fun x => do
    p1WaitR arg2 harg2 arg3 harg3 arg6 (semO d0 w x) (rowO d0 w x) (slotO d0 w x) (semO_inb d0 w x) (rowO_inb d0 w x) (slotO_inb d0 w x) (rowO_words d0 w x) (slotO_words d0 w x)
    p1WaitS arg2 harg2 arg3 harg3 arg5 (semO d0 w x) (rowO d0 w x) (mySlotO d0 w) (semO_inb d0 w x) (rowO_inb d0 w x) (mySlotO_inb d0 w) (rowO_words d0 w x) (mySlotO_words d0 w))

/-- The second exchange's copies to a list of targets. -/
def p2Sends (d0 : Dev nD) (w : Fin 2) (l : List Ix) : TP F PUnit :=
  chain (l.map fun x => p2Send arg4 harg4 arg7 arg8 (p2Dev d0 w x) (semO d0 w x) (mySemO d0 w) (k0_off14 d0 (BitVec.ofNat 32 (16 * w.val)))
    (semO_inb d0 w x) (mySemO_inb d0 w) (k0_off14_inb d0 w) (k0_off14_wordsbf16 d0 w))

/-- The waits for the second exchange's copies. -/
def p2Waits (d0 : Dev nD) (w : Fin 2) (l : List Ix) : TP F PUnit :=
  chain (l.map fun x => do
    p2Wait arg4 harg4 arg8 (semO d0 w x) (rowO d0 w x) (semO_inb d0 w x) (rowO_inb d0 w x) (rowO_words d0 w x)
    p2Wait arg4 harg4 arg7 (semO d0 w x) (k0_off14 d0 (BitVec.ofNat 32 (16 * w.val))) (semO_inb d0 w x) (k0_off14_inb d0 w) (k0_off14_wordsbf16 d0 w))

/-- The own rows in wave `w`. -/
abbrev myRect (d0 : Dev nD) (w : Fin 2) : Rect S1024x512 :=
  Rect.unit (s := S1024x512) (k0_off13 d0 (BitVec.ofNat 32 (16 * w.val))) S16x512.size (k0_off13_inb d0 w)
/-- The whole of a 1024-row buffer. -/
abbrev allRect : Rect S1024x512 := Rect.unit (s := S1024x512) ![0, 0] S1024x512.size inb_S1024x512_S1024x512_0_0

/-- The device's own number, as the body computes it. -/
def myWord (d0 : Dev nD) : BitVec 32 := Scalar.remsi (Scalar.divsi (Dev.word d0) 1#32) 32#32

/-- The sum of wave `w`: the gathered slots, the own one left out, and the own rows. -/
def redOf (d0 : Dev nD) (v : Vec F S32x16x512 .bf16) (x : Vec F S16x512 .f32) : FVec F S16x512 .f32 :=
  k0_pay5 (k0_pay3 x) (k0_pay4 (myWord d0) v)
/-- A wave's sum, rounded. -/
def redOf16 (d0 : Dev nD) (v : Vec F S32x16x512 .bf16) (x : Vec F S16x512 .f32) : FVec F S16x512 .bf16 :=
  k0_pay6 (k0_pay3 x) (k0_pay4 (myWord d0) v)

/-- The gathered slots in wave `w`. -/
def gatO : Fin 2 → Fin 3 → Nat
  | 0 => ![0, 0, 0]
  | 1 => ![0, 16, 0]
theorem gatO_inb : ∀ w a, gatO w a + S32x16x512.size a ≤ S32x32x512.size a
  | 0 => inb_S32x32x512_S32x16x512_0_0_0
  | 1 => inb_S32x32x512_S32x16x512_0_16_0

/-- Sum wave `w`, store it, send it out. -/
def reduce (d0 : Dev nD) (w : Fin 2) : TP F (FVec F S16x512 .f32) := do
  let g ← Prog.lift (.load arg3 (Rect.unit (s := S32x32x512) (gatO w) S32x16x512.size (gatO_inb w)).toLoadRect (View.loadsAt_vmem h_S32x16x512))
  let x ← Prog.lift (.load arg0 (myRect d0 w).toLoadRect (View.loadsAt_vmem h_S16x512))
  let _ ← Prog.lift (.load arg4 (myRect d0 w).toLoadRect (View.loadsAt_vmem h_S16x512))
  Prog.lift (.store arg4 (myRect d0 w) (redOf16 d0 g x) Finset.univ (View.stores_vmem h_S16x512 (harg4.storeExact_slice rfl _ (k0_off13_packedbf16 d0 w)) (fun _ => rfl)) (.inl rfl))
  pure (redOf d0 g x)

/-- Store a wave's own sum into its rows of the result. -/
def putOwn (d0 : Dev nD) (w : Fin 2) (v : FVec F S16x512 .f32) : TP F PUnit := do
  let _ ← Prog.lift (.load arg1 (myRect d0 w).toLoadRect (View.loadsAt_vmem h_S16x512))
  Prog.lift (.store arg1 (myRect d0 w) v Finset.univ (View.stores_vmem_bits_univ h_S16x512 rfl) (.inl rfl))

/-- The runtime's barrier semaphore. -/
abbrev barSem : Sems sig S_ := SemArray.scalar (sig.barrier 0 rfl)

/-- The body as the loops of its source. -/
def rolled : TP F PUnit := do
  let d0 ← Prog.lift .deviceId
  chain (([0, 1, 2] : List (Fin 3)).map fun r => semSignalWord (barDev d0 r) barSem.sem 1#32)
  let x ← Prog.lift (.load arg0 allRect.toLoadRect (View.loadsAt_vmem h_S1024x512))
  let _ ← Prog.lift (.load arg2 allRect.toLoadRect (View.loadsAt_vmem h_S1024x512))
  Prog.lift (.store arg2 allRect (k0_pay2 (k0_pay1 x)) Finset.univ (View.stores_vmem h_S1024x512 (harg2.storeExact_slice rfl _ packedbf16_S1024x512_S1024x512_0_0) (fun _ => rfl)) (.inl rfl))
  semWaitWord barSem.sem 3#32
  p1Sends arg2 harg2 arg3 harg3 arg5 arg6 d0 0 grpL
  p1Sends arg2 harg2 arg3 harg3 arg5 arg6 d0 1 grpL
  chain (([0, 1, 2] : List (Fin 3)).map fun r => semSignalWord (bar2Dev d0 r) arg9.sem 1#32)
  semWaitWord arg9.sem 3#32
  semSignalWord (bar3Dev d0) arg10.sem 1#32
  semWaitWord arg10.sem 1#32
  p1Sends arg2 harg2 arg3 harg3 arg5 arg6 d0 0 crossL
  p1Sends arg2 harg2 arg3 harg3 arg5 arg6 d0 1 crossL
  p1Waits arg2 harg2 arg3 harg3 arg5 arg6 d0 0 allL
  let r0 ← reduce arg0 arg3 arg4 harg4 d0 0
  p2Sends arg4 harg4 arg7 arg8 d0 0 allL
  p1Waits arg2 harg2 arg3 harg3 arg5 arg6 d0 1 allL
  let r1 ← reduce arg0 arg3 arg4 harg4 d0 1
  p2Sends arg4 harg4 arg7 arg8 d0 1 allL
  p2Waits arg4 harg4 arg7 arg8 d0 0 allL
  p2Waits arg4 harg4 arg7 arg8 d0 1 allL
  let y ← Prog.lift (.load arg4 allRect.toLoadRect (View.loadsAt_vmem h_S1024x512))
  let _ ← Prog.lift (.load arg1 allRect.toLoadRect (View.loadsAt_vmem h_S1024x512))
  Prog.lift (.store arg1 allRect (k0_pay9 y) Finset.univ (View.stores_vmem_bits_univ h_S1024x512 rfl) (.inl rfl))
  putOwn arg1 d0 0 r0
  putOwn arg1 d0 1 r1
  pure ⟨⟩

end Steps

/-- The printed body is the loops. -/
theorem body_eq (arg0 : Memref sig .tc .vmem S1024x512 .f32) (harg0 : arg0.IsWhole) (arg1 : Memref sig .tc .vmem S1024x512 .f32) (harg1 : arg1.IsWhole)
    (arg2 : Memref sig .tc .vmem S1024x512 .bf16) (harg2 : arg2.IsWhole) (arg3 : Memref sig .tc .vmem S32x32x512 .bf16) (harg3 : arg3.IsWhole)
    (arg4 : Memref sig .tc .vmem S1024x512 .bf16) (harg4 : arg4.IsWhole) (arg5 arg6 arg7 arg8 : DmaSems sig S32x2) (arg9 arg10 : Sems sig S_) :
    cc0_body (F := F) arg0 harg0 arg1 harg1 arg2 harg2 arg3 harg3 arg4 harg4 arg5 arg6 arg7 arg8 arg9 arg10
      = rolled arg0 arg1 arg2 harg2 arg3 harg3 arg4 harg4 arg5 arg6 arg7 arg8 arg9 arg10 := by
  sl_kernel_rfl

end Cert.AllReduce

end
-- ==== Proof.Offsets.lean ====
/-
# Who sends what where, in numbers

The body computes its peers, its semaphores' places and its rows by word arithmetic on the device's number.
Each is named here by a plain formula, decided once at every device.
-/
module

public import proofs.«01_k».proof.Proof.Rolled

@[expose] public section

set_option maxRecDepth 16384

noncomputable section

namespace Cert.AllReduce

open Cert.KernelIdeal Cert.KernelIdeal.Gen
open Idealize.ShloMosaic Idealize.ShloMosaic.TcCoe Idealize.SL.Sem

/-- The peer at place `x` in device `c`'s order. -/
def tgt (c : Dev nD) : Ix → Dev nD
  | .inl r => ⟨c.val / 4 * 4 + (c.val % 4 + r.val + 1) % 4, by have h := c.isLt; simp only [nD] at h ⊢; omega⟩
  | .inr (g, j) => ⟨(c.val / 4 + g.val + 1) % 8 * 4 + (c.val % 4 + j.val) % 4, by simp only [nD]; omega⟩

/-- The three devices of the own sixteen with the own place in their group of four; and the device sixteen on. -/
def tgt2 (c : Dev nD) (r : Fin 3) : Dev nD := ⟨c.val / 16 * 16 + (c.val % 16 + 4 * (r.val + 1)) % 16, by have h := c.isLt; simp only [nD] at h ⊢; omega⟩
/-- The peer at the third barrier. -/
def tgt3 (c : Dev nD) : Dev nD := ⟨(c.val + 16) % 32, by simp only [nD]; omega⟩

/-- The place of device `t`'s entry for wave `w`, of its rows and of its slot. -/
def semC (t : Dev nD) (w : Fin 2) : Fin 2 → Nat := ![t.val, w.val]
/-- The place of a device's rows of a wave. -/
def rowC (t : Dev nD) (w : Fin 2) : Fin 2 → Nat := ![32 * t.val + 16 * w.val, 0]
/-- The place of a wave in a device's slot. -/
def slotC (t : Dev nD) (w : Fin 2) : Fin 3 → Nat := ![t.val, 16 * w.val, 0]

/-- The semaphore's place lies in the array. -/
theorem semC_inb (t : Dev nD) (w : Fin 2) : ∀ a, semC t w a + S1x1.size a ≤ S32x2.size a := by revert t w; decide +kernel
/-- The rows lie in the buffer. -/
theorem rowC_inb (t : Dev nD) (w : Fin 2) : ∀ a, rowC t w a + S16x512.size a ≤ S1024x512.size a := by revert t w; decide +kernel
/-- The slot's rows lie in the buffer. -/
theorem slotC_inb (t : Dev nD) (w : Fin 2) : ∀ a, slotC t w a + S1x16x512.size a ≤ S32x32x512.size a := by revert t w; decide +kernel

/-- The printed place of a target's semaphore. -/
theorem semO_eq (c : Dev nD) (w : Fin 2) (x : Ix) : semO c w x = semC (tgt c x) w := by revert c w x; decide +kernel
/-- The printed place of the own semaphore. -/
theorem mySemO_eq (c : Dev nD) (w : Fin 2) : mySemO c w = semC c w := by revert c w; decide +kernel
/-- The printed place of a target's rows. -/
theorem rowO_eq (c : Dev nD) (w : Fin 2) (x : Ix) : rowO c w x = rowC (tgt c x) w := by revert c w x; decide +kernel
/-- The printed place of the own slot. -/
theorem mySlotO_eq (c : Dev nD) (w : Fin 2) : mySlotO c w = slotC c w := by revert c w; decide +kernel
/-- The printed place of a target's slot. -/
theorem slotO_eq (c : Dev nD) (w : Fin 2) (x : Ix) : slotO c w x = slotC (tgt c x) w := by revert c w x; decide +kernel
/-- The printed place of the own rows, where they are loaded. -/
theorem off13_eq (c : Dev nD) (w : Fin 2) : k0_off13 c (BitVec.ofNat 32 (16 * w.val)) = rowC c w := by revert c w; decide +kernel
/-- The printed place of the own rows, where they are stored. -/
theorem off14_eq (c : Dev nD) (w : Fin 2) : k0_off14 c (BitVec.ofNat 32 (16 * w.val)) = rowC c w := by revert c w; decide +kernel
/-- The printed place of a wave. -/
theorem gatO_eq (w : Fin 2) : gatO w = ![0, 16 * w.val, 0] := by revert w; decide +kernel

/-- The printed device of a copy of the first exchange. -/
theorem p1Dev_eq (c : Dev nD) (w : Fin 2) (x : Ix) : p1Dev c w x = tgt c x := by revert c w x; decide +kernel
/-- The printed device of a copy of the second exchange. -/
theorem p2Dev_eq (c : Dev nD) (w : Fin 2) (x : Ix) : p2Dev c w x = tgt c x := by revert c w x; decide +kernel
/-- The printed device of a signal of the first barrier. -/
theorem barDev_eq (c : Dev nD) (r : Fin 3) : barDev c r = tgt c (.inl r) := by revert c r; decide +kernel
/-- The printed device of a signal of the second barrier. -/
theorem bar2Dev_eq (c : Dev nD) (r : Fin 3) : bar2Dev c r = tgt2 c r := by revert c r; decide +kernel
/-- The printed device of the signal of the third barrier. -/
theorem bar3Dev_eq (c : Dev nD) : bar3Dev c = tgt3 c := by revert c; decide +kernel
/-- The printed number of the device. -/
theorem myWord_eq (c : Dev nD) : myWord c = BitVec.ofNat 32 c.val := by revert c; decide +kernel

/-- Different places in the list of targets are different devices. -/
theorem tgt_injective (c : Dev nD) : Function.Injective (tgt c) := by
  have h : ∀ c : Dev nD, ∀ x y : Ix, tgt c x = tgt c y → x = y := by decide +kernel
  exact fun x y e => h c x y e
/-- The targets are all other devices. -/
theorem tgt_image (c : Dev nD) : (Finset.univ : Finset Ix).image (tgt c) = Finset.univ.erase c := by revert c; decide +kernel
/-- No device is its own target. -/
theorem tgt_ne (c : Dev nD) (x : Ix) : tgt c x ≠ c := by revert c x; decide +kernel
/-- The three peers of the second barrier are different. -/
theorem tgt2_injective (c : Dev nD) : Function.Injective (tgt2 c) := by
  have h : ∀ c : Dev nD, ∀ x y : Fin 3, tgt2 c x = tgt2 c y → x = y := by decide +kernel
  exact fun x y e => h c x y e

/-- The list of targets has every place. -/
theorem allL_toFinset : allL.toFinset = Finset.univ := by decide +kernel
/-- It has every place once. -/
theorem allL_nodup : allL.Nodup := by decide +kernel
theorem grpL_nodup : grpL.Nodup := by decide +kernel
theorem crossL_nodup : crossL.Nodup := by decide +kernel
/-- The group's targets are none of the others'. -/
theorem all_disjoint : Disjoint grpL.toFinset crossL.toFinset := by decide +kernel
/-- The group's targets and the others' are all. -/
theorem all_union : grpL.toFinset ∪ crossL.toFinset = Finset.univ := by decide +kernel

/-! ## The semaphores -/

/-- Which semaphore of the chip the entry for device `t` and wave `w` of the `k`th array is: the first exchange's
    departures and arrivals, the second's departures and arrivals. -/
def dmaS (k : Fin 4) (t : Dev nD) (w : Fin 2) : DmaSem sig :=
  (semAt (![cc0_scratch3, cc0_scratch4, cc0_scratch5, cc0_scratch6] k) (semC t w) (semC_inb t w)).sem

/-- The number of a copy's semaphore. -/
theorem dmaS_val (k : Fin 4) (t : Dev nD) (w : Fin 2) : (dmaS k t w).val = 2 + 64 * k.val + 2 * t.val + w.val := by
  revert k t w; decide +kernel

/-- Different copies have different semaphores. -/
theorem dmaS_inj {k k' : Fin 4} {t t' : Dev nD} {w w' : Fin 2} (h : dmaS k t w = dmaS k' t' w') : k = k' ∧ t = t' ∧ w = w' := by
  have e := congrArg Fin.val h
  rw [dmaS_val, dmaS_val] at e
  have ht := t.isLt; have ht' := t'.isLt; have hw := w.isLt; have hw' := w'.isLt
  simp only [nD] at ht ht'
  exact ⟨Fin.ext (by omega), Fin.ext (by omega), Fin.ext (by omega)⟩

/-- A device's semaphores that devices signal or copies complete on: the barrier, the two further barriers, and the
    four arrays' entries. -/
abbrev CI : Type := Fin 3 ⊕ (Fin 4 × Dev nD × Fin 2)

/-- The three barriers' semaphores. -/
abbrev regS : Fin 3 → Sem sig := ![barSem.sem, cc0_scratch7.sem, cc0_scratch8.sem]
/-- They are different. -/
theorem regS_inj : Function.Injective regS := by decide +kernel

/-- The semaphore of each name. -/
def csem : CI → SemLoc sig
  | .inl i => .reg (regS i)
  | .inr (k, t, w) => .dma (dmaS k t w)

/-- Different names have different semaphores. -/
theorem csem_injective : Function.Injective csem := by
  rintro (i | ⟨k, t, w⟩) (i' | ⟨k', t', w'⟩) h
  · exact congrArg _ (regS_inj (SemLoc.reg.inj h))
  · cases h
  · cases h
  · obtain ⟨rfl, rfl, rfl⟩ := dmaS_inj (SemLoc.dma.inj h); rfl

/-- A device's semaphore of a name. -/
abbrev kcell (ci : Dev nD × CI) : GSem nD τ sig := ((ci.1 : Thread nD τ), csem ci.2)
/-- Different devices or names have different semaphores. -/
theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

end Cert.AllReduce

end
-- ==== Proof.Routing.lean ====
/-
# The way of a write permission through the barriers

Who may write where is settled by three barriers: among the group of four, among the devices of the same sixteen with
the same place in their group, and between the two sixteens.
-/
module

public import proofs.«01_k».proof.Proof.Offsets

@[expose] public section

set_option maxRecDepth 16384

noncomputable section

namespace Cert.AllReduce

open Cert.KernelIdeal Cert.KernelIdeal.Gen
open Idealize.ShloMosaic Idealize.ShloMosaic.TcCoe Idealize.SL.Sem

/-! ## The way of a write permission

The pair `(t, s)` stands for the permission to write device `s`'s slot and rows of device `t`'s buffers. It starts at
`t` and is handed on at each of the three barriers, towards `s`. -/

/-- A place to write at, by the device that has it and the device that will write there. -/
abbrev Pair : Type := Dev nD × Dev nD

/-- Who holds the permission for a place before the first barrier and after each of the three. -/
def hold : Fin 4 → Pair → Dev nD
  | 0, p => p.1
  | 1, p => ⟨p.1.val / 4 * 4 + p.2.val % 4, by have h := p.1.isLt; simp only [nD] at h ⊢; omega⟩
  | 2, p => ⟨p.1.val / 16 * 16 + p.2.val % 16, by have h := p.1.isLt; simp only [nD] at h ⊢; omega⟩
  | 3, p => p.2

/-- A permission within a group of four takes the first barrier only. -/
def near (p : Pair) : Prop := p.1.val / 4 = p.2.val / 4
instance : DecidablePred near := fun p => by unfold near; infer_instance
/-- The places whose permission a barrier may move. -/
def dom : Fin 3 → Pair → Prop
  | 0, p => p.1 ≠ p.2
  | 1, p => ¬ near p
  | 2, p => ¬ near p
instance (k : Fin 3) : DecidablePred (dom k) := fun p => by
  match k with
  | 0 => unfold dom; infer_instance
  | 1 => unfold dom; infer_instance
  | 2 => unfold dom; infer_instance

/-- The devices that meet at barrier `k`, `c` among them. -/
def met : Fin 3 → Dev nD → Dev nD → Prop
  | 0, c, p => p.val / 4 = c.val / 4
  | 1, c, p => p.val / 16 = c.val / 16 ∧ p.val % 4 = c.val % 4
  | 2, c, p => p.val % 16 = c.val % 16
instance (k : Fin 3) (c : Dev nD) : DecidablePred (met k c) := fun p => by
  match k with
  | 0 => unfold met; infer_instance
  | 1 => unfold met; infer_instance
  | 2 => unfold met; infer_instance
/-- The devices that a device meets at a barrier, itself among them. -/
def meet (k : Fin 3) (c : Dev nD) : Finset (Dev nD) := Finset.univ.filter (met k c)

/-- The permissions that are at `p` before barrier `k` and at `c` after it. -/
def moved (k : Fin 3) (c p : Dev nD) : Finset Pair := Finset.univ.filter fun q => dom k q ∧ hold k.castSucc q = p ∧ hold k.succ q = c
/-- The permissions that a device brings to a barrier. -/
def before (k : Fin 3) (c : Dev nD) : Finset Pair := Finset.univ.filter fun q => dom k q ∧ hold k.castSucc q = c
/-- The permissions that a device has after a barrier. -/
def behind (k : Fin 3) (c : Dev nD) : Finset Pair := Finset.univ.filter fun q => dom k q ∧ hold k.succ q = c

/-- Meeting is mutual. -/
theorem meet_symm (k : Fin 3) (c p : Dev nD) : p ∈ meet k c ↔ c ∈ meet k p := by revert k c p; decide +kernel
/-- A device meets itself. -/
theorem meet_self (k : Fin 3) (c : Dev nD) : c ∈ meet k c := by revert k c; decide +kernel
/-- A permission moves only between devices that meet. -/
theorem hold_meet (k : Fin 3) (q : Pair) : dom k q → hold k.succ q ∈ meet k (hold k.castSucc q) := by revert k q; decide +kernel

/-- What it is to move at a barrier from one device to another. -/
theorem mem_moved {k : Fin 3} {c p : Dev nD} {q : Pair} : q ∈ moved k c p ↔ dom k q ∧ hold k.castSucc q = p ∧ hold k.succ q = c := by
  unfold moved; rw [Finset.mem_filter]; exact ⟨fun h => h.2, fun h => ⟨Finset.mem_univ _, h⟩⟩
/-- What it is to be brought to a barrier. -/
theorem mem_before {k : Fin 3} {c : Dev nD} {q : Pair} : q ∈ before k c ↔ dom k q ∧ hold k.castSucc q = c := by
  unfold before; rw [Finset.mem_filter]; exact ⟨fun h => h.2, fun h => ⟨Finset.mem_univ _, h⟩⟩
/-- What it is to be had after a barrier. -/
theorem mem_behind {k : Fin 3} {c : Dev nD} {q : Pair} : q ∈ behind k c ↔ dom k q ∧ hold k.succ q = c := by
  unfold behind; rw [Finset.mem_filter]; exact ⟨fun h => h.2, fun h => ⟨Finset.mem_univ _, h⟩⟩

/-- What a device holds before a barrier is what it hands each device it meets there, and what it keeps; -/
theorem before_eq (k : Fin 3) (p : Dev nD) : before k p = (meet k p).biUnion fun c => moved k c p := by
  ext q
  simp only [Finset.mem_biUnion, mem_before, mem_moved]
  exact ⟨fun ⟨h, e⟩ => ⟨_, e ▸ hold_meet k q h, h, e, rfl⟩, fun ⟨c, _, h, e, _⟩ => ⟨h, e⟩⟩
/-- and after it what each device it meets there hands it, and what it kept. -/
theorem behind_eq (k : Fin 3) (c : Dev nD) : behind k c = (meet k c).biUnion fun p => moved k c p := by
  ext q
  simp only [Finset.mem_biUnion, mem_behind, mem_moved]
  exact ⟨fun ⟨h, e⟩ => ⟨_, (meet_symm _ _ _).mpr (e ▸ hold_meet k q h), h, rfl, e⟩, fun ⟨c, _, h, _, e⟩ => ⟨h, e⟩⟩

/-- The permissions a device holds: at first its own buffers' places for the others; -/
theorem before_0 (c : Dev nD) : before 0 c = (Finset.univ.erase c).map ⟨fun s => (c, s), fun s s' h => congrArg Prod.snd h⟩ := by
  ext ⟨t, s⟩
  rw [mem_before, Finset.mem_map]
  constructor
  · rintro ⟨h, e⟩
    have e' : t = c := e
    subst e'
    exact ⟨s, Finset.mem_erase.mpr ⟨fun h' => h h'.symm, Finset.mem_univ _⟩, rfl⟩
  · rintro ⟨s', h, e⟩
    obtain ⟨rfl, rfl⟩ := Prod.mk.inj e
    exact ⟨fun h' => (Finset.mem_erase.mp h).1 h'.symm, rfl⟩
/-- after the first barrier those of its own group's buffers, and some to hand on; -/
theorem behind_0 (c : Dev nD) : behind 0 c = (grpL.toFinset.image fun x => (tgt c x, c)) ∪ before 1 c := by revert c; decide +kernel
/-- After the first barrier, what a device uses in its group it does not bring to the second. -/
theorem behind_0_disjoint (c : Dev nD) : Disjoint (grpL.toFinset.image fun x => (tgt c x, c)) (before 1 c) := by revert c; decide +kernel
/-- What a device has after the second barrier it brings to the third. -/
theorem behind_1 (c : Dev nD) : behind 1 c = before 2 c := by revert c; decide +kernel
/-- after the last those of all other groups' buffers. -/
theorem behind_2 (c : Dev nD) : behind 2 c = crossL.toFinset.image fun x => (tgt c x, c) := by revert c; decide +kernel

/-- Different targets are different places. -/
theorem pair_injective (c : Dev nD) : Function.Injective (fun x => ((tgt c x, c) : Pair)) :=
  fun x y h => tgt_injective c (congrArg Prod.fst h)

/-- The devices met at the barriers, in the order signalled. -/
theorem meet_0 (c : Dev nD) : (meet 0 c).erase c = (Finset.univ : Finset (Fin 3)).image fun r => tgt c (.inl r) := by revert c; decide +kernel
/-- The others met at the second barrier are the printed peers. -/
theorem meet_1 (c : Dev nD) : (meet 1 c).erase c = (Finset.univ : Finset (Fin 3)).image (tgt2 c) := by revert c; decide +kernel
/-- The other met at the third barrier is the printed peer. -/
theorem meet_2 (c : Dev nD) : (meet 2 c).erase c = {tgt3 c} := by revert c; decide +kernel

end Cert.AllReduce

end
-- ==== Proof.Buffers.lean ====
/-
# The buffers' blocks, and what they come to hold

Sixteen rows of a 1024-row buffer for each device and wave, and sixteen rows of each device's slot of the gather
buffer. What a device's buffers hold at the end is a function of the blocks of `x` on all devices.
-/
module

public import proofs.«01_k».proof.Proof.Offsets
public import Idealize.ShloMosaic.Lib.ValueLayout
public import Idealize.ShloMosaic.Lib.Pipeline.ValueKit.Geometry

@[expose] public section

set_option maxRecDepth 16384

noncomputable section

namespace Cert.AllReduce

open Cert.KernelIdeal Cert.KernelIdeal.Gen
open Idealize.ShloMosaic Idealize.ShloMosaic.TcCoe Idealize.SL.Sem
open Idealize.ShloMosaic.ValueIdx

variable {F : FTy → Type} [FloatOps F]

/-- The kernel's buffers: `x` and the result as staged, the rounded copy of `x`, the gather buffer and the rounded
    result. -/
abbrev xM : Memref sig .tc .vmem S1024x512 .f32 := Memref.whole cc0_stg0_0
/-- The staged result. -/
abbrev oM : Memref sig .tc .vmem S1024x512 .f32 := Memref.whole cc0_stg1_0
/-- The rounded copy of the block of `x`. -/
abbrev bM : Memref sig .tc .vmem S1024x512 .bf16 := Memref.whole cc0_scratch0
/-- The gather buffer, one slot for each device. -/
abbrev gM : Memref sig .tc .vmem S32x32x512 .bf16 := Memref.whole cc0_scratch1
/-- The rounded result. -/
abbrev aM : Memref sig .tc .vmem S1024x512 .bf16 := Memref.whole cc0_scratch2

/-! ## The blocks -/

/-- The rows of device `t` in wave `w`; its slot's rows in wave `w`; and all slots' rows in wave `w`. -/
def rowSet (t : Dev nD) (w : Fin 2) : Finset S1024x512.Idx := Finset.univ.filter fun i => (i 0).val / 16 = 2 * t.val + w.val
/-- The sixteen rows of wave `w` in device `t`'s slot. -/
def slotSet (t : Dev nD) (w : Fin 2) : Finset S32x32x512.Idx := Finset.univ.filter fun i => (i 0).val = t.val ∧ (i 1).val / 16 = w.val
/-- The rows of wave `w` in all slots. -/
def waveSet (w : Fin 2) : Finset S32x32x512.Idx := Finset.univ.filter fun i => (i 1).val / 16 = w.val

theorem mem_rowSet {t : Dev nD} {w : Fin 2} {i : S1024x512.Idx} : i ∈ rowSet t w ↔ (i 0).val / 16 = 2 * t.val + w.val := by
  unfold rowSet; rw [Finset.mem_filter]; exact ⟨fun h => h.2, fun h => ⟨Finset.mem_univ _, h⟩⟩
theorem mem_slotSet {t : Dev nD} {w : Fin 2} {i : S32x32x512.Idx} : i ∈ slotSet t w ↔ (i 0).val = t.val ∧ (i 1).val / 16 = w.val := by
  unfold slotSet; rw [Finset.mem_filter]; exact ⟨fun h => h.2, fun h => ⟨Finset.mem_univ _, h⟩⟩
theorem mem_waveSet {w : Fin 2} {i : S32x32x512.Idx} : i ∈ waveSet w ↔ (i 1).val / 16 = w.val := by
  unfold waveSet; rw [Finset.mem_filter]; exact ⟨fun h => h.2, fun h => ⟨Finset.mem_univ _, h⟩⟩

/-- The rectangle of a copy's sixteen rows is the set `rowSet`. -/
theorem rect_rowC (t : Dev nD) (w : Fin 2) (o : Fin 2 → Nat) (h) (ho : o = rowC t w) :
    (Rect.unit (s := S1024x512) o S16x512.size h).set = rowSet t w := by
  subst ho
  ext i
  rw [Rect.mem_set_unit, mem_rowSet, Fin.forall_fin_two]
  have h1 : (i 1).val < 512 := (i 1).isLt
  show (32 * t.val + 16 * w.val ≤ (i 0).val ∧ (i 0).val < 32 * t.val + 16 * w.val + 16) ∧ (0 ≤ (i 1).val ∧ (i 1).val < 0 + 512) ↔ _
  omega

/-- The rectangle of a copy's sixteen rows of a slot is the set `slotSet`. -/
theorem rect_slotC (t : Dev nD) (w : Fin 2) (h) : (Rect.unit (s := S32x32x512) (slotC t w) S1x16x512.size h).set = slotSet t w := by
  ext i
  rw [Rect.mem_set_unit, mem_slotSet, Fin.forall_fin_succ, Fin.forall_fin_two]
  have h1 : (i 2).val < 512 := (i 2).isLt
  show (t.val ≤ (i 0).val ∧ (i 0).val < t.val + 1) ∧ (16 * w.val ≤ (i 1).val ∧ (i 1).val < 16 * w.val + 16) ∧ (0 ≤ (i 2).val ∧ (i 2).val < 0 + 512) ↔ _
  omega

/-- The rectangle of a wave's load from all slots is the set `waveSet`. -/
theorem rect_gatO (w : Fin 2) (o : Fin 3 → Nat) (h) (ho : o = ![0, 16 * w.val, 0]) :
    (Rect.unit (s := S32x32x512) o S32x16x512.size h).set = waveSet w := by
  subst ho
  ext i
  rw [Rect.mem_set_unit, mem_waveSet, Fin.forall_fin_succ, Fin.forall_fin_two]
  have h0 : (i 0).val < 32 := (i 0).isLt
  have h1 : (i 2).val < 512 := (i 2).isLt
  show (0 ≤ (i 0).val ∧ (i 0).val < 0 + 32) ∧ (16 * w.val ≤ (i 1).val ∧ (i 1).val < 16 * w.val + 16) ∧ (0 ≤ (i 2).val ∧ (i 2).val < 0 + 512) ↔ _
  omega

/-- The element sets of the views a copy goes between. -/
theorem rows_set_b (t : Dev nD) (w : Fin 2) (h) : (rowsAt bM (rowC t w) h).view.set = rowSet t w :=
  (View.set_slice_whole _ _).trans (rect_rowC t w _ _ rfl)
/-- The rows that the second exchange copies are `rowSet`. -/
theorem rows_set_a (t : Dev nD) (w : Fin 2) (h) : (rowsAt aM (rowC t w) h).view.set = rowSet t w :=
  (View.set_slice_whole _ _).trans (rect_rowC t w _ _ rfl)
/-- The rows that the first exchange lands on are `slotSet`. -/
theorem slot_set (t : Dev nD) (w : Fin 2) (h) : (slotAt gM (slotC t w) h).view.set = slotSet t w :=
  (View.set_reshape _ _).trans ((View.set_slice_whole _ _).trans (rect_slotC t w _))
/-- The rows of the rounded result that a device stores are its own. -/
theorem own_set_a (t : Dev nD) (w : Fin 2) : (aM.access (myRect t w)).set = rowSet t w :=
  (View.set_slice_whole _ _).trans (rect_rowC t w _ _ (off13_eq t w))
/-- The rows of the result that a device stores unrounded are its own. -/
theorem own_set_o (t : Dev nD) (w : Fin 2) : (oM.access (myRect t w)).set = rowSet t w :=
  (View.set_slice_whole _ _).trans (rect_rowC t w _ _ (off13_eq t w))
/-- What a wave loads from the gather buffer is `waveSet`. -/
theorem wave_set (w : Fin 2) : (gM.access (Rect.unit (s := S32x32x512) (gatO w) S32x16x512.size (gatO_inb w))).set = waveSet w :=
  (View.set_slice_whole _ _).trans (rect_gatO w _ _ (gatO_eq w))

/-- Blocks of different devices or waves share no element, and all blocks together are everything. -/
theorem rowSet_disjoint {b b' : Dev nD × Fin 2} (h : b ≠ b') : Disjoint (rowSet b.1 b.2) (rowSet b'.1 b'.2) := by
  rw [Finset.disjoint_left]; intro i hi hi'
  rw [mem_rowSet] at hi hi'
  have hw := b.2.isLt; have hw' := b'.2.isLt
  exact h (Prod.ext (Fin.ext (by omega)) (Fin.ext (by omega)))
/-- Different slots or waves have no row in common. -/
theorem slotSet_disjoint {b b' : Dev nD × Fin 2} (h : b ≠ b') : Disjoint (slotSet b.1 b.2) (slotSet b'.1 b'.2) := by
  rw [Finset.disjoint_left]; intro i hi hi'
  rw [mem_slotSet] at hi hi'
  exact h (Prod.ext (Fin.ext (by omega)) (Fin.ext (by omega)))
/-- The rows of all devices and waves are the whole buffer. -/
theorem rowSet_cover : (Finset.univ : Finset (Dev nD × Fin 2)).biUnion (fun b => rowSet b.1 b.2) = Finset.univ := by
  ext i; simp only [Finset.mem_biUnion, Finset.mem_univ, true_and, iff_true]
  have h0 : (i 0).val < 1024 := (i 0).isLt
  exact ⟨(⟨(i 0).val / 32, by simp only [nD]; omega⟩, ⟨(i 0).val % 32 / 16, by omega⟩), mem_rowSet.mpr (by show _ = 2 * ((i 0).val / 32) + (i 0).val % 32 / 16; omega)⟩
/-- The slots of all devices and waves are the whole gather buffer. -/
theorem slotSet_cover : (Finset.univ : Finset (Dev nD × Fin 2)).biUnion (fun b => slotSet b.1 b.2) = Finset.univ := by
  ext i; simp only [Finset.mem_biUnion, Finset.mem_univ, true_and, iff_true]
  have h0 : (i 0).val < 32 := (i 0).isLt
  have h1 : (i 1).val < 32 := (i 1).isLt
  exact ⟨(⟨(i 0).val, by simp only [nD]; omega⟩, ⟨(i 1).val / 16, by omega⟩), mem_slotSet.mpr ⟨rfl, rfl⟩⟩
/-- The slots of one wave are that wave's rows. -/
theorem slotSet_wave (w : Fin 2) : (Finset.univ : Finset (Dev nD)).biUnion (fun t => slotSet t w) = waveSet w := by
  ext i; simp only [Finset.mem_biUnion, Finset.mem_univ, true_and]
  have h0 : (i 0).val < 32 := (i 0).isLt
  rw [mem_waveSet]
  exact ⟨fun ⟨t, h⟩ => (mem_slotSet.mp h).2, fun h => ⟨⟨(i 0).val, by simp only [nD]; omega⟩, mem_slotSet.mpr ⟨rfl, h⟩⟩⟩

/-! ## What the buffers come to hold -/

section Values

variable (X : Dev nD → Vec F S1024x512 .f32)

/-- Device `c`'s block of `x`, rounded. -/
def xbF (c : Dev nD) : Vec F S1024x512 .bf16 := k0_pay2 (k0_pay1 (X c))

/-- Device `c`'s gather buffer with every device's chunk in it: slot `s` holds rows `32 c …` of device `s`'s rounded block. -/
def gatF (c : Dev nD) : Vec F S32x32x512 .bf16 := fun i =>
  xbF X ⟨(i 0).val, (i 0).isLt⟩ (ix2 (n0 := 1024) (n1 := 512) ⟨32 * c.val + (i 1).val, by
    have h1 : (i 1).val < 32 := (i 1).isLt
    have h := c.isLt; simp only [nD] at h; omega⟩ ⟨(i 2).val, (i 2).isLt⟩)

/-- A gather buffer's slots in wave `w`, and the own rows of `x`, as loaded. -/
def gatW (g : Vec F S32x32x512 .bf16) (w : Fin 2) : Vec F S32x16x512 .bf16 :=
  gM.view.readAt (Elt F) (Rect.unit (s := S32x32x512) (gatO w) S32x16x512.size (gatO_inb w)).toLoadRect g
/-- A device's own rows of its own block, as loaded. -/
def xrow (c : Dev nD) (w : Fin 2) : Vec F S16x512 .f32 := xM.view.readAt (Elt F) (myRect c w).toLoadRect (X c)

/-- Device `c`'s sum in wave `w`, and that sum rounded. -/
def red (c : Dev nD) (w : Fin 2) : FVec F S16x512 .f32 := redOf c (gatW (gatF X c) w) (xrow X c w)
/-- A wave's sum at a device, rounded. -/
def red16 (c : Dev nD) (w : Fin 2) : FVec F S16x512 .bf16 := redOf16 c (gatW (gatF X c) w) (xrow X c w)

/-- The rounded result: every device's rounded sums in its own rows. -/
def agF : Vec F S1024x512 .bf16 := fun i =>
  red16 X ⟨(i 0).val / 32, by have h1 : (i 0).val < 1024 := (i 0).isLt; simp only [nD]; omega⟩ ⟨(i 0).val % 32 / 16, by omega⟩
    (ix2 (n0 := 16) (n1 := 512) ⟨(i 0).val % 16, by omega⟩ ⟨(i 1).val, (i 1).isLt⟩)

/-- The result on device `c`: the rounded result widened, the own sums unrounded over it. -/
def outF (c : Dev nD) : Vec F S1024x512 .f32 :=
  (oM.access (myRect c 1)).write (Elt F) ((oM.access (myRect c 0)).write (Elt F) (k0_pay9 (agF X)) (red X c 0) Finset.univ) (red X c 1) Finset.univ

/-- An arriving chunk: device `s`'s rows of chunk `(c, w)` written to slot `s` are what device `c`'s gather buffer is to
    hold there. -/
theorem landed1 (s c : Dev nD) (w : Fin 2) (h h') (fd : Vec F S32x32x512 .bf16) :
    ∀ i ∈ (slotAt gM (slotC s w) h).view.set,
      (slotAt gM (slotC s w) h).view.write (Elt F) fd ((rowsAt bM (rowC c w) h').view.read (Elt F) (xbF X s)) Finset.univ i = gatF X c i := by
  intro i hi
  obtain ⟨j, -, rfl⟩ := Finset.mem_map.mp hi
  rw [View.write_emb_of_mem _ _ (Finset.mem_univ _), View.read_apply]
  obtain ⟨a, b, rfl⟩ : ∃ (a : Fin 16) (b : Fin 512), j = ix2 a b := ⟨_, _, eq_ix2 j⟩
  have e : (slotAt gM (slotC s w) h).view.emb (ix2 a b)
      = (Rect.unit (s := S32x32x512) (slotC s w) S1x16x512.size h).emb (ix3 (⟨0, Nat.one_pos⟩ : Fin 1) a b) :=
    congrArg (Rect.unit (s := S32x32x512) (slotC s w) S1x16x512.size h).emb (reshapeEquiv_ix2_1ab (a := 16) (b := 512) _ a b)
  rw [e]
  show xbF X s ((Rect.unit (s := S1024x512) (rowC c w) S16x512.size h').emb (ix2 a b)) = _
  unfold gatF
  refine congr (congrArg (xbF X) (Fin.ext ?_)) (funext fun k => ?_)
  · show s.val = s.val + 1 * 0; omega
  · match k with
    | ⟨0, _⟩ => exact Fin.ext (by show 32 * c.val + 16 * w.val + 1 * a.val = 32 * c.val + (16 * w.val + 1 * a.val); omega)
    | ⟨1, _⟩ => exact Fin.ext (by show 0 + 1 * b.val = 0 + 1 * b.val; rfl)

/-- An arriving sum: rows of the rounded result copied to the same rows. -/
theorem landed2 (s : Dev nD) (w : Fin 2) (h) (fd f : Vec F S1024x512 .bf16) :
    ∀ i ∈ (rowsAt aM (rowC s w) h).view.set,
      (rowsAt aM (rowC s w) h).view.write (Elt F) fd ((rowsAt aM (rowC s w) h).view.read (Elt F) f) Finset.univ i = f i := by
  intro i hi
  obtain ⟨j, -, rfl⟩ := Finset.mem_map.mp hi
  rw [View.write_emb_of_mem _ _ (Finset.mem_univ _), View.read_apply]
  rfl

/-- The own sums stored are the rounded result's own rows. -/
theorem stored (c : Dev nD) (w : Fin 2) (fd : Vec F S1024x512 .bf16) :
    ∀ i ∈ rowSet c w, (aM.access (myRect c w)).write (Elt F) fd (red16 X c w) Finset.univ i = agF X i := by
  intro i hi
  have hi' : i ∈ (aM.access (myRect c w)).set := (own_set_a c w).symm ▸ hi
  obtain ⟨j, -, rfl⟩ := Finset.mem_map.mp hi'
  rw [View.write_emb_of_mem _ _ (Finset.mem_univ _)]
  obtain ⟨a, b, rfl⟩ : ∃ (a : Fin 16) (b : Fin 512), j = ix2 a b := ⟨_, _, eq_ix2 j⟩
  have h0 : (((aM.access (myRect c w)).emb (ix2 a b)) 0).val = 32 * c.val + 16 * w.val + a.val := by
    show k0_off13 c (BitVec.ofNat 32 (16 * w.val)) 0 + 1 * a.val = _
    rw [off13_eq]; show 32 * c.val + 16 * w.val + 1 * a.val = _; omega
  have h1 : (((aM.access (myRect c w)).emb (ix2 a b)) 1).val = b.val := by
    show k0_off13 c (BitVec.ofNat 32 (16 * w.val)) 1 + 1 * b.val = _
    rw [off13_eq]; show 0 + 1 * b.val = _; omega
  have hw := w.isLt
  show red16 X c w (ix2 a b) = agF X _
  unfold agF
  refine congr (congr (congrArg (red16 X) (Fin.ext ?_)) (Fin.ext ?_)) (funext fun k => ?_)
  · show c.val = (((aM.access (myRect c w)).emb (ix2 a b)) 0).val / 32; rw [h0]; omega
  · show w.val = (((aM.access (myRect c w)).emb (ix2 a b)) 0).val % 32 / 16; rw [h0]; omega
  · match k with
    | ⟨0, _⟩ => exact Fin.ext (by show a.val = (((aM.access (myRect c w)).emb (ix2 a b)) 0).val % 16; rw [h0]; omega)
    | ⟨1, _⟩ => exact Fin.ext h1.symm

/-- The sum does not read the own slot. -/
theorem pay4_congr (c : Dev nD) (v v' : Vec F S32x16x512 .bf16) (h : ∀ i, (i 0).val ≠ c.val → v i = v' i) :
    k0_pay4 (myWord c) v = k0_pay4 (myWord c) v' := by
  funext i
  by_cases hi : (i 0).val = c.val
  · have e : ∀ u : Vec F S32x16x512 .bf16, k0_pay4 (myWord c) u i = Scalar.ofBits .f32 0x00000000#32 := fun u => by
      have hb : cmpi .eq (iota .tc S32x16x512 32 [0] iota_S32x16x512_d0_w32) (broadcast S32x16x512 (myWord c)) i = 1#1 := by
        show BitVec.ofBool (decide (BitVec.ofNat 32 (0 * 32 + (i 0).val) = myWord c)) = 1#1
        rw [Nat.zero_mul, Nat.zero_add, myWord_eq, ← hi]
        exact congrArg BitVec.ofBool (decide_eq_true (p := BitVec.ofNat 32 (i 0).val = BitVec.ofNat 32 (i 0).val) rfl)
      show (if cmpi .eq (iota .tc S32x16x512 32 [0] iota_S32x16x512_d0_w32) (broadcast S32x16x512 (myWord c)) i = 1#1 then _ else _) = _
      rw [if_pos hb]; rfl
    rw [e, e]
  · have e : extf .f32 v bitsLt_bf16_f32 i = extf .f32 v' bitsLt_bf16_f32 i := by
      unfold extf
      simp only [h i hi]
    show (if _ then _ else extf .f32 v bitsLt_bf16_f32 i) = if _ then _ else extf .f32 v' bitsLt_bf16_f32 i
    rw [e]

/-- So a gather buffer with anything in the own slot gives the same sums. -/
theorem gatW_congr (c : Dev nD) (w : Fin 2) (g g' : Vec F S32x32x512 .bf16) (h : ∀ i, (i 0).val ≠ c.val → g i = g' i) :
    k0_pay4 (myWord c) (gatW g w) = k0_pay4 (myWord c) (gatW g' w) := by
  refine pay4_congr c _ _ fun i hi => ?_
  refine h _ ?_
  intro e
  apply hi
  have : gatO w 0 + 1 * (i 0).val = c.val := e
  rw [gatO_eq] at this
  have h0 : (0 : Nat) + 1 * (i 0).val = c.val := this
  omega

/-- A wave's sum does not depend on what the device's own slot holds. -/
theorem redOf_eq (c : Dev nD) (w : Fin 2) (g : Vec F S32x32x512 .bf16) (h : ∀ i, (i 0).val ≠ c.val → g i = gatF X c i) :
    redOf c (gatW g w) (xrow X c w) = red X c w := by
  unfold red redOf; rw [gatW_congr c w g _ h]
/-- Nor does the rounded sum. -/
theorem redOf16_eq (c : Dev nD) (w : Fin 2) (g : Vec F S32x32x512 .bf16) (h : ∀ i, (i 0).val ≠ c.val → g i = gatF X c i) :
    redOf16 c (gatW g w) (xrow X c w) = red16 X c w := by
  unfold red16 redOf16; rw [gatW_congr c w g _ h]

end Values

end Cert.AllReduce

end
-- ==== Proof.Schedule.lean ====
/-
# The semaphores' rounds

Every semaphore of the kernel is raised and waited on in one round. A barrier's payer hands over the places of its
buffers that other devices write into; a copy's two semaphores hand over the source rows and the landed rows.
-/
module

public import proofs.«01_k».proof.Proof.Routing
public import proofs.«01_k».proof.Proof.Buffers
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the rounds. -/
abbrev UB : Type := URounds (GSem nD τ sig) (Dev nD)
/-- The ghost state of the pipeline and of the rounds. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Separating conjunctions over a union and over an image -/

omit [FloatOps F] in
/-- A product over a union of sets apart is the product of the products. -/
theorem bigSep_parts {I J : Type} [DecidableEq I] [DecidableEq J] (s : Finset J) (t : J → Finset I) (Φ : I → sProp 𝕄)
    (hd : ∀ a b, a ≠ b → Disjoint (t a) (t b)) : bigSep (s.biUnion t) Φ = bigSep s fun j => bigSep (t j) Φ := by
  induction s using Finset.induction_on with
  | empty => rw [Finset.biUnion_empty, bigSep_empty, bigSep_empty]
  | insert j s hj ih =>
    rw [Finset.biUnion_insert, bigSep_insert hj, bigSep_union ((Finset.disjoint_biUnion_right _ _ _).mpr fun b hb => hd j b fun h => hj (h ▸ hb)), ih]

omit [FloatOps F] in
/-- A product over an image under an injection. -/
theorem bigSep_image {I J : Type} [DecidableEq I] [DecidableEq J] (s : Finset J) (f : J → I) (hf : Function.Injective f) (Φ : I → sProp 𝕄) :
    bigSep (s.image f) Φ = bigSep s fun j => Φ (f j) := by
  rw [show s.image f = s.map ⟨f, hf⟩ from (Finset.map_eq_image ⟨f, hf⟩ s).symm, bigSep_map]; rfl

/-! ## Handing permissions on -/

omit [FloatOps F] in
/-- What a device brings to a barrier, by who takes it. -/
theorem deal_before (k : Fin 3) (p : Dev nD) (Φ : Pair → sProp 𝕄) :
    bigSep (before k p) Φ = iprop(bigSep (moved k p p) Φ ∗ bigSep ((meet k p).erase p) fun c => bigSep (moved k c p) Φ) := by
  rw [before_eq, bigSep_parts _ _ _ (fun c c' h => Finset.disjoint_left.mpr fun q hq hq' =>
    h ((mem_moved.mp hq).2.2.symm.trans (mem_moved.mp hq').2.2)), bigSep_erase (meet_self k p)]
  rfl
omit [FloatOps F] in
/-- What a device has after a barrier, by who brought it. -/
theorem deal_behind (k : Fin 3) (c : Dev nD) (Φ : Pair → sProp 𝕄) :
    bigSep (behind k c) Φ = iprop(bigSep (moved k c c) Φ ∗ bigSep ((meet k c).erase c) fun p => bigSep (moved k c p) Φ) := by
  rw [behind_eq, bigSep_parts _ _ _ (fun c c' h => Finset.disjoint_left.mpr fun q hq hq' =>
    h ((mem_moved.mp hq).2.1.symm.trans (mem_moved.mp hq').2.1)), bigSep_erase (meet_self k c)]
  rfl

/-! ## What is handed over -/

/-- Sixteen rows of a slot of device `c`'s gather buffer, of its rounded copy, of its rounded result. -/
def gPts (c s : Dev nD) (w : Fin 2) (f : Vec F S32x32x512 .bf16) : sProp 𝕄 :=
  ((c : Thread nD τ).loc cc0_scratch1) ↦[slotSet s w]{fullShare} (f : Buf (Elt F) ((c : Thread nD τ).loc cc0_scratch1))
def bPts (c t : Dev nD) (w : Fin 2) (f : Vec F S1024x512 .bf16) : sProp 𝕄 :=
  ((c : Thread nD τ).loc cc0_scratch0) ↦[rowSet t w]{fullShare} (f : Buf (Elt F) ((c : Thread nD τ).loc cc0_scratch0))
def aPtsQ (q : PosShare TreeShare) (c s : Dev nD) (w : Fin 2) (f : Vec F S1024x512 .bf16) : sProp 𝕄 :=
  ((c : Thread nD τ).loc cc0_scratch2) ↦[rowSet s w]{q} (f : Buf (Elt F) ((c : Thread nD τ).loc cc0_scratch2))
abbrev aPts (c s : Dev nD) (w : Fin 2) (f : Vec F S1024x512 .bf16) : sProp 𝕄 := aPtsQ fullShare c s w f

/-- The share of a reduced chunk that goes with the copy to device `t`. -/
def part (t : Dev nD) : PosShare TreeShare := Transfers.dealOf fullShare (Finset.univ : Finset (Dev nD)) t

/-- A write permission. -/
def giveG (q : Pair) : sProp 𝕄 := bigSep (Finset.univ : Finset (Fin 2)) fun w => iprop(∃ f : Vec F S32x32x512 .bf16, gPts q.1 q.2 w f)
/-- The permission to write the rows of the result. -/
def giveA (q : Pair) : sProp 𝕄 := bigSep (Finset.univ : Finset (Fin 2)) fun w => iprop(∃ f : Vec F S1024x512 .bf16, aPts q.1 q.2 w f)
/-- The permission to write at a place in both exchanges. -/
def give (q : Pair) : sProp 𝕄 := iprop(giveG (F := F) q ∗ giveA (F := F) q)

omit [FloatOps F] in
instance gPts_storable (c s w) (f) : BI.Storable (upEmb : UEmb _ 𝕄) (gPts (F := F) c s w f) := by unfold gPts; infer_instance
omit [FloatOps F] in
instance bPts_storable (c s w) (f) : BI.Storable (upEmb : UEmb _ 𝕄) (bPts (F := F) c s w f) := by unfold bPts; infer_instance
omit [FloatOps F] in
instance aPtsQ_storable (q c s w) (f) : BI.Storable (upEmb : UEmb _ 𝕄) (aPtsQ (F := F) q c s w f) := by unfold aPtsQ; infer_instance
omit [FloatOps F] in
instance give_storable (q : Pair) : BI.Storable (upEmb : UEmb _ 𝕄) (give (F := F) q) := by
  unfold give giveG giveA; infer_instance

/-- A copy's credit: that of sixteen rows of 512. -/
abbrev N : ℕ := (rowsAt aM (rowC 0 0) (rowC_inb 0 0)).view.dmaCredit
theorem N_pos : 0 < N := View.dmaCredit_pos _ (by decide)

section Sched

variable (X : Dev nD → Vec F S1024x512 .f32)

/-- What comes with a payment: at a barrier the permissions that move, with a copy the rows it read or the rows it wrote. -/
def pay (c : Dev nD) (i : CI) (d : Dev nD) : sProp 𝕄 := match i with
  | .inl k => bigSep (moved k c d) give
  | .inr (0, t, w) => bPts c t w (xbF X c)
  | .inr (1, s, w) => gPts c s w (gatF X c)
  | .inr (2, t, w) => aPtsQ (part t) c c w (agF X)
  | .inr (3, s, w) => aPts c s w (agF X)

instance pay_storable (c : Dev nD) (i : CI) (d : Dev nD) : BI.Storable (upEmb : UEmb _ 𝕄) (pay X c i d) := by
  rcases i with k | ⟨k, t, w⟩
  · unfold pay; infer_instance
  · match k with
    | 0 => unfold pay; infer_instance
    | 1 => unfold pay; infer_instance
    | 2 => unfold pay; infer_instance
    | 3 => unfold pay; infer_instance

/-- Who pays: at a barrier each device met there; of a copy its sender. The own entries of the arrays are not used. -/
def payers (c : Dev nD) : CI → Finset (Dev nD)
  | .inl k => (meet k c).erase c
  | .inr (k, t, w) => if t = c then ∅ else if k = 0 ∨ k = 2 then {c} else {t}

/-- The name of a semaphore. -/
def ciOf : SemLoc sig → Option CI := Function.partialInv csem
theorem ciOf_csem (i : CI) : ciOf (csem i) = some i := Function.partialInv_left csem_injective i
theorem ciOf_some {sm : SemLoc sig} {i : CI} (h : ciOf sm = some i) : csem i = sm :=
  (Function.partialInv_of_injective csem_injective i sm).mp h

/-- One payment's amount. -/
def credit : SemLoc sig → ℕ
  | .reg _ => 1
  | .dma _ => N

/-- The rounds: one for each semaphore. -/
def rd : Rounds.Schedule (GSem nD τ sig) (Dev nD) 𝕄 where
  duties g r := if r = 0 ∧ g.1.2 = .tc then (ciOf g.2).elim ∅ (payers g.1.1) else ∅
  unitless _ := False
  amount g _ _ := credit g.2
  payload g _ d := (ciOf g.2).elim iprop(emp) fun i => pay X g.1.1 i d
  amount_pos g _ _ _ := by
    match g.2 with
    | .reg _ => exact Nat.one_pos
    | .dma _ => exact N_pos

instance rd_payload_storable (g : GSem nD τ sig) (r : ℕ) (d : Dev nD) : BI.Storable (upEmb : UEmb _ 𝕄) ((rd X).payload g r d) := by
  show BI.Storable upEmb ((ciOf g.2).elim iprop(emp) fun i => pay X g.1.1 i d)
  cases ciOf g.2 with
  | none => show BI.Storable upEmb iprop(emp); infer_instance
  | some i => show BI.Storable upEmb (pay X g.1.1 i d); infer_instance

/-- Who pays in the one round. -/
theorem duties_eq (c : Dev nD) (i : CI) : (rd X).duties (kcell (c, i)) 0 = payers c i := by
  show (if 0 = 0 ∧ (c : Thread nD τ).2 = .tc then (ciOf (csem i)).elim ∅ (payers c) else ∅) = _
  rw [if_pos ⟨rfl, rfl⟩, ciOf_csem]; rfl
/-- Nobody pays later. -/
theorem duties_later (g : GSem nD τ sig) : ∀ r, 1 ≤ r → (rd X).duties g r = ∅ := fun r hr => if_neg fun h => by omega
/-- Nobody pays at the own entries of the copies' arrays. -/
theorem duties_own (c : Dev nD) (k : Fin 4) (w : Fin 2) : ∀ r, 0 ≤ r → (rd X).duties (kcell (c, .inr (k, c, w))) r = ∅ := fun r _ => by
  by_cases h : r = 0
  · subst h; rw [duties_eq]; exact if_pos rfl
  · exact if_neg fun h' => h h'.1
/-- What comes with a payment, by the semaphore's name. -/
theorem payload_eq (c : Dev nD) (i : CI) (r : ℕ) (d : Dev nD) : (rd X).payload (kcell (c, i)) r d = pay X c i d := by
  show (ciOf (csem i)).elim iprop(emp) (fun i => pay X c i d) = _
  rw [ciOf_csem]; rfl
theorem amount_reg (c : Dev nD) (k : Fin 3) (r : ℕ) (d : Dev nD) : (rd X).amount (kcell (c, .inl k)) r d = 1 := rfl
theorem amount_dma (c : Dev nD) (k : Fin 4 × Dev nD × Fin 2) (r : ℕ) (d : Dev nD) : (rd X).amount (kcell (c, .inr k)) r d = N := rfl

/-- How much a barrier's wait takes. -/
theorem expect_reg (c : Dev nD) (k : Fin 3) : (rd X).expect (kcell (c, .inl k)) 0 = ((meet k c).erase c).card := by
  unfold Schedule.expect Schedule.amountOf
  rw [duties_eq, Finset.sum_congr rfl fun d _ => amount_reg X c k 0 d, Finset.sum_const, smul_eq_mul, mul_one]; rfl
/-- The sender pays the send semaphore. -/
theorem payers_send (c t : Dev nD) (w : Fin 2) (h : t ≠ c) (k : Fin 4) (hk : k = 0 ∨ k = 2) : payers c (.inr (k, t, w)) = {c} := by
  exact (if_neg h).trans (if_pos hk)
/-- The sender pays the receive semaphore at the other end. -/
theorem payers_recv (c t : Dev nD) (w : Fin 2) (h : t ≠ c) (k : Fin 4) (hk : ¬ (k = 0 ∨ k = 2)) : payers c (.inr (k, t, w)) = {t} := by
  exact (if_neg h).trans (if_neg hk)
/-- How much a copy's wait takes. -/
theorem expect_dma (c : Dev nD) (i) (d : Dev nD) (h : payers c (.inr i) = {d}) : (rd X).expect (kcell (c, .inr i)) 0 = N := by
  unfold Schedule.expect Schedule.amountOf
  rw [duties_eq, h, Finset.sum_singleton, amount_dma]

end Sched

/-! ## Levels and debts -/

def L (g : GSem nD τ sig) : Finset Unit := if g.1.2 = .tc then {()} else ∅
/-- The levels: the barriers in turn, then the first exchange's arrivals, then the second's. -/
def ciLv : CI → ℕ
  | .inl k => k.val + 1
  | .inr (k, _, _) => if k = 1 then 4 else if k = 3 then 5 else 0
/-- The level of a semaphore. -/
def lv (g : GSem nD τ sig) (_ : Unit) : ℕ := (ciOf g.2).elim 0 ciLv
theorem L_of_ne (g : GSem nD τ sig) (h : g.1.2 ≠ .tc) : L g = ∅ := if_neg h
theorem L_tc (c : Dev nD) (sm : SemLoc sig) : L ((c : Thread nD τ), sm) = {()} := if_pos rfl
theorem lv_kcell (ci : Dev nD × CI) (u : Unit) : lv (kcell ci) u = ciLv ci.2 := by
  show (ciOf (csem ci.2)).elim 0 ciLv = _; rw [ciOf_csem]; rfl

abbrev Debt : Type := CellTallies nD τ sig Unit

/-- Everything owed is at a core's semaphore of a level above `n`. -/
def Above (n : ℕ) (O : Debt) : Prop := ∀ g u, 0 < O g u → n < lv g u ∧ g.1.2 = .tc

theorem above_zero (n : ℕ) : Above n 0 := fun g u h => absurd h (Nat.lt_irrefl 0)
/-- Two debts above a level are above it together. -/
theorem above_add {n : ℕ} {O O' : Debt} (h : Above n O) (h' : Above n O') : Above n (O + O') := fun g u hp => by
  rw [Pi.add_apply, Finsupp.add_apply] at hp
  rcases Nat.eq_zero_or_pos (O g u) with h0 | h0
  · exact h' g u (by omega)
  · exact h g u h0
/-- So are many. -/
theorem above_sum {n : ℕ} {ι : Type} [DecidableEq ι] (S : Finset ι) (T : ι → Debt) (h : ∀ i, Above n (T i)) : Above n (∑ i ∈ S, T i) := by
  induction S using Finset.induction_on with
  | empty => rw [Finset.sum_empty]; exact above_zero n
  | insert i S hi ih => rw [Finset.sum_insert hi]; exact above_add (h i) ih
/-- A debt at one semaphore is above every lower level. -/
theorem above_tally {n : ℕ} (ci : Dev nD × CI) (a : ℕ) (h : n < ciLv ci.2) : Above n (tallyAt (kcell ci) () a) := fun g u hp => by
  rw [tallyAt_apply] at hp
  by_cases he : g = kcell ci ∧ u = ()
  · rw [he.1, lv_kcell]; exact ⟨h, rfl⟩
  · rw [if_neg he] at hp; exact absurd hp (Nat.lt_irrefl 0)
/-- What is above a level is above a lower one. -/
theorem above_mono {n n' : ℕ} {O : Debt} (hn : n ≤ n') (h : Above n' O) : Above n O := fun g u hp => ⟨lt_of_le_of_lt hn (h g u hp).1, (h g u hp).2⟩

omit [FloatOps F] in
/-- A device may wait at a level when all that it owes is above it. -/
theorem mayWait_above (c : Dev nD) (sm : SemLoc sig) (n : ℕ) (O : Debt) (hsm : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).2]; exact Finset.mem_singleton_self _)
    (fun p hp => by rw [Finset.mem_singleton.mp hp]; exact hsm) (fun g u hg => (hO g u hg).1)

/-- What device `c` owes at launch, in the order paid from the right: a unit to each device met at each barrier, and the
    credit of each copy's arrival. -/
def barDebt (k : Fin 3) (t : Dev nD) : Debt := tallyAt (kcell (t, .inl k)) () 1
/-- The arrival that a copy owes. -/
def copyDebt (k : Fin 4) (c : Dev nD) (w : Fin 2) (t : Dev nD) : Debt := tallyAt (kcell (t, .inr (k, c, w))) () N
/-- All units owed at a barrier. -/
def barDebts (k : Fin 3) (c : Dev nD) : Debt := ∑ t ∈ (meet k c).erase c, barDebt k t
/-- The arrivals owed by the copies to a set of targets. -/
def copyDebts (k : Fin 4) (c : Dev nD) (w : Fin 2) (S : Finset Ix) : Debt := ∑ x ∈ S, copyDebt k c w (tgt c x)

def O7 (c : Dev nD) : Debt := copyDebts 3 c 1 Finset.univ
def O6 (c : Dev nD) : Debt := O7 c + copyDebts 3 c 0 Finset.univ
def O5 (c : Dev nD) : Debt := O6 c + copyDebts 1 c 1 crossL.toFinset
def O4 (c : Dev nD) : Debt := O5 c + copyDebts 1 c 0 crossL.toFinset
def O3 (c : Dev nD) : Debt := O4 c + barDebts 2 c
def O2 (c : Dev nD) : Debt := O3 c + barDebts 1 c
def O1 (c : Dev nD) : Debt := O2 c + copyDebts 1 c 1 grpL.toFinset
def O0 (c : Dev nD) : Debt := O1 c + copyDebts 1 c 0 grpL.toFinset
/-- All that a device owes at launch. -/
def O₀ (c : Dev nD) : Debt := O0 c + barDebts 0 c

/-- What is owed at a barrier is above the barriers before it. -/
theorem above_bars (n : ℕ) (k : Fin 3) (c : Dev nD) (h : n < k.val + 1) : Above n (barDebts k c) := above_sum _ _ fun t => above_tally _ _ h
/-- What is owed in arrivals is above everything earlier. -/
theorem above_copies (n : ℕ) (k : Fin 4) (c : Dev nD) (w : Fin 2) (S : Finset Ix) (h : n < if k = 1 then 4 else if k = 3 then 5 else 0) :
    Above n (copyDebts k c w S) := above_sum _ _ fun t => above_tally _ _ h

theorem above_O7 (c : Dev nD) : Above 4 (O7 c) := above_copies _ _ _ _ _ (by decide)
theorem above_O6 (c : Dev nD) : Above 4 (O6 c) := above_add (above_O7 c) (above_copies _ _ _ _ _ (by decide))
theorem above_O5 (c : Dev nD) : Above 3 (O5 c) := above_add (above_mono (by decide) (above_O6 c)) (above_copies _ _ _ _ _ (by decide))
theorem above_O4 (c : Dev nD) : Above 3 (O4 c) := above_add (above_O5 c) (above_copies _ _ _ _ _ (by decide))
theorem above_O3 (c : Dev nD) : Above 2 (O3 c) := above_add (above_mono (by decide) (above_O4 c)) (above_bars _ _ _ (by decide))
theorem above_O2 (c : Dev nD) : Above 1 (O2 c) := above_add (above_mono (by decide) (above_O3 c)) (above_bars _ _ _ (by decide))
theorem above_O1 (c : Dev nD) : Above 1 (O1 c) := above_add (above_O2 c) (above_copies _ _ _ _ _ (by decide))
theorem above_O0 (c : Dev nD) : Above 1 (O0 c) := above_add (above_O1 c) (above_copies _ _ _ _ _ (by decide))
theorem above_O₀ (c : Dev nD) : Above 0 (O₀ c) := above_add (above_mono (by decide) (above_O0 c)) (above_bars _ _ _ (by decide))

end Cert.AllReduce

end
-- ==== Proof.Steps.lean ====
/-
# One step of each kind

What one signal, one barrier wait, one remote copy and one wait on a copy's semaphore take and give.
-/
module

public import proofs.«01_k».proof.Proof.Schedule

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf chain)

variable {F : FTy → Type} [FloatOps F]

local notation "𝕄" => MT nD τ sig Unit (Elt F) ℕ UU ℕ

/-- `p` runs on device `c` to `Q`. -/
abbrev runs {α : Type} (c : Dev nD) (p : TP F α) (Q : α → sProp 𝕄) : sProp 𝕄 :=
  wp frame (wpE (defs₀ (F := F)) 𝒱₀ (c : Thread nD τ) none) Set.univ p Q

/-- Device `c` owes `O`. -/
def ow (c : Dev nD) (O : Debt) : sProp 𝕄 := iprop(∃ W, owes (c : Thread nD τ) O W)

section Steps

variable (X : Dev nD → Vec F S1024x512 .f32) (K : Dev nD × CI → ℕ)

/-- What every device knows: each semaphore's invariant, that its one round has begun, and the levels. -/
def recs : sProp 𝕄 :=
  iprop((bigSep Finset.univ fun ci : Dev nD × CI => cellInv ER (rd X) (K ci) (kcell ci))
    ∗ (bigSep Finset.univ fun ci : Dev nD × CI => reached ER (kcell ci) 0) ∗ levAts L lv)

instance recs_persistent : BI.Persistent (recs X K) := by unfold recs; infer_instance

theorem inv_at (ci : Dev nD × CI) :
    (bigSep Finset.univ fun ci : Dev nD × CI => (cellInv ER (rd X) (K ci) (kcell ci) : sProp 𝕄)) ⊢ cellInv ER (rd X) (K ci) (kcell ci) := bigSep_elim (Finset.mem_univ ci)
omit [FloatOps F] in
theorem reached_at (ci : Dev nD × CI) :
    (bigSep Finset.univ fun ci : Dev nD × CI => (reached ER (kcell ci) 0 : sProp 𝕄)) ⊢ reached ER (kcell ci) 0 := bigSep_elim (Finset.mem_univ ci)
/-- The records have every semaphore's invariant. -/
theorem recs_inv (ci : Dev nD × CI) : recs X K ⊢ cellInv ER (rd X) (K ci) (kcell ci) := by
  unfold recs; iintro ⟨H, -, -⟩; iapply (inv_at X K ci); iexact H
/-- The records have every semaphore's round reached. -/
theorem recs_reached (ci : Dev nD × CI) : recs X K ⊢ reached ER (kcell ci) 0 := by
  unfold recs; iintro ⟨-, H, -⟩; iapply (reached_at (F := F) ci); iexact H
/-- The records have the levels. -/
theorem recs_levels : recs X K ⊢ levAts L lv := by
  unfold recs; iintro ⟨-, -, H⟩; iexact H

/-- What is handed over, in the schedule's words. -/
theorem pay_reg (k : Fin 3) (t d : Dev nD) : (rd X).payload ((t : Thread nD τ), .reg (regS k)) 0 d = bigSep (moved k t d) give := payload_eq X t (.inl k) 0 d
/-- What comes with a copy's payment. -/
theorem pay_dma (i : Fin 4 × Dev nD × Fin 2) (t d : Dev nD) : (rd X).payload ((t : Thread nD τ), csem (.inr i)) 0 d = pay X t (.inr i) d := payload_eq X t (.inr i) 0 d

omit [FloatOps F] in
/-- The rows in the words of the views copied between. -/
theorem b_view (c t : Dev nD) (w : Fin 2) (f : Vec F S1024x512 .bf16) (h) :
    bPts c t w f = ((rowsAt bM (rowC t w) h).view.loc (c : Thread nD τ) ↦[(rowsAt bM (rowC t w) h).view.set]{fullShare} f : sProp 𝕄) := by
  rw [rows_set_b t w h]; rfl
omit [FloatOps F] in
/-- Rows of the rounded result, as the printed view names them. -/
theorem a_view (q : PosShare TreeShare) (c t : Dev nD) (w : Fin 2) (f : Vec F S1024x512 .bf16) (h) :
    aPtsQ q c t w f = ((rowsAt aM (rowC t w) h).view.loc (c : Thread nD τ) ↦[(rowsAt aM (rowC t w) h).view.set]{q} f : sProp 𝕄) := by
  rw [rows_set_a t w h]; rfl
omit [FloatOps F] in
/-- Rows of a slot, as the printed view names them. -/
theorem g_view (c s : Dev nD) (w : Fin 2) (f : Vec F S32x32x512 .bf16) (h) :
    gPts c s w f = ((slotAt gM (slotC s w) h).view.loc (c : Thread nD τ) ↦[(slotAt gM (slotC s w) h).view.set]{fullShare} f : sProp 𝕄) := by
  rw [slot_set s w h]; rfl

/-- Signalling barrier `k` of device `t` hands over the permissions that go there. -/
theorem signal_runs (k : Fin 3) (c t : Dev nD) (O : Debt) (h : t ∈ (meet k c).erase c) :
    iprop(recs X K ∗ (bigSep (moved k t c) give ∗ dutyTok ER (kcell (t, .inl k)) 0 c) ∗ ow c (O + barDebt k t))
      ⊢ runs c (semSignalWord t (regS k) 1#32) (fun _ => ow c O) := by
  have hc : c ∈ (meet k t).erase t := Finset.mem_erase.mpr ⟨fun e => (Finset.mem_erase.mp h).1 e.symm, (meet_symm _ _ _).mp (Finset.mem_erase.mp h).2⟩
  unfold ow runs
  simp only [semSignalWord, Prog.lift]
  iintro ⟨#HR, ⟨Hg, Ht⟩, ⟨%W, HO⟩⟩
  iapply (Rounds.wp_signal 𝒱₀ ER (rd X) (c : Thread nD τ) none (dst := (t : Thread nD τ)) (sem := regS k) (κ := K (t, .inl k)) (r := 0)
      (d := c) ((duties_eq X t (.inl k)).symm ▸ hc) ((amount_reg X t k 0 c).trans (by decide)) () O rfl)
    $$ [HO Ht Hg]
  · isplitr; · iapply (recs_inv X K (t, .inl k)); iexact HR
    isplitl [HO]; · iexact HO
    isplitl [Ht]; · iexact Ht
    isplitl [Hg]
    · iapply (Entails.of_eq (pay_reg X k t c).symm); iexact Hg
    iapply (recs_reached X K (t, .inl k)); iexact HR
  iintro HO
  rw [wp_ret]; imodintro
  iexists W; iexact HO

/-- What a semaphore holds when it is full. -/
theorem rest_eq (c : Dev nD) (i : CI) :
    bigSep ((rd X).duties ((c : Thread nD τ), csem i) 0 \ ∅) (fun d => (rd X).payload ((c : Thread nD τ), csem i) 0 d) = bigSep (payers c i) fun d => pay X c i d := by
  rw [Finset.sdiff_empty, show (rd X).duties ((c : Thread nD τ), csem i) 0 = payers c i from duties_eq X c i]
  exact bigSep_congr fun d _ => payload_eq X c i 0 d

/-- Waiting on a semaphore for all it will hold hands over what its payers sent. -/
theorem wait_runs (c : Dev nD) (i : CI) (n : ℕ) (hn : n = (rd X).expect (kcell (c, i)) 0) (O : Debt) (hO : Above (ciLv i) O)
    (e : TpuEff nD τ sig (Elt F) Λ₀ .tc PUnit)
    (he : ∀ Q : PUnit → sProp 𝕄, wpE (defs₀ (F := F)) 𝒱₀ (c : Thread nD τ) none Set.univ e Q = waitSpec (c : Thread nD τ) Set.univ (csem i) n Q) :
    iprop(recs X K ∗ cred (tallyAt (kcell (c, i)) () n) ∗ atPos ER (kcell (c, i)) 0 ∅ 0 ∗ ow c O)
      ⊢ runs c (.op e .ret) (fun _ => iprop(ow c O ∗ semVal (kcell (c, i)) 0 ∗ bigSep (payers c i) fun d => pay X c i d)) := by
  unfold ow runs
  iintro ⟨#HR, Hc, Ha, ⟨%W, HO⟩⟩
  iapply (Rounds.wp_wait_rest_token 𝒱₀ ER (rd X) (c : Thread nD τ) none (κ := K (c, i))
      he (Set.mem_univ _) () (O := O) (W := W) (R := 0) (m := 0) (T := ∅)
      (by rw [Nat.zero_add]; exact hn)) $$ [Hc HO Ha]
  · isplitr; · iapply (recs_inv X K (c, i)); iexact HR
    isplitl [Hc]; · iexact Hc
    isplitl [HO]; · iexact HO
    isplitr; · iapply (mayWait_above c _ _ O (le_of_eq (lv_kcell (c, i) ())) hO); iapply (recs_levels X K); iexact HR
    iexact Ha
  iintro ⟨HO, Ha, -, Hp⟩
  imod (Rounds.cell_close ER (rd X) (Set.mem_univ (K (c, i))) (fun h => h) (R := 0 + 1) (duties_later X (kcell (c, i)))) $$ [Ha] with Hz
  · isplitr; · iapply (recs_inv X K (c, i)); iexact HR
    iexact Ha
  ihave Hp := (Entails.of_eq (rest_eq X c i)) $$ Hp
  rw [wp_ret]; imodintro
  isplitl [HO]; · iexists _; iexact HO
  isplitl [Hz]; · iexact Hz
  iexact Hp

/-- Waiting on barrier `k` hands over the permissions the others sent. -/
theorem barrier_runs (k : Fin 3) (c : Dev nD) (n : BitVec 32) (hn : n.toInt = (((meet k c).erase c).card : ℤ)) (O : Debt) (hO : Above (k.val + 1) O) :
    iprop(recs X K ∗ cred (tallyAt (kcell (c, .inl k)) () ((meet k c).erase c).card) ∗ atPos ER (kcell (c, .inl k)) 0 ∅ 0 ∗ ow c O)
      ⊢ runs c (semWaitWord (regS k) n) (fun _ => iprop(ow c O ∗ semVal (kcell (c, .inl k)) 0 ∗ bigSep ((meet k c).erase c) fun p => bigSep (moved k c p) give)) := by
  rw [semWaitWord, hn]
  exact wait_runs X K c (.inl k) _ (expect_reg X c k).symm O hO _ (wpE_semWait_eq 𝒱₀ (c : Thread nD τ) none Set.univ)

/-- Waiting on entry `(t, w)` of array `k` hands over what the copy brought. -/
theorem dma_runs (k : Fin 4) (c t d : Dev nD) (w : Fin 2) (hd : payers c (.inr (k, t, w)) = {d}) (O : Debt) (hO : Above (ciLv (.inr (k, t, w))) O)
    (p : TP F PUnit) (e : TpuEff nD τ sig (Elt F) Λ₀ .tc PUnit) (hp : p = .op e .ret)
    (he : ∀ Q : PUnit → sProp 𝕄, wpE (defs₀ (F := F)) 𝒱₀ (c : Thread nD τ) none Set.univ e Q = waitSpec (c : Thread nD τ) Set.univ (csem (.inr (k, t, w))) N Q) :
    iprop(recs X K ∗ cred (tallyAt (kcell (c, .inr (k, t, w))) () N) ∗ atPos ER (kcell (c, .inr (k, t, w))) 0 ∅ 0 ∗ ow c O)
      ⊢ runs c p (fun _ => iprop(ow c O ∗ semVal (kcell (c, .inr (k, t, w))) 0 ∗ pay X c (.inr (k, t, w)) d)) := by
  subst hp
  have h := wait_runs X K c (.inr (k, t, w)) N (expect_dma X c _ d hd).symm O hO e he
  rw [hd, bigSep_singleton] at h
  exact h

/-- An own entry that no copy uses closes at once. -/
theorem own_close (k : Fin 4) (c : Dev nD) (w : Fin 2) :
    iprop(recs X K ∗ atPos ER (kcell (c, .inr (k, c, w))) 0 ∅ 0) ⊢ |={Set.univ}=> semVal (kcell (c, .inr (k, c, w))) 0 := by
  iintro ⟨#HR, Ha⟩
  iapply (Rounds.cell_close ER (rd X) (Set.mem_univ (K (c, .inr (k, c, w)))) (fun h => h) (R := 0) (duties_own X c k w))
  isplitr; · iapply (recs_inv X K (c, .inr (k, c, w))); iexact HR
  iexact Ha

section Copies

variable (c t : Dev nD) (w : Fin 2) (ht : t ≠ c) (O : Debt)
include ht

/-- A copy of the first exchange: the rows go out, the permission is used, the arrival is no longer owed. -/
theorem p1Send_runs {t' : Dev nD} {so ro xo : Fin 2 → Nat} {go : Fin 3 → Nat} (et : t' = t) (es : so = semC t w) (er : ro = semC c w) (ex : xo = rowC t w) (eg : go = slotC c w)
    (hso hro hxo hgo hxw hgw) :
    iprop(recs X K ∗ (bPts c t w (xbF X c) ∗ (∃ f, gPts (F := F) t c w f)
          ∗ dutyTok ER (kcell (c, .inr (0, t, w))) 0 c ∗ dutyTok ER (kcell (t, .inr (1, c, w))) 0 c) ∗ ow c (O + copyDebt 1 c w t))
      ⊢ runs c (p1Send bM (Memref.isWhole_whole _) gM (Memref.isWhole_whole _) cc0_scratch3 cc0_scratch4 t' so ro xo go hso hro hxo hgo hxw hgw)
          (fun _ => iprop(cred (tallyAt (kcell (c, .inr (0, t, w))) () N) ∗ ow c O)) := by
  subst et es er ex eg
  unfold ow runs p1Send Prog.lift
  iintro ⟨#HR, ⟨Hb, ⟨%f, Hg⟩, Ht0, Ht1⟩, ⟨%W, HO⟩⟩
  iapply (Rounds.wp_send_pointsTo 𝒱₀ ER (rd X) (c : Thread nD τ) none (κ₁ := K (c, .inr (0, t', w))) (κ₂ := K (t', .inr (1, c, w)))
    (c' := (t' : Thread nD τ)) (src := rowsAt bM (rowC t' w) hxo) (dst := slotAt gM (slotC c w) hgo)
    (r₁ := 0) (r₂ := 0) (d₁ := c) (d₂ := c) (q := fullShare) (fs := xbF X c) (fd := f)
    (sS := csem (.inr (0, t', w))) (sem := csem (.inr (1, c, w)))
    (by rw [show (((c : Thread nD τ), csem (.inr (0, t', w))) : GSem nD τ sig) = kcell (c, .inr (0, t', w)) from rfl, duties_eq, payers_send c t' w ht 0 (.inl rfl)]; exact Finset.mem_singleton_self _)
    (by rw [show (((t' : Thread nD τ), csem (.inr (1, c, w))) : GSem nD τ sig) = kcell (t', .inr (1, c, w)) from rfl, duties_eq, payers_recv t' c w ht.symm 1 (by decide)]; exact Finset.mem_singleton_self _)
    () () N rfl rfl rfl O rfl (W := W)
    (by
      rw [pay_dma]
      exact Entails.of_eq (b_view c t' w (xbF X c) hxo).symm)
    (by
      rw [pay_dma]
      exact (Entails.of_eq (pointsTo_congr (landed1 X c t' w hgo hxo f))).trans (Entails.of_eq (g_view t' c w (gatF X t') hgo).symm)))
    $$ [Hb Hg HO Ht0 Ht1]
  · isplitr; · iapply (recs_inv X K (c, .inr (0, t', w))); iexact HR
    isplitr; · iapply (recs_inv X K (t', .inr (1, c, w))); iexact HR
    isplitl [Hb]
    · iapply (Entails.of_eq (b_view c t' w (xbF X c) hxo)); iexact Hb
    isplitl [Hg]
    · iapply (Entails.of_eq (g_view t' c w f hgo)); iexact Hg
    isplitl [HO]; · iexact HO
    isplitl [Ht0]; · iexact Ht0
    isplitr; · iapply (recs_reached X K (c, .inr (0, t', w))); iexact HR
    isplitl [Ht1]; · iexact Ht1
    iapply (recs_reached X K (t', .inr (1, c, w))); iexact HR
  iintro ⟨Hc, HO⟩
  rw [wp_ret]; imodintro
  isplitl [Hc]; · iexact Hc
  iexists W; iexact HO

/-- A copy of the second exchange. -/
theorem p2Send_runs {t' : Dev nD} {so ro xo : Fin 2 → Nat} (et : t' = t) (es : so = semC t w) (er : ro = semC c w) (ex : xo = rowC c w)
    (hso hro hxo hxw) :
    iprop(recs X K ∗ (aPtsQ (part t) c c w (agF X) ∗ (∃ f, aPts (F := F) t c w f)
          ∗ dutyTok ER (kcell (c, .inr (2, t, w))) 0 c ∗ dutyTok ER (kcell (t, .inr (3, c, w))) 0 c) ∗ ow c (O + copyDebt 3 c w t))
      ⊢ runs c (p2Send aM (Memref.isWhole_whole _) cc0_scratch5 cc0_scratch6 t' so ro xo hso hro hxo hxw)
          (fun _ => iprop(cred (tallyAt (kcell (c, .inr (2, t, w))) () N) ∗ ow c O)) := by
  subst et es er ex
  unfold ow runs p2Send Prog.lift
  iintro ⟨#HR, ⟨Hb, ⟨%f, Hg⟩, Ht0, Ht1⟩, ⟨%W, HO⟩⟩
  iapply (Rounds.wp_send_pointsTo 𝒱₀ ER (rd X) (c : Thread nD τ) none (κ₁ := K (c, .inr (2, t', w))) (κ₂ := K (t', .inr (3, c, w)))
    (c' := (t' : Thread nD τ)) (src := rowsAt aM (rowC c w) hxo) (dst := rowsAt aM (rowC c w) hxo)
    (r₁ := 0) (r₂ := 0) (d₁ := c) (d₂ := c) (q := part t') (fs := agF X) (fd := f)
    (sS := csem (.inr (2, t', w))) (sem := csem (.inr (3, c, w)))
    (by rw [show (((c : Thread nD τ), csem (.inr (2, t', w))) : GSem nD τ sig) = kcell (c, .inr (2, t', w)) from rfl, duties_eq, payers_send c t' w ht 2 (.inr rfl)]; exact Finset.mem_singleton_self _)
    (by rw [show (((t' : Thread nD τ), csem (.inr (3, c, w))) : GSem nD τ sig) = kcell (t', .inr (3, c, w)) from rfl, duties_eq, payers_recv t' c w ht.symm 3 (by decide)]; exact Finset.mem_singleton_self _)
    () () N rfl rfl rfl O rfl (W := W)
    (by
      rw [pay_dma]
      exact Entails.of_eq (a_view (part t') c c w (agF X) hxo).symm)
    (by
      rw [pay_dma]
      exact (Entails.of_eq (pointsTo_congr (landed2 c w hxo f (agF X)))).trans (Entails.of_eq (a_view fullShare t' c w (agF X) hxo).symm)))
    $$ [Hb Hg HO Ht0 Ht1]
  · isplitr; · iapply (recs_inv X K (c, .inr (2, t', w))); iexact HR
    isplitr; · iapply (recs_inv X K (t', .inr (3, c, w))); iexact HR
    isplitl [Hb]
    · iapply (Entails.of_eq (a_view (part t') c c w (agF X) hxo)); iexact Hb
    isplitl [Hg]
    · iapply (Entails.of_eq (a_view fullShare t' c w f hxo)); iexact Hg
    isplitl [HO]; · iexact HO
    isplitl [Ht0]; · iexact Ht0
    isplitr; · iapply (recs_reached X K (c, .inr (2, t', w))); iexact HR
    isplitl [Ht1]; · iexact Ht1
    iapply (recs_reached X K (t', .inr (3, c, w))); iexact HR
  iintro ⟨Hc, HO⟩
  rw [wp_ret]; imodintro
  isplitl [Hc]; · iexact Hc
  iexists W; iexact HO

/-- The four waits. -/
theorem p1WaitR_runs {so xo : Fin 2 → Nat} {go : Fin 3 → Nat} (es : so = semC t w) (hso hxo hgo hxw hgw) (hO : Above 4 O) :
    iprop(recs X K ∗ cred (tallyAt (kcell (c, .inr (1, t, w))) () N) ∗ atPos ER (kcell (c, .inr (1, t, w))) 0 ∅ 0 ∗ ow c O)
      ⊢ runs c (p1WaitR bM (Memref.isWhole_whole _) gM (Memref.isWhole_whole _) cc0_scratch4 so xo go hso hxo hgo hxw hgw)
          (fun _ => iprop(ow c O ∗ semVal (kcell (c, .inr (1, t, w))) 0 ∗ gPts c t w (gatF X c))) := by
  subst es
  exact dma_runs X K 1 c t t w (payers_recv c t w ht 1 (by decide)) O hO _ _ rfl (wpE_waitDma2_eq 𝒱₀ (c : Thread nD τ) none Set.univ)

/-- A wait for a first copy's departure gives its source rows back. -/
theorem p1WaitS_runs {so xo : Fin 2 → Nat} {go : Fin 3 → Nat} (es : so = semC t w) (hso hxo hgo hxw hgw) (hO : Above 0 O) :
    iprop(recs X K ∗ cred (tallyAt (kcell (c, .inr (0, t, w))) () N) ∗ atPos ER (kcell (c, .inr (0, t, w))) 0 ∅ 0 ∗ ow c O)
      ⊢ runs c (p1WaitS bM (Memref.isWhole_whole _) gM (Memref.isWhole_whole _) cc0_scratch3 so xo go hso hxo hgo hxw hgw)
          (fun _ => iprop(ow c O ∗ semVal (kcell (c, .inr (0, t, w))) 0 ∗ bPts c t w (xbF X c))) := by
  subst es
  exact dma_runs X K 0 c t c w (payers_send c t w ht 0 (.inl rfl)) O hO _ _ rfl (wpE_waitDma2_eq 𝒱₀ (c : Thread nD τ) none Set.univ)

/-- A wait for a second copy's arrival gives the peer's summed rows. -/
theorem p2WaitR_runs {so xo : Fin 2 → Nat} (es : so = semC t w) (hso hxo hxw) (hO : Above 5 O) :
    iprop(recs X K ∗ cred (tallyAt (kcell (c, .inr (3, t, w))) () N) ∗ atPos ER (kcell (c, .inr (3, t, w))) 0 ∅ 0 ∗ ow c O)
      ⊢ runs c (p2Wait aM (Memref.isWhole_whole _) cc0_scratch6 so xo hso hxo hxw)
          (fun _ => iprop(ow c O ∗ semVal (kcell (c, .inr (3, t, w))) 0 ∗ aPts c t w (agF X))) := by
  subst es
  exact dma_runs X K 3 c t t w (payers_recv c t w ht 3 (by decide)) O hO _ _ rfl (wpE_waitDma2_eq 𝒱₀ (c : Thread nD τ) none Set.univ)

/-- A wait for a second copy's departure gives the share of its source rows back. -/
theorem p2WaitS_runs {so xo : Fin 2 → Nat} (es : so = semC t w) (hso hxo hxw) (hO : Above 0 O) :
    iprop(recs X K ∗ cred (tallyAt (kcell (c, .inr (2, t, w))) () N) ∗ atPos ER (kcell (c, .inr (2, t, w))) 0 ∅ 0 ∗ ow c O)
      ⊢ runs c (p2Wait aM (Memref.isWhole_whole _) cc0_scratch5 so xo hso hxo hxw)
          (fun _ => iprop(ow c O ∗ semVal (kcell (c, .inr (2, t, w))) 0 ∗ aPtsQ (part t) c c w (agF X))) := by
  subst es
  exact dma_runs X K 2 c t c w (payers_send c t w ht 2 (.inr rfl)) O hO _ _ rfl (wpE_waitDma2_eq 𝒱₀ (c : Thread nD τ) none Set.univ)

end Copies

end Steps

end Cert.AllReduce

end
-- ==== Proof.Phases.lean ====
/-
# The loops

A loop over distinct indices runs when each of its steps does. From that, the signals of a barrier, the copies of an
exchange to a list of peers and the waits for them, each as one rule.
-/
module

public import proofs.«01_k».proof.Proof.Steps

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf chain)

variable {F : FTy → Type} [FloatOps F]

local notation "𝕄" => MT nD τ sig Unit (Elt F) ℕ UU ℕ

/-! ## Separating conjunctions taken apart -/

omit [FloatOps F] in
/-- A product with one more member. -/
theorem sep_insert {I : Type} [DecidableEq I] {s : Finset I} {i : I} (hi : i ∉ s) (Φ : I → sProp 𝕄) :
    bigSep (insert i s) Φ = iprop(Φ i ∗ bigSep s Φ) := bigSep_insert hi
omit [FloatOps F] in
/-- A product of pairs is a pair of products. -/
theorem sep_both {I : Type} (s : Finset I) (Φ Ψ : I → sProp 𝕄) :
    bigSep s (fun i => iprop(Φ i ∗ Ψ i)) = iprop(bigSep s Φ ∗ bigSep s Ψ) := bigSep_sep s Φ Ψ
omit [FloatOps F] in
/-- A product over two sets apart. -/
theorem sep_union {I : Type} [DecidableEq I] {s t : Finset I} (h : Disjoint s t) (Φ : I → sProp 𝕄) :
    bigSep (s ∪ t) Φ = iprop(bigSep s Φ ∗ bigSep t Φ) := bigSep_union h
omit [FloatOps F] in
/-- A product over two. -/
theorem sep_two (Φ : Fin 2 → sProp 𝕄) : bigSep Finset.univ Φ = iprop(Φ 0 ∗ Φ 1) := bigSep_fin_two Φ

/-- One program after another. -/
theorem seq {c : Dev nD} {α : Type} {p : TP F PUnit} {k : PUnit → TP F α} {P Q : sProp 𝕄} {R : α → sProp 𝕄}
    (h : P ⊢ runs c p (fun _ => Q)) : P ⊢ iprop((Q -∗ runs c (k ⟨⟩) R) -∗ runs c (p >>= k) R) := by
  unfold runs
  rw [wp_bind]
  iintro HP Hk
  iapply (wp_wand_r frame _ Set.univ (p := p) (Q := fun _ => Q))
  isplitl [HP]
  · iapply h; iexact HP
  · iintro %a HQ; iapply Hk; iexact HQ

/-- A loop over distinct indices: what each step takes and gives, and a state that runs down the indices. -/
theorem chain_runs {ι : Type} [DecidableEq ι] (c : Dev nD) (step : ι → TP F PUnit) (R : sProp 𝕄) [BI.Persistent R]
    (Pre Post : ι → sProp 𝕄) (J : Finset ι → sProp 𝕄)
    (h : ∀ x S, x ∉ S → iprop(R ∗ Pre x ∗ J (insert x S)) ⊢ runs c (step x) (fun _ => iprop(Post x ∗ J S))) :
    ∀ l : List ι, l.Nodup → iprop(R ∗ bigSep l.toFinset Pre ∗ J l.toFinset) ⊢ runs c (chain (l.map step)) (fun _ => iprop(bigSep l.toFinset Post ∗ J ∅))
  | [], _ => by
    unfold runs
    rw [List.map_nil, Pipeline.chain_nil, Prog.pure_eq_ret, wp_ret, List.toFinset_nil, bigSep_empty]
    iintro ⟨-, -, HJ⟩; imodintro
    isplitr; · rw [bigSep_empty]; iempintro
    iexact HJ
  | x :: l, hl => by
    have hx : x ∉ l.toFinset := fun hm => (List.nodup_cons.mp hl).1 (List.mem_toFinset.mp hm)
    rw [List.map_cons, Pipeline.chain_cons, List.toFinset_cons, sep_insert hx, sep_insert hx]
    iintro ⟨#HR, ⟨Hx, Hl⟩, HJ⟩
    iapply (seq (h x l.toFinset hx)) $$ [Hx HJ]
    · isplitr; · iexact HR
      isplitl [Hx] <;> iassumption
    iintro ⟨Hx, HJ⟩
    unfold runs
    iapply (wp_wand_r frame _ Set.univ (Q := fun _ => iprop(bigSep l.toFinset Post ∗ J ∅)))
    isplitl [Hl HJ]
    · iapply (chain_runs c step R Pre Post J h l (List.nodup_cons.mp hl).2)
      isplitr; · iexact HR
      isplitl [Hl] <;> iassumption
    · iintro %a ⟨Hl, HJ⟩
      isplitl [Hx Hl]
      · isplitl [Hx] <;> iassumption
      · iexact HJ

section Phases

variable (X : Dev nD → Vec F S1024x512 .f32) (K : Dev nD × CI → ℕ) (c : Dev nD)

/-- A device's place in a semaphore's round, and the credit of one. -/
def pos (ci : Dev nD × CI) : sProp 𝕄 := atPos ER (kcell ci) 0 ∅ 0
/-- A credit of `n` at a semaphore. -/
def crd (ci : Dev nD × CI) (n : ℕ) : sProp 𝕄 := cred (tallyAt (kcell ci) () n)
/-- A semaphore at zero. -/
def zero (ci : Dev nD × CI) : sProp 𝕄 := semVal (kcell ci) 0

/-- The duties of device `c` as a sender of exchange `k`, and as a payer of barrier `k`. -/
def tokC (k k' : Fin 4) (w : Fin 2) (t : Dev nD) : sProp 𝕄 :=
  iprop(dutyTok ER (kcell (c, .inr (k, t, w))) 0 c ∗ dutyTok ER (kcell (t, .inr (k', c, w))) 0 c)
/-- The tokens of a device's signals at a barrier. -/
def tokB (k : Fin 3) : sProp 𝕄 := bigSep ((meet k c).erase c) fun t => dutyTok ER (kcell (t, .inl k)) 0 c

/-- The signals of a barrier. -/
theorem signals_runs (k : Fin 3) (f dv : Fin 3 → Dev nD) (hf : Function.Injective f) (hm : (meet k c).erase c = Finset.univ.image f) (hd : ∀ r, dv r = f r) (O : Debt) :
    iprop(recs X K ∗ ((bigSep ((meet k c).erase c) fun t => bigSep (moved k t c) give) ∗ tokB c k) ∗ ow c (O + barDebts k c))
      ⊢ runs c (chain (([0, 1, 2] : List (Fin 3)).map fun r => semSignalWord (dv r) (regS k) 1#32)) (fun _ => ow c O) := by
  have hu : ([0, 1, 2] : List (Fin 3)).toFinset = Finset.univ := by decide
  have h := chain_runs (F := F) c (fun r : Fin 3 => semSignalWord (dv r) (regS k) 1#32) (recs X K)
    (fun r => iprop(bigSep (moved k (f r) c) give ∗ dutyTok ER (kcell (f r, .inl k)) 0 c)) (fun _ => iprop(emp))
    (fun S => ow c (O + ∑ r ∈ S, barDebt k (f r)))
    (fun r S hr => by
      rw [Finset.sum_insert hr, add_comm (barDebt k (f r)), ← add_assoc, hd]
      iintro H
      unfold runs
      iapply (wp_wand_r frame _ Set.univ (Q := fun _ => ow c (O + ∑ r ∈ S, barDebt k (f r))))
      isplitl [H]
      · iapply (signal_runs X K k c (f r) (O + ∑ r ∈ S, barDebt k (f r)) (by rw [hm]; exact Finset.mem_image_of_mem _ (Finset.mem_univ _))); iexact H
      · iintro %a HO; isplitr; · iempintro
        iexact HO)
    [0, 1, 2] (by decide)
  rw [hu, sep_both, Finset.sum_empty, add_zero] at h
  unfold tokB barDebts
  rw [hm, bigSep_image _ _ hf, bigSep_image _ _ hf, Finset.sum_image (fun a _ b _ e => hf e)]
  unfold runs at h ⊢
  refine h.trans (wp_mono frame _ Set.univ fun _ => ?_)
  iintro ⟨-, HO⟩; iexact HO

/-- The wait of a barrier: what others handed on, and what was kept. -/
theorem bar_runs (k : Fin 3) (n : BitVec 32) (hn : n.toInt = (((meet k c).erase c).card : ℤ)) (O : Debt) (hO : Above (k.val + 1) O) :
    iprop(recs X K ∗ bigSep (moved k c c) give ∗ crd (c, .inl k) ((meet k c).erase c).card ∗ pos (c, .inl k) ∗ ow c O)
      ⊢ runs c (semWaitWord (regS k) n) (fun _ => iprop(ow c O ∗ zero (c, .inl k) ∗ bigSep (behind k c) give)) := by
  iintro ⟨#HR, Hm, Hc, Ha, HO⟩
  unfold runs crd pos zero
  iapply (wp_wand_r frame _ Set.univ (Q := fun _ => iprop(ow c O ∗ semVal (kcell (c, .inl k)) 0 ∗ bigSep ((meet k c).erase c) fun p => bigSep (moved k c p) give)))
  isplitl [Hc Ha HO]
  · iapply (barrier_runs X K k c n hn O hO)
    isplitr; · iexact HR
    isplitl [Hc]; · iexact Hc
    isplitl [Ha] <;> iassumption
  · iintro %a ⟨HO, Hz, Hp⟩
    isplitl [HO]; · iexact HO
    isplitl [Hz]; · iexact Hz
    iapply (Entails.of_eq (deal_behind k c give).symm)
    isplitl [Hm] <;> iassumption

/-- The copies of the first exchange to the peers `l` in wave `w`. -/
theorem p1Sends_runs (w : Fin 2) (l : List Ix) (hl : l.Nodup) (O : Debt) :
    iprop(recs X K ∗ (bigSep l.toFinset fun x => iprop(bPts c (tgt c x) w (xbF X c) ∗ (∃ f, gPts (F := F) (tgt c x) c w f) ∗ tokC c 0 1 w (tgt c x)))
        ∗ ow c (O + copyDebts 1 c w l.toFinset))
      ⊢ runs c (p1Sends bM (Memref.isWhole_whole _) gM (Memref.isWhole_whole _) cc0_scratch3 cc0_scratch4 c w l)
          (fun _ => iprop((bigSep l.toFinset fun x => crd (c, .inr (0, tgt c x, w)) N) ∗ ow c O)) := by
  have h := chain_runs (F := F) c _ (recs X K) _ (fun x => crd (c, .inr (0, tgt c x, w)) N) (fun S => ow c (O + copyDebts 1 c w S))
    (fun x S hx => by
      unfold copyDebts
      rw [Finset.sum_insert hx, add_comm (copyDebt 1 c w (tgt c x)), ← add_assoc]
      exact p1Send_runs X K c (tgt c x) w (tgt_ne c x) (O + ∑ y ∈ S, copyDebt 1 c w (tgt c y)) (p1Dev_eq c w x) (semO_eq c w x) (mySemO_eq c w) (rowO_eq c w x) (mySlotO_eq c w)
        (semO_inb c w x) (mySemO_inb c w) (rowO_inb c w x) (mySlotO_inb c w) (rowO_words c w x) (mySlotO_words c w)) l hl
  rw [show copyDebts 1 c w ∅ = 0 from Finset.sum_empty, add_zero] at h
  exact h

/-- The copies of the second exchange. -/
theorem p2Sends_runs (w : Fin 2) (l : List Ix) (hl : l.Nodup) (O : Debt) :
    iprop(recs X K ∗ (bigSep l.toFinset fun x => iprop(aPtsQ (part (tgt c x)) c c w (agF X) ∗ (∃ f, aPts (F := F) (tgt c x) c w f) ∗ tokC c 2 3 w (tgt c x)))
        ∗ ow c (O + copyDebts 3 c w l.toFinset))
      ⊢ runs c (p2Sends aM (Memref.isWhole_whole _) cc0_scratch5 cc0_scratch6 c w l)
          (fun _ => iprop((bigSep l.toFinset fun x => crd (c, .inr (2, tgt c x, w)) N) ∗ ow c O)) := by
  have h := chain_runs (F := F) c _ (recs X K) _ (fun x => crd (c, .inr (2, tgt c x, w)) N) (fun S => ow c (O + copyDebts 3 c w S))
    (fun x S hx => by
      unfold copyDebts
      rw [Finset.sum_insert hx, add_comm (copyDebt 3 c w (tgt c x)), ← add_assoc]
      exact p2Send_runs X K c (tgt c x) w (tgt_ne c x) (O + ∑ y ∈ S, copyDebt 3 c w (tgt c y)) (p2Dev_eq c w x) (semO_eq c w x) (mySemO_eq c w) (off14_eq c w)
        (semO_inb c w x) (mySemO_inb c w) (k0_off14_inb c w) (k0_off14_wordsbf16 c w)) l hl
  rw [show copyDebts 3 c w ∅ = 0 from Finset.sum_empty, add_zero] at h
  exact h

/-- A wait and another after it, each at its own semaphore. -/
theorem wait_pair (p q : TP F PUnit) (O : Debt) (i j : CI) (A B : sProp 𝕄)
    (hp : iprop(recs X K ∗ cred (tallyAt (kcell (c, i)) () N) ∗ atPos ER (kcell (c, i)) 0 ∅ 0 ∗ ow c O)
      ⊢ runs c p (fun _ => iprop(ow c O ∗ semVal (kcell (c, i)) 0 ∗ A)))
    (hq : iprop(recs X K ∗ cred (tallyAt (kcell (c, j)) () N) ∗ atPos ER (kcell (c, j)) 0 ∅ 0 ∗ ow c O)
      ⊢ runs c q (fun _ => iprop(ow c O ∗ semVal (kcell (c, j)) 0 ∗ B))) :
    iprop(recs X K ∗ ((crd (c, i) N ∗ pos (c, i)) ∗ (crd (c, j) N ∗ pos (c, j))) ∗ ow c O)
      ⊢ runs c (p >>= fun _ => q) (fun _ => iprop(((zero (c, i) ∗ A) ∗ (zero (c, j) ∗ B)) ∗ ow c O)) := by
  unfold crd pos zero
  iintro ⟨#HR, ⟨⟨Hc, Ha⟩, ⟨Hc', Ha'⟩⟩, HO⟩
  iapply (seq hp) $$ [Hc Ha HO]
  · isplitr; · iexact HR
    isplitl [Hc]; · iexact Hc
    isplitl [Ha] <;> iassumption
  iintro ⟨HO, Hz, HA⟩
  unfold runs at hq ⊢
  iapply (wp_wand_r frame _ Set.univ (Q := fun _ => iprop(ow c O ∗ semVal (kcell (c, j)) 0 ∗ B)))
  isplitl [Hc' Ha' HO]
  · iapply hq
    isplitr; · iexact HR
    isplitl [Hc']; · iexact Hc'
    isplitl [Ha'] <;> iassumption
  · iintro %a ⟨HO, Hz', HB⟩
    isplitr [HO]
    · isplitl [Hz HA]
      · isplitl [Hz] <;> iassumption
      · isplitl [Hz'] <;> iassumption
    · iexact HO

/-- The waits of the first exchange in wave `w`. -/
theorem p1Waits_runs (w : Fin 2) (l : List Ix) (hl : l.Nodup) (O : Debt) (hO : Above 4 O) :
    iprop(recs X K ∗ (bigSep l.toFinset fun x => iprop((crd (c, .inr (1, tgt c x, w)) N ∗ pos (c, .inr (1, tgt c x, w)))
          ∗ (crd (c, .inr (0, tgt c x, w)) N ∗ pos (c, .inr (0, tgt c x, w))))) ∗ ow c O)
      ⊢ runs c (p1Waits bM (Memref.isWhole_whole _) gM (Memref.isWhole_whole _) cc0_scratch3 cc0_scratch4 c w l)
          (fun _ => iprop((bigSep l.toFinset fun x => iprop((zero (c, .inr (1, tgt c x, w)) ∗ gPts c (tgt c x) w (gatF X c))
            ∗ (zero (c, .inr (0, tgt c x, w)) ∗ bPts c (tgt c x) w (xbF X c)))) ∗ ow c O)) :=
  chain_runs (F := F) c _ (recs X K) _ _ (fun _ => ow c O)
    (fun x S _ => wait_pair X K c _ _ O _ _ _ _
      (p1WaitR_runs X K c (tgt c x) w (tgt_ne c x) O (semO_eq c w x) (semO_inb c w x) (rowO_inb c w x) (slotO_inb c w x) (rowO_words c w x) (slotO_words c w x) hO)
      (p1WaitS_runs X K c (tgt c x) w (tgt_ne c x) O (semO_eq c w x) (semO_inb c w x) (rowO_inb c w x) (mySlotO_inb c w) (rowO_words c w x) (mySlotO_words c w)
        (above_mono (by decide) hO))) l hl

/-- The waits of the second exchange. -/
theorem p2Waits_runs (w : Fin 2) (l : List Ix) (hl : l.Nodup) (O : Debt) (hO : Above 5 O) :
    iprop(recs X K ∗ (bigSep l.toFinset fun x => iprop((crd (c, .inr (3, tgt c x, w)) N ∗ pos (c, .inr (3, tgt c x, w)))
          ∗ (crd (c, .inr (2, tgt c x, w)) N ∗ pos (c, .inr (2, tgt c x, w))))) ∗ ow c O)
      ⊢ runs c (p2Waits aM (Memref.isWhole_whole _) cc0_scratch5 cc0_scratch6 c w l)
          (fun _ => iprop((bigSep l.toFinset fun x => iprop((zero (c, .inr (3, tgt c x, w)) ∗ aPts c (tgt c x) w (agF X))
            ∗ (zero (c, .inr (2, tgt c x, w)) ∗ aPtsQ (part (tgt c x)) c c w (agF X)))) ∗ ow c O)) :=
  chain_runs (F := F) c _ (recs X K) _ _ (fun _ => ow c O)
    (fun x S _ => wait_pair X K c _ _ O _ _ _ _
      (p2WaitR_runs X K c (tgt c x) w (tgt_ne c x) O (semO_eq c w x) (semO_inb c w x) (rowO_inb c w x) (rowO_words c w x) hO)
      (p2WaitS_runs X K c (tgt c x) w (tgt_ne c x) O (semO_eq c w x) (semO_inb c w x) (k0_off14_inb c w) (k0_off14_wordsbf16 c w)
        (above_mono (by decide) hO))) l hl

end Phases

end Cert.AllReduce

end
-- ==== Proof.Parts.lean ====
/-
# The body in four parts

The first sends within the group, the sends to the other groups, a wave's sum and its sending out, and the last waits
with the stores of the result.
-/
module

public import proofs.«01_k».proof.Proof.Phases

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf chain)

variable {F : FTy → Type} [FloatOps F]

local notation "𝕄" => MT nD τ sig Unit (Elt F) ℕ UU ℕ

/-! ## Devices as the own one and the peers -/

omit [FloatOps F] in
/-- A product over all devices: the own one, and the targets. -/
theorem by_peer (c : Dev nD) (Φ : Dev nD → sProp 𝕄) : bigSep Finset.univ Φ = iprop(Φ c ∗ bigSep (Finset.univ : Finset Ix) fun x => Φ (tgt c x)) := by
  rw [bigSep_univ_split c, ← tgt_image c, bigSep_image _ _ (tgt_injective c)]; rfl
omit [FloatOps F] in
/-- A product over all devices and waves: the own two, and the targets' two. -/
theorem by_block (c : Dev nD) (Φ : Dev nD × Fin 2 → sProp 𝕄) :
    bigSep Finset.univ Φ = iprop((Φ (c, 0) ∗ Φ (c, 1)) ∗ (bigSep (Finset.univ : Finset Ix) fun x => Φ (tgt c x, 0)) ∗ bigSep (Finset.univ : Finset Ix) fun x => Φ (tgt c x, 1)) := by
  rw [bigSep_univ_prod, bigSep_congr (fun t _ => sep_two fun w => Φ (t, w)), by_peer c, sep_both]
omit [FloatOps F] in
/-- A product over all targets: those in the group, and the others. -/
theorem by_group (Φ : Ix → sProp 𝕄) : bigSep Finset.univ Φ = iprop(bigSep grpL.toFinset Φ ∗ bigSep crossL.toFinset Φ) := by
  rw [← all_union, sep_union all_disjoint]
omit [FloatOps F] in
/-- A product of threes is three products. -/
theorem sep_trio {I : Type} (s : Finset I) (Φ Ψ Θ : I → sProp 𝕄) :
    bigSep s (fun i => iprop(Φ i ∗ Ψ i ∗ Θ i)) = iprop(bigSep s Φ ∗ bigSep s Ψ ∗ bigSep s Θ) := by rw [sep_both, sep_both]
omit [FloatOps F] in
/-- A product of fours is four products. -/
theorem sep_quad {I : Type} (s : Finset I) (Φ Ψ Θ Ξ : I → sProp 𝕄) :
    bigSep s (fun i => iprop((Φ i ∗ Ψ i) ∗ (Θ i ∗ Ξ i))) = iprop((bigSep s Φ ∗ bigSep s Ψ) ∗ (bigSep s Θ ∗ bigSep s Ξ)) := by rw [sep_both, sep_both, sep_both]

/-! ## Buffers held block by block -/

/-- The whole rounded copy of the block. -/
def bWhole (c : Dev nD) (f : Vec F S1024x512 .bf16) : sProp 𝕄 := ((c : Thread nD τ).loc cc0_scratch0) ↦{fullShare} (f : Buf (Elt F) ((c : Thread nD τ).loc cc0_scratch0))
/-- The whole gather buffer. -/
def gWhole (c : Dev nD) (f : Vec F S32x32x512 .bf16) : sProp 𝕄 := ((c : Thread nD τ).loc cc0_scratch1) ↦{fullShare} (f : Buf (Elt F) ((c : Thread nD τ).loc cc0_scratch1))
/-- The whole rounded result. -/
def aWhole (c : Dev nD) (f : Vec F S1024x512 .bf16) : sProp 𝕄 := ((c : Thread nD τ).loc cc0_scratch2) ↦{fullShare} (f : Buf (Elt F) ((c : Thread nD τ).loc cc0_scratch2))
/-- The whole staged block of `x`. -/
def xPts (c : Dev nD) (f : Vec F S1024x512 .f32) : sProp 𝕄 := ((c : Thread nD τ).loc cc0_stg0_0) ↦{fullShare} (f : Buf (Elt F) ((c : Thread nD τ).loc cc0_stg0_0))
/-- The whole staged result. -/
def oPts (c : Dev nD) (f : Vec F S1024x512 .f32) : sProp 𝕄 := ((c : Thread nD τ).loc cc0_stg1_0) ↦{fullShare} (f : Buf (Elt F) ((c : Thread nD τ).loc cc0_stg1_0))
/-- All slots' rows of a wave. -/
def gWave (c : Dev nD) (w : Fin 2) (f : Vec F S32x32x512 .bf16) : sProp 𝕄 :=
  ((c : Thread nD τ).loc cc0_scratch1) ↦[waveSet w]{fullShare} (f : Buf (Elt F) ((c : Thread nD τ).loc cc0_scratch1))

omit [FloatOps F] in
/-- The rounded copy of the block, cut into what goes to each device. -/
theorem bWhole_eq (c : Dev nD) (f) : bWhole (F := F) c f = iprop((bPts c c 0 f ∗ bPts c c 1 f)
    ∗ (bigSep (Finset.univ : Finset Ix) fun x => bPts c (tgt c x) 0 f) ∗ bigSep (Finset.univ : Finset Ix) fun x => bPts c (tgt c x) 1 f) := by
  unfold bWhole
  rw [Ring.pointsTo_blocks (fun b : Dev nD × Fin 2 => (rowSet b.1 b.2 : Finset (Idx ((c : Thread nD τ).loc cc0_scratch0)))) (fun b b' h => rowSet_disjoint h) rowSet_cover]
  exact by_block c fun b => bPts c b.1 b.2 f
omit [FloatOps F] in
/-- The rounded result, cut into what each device sums. -/
theorem aWhole_eq (c : Dev nD) (f) : aWhole (F := F) c f = iprop((aPts c c 0 f ∗ aPts c c 1 f)
    ∗ (bigSep (Finset.univ : Finset Ix) fun x => aPts c (tgt c x) 0 f) ∗ bigSep (Finset.univ : Finset Ix) fun x => aPts c (tgt c x) 1 f) := by
  unfold aWhole
  rw [Ring.pointsTo_blocks (fun b : Dev nD × Fin 2 => (rowSet b.1 b.2 : Finset (Idx ((c : Thread nD τ).loc cc0_scratch2)))) (fun b b' h => rowSet_disjoint h) rowSet_cover]
  exact by_block c fun b => aPts c b.1 b.2 f
omit [FloatOps F] in
/-- The gather buffer, cut into what comes from each device. -/
theorem gWhole_eq (c : Dev nD) (f) : gWhole (F := F) c f = iprop((gPts c c 0 f ∗ gPts c c 1 f)
    ∗ (bigSep (Finset.univ : Finset Ix) fun x => gPts c (tgt c x) 0 f) ∗ bigSep (Finset.univ : Finset Ix) fun x => gPts c (tgt c x) 1 f) := by
  unfold gWhole
  rw [Ring.pointsTo_blocks (fun b : Dev nD × Fin 2 => (slotSet b.1 b.2 : Finset (Idx ((c : Thread nD τ).loc cc0_scratch1)))) (fun b b' h => slotSet_disjoint h) slotSet_cover]
  exact by_block c fun b => gPts c b.1 b.2 f

omit [FloatOps F] in
/-- The two waves' slots are the gather buffer. -/
theorem gWaves_join (c : Dev nD) (f f' : Vec F S32x32x512 .bf16) : iprop(gWave c 0 f ∗ gWave c 1 f') ⊢ iprop(∃ g, gWhole (F := F) c g) := by
  have h := Ring.pointsTo_blocks_join (Ix := Unit) (Name := ℕ) (U := UU) (Lvl := ℕ) (Val := Elt F) (ℓ := (c : Thread nD τ).loc cc0_scratch1)
    (fun w : Fin 2 => (waveSet w : Finset (Idx ((c : Thread nD τ).loc cc0_scratch1))))
    (fun w w' hw => Finset.disjoint_left.mpr fun i hi hi' => hw (Fin.ext (by have h1 := mem_waveSet.mp hi; have h2 := mem_waveSet.mp hi'; omega)))
    (Finset.eq_univ_iff_forall.mpr fun i => Finset.mem_biUnion.mpr ⟨⟨(i 1).val / 16, by have h : (i 1).val < 32 := (i 1).isLt; omega⟩, Finset.mem_univ _, mem_waveSet.mpr rfl⟩)
    (q := fullShare) ![f, f'] f
  rw [sep_two] at h
  exact h

omit [FloatOps F] in
/-- A wave's slots joined: what each peer sent, and anything in the own slot. -/
theorem gWave_join (c : Dev nD) (w : Fin 2) (g : Vec F S32x32x512 .bf16) :
    iprop((∃ f, gPts (F := F) c c w f) ∗ bigSep (Finset.univ : Finset Ix) fun x => gPts c (tgt c x) w g)
      ⊢ iprop(∃ g' : Vec F S32x32x512 .bf16, ⌜∀ i, (i 0).val ≠ c.val → g' i = g i⌝ ∗ gWave c w g') := by
  iintro ⟨⟨%f, Hf⟩, Hg⟩
  have h : (bigSep (Finset.univ : Finset (Dev nD)) fun s => gPts c s w (if s = c then f else g))
      ⊢ iprop(∃ g', ⌜∀ s ∈ (Finset.univ : Finset (Dev nD)), ∀ i ∈ slotSet s w, g' i = (if s = c then f else g) i⌝
        ∗ ((c : Thread nD τ).loc cc0_scratch1) ↦[(Finset.univ : Finset (Dev nD)).biUnion fun s => slotSet s w]{fullShare} (g' : Buf (Elt F) ((c : Thread nD τ).loc cc0_scratch1))) :=
    pointsTo_biUnion_join (Ix := Unit) (Name := ℕ) (U := UU) (Lvl := ℕ) (Val := Elt F) (ℓ := (c : Thread nD τ).loc cc0_scratch1) (q := fullShare)
      (Finset.univ : Finset (Dev nD)) (fun s => (slotSet s w : Finset (Idx ((c : Thread nD τ).loc cc0_scratch1)))) (fun s => if s = c then f else g) f
      (fun s _ s' _ h => slotSet_disjoint (b := (s, w)) (b' := (s', w)) fun e => h (congrArg Prod.fst e))
  ihave H := (Entails.of_eq (by_peer c (fun s => gPts c s w (if s = c then f else g))).symm) $$ [Hf Hg]
  · isplitl [Hf]
    · rw [if_pos rfl]; iexact Hf
    · iapply (Entails.of_eq (bigSep_congr (s := (Finset.univ : Finset Ix)) (Φ := fun x => gPts c (tgt c x) w g) (Ψ := fun x => gPts c (tgt c x) w (if tgt c x = c then f else g))
        fun x _ => by rw [if_neg (tgt_ne c x)])); iexact Hg
  ihave H := h $$ H
  icases H with ⟨%g', %hg, H⟩
  iexists (fun i => if i ∈ waveSet w then g' i else g i)
  isplitr
  · ipureintro
    intro i hc
    by_cases hi : i ∈ waveSet w
    · refine (if_pos hi).trans ?_
      have hi' : i ∈ slotSet ⟨(i 0).val, (i 0).isLt⟩ w := mem_slotSet.mpr ⟨rfl, mem_waveSet.mp hi⟩
      exact (hg ⟨(i 0).val, (i 0).isLt⟩ (Finset.mem_univ _) i hi').trans (congrFun (if_neg (fun e : (⟨(i 0).val, (i 0).isLt⟩ : Dev nD) = c => hc (congrArg Fin.val e))) i)
    · exact if_neg hi
  · have e : gWave c w g' = gWave c w (fun i => if i ∈ waveSet w then g' i else g i) := pointsTo_congr fun i hi => (if_pos hi).symm
    iapply (Entails.of_eq e)
    unfold gWave; rw [← slotSet_wave w]; iexact H

/-! ## Loads and stores -/

omit [FloatOps F] in
theorem hz : (![0, 0] : Fin 2 → Nat) = fun _ => 0 := funext fun a => by fin_cases a <;> rfl
omit [FloatOps F] in
/-- A load of the whole block gives the block. -/
theorem read_x (f : Vec F S1024x512 .f32) : xM.view.readAt (Elt F) allRect.toLoadRect f = f := Memref.readAt_unit_zero (Elt F) cc0_stg0_0 hz _ f
omit [FloatOps F] in
/-- A load of the whole rounded result gives it. -/
theorem read_a (f : Vec F S1024x512 .bf16) : aM.view.readAt (Elt F) allRect.toLoadRect f = f := Memref.readAt_unit_zero (Elt F) cc0_scratch2 hz _ f
omit [FloatOps F] in
/-- A store over the whole rounded copy leaves what is stored. -/
theorem write_b (f v : Vec F S1024x512 .bf16) : (bM.access allRect).write (Elt F) f v Finset.univ = v := Memref.write_access_unit_zero_univ (Elt F) cc0_scratch0 hz _ f v
omit [FloatOps F] in
/-- A store over the whole result leaves what is stored. -/
theorem write_o (f v : Vec F S1024x512 .f32) : (oM.access allRect).write (Elt F) f v Finset.univ = v := Memref.write_access_unit_zero_univ (Elt F) cc0_stg1_0 hz _ f v

/-- One program after another, a value handed on. -/
theorem seqV {c : Dev nD} {α β : Type} {p : TP F β} {k : β → TP F α} {P : sProp 𝕄} {Q : β → sProp 𝕄} {R : α → sProp 𝕄}
    (h : P ⊢ runs c p Q) : P ⊢ iprop((∀ v, Q v -∗ runs c (k v) R) -∗ runs c (p >>= k) R) := by
  unfold runs
  rw [wp_bind]
  iintro HP Hk
  iapply (wp_wand_r frame _ Set.univ (p := p) (Q := Q))
  isplitl [HP]
  · iapply h; iexact HP
  · iexact Hk

section Parts

variable (X : Dev nD → Vec F S1024x512 .f32) (K : Dev nD × CI → ℕ) (c : Dev nD)

/-- How many others a device meets at a barrier. -/
theorem meet_card (k : Fin 3) (c : Dev nD) : ((meet k c).erase c).card = if k = 2 then 1 else 3 := by revert k c; decide +kernel

/-! ## Over a set of peers -/

/-- The rows to send to some of the targets. -/
abbrev bP (w : Fin 2) (s : Finset Ix) : sProp 𝕄 := bigSep s fun x => bPts c (tgt c x) w (xbF X c)
/-- The right to write the own slot at some of the targets. -/
abbrev gG (w : Fin 2) (s : Finset Ix) : sProp 𝕄 := bigSep s fun x => iprop(∃ f, gPts (F := F) (tgt c x) c w f)
/-- The right to write the own rows of the result at some of the targets. -/
abbrev aG (w : Fin 2) (s : Finset Ix) : sProp 𝕄 := bigSep s fun x => iprop(∃ f, aPts (F := F) (tgt c x) c w f)
/-- The tokens of the copies to some of the targets. -/
abbrev tP (k k' : Fin 4) (w : Fin 2) (s : Finset Ix) : sProp 𝕄 := bigSep s fun x => tokC (F := F) c k k' w (tgt c x)
/-- The credits of the copies from or to some of the targets. -/
abbrev cP (k : Fin 4) (w : Fin 2) (s : Finset Ix) : sProp 𝕄 := bigSep s fun x => crd (F := F) (c, .inr (k, tgt c x, w)) N
/-- The places in the rounds of those copies' semaphores. -/
abbrev pP (k : Fin 4) (w : Fin 2) (s : Finset Ix) : sProp 𝕄 := bigSep s fun x => pos (F := F) (c, .inr (k, tgt c x, w))
/-- Those semaphores at zero. -/
abbrev zP (k : Fin 4) (w : Fin 2) (s : Finset Ix) : sProp 𝕄 := bigSep s fun x => zero (F := F) (c, .inr (k, tgt c x, w))

omit [FloatOps F] in
/-- The permissions granted to write a set of peers' buffers. -/
theorem granted (s : Finset Ix) : bigSep (s.image fun x => ((tgt c x, c) : Pair)) give ⊢ iprop((gG (F := F) c 0 s ∗ gG c 1 s) ∗ (aG c 0 s ∗ aG c 1 s)) := by
  rw [bigSep_image _ _ (pair_injective c)]
  unfold give giveG giveA gG aG
  rw [← sep_quad]
  refine bigSep_mono fun x _ => ?_
  rw [sep_two, sep_two]
  exact BI.Entails.refl _

omit [FloatOps F] in
/-- After the first barrier a device may write at its group, and holds what it will pass on. -/
theorem behind_parts : bigSep (behind 0 c) (give (F := F)) = iprop(bigSep (grpL.toFinset.image fun x => ((tgt c x, c) : Pair)) give ∗ bigSep (before 1 c) give) := by
  rw [behind_0, sep_union (behind_0_disjoint c)]

omit [FloatOps F] in
/-- What a device hands out of its own buffers. -/
theorem grants (g : Vec F S32x32x512 .bf16) (a : Vec F S1024x512 .bf16) :
    iprop(((bigSep (Finset.univ : Finset Ix) fun x => gPts c (tgt c x) 0 g) ∗ bigSep (Finset.univ : Finset Ix) fun x => gPts c (tgt c x) 1 g)
      ∗ (bigSep (Finset.univ : Finset Ix) fun x => aPts c (tgt c x) 0 a) ∗ bigSep (Finset.univ : Finset Ix) fun x => aPts c (tgt c x) 1 a)
      ⊢ bigSep (before 0 c) give := by
  rw [before_0, bigSep_map, ← tgt_image c, bigSep_image _ _ (tgt_injective c), ← sep_quad]
  refine bigSep_mono fun x _ => ?_
  have h : iprop((gPts c (tgt c x) 0 g ∗ gPts c (tgt c x) 1 g) ∗ (aPts c (tgt c x) 0 a ∗ aPts c (tgt c x) 1 a))
      ⊢ iprop(((∃ f, gPts (F := F) c (tgt c x) 0 f) ∗ ∃ f, gPts (F := F) c (tgt c x) 1 f) ∗ (∃ f, aPts (F := F) c (tgt c x) 0 f) ∗ ∃ f, aPts (F := F) c (tgt c x) 1 f) := by
    iintro ⟨⟨H1, H2⟩, ⟨H3, H4⟩⟩
    isplitl [H1 H2]
    · isplitl [H1]; · iexists g; iexact H1
      iexists g; iexact H2
    · isplitl [H3]; · iexists a; iexact H3
      iexists a; iexact H4
  unfold give giveG giveA
  rw [sep_two, sep_two]
  exact h

/-- The single signal of the last barrier. -/
theorem signal2_runs (O : Debt) :
    iprop(recs X K ∗ ((bigSep ((meet 2 c).erase c) fun t => bigSep (moved 2 t c) give) ∗ tokB c 2) ∗ ow c (O + barDebts 2 c))
      ⊢ runs c (semSignalWord (bar3Dev c) (regS 2) 1#32) (fun _ => ow c O) := by
  unfold tokB barDebts
  have hm := meet_2 c
  rw [hm, bigSep_singleton, bigSep_singleton, Finset.sum_singleton, bar3Dev_eq]
  exact signal_runs X K 2 c (tgt3 c) O (by rw [hm]; exact Finset.mem_singleton_self _)

/-- The start: the first barrier, the rounded copy of `x`, and the copies within the group. -/
theorem part_a {α : Type} (k : TP F α) (R : α → sProp 𝕄) :
    iprop(recs X K ∗ tokB c 0 ∗ bigSep (before 0 c) give ∗ (∃ f, bWhole (F := F) c f) ∗ xPts c (X c) ∗ crd (c, .inl 0) 3 ∗ pos (c, .inl 0)
        ∗ tP c 0 1 0 grpL.toFinset ∗ tP c 0 1 1 grpL.toFinset ∗ ow c (O₀ c))
      ⊢ iprop((xPts c (X c) ∗ (bPts c c 0 (xbF X c) ∗ bPts c c 1 (xbF X c)) ∗ (bP X c 0 crossL.toFinset ∗ bP X c 1 crossL.toFinset) ∗ zero (c, .inl 0)
            ∗ (cP c 0 0 grpL.toFinset ∗ cP c 0 1 grpL.toFinset) ∗ (aG c 0 grpL.toFinset ∗ aG c 1 grpL.toFinset) ∗ bigSep (before 1 c) give ∗ ow c (O2 c) -∗ runs c k R)
          -∗ runs c (do
              chain (([0, 1, 2] : List (Fin 3)).map fun r => semSignalWord (barDev c r) barSem.sem 1#32)
              let x ← Prog.lift (.load xM allRect.toLoadRect (View.loadsAt_vmem h_S1024x512))
              let _ ← Prog.lift (.load bM allRect.toLoadRect (View.loadsAt_vmem h_S1024x512))
              Prog.lift (.store bM allRect (k0_pay2 (k0_pay1 x)) Finset.univ (View.stores_vmem h_S1024x512 ((Memref.isWhole_whole _).storeExact_slice rfl _ packedbf16_S1024x512_S1024x512_0_0) (fun _ => rfl)) (.inl rfl))
              semWaitWord barSem.sem 3#32
              p1Sends bM (Memref.isWhole_whole _) gM (Memref.isWhole_whole _) cc0_scratch3 cc0_scratch4 c 0 grpL
              p1Sends bM (Memref.isWhole_whole _) gM (Memref.isWhole_whole _) cc0_scratch3 cc0_scratch4 c 1 grpL
              k) R) := by
  iintro ⟨#HR, HtB, Hgive, ⟨%f, Hb⟩, Hx, Hc, Ha, Ht0, Ht1, HO⟩ Hk
  ihave Hg := (Entails.of_eq (deal_before 0 c give)) $$ Hgive
  icases Hg with ⟨Hkeep, Hgive⟩
  iapply (seq (signals_runs X K c 0 (fun r => tgt c (.inl r)) (barDev c) (fun a b e => Sum.inl_injective (tgt_injective c e)) (meet_0 c) (barDev_eq c) (O0 c))) $$ [Hgive HtB HO]
  · isplitr; · iexact HR
    isplitr [HO]
    · isplitl [Hgive] <;> iassumption
    · iexact HO
  iintro HO
  simp only [Prog.lift, Prog.bind_op, Prog.bind_ret]
  unfold xPts bWhole
  iapply (wp_load 𝒱₀ (c : Thread nD τ) none Set.univ (m := xM) (Finset.subset_univ _)) $$ Hx; iintro Hx
  rw [read_x]
  iapply (wp_load 𝒱₀ (c : Thread nD τ) none Set.univ (m := bM) (Finset.subset_univ _)) $$ Hb; iintro Hb
  iapply (wp_store 𝒱₀ (c : Thread nD τ) none Set.univ (m := bM) (r := allRect) (Mk := Finset.univ) (Finset.subset_univ _)) $$ Hb; iintro Hb
  rw [write_b]
  have hb : ((bM.access allRect).loc (c : Thread nD τ) ↦{fullShare} (k0_pay2 (k0_pay1 (X c)) : Vec F S1024x512 .bf16) : sProp 𝕄) = _ := bWhole_eq c (xbF X c)
  ihave Hb := (Entails.of_eq hb) $$ Hb
  icases Hb with ⟨Hbo, Hb0, Hb1⟩
  iapply (seq (bar_runs X K c 0 3#32 (by rw [meet_card]; rfl) (O0 c) (above_O0 c))) $$ [Hkeep Hc Ha HO]
  · isplitr; · iexact HR
    isplitl [Hkeep]; · iexact Hkeep
    rw [meet_card]
    isplitl [Hc]; · iexact Hc
    isplitl [Ha] <;> iassumption
  iintro ⟨HO, Hz, Hbeh⟩
  ihave Hbeh := (Entails.of_eq (behind_parts c)) $$ Hbeh
  icases Hbeh with ⟨Hgr, Hbef⟩
  ihave Hgr := (granted c grpL.toFinset) $$ Hgr
  icases Hgr with ⟨⟨Hg0, Hg1⟩, Haa⟩
  ihave Hb0 := (Entails.of_eq (by_group (F := F) _)) $$ Hb0
  ihave Hb1 := (Entails.of_eq (by_group (F := F) _)) $$ Hb1
  icases Hb0 with ⟨Hb0, Hb0c⟩
  icases Hb1 with ⟨Hb1, Hb1c⟩
  iapply (seq (p1Sends_runs X K c 0 grpL grpL_nodup (O1 c))) $$ [Hb0 Hg0 Ht0 HO]
  · isplitr; · iexact HR
    isplitr [HO]
    · rw [sep_trio]
      isplitl [Hb0]; · iexact Hb0
      isplitl [Hg0]; · iexact Hg0
      iexact Ht0
    · iexact HO
  iintro ⟨Hc0, HO⟩
  iapply (seq (p1Sends_runs X K c 1 grpL grpL_nodup (O2 c))) $$ [Hb1 Hg1 Ht1 HO]
  · isplitr; · iexact HR
    isplitr [HO]
    · rw [sep_trio]
      isplitl [Hb1]; · iexact Hb1
      isplitl [Hg1]; · iexact Hg1
      iexact Ht1
    · iexact HO
  iintro ⟨Hc1, HO⟩
  iapply Hk
  isplitl [Hx]; · iexact Hx
  isplitl [Hbo]; · iexact Hbo
  isplitl [Hb0c Hb1c]; · isplitl [Hb0c]; · iexact Hb0c
                         iexact Hb1c
  isplitl [Hz]; · iexact Hz
  isplitl [Hc0 Hc1]; · isplitl [Hc0]; · iexact Hc0
                       iexact Hc1
  isplitl [Haa]; · iexact Haa
  isplitl [Hbef] <;> iassumption

/-- The other two barriers, and the copies to the other groups. -/
theorem part_b {α : Type} (k : TP F α) (R : α → sProp 𝕄) :
    iprop(recs X K ∗ (tokB c 1 ∗ crd (c, .inl 1) 3 ∗ pos (c, .inl 1)) ∗ (tokB c 2 ∗ crd (c, .inl 2) 1 ∗ pos (c, .inl 2)) ∗ bigSep (before 1 c) give
        ∗ (tP c 0 1 0 crossL.toFinset ∗ tP c 0 1 1 crossL.toFinset) ∗ (bP X c 0 crossL.toFinset ∗ bP X c 1 crossL.toFinset) ∗ ow c (O2 c))
      ⊢ iprop(((zero (c, .inl 1) ∗ zero (c, .inl 2)) ∗ (cP c 0 0 crossL.toFinset ∗ cP c 0 1 crossL.toFinset) ∗ (aG c 0 crossL.toFinset ∗ aG c 1 crossL.toFinset) ∗ ow c (O6 c) -∗ runs c k R)
          -∗ runs c (do
              chain (([0, 1, 2] : List (Fin 3)).map fun r => semSignalWord (bar2Dev c r) cc0_scratch7.sem 1#32)
              semWaitWord cc0_scratch7.sem 3#32
              semSignalWord (bar3Dev c) cc0_scratch8.sem 1#32
              semWaitWord cc0_scratch8.sem 1#32
              p1Sends bM (Memref.isWhole_whole _) gM (Memref.isWhole_whole _) cc0_scratch3 cc0_scratch4 c 0 crossL
              p1Sends bM (Memref.isWhole_whole _) gM (Memref.isWhole_whole _) cc0_scratch3 cc0_scratch4 c 1 crossL
              k) R) := by
  iintro ⟨#HR, ⟨HtB, Hc, Ha⟩, ⟨HtB', Hc', Ha'⟩, Hgive, ⟨Ht0, Ht1⟩, ⟨Hb0, Hb1⟩, HO⟩ Hk
  ihave Hg := (Entails.of_eq (deal_before 1 c give)) $$ Hgive
  icases Hg with ⟨Hkeep, Hgive⟩
  iapply (seq (signals_runs X K c 1 (tgt2 c) (bar2Dev c) (tgt2_injective c) (meet_1 c) (bar2Dev_eq c) (O3 c))) $$ [Hgive HtB HO]
  · isplitr; · iexact HR
    isplitr [HO]
    · isplitl [Hgive] <;> iassumption
    · iexact HO
  iintro HO
  iapply (seq (bar_runs X K c 1 3#32 (by rw [meet_card]; rfl) (O3 c) (above_O3 c))) $$ [Hkeep Hc Ha HO]
  · isplitr; · iexact HR
    isplitl [Hkeep]; · iexact Hkeep
    rw [meet_card]
    isplitl [Hc]; · iexact Hc
    isplitl [Ha] <;> iassumption
  iintro ⟨HO, Hz, Hgive⟩
  ihave Hg := (Entails.of_eq ((congrArg (fun s => bigSep s (give (F := F))) (behind_1 c)).trans (deal_before 2 c give))) $$ Hgive
  icases Hg with ⟨Hkeep, Hgive⟩
  iapply (seq (signal2_runs X K c (O4 c))) $$ [Hgive HtB' HO]
  · isplitr; · iexact HR
    isplitr [HO]
    · isplitl [Hgive] <;> iassumption
    · iexact HO
  iintro HO
  iapply (seq (bar_runs X K c 2 1#32 (by rw [meet_card]; rfl) (O4 c) (above_O4 c))) $$ [Hkeep Hc' Ha' HO]
  · isplitr; · iexact HR
    isplitl [Hkeep]; · iexact Hkeep
    rw [meet_card]
    isplitl [Hc']; · iexact Hc'
    isplitl [Ha'] <;> iassumption
  iintro ⟨HO, Hz', Hgive⟩
  ihave Hgr := ((Entails.of_eq (congrArg (fun s => bigSep s (give (F := F))) (behind_2 c))).trans (granted c crossL.toFinset)) $$ Hgive
  icases Hgr with ⟨⟨Hg0, Hg1⟩, Haa⟩
  iapply (seq (p1Sends_runs X K c 0 crossL crossL_nodup (O5 c))) $$ [Hb0 Hg0 Ht0 HO]
  · isplitr; · iexact HR
    isplitr [HO]
    · rw [sep_trio]
      isplitl [Hb0]; · iexact Hb0
      isplitl [Hg0]; · iexact Hg0
      iexact Ht0
    · iexact HO
  iintro ⟨Hc0, HO⟩
  iapply (seq (p1Sends_runs X K c 1 crossL crossL_nodup (O6 c))) $$ [Hb1 Hg1 Ht1 HO]
  · isplitr; · iexact HR
    isplitr [HO]
    · rw [sep_trio]
      isplitl [Hb1]; · iexact Hb1
      isplitl [Hg1]; · iexact Hg1
      iexact Ht1
    · iexact HO
  iintro ⟨Hc1, HO⟩
  iapply Hk
  isplitl [Hz Hz']
  · isplitl [Hz] <;> iassumption
  isplitl [Hc0 Hc1]
  · isplitl [Hc0] <;> iassumption
  isplitl [Haa] <;> iassumption

/-- The sum of a wave and its store: what the gathered slots and the own rows give. -/
theorem reduce_runs (w : Fin 2) :
    iprop(xPts c (X c) ∗ (∃ f, gPts (F := F) c c w f) ∗ (bigSep (Finset.univ : Finset Ix) fun x => gPts c (tgt c x) w (gatF X c)) ∗ ∃ f, aPts (F := F) c c w f)
      ⊢ runs c (reduce xM gM aM (Memref.isWhole_whole _) c w)
          (fun v => iprop(⌜v = red X c w⌝ ∗ xPts c (X c) ∗ (∃ g, gWave (F := F) c w g) ∗ aPts c c w (agF X))) := by
  unfold reduce
  simp only [Prog.lift, Prog.bind_op, Prog.bind_ret, Prog.pure_eq_ret]
  iintro ⟨Hx, Hown, Hg, ⟨%f, Ha⟩⟩
  ihave H := (gWave_join c w (gatF X c)) $$ [Hown Hg]
  · isplitl [Hown] <;> iassumption
  icases H with ⟨%g, %hg, Hg⟩
  unfold gWave xPts aPts aPtsQ
  iapply (wp_load_rect 𝒱₀ (c : Thread nD τ) none Set.univ (m := gM) (r := Rect.unit (s := S32x32x512) (gatO w) S32x16x512.size (gatO_inb w)) (S := waveSet w)
    (by rw [wave_set w])) $$ Hg; iintro Hg
  iapply (wp_load 𝒱₀ (c : Thread nD τ) none Set.univ (m := xM) (Finset.subset_univ _)) $$ Hx; iintro Hx
  iapply (wp_load_rect 𝒱₀ (c : Thread nD τ) none Set.univ (m := aM) (r := myRect c w) (S := rowSet c w) (by rw [own_set_a c w])) $$ Ha; iintro Ha
  iapply (wp_store 𝒱₀ (c : Thread nD τ) none Set.univ (m := aM) (r := myRect c w) (Mk := Finset.univ) (S := rowSet c w)
    (by rw [View.setOn_univ, own_set_a c w])) $$ Ha; iintro Ha
  rw [wp_ret]; imodintro
  isplitr
  · ipureintro; exact redOf_eq X c w g hg
  isplitl [Hx]; · iexact Hx
  isplitl [Hg]; · iexists g; iexact Hg
  have e : (((c : Thread nD τ).loc cc0_scratch2) ↦[rowSet c w]{fullShare} ((aM.access (myRect c w)).write (Elt F) f (redOf16 c (gatW g w) (xrow X c w)) Finset.univ : Buf (Elt F) ((c : Thread nD τ).loc cc0_scratch2)) : sProp 𝕄)
      = (((c : Thread nD τ).loc cc0_scratch2) ↦[rowSet c w]{fullShare} (agF X : Buf (Elt F) ((c : Thread nD τ).loc cc0_scratch2))) := by
    rw [redOf16_eq X c w g hg]
    exact pointsTo_congr (stored X c w f)
  iapply (Entails.of_eq e); iexact Ha

omit [FloatOps F] in
/-- The own rows' shares for the peers, and the one kept. -/
theorem deal_own (w : Fin 2) (f : Vec F S1024x512 .bf16) :
    aPts c c w f = iprop(aPtsQ (part c) c c w f ∗ bigSep (Finset.univ : Finset Ix) fun x => aPtsQ (part (tgt c x)) c c w f) := by
  rw [← by_peer c fun t => aPtsQ (part t) c c w f]
  exact Transfers.pointsTo_deal (Finset.univ : Finset (Dev nD)) ⟨c, Finset.mem_univ _⟩ fullShare

/-- A wave: the waits of the first exchange, the sum, and its sending out. -/
theorem part_c (w : Fin 2) (O : Debt) (hO : Above 4 (O + copyDebts 3 c w Finset.univ)) {α : Type} (k : FVec F S16x512 .f32 → TP F α) (R : α → sProp 𝕄) :
    iprop(recs X K ∗ (cP c 1 w Finset.univ ∗ pP c 1 w Finset.univ) ∗ (cP c 0 w Finset.univ ∗ pP c 0 w Finset.univ) ∗ xPts c (X c) ∗ (∃ f, gPts (F := F) c c w f) ∗ (∃ f, aPts (F := F) c c w f)
        ∗ aG c w Finset.univ ∗ tP c 2 3 w Finset.univ ∗ ow c (O + copyDebts 3 c w Finset.univ))
      ⊢ iprop(((zP c 1 w Finset.univ ∗ zP c 0 w Finset.univ) ∗ bP X c w Finset.univ ∗ xPts c (X c) ∗ (∃ g, gWave (F := F) c w g) ∗ aPtsQ (part c) c c w (agF X) ∗ cP c 2 w Finset.univ ∗ ow c O
            -∗ runs c (k (red X c w)) R)
          -∗ runs c (do
              p1Waits bM (Memref.isWhole_whole _) gM (Memref.isWhole_whole _) cc0_scratch3 cc0_scratch4 c w allL
              let r ← reduce xM gM aM (Memref.isWhole_whole _) c w
              p2Sends aM (Memref.isWhole_whole _) cc0_scratch5 cc0_scratch6 c w allL
              k r) R) := by
  have h1 := p1Waits_runs X K c w allL allL_nodup _ hO
  have h2 := p2Sends_runs X K c w allL allL_nodup O
  rw [allL_toFinset] at h1 h2
  rw [sep_quad, sep_quad] at h1
  rw [sep_trio] at h2
  iintro ⟨#HR, H1, H0, Hx, Hg, Ha, Hag, Ht, HO⟩ Hk
  iapply (seq h1) $$ [H1 H0 HO]
  · isplitr; · iexact HR
    isplitr [HO]
    · isplitl [H1] <;> iassumption
    · iexact HO
  iintro ⟨⟨⟨Hz1, Hgs⟩, ⟨Hz0, Hbs⟩⟩, HO⟩
  iapply (seqV (reduce_runs X c w)) $$ [Hx Hg Hgs Ha]
  · isplitl [Hx]; · iexact Hx
    isplitl [Hg]; · iexact Hg
    isplitl [Hgs] <;> iassumption
  iintro %v ⟨%hv, Hx, Hw, Ha⟩
  subst hv
  ihave Ha := (Entails.of_eq (deal_own c w (agF X))) $$ Ha
  icases Ha with ⟨Ha, Has⟩
  iapply (seq h2) $$ [Has Hag Ht HO]
  · isplitr; · iexact HR
    isplitr [HO]
    · isplitl [Has]; · iexact Has
      isplitl [Hag] <;> iassumption
    · iexact HO
  iintro ⟨Hc2, HO⟩
  iapply Hk
  isplitl [Hz1 Hz0]
  · isplitl [Hz1] <;> iassumption
  isplitl [Hbs]; · iexact Hbs
  isplitl [Hx]; · iexact Hx
  isplitl [Hw]; · iexact Hw
  isplitl [Ha]; · iexact Ha
  isplitl [Hc2] <;> iassumption

/-- Storing the own sum of a wave. -/
theorem putOwn_runs (w : Fin 2) (v : FVec F S16x512 .f32) (f : Vec F S1024x512 .f32) :
    oPts c f ⊢ runs c (putOwn oM c w v) (fun _ => oPts c ((oM.access (myRect c w)).write (Elt F) f v Finset.univ)) := by
  unfold putOwn oPts
  simp only [Prog.lift, Prog.bind_op, Prog.bind_ret]
  iintro Ho
  iapply (wp_load 𝒱₀ (c : Thread nD τ) none Set.univ (m := oM) (Finset.subset_univ _)) $$ Ho; iintro Ho
  iapply (wp_store 𝒱₀ (c : Thread nD τ) none Set.univ (m := oM) (r := myRect c w) (Mk := Finset.univ) (Finset.subset_univ _)) $$ Ho; iintro Ho
  rw [wp_ret]; imodintro
  iexact Ho

/-- The end: the waits of the second exchange and the stores of the result. -/
theorem part_d :
    iprop(recs X K ∗ ((cP c 3 0 Finset.univ ∗ pP c 3 0 Finset.univ) ∗ (cP c 2 0 Finset.univ ∗ pP c 2 0 Finset.univ)) ∗ ((cP c 3 1 Finset.univ ∗ pP c 3 1 Finset.univ) ∗ (cP c 2 1 Finset.univ ∗ pP c 2 1 Finset.univ))
        ∗ (aPtsQ (part c) c c 0 (agF X) ∗ aPtsQ (part c) c c 1 (agF X)) ∗ (∃ f, oPts (F := F) c f) ∗ ow c 0)
      ⊢ runs c (do
              p2Waits aM (Memref.isWhole_whole _) cc0_scratch5 cc0_scratch6 c 0 allL
              p2Waits aM (Memref.isWhole_whole _) cc0_scratch5 cc0_scratch6 c 1 allL
              let y ← Prog.lift (.load aM allRect.toLoadRect (View.loadsAt_vmem h_S1024x512))
              let _ ← Prog.lift (.load oM allRect.toLoadRect (View.loadsAt_vmem h_S1024x512))
              Prog.lift (.store oM allRect (k0_pay9 y) Finset.univ (View.stores_vmem_bits_univ h_S1024x512 rfl) (.inl rfl))
              putOwn oM c 0 (red X c 0)
              putOwn oM c 1 (red X c 1)
              pure ⟨⟩)
          (fun _ : PUnit => iprop(((zP c 3 0 Finset.univ ∗ zP c 2 0 Finset.univ) ∗ (zP c 3 1 Finset.univ ∗ zP c 2 1 Finset.univ)) ∗ aWhole c (agF X) ∗ oPts c (outF X c) ∗ ow c 0)) := by
  have h0 := p2Waits_runs X K c 0 allL allL_nodup 0 (above_zero 5)
  have h1 := p2Waits_runs X K c 1 allL allL_nodup 0 (above_zero 5)
  rw [allL_toFinset, sep_quad, sep_quad] at h0 h1
  iintro ⟨#HR, H0, H1, ⟨Ha0, Ha1⟩, ⟨%f, Ho⟩, HO⟩
  iapply (seq h0) $$ [H0 HO]
  · isplitr; · iexact HR
    isplitl [H0] <;> iassumption
  iintro ⟨⟨⟨Hz30, Hr0⟩, ⟨Hz20, Hs0⟩⟩, HO⟩
  iapply (seq h1) $$ [H1 HO]
  · isplitr; · iexact HR
    isplitl [H1] <;> iassumption
  iintro ⟨⟨⟨Hz31, Hr1⟩, ⟨Hz21, Hs1⟩⟩, HO⟩
  ihave Ha0 := (Entails.of_eq (deal_own c 0 (agF X)).symm) $$ [Ha0 Hs0]
  · isplitl [Ha0] <;> iassumption
  ihave Ha1 := (Entails.of_eq (deal_own c 1 (agF X)).symm) $$ [Ha1 Hs1]
  · isplitl [Ha1] <;> iassumption
  ihave Ha := (Entails.of_eq (aWhole_eq c (agF X)).symm) $$ [Ha0 Ha1 Hr0 Hr1]
  · isplitl [Ha0 Ha1]
    · isplitl [Ha0] <;> iassumption
    · isplitl [Hr0] <;> iassumption
  simp only [Prog.lift, Prog.bind_op, Prog.bind_ret, Prog.pure_eq_ret]
  unfold aWhole oPts
  iapply (wp_load 𝒱₀ (c : Thread nD τ) none Set.univ (m := aM) (Finset.subset_univ _)) $$ Ha; iintro Ha
  rw [read_a]
  iapply (wp_load 𝒱₀ (c : Thread nD τ) none Set.univ (m := oM) (Finset.subset_univ _)) $$ Ho; iintro Ho
  iapply (wp_store 𝒱₀ (c : Thread nD τ) none Set.univ (m := oM) (r := allRect) (Mk := Finset.univ) (Finset.subset_univ _)) $$ Ho; iintro Ho
  rw [write_o]
  iapply (seq (putOwn_runs c 0 (red X c 0) (k0_pay9 (agF X)))) $$ [Ho]
  · unfold oPts; iexact Ho
  iintro Ho
  iapply (seq (putOwn_runs c 1 (red X c 1) _)) $$ [Ho]
  · iexact Ho
  iintro Ho
  unfold runs
  rw [wp_ret]; imodintro
  isplitl [Hz30 Hz20 Hz31 Hz21]
  · isplitl [Hz30 Hz20]
    · isplitl [Hz30] <;> iassumption
    · isplitl [Hz31] <;> iassumption
  isplitl [Ha]; · iexact Ha
  isplitl [Ho]
  · unfold outF oPts; iexact Ho
  · iexact HO

end Parts

end Cert.AllReduce

end
-- ==== Proof.Body.lean ====
/-
# The body

The four parts in order, from what a device starts with to what it ends with: its block of the result in the output
buffer, and every semaphore at zero.
-/
module

public import proofs.«01_k».proof.Proof.Parts

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf chain)

variable {F : FTy → Type} [FloatOps F]

local notation "𝕄" => MT nD τ sig Unit (Elt F) ℕ UU ℕ

omit [FloatOps F] in
/-- A product over three. -/
theorem sep_three (Φ : Fin 3 → sProp 𝕄) : bigSep Finset.univ Φ = iprop(Φ 0 ∗ Φ 1 ∗ Φ 2) := bigSep_univ_eq_bigSepL [0, 1, 2] (by decide) (by decide) Φ
omit [FloatOps F] in
/-- A product over four. -/
theorem sep_four (Φ : Fin 4 → sProp 𝕄) : bigSep Finset.univ Φ = iprop(Φ 0 ∗ Φ 1 ∗ Φ 2 ∗ Φ 3) := bigSep_univ_eq_bigSepL [0, 1, 2, 3] (by decide) (by decide) Φ

/-- Over an array of semaphores: the two own entries, and a peer's two. -/
abbrev arrs (c : Dev nD) (Φ : CI → sProp 𝕄) (k : Fin 4) : sProp 𝕄 :=
  iprop((Φ (.inr (k, c, 0)) ∗ Φ (.inr (k, c, 1)))
    ∗ (bigSep (Finset.univ : Finset Ix) fun x => Φ (.inr (k, tgt c x, 0))) ∗ bigSep (Finset.univ : Finset Ix) fun x => Φ (.inr (k, tgt c x, 1)))

omit [FloatOps F] in
/-- Over all semaphores: the three barriers and the four arrays. -/
theorem by_cell (c : Dev nD) (Φ : CI → sProp 𝕄) :
    bigSep Finset.univ Φ = iprop((Φ (.inl 0) ∗ Φ (.inl 1) ∗ Φ (.inl 2)) ∗ arrs c Φ 0 ∗ arrs c Φ 1 ∗ arrs c Φ 2 ∗ arrs c Φ 3) := by
  rw [bigSep_univ_sum, bigSep_univ_prod, sep_three, sep_four,
    by_block c (fun b => Φ (.inr (0, b))), by_block c (fun b => Φ (.inr (1, b))), by_block c (fun b => Φ (.inr (2, b))), by_block c (fun b => Φ (.inr (3, b)))]
  rfl

section Body

variable (X : Dev nD → Vec F S1024x512 .f32) (K : Dev nD × CI → ℕ) (c : Dev nD)

/-- Asking which device this is. -/
theorem device_runs {α : Type} (k : Dev nD → TP F α) (R : α → sProp 𝕄) : runs c (k c) R ⊢ runs c (Prog.lift .deviceId >>= k) R := by
  simp only [Prog.lift, Prog.bind_op, Prog.bind_ret, wp_deviceId]
  exact BI.Entails.refl _

/-- A last program. -/
theorem last {α : Type} {p : TP F α} {P : sProp 𝕄} {Q R : α → sProp 𝕄} (h : P ⊢ runs c p Q) : P ⊢ iprop((∀ v, Q v -∗ R v) -∗ runs c p R) := by
  unfold runs
  iintro HP Hk
  iapply (wp_wand_r frame _ Set.univ (p := p) (Q := Q))
  isplitl [HP]
  · iapply h; iexact HP
  · iexact Hk

/-- `own_close` in these words. -/
theorem own_zero (k : Fin 4) (c : Dev nD) (w : Fin 2) : iprop(recs X K ∗ pos (c, .inr (k, c, w))) ⊢ |={Set.univ}=> zero (c, .inr (k, c, w)) := own_close X K k c w

/-- The tokens of the duties device `c` pays. -/
def toksOf : sProp 𝕄 :=
  iprop((tokB c 0 ∗ tokB c 1 ∗ tokB c 2) ∗ (tP (F := F) c 0 1 0 Finset.univ ∗ tP c 0 1 1 Finset.univ) ∗ (tP c 2 3 0 Finset.univ ∗ tP c 2 3 1 Finset.univ))
/-- The credits of what others owe device `c`. -/
def credsOf : sProp 𝕄 :=
  iprop((crd (c, .inl 0) 3 ∗ crd (c, .inl 1) 3 ∗ crd (c, .inl 2) 1) ∗ (cP (F := F) c 1 0 Finset.univ ∗ cP c 1 1 Finset.univ) ∗ (cP c 3 0 Finset.univ ∗ cP c 3 1 Finset.univ))
/-- The three scratch buffers, holding anything. -/
def scr : sProp 𝕄 := iprop((∃ f, bWhole (F := F) c f) ∗ (∃ f, gWhole (F := F) c f) ∗ (∃ f, aWhole (F := F) c f))

/-- The body, from a device's start to its end, step by step through its four parts. -/
theorem body_runs :
    iprop(recs X K ∗ (bigSep Finset.univ fun i => pos (F := F) (c, i)) ∗ toksOf c ∗ credsOf c ∗ scr c ∗ xPts c (X c) ∗ (∃ f, oPts (F := F) c f) ∗ ow c (O₀ c))
      ⊢ runs c (rolled xM oM bM (Memref.isWhole_whole _) gM (Memref.isWhole_whole _) aM (Memref.isWhole_whole _) cc0_scratch3 cc0_scratch4 cc0_scratch5 cc0_scratch6 cc0_scratch7 cc0_scratch8)
          (fun _ => iprop(scr c ∗ (bigSep Finset.univ fun i => zero (F := F) (c, i)) ∗ xPts c (X c) ∗ oPts c (outF X c) ∗ ow c 0)) := by
  unfold rolled toksOf credsOf
  iintro ⟨#HR, Hpos, ⟨⟨HtB0, HtB1, HtB2⟩, ⟨Ht0, Ht1⟩, ⟨Hu0, Hu1⟩⟩, ⟨⟨HcB0, HcB1, HcB2⟩, ⟨Hc10, Hc11⟩, ⟨Hc30, Hc31⟩⟩, Hscr, Hx, Ho, HO⟩
  unfold scr
  icases Hscr with ⟨Hb, ⟨%g, Hg⟩, ⟨%a, Ha⟩⟩
  iapply (device_runs c)
  ihave Hpos := (Entails.of_eq (by_cell c fun i => pos (F := F) (c, i))) $$ Hpos
  icases Hpos with ⟨⟨HpB0, HpB1, HpB2⟩, ⟨⟨Hq00, Hq01⟩, Hp00, Hp01⟩, ⟨⟨Hq10, Hq11⟩, Hp10, Hp11⟩, ⟨⟨Hq20, Hq21⟩, Hp20, Hp21⟩, ⟨⟨Hq30, Hq31⟩, Hp30, Hp31⟩⟩
  ihave Hg := (Entails.of_eq (gWhole_eq c g)) $$ Hg
  icases Hg with ⟨⟨Hgo0, Hgo1⟩, Hgs⟩
  ihave Ha := (Entails.of_eq (aWhole_eq c a)) $$ Ha
  icases Ha with ⟨⟨Hao0, Hao1⟩, Has⟩
  ihave Hgive := (grants c g a) $$ [Hgs Has]
  · isplitl [Hgs] <;> iassumption
  imod (own_zero X K 0 c 0) $$ [Hq00] with Hy00
  · isplitr; · iexact HR
    iexact Hq00
  imod (own_zero X K 0 c 1) $$ [Hq01] with Hy01
  · isplitr; · iexact HR
    iexact Hq01
  imod (own_zero X K 1 c 0) $$ [Hq10] with Hy10
  · isplitr; · iexact HR
    iexact Hq10
  imod (own_zero X K 1 c 1) $$ [Hq11] with Hy11
  · isplitr; · iexact HR
    iexact Hq11
  imod (own_zero X K 2 c 0) $$ [Hq20] with Hy20
  · isplitr; · iexact HR
    iexact Hq20
  imod (own_zero X K 2 c 1) $$ [Hq21] with Hy21
  · isplitr; · iexact HR
    iexact Hq21
  imod (own_zero X K 3 c 0) $$ [Hq30] with Hy30
  · isplitr; · iexact HR
    iexact Hq30
  imod (own_zero X K 3 c 1) $$ [Hq31] with Hy31
  · isplitr; · iexact HR
    iexact Hq31
  ihave Ht0 := (Entails.of_eq (by_group (F := F) _)) $$ Ht0
  ihave Ht1 := (Entails.of_eq (by_group (F := F) _)) $$ Ht1
  icases Ht0 with ⟨Ht0, Ht0c⟩
  icases Ht1 with ⟨Ht1, Ht1c⟩
  iapply (part_a X K c _ _) $$ [HtB0 Hgive Hb Hx HcB0 HpB0 Ht0 Ht1 HO]
  · isplitr; · iexact HR
    isplitl [HtB0]; · iexact HtB0
    isplitl [Hgive]; · iexact Hgive
    isplitl [Hb]; · iexact Hb
    isplitl [Hx]; · iexact Hx
    isplitl [HcB0]; · iexact HcB0
    isplitl [HpB0]; · iexact HpB0
    isplitl [Ht0]; · iexact Ht0
    isplitl [Ht1] <;> iassumption
  iintro ⟨Hx, Hbo, Hbc, HzB0, ⟨Hcg0, Hcg1⟩, ⟨Hag0, Hag1⟩, Hgive, HO⟩
  iapply (part_b X K c _ _) $$ [HtB1 HcB1 HpB1 HtB2 HcB2 HpB2 Hgive Ht0c Ht1c Hbc HO]
  · isplitr; · iexact HR
    isplitl [HtB1 HcB1 HpB1]
    · isplitl [HtB1]; · iexact HtB1
      isplitl [HcB1] <;> iassumption
    isplitl [HtB2 HcB2 HpB2]
    · isplitl [HtB2]; · iexact HtB2
      isplitl [HcB2] <;> iassumption
    isplitl [Hgive]; · iexact Hgive
    isplitl [Ht0c Ht1c]
    · isplitl [Ht0c] <;> iassumption
    isplitl [Hbc] <;> iassumption
  iintro ⟨⟨HzB1, HzB2⟩, ⟨Hcc0, Hcc1⟩, ⟨Hac0, Hac1⟩, HO⟩
  ihave Hc00 := (Entails.of_eq (by_group (F := F) (fun x => crd (F := F) (c, .inr (0, tgt c x, 0)) N)).symm) $$ [Hcg0 Hcc0]
  · isplitl [Hcg0] <;> iassumption
  ihave Hc01 := (Entails.of_eq (by_group (F := F) (fun x => crd (F := F) (c, .inr (0, tgt c x, 1)) N)).symm) $$ [Hcg1 Hcc1]
  · isplitl [Hcg1] <;> iassumption
  ihave Hag0 := (Entails.of_eq (by_group (F := F) (fun x => iprop(∃ f, aPts (F := F) (tgt c x) c 0 f))).symm) $$ [Hag0 Hac0]
  · isplitl [Hag0] <;> iassumption
  ihave Hag1 := (Entails.of_eq (by_group (F := F) (fun x => iprop(∃ f, aPts (F := F) (tgt c x) c 1 f))).symm) $$ [Hag1 Hac1]
  · isplitl [Hag1] <;> iassumption
  iapply (part_c X K c 0 (O7 c) (above_O6 c) _ _) $$ [Hc10 Hp10 Hc00 Hp00 Hx Hgo0 Hao0 Hag0 Hu0 HO]
  · isplitr; · iexact HR
    isplitl [Hc10 Hp10]
    · isplitl [Hc10] <;> iassumption
    isplitl [Hc00 Hp00]
    · isplitl [Hc00] <;> iassumption
    isplitl [Hx]; · iexact Hx
    isplitl [Hgo0]; · iexists g; iexact Hgo0
    isplitl [Hao0]; · iexists a; iexact Hao0
    isplitl [Hag0]; · iexact Hag0
    isplitl [Hu0]; · iexact Hu0
    iexact HO
  iintro ⟨⟨Hz10, Hz00⟩, Hb0, Hx, Hw0, Ha0, Hc20, HO⟩
  ihave HO := (Entails.of_eq (congrArg (ow (F := F) c) (show O7 c = 0 + copyDebts 3 c 1 Finset.univ from (zero_add _).symm))) $$ HO
  iapply (part_c X K c 1 0 (by rw [zero_add]; exact above_O7 c) _ _) $$ [Hc11 Hp11 Hc01 Hp01 Hx Hgo1 Hao1 Hag1 Hu1 HO]
  · isplitr; · iexact HR
    isplitl [Hc11 Hp11]
    · isplitl [Hc11] <;> iassumption
    isplitl [Hc01 Hp01]
    · isplitl [Hc01] <;> iassumption
    isplitl [Hx]; · iexact Hx
    isplitl [Hgo1]; · iexists g; iexact Hgo1
    isplitl [Hao1]; · iexists a; iexact Hao1
    isplitl [Hag1]; · iexact Hag1
    isplitl [Hu1]; · iexact Hu1
    iexact HO
  iintro ⟨⟨Hz11, Hz01⟩, Hb1, Hx, Hw1, Ha1, Hc21, HO⟩
  iapply (last c (part_d X K c)) $$ [Hc30 Hp30 Hc20 Hp20 Hc31 Hp31 Hc21 Hp21 Ha0 Ha1 Ho HO]
  · isplitr; · iexact HR
    isplitl [Hc30 Hp30 Hc20 Hp20]
    · isplitl [Hc30 Hp30]
      · isplitl [Hc30] <;> iassumption
      · isplitl [Hc20] <;> iassumption
    isplitl [Hc31 Hp31 Hc21 Hp21]
    · isplitl [Hc31 Hp31]
      · isplitl [Hc31] <;> iassumption
      · isplitl [Hc21] <;> iassumption
    isplitl [Ha0 Ha1]
    · isplitl [Ha0] <;> iassumption
    isplitl [Ho] <;> iassumption
  iintro %v ⟨⟨⟨Hz30, Hz20⟩, ⟨Hz31, Hz21⟩⟩, Ha, Ho, HO⟩
  icases Hw0 with ⟨%g0, Hw0⟩
  icases Hw1 with ⟨%g1, Hw1⟩
  ihave Hg := (gWaves_join c g0 g1) $$ [Hw0 Hw1]
  · isplitl [Hw0] <;> iassumption
  ihave Hb := (Entails.of_eq (bWhole_eq c (xbF X c)).symm) $$ [Hbo Hb0 Hb1]
  · isplitl [Hbo]; · iexact Hbo
    isplitl [Hb0] <;> iassumption
  isplitl [Hb Hg Ha]
  · isplitl [Hb]; · iexists (xbF X c); iexact Hb
    isplitl [Hg]; · iexact Hg
    iexists (agF X); iexact Ha
  isplitr [Hx Ho HO]
  · iapply (Entails.of_eq (by_cell c fun i => zero (F := F) (c, i)).symm)
    isplitl [HzB0 HzB1 HzB2]
    · isplitl [HzB0]; · iexact HzB0
      isplitl [HzB1] <;> iassumption
    isplitl [Hy00 Hy01 Hz00 Hz01]
    · isplitl [Hy00 Hy01]
      · isplitl [Hy00] <;> iassumption
      · isplitl [Hz00] <;> iassumption
    isplitl [Hy10 Hy11 Hz10 Hz11]
    · isplitl [Hy10 Hy11]
      · isplitl [Hy10] <;> iassumption
      · isplitl [Hz10] <;> iassumption
    isplitl [Hy20 Hy21 Hz20 Hz21]
    · isplitl [Hy20 Hy21]
      · isplitl [Hy20] <;> iassumption
      · isplitl [Hz20] <;> iassumption
    isplitl [Hy30 Hy31]
    · isplitl [Hy30] <;> iassumption
    · isplitl [Hz30] <;> iassumption
  isplitl [Hx]; · iexact Hx
  isplitl [Ho] <;> iassumption

end Body

end Cert.AllReduce

end
-- ==== Proof.Tokens.lean ====
/-
# What the launch deals out

The kernel's semaphores, the tokens of the duties by who pays them, and the credits: what all devices owe, summed, is
what each device's own semaphores await.
-/
module

public import proofs.«01_k».proof.Proof.Body

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf chain)

variable {F : FTy → Type} [FloatOps F]

local notation "𝕄" => MT nD τ sig Unit (Elt F) ℕ UU ℕ

/-! ## Semaphores -/

omit [FloatOps F] in
/-- A product over a sum of types. -/
theorem sep_sum {I J : Type} [Fintype I] [Fintype J] (Φ : I ⊕ J → sProp 𝕄) :
    bigSep Finset.univ Φ = iprop((bigSep Finset.univ fun i => Φ (.inl i)) ∗ bigSep Finset.univ fun j => Φ (.inr j)) := bigSep_univ_sum Φ

/-- The kernel's own semaphores: the two further barriers and the arrays' entries. -/
abbrev OI : Type := Fin 2 ⊕ (Fin 4 × Dev nD × Fin 2)
/-- The semaphores that belong to the call. -/
def osem : OI → SemLoc sig
  | .inl k => csem (.inl k.succ)
  | .inr x => csem (.inr x)

theorem osem_scoped : ∀ k, (osem k).isScoped .tc = true := by decide +kernel
theorem stage_ne : ∀ (k : Fin 4 × Dev nD × Fin 2) (w : Fin 2) (s : Fin (spec0 w).nbuf), csem (.inr k) ≠ .dma ((spec0 w).sem s) := by decide +kernel
/-- They are different. -/
theorem osem_injective : Function.Injective osem := by
  rintro (k | k) (k' | k') h
  · exact congrArg _ (Fin.succ_injective _ (Sum.inl_injective (csem_injective h)))
  · have h' : (Sum.inl k.succ : CI) = Sum.inr k' := csem_injective h
    cases h'
  · have h' : (Sum.inr k : CI) = Sum.inl k'.succ := csem_injective h
    cases h'
  · exact congrArg _ (Sum.inr_injective (csem_injective h))
/-- They are the call's own semaphores, apart from the pipeline's. -/
theorem ownSemFacts : Pipeline.OwnSemFacts cfg0.spec osem :=
  ⟨osem_scoped, osem_injective, fun k w s => by
    rcases k with k | k
    · exact fun h => by cases h
    · exact stage_ne k w s⟩

/-- The pipeline's semaphores are at the lowest level. -/
theorem lv_stage (w : Fin 2) (s : Fin (spec0 w).nbuf) (c : Dev nD) : lv ((c : Thread nD τ), .dma ((spec0 w).sem s)) () = 0 := by
  show (ciOf _).elim 0 ciLv = 0
  rcases h : ciOf (SemLoc.dma ((spec0 w).sem s)) with _ | i
  · rfl
  · have e := ciOf_some h
    rcases i with k | k
    · cases e
    · exact absurd e (stage_ne k w s)

omit [FloatOps F] in
/-- The barrier semaphore is the launch's one unscoped semaphore. -/
theorem unscopedSems0_eq (c : Dev nD) : (unscopedSems0 c : sProp 𝕄) = semVal (kcell (c, .inl 0)) 0 := by
  unfold unscopedSems0; rw [bigSep_eq_bigSepL_of_eq [SemLoc.reg barSem.sem] (by decide +kernel) (by decide)]; rfl

omit [FloatOps F] in
/-- The kernel's own semaphores and the barrier semaphore are the semaphores of the rounds. -/
theorem sems0_eq (c : Dev nD) :
    (bigSep Finset.univ fun i : CI => (semVal (kcell (c, i)) 0 : sProp 𝕄))
      = iprop(Pipeline.ownSems0 (Ix := Unit) (Name := ℕ) (U := UU) (Lvl := ℕ) (Val := Elt F) (τ := τ) osem c ∗ unscopedSems0 c) := by
  rw [unscopedSems0_eq]
  unfold Pipeline.ownSems0
  rw [sep_sum, sep_sum, sep_three, sep_two]
  have h (A B C D : sProp 𝕄) : iprop((A ∗ B ∗ C) ∗ D) = iprop(((B ∗ C) ∗ D) ∗ A) := by
    have h1 : iprop((A ∗ B ∗ C) ∗ D) ⊢ iprop(((B ∗ C) ∗ D) ∗ A) := by
      iintro ⟨⟨H1, H2, H3⟩, H4⟩
      isplitr [H1]
      · isplitl [H2 H3]
        · isplitl [H2] <;> iassumption
        · iexact H4
      · iexact H1
    have h2 : iprop(((B ∗ C) ∗ D) ∗ A) ⊢ iprop((A ∗ B ∗ C) ∗ D) := by
      iintro ⟨⟨⟨H2, H3⟩, H4⟩, H1⟩
      isplitr [H4]
      · isplitl [H1]; · iexact H1
        isplitl [H2] <;> iassumption
      · iexact H4
    exact BI.Entails.antisymm h1 h2
  exact h _ _ _ _

/-! ## Tokens -/

/-- All the kernel's semaphores on all devices. -/
def allCells : Finset (GSem nD τ sig) := Finset.univ.map ⟨kcell, kcell_injective⟩

/-- A device's duties: at a barrier towards a device, and of a copy to a device. -/
abbrev TI : Type := (Fin 3 × Dev nD) ⊕ (Fin 4 × Dev nD × Fin 2)
/-- The semaphore of each of a device's duties. -/
def tokCell (c : Dev nD) : TI → Dev nD × CI
  | .inl (k, t) => (t, .inl k)
  | .inr (k, t, w) => if k = 0 ∨ k = 2 then (c, .inr (k, t, w)) else (t, .inr (k, c, w))
/-- A device has one duty at a semaphore. -/
theorem tokCell_injective (c : Dev nD) : Function.Injective (tokCell c) := by
  rintro (⟨k, t⟩ | ⟨k, t, w⟩) (⟨k', t'⟩ | ⟨k', t', w'⟩) h
  · have h := Prod.mk.inj h
    rw [h.1, Sum.inl_injective h.2]
  · dsimp only [tokCell] at h
    split at h <;> cases (Prod.mk.inj h).2
  · dsimp only [tokCell] at h
    split at h <;> cases (Prod.mk.inj h).2
  · unfold tokCell at h
    dsimp only at h
    by_cases hk : k = 0 ∨ k = 2 <;> by_cases hk' : k' = 0 ∨ k' = 2
    · rw [if_pos hk, if_pos hk'] at h; exact congrArg _ (Sum.inr_injective (Prod.mk.inj h).2)
    · rw [if_pos hk, if_neg hk'] at h
      have e := congrArg Prod.fst (Sum.inr_injective (Prod.mk.inj h).2)
      exact absurd (show k = k' from e) (fun e => hk' (e ▸ hk))
    · rw [if_neg hk, if_pos hk'] at h
      have e := congrArg Prod.fst (Sum.inr_injective (Prod.mk.inj h).2)
      exact absurd (show k = k' from e) (fun e => hk (e ▸ hk'))
    · rw [if_neg hk, if_neg hk'] at h
      have e := Prod.mk.inj h
      have e2 := Sum.inr_injective e.2
      have e3 : k = k' := congrArg (fun p => p.1) e2
      have e4 : w = w' := congrArg (fun p => p.2.2) e2
      rw [e.1, e3, e4]
/-- The token of a duty. -/
def tokOf (x : Dev nD × TI) : GSem nD τ sig × ℕ × Dev nD := (kcell (tokCell x.1 x.2), 0, x.1)
/-- Different duties have different tokens. -/
theorem tokOf_injective : Function.Injective tokOf := by
  rintro ⟨c, i⟩ ⟨c', i'⟩ h
  have h1 : c = c' := congrArg (fun x => x.2.2) h
  subst h1
  have h2 : i = i' := tokCell_injective c (kcell_injective (congrArg (fun x => x.1) h))
  rw [h2]
/-- All tokens. -/
def allToks : Finset (GSem nD τ sig × ℕ × Dev nD) := Finset.univ.map ⟨tokOf, tokOf_injective⟩

omit [FloatOps F] in
/-- Among a device's tokens are those of its duties. -/
theorem toks_of (c : Dev nD) : (bigSep Finset.univ fun i : TI => (dutyTok ER (kcell (tokCell c i)) 0 c : sProp 𝕄)) ⊢ toksOf c := by
  rw [sep_sum, bigSep_univ_prod, bigSep_univ_prod, sep_three, sep_four,
    by_block c (fun b => dutyTok ER (kcell (tokCell c (.inr (0, b)))) 0 c), by_block c (fun b => dutyTok ER (kcell (tokCell c (.inr (1, b)))) 0 c),
    by_block c (fun b => dutyTok ER (kcell (tokCell c (.inr (2, b)))) 0 c), by_block c (fun b => dutyTok ER (kcell (tokCell c (.inr (3, b)))) 0 c)]
  unfold toksOf
  have hP (k k' : Fin 4) (w : Fin 2) (hk : k = 0 ∨ k = 2) (hk' : ¬ (k' = 0 ∨ k' = 2)) :
      iprop((bigSep (Finset.univ : Finset Ix) fun x => (dutyTok ER (kcell (tokCell c (.inr (k, tgt c x, w)))) 0 c : sProp 𝕄))
        ∗ bigSep (Finset.univ : Finset Ix) fun x => (dutyTok ER (kcell (tokCell c (.inr (k', tgt c x, w)))) 0 c : sProp 𝕄)) ⊢ tP c k k' w Finset.univ := by
    refine BI.Entails.trans ?_ (Entails.of_eq (sep_both _ _ _).symm)
    unfold tokCell
    dsimp only
    simp only [if_pos hk, if_neg hk']
    exact BI.Entails.refl _
  have hB (k : Fin 3) : (bigSep (Finset.univ : Finset (Dev nD)) fun t => (dutyTok ER (kcell (tokCell c (.inl (k, t)))) 0 c : sProp 𝕄)) ⊢ tokB c k :=
    bigSep_subset (Finset.subset_univ _)
  iintro ⟨⟨HB0, HB1, HB2⟩, ⟨-, H00, H01⟩, ⟨-, H10, H11⟩, ⟨-, H20, H21⟩, ⟨-, H30, H31⟩⟩
  isplitl [HB0 HB1 HB2]
  · isplitl [HB0]; · iapply (hB 0); iexact HB0
    isplitl [HB1]; · iapply (hB 1); iexact HB1
    iapply (hB 2); iexact HB2
  isplitl [H00 H01 H10 H11]
  · isplitl [H00 H10]
    · iapply (hP 0 1 0 (by decide) (by decide))
      isplitl [H00] <;> iassumption
    · iapply (hP 0 1 1 (by decide) (by decide))
      isplitl [H01] <;> iassumption
  · isplitl [H20 H30]
    · iapply (hP 2 3 0 (by decide) (by decide))
      isplitl [H20] <;> iassumption
    · iapply (hP 2 3 1 (by decide) (by decide))
      isplitl [H21] <;> iassumption

/-! ## Credits -/

/-- What a device's own semaphores await: at a barrier a unit from each device met there, -/
def barAwait (k : Fin 3) (c : Dev nD) : Debt := ∑ t ∈ (meet k c).erase c, tallyAt (kcell (c, .inl k)) () 1
/-- and the credit of each copy's arrival. -/
def copyAwait (k : Fin 4) (w : Fin 2) (c : Dev nD) : Debt := ∑ x : Ix, tallyAt (kcell (c, .inr (k, tgt c x, w))) () N
/-- All that a device's semaphores await. -/
def await (c : Dev nD) : Debt :=
  (barAwait 0 c + (barAwait 1 c + barAwait 2 c)) + ((copyAwait 1 0 c + copyAwait 1 1 c) + (copyAwait 3 0 c + copyAwait 3 1 c))

omit [FloatOps F] in
/-- The arrivals owed to the group and to the others are all. -/
theorem copies_group (k : Fin 4) (c : Dev nD) (w : Fin 2) :
    copyDebts k c w grpL.toFinset + copyDebts k c w crossL.toFinset = copyDebts k c w Finset.univ := by
  unfold copyDebts; rw [← all_union, Finset.sum_union all_disjoint]

omit [FloatOps F] in
theorem reorder {A : Type} [AddCommMonoid A] (a b d e f g h i j : A) :
    a + b + d + e + j + i + f + g + h = (h + (i + j)) + (((g + e) + (f + d)) + (b + a)) := by
  ac_rfl

omit [FloatOps F] in
/-- All that a device owes at launch, by barrier and exchange. -/
theorem owed_eq (c : Dev nD) : O₀ c = (barDebts 0 c + (barDebts 1 c + barDebts 2 c))
    + ((copyDebts 1 c 0 Finset.univ + copyDebts 1 c 1 Finset.univ) + (copyDebts 3 c 0 Finset.univ + copyDebts 3 c 1 Finset.univ)) := by
  rw [← copies_group 1 c 0, ← copies_group 1 c 1]
  unfold O₀ O0 O1 O2 O3 O4 O5 O6 O7
  exact reorder _ _ _ _ _ _ _ _ _

omit [FloatOps F] in
/-- A sum over the targets is a sum over the other devices. -/
theorem sum_peers {A : Type} [AddCommMonoid A] (c : Dev nD) (f : Dev nD → A) : ∑ x : Ix, f (tgt c x) = ∑ t ∈ Finset.univ.erase c, f t := by
  rw [← tgt_image c, Finset.sum_image fun x _ y _ h => tgt_injective c h]

omit [FloatOps F] in
/-- What all devices owe at a barrier is what all await there. -/
theorem bars_sum (k : Fin 3) : ∑ d, barDebts k d = ∑ d, barAwait k d := by
  unfold barDebts barAwait barDebt
  refine Finset.sum_comm' fun d t => ?_
  simp only [Finset.mem_univ, Finset.mem_erase, true_and, and_true]
  exact ⟨fun h => ⟨fun e => h.1 e.symm, (meet_symm k d t).mp h.2⟩, fun h => ⟨fun e => h.1 e.symm, (meet_symm k t d).mp h.2⟩⟩

omit [FloatOps F] in
/-- What all devices owe in arrivals is what all await. -/
theorem copies_sum (k : Fin 4) (w : Fin 2) : ∑ d, copyDebts k d w Finset.univ = ∑ d, copyAwait k w d := by
  unfold copyDebts copyAwait copyDebt
  rw [Finset.sum_congr rfl fun d _ => sum_peers d fun t => (tallyAt (kcell (t, .inr (k, d, w))) () N : Debt),
    Finset.sum_congr rfl fun d _ => sum_peers d fun t => (tallyAt (kcell (d, .inr (k, t, w))) () N : Debt)]
  refine Finset.sum_comm' fun d t => ?_
  simp only [Finset.mem_univ, Finset.mem_erase, true_and, and_true]
  exact ⟨fun h => fun e => h e.symm, fun h => fun e => h e.symm⟩

omit [FloatOps F] in
/-- What all devices owe is what all await. -/
theorem await_sum : ∑ d, O₀ d = ∑ d, await d := by
  rw [Finset.sum_congr rfl fun d _ => owed_eq d]
  unfold await
  simp only [Finset.sum_add_distrib, bars_sum, copies_sum]

/-- Everything of a tally is at device `d`'s core. -/
def AtDev (d : Dev nD) (T : Debt) : Prop := ∀ g, g.1 ≠ (d : Thread nD τ) → T g = 0
omit [FloatOps F] in
theorem atDev_add {d : Dev nD} {T T' : Debt} (h : AtDev d T) (h' : AtDev d T') : AtDev d (T + T') := fun g hg => by
  rw [Pi.add_apply, h g hg, h' g hg, add_zero]
omit [FloatOps F] in
theorem atDev_sum {d : Dev nD} {ι : Type} (S : Finset ι) (T : ι → Debt) (h : ∀ i, AtDev d (T i)) : AtDev d (∑ i ∈ S, T i) := fun g hg => by
  rw [Finset.sum_apply, Finset.sum_eq_zero fun i _ => h i g hg]
omit [FloatOps F] in
theorem atDev_tally (d : Dev nD) (i : CI) (n : ℕ) : AtDev d (tallyAt (kcell (d, i)) () n) := fun g hg =>
  tallyAt_ne_cell (fun e => hg (congrArg Prod.fst e)) _ _
omit [FloatOps F] in
/-- What a device awaits is at its own semaphores. -/
theorem atDev_await (d : Dev nD) : AtDev d (await d) :=
  atDev_add (atDev_add (atDev_sum _ _ fun _ => atDev_tally _ _ _) (atDev_add (atDev_sum _ _ fun _ => atDev_tally _ _ _) (atDev_sum _ _ fun _ => atDev_tally _ _ _)))
    (atDev_add (atDev_add (atDev_sum _ _ fun _ => atDev_tally _ _ _) (atDev_sum _ _ fun _ => atDev_tally _ _ _))
      (atDev_add (atDev_sum _ _ fun _ => atDev_tally _ _ _) (atDev_sum _ _ fun _ => atDev_tally _ _ _)))

omit [FloatOps F] in
/-- What a barrier awaits: one unit at the third, three at the others. -/
theorem barAwait_eq (k : Fin 3) (c : Dev nD) : barAwait k c = tallyAt (kcell (c, .inl k)) () (if k = 2 then 1 else 3) := by
  unfold barAwait
  rw [Finset.sum_const, meet_card]
  by_cases h : k = 2
  · rw [if_pos h, one_smul]
  · rw [if_neg h, succ_nsmul, succ_nsmul, one_smul, tallyAt_add, tallyAt_add]

omit [FloatOps F] in
/-- A credit for two sums is two credits. -/
theorem cred_sum2 (T T' : Debt) : (cred (T + T') : sProp 𝕄) = iprop(cred T ∗ cred T') := BI.Entails.antisymm (cred_add _ _).1 (cred_add _ _).2

omit [FloatOps F] in
/-- A device's credits at launch are those of what its semaphores await. -/
theorem creds (c : Dev nD) : (Pipeline.launchCred O₀ c : sProp 𝕄) = credsOf c := by
  rw [Pipeline.launchCred_of_sum O₀ await await_sum (fun d g h => by by_contra hg; exact h (atDev_await d g hg)) c]
  unfold await credsOf
  rw [cred_sum2, cred_sum2, cred_sum2, cred_sum2, cred_sum2, cred_sum2, barAwait_eq, barAwait_eq, barAwait_eq]
  unfold copyAwait
  rw [Pipeline.cred_finsetSum, Pipeline.cred_finsetSum, Pipeline.cred_finsetSum, Pipeline.cred_finsetSum]
  rfl

end Cert.AllReduce

end
-- ==== Proof.Launch.lean ====
/-
# The run

The kernel from any memory with zero counters, for any float values: the run ends with every device's result array at
`outF` of the blocks of `x`, the argument unchanged and every semaphore at zero.
-/
module

public import proofs.«01_k».proof.Proof.Tokens
public import proofs.«01_k».proof.Proof.Gen.KernelIdeal.Points
public import Idealize.ShloMosaic.Lib.Pipeline.CollectiveSegs

@[expose] public section

set_option maxRecDepth 16384

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf chain)

variable {F : FTy → Type} [FloatOps F]

local notation "𝕄" => MT nD τ sig Unit (Elt F) ℕ UU ℕ

section Launch

variable (m : (ℓ : Loc nD τ sig) → Buf (Elt F) ℓ) (ρ : Dev nD → PrngReg)

/-- The memory at launch. -/
def s₀ : MemSt nD τ sig (Elt F) := ⟨m, fun _ => 0, ρ⟩

/-- The block of `x` on device `c`, as staged. -/
def xstg (c : Dev nD) : Vec F S1024x512 .f32 := (win0_0.blk (0 : Fin 1)).view.read (Elt F) ((s₀ m ρ).mem ((c : Thread nD τ).loc main_arg0))

/-! ## The proof data -/

/-- The one grid point. -/
def t₀ : Fin cfg0.N := ⟨0, by rw [show cfg0.N = 1 from N_0]; decide⟩
/-- There is one grid point. -/
theorem fin_N (t : Fin cfg0.N) : t = t₀ := by
  obtain ⟨t, ht⟩ := t; have : cfg0.N = 1 := N_0; exact Fin.ext (by simp only [t₀]; omega)

/-- What a device's body starts from: the records, its positions, its tokens, its credits. -/
def start (c : Dev nD) : sProp 𝕄 :=
  iprop((∃ K, recs (xstg m ρ) K) ∗ (bigSep Finset.univ fun i => pos (F := F) (c, i)) ∗ toksOf c ∗ credsOf c)
/-- What a device holds before the body: its start and its scratch buffers. -/
def Φ₀ (c : Dev nD) : sProp 𝕄 := iprop(start m ρ c ∗ scr c)
/-- What it holds after: its scratch buffers and its semaphores at zero. -/
def Φ₁ (c : Dev nD) : sProp 𝕄 := iprop(scr c ∗ bigSep Finset.univ fun i => zero (F := F) (c, i))

/-- The data of the pipeline on a device: `x`'s block before and after, the result's block at `outF` after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF (xstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- A product over the two windows. -/
theorem bigSep_W (Φ : Fin cfg0.W → sProp 𝕄) : bigSep Finset.univ Φ = iprop(Φ (0 : Fin 2) ∗ Φ (1 : Fin 2)) := bigSep_W0 Φ

/-- The block of `x` is fetched. -/
theorem fetch_0 (t : Fin cfg0.N) : (cfg0.win (0 : Fin 2)).fetch t = true := by rw [fin_N t]; rfl

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- The body leaves the staged block of `x` as it was. -/
theorem after_0 (c : Dev nD) : (dats m ρ 0 c).after (0 : Fin 2) t₀ = xstg m ρ c := by dsimp only [dats]
/-- The body leaves `outF` in the staged result. -/
theorem after_1 (c : Dev nD) : (dats m ρ 0 c).after (1 : Fin 2) t₀ = outF (xstg m ρ) c := by dsimp only [dats]

/-- A staging buffer holding `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the body starts with. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- What the body ends with. -/
def bodyPost (c : Dev nD) : sProp 𝕄 :=
  iprop(Φ₁ c ∗ (dats m ρ 0 c).owesAt () t₀.succ ∗ stg c cc0_stg0_0 (xstg m ρ c) ∗ stg c cc0_stg1_0 (outF (xstg m ρ) c))

/-- The body's run in the terms of the pipeline. -/
theorem sound_body (c : Dev nD) :
    bodyPre m ρ c ⊢ runs c (cc0_body (F := F) xM (Memref.isWhole_whole _) oM (Memref.isWhole_whole _) bM (Memref.isWhole_whole _) gM (Memref.isWhole_whole _)
      aM (Memref.isWhole_whole _) cc0_scratch3 cc0_scratch4 cc0_scratch5 cc0_scratch6 cc0_scratch7 cc0_scratch8) (fun _ => bodyPost m ρ c) := by
  rw [body_eq]
  unfold bodyPre Φ₀ start
  iintro ⟨⟨⟨⟨%K, #HR⟩, Hpos, Htok, Hcr⟩, Hscr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  iapply (last c (body_runs (xstg m ρ) K c)) $$ [Hpos Htok Hcr Hscr Hx Hout HO]
  · isplitr; · iexact HR
    isplitl [Hpos]; · iexact Hpos
    isplitl [Htok]; · iexact Htok
    isplitl [Hcr]; · iexact Hcr
    isplitl [Hscr]; · iexact Hscr
    isplitl [Hx]; · unfold xPts; iexact Hx
    isplitl [Hout]; · iexists g1; unfold oPts; iexact Hout
    unfold ow; iexists W
    iexact HO
  iintro %v ⟨Hscr, Hz, Hx, Hout, HO⟩
  unfold bodyPost Φ₁ Dat.owesAt Pipeline.owesWithin ow
  icases HO with ⟨%W', HO⟩
  isplitl [Hscr Hz]
  · isplitl [Hscr] <;> iassumption
  isplitl [HO]
  · iexists W'
    isplitr; · ipureintro; exact fun _ _ => Or.inl trivial
    iexact HO
  isplitl [Hx]
  · iexists _; isplitr; · (ipureintro; rfl)
    unfold xPts; iexact Hx
  iexists _; isplitr; · (ipureintro; rfl)
  unfold oPts; iexact Hout

theorem body_at_of (a0 a1 : Memref sig .tc .vmem S1024x512 .f32) (h0 : a0 = xM) (h1 : a1 = oM) (ha0 : a0.IsWhole) (ha1 : a1.IsWhole) :
    cc0_body (F := F) a0 ha0 a1 ha1 bM (Memref.isWhole_whole _) gM (Memref.isWhole_whole _) aM (Memref.isWhole_whole _) cc0_scratch3 cc0_scratch4 cc0_scratch5 cc0_scratch6 cc0_scratch7 cc0_scratch8
      = cc0_body xM (Memref.isWhole_whole _) oM (Memref.isWhole_whole _) bM (Memref.isWhole_whole _) gM (Memref.isWhole_whole _) aM (Memref.isWhole_whole _) cc0_scratch3 cc0_scratch4 cc0_scratch5 cc0_scratch6 cc0_scratch7 cc0_scratch8 := by
  subst h0; subst h1; rfl
/-- The body at the one grid point, as loops. -/
theorem body_at : bodyAt0 (F := F) t₀
    = cc0_body xM (Memref.isWhole_whole _) oM (Memref.isWhole_whole _) bM (Memref.isWhole_whole _) gM (Memref.isWhole_whole _) aM (Memref.isWhole_whole _) cc0_scratch3 cc0_scratch4 cc0_scratch5 cc0_scratch6 cc0_scratch7 cc0_scratch8 :=
  body_at_of _ _ rfl rfl _ _

/-- A call of the body at the one grid point is the body as loops. -/
theorem body_call : defs₀ (F := F) Proc.tc 0 (t₀, cfg0.slots t₀)
    = cc0_body xM (Memref.isWhole_whole _) oM (Memref.isWhole_whole _) bM (Memref.isWhole_whole _) gM (Memref.isWhole_whole _) aM (Memref.isWhole_whole _) cc0_scratch3 cc0_scratch4 cc0_scratch5 cc0_scratch6 cc0_scratch7 cc0_scratch8 :=
  Eq.trans (by unfold defs₀; rfl) body_at

/-- The library's body obligation. -/
theorem body_obligation (c : Dev nD) : BodyObligation (dats (F := F) m ρ 0 c) (defs₀ (F := F)) 𝒱₀ () Set.univ := fun t => by
  rw [fin_N t]
  rw [bigSep_W, bigSep_W]
  simp only [owns_whole_eq]
  have h := sound_body m ρ c
  rw [body_call, after_0, after_1]
  unfold bodyPost bodyPre runs stg at h
  rw [show (dats m ρ 0 c).Φ t₀.castSucc = Φ₀ m ρ c from rfl, show (dats m ρ 0 c).Φ t₀.succ = Φ₁ c from rfl]
  with_reducible exact h

/-- Every window is held whole. -/
theorem share_eq (c : Dev nD) (w : Fin cfg0.W) : (dats m ρ 0 c).share w = fullShare := by unfold Dat.share; split <;> rfl

/-! ## The ghost state -/

/-- The ghost state at launch. -/
def u₀ : UU := (initOf (Pipeline.cells cfgs cellOf_inj) (Pipeline.launchToks cfgs cellOf_inj), initOf allCells allToks)

/-- What the launch element deals device `c`. -/
def G (c : Dev nD) : sProp 𝕄 :=
  iprop((bigSep Finset.univ fun i : CI => roundState ER (rd (xstg m ρ)) (kcell (c, i)) 0)
    ∗ ((bigSep Finset.univ fun i : CI => atPos ER (kcell (c, i)) 0 ∅ 0) ∗ bigSep Finset.univ fun i : CI => reached ER (kcell (c, i)) 0) ∗ toksOf c)

/-- All devices' records under the names `K`, but for the levels. -/
def marks (K : Dev nD × CI → ℕ) : sProp 𝕄 :=
  iprop((bigSep Finset.univ fun ci : Dev nD × CI => cellInv ER (rd (xstg m ρ)) (K ci) (kcell ci)) ∗ bigSep Finset.univ fun ci : Dev nD × CI => reached ER (kcell ci) 0)
instance marks_persistent (K : Dev nD × CI → ℕ) : BI.Persistent (marks m ρ K) := by unfold marks; infer_instance

/-- What the global step makes of it. -/
def G' (c : Dev nD) : sProp 𝕄 := iprop((∃ K, marks m ρ K) ∗ (bigSep Finset.univ fun i => pos (F := F) (c, i)) ∗ toksOf c)

omit [FloatOps F] in
/-- A product over all semaphores, by device. -/
theorem cells_split (Φ : GSem nD τ sig → sProp 𝕄) : bigSep allCells Φ = bigSep Finset.univ fun c : Dev nD => bigSep Finset.univ fun i : CI => Φ (kcell (c, i)) := by
  unfold allCells; rw [bigSep_map, bigSep_univ_prod]; rfl

omit [FloatOps F] in
/-- The duties' tokens, by the device that pays. -/
theorem toks_split : bigSep allToks (fun x => (dutyTok ER x.1 x.2.1 x.2.2 : sProp 𝕄)) ⊢ bigSep Finset.univ fun c : Dev nD => toksOf c := by
  unfold allToks; rw [bigSep_map, bigSep_univ_prod]
  exact bigSep_mono fun c _ => toks_of c

/-- The ghost state at launch gives every device its part. -/
theorem fund : BI.own (ER (initOf allCells allToks)) ⊢ (|==> bigSep Finset.univ (G m ρ) : sProp 𝕄) := by
  iintro HX
  imod (Rounds.fund ER (rd (xstg m ρ)) allCells allToks) $$ HX with ⟨Hst, Hr, Hat, Htok⟩
  imodintro
  ihave Hst' := (Entails.of_eq (cells_split fun g => roundState ER (rd (xstg m ρ)) g 0)) $$ Hst
  ihave Hat' := (Entails.of_eq (cells_split fun g => atPos ER g 0 ∅ 0)) $$ Hat
  ihave Hr' := (Entails.of_eq (cells_split fun g => reached ER g 0)) $$ Hr
  ihave Htok' := (toks_split (F := F)) $$ Htok
  unfold G; rw [sep_both, sep_both, sep_both]
  isplitl [Hst']; · iexact Hst'
  isplitl [Hat' Hr']
  · isplitl [Hat'] <;> iassumption
  iexact Htok'

/-- On each device the semaphores' invariants are allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (rd (xstg m ρ)) κ (kcell (c, i))))
          ∗ ((bigSep Finset.univ fun i : CI => atPos ER (kcell (c, i)) 0 ∅ 0) ∗ bigSep Finset.univ fun i : CI => reached ER (kcell (c, i)) 0) ∗ toksOf c) := by
  unfold G
  iintro ⟨Hos, Hus, Hst, Hat, Htok⟩
  ihave Hv := (Entails.of_eq (sems0_eq (F := F) c).symm) $$ [Hos Hus]
  · isplitl [Hos] <;> iassumption
  imod (show iprop((bigSep Finset.univ fun i : CI => semVal (kcell (c, i)) 0) ∗ bigSep Finset.univ fun i : CI => roundState ER (rd (xstg m ρ)) (kcell (c, i)) 0)
      ⊢ (|={Set.univ}=> bigSep Finset.univ fun i => iprop(∃ κ : ℕ, cellInv ER (rd (xstg m ρ)) κ (kcell (c, i))) : sProp 𝕄) from by
        rw [← sep_both]
        exact (bigSep_mono fun i _ => (Rounds.body_intro ER (rd (xstg m ρ)) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A fact that may be copied goes to every member of a product. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← sep_both]; exact bigSep_mono h)

/-- What the launch hands out makes every device's start. -/
theorem regroup :
    (bigSep Finset.univ fun c : Dev nD => iprop((bigSep Finset.univ fun i : CI => iprop(∃ κ : ℕ, cellInv ER (rd (xstg m ρ)) κ (kcell (c, i))))
          ∗ ((bigSep Finset.univ fun i : CI => atPos ER (kcell (c, i)) 0 ∅ 0) ∗ bigSep Finset.univ fun i : CI => reached ER (kcell (c, i)) 0) ∗ toksOf c) : sProp 𝕄)
      ⊢ bigSep Finset.univ (G' m ρ) := by
  rw [sep_both, sep_both, sep_both, ← bigSep_univ_prod (fun ci : Dev nD × CI => iprop(∃ κ : ℕ, cellInv ER (rd (xstg m ρ)) κ (kcell ci))),
    ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (rd (xstg m ρ)) κ (kcell ci) : sProp 𝕄))) $$ HI
  icases HK with ⟨%K, #HI⟩
  have h (c : Dev nD) : iprop(marks m ρ K ∗ ((bigSep Finset.univ fun i => pos (F := F) (c, i)) ∗ toksOf c)) ⊢ G' m ρ c := by
    unfold G'
    iintro ⟨#HM, H⟩
    isplitr; · iexists K; iexact HM
    iexact H
  iapply (bigSep_with (R := marks m ρ K) fun c _ => h c)
  isplitr
  · unfold marks; isplitl; · iexact HI
    iexact HR
  · rw [sep_both]
    isplitl [Hat]; · unfold pos; iexact Hat
    iexact Htok

/-- The global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [creds]
  unfold start G'
  iintro ⟨-, Hlev, Hcr, -, ⟨%K, HM⟩, Hpos, Htok⟩
  imodintro
  isplitl
  · isplitl [Hlev HM]
    · iexists K
      unfold recs marks
      icases HM with ⟨HI, HRe⟩
      isplitl [HI]; · iexact HI
      isplitl [HRe] <;> iassumption
    isplitl [Hpos]; · iexact Hpos
    isplitl [Htok] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr bWhole gWhole aWhole
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr bWhole gWhole aWhole
  iintro ⟨Hr, Hz⟩
  ihave Hz := (Entails.of_eq (sems0_eq (F := F) c)) $$ [Hz]
  · unfold zero; iexact Hz
  icases Hz with ⟨Ho, Hu⟩
  isplitl [Hu]; · iexact Hu
  isplitl [Ho]; · iexact Ho
  iexact Hr

/-- The waits of the pipeline's own semaphores are allowed. -/
theorem waits (c : Dev nD) : (levAts L lv : sProp 𝕄) ⊢ Pipeline.cellsWaits cfgs (dats m ρ) () 0 c :=
  Pipeline.cellsWaits_intro cfgs (dats m ρ) () 0 c fun w s t =>
    mayWait_above c _ 0 _ (by rw [lv_stage w s c]) (by
      rcases t with ⟨_ | _, ht⟩
      · exact above_O₀ c
      · exact above_zero 0)

/-! ## The run -/

/-- The arrays' contents after the run. -/
def finalA (c : Dev nD) (w : Fin cfg0.W) : Buf (Elt F) ((cfg0.win w).arr.view.loc (c : Thread nD τ)) := (dats m ρ 0 c).arrAt w cfg0.N

/-- What the run ends with: on every device each array at `finalA`. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters, every weakly fair execution of the kernel on the 32
    devices ends, nothing faulting; then each device's arrays hold the computed contents and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Launch

end Cert.AllReduce

end
-- ==== Proof.Frames.lean ====
/-
# The frames

Each program ends with its argument arrays unchanged and every semaphore at zero: the kernel as printed and the
idealized one by the one run, stated for any float values; the reference by the run of its host operations.
-/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384

noncomputable section

namespace Cert.AllReduce

open Idealize.ShloMosaic Idealize.SL.Sem

/-- The idealized kernel ends, its argument unchanged and every semaphore at zero. -/
theorem frame_ideal : Cert.quiescent_KernelIdeal := fun m ρ _ =>
  (θ_run Cert.KernelIdeal.defs _ _).mono (fun _ h => ⟨fun c => (h.1 c (0 : Fin 2)).trans (finalA_x m ρ c), h.2⟩)
    (run_main (F := Ideal) m ρ)

/-- The printed kernel's body is the idealized one's text. -/
theorem body_same : Cert.Kernel.cc0_body (F := Bits) = Cert.KernelIdeal.cc0_body (F := Bits) := rfl

/-- So the tables of the kernels' bodies agree. -/
theorem bodies_same : Cert.Kernel.defs₀ (F := Bits) = Cert.KernelIdeal.defs₀ (F := Bits) := by
  unfold Cert.Kernel.defs₀ Cert.KernelIdeal.defs₀
  refine congrArg Defs.onTc ?_
  funext ℓ a
  match ℓ, a with
  | 0, (t, s) => dsimp only; rw [body_same]

/-- And with them the programs' tables. -/
theorem tables_same : Cert.Kernel.defs (F := Bits) = Cert.KernelIdeal.defs (F := Bits) := by
  unfold Cert.Kernel.defs Cert.KernelIdeal.defs
  rw [bodies_same]
  rfl

/-- The kernel as printed ends, its argument unchanged and every semaphore at zero. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
    (θ_run Cert.KernelIdeal.defs _ _).mono (fun _ h => ⟨fun c => (h.1 c (0 : Fin 2)).trans (finalA_x m ρ c), h.2⟩)
      (run_main (F := Bits) m ρ)
  rw [tables_same]
  exact h

/-- The reference ends, its argument unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.AllReduce

end
-- ==== Proof.Value.lean ====
/-
# The value

Over the extended reals a change of format changes nothing, so every element of the result is the sum over the devices
of that element of their blocks of `x`; and that is what the reference computes of the whole array.
-/
module

public import proofs.«01_k».proof.Proof.Frames
public import Idealize.ShloMosaic.Lib.Pointwise.Reduce
public import Idealize.ShloMosaic.Lib.Pointwise.Reshape
public import Idealize.ShloMosaic.Lib.IdealHost
public import Idealize.ShloMosaic.PureOps.Ideal.Laws

@[expose] public section

set_option maxRecDepth 16384

noncomputable section

namespace Cert.AllReduce

open Cert.KernelIdeal Cert.KernelIdeal.Gen
open Idealize.ShloMosaic hiding ix2 ix3
open Idealize.ShloMosaic.TcCoe Idealize.SL.Sem
open Idealize.ShloMosaic.ValueIdx

section Sums

variable (X : Dev nD → Vec Ideal S1024x512 .f32)

/-- The sum over the devices, element by element. -/
def tot (i : S1024x512.Idx) : EReal := ∑ d : Dev nD, X d i

/-- Rounding a block changes nothing. -/
theorem xbF_at (c : Dev nD) (i : S1024x512.Idx) : xbF X c i = X c i := by
  unfold xbF k0_pay2 k0_pay1
  simp only [shapeCast_id]
  rfl

/-- The gathered slots with the own one left out. -/
theorem pay4_at (c : Dev nD) (v : Vec Ideal S32x16x512 .bf16) (i : S32x16x512.Idx) :
    k0_pay4 (myWord c) v i = if (i 0).val = c.val then (0 : EReal) else v i := by
  have hb : cmpi .eq (iota .tc S32x16x512 32 [0] iota_S32x16x512_d0_w32) (broadcast S32x16x512 (myWord c)) i
      = BitVec.ofBool (decide ((i 0).val = c.val)) := by
    show BitVec.ofBool (decide (BitVec.ofNat 32 (0 * 32 + (i 0).val) = myWord c)) = _
    have h0 : (i 0).val < 32 := (i 0).isLt
    have hc : c.val < 32 := c.isLt
    refine congrArg BitVec.ofBool (decide_eq_decide.mpr ?_)
    rw [Nat.zero_mul, Nat.zero_add, myWord_eq]
    constructor
    · intro h
      have := congrArg BitVec.toNat h
      simp only [BitVec.toNat_ofNat] at this
      omega
    · intro h; rw [h]
  show (if cmpi .eq (iota .tc S32x16x512 32 [0] iota_S32x16x512_d0_w32) (broadcast S32x16x512 (myWord c)) i = 1#1
    then Ideal.ofBits .f32 0x00000000#32 else v i) = _
  rw [hb, Ideal.ofBits_zero_f32]
  by_cases h : (i 0).val = c.val <;> simp [h]

/-- One entry left out of a sum and added again. -/
theorem sum_without (c : Dev nD) (f : Dev nD → EReal) : (∑ k : Dev nD, if k.val = c.val then (0 : EReal) else f k) + f c = ∑ k, f k := by
  rw [← Finset.sum_erase_add _ _ (Finset.mem_univ c), ← Finset.sum_erase_add Finset.univ f (Finset.mem_univ c), if_pos rfl, add_zero]
  refine congrArg (· + f c) (Finset.sum_congr rfl fun k hk => if_neg fun h => (Finset.mem_erase.mp hk).1 (Fin.ext h))

/-- Row `a` of the sums of device `c` in wave `w`. -/
theorem row_lt (c : Dev nD) (w : Fin 2) (a : Fin 16) : 32 * c.val + 16 * w.val + a.val < 1024 := by
  have h : c.val < 32 := c.isLt
  have := w.isLt; have := a.isLt; omega

/-- The gathered slots hold the devices' rows. -/
theorem gat_at (c : Dev nD) (w : Fin 2) (k : Fin 32) (a : Fin 16) (b : Fin 512) :
    gatW (gatF X c) w (ix3 k a b) = X k (ix2 ⟨32 * c.val + 16 * w.val + a.val, row_lt c w a⟩ b) := by
  show gatF X c ((Rect.unit (s := S32x32x512) (gatO w) S32x16x512.size (gatO_inb w)).emb (ix3 k a b)) = _
  unfold gatF
  rw [xbF_at]
  have hg : ∀ d, gatO w d = (![0, 16 * w.val, 0] : Fin 3 → Nat) d := fun d => congrFun (gatO_eq w) d
  refine congr (congrArg X (Fin.ext ?_)) (funext fun d => ?_)
  · show gatO w 0 + 1 * k.val = k.val
    rw [hg]; show 0 + 1 * k.val = k.val; omega
  · match d with
    | ⟨0, _⟩ =>
      refine Fin.ext ?_
      show 32 * c.val + (gatO w 1 + 1 * a.val) = 32 * c.val + 16 * w.val + a.val
      rw [hg]; show 32 * c.val + (16 * w.val + 1 * a.val) = _; omega
    | ⟨1, _⟩ =>
      refine Fin.ext ?_
      show gatO w 2 + 1 * b.val = b.val
      rw [hg]; show 0 + 1 * b.val = b.val; omega

/-- The own rows. -/
theorem xrow_at (c : Dev nD) (w : Fin 2) (a : Fin 16) (b : Fin 512) :
    xrow X c w (ix2 a b) = X c (ix2 ⟨32 * c.val + 16 * w.val + a.val, row_lt c w a⟩ b) := by
  show X c ((myRect c w).emb (ix2 a b)) = _
  refine congrArg (X c) (funext fun d => ?_)
  match d with
  | ⟨0, _⟩ =>
    refine Fin.ext ?_
    show k0_off13 c (BitVec.ofNat 32 (16 * w.val)) 0 + 1 * a.val = 32 * c.val + 16 * w.val + a.val
    rw [off13_eq]; show 32 * c.val + 16 * w.val + 1 * a.val = _; omega
  | ⟨1, _⟩ =>
    refine Fin.ext ?_
    show k0_off13 c (BitVec.ofNat 32 (16 * w.val)) 1 + 1 * b.val = b.val
    rw [off13_eq]; show 0 + 1 * b.val = _; omega

/-- Device `c`'s sums in wave `w` are the sums over all devices. -/
theorem red_at (c : Dev nD) (w : Fin 2) (a : Fin 16) (b : Fin 512) :
    red X c w (ix2 a b) = tot X (ix2 ⟨32 * c.val + 16 * w.val + a.val, row_lt c w a⟩ b) := by
  unfold red redOf k0_pay5 k0_pay3
  simp only [shapeCast_id]
  show Ideal.reduceAdd reduces_S32x16x512_S16x512 (k0_pay4 (myWord c) (gatW (gatF X c) w)) (ix2 a b) + xrow X c w (ix2 a b) = _
  rw [Ideal.reduceAdd_r3_a0, xrow_at]
  refine Eq.trans (congrArg (· + _) (Finset.sum_congr rfl fun k _ => ?_)) (sum_without c fun d => X d (ix2 ⟨32 * c.val + 16 * w.val + a.val, row_lt c w a⟩ b))
  rw [pay4_at]
  show (if k.val = c.val then (0 : EReal) else gatW (gatF X c) w (ix3 k a b)) = _
  rw [gat_at]

/-- Over the reals the rounded sum is the sum. -/
theorem red16_at (c : Dev nD) (w : Fin 2) (j : S16x512.Idx) : red16 X c w j = red X c w j := by
  unfold red16 red redOf16 redOf k0_pay6
  simp only [shapeCast_id]
  rfl

/-- The rounded result holds the sums. -/
theorem agF_at (i : S1024x512.Idx) : agF X i = tot X i := by
  unfold agF
  rw [red16_at, red_at]
  refine congrArg (tot X) (funext fun d => ?_)
  match d with
  | ⟨0, _⟩ => exact Fin.ext (by show 32 * ((i 0).val / 32) + 16 * ((i 0).val % 32 / 16) + (i 0).val % 16 = (i 0).val; omega)
  | ⟨1, _⟩ => rfl

/-- Storing the own sums over contents that hold the sums leaves the sums. -/
theorem store_at (c : Dev nD) (w : Fin 2) (f : Vec Ideal S1024x512 .f32) (h : ∀ i, f i = tot X i) (i : S1024x512.Idx) :
    (oM.access (myRect c w)).write (Elt Ideal) f (red X c w) Finset.univ i = tot X i := by
  by_cases hi : i ∈ (oM.access (myRect c w)).set
  · obtain ⟨j, -, rfl⟩ := Finset.mem_map.mp hi
    rw [View.write_emb_of_mem _ _ (Finset.mem_univ _)]
    obtain ⟨a, b, rfl⟩ : ∃ (a : Fin 16) (b : Fin 512), j = ix2 a b := ⟨_, _, ValueIdx.eq_ix2 j⟩
    show red X c w (ix2 a b) = _
    rw [red_at]
    refine congrArg (tot X) (funext fun d => ?_)
    match d with
    | ⟨0, _⟩ =>
      refine Fin.ext ?_
      show 32 * c.val + 16 * w.val + a.val = k0_off13 c (BitVec.ofNat 32 (16 * w.val)) 0 + 1 * a.val
      rw [off13_eq]; show _ = 32 * c.val + 16 * w.val + 1 * a.val; omega
    | ⟨1, _⟩ =>
      refine Fin.ext ?_
      show b.val = k0_off13 c (BitVec.ofNat 32 (16 * w.val)) 1 + 1 * b.val
      rw [off13_eq]; show _ = 0 + 1 * b.val; omega
  · refine (View.write_of_not_mem _ _ _ ?_).trans (h i)
    exact hi

/-- The result on every device is the sum over the devices. -/
theorem outF_at (c : Dev nD) : outF X c = tot X := by
  funext i
  unfold outF
  refine store_at X c 1 _ (fun i => store_at X c 0 _ (fun i => ?_) i) i
  exact agF_at X i

end Sums

/-! ## The reference -/

/-- A block's row is a row of the whole array. -/
theorem whole_lt (d : Fin 32) (r : Fin 1024) : 1024 * d.val + r.val < 32768 := by
  have := d.isLt; have := r.isLt; omega

/-- The reference's result: for every row and column the sum over the blocks. -/
theorem ref_at (x : Vec Ideal Cert.ReferenceIdeal.S32768x512 .f32)
    (h : Cert.ReferenceIdeal.S32768x512.ShapeCasts Cert.ReferenceIdeal.S32x1024x512)
    (h' : Cert.ReferenceIdeal.S32x1024x512.ReducesTo [0] Cert.ReferenceIdeal.S1024x512) (hu : 0 < Cert.ReferenceIdeal.S_.numel)
    (r : Fin 1024) (q : Fin 512) :
    Host.reduceAdd (F := Ideal) (φ := .f32) (shapeCast Cert.ReferenceIdeal.S32x1024x512 x h) (constant Cert.ReferenceIdeal.S_ .f32 0x00000000#32) h' hu (ix2 r q)
      = ∑ d : Fin 32, x (ix2 ⟨1024 * d.val + r.val, whole_lt d r⟩ q) := by
  show Ideal.hostReduceAdd h' (shapeCast Cert.ReferenceIdeal.S32x1024x512 x h) (Ideal.ofBits .f32 0x00000000#32) (ix2 r q) = _
  rw [Ideal.hostReduceAdd_r3_a0, Ideal.ofBits_zero_f32, zero_add]
  refine Finset.sum_congr rfl fun d _ => ?_
  refine shapeCast_apply x h _ _ ?_
  rw [rowMajor_val2 _ 512 rfl, rowMajor_val3 _ 524288 512 rfl rfl]
  show (1024 * d.val + r.val) * 512 + q.val = d.val * 524288 + r.val * 512 + q.val
  omega

/-- Every device's result is the reference's, when the devices' blocks are the blocks of the whole array. -/
theorem value_eq (x : Vec Ideal Cert.ReferenceIdeal.S32768x512 .f32) (X : Dev nD → Vec Ideal S1024x512 .f32)
    (hX : ∀ c, X c = Layout.block ⟨2, ![1024, 512]⟩ ⟨2, ![32768, 512]⟩ 0 32 c x)
    (h : Cert.ReferenceIdeal.S32768x512.ShapeCasts Cert.ReferenceIdeal.S32x1024x512)
    (h' : Cert.ReferenceIdeal.S32x1024x512.ReducesTo [0] Cert.ReferenceIdeal.S1024x512) (hu : 0 < Cert.ReferenceIdeal.S_.numel) (c : Dev nD) :
    outF X c = Host.reduceAdd (F := Ideal) (φ := .f32) (shapeCast Cert.ReferenceIdeal.S32x1024x512 x h) (constant Cert.ReferenceIdeal.S_ .f32 0x00000000#32) h' hu := by
  rw [outF_at]
  funext i
  obtain ⟨r, q, rfl⟩ : ∃ (r : Fin 1024) (q : Fin 512), i = ix2 r q := ⟨_, _, ValueIdx.eq_ix2 i⟩
  rw [ref_at]
  refine Finset.sum_congr rfl fun d _ => ?_
  rw [hX]
  refine congrArg x (funext fun a => ?_)
  match a with
  | ⟨0, _⟩ => exact Fin.ext (by show d.val * 1024 + r.val = 1024 * d.val + r.val; omega)
  | ⟨1, _⟩ => rfl

/-! ## The claim -/

section Claim

variable (m : (ℓ : Loc nD τ sig) → Buf (Elt Ideal) ℓ) (ρ : Dev nD → PrngReg)

/-- The result array's one block, the whole of it, holds after the run what the body left staged. -/
theorem finalA_o (c : Dev nD) :
    (win0_1.blk (0 : Fin 1)).view.read (Elt Ideal) (finalA m ρ c (1 : Fin 2)) = outF (xstg m ρ) c := by
  unfold finalA
  rw [show cfg0.N = t₀.val + 1 from rfl, (dats m ρ 0 c).arrAt_succ (1 : Fin 2) t₀]
  rw [show (cfg0.win (1 : Fin 2)).flush t₀ = true from by decide, if_pos rfl]
  refine Eq.trans ?_ (after_1 m ρ c)
  exact View.read_write_univ _ _

/-- So it is `outF` of the blocks of `x`. -/
theorem result_eq (c : Dev nD) : finalA m ρ c (1 : Fin 2) = outF (fun c => m ((c : Thread nD τ).loc main_arg0)) c := by
  have hz : (fun a => (win0_1.index (0 : Fin 1)) a * main_v1.ty.shape.size a) = fun _ => 0 := funext fun a => by fin_cases a <;> decide
  have hr := fun f => Memref.read_access_unit_zero (Elt Ideal) main_v1 hz (fun a => by fin_cases a <;> decide) f
  have hz0 : (fun a => (win0_0.index (0 : Fin 1)) a * main_arg0.ty.shape.size a) = fun _ => 0 := funext fun a => by fin_cases a <;> decide
  have hr0 := fun f => Memref.read_access_unit_zero (Elt Ideal) main_arg0 hz0 (fun a => by fin_cases a <;> decide) f
  have hx : xstg m ρ = fun c : Dev nD => m ((c : Thread nD τ).loc main_arg0) := by
    funext c; unfold xstg s₀; exact hr0 _
  rw [← hx]
  exact (hr _).symm.trans (finalA_o m ρ c)

end Claim

/-- The kernel computes on every device what the reference computes of the whole array. -/
theorem value_kernel : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run defs _ _).mono (fun _ h c => ⟨(h.1 c (1 : Fin 2)).trans ?_, (h.1 c (0 : Fin 2)).trans (finalA_x m ρ c)⟩) (run_main (F := Ideal) m ρ)
  exact (result_eq m ρ c).trans (value_eq _ _ hagree _ _ _ c)

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims: the three frames, the ideal program against the traced one, and its value against the reference's. -/
theorem claim : Cert.Claim :=
  ⟨Cert.Kernel.Gen.facts, Cert.KernelIdeal.Gen.facts, Cert.ReferenceIdeal.Gen.facts,
    Cert.AllReduce.frame_kernel, Cert.AllReduce.frame_ideal, Cert.AllReduce.frame_reference, trivial, Cert.AllReduce.value_kernel⟩

end Cert.Proof

end
